-- ==== Defs.lean ====
def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Join (m : (ℓ : Loc Cert.Join.nD Cert.Join.τ Cert.Join.sig) → Buf (Elt Bits) ℓ) : Prop :=
  True

def Pre_JoinIdeal (m : (ℓ : Loc Cert.JoinIdeal.nD Cert.JoinIdeal.τ Cert.JoinIdeal.sig) → Buf (Elt Ideal) ℓ) : Prop :=
  True

def Pre_JoinRefIdeal (m : (ℓ : Loc Cert.JoinRefIdeal.nD Cert.JoinRefIdeal.τ Cert.JoinRefIdeal.sig) → Buf (Elt Ideal) ℓ) : Prop :=
  True

def Pre_JoinRef (m : (ℓ : Loc Cert.JoinRef.nD Cert.JoinRef.τ Cert.JoinRef.sig) → Buf (Elt Bits) ℓ) : Prop :=
  True

def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInRefIdeal (m : (ℓ : Loc Cert.UpdateInRefIdeal.nD Cert.UpdateInRefIdeal.τ Cert.UpdateInRefIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutRefIdeal (m : (ℓ : Loc Cert.UpdateOutRefIdeal.nD Cert.UpdateOutRefIdeal.τ Cert.UpdateOutRefIdeal.sig) → Buf (Elt Ideal) ℓ) : Prop :=
  True

def Pre_UpdateMlp (m : (ℓ : Loc Cert.UpdateMlp.nD Cert.UpdateMlp.τ Cert.UpdateMlp.sig) → Buf (Elt Bits) ℓ) : Prop :=
  True

def Pre_UpdateMlpIdeal (m : (ℓ : Loc Cert.UpdateMlpIdeal.nD Cert.UpdateMlpIdeal.τ Cert.UpdateMlpIdeal.sig) → Buf (Elt Ideal) ℓ) : Prop :=
  True

def Pre_UpdateMlpRefIdeal (m : (ℓ : Loc Cert.UpdateMlpRefIdeal.nD Cert.UpdateMlpRefIdeal.τ Cert.UpdateMlpRefIdeal.sig) → Buf (Elt Ideal) ℓ) : Prop :=
  True

def Pre_UpdateNorm (m : (ℓ : Loc Cert.UpdateNorm.nD Cert.UpdateNorm.τ Cert.UpdateNorm.sig) → Buf (Elt Bits) ℓ) : Prop :=
  True

def Pre_UpdateNormIdeal (m : (ℓ : Loc Cert.UpdateNormIdeal.nD Cert.UpdateNormIdeal.τ Cert.UpdateNormIdeal.sig) → Buf (Elt Ideal) ℓ) : Prop :=
  True

def Pre_UpdateNormRefIdeal (m : (ℓ : Loc Cert.UpdateNormRefIdeal.nD Cert.UpdateNormRefIdeal.τ Cert.UpdateNormRefIdeal.sig) → Buf (Elt Ideal) ℓ) : Prop :=
  True

def Pre_UpdateLb (m : (ℓ : Loc Cert.UpdateLb.nD Cert.UpdateLb.τ Cert.UpdateLb.sig) → Buf (Elt Bits) ℓ) : Prop :=
  True

def Pre_UpdateLbIdeal (m : (ℓ : Loc Cert.UpdateLbIdeal.nD Cert.UpdateLbIdeal.τ Cert.UpdateLbIdeal.sig) → Buf (Elt Ideal) ℓ) : Prop :=
  True

def Pre_UpdateLbRefIdeal (m : (ℓ : Loc Cert.UpdateLbRefIdeal.nD Cert.UpdateLbRefIdeal.τ Cert.UpdateLbRefIdeal.sig) → Buf (Elt Ideal) ℓ) : Prop :=
  True

def Pre_UpdateHead (m : (ℓ : Loc Cert.UpdateHead.nD Cert.UpdateHead.τ Cert.UpdateHead.sig) → Buf (Elt Bits) ℓ) : Prop :=
  True

def Pre_UpdateHeadIdeal (m : (ℓ : Loc Cert.UpdateHeadIdeal.nD Cert.UpdateHeadIdeal.τ Cert.UpdateHeadIdeal.sig) → Buf (Elt Ideal) ℓ) : Prop :=
  True

def Pre_UpdateHeadRefIdeal (m : (ℓ : Loc Cert.UpdateHeadRefIdeal.nD Cert.UpdateHeadRefIdeal.τ Cert.UpdateHeadRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumMlp (m : (ℓ : Loc Cert.SumMlp.nD Cert.SumMlp.τ Cert.SumMlp.sig) → Buf (Elt Bits) ℓ) : Prop :=
  True

def Pre_SumMlpIdeal (m : (ℓ : Loc Cert.SumMlpIdeal.nD Cert.SumMlpIdeal.τ Cert.SumMlpIdeal.sig) → Buf (Elt Ideal) ℓ) : Prop :=
  True

def Pre_SumMlpRefIdeal (m : (ℓ : Loc Cert.SumMlpRefIdeal.nD Cert.SumMlpRefIdeal.τ Cert.SumMlpRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_MlpDownBack (m : (ℓ : Loc Cert.MlpDownBack.nD Cert.MlpDownBack.τ Cert.MlpDownBack.sig) → Buf (Elt Bits) ℓ) : Prop :=
  True

def Pre_MlpDownBackIdeal (m : (ℓ : Loc Cert.MlpDownBackIdeal.nD Cert.MlpDownBackIdeal.τ Cert.MlpDownBackIdeal.sig) → Buf (Elt Ideal) ℓ) : Prop :=
  True

def Pre_MlpDownBackRefIdeal (m : (ℓ : Loc Cert.MlpDownBackRefIdeal.nD Cert.MlpDownBackRefIdeal.τ Cert.MlpDownBackRefIdeal.sig) → Buf (Elt Ideal) ℓ) : Prop :=
  True

def Pre_MlpUpBack (m : (ℓ : Loc Cert.MlpUpBack.nD Cert.MlpUpBack.τ Cert.MlpUpBack.sig) → Buf (Elt Bits) ℓ) : Prop :=
  True

def Pre_MlpUpBackIdeal (m : (ℓ : Loc Cert.MlpUpBackIdeal.nD Cert.MlpUpBackIdeal.τ Cert.MlpUpBackIdeal.sig) → Buf (Elt Ideal) ℓ) : Prop :=
  True

def Pre_MlpUpBackRefIdeal (m : (ℓ : Loc Cert.MlpUpBackRefIdeal.nD Cert.MlpUpBackRefIdeal.τ Cert.MlpUpBackRefIdeal.sig) → Buf (Elt Ideal) ℓ) : Prop :=
  True

def Pre_ProjInBack (m : (ℓ : Loc Cert.ProjInBack.nD Cert.ProjInBack.τ Cert.ProjInBack.sig) → Buf (Elt Bits) ℓ) : Prop :=
  True

def Pre_ProjInBackIdeal (m : (ℓ : Loc Cert.ProjInBackIdeal.nD Cert.ProjInBackIdeal.τ Cert.ProjInBackIdeal.sig) → Buf (Elt Ideal) ℓ) : Prop :=
  True

def Pre_ProjInBackRefIdeal (m : (ℓ : Loc Cert.ProjInBackRefIdeal.nD Cert.ProjInBackRefIdeal.τ Cert.ProjInBackRefIdeal.sig) → Buf (Elt Ideal) ℓ) : Prop :=
  True

def Pre_ProjOutBack (m : (ℓ : Loc Cert.ProjOutBack.nD Cert.ProjOutBack.τ Cert.ProjOutBack.sig) → Buf (Elt Bits) ℓ) : Prop :=
  True

def Pre_ProjOutBackIdeal (m : (ℓ : Loc Cert.ProjOutBackIdeal.nD Cert.ProjOutBackIdeal.τ Cert.ProjOutBackIdeal.sig) → Buf (Elt Ideal) ℓ) : Prop :=
  True

def Pre_ProjOutBackRefIdeal (m : (ℓ : Loc Cert.ProjOutBackRefIdeal.nD Cert.ProjOutBackRefIdeal.τ Cert.ProjOutBackRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutRefIdeal (m : (ℓ : Loc Cert.GradOutRefIdeal.nD Cert.GradOutRefIdeal.τ Cert.GradOutRefIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownRefIdeal (m : (ℓ : Loc Cert.GradDownRefIdeal.nD Cert.GradDownRefIdeal.τ Cert.GradDownRefIdeal.sig) → Buf (Elt Ideal) ℓ) : Prop :=
  True

def Pre_MlpNormBack (m : (ℓ : Loc Cert.MlpNormBack.nD Cert.MlpNormBack.τ Cert.MlpNormBack.sig) → Buf (Elt Bits) ℓ) : Prop :=
  True

def Pre_MlpNormBackIdeal (m : (ℓ : Loc Cert.MlpNormBackIdeal.nD Cert.MlpNormBackIdeal.τ Cert.MlpNormBackIdeal.sig) → Buf (Elt Ideal) ℓ) : Prop :=
  True

def Pre_MlpNormBackRefIdeal (m : (ℓ : Loc Cert.MlpNormBackRefIdeal.nD Cert.MlpNormBackRefIdeal.τ Cert.MlpNormBackRefIdeal.sig) → Buf (Elt Ideal) ℓ) : Prop :=
  True

def Pre_CastIn (m : (ℓ : Loc Cert.CastIn.nD Cert.CastIn.τ Cert.CastIn.sig) → Buf (Elt Bits) ℓ) : Prop :=
  True

def Pre_CastInIdeal (m : (ℓ : Loc Cert.CastInIdeal.nD Cert.CastInIdeal.τ Cert.CastInIdeal.sig) → Buf (Elt Ideal) ℓ) : Prop :=
  True

def Pre_CastInRefIdeal (m : (ℓ : Loc Cert.CastInRefIdeal.nD Cert.CastInRefIdeal.τ Cert.CastInRefIdeal.sig) → Buf (Elt Ideal) ℓ) : Prop :=
  True

def Pre_CastOut (m : (ℓ : Loc Cert.CastOut.nD Cert.CastOut.τ Cert.CastOut.sig) → Buf (Elt Bits) ℓ) : Prop :=
  True

def Pre_CastOutIdeal (m : (ℓ : Loc Cert.CastOutIdeal.nD Cert.CastOutIdeal.τ Cert.CastOutIdeal.sig) → Buf (Elt Ideal) ℓ) : Prop :=
  True

def Pre_CastOutRefIdeal (m : (ℓ : Loc Cert.CastOutRefIdeal.nD Cert.CastOutRefIdeal.τ Cert.CastOutRefIdeal.sig) → Buf (Elt Ideal) ℓ) : Prop :=
  True

def Pre_CastMlp (m : (ℓ : Loc Cert.CastMlp.nD Cert.CastMlp.τ Cert.CastMlp.sig) → Buf (Elt Bits) ℓ) : Prop :=
  True

def Pre_CastMlpIdeal (m : (ℓ : Loc Cert.CastMlpIdeal.nD Cert.CastMlpIdeal.τ Cert.CastMlpIdeal.sig) → Buf (Elt Ideal) ℓ) : Prop :=
  True

def Pre_CastMlpRefIdeal (m : (ℓ : Loc Cert.CastMlpRefIdeal.nD Cert.CastMlpRefIdeal.τ Cert.CastMlpRefIdeal.sig) → Buf (Elt Ideal) ℓ) : Prop :=
  True

def Pre_HeadNormBack (m : (ℓ : Loc Cert.HeadNormBack.nD Cert.HeadNormBack.τ Cert.HeadNormBack.sig) → Buf (Elt Bits) ℓ) : Prop :=
  True

def Pre_HeadNormBackIdeal (m : (ℓ : Loc Cert.HeadNormBackIdeal.nD Cert.HeadNormBackIdeal.τ Cert.HeadNormBackIdeal.sig) → Buf (Elt Ideal) ℓ) : Prop :=
  True

def Pre_HeadNormBackRefIdeal (m : (ℓ : Loc Cert.HeadNormBackRefIdeal.nD Cert.HeadNormBackRefIdeal.τ Cert.HeadNormBackRefIdeal.sig) → Buf (Elt Ideal) ℓ) : Prop :=
  True

def Pre_GateNormBack (m : (ℓ : Loc Cert.GateNormBack.nD Cert.GateNormBack.τ Cert.GateNormBack.sig) → Buf (Elt Bits) ℓ) : Prop :=
  True

def Pre_GateNormBackIdeal (m : (ℓ : Loc Cert.GateNormBackIdeal.nD Cert.GateNormBackIdeal.τ Cert.GateNormBackIdeal.sig) → Buf (Elt Ideal) ℓ) : Prop :=
  True

def Pre_GateNormBackRefIdeal (m : (ℓ : Loc Cert.GateNormBackRefIdeal.nD Cert.GateNormBackRefIdeal.τ Cert.GateNormBackRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0)
      ∧ r.2.mem ((c.tc : Thread Cert.Swap.nD Cert.Swap.τ).loc Cert.Swap.main_arg1) = m ((c.tc : Thread Cert.Swap.nD Cert.Swap.τ).loc Cert.Swap.main_arg1)
      ∧ r.2.mem ((c.tc : Thread Cert.Swap.nD Cert.Swap.τ).loc Cert.Swap.main_arg2) = m ((c.tc : Thread Cert.Swap.nD Cert.Swap.τ).loc Cert.Swap.main_arg2)
      ∧ r.2.mem ((c.tc : Thread Cert.Swap.nD Cert.Swap.τ).loc Cert.Swap.main_arg3) = m ((c.tc : Thread Cert.Swap.nD Cert.Swap.τ).loc Cert.Swap.main_arg3))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
      ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
      ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
      ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0)
      ∧ r.2.mem ((c.tc : Thread Cert.SwapRefIdeal.nD Cert.SwapRefIdeal.τ).loc Cert.SwapRefIdeal.main_arg1) = m ((c.tc : Thread Cert.SwapRefIdeal.nD Cert.SwapRefIdeal.τ).loc Cert.SwapRefIdeal.main_arg1)
      ∧ r.2.mem ((c.tc : Thread Cert.SwapRefIdeal.nD Cert.SwapRefIdeal.τ).loc Cert.SwapRefIdeal.main_arg2) = m ((c.tc : Thread Cert.SwapRefIdeal.nD Cert.SwapRefIdeal.τ).loc Cert.SwapRefIdeal.main_arg2)
      ∧ r.2.mem ((c.tc : Thread Cert.SwapRefIdeal.nD Cert.SwapRefIdeal.τ).loc Cert.SwapRefIdeal.main_arg3) = m ((c.tc : Thread Cert.SwapRefIdeal.nD Cert.SwapRefIdeal.τ).loc Cert.SwapRefIdeal.main_arg3))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0)
      ∧ r.2.mem ((c.tc : Thread Cert.SwapRef.nD Cert.SwapRef.τ).loc Cert.SwapRef.main_arg1) = m ((c.tc : Thread Cert.SwapRef.nD Cert.SwapRef.τ).loc Cert.SwapRef.main_arg1)
      ∧ r.2.mem ((c.tc : Thread Cert.SwapRef.nD Cert.SwapRef.τ).loc Cert.SwapRef.main_arg2) = m ((c.tc : Thread Cert.SwapRef.nD Cert.SwapRef.τ).loc Cert.SwapRef.main_arg2)
      ∧ r.2.mem ((c.tc : Thread Cert.SwapRef.nD Cert.SwapRef.τ).loc Cert.SwapRef.main_arg3) = m ((c.tc : Thread Cert.SwapRef.nD Cert.SwapRef.τ).loc Cert.SwapRef.main_arg3))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0)
      ∧ r.2.mem ((c.tc : Thread Cert.Scatter.nD Cert.Scatter.τ).loc Cert.Scatter.main_arg1) = m ((c.tc : Thread Cert.Scatter.nD Cert.Scatter.τ).loc Cert.Scatter.main_arg1)
      ∧ r.2.mem ((c.tc : Thread Cert.Scatter.nD Cert.Scatter.τ).loc Cert.Scatter.main_arg2) = m ((c.tc : Thread Cert.Scatter.nD Cert.Scatter.τ).loc Cert.Scatter.main_arg2)
      ∧ r.2.mem ((c.tc : Thread Cert.Scatter.nD Cert.Scatter.τ).loc Cert.Scatter.main_arg3) = m ((c.tc : Thread Cert.Scatter.nD Cert.Scatter.τ).loc Cert.Scatter.main_arg3))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
      ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
      ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
      ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0)
      ∧ r.2.mem ((c.tc : Thread Cert.ScatterRefIdeal.nD Cert.ScatterRefIdeal.τ).loc Cert.ScatterRefIdeal.main_arg1) = m ((c.tc : Thread Cert.ScatterRefIdeal.nD Cert.ScatterRefIdeal.τ).loc Cert.ScatterRefIdeal.main_arg1)
      ∧ r.2.mem ((c.tc : Thread Cert.ScatterRefIdeal.nD Cert.ScatterRefIdeal.τ).loc Cert.ScatterRefIdeal.main_arg2) = m ((c.tc : Thread Cert.ScatterRefIdeal.nD Cert.ScatterRefIdeal.τ).loc Cert.ScatterRefIdeal.main_arg2)
      ∧ r.2.mem ((c.tc : Thread Cert.ScatterRefIdeal.nD Cert.ScatterRefIdeal.τ).loc Cert.ScatterRefIdeal.main_arg3) = m ((c.tc : Thread Cert.ScatterRefIdeal.nD Cert.ScatterRefIdeal.τ).loc Cert.ScatterRefIdeal.main_arg3))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0)
      ∧ r.2.mem ((c.tc : Thread Cert.ScatterRef.nD Cert.ScatterRef.τ).loc Cert.ScatterRef.main_arg1) = m ((c.tc : Thread Cert.ScatterRef.nD Cert.ScatterRef.τ).loc Cert.ScatterRef.main_arg1)
      ∧ r.2.mem ((c.tc : Thread Cert.ScatterRef.nD Cert.ScatterRef.τ).loc Cert.ScatterRef.main_arg2) = m ((c.tc : Thread Cert.ScatterRef.nD Cert.ScatterRef.τ).loc Cert.ScatterRef.main_arg2)
      ∧ r.2.mem ((c.tc : Thread Cert.ScatterRef.nD Cert.ScatterRef.τ).loc Cert.ScatterRef.main_arg3) = m ((c.tc : Thread Cert.ScatterRef.nD Cert.ScatterRef.τ).loc Cert.ScatterRef.main_arg3))
      ∧ r.2.sem = fun _ => 0)

def quiescent_Join [hJoin : Cert.Join.Facts] : Prop :=
  ∀ (m : (ℓ : Loc Cert.Join.nD Cert.Join.τ Cert.Join.sig) → Buf (Elt Bits) ℓ) (g : Dev Cert.Join.nD → PrngReg), Pre_Join m →
    θ_run (Cert.Join.defs (F := Bits)) (onTc (τ := Cert.Join.τ) (Cert.Join.main (F := Bits))) ⟨m, fun _ => 0, g⟩ (fun r => (∀ c : Dev Cert.Join.nD,
      r.2.mem ((c.tc : Thread Cert.Join.nD Cert.Join.τ).loc Cert.Join.main_arg0) = m ((c.tc : Thread Cert.Join.nD Cert.Join.τ).loc Cert.Join.main_arg0)
      ∧ r.2.mem ((c.tc : Thread Cert.Join.nD Cert.Join.τ).loc Cert.Join.main_arg1) = m ((c.tc : Thread Cert.Join.nD Cert.Join.τ).loc Cert.Join.main_arg1)
      ∧ r.2.mem ((c.tc : Thread Cert.Join.nD Cert.Join.τ).loc Cert.Join.main_arg2) = m ((c.tc : Thread Cert.Join.nD Cert.Join.τ).loc Cert.Join.main_arg2)
      ∧ r.2.mem ((c.tc : Thread Cert.Join.nD Cert.Join.τ).loc Cert.Join.main_arg3) = m ((c.tc : Thread Cert.Join.nD Cert.Join.τ).loc Cert.Join.main_arg3))
      ∧ r.2.sem = fun _ => 0)

def quiescent_JoinIdeal [hJoinIdeal : Cert.JoinIdeal.Facts] : Prop :=
  ∀ (m : (ℓ : Loc Cert.JoinIdeal.nD Cert.JoinIdeal.τ Cert.JoinIdeal.sig) → Buf (Elt Ideal) ℓ) (g : Dev Cert.JoinIdeal.nD → PrngReg), Pre_JoinIdeal m →
    θ_run (Cert.JoinIdeal.defs (F := Ideal)) (onTc (τ := Cert.JoinIdeal.τ) (Cert.JoinIdeal.main (F := Ideal))) ⟨m, fun _ => 0, g⟩ (fun r => (∀ c : Dev Cert.JoinIdeal.nD,
      r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
      ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
      ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
      ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3))
      ∧ r.2.sem = fun _ => 0)

def quiescent_JoinRefIdeal [hJoinRefIdeal : Cert.JoinRefIdeal.Facts] : Prop :=
  ∀ (m : (ℓ : Loc Cert.JoinRefIdeal.nD Cert.JoinRefIdeal.τ Cert.JoinRefIdeal.sig) → Buf (Elt Ideal) ℓ) (g : Dev Cert.JoinRefIdeal.nD → PrngReg), Pre_JoinRefIdeal m →
    θ_run (Cert.JoinRefIdeal.defs (F := Ideal)) (onTc (τ := Cert.JoinRefIdeal.τ) (Cert.JoinRefIdeal.main (F := Ideal))) ⟨m, fun _ => 0, g⟩ (fun r => (∀ c : Dev Cert.JoinRefIdeal.nD,
      r.2.mem ((c.tc : Thread Cert.JoinRefIdeal.nD Cert.JoinRefIdeal.τ).loc Cert.JoinRefIdeal.main_arg0) = m ((c.tc : Thread Cert.JoinRefIdeal.nD Cert.JoinRefIdeal.τ).loc Cert.JoinRefIdeal.main_arg0)
      ∧ r.2.mem ((c.tc : Thread Cert.JoinRefIdeal.nD Cert.JoinRefIdeal.τ).loc Cert.JoinRefIdeal.main_arg1) = m ((c.tc : Thread Cert.JoinRefIdeal.nD Cert.JoinRefIdeal.τ).loc Cert.JoinRefIdeal.main_arg1)
      ∧ r.2.mem ((c.tc : Thread Cert.JoinRefIdeal.nD Cert.JoinRefIdeal.τ).loc Cert.JoinRefIdeal.main_arg2) = m ((c.tc : Thread Cert.JoinRefIdeal.nD Cert.JoinRefIdeal.τ).loc Cert.JoinRefIdeal.main_arg2)
      ∧ r.2.mem ((c.tc : Thread Cert.JoinRefIdeal.nD Cert.JoinRefIdeal.τ).loc Cert.JoinRefIdeal.main_arg3) = m ((c.tc : Thread Cert.JoinRefIdeal.nD Cert.JoinRefIdeal.τ).loc Cert.JoinRefIdeal.main_arg3))
      ∧ r.2.sem = fun _ => 0)

def quiescent_JoinRef [hJoinRef : Cert.JoinRef.Facts] : Prop :=
  ∀ (m : (ℓ : Loc Cert.JoinRef.nD Cert.JoinRef.τ Cert.JoinRef.sig) → Buf (Elt Bits) ℓ) (g : Dev Cert.JoinRef.nD → PrngReg), Pre_JoinRef m →
    θ_run (Cert.JoinRef.defs (F := Bits)) (onTc (τ := Cert.JoinRef.τ) (Cert.JoinRef.main (F := Bits))) ⟨m, fun _ => 0, g⟩ (fun r => (∀ c : Dev Cert.JoinRef.nD,
      r.2.mem ((c.tc : Thread Cert.JoinRef.nD Cert.JoinRef.τ).loc Cert.JoinRef.main_arg0) = m ((c.tc : Thread Cert.JoinRef.nD Cert.JoinRef.τ).loc Cert.JoinRef.main_arg0)
      ∧ r.2.mem ((c.tc : Thread Cert.JoinRef.nD Cert.JoinRef.τ).loc Cert.JoinRef.main_arg1) = m ((c.tc : Thread Cert.JoinRef.nD Cert.JoinRef.τ).loc Cert.JoinRef.main_arg1)
      ∧ r.2.mem ((c.tc : Thread Cert.JoinRef.nD Cert.JoinRef.τ).loc Cert.JoinRef.main_arg2) = m ((c.tc : Thread Cert.JoinRef.nD Cert.JoinRef.τ).loc Cert.JoinRef.main_arg2)
      ∧ r.2.mem ((c.tc : Thread Cert.JoinRef.nD Cert.JoinRef.τ).loc Cert.JoinRef.main_arg3) = m ((c.tc : Thread Cert.JoinRef.nD Cert.JoinRef.τ).loc Cert.JoinRef.main_arg3))
      ∧ r.2.sem = fun _ => 0)

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0)
      ∧ r.2.mem ((c.tc : Thread Cert.GatherRefIdeal.nD Cert.GatherRefIdeal.τ).loc Cert.GatherRefIdeal.main_arg1) = m ((c.tc : Thread Cert.GatherRefIdeal.nD Cert.GatherRefIdeal.τ).loc Cert.GatherRefIdeal.main_arg1)
      ∧ r.2.mem ((c.tc : Thread Cert.GatherRefIdeal.nD Cert.GatherRefIdeal.τ).loc Cert.GatherRefIdeal.main_arg2) = m ((c.tc : Thread Cert.GatherRefIdeal.nD Cert.GatherRefIdeal.τ).loc Cert.GatherRefIdeal.main_arg2)
      ∧ r.2.mem ((c.tc : Thread Cert.GatherRefIdeal.nD Cert.GatherRefIdeal.τ).loc Cert.GatherRefIdeal.main_arg3) = m ((c.tc : Thread Cert.GatherRefIdeal.nD Cert.GatherRefIdeal.τ).loc Cert.GatherRefIdeal.main_arg3))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0)
      ∧ r.2.mem ((c.tc : Thread Cert.GatherRef.nD Cert.GatherRef.τ).loc Cert.GatherRef.main_arg1) = m ((c.tc : Thread Cert.GatherRef.nD Cert.GatherRef.τ).loc Cert.GatherRef.main_arg1)
      ∧ r.2.mem ((c.tc : Thread Cert.GatherRef.nD Cert.GatherRef.τ).loc Cert.GatherRef.main_arg2) = m ((c.tc : Thread Cert.GatherRef.nD Cert.GatherRef.τ).loc Cert.GatherRef.main_arg2)
      ∧ r.2.mem ((c.tc : Thread Cert.GatherRef.nD Cert.GatherRef.τ).loc Cert.GatherRef.main_arg3) = m ((c.tc : Thread Cert.GatherRef.nD Cert.GatherRef.τ).loc Cert.GatherRef.main_arg3))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInRefIdeal [hUpdateInRefIdeal : Cert.UpdateInRefIdeal.Facts] : Prop :=
  ∀ (m : (ℓ : Loc Cert.UpdateInRefIdeal.nD Cert.UpdateInRefIdeal.τ Cert.UpdateInRefIdeal.sig) → Buf (Elt Ideal) ℓ) (g : Dev Cert.UpdateInRefIdeal.nD → PrngReg), Pre_UpdateInRefIdeal m →
    θ_run (Cert.UpdateInRefIdeal.defs (F := Ideal)) (onTc (τ := Cert.UpdateInRefIdeal.τ) (Cert.UpdateInRefIdeal.main (F := Ideal))) ⟨m, fun _ => 0, g⟩ (fun r => (∀ c : Dev Cert.UpdateInRefIdeal.nD,
      r.2.mem ((c.tc : Thread Cert.UpdateInRefIdeal.nD Cert.UpdateInRefIdeal.τ).loc Cert.UpdateInRefIdeal.main_arg0) = m ((c.tc : Thread Cert.UpdateInRefIdeal.nD Cert.UpdateInRefIdeal.τ).loc Cert.UpdateInRefIdeal.main_arg0)
      ∧ r.2.mem ((c.tc : Thread Cert.UpdateInRefIdeal.nD Cert.UpdateInRefIdeal.τ).loc Cert.UpdateInRefIdeal.main_arg1) = m ((c.tc : Thread Cert.UpdateInRefIdeal.nD Cert.UpdateInRefIdeal.τ).loc Cert.UpdateInRefIdeal.main_arg1)
      ∧ r.2.mem ((c.tc : Thread Cert.UpdateInRefIdeal.nD Cert.UpdateInRefIdeal.τ).loc Cert.UpdateInRefIdeal.main_arg2) = m ((c.tc : Thread Cert.UpdateInRefIdeal.nD Cert.UpdateInRefIdeal.τ).loc Cert.UpdateInRefIdeal.main_arg2)
      ∧ r.2.mem ((c.tc : Thread Cert.UpdateInRefIdeal.nD Cert.UpdateInRefIdeal.τ).loc Cert.UpdateInRefIdeal.main_arg3) = m ((c.tc : Thread Cert.UpdateInRefIdeal.nD Cert.UpdateInRefIdeal.τ).loc Cert.UpdateInRefIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutRefIdeal [hUpdateOutRefIdeal : Cert.UpdateOutRefIdeal.Facts] : Prop :=
  ∀ (m : (ℓ : Loc Cert.UpdateOutRefIdeal.nD Cert.UpdateOutRefIdeal.τ Cert.UpdateOutRefIdeal.sig) → Buf (Elt Ideal) ℓ) (g : Dev Cert.UpdateOutRefIdeal.nD → PrngReg), Pre_UpdateOutRefIdeal m →
    θ_run (Cert.UpdateOutRefIdeal.defs (F := Ideal)) (onTc (τ := Cert.UpdateOutRefIdeal.τ) (Cert.UpdateOutRefIdeal.main (F := Ideal))) ⟨m, fun _ => 0, g⟩ (fun r => (∀ c : Dev Cert.UpdateOutRefIdeal.nD,
      r.2.mem ((c.tc : Thread Cert.UpdateOutRefIdeal.nD Cert.UpdateOutRefIdeal.τ).loc Cert.UpdateOutRefIdeal.main_arg0) = m ((c.tc : Thread Cert.UpdateOutRefIdeal.nD Cert.UpdateOutRefIdeal.τ).loc Cert.UpdateOutRefIdeal.main_arg0)
      ∧ r.2.mem ((c.tc : Thread Cert.UpdateOutRefIdeal.nD Cert.UpdateOutRefIdeal.τ).loc Cert.UpdateOutRefIdeal.main_arg1) = m ((c.tc : Thread Cert.UpdateOutRefIdeal.nD Cert.UpdateOutRefIdeal.τ).loc Cert.UpdateOutRefIdeal.main_arg1)
      ∧ r.2.mem ((c.tc : Thread Cert.UpdateOutRefIdeal.nD Cert.UpdateOutRefIdeal.τ).loc Cert.UpdateOutRefIdeal.main_arg2) = m ((c.tc : Thread Cert.UpdateOutRefIdeal.nD Cert.UpdateOutRefIdeal.τ).loc Cert.UpdateOutRefIdeal.main_arg2)
      ∧ r.2.mem ((c.tc : Thread Cert.UpdateOutRefIdeal.nD Cert.UpdateOutRefIdeal.τ).loc Cert.UpdateOutRefIdeal.main_arg3) = m ((c.tc : Thread Cert.UpdateOutRefIdeal.nD Cert.UpdateOutRefIdeal.τ).loc Cert.UpdateOutRefIdeal.main_arg3))
      ∧ r.2.sem = fun _ => 0)

def quiescent_UpdateMlp [hUpdateMlp : Cert.UpdateMlp.Facts] : Prop :=
  ∀ (m : (ℓ : Loc Cert.UpdateMlp.nD Cert.UpdateMlp.τ Cert.UpdateMlp.sig) → Buf (Elt Bits) ℓ) (g : Dev Cert.UpdateMlp.nD → PrngReg), Pre_UpdateMlp m →
    θ_run (Cert.UpdateMlp.defs (F := Bits)) (onTc (τ := Cert.UpdateMlp.τ) (Cert.UpdateMlp.main (F := Bits))) ⟨m, fun _ => 0, g⟩ (fun r => (∀ c : Dev Cert.UpdateMlp.nD,
      r.2.mem ((c.tc : Thread Cert.UpdateMlp.nD Cert.UpdateMlp.τ).loc Cert.UpdateMlp.main_arg0) = m ((c.tc : Thread Cert.UpdateMlp.nD Cert.UpdateMlp.τ).loc Cert.UpdateMlp.main_arg0)
      ∧ r.2.mem ((c.tc : Thread Cert.UpdateMlp.nD Cert.UpdateMlp.τ).loc Cert.UpdateMlp.main_arg1) = m ((c.tc : Thread Cert.UpdateMlp.nD Cert.UpdateMlp.τ).loc Cert.UpdateMlp.main_arg1)
      ∧ r.2.mem ((c.tc : Thread Cert.UpdateMlp.nD Cert.UpdateMlp.τ).loc Cert.UpdateMlp.main_arg2) = m ((c.tc : Thread Cert.UpdateMlp.nD Cert.UpdateMlp.τ).loc Cert.UpdateMlp.main_arg2)
      ∧ r.2.mem ((c.tc : Thread Cert.UpdateMlp.nD Cert.UpdateMlp.τ).loc Cert.UpdateMlp.main_arg3) = m ((c.tc : Thread Cert.UpdateMlp.nD Cert.UpdateMlp.τ).loc Cert.UpdateMlp.main_arg3))
      ∧ r.2.sem = fun _ => 0)

def quiescent_UpdateMlpIdeal [hUpdateMlpIdeal : Cert.UpdateMlpIdeal.Facts] : Prop :=
  ∀ (m : (ℓ : Loc Cert.UpdateMlpIdeal.nD Cert.UpdateMlpIdeal.τ Cert.UpdateMlpIdeal.sig) → Buf (Elt Ideal) ℓ) (g : Dev Cert.UpdateMlpIdeal.nD → PrngReg), Pre_UpdateMlpIdeal m →
    θ_run (Cert.UpdateMlpIdeal.defs (F := Ideal)) (onTc (τ := Cert.UpdateMlpIdeal.τ) (Cert.UpdateMlpIdeal.main (F := Ideal))) ⟨m, fun _ => 0, g⟩ (fun r => (∀ c : Dev Cert.UpdateMlpIdeal.nD,
      r.2.mem ((c.tc : Thread Cert.UpdateMlpIdeal.nD Cert.UpdateMlpIdeal.τ).loc Cert.UpdateMlpIdeal.main_arg0) = m ((c.tc : Thread Cert.UpdateMlpIdeal.nD Cert.UpdateMlpIdeal.τ).loc Cert.UpdateMlpIdeal.main_arg0)
      ∧ r.2.mem ((c.tc : Thread Cert.UpdateMlpIdeal.nD Cert.UpdateMlpIdeal.τ).loc Cert.UpdateMlpIdeal.main_arg1) = m ((c.tc : Thread Cert.UpdateMlpIdeal.nD Cert.UpdateMlpIdeal.τ).loc Cert.UpdateMlpIdeal.main_arg1)
      ∧ r.2.mem ((c.tc : Thread Cert.UpdateMlpIdeal.nD Cert.UpdateMlpIdeal.τ).loc Cert.UpdateMlpIdeal.main_arg2) = m ((c.tc : Thread Cert.UpdateMlpIdeal.nD Cert.UpdateMlpIdeal.τ).loc Cert.UpdateMlpIdeal.main_arg2)
      ∧ r.2.mem ((c.tc : Thread Cert.UpdateMlpIdeal.nD Cert.UpdateMlpIdeal.τ).loc Cert.UpdateMlpIdeal.main_arg3) = m ((c.tc : Thread Cert.UpdateMlpIdeal.nD Cert.UpdateMlpIdeal.τ).loc Cert.UpdateMlpIdeal.main_arg3))
      ∧ r.2.sem = fun _ => 0)

def quiescent_UpdateMlpRefIdeal [hUpdateMlpRefIdeal : Cert.UpdateMlpRefIdeal.Facts] : Prop :=
  ∀ (m : (ℓ : Loc Cert.UpdateMlpRefIdeal.nD Cert.UpdateMlpRefIdeal.τ Cert.UpdateMlpRefIdeal.sig) → Buf (Elt Ideal) ℓ) (g : Dev Cert.UpdateMlpRefIdeal.nD → PrngReg), Pre_UpdateMlpRefIdeal m →
    θ_run (Cert.UpdateMlpRefIdeal.defs (F := Ideal)) (onTc (τ := Cert.UpdateMlpRefIdeal.τ) (Cert.UpdateMlpRefIdeal.main (F := Ideal))) ⟨m, fun _ => 0, g⟩ (fun r => (∀ c : Dev Cert.UpdateMlpRefIdeal.nD,
      r.2.mem ((c.tc : Thread Cert.UpdateMlpRefIdeal.nD Cert.UpdateMlpRefIdeal.τ).loc Cert.UpdateMlpRefIdeal.main_arg0) = m ((c.tc : Thread Cert.UpdateMlpRefIdeal.nD Cert.UpdateMlpRefIdeal.τ).loc Cert.UpdateMlpRefIdeal.main_arg0)
      ∧ r.2.mem ((c.tc : Thread Cert.UpdateMlpRefIdeal.nD Cert.UpdateMlpRefIdeal.τ).loc Cert.UpdateMlpRefIdeal.main_arg1) = m ((c.tc : Thread Cert.UpdateMlpRefIdeal.nD Cert.UpdateMlpRefIdeal.τ).loc Cert.UpdateMlpRefIdeal.main_arg1)
      ∧ r.2.mem ((c.tc : Thread Cert.UpdateMlpRefIdeal.nD Cert.UpdateMlpRefIdeal.τ).loc Cert.UpdateMlpRefIdeal.main_arg2) = m ((c.tc : Thread Cert.UpdateMlpRefIdeal.nD Cert.UpdateMlpRefIdeal.τ).loc Cert.UpdateMlpRefIdeal.main_arg2)
      ∧ r.2.mem ((c.tc : Thread Cert.UpdateMlpRefIdeal.nD Cert.UpdateMlpRefIdeal.τ).loc Cert.UpdateMlpRefIdeal.main_arg3) = m ((c.tc : Thread Cert.UpdateMlpRefIdeal.nD Cert.UpdateMlpRefIdeal.τ).loc Cert.UpdateMlpRefIdeal.main_arg3))
      ∧ r.2.sem = fun _ => 0)

def quiescent_UpdateNorm [hUpdateNorm : Cert.UpdateNorm.Facts] : Prop :=
  ∀ (m : (ℓ : Loc Cert.UpdateNorm.nD Cert.UpdateNorm.τ Cert.UpdateNorm.sig) → Buf (Elt Bits) ℓ) (g : Dev Cert.UpdateNorm.nD → PrngReg), Pre_UpdateNorm m →
    θ_run (Cert.UpdateNorm.defs (F := Bits)) (onTc (τ := Cert.UpdateNorm.τ) (Cert.UpdateNorm.main (F := Bits))) ⟨m, fun _ => 0, g⟩ (fun r => (∀ c : Dev Cert.UpdateNorm.nD,
      r.2.mem ((c.tc : Thread Cert.UpdateNorm.nD Cert.UpdateNorm.τ).loc Cert.UpdateNorm.main_arg0) = m ((c.tc : Thread Cert.UpdateNorm.nD Cert.UpdateNorm.τ).loc Cert.UpdateNorm.main_arg0)
      ∧ r.2.mem ((c.tc : Thread Cert.UpdateNorm.nD Cert.UpdateNorm.τ).loc Cert.UpdateNorm.main_arg1) = m ((c.tc : Thread Cert.UpdateNorm.nD Cert.UpdateNorm.τ).loc Cert.UpdateNorm.main_arg1)
      ∧ r.2.mem ((c.tc : Thread Cert.UpdateNorm.nD Cert.UpdateNorm.τ).loc Cert.UpdateNorm.main_arg2) = m ((c.tc : Thread Cert.UpdateNorm.nD Cert.UpdateNorm.τ).loc Cert.UpdateNorm.main_arg2)
      ∧ r.2.mem ((c.tc : Thread Cert.UpdateNorm.nD Cert.UpdateNorm.τ).loc Cert.UpdateNorm.main_arg3) = m ((c.tc : Thread Cert.UpdateNorm.nD Cert.UpdateNorm.τ).loc Cert.UpdateNorm.main_arg3))
      ∧ r.2.sem = fun _ => 0)

def quiescent_UpdateNormIdeal [hUpdateNormIdeal : Cert.UpdateNormIdeal.Facts] : Prop :=
  ∀ (m : (ℓ : Loc Cert.UpdateNormIdeal.nD Cert.UpdateNormIdeal.τ Cert.UpdateNormIdeal.sig) → Buf (Elt Ideal) ℓ) (g : Dev Cert.UpdateNormIdeal.nD → PrngReg), Pre_UpdateNormIdeal m →
    θ_run (Cert.UpdateNormIdeal.defs (F := Ideal)) (onTc (τ := Cert.UpdateNormIdeal.τ) (Cert.UpdateNormIdeal.main (F := Ideal))) ⟨m, fun _ => 0, g⟩ (fun r => (∀ c : Dev Cert.UpdateNormIdeal.nD,
      r.2.mem ((c.tc : Thread Cert.UpdateNormIdeal.nD Cert.UpdateNormIdeal.τ).loc Cert.UpdateNormIdeal.main_arg0) = m ((c.tc : Thread Cert.UpdateNormIdeal.nD Cert.UpdateNormIdeal.τ).loc Cert.UpdateNormIdeal.main_arg0)
      ∧ r.2.mem ((c.tc : Thread Cert.UpdateNormIdeal.nD Cert.UpdateNormIdeal.τ).loc Cert.UpdateNormIdeal.main_arg1) = m ((c.tc : Thread Cert.UpdateNormIdeal.nD Cert.UpdateNormIdeal.τ).loc Cert.UpdateNormIdeal.main_arg1)
      ∧ r.2.mem ((c.tc : Thread Cert.UpdateNormIdeal.nD Cert.UpdateNormIdeal.τ).loc Cert.UpdateNormIdeal.main_arg2) = m ((c.tc : Thread Cert.UpdateNormIdeal.nD Cert.UpdateNormIdeal.τ).loc Cert.UpdateNormIdeal.main_arg2)
      ∧ r.2.mem ((c.tc : Thread Cert.UpdateNormIdeal.nD Cert.UpdateNormIdeal.τ).loc Cert.UpdateNormIdeal.main_arg3) = m ((c.tc : Thread Cert.UpdateNormIdeal.nD Cert.UpdateNormIdeal.τ).loc Cert.UpdateNormIdeal.main_arg3))
      ∧ r.2.sem = fun _ => 0)

def quiescent_UpdateNormRefIdeal [hUpdateNormRefIdeal : Cert.UpdateNormRefIdeal.Facts] : Prop :=
  ∀ (m : (ℓ : Loc Cert.UpdateNormRefIdeal.nD Cert.UpdateNormRefIdeal.τ Cert.UpdateNormRefIdeal.sig) → Buf (Elt Ideal) ℓ) (g : Dev Cert.UpdateNormRefIdeal.nD → PrngReg), Pre_UpdateNormRefIdeal m →
    θ_run (Cert.UpdateNormRefIdeal.defs (F := Ideal)) (onTc (τ := Cert.UpdateNormRefIdeal.τ) (Cert.UpdateNormRefIdeal.main (F := Ideal))) ⟨m, fun _ => 0, g⟩ (fun r => (∀ c : Dev Cert.UpdateNormRefIdeal.nD,
      r.2.mem ((c.tc : Thread Cert.UpdateNormRefIdeal.nD Cert.UpdateNormRefIdeal.τ).loc Cert.UpdateNormRefIdeal.main_arg0) = m ((c.tc : Thread Cert.UpdateNormRefIdeal.nD Cert.UpdateNormRefIdeal.τ).loc Cert.UpdateNormRefIdeal.main_arg0)
      ∧ r.2.mem ((c.tc : Thread Cert.UpdateNormRefIdeal.nD Cert.UpdateNormRefIdeal.τ).loc Cert.UpdateNormRefIdeal.main_arg1) = m ((c.tc : Thread Cert.UpdateNormRefIdeal.nD Cert.UpdateNormRefIdeal.τ).loc Cert.UpdateNormRefIdeal.main_arg1)
      ∧ r.2.mem ((c.tc : Thread Cert.UpdateNormRefIdeal.nD Cert.UpdateNormRefIdeal.τ).loc Cert.UpdateNormRefIdeal.main_arg2) = m ((c.tc : Thread Cert.UpdateNormRefIdeal.nD Cert.UpdateNormRefIdeal.τ).loc Cert.UpdateNormRefIdeal.main_arg2)
      ∧ r.2.mem ((c.tc : Thread Cert.UpdateNormRefIdeal.nD Cert.UpdateNormRefIdeal.τ).loc Cert.UpdateNormRefIdeal.main_arg3) = m ((c.tc : Thread Cert.UpdateNormRefIdeal.nD Cert.UpdateNormRefIdeal.τ).loc Cert.UpdateNormRefIdeal.main_arg3))
      ∧ r.2.sem = fun _ => 0)

def quiescent_UpdateLb [hUpdateLb : Cert.UpdateLb.Facts] : Prop :=
  ∀ (m : (ℓ : Loc Cert.UpdateLb.nD Cert.UpdateLb.τ Cert.UpdateLb.sig) → Buf (Elt Bits) ℓ) (g : Dev Cert.UpdateLb.nD → PrngReg), Pre_UpdateLb m →
    θ_run (Cert.UpdateLb.defs (F := Bits)) (onTc (τ := Cert.UpdateLb.τ) (Cert.UpdateLb.main (F := Bits))) ⟨m, fun _ => 0, g⟩ (fun r => (∀ c : Dev Cert.UpdateLb.nD,
      r.2.mem ((c.tc : Thread Cert.UpdateLb.nD Cert.UpdateLb.τ).loc Cert.UpdateLb.main_arg0) = m ((c.tc : Thread Cert.UpdateLb.nD Cert.UpdateLb.τ).loc Cert.UpdateLb.main_arg0)
      ∧ r.2.mem ((c.tc : Thread Cert.UpdateLb.nD Cert.UpdateLb.τ).loc Cert.UpdateLb.main_arg1) = m ((c.tc : Thread Cert.UpdateLb.nD Cert.UpdateLb.τ).loc Cert.UpdateLb.main_arg1)
      ∧ r.2.mem ((c.tc : Thread Cert.UpdateLb.nD Cert.UpdateLb.τ).loc Cert.UpdateLb.main_arg2) = m ((c.tc : Thread Cert.UpdateLb.nD Cert.UpdateLb.τ).loc Cert.UpdateLb.main_arg2)
      ∧ r.2.mem ((c.tc : Thread Cert.UpdateLb.nD Cert.UpdateLb.τ).loc Cert.UpdateLb.main_arg3) = m ((c.tc : Thread Cert.UpdateLb.nD Cert.UpdateLb.τ).loc Cert.UpdateLb.main_arg3))
      ∧ r.2.sem = fun _ => 0)

def quiescent_UpdateLbIdeal [hUpdateLbIdeal : Cert.UpdateLbIdeal.Facts] : Prop :=
  ∀ (m : (ℓ : Loc Cert.UpdateLbIdeal.nD Cert.UpdateLbIdeal.τ Cert.UpdateLbIdeal.sig) → Buf (Elt Ideal) ℓ) (g : Dev Cert.UpdateLbIdeal.nD → PrngReg), Pre_UpdateLbIdeal m →
    θ_run (Cert.UpdateLbIdeal.defs (F := Ideal)) (onTc (τ := Cert.UpdateLbIdeal.τ) (Cert.UpdateLbIdeal.main (F := Ideal))) ⟨m, fun _ => 0, g⟩ (fun r => (∀ c : Dev Cert.UpdateLbIdeal.nD,
      r.2.mem ((c.tc : Thread Cert.UpdateLbIdeal.nD Cert.UpdateLbIdeal.τ).loc Cert.UpdateLbIdeal.main_arg0) = m ((c.tc : Thread Cert.UpdateLbIdeal.nD Cert.UpdateLbIdeal.τ).loc Cert.UpdateLbIdeal.main_arg0)
      ∧ r.2.mem ((c.tc : Thread Cert.UpdateLbIdeal.nD Cert.UpdateLbIdeal.τ).loc Cert.UpdateLbIdeal.main_arg1) = m ((c.tc : Thread Cert.UpdateLbIdeal.nD Cert.UpdateLbIdeal.τ).loc Cert.UpdateLbIdeal.main_arg1)
      ∧ r.2.mem ((c.tc : Thread Cert.UpdateLbIdeal.nD Cert.UpdateLbIdeal.τ).loc Cert.UpdateLbIdeal.main_arg2) = m ((c.tc : Thread Cert.UpdateLbIdeal.nD Cert.UpdateLbIdeal.τ).loc Cert.UpdateLbIdeal.main_arg2)
      ∧ r.2.mem ((c.tc : Thread Cert.UpdateLbIdeal.nD Cert.UpdateLbIdeal.τ).loc Cert.UpdateLbIdeal.main_arg3) = m ((c.tc : Thread Cert.UpdateLbIdeal.nD Cert.UpdateLbIdeal.τ).loc Cert.UpdateLbIdeal.main_arg3))
      ∧ r.2.sem = fun _ => 0)

def quiescent_UpdateLbRefIdeal [hUpdateLbRefIdeal : Cert.UpdateLbRefIdeal.Facts] : Prop :=
  ∀ (m : (ℓ : Loc Cert.UpdateLbRefIdeal.nD Cert.UpdateLbRefIdeal.τ Cert.UpdateLbRefIdeal.sig) → Buf (Elt Ideal) ℓ) (g : Dev Cert.UpdateLbRefIdeal.nD → PrngReg), Pre_UpdateLbRefIdeal m →
    θ_run (Cert.UpdateLbRefIdeal.defs (F := Ideal)) (onTc (τ := Cert.UpdateLbRefIdeal.τ) (Cert.UpdateLbRefIdeal.main (F := Ideal))) ⟨m, fun _ => 0, g⟩ (fun r => (∀ c : Dev Cert.UpdateLbRefIdeal.nD,
      r.2.mem ((c.tc : Thread Cert.UpdateLbRefIdeal.nD Cert.UpdateLbRefIdeal.τ).loc Cert.UpdateLbRefIdeal.main_arg0) = m ((c.tc : Thread Cert.UpdateLbRefIdeal.nD Cert.UpdateLbRefIdeal.τ).loc Cert.UpdateLbRefIdeal.main_arg0)
      ∧ r.2.mem ((c.tc : Thread Cert.UpdateLbRefIdeal.nD Cert.UpdateLbRefIdeal.τ).loc Cert.UpdateLbRefIdeal.main_arg1) = m ((c.tc : Thread Cert.UpdateLbRefIdeal.nD Cert.UpdateLbRefIdeal.τ).loc Cert.UpdateLbRefIdeal.main_arg1)
      ∧ r.2.mem ((c.tc : Thread Cert.UpdateLbRefIdeal.nD Cert.UpdateLbRefIdeal.τ).loc Cert.UpdateLbRefIdeal.main_arg2) = m ((c.tc : Thread Cert.UpdateLbRefIdeal.nD Cert.UpdateLbRefIdeal.τ).loc Cert.UpdateLbRefIdeal.main_arg2)
      ∧ r.2.mem ((c.tc : Thread Cert.UpdateLbRefIdeal.nD Cert.UpdateLbRefIdeal.τ).loc Cert.UpdateLbRefIdeal.main_arg3) = m ((c.tc : Thread Cert.UpdateLbRefIdeal.nD Cert.UpdateLbRefIdeal.τ).loc Cert.UpdateLbRefIdeal.main_arg3))
      ∧ r.2.sem = fun _ => 0)

def quiescent_UpdateHead [hUpdateHead : Cert.UpdateHead.Facts] : Prop :=
  ∀ (m : (ℓ : Loc Cert.UpdateHead.nD Cert.UpdateHead.τ Cert.UpdateHead.sig) → Buf (Elt Bits) ℓ) (g : Dev Cert.UpdateHead.nD → PrngReg), Pre_UpdateHead m →
    θ_run (Cert.UpdateHead.defs (F := Bits)) (onTc (τ := Cert.UpdateHead.τ) (Cert.UpdateHead.main (F := Bits))) ⟨m, fun _ => 0, g⟩ (fun r => (∀ c : Dev Cert.UpdateHead.nD,
      r.2.mem ((c.tc : Thread Cert.UpdateHead.nD Cert.UpdateHead.τ).loc Cert.UpdateHead.main_arg0) = m ((c.tc : Thread Cert.UpdateHead.nD Cert.UpdateHead.τ).loc Cert.UpdateHead.main_arg0)
      ∧ r.2.mem ((c.tc : Thread Cert.UpdateHead.nD Cert.UpdateHead.τ).loc Cert.UpdateHead.main_arg1) = m ((c.tc : Thread Cert.UpdateHead.nD Cert.UpdateHead.τ).loc Cert.UpdateHead.main_arg1)
      ∧ r.2.mem ((c.tc : Thread Cert.UpdateHead.nD Cert.UpdateHead.τ).loc Cert.UpdateHead.main_arg2) = m ((c.tc : Thread Cert.UpdateHead.nD Cert.UpdateHead.τ).loc Cert.UpdateHead.main_arg2)
      ∧ r.2.mem ((c.tc : Thread Cert.UpdateHead.nD Cert.UpdateHead.τ).loc Cert.UpdateHead.main_arg3) = m ((c.tc : Thread Cert.UpdateHead.nD Cert.UpdateHead.τ).loc Cert.UpdateHead.main_arg3))
      ∧ r.2.sem = fun _ => 0)

def quiescent_UpdateHeadIdeal [hUpdateHeadIdeal : Cert.UpdateHeadIdeal.Facts] : Prop :=
  ∀ (m : (ℓ : Loc Cert.UpdateHeadIdeal.nD Cert.UpdateHeadIdeal.τ Cert.UpdateHeadIdeal.sig) → Buf (Elt Ideal) ℓ) (g : Dev Cert.UpdateHeadIdeal.nD → PrngReg), Pre_UpdateHeadIdeal m →
    θ_run (Cert.UpdateHeadIdeal.defs (F := Ideal)) (onTc (τ := Cert.UpdateHeadIdeal.τ) (Cert.UpdateHeadIdeal.main (F := Ideal))) ⟨m, fun _ => 0, g⟩ (fun r => (∀ c : Dev Cert.UpdateHeadIdeal.nD,
      r.2.mem ((c.tc : Thread Cert.UpdateHeadIdeal.nD Cert.UpdateHeadIdeal.τ).loc Cert.UpdateHeadIdeal.main_arg0) = m ((c.tc : Thread Cert.UpdateHeadIdeal.nD Cert.UpdateHeadIdeal.τ).loc Cert.UpdateHeadIdeal.main_arg0)
      ∧ r.2.mem ((c.tc : Thread Cert.UpdateHeadIdeal.nD Cert.UpdateHeadIdeal.τ).loc Cert.UpdateHeadIdeal.main_arg1) = m ((c.tc : Thread Cert.UpdateHeadIdeal.nD Cert.UpdateHeadIdeal.τ).loc Cert.UpdateHeadIdeal.main_arg1)
      ∧ r.2.mem ((c.tc : Thread Cert.UpdateHeadIdeal.nD Cert.UpdateHeadIdeal.τ).loc Cert.UpdateHeadIdeal.main_arg2) = m ((c.tc : Thread Cert.UpdateHeadIdeal.nD Cert.UpdateHeadIdeal.τ).loc Cert.UpdateHeadIdeal.main_arg2)
      ∧ r.2.mem ((c.tc : Thread Cert.UpdateHeadIdeal.nD Cert.UpdateHeadIdeal.τ).loc Cert.UpdateHeadIdeal.main_arg3) = m ((c.tc : Thread Cert.UpdateHeadIdeal.nD Cert.UpdateHeadIdeal.τ).loc Cert.UpdateHeadIdeal.main_arg3))
      ∧ r.2.sem = fun _ => 0)

def quiescent_UpdateHeadRefIdeal [hUpdateHeadRefIdeal : Cert.UpdateHeadRefIdeal.Facts] : Prop :=
  ∀ (m : (ℓ : Loc Cert.UpdateHeadRefIdeal.nD Cert.UpdateHeadRefIdeal.τ Cert.UpdateHeadRefIdeal.sig) → Buf (Elt Ideal) ℓ) (g : Dev Cert.UpdateHeadRefIdeal.nD → PrngReg), Pre_UpdateHeadRefIdeal m →
    θ_run (Cert.UpdateHeadRefIdeal.defs (F := Ideal)) (onTc (τ := Cert.UpdateHeadRefIdeal.τ) (Cert.UpdateHeadRefIdeal.main (F := Ideal))) ⟨m, fun _ => 0, g⟩ (fun r => (∀ c : Dev Cert.UpdateHeadRefIdeal.nD,
      r.2.mem ((c.tc : Thread Cert.UpdateHeadRefIdeal.nD Cert.UpdateHeadRefIdeal.τ).loc Cert.UpdateHeadRefIdeal.main_arg0) = m ((c.tc : Thread Cert.UpdateHeadRefIdeal.nD Cert.UpdateHeadRefIdeal.τ).loc Cert.UpdateHeadRefIdeal.main_arg0)
      ∧ r.2.mem ((c.tc : Thread Cert.UpdateHeadRefIdeal.nD Cert.UpdateHeadRefIdeal.τ).loc Cert.UpdateHeadRefIdeal.main_arg1) = m ((c.tc : Thread Cert.UpdateHeadRefIdeal.nD Cert.UpdateHeadRefIdeal.τ).loc Cert.UpdateHeadRefIdeal.main_arg1)
      ∧ r.2.mem ((c.tc : Thread Cert.UpdateHeadRefIdeal.nD Cert.UpdateHeadRefIdeal.τ).loc Cert.UpdateHeadRefIdeal.main_arg2) = m ((c.tc : Thread Cert.UpdateHeadRefIdeal.nD Cert.UpdateHeadRefIdeal.τ).loc Cert.UpdateHeadRefIdeal.main_arg2)
      ∧ r.2.mem ((c.tc : Thread Cert.UpdateHeadRefIdeal.nD Cert.UpdateHeadRefIdeal.τ).loc Cert.UpdateHeadRefIdeal.main_arg3) = m ((c.tc : Thread Cert.UpdateHeadRefIdeal.nD Cert.UpdateHeadRefIdeal.τ).loc Cert.UpdateHeadRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1))
      ∧ r.2.sem = fun _ => 0)

def quiescent_SumMlp [hSumMlp : Cert.SumMlp.Facts] : Prop :=
  ∀ (m : (ℓ : Loc Cert.SumMlp.nD Cert.SumMlp.τ Cert.SumMlp.sig) → Buf (Elt Bits) ℓ) (g : Dev Cert.SumMlp.nD → PrngReg), Pre_SumMlp m →
    θ_run (Cert.SumMlp.defs (F := Bits)) (onTc (τ := Cert.SumMlp.τ) (Cert.SumMlp.main (F := Bits))) ⟨m, fun _ => 0, g⟩ (fun r => (∀ c : Dev Cert.SumMlp.nD,
      r.2.mem ((c.tc : Thread Cert.SumMlp.nD Cert.SumMlp.τ).loc Cert.SumMlp.main_arg0) = m ((c.tc : Thread Cert.SumMlp.nD Cert.SumMlp.τ).loc Cert.SumMlp.main_arg0)
      ∧ r.2.mem ((c.tc : Thread Cert.SumMlp.nD Cert.SumMlp.τ).loc Cert.SumMlp.main_arg1) = m ((c.tc : Thread Cert.SumMlp.nD Cert.SumMlp.τ).loc Cert.SumMlp.main_arg1))
      ∧ r.2.sem = fun _ => 0)

def quiescent_SumMlpIdeal [hSumMlpIdeal : Cert.SumMlpIdeal.Facts] : Prop :=
  ∀ (m : (ℓ : Loc Cert.SumMlpIdeal.nD Cert.SumMlpIdeal.τ Cert.SumMlpIdeal.sig) → Buf (Elt Ideal) ℓ) (g : Dev Cert.SumMlpIdeal.nD → PrngReg), Pre_SumMlpIdeal m →
    θ_run (Cert.SumMlpIdeal.defs (F := Ideal)) (onTc (τ := Cert.SumMlpIdeal.τ) (Cert.SumMlpIdeal.main (F := Ideal))) ⟨m, fun _ => 0, g⟩ (fun r => (∀ c : Dev Cert.SumMlpIdeal.nD,
      r.2.mem ((c.tc : Thread Cert.SumMlpIdeal.nD Cert.SumMlpIdeal.τ).loc Cert.SumMlpIdeal.main_arg0) = m ((c.tc : Thread Cert.SumMlpIdeal.nD Cert.SumMlpIdeal.τ).loc Cert.SumMlpIdeal.main_arg0)
      ∧ r.2.mem ((c.tc : Thread Cert.SumMlpIdeal.nD Cert.SumMlpIdeal.τ).loc Cert.SumMlpIdeal.main_arg1) = m ((c.tc : Thread Cert.SumMlpIdeal.nD Cert.SumMlpIdeal.τ).loc Cert.SumMlpIdeal.main_arg1))
      ∧ r.2.sem = fun _ => 0)

def quiescent_SumMlpRefIdeal [hSumMlpRefIdeal : Cert.SumMlpRefIdeal.Facts] : Prop :=
  ∀ (m : (ℓ : Loc Cert.SumMlpRefIdeal.nD Cert.SumMlpRefIdeal.τ Cert.SumMlpRefIdeal.sig) → Buf (Elt Ideal) ℓ) (g : Dev Cert.SumMlpRefIdeal.nD → PrngReg), Pre_SumMlpRefIdeal m →
    θ_run (Cert.SumMlpRefIdeal.defs (F := Ideal)) (onTc (τ := Cert.SumMlpRefIdeal.τ) (Cert.SumMlpRefIdeal.main (F := Ideal))) ⟨m, fun _ => 0, g⟩ (fun r => (∀ c : Dev Cert.SumMlpRefIdeal.nD,
      r.2.mem ((c.tc : Thread Cert.SumMlpRefIdeal.nD Cert.SumMlpRefIdeal.τ).loc Cert.SumMlpRefIdeal.main_arg0) = m ((c.tc : Thread Cert.SumMlpRefIdeal.nD Cert.SumMlpRefIdeal.τ).loc Cert.SumMlpRefIdeal.main_arg0)
      ∧ r.2.mem ((c.tc : Thread Cert.SumMlpRefIdeal.nD Cert.SumMlpRefIdeal.τ).loc Cert.SumMlpRefIdeal.main_arg1) = m ((c.tc : Thread Cert.SumMlpRefIdeal.nD Cert.SumMlpRefIdeal.τ).loc Cert.SumMlpRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_MlpDownBack [hMlpDownBack : Cert.MlpDownBack.Facts] : Prop :=
  ∀ (m : (ℓ : Loc Cert.MlpDownBack.nD Cert.MlpDownBack.τ Cert.MlpDownBack.sig) → Buf (Elt Bits) ℓ) (g : Dev Cert.MlpDownBack.nD → PrngReg), Pre_MlpDownBack m →
    θ_run (Cert.MlpDownBack.defs (F := Bits)) (onTc (τ := Cert.MlpDownBack.τ) (Cert.MlpDownBack.main (F := Bits))) ⟨m, fun _ => 0, g⟩ (fun r => (∀ c : Dev Cert.MlpDownBack.nD,
      r.2.mem ((c.tc : Thread Cert.MlpDownBack.nD Cert.MlpDownBack.τ).loc Cert.MlpDownBack.main_arg0) = m ((c.tc : Thread Cert.MlpDownBack.nD Cert.MlpDownBack.τ).loc Cert.MlpDownBack.main_arg0)
      ∧ r.2.mem ((c.tc : Thread Cert.MlpDownBack.nD Cert.MlpDownBack.τ).loc Cert.MlpDownBack.main_arg1) = m ((c.tc : Thread Cert.MlpDownBack.nD Cert.MlpDownBack.τ).loc Cert.MlpDownBack.main_arg1)
      ∧ r.2.mem ((c.tc : Thread Cert.MlpDownBack.nD Cert.MlpDownBack.τ).loc Cert.MlpDownBack.main_arg2) = m ((c.tc : Thread Cert.MlpDownBack.nD Cert.MlpDownBack.τ).loc Cert.MlpDownBack.main_arg2))
      ∧ r.2.sem = fun _ => 0)

def quiescent_MlpDownBackIdeal [hMlpDownBackIdeal : Cert.MlpDownBackIdeal.Facts] : Prop :=
  ∀ (m : (ℓ : Loc Cert.MlpDownBackIdeal.nD Cert.MlpDownBackIdeal.τ Cert.MlpDownBackIdeal.sig) → Buf (Elt Ideal) ℓ) (g : Dev Cert.MlpDownBackIdeal.nD → PrngReg), Pre_MlpDownBackIdeal m →
    θ_run (Cert.MlpDownBackIdeal.defs (F := Ideal)) (onTc (τ := Cert.MlpDownBackIdeal.τ) (Cert.MlpDownBackIdeal.main (F := Ideal))) ⟨m, fun _ => 0, g⟩ (fun r => (∀ c : Dev Cert.MlpDownBackIdeal.nD,
      r.2.mem ((c.tc : Thread Cert.MlpDownBackIdeal.nD Cert.MlpDownBackIdeal.τ).loc Cert.MlpDownBackIdeal.main_arg0) = m ((c.tc : Thread Cert.MlpDownBackIdeal.nD Cert.MlpDownBackIdeal.τ).loc Cert.MlpDownBackIdeal.main_arg0)
      ∧ r.2.mem ((c.tc : Thread Cert.MlpDownBackIdeal.nD Cert.MlpDownBackIdeal.τ).loc Cert.MlpDownBackIdeal.main_arg1) = m ((c.tc : Thread Cert.MlpDownBackIdeal.nD Cert.MlpDownBackIdeal.τ).loc Cert.MlpDownBackIdeal.main_arg1)
      ∧ r.2.mem ((c.tc : Thread Cert.MlpDownBackIdeal.nD Cert.MlpDownBackIdeal.τ).loc Cert.MlpDownBackIdeal.main_arg2) = m ((c.tc : Thread Cert.MlpDownBackIdeal.nD Cert.MlpDownBackIdeal.τ).loc Cert.MlpDownBackIdeal.main_arg2))
      ∧ r.2.sem = fun _ => 0)

def quiescent_MlpDownBackRefIdeal [hMlpDownBackRefIdeal : Cert.MlpDownBackRefIdeal.Facts] : Prop :=
  ∀ (m : (ℓ : Loc Cert.MlpDownBackRefIdeal.nD Cert.MlpDownBackRefIdeal.τ Cert.MlpDownBackRefIdeal.sig) → Buf (Elt Ideal) ℓ) (g : Dev Cert.MlpDownBackRefIdeal.nD → PrngReg), Pre_MlpDownBackRefIdeal m →
    θ_run (Cert.MlpDownBackRefIdeal.defs (F := Ideal)) (onTc (τ := Cert.MlpDownBackRefIdeal.τ) (Cert.MlpDownBackRefIdeal.main (F := Ideal))) ⟨m, fun _ => 0, g⟩ (fun r => (∀ c : Dev Cert.MlpDownBackRefIdeal.nD,
      r.2.mem ((c.tc : Thread Cert.MlpDownBackRefIdeal.nD Cert.MlpDownBackRefIdeal.τ).loc Cert.MlpDownBackRefIdeal.main_arg0) = m ((c.tc : Thread Cert.MlpDownBackRefIdeal.nD Cert.MlpDownBackRefIdeal.τ).loc Cert.MlpDownBackRefIdeal.main_arg0)
      ∧ r.2.mem ((c.tc : Thread Cert.MlpDownBackRefIdeal.nD Cert.MlpDownBackRefIdeal.τ).loc Cert.MlpDownBackRefIdeal.main_arg1) = m ((c.tc : Thread Cert.MlpDownBackRefIdeal.nD Cert.MlpDownBackRefIdeal.τ).loc Cert.MlpDownBackRefIdeal.main_arg1)
      ∧ r.2.mem ((c.tc : Thread Cert.MlpDownBackRefIdeal.nD Cert.MlpDownBackRefIdeal.τ).loc Cert.MlpDownBackRefIdeal.main_arg2) = m ((c.tc : Thread Cert.MlpDownBackRefIdeal.nD Cert.MlpDownBackRefIdeal.τ).loc Cert.MlpDownBackRefIdeal.main_arg2))
      ∧ r.2.sem = fun _ => 0)

def quiescent_MlpUpBack [hMlpUpBack : Cert.MlpUpBack.Facts] : Prop :=
  ∀ (m : (ℓ : Loc Cert.MlpUpBack.nD Cert.MlpUpBack.τ Cert.MlpUpBack.sig) → Buf (Elt Bits) ℓ) (g : Dev Cert.MlpUpBack.nD → PrngReg), Pre_MlpUpBack m →
    θ_run (Cert.MlpUpBack.defs (F := Bits)) (onTc (τ := Cert.MlpUpBack.τ) (Cert.MlpUpBack.main (F := Bits))) ⟨m, fun _ => 0, g⟩ (fun r => (∀ c : Dev Cert.MlpUpBack.nD,
      r.2.mem ((c.tc : Thread Cert.MlpUpBack.nD Cert.MlpUpBack.τ).loc Cert.MlpUpBack.main_arg0) = m ((c.tc : Thread Cert.MlpUpBack.nD Cert.MlpUpBack.τ).loc Cert.MlpUpBack.main_arg0)
      ∧ r.2.mem ((c.tc : Thread Cert.MlpUpBack.nD Cert.MlpUpBack.τ).loc Cert.MlpUpBack.main_arg1) = m ((c.tc : Thread Cert.MlpUpBack.nD Cert.MlpUpBack.τ).loc Cert.MlpUpBack.main_arg1))
      ∧ r.2.sem = fun _ => 0)

def quiescent_MlpUpBackIdeal [hMlpUpBackIdeal : Cert.MlpUpBackIdeal.Facts] : Prop :=
  ∀ (m : (ℓ : Loc Cert.MlpUpBackIdeal.nD Cert.MlpUpBackIdeal.τ Cert.MlpUpBackIdeal.sig) → Buf (Elt Ideal) ℓ) (g : Dev Cert.MlpUpBackIdeal.nD → PrngReg), Pre_MlpUpBackIdeal m →
    θ_run (Cert.MlpUpBackIdeal.defs (F := Ideal)) (onTc (τ := Cert.MlpUpBackIdeal.τ) (Cert.MlpUpBackIdeal.main (F := Ideal))) ⟨m, fun _ => 0, g⟩ (fun r => (∀ c : Dev Cert.MlpUpBackIdeal.nD,
      r.2.mem ((c.tc : Thread Cert.MlpUpBackIdeal.nD Cert.MlpUpBackIdeal.τ).loc Cert.MlpUpBackIdeal.main_arg0) = m ((c.tc : Thread Cert.MlpUpBackIdeal.nD Cert.MlpUpBackIdeal.τ).loc Cert.MlpUpBackIdeal.main_arg0)
      ∧ r.2.mem ((c.tc : Thread Cert.MlpUpBackIdeal.nD Cert.MlpUpBackIdeal.τ).loc Cert.MlpUpBackIdeal.main_arg1) = m ((c.tc : Thread Cert.MlpUpBackIdeal.nD Cert.MlpUpBackIdeal.τ).loc Cert.MlpUpBackIdeal.main_arg1))
      ∧ r.2.sem = fun _ => 0)

def quiescent_MlpUpBackRefIdeal [hMlpUpBackRefIdeal : Cert.MlpUpBackRefIdeal.Facts] : Prop :=
  ∀ (m : (ℓ : Loc Cert.MlpUpBackRefIdeal.nD Cert.MlpUpBackRefIdeal.τ Cert.MlpUpBackRefIdeal.sig) → Buf (Elt Ideal) ℓ) (g : Dev Cert.MlpUpBackRefIdeal.nD → PrngReg), Pre_MlpUpBackRefIdeal m →
    θ_run (Cert.MlpUpBackRefIdeal.defs (F := Ideal)) (onTc (τ := Cert.MlpUpBackRefIdeal.τ) (Cert.MlpUpBackRefIdeal.main (F := Ideal))) ⟨m, fun _ => 0, g⟩ (fun r => (∀ c : Dev Cert.MlpUpBackRefIdeal.nD,
      r.2.mem ((c.tc : Thread Cert.MlpUpBackRefIdeal.nD Cert.MlpUpBackRefIdeal.τ).loc Cert.MlpUpBackRefIdeal.main_arg0) = m ((c.tc : Thread Cert.MlpUpBackRefIdeal.nD Cert.MlpUpBackRefIdeal.τ).loc Cert.MlpUpBackRefIdeal.main_arg0)
      ∧ r.2.mem ((c.tc : Thread Cert.MlpUpBackRefIdeal.nD Cert.MlpUpBackRefIdeal.τ).loc Cert.MlpUpBackRefIdeal.main_arg1) = m ((c.tc : Thread Cert.MlpUpBackRefIdeal.nD Cert.MlpUpBackRefIdeal.τ).loc Cert.MlpUpBackRefIdeal.main_arg1))
      ∧ r.2.sem = fun _ => 0)

def quiescent_ProjInBack [hProjInBack : Cert.ProjInBack.Facts] : Prop :=
  ∀ (m : (ℓ : Loc Cert.ProjInBack.nD Cert.ProjInBack.τ Cert.ProjInBack.sig) → Buf (Elt Bits) ℓ) (g : Dev Cert.ProjInBack.nD → PrngReg), Pre_ProjInBack m →
    θ_run (Cert.ProjInBack.defs (F := Bits)) (onTc (τ := Cert.ProjInBack.τ) (Cert.ProjInBack.main (F := Bits))) ⟨m, fun _ => 0, g⟩ (fun r => (∀ c : Dev Cert.ProjInBack.nD,
      r.2.mem ((c.tc : Thread Cert.ProjInBack.nD Cert.ProjInBack.τ).loc Cert.ProjInBack.main_arg0) = m ((c.tc : Thread Cert.ProjInBack.nD Cert.ProjInBack.τ).loc Cert.ProjInBack.main_arg0)
      ∧ r.2.mem ((c.tc : Thread Cert.ProjInBack.nD Cert.ProjInBack.τ).loc Cert.ProjInBack.main_arg1) = m ((c.tc : Thread Cert.ProjInBack.nD Cert.ProjInBack.τ).loc Cert.ProjInBack.main_arg1))
      ∧ r.2.sem = fun _ => 0)

def quiescent_ProjInBackIdeal [hProjInBackIdeal : Cert.ProjInBackIdeal.Facts] : Prop :=
  ∀ (m : (ℓ : Loc Cert.ProjInBackIdeal.nD Cert.ProjInBackIdeal.τ Cert.ProjInBackIdeal.sig) → Buf (Elt Ideal) ℓ) (g : Dev Cert.ProjInBackIdeal.nD → PrngReg), Pre_ProjInBackIdeal m →
    θ_run (Cert.ProjInBackIdeal.defs (F := Ideal)) (onTc (τ := Cert.ProjInBackIdeal.τ) (Cert.ProjInBackIdeal.main (F := Ideal))) ⟨m, fun _ => 0, g⟩ (fun r => (∀ c : Dev Cert.ProjInBackIdeal.nD,
      r.2.mem ((c.tc : Thread Cert.ProjInBackIdeal.nD Cert.ProjInBackIdeal.τ).loc Cert.ProjInBackIdeal.main_arg0) = m ((c.tc : Thread Cert.ProjInBackIdeal.nD Cert.ProjInBackIdeal.τ).loc Cert.ProjInBackIdeal.main_arg0)
      ∧ r.2.mem ((c.tc : Thread Cert.ProjInBackIdeal.nD Cert.ProjInBackIdeal.τ).loc Cert.ProjInBackIdeal.main_arg1) = m ((c.tc : Thread Cert.ProjInBackIdeal.nD Cert.ProjInBackIdeal.τ).loc Cert.ProjInBackIdeal.main_arg1))
      ∧ r.2.sem = fun _ => 0)

def quiescent_ProjInBackRefIdeal [hProjInBackRefIdeal : Cert.ProjInBackRefIdeal.Facts] : Prop :=
  ∀ (m : (ℓ : Loc Cert.ProjInBackRefIdeal.nD Cert.ProjInBackRefIdeal.τ Cert.ProjInBackRefIdeal.sig) → Buf (Elt Ideal) ℓ) (g : Dev Cert.ProjInBackRefIdeal.nD → PrngReg), Pre_ProjInBackRefIdeal m →
    θ_run (Cert.ProjInBackRefIdeal.defs (F := Ideal)) (onTc (τ := Cert.ProjInBackRefIdeal.τ) (Cert.ProjInBackRefIdeal.main (F := Ideal))) ⟨m, fun _ => 0, g⟩ (fun r => (∀ c : Dev Cert.ProjInBackRefIdeal.nD,
      r.2.mem ((c.tc : Thread Cert.ProjInBackRefIdeal.nD Cert.ProjInBackRefIdeal.τ).loc Cert.ProjInBackRefIdeal.main_arg0) = m ((c.tc : Thread Cert.ProjInBackRefIdeal.nD Cert.ProjInBackRefIdeal.τ).loc Cert.ProjInBackRefIdeal.main_arg0)
      ∧ r.2.mem ((c.tc : Thread Cert.ProjInBackRefIdeal.nD Cert.ProjInBackRefIdeal.τ).loc Cert.ProjInBackRefIdeal.main_arg1) = m ((c.tc : Thread Cert.ProjInBackRefIdeal.nD Cert.ProjInBackRefIdeal.τ).loc Cert.ProjInBackRefIdeal.main_arg1))
      ∧ r.2.sem = fun _ => 0)

def quiescent_ProjOutBack [hProjOutBack : Cert.ProjOutBack.Facts] : Prop :=
  ∀ (m : (ℓ : Loc Cert.ProjOutBack.nD Cert.ProjOutBack.τ Cert.ProjOutBack.sig) → Buf (Elt Bits) ℓ) (g : Dev Cert.ProjOutBack.nD → PrngReg), Pre_ProjOutBack m →
    θ_run (Cert.ProjOutBack.defs (F := Bits)) (onTc (τ := Cert.ProjOutBack.τ) (Cert.ProjOutBack.main (F := Bits))) ⟨m, fun _ => 0, g⟩ (fun r => (∀ c : Dev Cert.ProjOutBack.nD,
      r.2.mem ((c.tc : Thread Cert.ProjOutBack.nD Cert.ProjOutBack.τ).loc Cert.ProjOutBack.main_arg0) = m ((c.tc : Thread Cert.ProjOutBack.nD Cert.ProjOutBack.τ).loc Cert.ProjOutBack.main_arg0)
      ∧ r.2.mem ((c.tc : Thread Cert.ProjOutBack.nD Cert.ProjOutBack.τ).loc Cert.ProjOutBack.main_arg1) = m ((c.tc : Thread Cert.ProjOutBack.nD Cert.ProjOutBack.τ).loc Cert.ProjOutBack.main_arg1))
      ∧ r.2.sem = fun _ => 0)

def quiescent_ProjOutBackIdeal [hProjOutBackIdeal : Cert.ProjOutBackIdeal.Facts] : Prop :=
  ∀ (m : (ℓ : Loc Cert.ProjOutBackIdeal.nD Cert.ProjOutBackIdeal.τ Cert.ProjOutBackIdeal.sig) → Buf (Elt Ideal) ℓ) (g : Dev Cert.ProjOutBackIdeal.nD → PrngReg), Pre_ProjOutBackIdeal m →
    θ_run (Cert.ProjOutBackIdeal.defs (F := Ideal)) (onTc (τ := Cert.ProjOutBackIdeal.τ) (Cert.ProjOutBackIdeal.main (F := Ideal))) ⟨m, fun _ => 0, g⟩ (fun r => (∀ c : Dev Cert.ProjOutBackIdeal.nD,
      r.2.mem ((c.tc : Thread Cert.ProjOutBackIdeal.nD Cert.ProjOutBackIdeal.τ).loc Cert.ProjOutBackIdeal.main_arg0) = m ((c.tc : Thread Cert.ProjOutBackIdeal.nD Cert.ProjOutBackIdeal.τ).loc Cert.ProjOutBackIdeal.main_arg0)
      ∧ r.2.mem ((c.tc : Thread Cert.ProjOutBackIdeal.nD Cert.ProjOutBackIdeal.τ).loc Cert.ProjOutBackIdeal.main_arg1) = m ((c.tc : Thread Cert.ProjOutBackIdeal.nD Cert.ProjOutBackIdeal.τ).loc Cert.ProjOutBackIdeal.main_arg1))
      ∧ r.2.sem = fun _ => 0)

def quiescent_ProjOutBackRefIdeal [hProjOutBackRefIdeal : Cert.ProjOutBackRefIdeal.Facts] : Prop :=
  ∀ (m : (ℓ : Loc Cert.ProjOutBackRefIdeal.nD Cert.ProjOutBackRefIdeal.τ Cert.ProjOutBackRefIdeal.sig) → Buf (Elt Ideal) ℓ) (g : Dev Cert.ProjOutBackRefIdeal.nD → PrngReg), Pre_ProjOutBackRefIdeal m →
    θ_run (Cert.ProjOutBackRefIdeal.defs (F := Ideal)) (onTc (τ := Cert.ProjOutBackRefIdeal.τ) (Cert.ProjOutBackRefIdeal.main (F := Ideal))) ⟨m, fun _ => 0, g⟩ (fun r => (∀ c : Dev Cert.ProjOutBackRefIdeal.nD,
      r.2.mem ((c.tc : Thread Cert.ProjOutBackRefIdeal.nD Cert.ProjOutBackRefIdeal.τ).loc Cert.ProjOutBackRefIdeal.main_arg0) = m ((c.tc : Thread Cert.ProjOutBackRefIdeal.nD Cert.ProjOutBackRefIdeal.τ).loc Cert.ProjOutBackRefIdeal.main_arg0)
      ∧ r.2.mem ((c.tc : Thread Cert.ProjOutBackRefIdeal.nD Cert.ProjOutBackRefIdeal.τ).loc Cert.ProjOutBackRefIdeal.main_arg1) = m ((c.tc : Thread Cert.ProjOutBackRefIdeal.nD Cert.ProjOutBackRefIdeal.τ).loc Cert.ProjOutBackRefIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutRefIdeal [hGradOutRefIdeal : Cert.GradOutRefIdeal.Facts] : Prop :=
  ∀ (m : (ℓ : Loc Cert.GradOutRefIdeal.nD Cert.GradOutRefIdeal.τ Cert.GradOutRefIdeal.sig) → Buf (Elt Ideal) ℓ) (g : Dev Cert.GradOutRefIdeal.nD → PrngReg), Pre_GradOutRefIdeal m →
    θ_run (Cert.GradOutRefIdeal.defs (F := Ideal)) (onTc (τ := Cert.GradOutRefIdeal.τ) (Cert.GradOutRefIdeal.main (F := Ideal))) ⟨m, fun _ => 0, g⟩ (fun r => (∀ c : Dev Cert.GradOutRefIdeal.nD,
      r.2.mem ((c.tc : Thread Cert.GradOutRefIdeal.nD Cert.GradOutRefIdeal.τ).loc Cert.GradOutRefIdeal.main_arg0) = m ((c.tc : Thread Cert.GradOutRefIdeal.nD Cert.GradOutRefIdeal.τ).loc Cert.GradOutRefIdeal.main_arg0)
      ∧ r.2.mem ((c.tc : Thread Cert.GradOutRefIdeal.nD Cert.GradOutRefIdeal.τ).loc Cert.GradOutRefIdeal.main_arg1) = m ((c.tc : Thread Cert.GradOutRefIdeal.nD Cert.GradOutRefIdeal.τ).loc Cert.GradOutRefIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownRefIdeal [hGradDownRefIdeal : Cert.GradDownRefIdeal.Facts] : Prop :=
  ∀ (m : (ℓ : Loc Cert.GradDownRefIdeal.nD Cert.GradDownRefIdeal.τ Cert.GradDownRefIdeal.sig) → Buf (Elt Ideal) ℓ) (g : Dev Cert.GradDownRefIdeal.nD → PrngReg), Pre_GradDownRefIdeal m →
    θ_run (Cert.GradDownRefIdeal.defs (F := Ideal)) (onTc (τ := Cert.GradDownRefIdeal.τ) (Cert.GradDownRefIdeal.main (F := Ideal))) ⟨m, fun _ => 0, g⟩ (fun r => (∀ c : Dev Cert.GradDownRefIdeal.nD,
      r.2.mem ((c.tc : Thread Cert.GradDownRefIdeal.nD Cert.GradDownRefIdeal.τ).loc Cert.GradDownRefIdeal.main_arg0) = m ((c.tc : Thread Cert.GradDownRefIdeal.nD Cert.GradDownRefIdeal.τ).loc Cert.GradDownRefIdeal.main_arg0)
      ∧ r.2.mem ((c.tc : Thread Cert.GradDownRefIdeal.nD Cert.GradDownRefIdeal.τ).loc Cert.GradDownRefIdeal.main_arg1) = m ((c.tc : Thread Cert.GradDownRefIdeal.nD Cert.GradDownRefIdeal.τ).loc Cert.GradDownRefIdeal.main_arg1))
      ∧ r.2.sem = fun _ => 0)

def quiescent_MlpNormBack [hMlpNormBack : Cert.MlpNormBack.Facts] : Prop :=
  ∀ (m : (ℓ : Loc Cert.MlpNormBack.nD Cert.MlpNormBack.τ Cert.MlpNormBack.sig) → Buf (Elt Bits) ℓ) (g : Dev Cert.MlpNormBack.nD → PrngReg), Pre_MlpNormBack m →
    θ_run (Cert.MlpNormBack.defs (F := Bits)) (onTc (τ := Cert.MlpNormBack.τ) (Cert.MlpNormBack.main (F := Bits))) ⟨m, fun _ => 0, g⟩ (fun r => (∀ c : Dev Cert.MlpNormBack.nD,
      r.2.mem ((c.tc : Thread Cert.MlpNormBack.nD Cert.MlpNormBack.τ).loc Cert.MlpNormBack.main_arg0) = m ((c.tc : Thread Cert.MlpNormBack.nD Cert.MlpNormBack.τ).loc Cert.MlpNormBack.main_arg0)
      ∧ r.2.mem ((c.tc : Thread Cert.MlpNormBack.nD Cert.MlpNormBack.τ).loc Cert.MlpNormBack.main_arg1) = m ((c.tc : Thread Cert.MlpNormBack.nD Cert.MlpNormBack.τ).loc Cert.MlpNormBack.main_arg1)
      ∧ r.2.mem ((c.tc : Thread Cert.MlpNormBack.nD Cert.MlpNormBack.τ).loc Cert.MlpNormBack.main_arg2) = m ((c.tc : Thread Cert.MlpNormBack.nD Cert.MlpNormBack.τ).loc Cert.MlpNormBack.main_arg2)
      ∧ r.2.mem ((c.tc : Thread Cert.MlpNormBack.nD Cert.MlpNormBack.τ).loc Cert.MlpNormBack.main_arg3) = m ((c.tc : Thread Cert.MlpNormBack.nD Cert.MlpNormBack.τ).loc Cert.MlpNormBack.main_arg3))
      ∧ r.2.sem = fun _ => 0)

def quiescent_MlpNormBackIdeal [hMlpNormBackIdeal : Cert.MlpNormBackIdeal.Facts] : Prop :=
  ∀ (m : (ℓ : Loc Cert.MlpNormBackIdeal.nD Cert.MlpNormBackIdeal.τ Cert.MlpNormBackIdeal.sig) → Buf (Elt Ideal) ℓ) (g : Dev Cert.MlpNormBackIdeal.nD → PrngReg), Pre_MlpNormBackIdeal m →
    θ_run (Cert.MlpNormBackIdeal.defs (F := Ideal)) (onTc (τ := Cert.MlpNormBackIdeal.τ) (Cert.MlpNormBackIdeal.main (F := Ideal))) ⟨m, fun _ => 0, g⟩ (fun r => (∀ c : Dev Cert.MlpNormBackIdeal.nD,
      r.2.mem ((c.tc : Thread Cert.MlpNormBackIdeal.nD Cert.MlpNormBackIdeal.τ).loc Cert.MlpNormBackIdeal.main_arg0) = m ((c.tc : Thread Cert.MlpNormBackIdeal.nD Cert.MlpNormBackIdeal.τ).loc Cert.MlpNormBackIdeal.main_arg0)
      ∧ r.2.mem ((c.tc : Thread Cert.MlpNormBackIdeal.nD Cert.MlpNormBackIdeal.τ).loc Cert.MlpNormBackIdeal.main_arg1) = m ((c.tc : Thread Cert.MlpNormBackIdeal.nD Cert.MlpNormBackIdeal.τ).loc Cert.MlpNormBackIdeal.main_arg1)
      ∧ r.2.mem ((c.tc : Thread Cert.MlpNormBackIdeal.nD Cert.MlpNormBackIdeal.τ).loc Cert.MlpNormBackIdeal.main_arg2) = m ((c.tc : Thread Cert.MlpNormBackIdeal.nD Cert.MlpNormBackIdeal.τ).loc Cert.MlpNormBackIdeal.main_arg2)
      ∧ r.2.mem ((c.tc : Thread Cert.MlpNormBackIdeal.nD Cert.MlpNormBackIdeal.τ).loc Cert.MlpNormBackIdeal.main_arg3) = m ((c.tc : Thread Cert.MlpNormBackIdeal.nD Cert.MlpNormBackIdeal.τ).loc Cert.MlpNormBackIdeal.main_arg3))
      ∧ r.2.sem = fun _ => 0)

def quiescent_MlpNormBackRefIdeal [hMlpNormBackRefIdeal : Cert.MlpNormBackRefIdeal.Facts] : Prop :=
  ∀ (m : (ℓ : Loc Cert.MlpNormBackRefIdeal.nD Cert.MlpNormBackRefIdeal.τ Cert.MlpNormBackRefIdeal.sig) → Buf (Elt Ideal) ℓ) (g : Dev Cert.MlpNormBackRefIdeal.nD → PrngReg), Pre_MlpNormBackRefIdeal m →
    θ_run (Cert.MlpNormBackRefIdeal.defs (F := Ideal)) (onTc (τ := Cert.MlpNormBackRefIdeal.τ) (Cert.MlpNormBackRefIdeal.main (F := Ideal))) ⟨m, fun _ => 0, g⟩ (fun r => (∀ c : Dev Cert.MlpNormBackRefIdeal.nD,
      r.2.mem ((c.tc : Thread Cert.MlpNormBackRefIdeal.nD Cert.MlpNormBackRefIdeal.τ).loc Cert.MlpNormBackRefIdeal.main_arg0) = m ((c.tc : Thread Cert.MlpNormBackRefIdeal.nD Cert.MlpNormBackRefIdeal.τ).loc Cert.MlpNormBackRefIdeal.main_arg0)
      ∧ r.2.mem ((c.tc : Thread Cert.MlpNormBackRefIdeal.nD Cert.MlpNormBackRefIdeal.τ).loc Cert.MlpNormBackRefIdeal.main_arg1) = m ((c.tc : Thread Cert.MlpNormBackRefIdeal.nD Cert.MlpNormBackRefIdeal.τ).loc Cert.MlpNormBackRefIdeal.main_arg1)
      ∧ r.2.mem ((c.tc : Thread Cert.MlpNormBackRefIdeal.nD Cert.MlpNormBackRefIdeal.τ).loc Cert.MlpNormBackRefIdeal.main_arg2) = m ((c.tc : Thread Cert.MlpNormBackRefIdeal.nD Cert.MlpNormBackRefIdeal.τ).loc Cert.MlpNormBackRefIdeal.main_arg2)
      ∧ r.2.mem ((c.tc : Thread Cert.MlpNormBackRefIdeal.nD Cert.MlpNormBackRefIdeal.τ).loc Cert.MlpNormBackRefIdeal.main_arg3) = m ((c.tc : Thread Cert.MlpNormBackRefIdeal.nD Cert.MlpNormBackRefIdeal.τ).loc Cert.MlpNormBackRefIdeal.main_arg3))
      ∧ r.2.sem = fun _ => 0)

def quiescent_CastIn [hCastIn : Cert.CastIn.Facts] : Prop :=
  ∀ (m : (ℓ : Loc Cert.CastIn.nD Cert.CastIn.τ Cert.CastIn.sig) → Buf (Elt Bits) ℓ) (g : Dev Cert.CastIn.nD → PrngReg), Pre_CastIn m →
    θ_run (Cert.CastIn.defs (F := Bits)) (onTc (τ := Cert.CastIn.τ) (Cert.CastIn.main (F := Bits))) ⟨m, fun _ => 0, g⟩ (fun r => (∀ c : Dev Cert.CastIn.nD,
      r.2.mem ((c.tc : Thread Cert.CastIn.nD Cert.CastIn.τ).loc Cert.CastIn.main_arg0) = m ((c.tc : Thread Cert.CastIn.nD Cert.CastIn.τ).loc Cert.CastIn.main_arg0))
      ∧ r.2.sem = fun _ => 0)

def quiescent_CastInIdeal [hCastInIdeal : Cert.CastInIdeal.Facts] : Prop :=
  ∀ (m : (ℓ : Loc Cert.CastInIdeal.nD Cert.CastInIdeal.τ Cert.CastInIdeal.sig) → Buf (Elt Ideal) ℓ) (g : Dev Cert.CastInIdeal.nD → PrngReg), Pre_CastInIdeal m →
    θ_run (Cert.CastInIdeal.defs (F := Ideal)) (onTc (τ := Cert.CastInIdeal.τ) (Cert.CastInIdeal.main (F := Ideal))) ⟨m, fun _ => 0, g⟩ (fun r => (∀ c : Dev Cert.CastInIdeal.nD,
      r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ r.2.sem = fun _ => 0)

def quiescent_CastInRefIdeal [hCastInRefIdeal : Cert.CastInRefIdeal.Facts] : Prop :=
  ∀ (m : (ℓ : Loc Cert.CastInRefIdeal.nD Cert.CastInRefIdeal.τ Cert.CastInRefIdeal.sig) → Buf (Elt Ideal) ℓ) (g : Dev Cert.CastInRefIdeal.nD → PrngReg), Pre_CastInRefIdeal m →
    θ_run (Cert.CastInRefIdeal.defs (F := Ideal)) (onTc (τ := Cert.CastInRefIdeal.τ) (Cert.CastInRefIdeal.main (F := Ideal))) ⟨m, fun _ => 0, g⟩ (fun r => (∀ c : Dev Cert.CastInRefIdeal.nD,
      r.2.mem ((c.tc : Thread Cert.CastInRefIdeal.nD Cert.CastInRefIdeal.τ).loc Cert.CastInRefIdeal.main_arg0) = m ((c.tc : Thread Cert.CastInRefIdeal.nD Cert.CastInRefIdeal.τ).loc Cert.CastInRefIdeal.main_arg0))
      ∧ r.2.sem = fun _ => 0)

def quiescent_CastOut [hCastOut : Cert.CastOut.Facts] : Prop :=
  ∀ (m : (ℓ : Loc Cert.CastOut.nD Cert.CastOut.τ Cert.CastOut.sig) → Buf (Elt Bits) ℓ) (g : Dev Cert.CastOut.nD → PrngReg), Pre_CastOut m →
    θ_run (Cert.CastOut.defs (F := Bits)) (onTc (τ := Cert.CastOut.τ) (Cert.CastOut.main (F := Bits))) ⟨m, fun _ => 0, g⟩ (fun r => (∀ c : Dev Cert.CastOut.nD,
      r.2.mem ((c.tc : Thread Cert.CastOut.nD Cert.CastOut.τ).loc Cert.CastOut.main_arg0) = m ((c.tc : Thread Cert.CastOut.nD Cert.CastOut.τ).loc Cert.CastOut.main_arg0))
      ∧ r.2.sem = fun _ => 0)

def quiescent_CastOutIdeal [hCastOutIdeal : Cert.CastOutIdeal.Facts] : Prop :=
  ∀ (m : (ℓ : Loc Cert.CastOutIdeal.nD Cert.CastOutIdeal.τ Cert.CastOutIdeal.sig) → Buf (Elt Ideal) ℓ) (g : Dev Cert.CastOutIdeal.nD → PrngReg), Pre_CastOutIdeal m →
    θ_run (Cert.CastOutIdeal.defs (F := Ideal)) (onTc (τ := Cert.CastOutIdeal.τ) (Cert.CastOutIdeal.main (F := Ideal))) ⟨m, fun _ => 0, g⟩ (fun r => (∀ c : Dev Cert.CastOutIdeal.nD,
      r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ r.2.sem = fun _ => 0)

def quiescent_CastOutRefIdeal [hCastOutRefIdeal : Cert.CastOutRefIdeal.Facts] : Prop :=
  ∀ (m : (ℓ : Loc Cert.CastOutRefIdeal.nD Cert.CastOutRefIdeal.τ Cert.CastOutRefIdeal.sig) → Buf (Elt Ideal) ℓ) (g : Dev Cert.CastOutRefIdeal.nD → PrngReg), Pre_CastOutRefIdeal m →
    θ_run (Cert.CastOutRefIdeal.defs (F := Ideal)) (onTc (τ := Cert.CastOutRefIdeal.τ) (Cert.CastOutRefIdeal.main (F := Ideal))) ⟨m, fun _ => 0, g⟩ (fun r => (∀ c : Dev Cert.CastOutRefIdeal.nD,
      r.2.mem ((c.tc : Thread Cert.CastOutRefIdeal.nD Cert.CastOutRefIdeal.τ).loc Cert.CastOutRefIdeal.main_arg0) = m ((c.tc : Thread Cert.CastOutRefIdeal.nD Cert.CastOutRefIdeal.τ).loc Cert.CastOutRefIdeal.main_arg0))
      ∧ r.2.sem = fun _ => 0)

def quiescent_CastMlp [hCastMlp : Cert.CastMlp.Facts] : Prop :=
  ∀ (m : (ℓ : Loc Cert.CastMlp.nD Cert.CastMlp.τ Cert.CastMlp.sig) → Buf (Elt Bits) ℓ) (g : Dev Cert.CastMlp.nD → PrngReg), Pre_CastMlp m →
    θ_run (Cert.CastMlp.defs (F := Bits)) (onTc (τ := Cert.CastMlp.τ) (Cert.CastMlp.main (F := Bits))) ⟨m, fun _ => 0, g⟩ (fun r => (∀ c : Dev Cert.CastMlp.nD,
      r.2.mem ((c.tc : Thread Cert.CastMlp.nD Cert.CastMlp.τ).loc Cert.CastMlp.main_arg0) = m ((c.tc : Thread Cert.CastMlp.nD Cert.CastMlp.τ).loc Cert.CastMlp.main_arg0))
      ∧ r.2.sem = fun _ => 0)

def quiescent_CastMlpIdeal [hCastMlpIdeal : Cert.CastMlpIdeal.Facts] : Prop :=
  ∀ (m : (ℓ : Loc Cert.CastMlpIdeal.nD Cert.CastMlpIdeal.τ Cert.CastMlpIdeal.sig) → Buf (Elt Ideal) ℓ) (g : Dev Cert.CastMlpIdeal.nD → PrngReg), Pre_CastMlpIdeal m →
    θ_run (Cert.CastMlpIdeal.defs (F := Ideal)) (onTc (τ := Cert.CastMlpIdeal.τ) (Cert.CastMlpIdeal.main (F := Ideal))) ⟨m, fun _ => 0, g⟩ (fun r => (∀ c : Dev Cert.CastMlpIdeal.nD,
      r.2.mem ((c.tc : Thread Cert.CastMlpIdeal.nD Cert.CastMlpIdeal.τ).loc Cert.CastMlpIdeal.main_arg0) = m ((c.tc : Thread Cert.CastMlpIdeal.nD Cert.CastMlpIdeal.τ).loc Cert.CastMlpIdeal.main_arg0))
      ∧ r.2.sem = fun _ => 0)

def quiescent_CastMlpRefIdeal [hCastMlpRefIdeal : Cert.CastMlpRefIdeal.Facts] : Prop :=
  ∀ (m : (ℓ : Loc Cert.CastMlpRefIdeal.nD Cert.CastMlpRefIdeal.τ Cert.CastMlpRefIdeal.sig) → Buf (Elt Ideal) ℓ) (g : Dev Cert.CastMlpRefIdeal.nD → PrngReg), Pre_CastMlpRefIdeal m →
    θ_run (Cert.CastMlpRefIdeal.defs (F := Ideal)) (onTc (τ := Cert.CastMlpRefIdeal.τ) (Cert.CastMlpRefIdeal.main (F := Ideal))) ⟨m, fun _ => 0, g⟩ (fun r => (∀ c : Dev Cert.CastMlpRefIdeal.nD,
      r.2.mem ((c.tc : Thread Cert.CastMlpRefIdeal.nD Cert.CastMlpRefIdeal.τ).loc Cert.CastMlpRefIdeal.main_arg0) = m ((c.tc : Thread Cert.CastMlpRefIdeal.nD Cert.CastMlpRefIdeal.τ).loc Cert.CastMlpRefIdeal.main_arg0))
      ∧ r.2.sem = fun _ => 0)

def quiescent_HeadNormBack [hHeadNormBack : Cert.HeadNormBack.Facts] : Prop :=
  ∀ (m : (ℓ : Loc Cert.HeadNormBack.nD Cert.HeadNormBack.τ Cert.HeadNormBack.sig) → Buf (Elt Bits) ℓ) (g : Dev Cert.HeadNormBack.nD → PrngReg), Pre_HeadNormBack m →
    θ_run (Cert.HeadNormBack.defs (F := Bits)) (onTc (τ := Cert.HeadNormBack.τ) (Cert.HeadNormBack.main (F := Bits))) ⟨m, fun _ => 0, g⟩ (fun r => (∀ c : Dev Cert.HeadNormBack.nD,
      r.2.mem ((c.tc : Thread Cert.HeadNormBack.nD Cert.HeadNormBack.τ).loc Cert.HeadNormBack.main_arg0) = m ((c.tc : Thread Cert.HeadNormBack.nD Cert.HeadNormBack.τ).loc Cert.HeadNormBack.main_arg0)
      ∧ r.2.mem ((c.tc : Thread Cert.HeadNormBack.nD Cert.HeadNormBack.τ).loc Cert.HeadNormBack.main_arg1) = m ((c.tc : Thread Cert.HeadNormBack.nD Cert.HeadNormBack.τ).loc Cert.HeadNormBack.main_arg1)
      ∧ r.2.mem ((c.tc : Thread Cert.HeadNormBack.nD Cert.HeadNormBack.τ).loc Cert.HeadNormBack.main_arg2) = m ((c.tc : Thread Cert.HeadNormBack.nD Cert.HeadNormBack.τ).loc Cert.HeadNormBack.main_arg2))
      ∧ r.2.sem = fun _ => 0)

def quiescent_HeadNormBackIdeal [hHeadNormBackIdeal : Cert.HeadNormBackIdeal.Facts] : Prop :=
  ∀ (m : (ℓ : Loc Cert.HeadNormBackIdeal.nD Cert.HeadNormBackIdeal.τ Cert.HeadNormBackIdeal.sig) → Buf (Elt Ideal) ℓ) (g : Dev Cert.HeadNormBackIdeal.nD → PrngReg), Pre_HeadNormBackIdeal m →
    θ_run (Cert.HeadNormBackIdeal.defs (F := Ideal)) (onTc (τ := Cert.HeadNormBackIdeal.τ) (Cert.HeadNormBackIdeal.main (F := Ideal))) ⟨m, fun _ => 0, g⟩ (fun r => (∀ c : Dev Cert.HeadNormBackIdeal.nD,
      r.2.mem ((c.tc : Thread Cert.HeadNormBackIdeal.nD Cert.HeadNormBackIdeal.τ).loc Cert.HeadNormBackIdeal.main_arg0) = m ((c.tc : Thread Cert.HeadNormBackIdeal.nD Cert.HeadNormBackIdeal.τ).loc Cert.HeadNormBackIdeal.main_arg0)
      ∧ r.2.mem ((c.tc : Thread Cert.HeadNormBackIdeal.nD Cert.HeadNormBackIdeal.τ).loc Cert.HeadNormBackIdeal.main_arg1) = m ((c.tc : Thread Cert.HeadNormBackIdeal.nD Cert.HeadNormBackIdeal.τ).loc Cert.HeadNormBackIdeal.main_arg1)
      ∧ r.2.mem ((c.tc : Thread Cert.HeadNormBackIdeal.nD Cert.HeadNormBackIdeal.τ).loc Cert.HeadNormBackIdeal.main_arg2) = m ((c.tc : Thread Cert.HeadNormBackIdeal.nD Cert.HeadNormBackIdeal.τ).loc Cert.HeadNormBackIdeal.main_arg2))
      ∧ r.2.sem = fun _ => 0)

def quiescent_HeadNormBackRefIdeal [hHeadNormBackRefIdeal : Cert.HeadNormBackRefIdeal.Facts] : Prop :=
  ∀ (m : (ℓ : Loc Cert.HeadNormBackRefIdeal.nD Cert.HeadNormBackRefIdeal.τ Cert.HeadNormBackRefIdeal.sig) → Buf (Elt Ideal) ℓ) (g : Dev Cert.HeadNormBackRefIdeal.nD → PrngReg), Pre_HeadNormBackRefIdeal m →
    θ_run (Cert.HeadNormBackRefIdeal.defs (F := Ideal)) (onTc (τ := Cert.HeadNormBackRefIdeal.τ) (Cert.HeadNormBackRefIdeal.main (F := Ideal))) ⟨m, fun _ => 0, g⟩ (fun r => (∀ c : Dev Cert.HeadNormBackRefIdeal.nD,
      r.2.mem ((c.tc : Thread Cert.HeadNormBackRefIdeal.nD Cert.HeadNormBackRefIdeal.τ).loc Cert.HeadNormBackRefIdeal.main_arg0) = m ((c.tc : Thread Cert.HeadNormBackRefIdeal.nD Cert.HeadNormBackRefIdeal.τ).loc Cert.HeadNormBackRefIdeal.main_arg0)
      ∧ r.2.mem ((c.tc : Thread Cert.HeadNormBackRefIdeal.nD Cert.HeadNormBackRefIdeal.τ).loc Cert.HeadNormBackRefIdeal.main_arg1) = m ((c.tc : Thread Cert.HeadNormBackRefIdeal.nD Cert.HeadNormBackRefIdeal.τ).loc Cert.HeadNormBackRefIdeal.main_arg1)
      ∧ r.2.mem ((c.tc : Thread Cert.HeadNormBackRefIdeal.nD Cert.HeadNormBackRefIdeal.τ).loc Cert.HeadNormBackRefIdeal.main_arg2) = m ((c.tc : Thread Cert.HeadNormBackRefIdeal.nD Cert.HeadNormBackRefIdeal.τ).loc Cert.HeadNormBackRefIdeal.main_arg2))
      ∧ r.2.sem = fun _ => 0)

def quiescent_GateNormBack [hGateNormBack : Cert.GateNormBack.Facts] : Prop :=
  ∀ (m : (ℓ : Loc Cert.GateNormBack.nD Cert.GateNormBack.τ Cert.GateNormBack.sig) → Buf (Elt Bits) ℓ) (g : Dev Cert.GateNormBack.nD → PrngReg), Pre_GateNormBack m →
    θ_run (Cert.GateNormBack.defs (F := Bits)) (onTc (τ := Cert.GateNormBack.τ) (Cert.GateNormBack.main (F := Bits))) ⟨m, fun _ => 0, g⟩ (fun r => (∀ c : Dev Cert.GateNormBack.nD,
      r.2.mem ((c.tc : Thread Cert.GateNormBack.nD Cert.GateNormBack.τ).loc Cert.GateNormBack.main_arg0) = m ((c.tc : Thread Cert.GateNormBack.nD Cert.GateNormBack.τ).loc Cert.GateNormBack.main_arg0)
      ∧ r.2.mem ((c.tc : Thread Cert.GateNormBack.nD Cert.GateNormBack.τ).loc Cert.GateNormBack.main_arg1) = m ((c.tc : Thread Cert.GateNormBack.nD Cert.GateNormBack.τ).loc Cert.GateNormBack.main_arg1)
      ∧ r.2.mem ((c.tc : Thread Cert.GateNormBack.nD Cert.GateNormBack.τ).loc Cert.GateNormBack.main_arg2) = m ((c.tc : Thread Cert.GateNormBack.nD Cert.GateNormBack.τ).loc Cert.GateNormBack.main_arg2)
      ∧ r.2.mem ((c.tc : Thread Cert.GateNormBack.nD Cert.GateNormBack.τ).loc Cert.GateNormBack.main_arg3) = m ((c.tc : Thread Cert.GateNormBack.nD Cert.GateNormBack.τ).loc Cert.GateNormBack.main_arg3))
      ∧ r.2.sem = fun _ => 0)

def quiescent_GateNormBackIdeal [hGateNormBackIdeal : Cert.GateNormBackIdeal.Facts] : Prop :=
  ∀ (m : (ℓ : Loc Cert.GateNormBackIdeal.nD Cert.GateNormBackIdeal.τ Cert.GateNormBackIdeal.sig) → Buf (Elt Ideal) ℓ) (g : Dev Cert.GateNormBackIdeal.nD → PrngReg), Pre_GateNormBackIdeal m →
    θ_run (Cert.GateNormBackIdeal.defs (F := Ideal)) (onTc (τ := Cert.GateNormBackIdeal.τ) (Cert.GateNormBackIdeal.main (F := Ideal))) ⟨m, fun _ => 0, g⟩ (fun r => (∀ c : Dev Cert.GateNormBackIdeal.nD,
      r.2.mem ((c.tc : Thread Cert.GateNormBackIdeal.nD Cert.GateNormBackIdeal.τ).loc Cert.GateNormBackIdeal.main_arg0) = m ((c.tc : Thread Cert.GateNormBackIdeal.nD Cert.GateNormBackIdeal.τ).loc Cert.GateNormBackIdeal.main_arg0)
      ∧ r.2.mem ((c.tc : Thread Cert.GateNormBackIdeal.nD Cert.GateNormBackIdeal.τ).loc Cert.GateNormBackIdeal.main_arg1) = m ((c.tc : Thread Cert.GateNormBackIdeal.nD Cert.GateNormBackIdeal.τ).loc Cert.GateNormBackIdeal.main_arg1)
      ∧ r.2.mem ((c.tc : Thread Cert.GateNormBackIdeal.nD Cert.GateNormBackIdeal.τ).loc Cert.GateNormBackIdeal.main_arg2) = m ((c.tc : Thread Cert.GateNormBackIdeal.nD Cert.GateNormBackIdeal.τ).loc Cert.GateNormBackIdeal.main_arg2)
      ∧ r.2.mem ((c.tc : Thread Cert.GateNormBackIdeal.nD Cert.GateNormBackIdeal.τ).loc Cert.GateNormBackIdeal.main_arg3) = m ((c.tc : Thread Cert.GateNormBackIdeal.nD Cert.GateNormBackIdeal.τ).loc Cert.GateNormBackIdeal.main_arg3))
      ∧ r.2.sem = fun _ => 0)

def quiescent_GateNormBackRefIdeal [hGateNormBackRefIdeal : Cert.GateNormBackRefIdeal.Facts] : Prop :=
  ∀ (m : (ℓ : Loc Cert.GateNormBackRefIdeal.nD Cert.GateNormBackRefIdeal.τ Cert.GateNormBackRefIdeal.sig) → Buf (Elt Ideal) ℓ) (g : Dev Cert.GateNormBackRefIdeal.nD → PrngReg), Pre_GateNormBackRefIdeal m →
    θ_run (Cert.GateNormBackRefIdeal.defs (F := Ideal)) (onTc (τ := Cert.GateNormBackRefIdeal.τ) (Cert.GateNormBackRefIdeal.main (F := Ideal))) ⟨m, fun _ => 0, g⟩ (fun r => (∀ c : Dev Cert.GateNormBackRefIdeal.nD,
      r.2.mem ((c.tc : Thread Cert.GateNormBackRefIdeal.nD Cert.GateNormBackRefIdeal.τ).loc Cert.GateNormBackRefIdeal.main_arg0) = m ((c.tc : Thread Cert.GateNormBackRefIdeal.nD Cert.GateNormBackRefIdeal.τ).loc Cert.GateNormBackRefIdeal.main_arg0)
      ∧ r.2.mem ((c.tc : Thread Cert.GateNormBackRefIdeal.nD Cert.GateNormBackRefIdeal.τ).loc Cert.GateNormBackRefIdeal.main_arg1) = m ((c.tc : Thread Cert.GateNormBackRefIdeal.nD Cert.GateNormBackRefIdeal.τ).loc Cert.GateNormBackRefIdeal.main_arg1)
      ∧ r.2.mem ((c.tc : Thread Cert.GateNormBackRefIdeal.nD Cert.GateNormBackRefIdeal.τ).loc Cert.GateNormBackRefIdeal.main_arg2) = m ((c.tc : Thread Cert.GateNormBackRefIdeal.nD Cert.GateNormBackRefIdeal.τ).loc Cert.GateNormBackRefIdeal.main_arg2)
      ∧ r.2.mem ((c.tc : Thread Cert.GateNormBackRefIdeal.nD Cert.GateNormBackRefIdeal.τ).loc Cert.GateNormBackRefIdeal.main_arg3) = m ((c.tc : Thread Cert.GateNormBackRefIdeal.nD Cert.GateNormBackRefIdeal.τ).loc Cert.GateNormBackRefIdeal.main_arg3))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3)
      ∧ r.2.mem ((c.tc : Thread Cert.Pack.nD Cert.Pack.τ).loc Cert.Pack.main_arg4) = m ((c.tc : Thread Cert.Pack.nD Cert.Pack.τ).loc Cert.Pack.main_arg4)
      ∧ r.2.mem ((c.tc : Thread Cert.Pack.nD Cert.Pack.τ).loc Cert.Pack.main_arg5) = m ((c.tc : Thread Cert.Pack.nD Cert.Pack.τ).loc Cert.Pack.main_arg5)
      ∧ r.2.mem ((c.tc : Thread Cert.Pack.nD Cert.Pack.τ).loc Cert.Pack.main_arg6) = m ((c.tc : Thread Cert.Pack.nD Cert.Pack.τ).loc Cert.Pack.main_arg6))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
      ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
      ∧ r.2.mem ((c.tc : Thread Cert.PackIdeal.nD Cert.PackIdeal.τ).loc Cert.PackIdeal.main_arg6) = m ((c.tc : Thread Cert.PackIdeal.nD Cert.PackIdeal.τ).loc Cert.PackIdeal.main_arg6))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4)
      ∧ r.2.mem ((c.tc : Thread Cert.PackRefIdeal.nD Cert.PackRefIdeal.τ).loc Cert.PackRefIdeal.main_arg5) = m ((c.tc : Thread Cert.PackRefIdeal.nD Cert.PackRefIdeal.τ).loc Cert.PackRefIdeal.main_arg5)
      ∧ r.2.mem ((c.tc : Thread Cert.PackRefIdeal.nD Cert.PackRefIdeal.τ).loc Cert.PackRefIdeal.main_arg6) = m ((c.tc : Thread Cert.PackRefIdeal.nD Cert.PackRefIdeal.τ).loc Cert.PackRefIdeal.main_arg6))
      ∧ r.2.sem = fun _ => 0)

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 2048, 1792]⟩ ⟨3, ![32, 2048, 1792]⟩ 0 8 c (m' (((0 : Dev Cert.SwapRefIdeal.nD).tc : Thread Cert.SwapRefIdeal.nD Cert.SwapRefIdeal.τ).loc Cert.SwapRefIdeal.main_arg0))
      ∧ m ((c.tc : Thread Cert.SwapIdeal.nD Cert.SwapIdeal.τ).loc Cert.SwapIdeal.main_arg1) = Layout.block ⟨3, ![4, 512, 2048]⟩ ⟨3, ![32, 512, 2048]⟩ 0 8 c (m' (((0 : Dev Cert.SwapRefIdeal.nD).tc : Thread Cert.SwapRefIdeal.nD Cert.SwapRefIdeal.τ).loc Cert.SwapRefIdeal.main_arg1))
      ∧ m ((c.tc : Thread Cert.SwapIdeal.nD Cert.SwapIdeal.τ).loc Cert.SwapIdeal.main_arg2) = Layout.block ⟨3, ![4, 2048, 2048]⟩ ⟨3, ![32, 2048, 2048]⟩ 0 8 c (m' (((0 : Dev Cert.SwapRefIdeal.nD).tc : Thread Cert.SwapRefIdeal.nD Cert.SwapRefIdeal.τ).loc Cert.SwapRefIdeal.main_arg2))
      ∧ m ((c.tc : Thread Cert.SwapIdeal.nD Cert.SwapIdeal.τ).loc Cert.SwapIdeal.main_arg3) = Layout.block ⟨3, ![4, 2048, 2048]⟩ ⟨3, ![32, 2048, 2048]⟩ 0 8 c (m' (((0 : Dev Cert.SwapRefIdeal.nD).tc : Thread Cert.SwapRefIdeal.nD Cert.SwapRefIdeal.τ).loc Cert.SwapRefIdeal.main_arg3))) →
    ∃ (v0 : Buf (Elt Ideal) (((0 : Dev Cert.SwapRefIdeal.nD).tc : Thread Cert.SwapRefIdeal.nD Cert.SwapRefIdeal.τ).loc Cert.SwapRefIdeal.main_v8)) (v1 : Buf (Elt Ideal) (((0 : Dev Cert.SwapRefIdeal.nD).tc : Thread Cert.SwapRefIdeal.nD Cert.SwapRefIdeal.τ).loc Cert.SwapRefIdeal.main_v17)) (v2 : Buf (Elt Ideal) (((0 : Dev Cert.SwapRefIdeal.nD).tc : Thread Cert.SwapRefIdeal.nD Cert.SwapRefIdeal.τ).loc Cert.SwapRefIdeal.main_v26)) (v3 : Buf (Elt Ideal) (((0 : Dev Cert.SwapRefIdeal.nD).tc : Thread Cert.SwapRefIdeal.nD Cert.SwapRefIdeal.τ).loc Cert.SwapRefIdeal.main_v35)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1_0) = Layout.block ⟨3, ![4, 1024, 1792]⟩ ⟨3, ![32, 1024, 1792]⟩ 0 8 c v0
          ∧ r.2.mem ((c.tc : Thread Cert.SwapIdeal.nD Cert.SwapIdeal.τ).loc Cert.SwapIdeal.main_v1_1) = Layout.block ⟨3, ![4, 256, 2048]⟩ ⟨3, ![32, 256, 2048]⟩ 0 8 c v1
          ∧ r.2.mem ((c.tc : Thread Cert.SwapIdeal.nD Cert.SwapIdeal.τ).loc Cert.SwapIdeal.main_v1_2) = Layout.block ⟨3, ![4, 1024, 2048]⟩ ⟨3, ![32, 1024, 2048]⟩ 0 8 c v2
          ∧ r.2.mem ((c.tc : Thread Cert.SwapIdeal.nD Cert.SwapIdeal.τ).loc Cert.SwapIdeal.main_v1_3) = Layout.block ⟨3, ![4, 1024, 2048]⟩ ⟨3, ![32, 1024, 2048]⟩ 0 8 c v3
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0)
          ∧ r.2.mem ((c.tc : Thread Cert.SwapIdeal.nD Cert.SwapIdeal.τ).loc Cert.SwapIdeal.main_arg1) = m ((c.tc : Thread Cert.SwapIdeal.nD Cert.SwapIdeal.τ).loc Cert.SwapIdeal.main_arg1)
          ∧ r.2.mem ((c.tc : Thread Cert.SwapIdeal.nD Cert.SwapIdeal.τ).loc Cert.SwapIdeal.main_arg2) = m ((c.tc : Thread Cert.SwapIdeal.nD Cert.SwapIdeal.τ).loc Cert.SwapIdeal.main_arg2)
          ∧ r.2.mem ((c.tc : Thread Cert.SwapIdeal.nD Cert.SwapIdeal.τ).loc Cert.SwapIdeal.main_arg3) = m ((c.tc : Thread Cert.SwapIdeal.nD Cert.SwapIdeal.τ).loc Cert.SwapIdeal.main_arg3))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_v17) = v1
          ∧ r.2.mem (((0 : Dev Cert.SwapRefIdeal.nD).tc : Thread Cert.SwapRefIdeal.nD Cert.SwapRefIdeal.τ).loc Cert.SwapRefIdeal.main_v26) = v2
          ∧ r.2.mem (((0 : Dev Cert.SwapRefIdeal.nD).tc : Thread Cert.SwapRefIdeal.nD Cert.SwapRefIdeal.τ).loc Cert.SwapRefIdeal.main_v35) = v3
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1)
          ∧ r.2.mem (((0 : Dev Cert.SwapRefIdeal.nD).tc : Thread Cert.SwapRefIdeal.nD Cert.SwapRefIdeal.τ).loc Cert.SwapRefIdeal.main_arg2) = m' (((0 : Dev Cert.SwapRefIdeal.nD).tc : Thread Cert.SwapRefIdeal.nD Cert.SwapRefIdeal.τ).loc Cert.SwapRefIdeal.main_arg2)
          ∧ r.2.mem (((0 : Dev Cert.SwapRefIdeal.nD).tc : Thread Cert.SwapRefIdeal.nD Cert.SwapRefIdeal.τ).loc Cert.SwapRefIdeal.main_arg3) = m' (((0 : Dev Cert.SwapRefIdeal.nD).tc : Thread Cert.SwapRefIdeal.nD Cert.SwapRefIdeal.τ).loc Cert.SwapRefIdeal.main_arg3))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 2048, 1792]⟩ ⟨3, ![32, 2048, 1792]⟩ 0 8 c (m' (((0 : Dev Cert.SwapRef.nD).tc : Thread Cert.SwapRef.nD Cert.SwapRef.τ).loc Cert.SwapRef.main_arg0))
      ∧ m ((c.tc : Thread Cert.Swap.nD Cert.Swap.τ).loc Cert.Swap.main_arg1) = Layout.block ⟨3, ![4, 512, 2048]⟩ ⟨3, ![32, 512, 2048]⟩ 0 8 c (m' (((0 : Dev Cert.SwapRef.nD).tc : Thread Cert.SwapRef.nD Cert.SwapRef.τ).loc Cert.SwapRef.main_arg1))
      ∧ m ((c.tc : Thread Cert.Swap.nD Cert.Swap.τ).loc Cert.Swap.main_arg2) = Layout.block ⟨3, ![4, 2048, 2048]⟩ ⟨3, ![32, 2048, 2048]⟩ 0 8 c (m' (((0 : Dev Cert.SwapRef.nD).tc : Thread Cert.SwapRef.nD Cert.SwapRef.τ).loc Cert.SwapRef.main_arg2))
      ∧ m ((c.tc : Thread Cert.Swap.nD Cert.Swap.τ).loc Cert.Swap.main_arg3) = Layout.block ⟨3, ![4, 2048, 2048]⟩ ⟨3, ![32, 2048, 2048]⟩ 0 8 c (m' (((0 : Dev Cert.SwapRef.nD).tc : Thread Cert.SwapRef.nD Cert.SwapRef.τ).loc Cert.SwapRef.main_arg3))) →
    ∃ (v0 : Buf (Elt Bits) (((0 : Dev Cert.SwapRef.nD).tc : Thread Cert.SwapRef.nD Cert.SwapRef.τ).loc Cert.SwapRef.main_v8)) (v1 : Buf (Elt Bits) (((0 : Dev Cert.SwapRef.nD).tc : Thread Cert.SwapRef.nD Cert.SwapRef.τ).loc Cert.SwapRef.main_v17)) (v2 : Buf (Elt Bits) (((0 : Dev Cert.SwapRef.nD).tc : Thread Cert.SwapRef.nD Cert.SwapRef.τ).loc Cert.SwapRef.main_v26)) (v3 : Buf (Elt Bits) (((0 : Dev Cert.SwapRef.nD).tc : Thread Cert.SwapRef.nD Cert.SwapRef.τ).loc Cert.SwapRef.main_v35)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1_0) = Layout.block ⟨3, ![4, 1024, 1792]⟩ ⟨3, ![32, 1024, 1792]⟩ 0 8 c v0
          ∧ r.2.mem ((c.tc : Thread Cert.Swap.nD Cert.Swap.τ).loc Cert.Swap.main_v1_1) = Layout.block ⟨3, ![4, 256, 2048]⟩ ⟨3, ![32, 256, 2048]⟩ 0 8 c v1
          ∧ r.2.mem ((c.tc : Thread Cert.Swap.nD Cert.Swap.τ).loc Cert.Swap.main_v1_2) = Layout.block ⟨3, ![4, 1024, 2048]⟩ ⟨3, ![32, 1024, 2048]⟩ 0 8 c v2
          ∧ r.2.mem ((c.tc : Thread Cert.Swap.nD Cert.Swap.τ).loc Cert.Swap.main_v1_3) = Layout.block ⟨3, ![4, 1024, 2048]⟩ ⟨3, ![32, 1024, 2048]⟩ 0 8 c v3
          ∧ r.2.mem ((c.tc : Thread Cert.Swap.nD Cert.Swap.τ).loc Cert.Swap.main_arg0) = m ((c.tc : Thread Cert.Swap.nD Cert.Swap.τ).loc Cert.Swap.main_arg0)
          ∧ r.2.mem ((c.tc : Thread Cert.Swap.nD Cert.Swap.τ).loc Cert.Swap.main_arg1) = m ((c.tc : Thread Cert.Swap.nD Cert.Swap.τ).loc Cert.Swap.main_arg1)
          ∧ r.2.mem ((c.tc : Thread Cert.Swap.nD Cert.Swap.τ).loc Cert.Swap.main_arg2) = m ((c.tc : Thread Cert.Swap.nD Cert.Swap.τ).loc Cert.Swap.main_arg2)
          ∧ r.2.mem ((c.tc : Thread Cert.Swap.nD Cert.Swap.τ).loc Cert.Swap.main_arg3) = m ((c.tc : Thread Cert.Swap.nD Cert.Swap.τ).loc Cert.Swap.main_arg3))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_v17) = v1
          ∧ r.2.mem (((0 : Dev Cert.SwapRef.nD).tc : Thread Cert.SwapRef.nD Cert.SwapRef.τ).loc Cert.SwapRef.main_v26) = v2
          ∧ r.2.mem (((0 : Dev Cert.SwapRef.nD).tc : Thread Cert.SwapRef.nD Cert.SwapRef.τ).loc Cert.SwapRef.main_v35) = v3
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0)
          ∧ r.2.mem (((0 : Dev Cert.SwapRef.nD).tc : Thread Cert.SwapRef.nD Cert.SwapRef.τ).loc Cert.SwapRef.main_arg1) = m' (((0 : Dev Cert.SwapRef.nD).tc : Thread Cert.SwapRef.nD Cert.SwapRef.τ).loc Cert.SwapRef.main_arg1)
          ∧ r.2.mem (((0 : Dev Cert.SwapRef.nD).tc : Thread Cert.SwapRef.nD Cert.SwapRef.τ).loc Cert.SwapRef.main_arg2) = m' (((0 : Dev Cert.SwapRef.nD).tc : Thread Cert.SwapRef.nD Cert.SwapRef.τ).loc Cert.SwapRef.main_arg2)
          ∧ r.2.mem (((0 : Dev Cert.SwapRef.nD).tc : Thread Cert.SwapRef.nD Cert.SwapRef.τ).loc Cert.SwapRef.main_arg3) = m' (((0 : Dev Cert.SwapRef.nD).tc : Thread Cert.SwapRef.nD Cert.SwapRef.τ).loc Cert.SwapRef.main_arg3))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 1024, 1792]⟩ ⟨3, ![32, 1024, 1792]⟩ 0 8 c (m' (((0 : Dev Cert.ScatterRefIdeal.nD).tc : Thread Cert.ScatterRefIdeal.nD Cert.ScatterRefIdeal.τ).loc Cert.ScatterRefIdeal.main_arg0))
      ∧ m ((c.tc : Thread Cert.ScatterIdeal.nD Cert.ScatterIdeal.τ).loc Cert.ScatterIdeal.main_arg1) = Layout.block ⟨3, ![4, 256, 2048]⟩ ⟨3, ![32, 256, 2048]⟩ 0 8 c (m' (((0 : Dev Cert.ScatterRefIdeal.nD).tc : Thread Cert.ScatterRefIdeal.nD Cert.ScatterRefIdeal.τ).loc Cert.ScatterRefIdeal.main_arg1))
      ∧ m ((c.tc : Thread Cert.ScatterIdeal.nD Cert.ScatterIdeal.τ).loc Cert.ScatterIdeal.main_arg2) = Layout.block ⟨3, ![4, 1024, 2048]⟩ ⟨3, ![32, 1024, 2048]⟩ 0 8 c (m' (((0 : Dev Cert.ScatterRefIdeal.nD).tc : Thread Cert.ScatterRefIdeal.nD Cert.ScatterRefIdeal.τ).loc Cert.ScatterRefIdeal.main_arg2))
      ∧ m ((c.tc : Thread Cert.ScatterIdeal.nD Cert.ScatterIdeal.τ).loc Cert.ScatterIdeal.main_arg3) = Layout.block ⟨3, ![4, 1024, 2048]⟩ ⟨3, ![32, 1024, 2048]⟩ 0 8 c (m' (((0 : Dev Cert.ScatterRefIdeal.nD).tc : Thread Cert.ScatterRefIdeal.nD Cert.ScatterRefIdeal.τ).loc Cert.ScatterRefIdeal.main_arg3))) →
    ∃ (v0 : Buf (Elt Ideal) (((0 : Dev Cert.ScatterRefIdeal.nD).tc : Thread Cert.ScatterRefIdeal.nD Cert.ScatterRefIdeal.τ).loc Cert.ScatterRefIdeal.main_v10)) (v1 : Buf (Elt Ideal) (((0 : Dev Cert.ScatterRefIdeal.nD).tc : Thread Cert.ScatterRefIdeal.nD Cert.ScatterRefIdeal.τ).loc Cert.ScatterRefIdeal.main_v21)) (v2 : Buf (Elt Ideal) (((0 : Dev Cert.ScatterRefIdeal.nD).tc : Thread Cert.ScatterRefIdeal.nD Cert.ScatterRefIdeal.τ).loc Cert.ScatterRefIdeal.main_v32)) (v3 : Buf (Elt Ideal) (((0 : Dev Cert.ScatterRefIdeal.nD).tc : Thread Cert.ScatterRefIdeal.nD Cert.ScatterRefIdeal.τ).loc Cert.ScatterRefIdeal.main_v43)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1_0) = Layout.block ⟨3, ![3, 1024, 1792]⟩ ⟨3, ![24, 1024, 1792]⟩ 0 8 c v0
          ∧ r.2.mem ((c.tc : Thread Cert.ScatterIdeal.nD Cert.ScatterIdeal.τ).loc Cert.ScatterIdeal.main_v1_1) = Layout.block ⟨3, ![3, 256, 2048]⟩ ⟨3, ![24, 256, 2048]⟩ 0 8 c v1
          ∧ r.2.mem ((c.tc : Thread Cert.ScatterIdeal.nD Cert.ScatterIdeal.τ).loc Cert.ScatterIdeal.main_v1_2) = Layout.block ⟨3, ![3, 1024, 2048]⟩ ⟨3, ![24, 1024, 2048]⟩ 0 8 c v2
          ∧ r.2.mem ((c.tc : Thread Cert.ScatterIdeal.nD Cert.ScatterIdeal.τ).loc Cert.ScatterIdeal.main_v1_3) = Layout.block ⟨3, ![3, 1024, 2048]⟩ ⟨3, ![24, 1024, 2048]⟩ 0 8 c v3
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0)
          ∧ r.2.mem ((c.tc : Thread Cert.ScatterIdeal.nD Cert.ScatterIdeal.τ).loc Cert.ScatterIdeal.main_arg1) = m ((c.tc : Thread Cert.ScatterIdeal.nD Cert.ScatterIdeal.τ).loc Cert.ScatterIdeal.main_arg1)
          ∧ r.2.mem ((c.tc : Thread Cert.ScatterIdeal.nD Cert.ScatterIdeal.τ).loc Cert.ScatterIdeal.main_arg2) = m ((c.tc : Thread Cert.ScatterIdeal.nD Cert.ScatterIdeal.τ).loc Cert.ScatterIdeal.main_arg2)
          ∧ r.2.mem ((c.tc : Thread Cert.ScatterIdeal.nD Cert.ScatterIdeal.τ).loc Cert.ScatterIdeal.main_arg3) = m ((c.tc : Thread Cert.ScatterIdeal.nD Cert.ScatterIdeal.τ).loc Cert.ScatterIdeal.main_arg3))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v10) = v0
          ∧ r.2.mem (((0 : Dev Cert.ScatterRefIdeal.nD).tc : Thread Cert.ScatterRefIdeal.nD Cert.ScatterRefIdeal.τ).loc Cert.ScatterRefIdeal.main_v21) = v1
          ∧ r.2.mem (((0 : Dev Cert.ScatterRefIdeal.nD).tc : Thread Cert.ScatterRefIdeal.nD Cert.ScatterRefIdeal.τ).loc Cert.ScatterRefIdeal.main_v32) = v2
          ∧ r.2.mem (((0 : Dev Cert.ScatterRefIdeal.nD).tc : Thread Cert.ScatterRefIdeal.nD Cert.ScatterRefIdeal.τ).loc Cert.ScatterRefIdeal.main_v43) = v3
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 1024, 1792]⟩ ⟨3, ![32, 1024, 1792]⟩ 0 8 c (m' (((0 : Dev Cert.ScatterRef.nD).tc : Thread Cert.ScatterRef.nD Cert.ScatterRef.τ).loc Cert.ScatterRef.main_arg0))
      ∧ m ((c.tc : Thread Cert.Scatter.nD Cert.Scatter.τ).loc Cert.Scatter.main_arg1) = Layout.block ⟨3, ![4, 256, 2048]⟩ ⟨3, ![32, 256, 2048]⟩ 0 8 c (m' (((0 : Dev Cert.ScatterRef.nD).tc : Thread Cert.ScatterRef.nD Cert.ScatterRef.τ).loc Cert.ScatterRef.main_arg1))
      ∧ m ((c.tc : Thread Cert.Scatter.nD Cert.Scatter.τ).loc Cert.Scatter.main_arg2) = Layout.block ⟨3, ![4, 1024, 2048]⟩ ⟨3, ![32, 1024, 2048]⟩ 0 8 c (m' (((0 : Dev Cert.ScatterRef.nD).tc : Thread Cert.ScatterRef.nD Cert.ScatterRef.τ).loc Cert.ScatterRef.main_arg2))
      ∧ m ((c.tc : Thread Cert.Scatter.nD Cert.Scatter.τ).loc Cert.Scatter.main_arg3) = Layout.block ⟨3, ![4, 1024, 2048]⟩ ⟨3, ![32, 1024, 2048]⟩ 0 8 c (m' (((0 : Dev Cert.ScatterRef.nD).tc : Thread Cert.ScatterRef.nD Cert.ScatterRef.τ).loc Cert.ScatterRef.main_arg3))) →
    ∃ (v0 : Buf (Elt Bits) (((0 : Dev Cert.ScatterRef.nD).tc : Thread Cert.ScatterRef.nD Cert.ScatterRef.τ).loc Cert.ScatterRef.main_v10)) (v1 : Buf (Elt Bits) (((0 : Dev Cert.ScatterRef.nD).tc : Thread Cert.ScatterRef.nD Cert.ScatterRef.τ).loc Cert.ScatterRef.main_v21)) (v2 : Buf (Elt Bits) (((0 : Dev Cert.ScatterRef.nD).tc : Thread Cert.ScatterRef.nD Cert.ScatterRef.τ).loc Cert.ScatterRef.main_v32)) (v3 : Buf (Elt Bits) (((0 : Dev Cert.ScatterRef.nD).tc : Thread Cert.ScatterRef.nD Cert.ScatterRef.τ).loc Cert.ScatterRef.main_v43)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1_0) = Layout.block ⟨3, ![3, 1024, 1792]⟩ ⟨3, ![24, 1024, 1792]⟩ 0 8 c v0
          ∧ r.2.mem ((c.tc : Thread Cert.Scatter.nD Cert.Scatter.τ).loc Cert.Scatter.main_v1_1) = Layout.block ⟨3, ![3, 256, 2048]⟩ ⟨3, ![24, 256, 2048]⟩ 0 8 c v1
          ∧ r.2.mem ((c.tc : Thread Cert.Scatter.nD Cert.Scatter.τ).loc Cert.Scatter.main_v1_2) = Layout.block ⟨3, ![3, 1024, 2048]⟩ ⟨3, ![24, 1024, 2048]⟩ 0 8 c v2
          ∧ r.2.mem ((c.tc : Thread Cert.Scatter.nD Cert.Scatter.τ).loc Cert.Scatter.main_v1_3) = Layout.block ⟨3, ![3, 1024, 2048]⟩ ⟨3, ![24, 1024, 2048]⟩ 0 8 c v3
          ∧ r.2.mem ((c.tc : Thread Cert.Scatter.nD Cert.Scatter.τ).loc Cert.Scatter.main_arg0) = m ((c.tc : Thread Cert.Scatter.nD Cert.Scatter.τ).loc Cert.Scatter.main_arg0)
          ∧ r.2.mem ((c.tc : Thread Cert.Scatter.nD Cert.Scatter.τ).loc Cert.Scatter.main_arg1) = m ((c.tc : Thread Cert.Scatter.nD Cert.Scatter.τ).loc Cert.Scatter.main_arg1)
          ∧ r.2.mem ((c.tc : Thread Cert.Scatter.nD Cert.Scatter.τ).loc Cert.Scatter.main_arg2) = m ((c.tc : Thread Cert.Scatter.nD Cert.Scatter.τ).loc Cert.Scatter.main_arg2)
          ∧ r.2.mem ((c.tc : Thread Cert.Scatter.nD Cert.Scatter.τ).loc Cert.Scatter.main_arg3) = m ((c.tc : Thread Cert.Scatter.nD Cert.Scatter.τ).loc Cert.Scatter.main_arg3))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v10) = v0
          ∧ r.2.mem (((0 : Dev Cert.ScatterRef.nD).tc : Thread Cert.ScatterRef.nD Cert.ScatterRef.τ).loc Cert.ScatterRef.main_v21) = v1
          ∧ r.2.mem (((0 : Dev Cert.ScatterRef.nD).tc : Thread Cert.ScatterRef.nD Cert.ScatterRef.τ).loc Cert.ScatterRef.main_v32) = v2
          ∧ r.2.mem (((0 : Dev Cert.ScatterRef.nD).tc : Thread Cert.ScatterRef.nD Cert.ScatterRef.τ).loc Cert.ScatterRef.main_v43) = v3
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0)
          ∧ r.2.mem (((0 : Dev Cert.ScatterRef.nD).tc : Thread Cert.ScatterRef.nD Cert.ScatterRef.τ).loc Cert.ScatterRef.main_arg1) = m' (((0 : Dev Cert.ScatterRef.nD).tc : Thread Cert.ScatterRef.nD Cert.ScatterRef.τ).loc Cert.ScatterRef.main_arg1)
          ∧ r.2.mem (((0 : Dev Cert.ScatterRef.nD).tc : Thread Cert.ScatterRef.nD Cert.ScatterRef.τ).loc Cert.ScatterRef.main_arg2) = m' (((0 : Dev Cert.ScatterRef.nD).tc : Thread Cert.ScatterRef.nD Cert.ScatterRef.τ).loc Cert.ScatterRef.main_arg2)
          ∧ r.2.mem (((0 : Dev Cert.ScatterRef.nD).tc : Thread Cert.ScatterRef.nD Cert.ScatterRef.τ).loc Cert.ScatterRef.main_arg3) = m' (((0 : Dev Cert.ScatterRef.nD).tc : Thread Cert.ScatterRef.nD Cert.ScatterRef.τ).loc Cert.ScatterRef.main_arg3))

def preserves_Join_JoinIdeal : Prop :=
  True

def algebraic_JoinIdeal_JoinRefIdeal [hJoinIdeal : Cert.JoinIdeal.Facts] [hJoinRefIdeal : Cert.JoinRefIdeal.Facts] : Prop :=
  ∀ (m : (ℓ : Loc Cert.JoinIdeal.nD Cert.JoinIdeal.τ Cert.JoinIdeal.sig) → Buf (Elt Ideal) ℓ) (g : Dev Cert.JoinIdeal.nD → PrngReg)
    (m' : (ℓ : Loc Cert.JoinRefIdeal.nD Cert.JoinRefIdeal.τ Cert.JoinRefIdeal.sig) → Buf (Elt Ideal) ℓ) (g' : Dev Cert.JoinRefIdeal.nD → PrngReg), Pre_JoinIdeal m →
    (∀ c : Dev Cert.JoinIdeal.nD,
      m ((c.tc : Thread Cert.JoinIdeal.nD Cert.JoinIdeal.τ).loc Cert.JoinIdeal.main_arg0) = Layout.block ⟨2, ![1024, 1792]⟩ ⟨2, ![8192, 1792]⟩ 0 8 c (m' (((0 : Dev Cert.JoinRefIdeal.nD).tc : Thread Cert.JoinRefIdeal.nD Cert.JoinRefIdeal.τ).loc Cert.JoinRefIdeal.main_arg0))
      ∧ m ((c.tc : Thread Cert.JoinIdeal.nD Cert.JoinIdeal.τ).loc Cert.JoinIdeal.main_arg1) = Layout.block ⟨2, ![256, 2048]⟩ ⟨2, ![2048, 2048]⟩ 0 8 c (m' (((0 : Dev Cert.JoinRefIdeal.nD).tc : Thread Cert.JoinRefIdeal.nD Cert.JoinRefIdeal.τ).loc Cert.JoinRefIdeal.main_arg1))
      ∧ m ((c.tc : Thread Cert.JoinIdeal.nD Cert.JoinIdeal.τ).loc Cert.JoinIdeal.main_arg2) = Layout.block ⟨2, ![1024, 2048]⟩ ⟨2, ![8192, 2048]⟩ 0 8 c (m' (((0 : Dev Cert.JoinRefIdeal.nD).tc : Thread Cert.JoinRefIdeal.nD Cert.JoinRefIdeal.τ).loc Cert.JoinRefIdeal.main_arg2))
      ∧ m ((c.tc : Thread Cert.JoinIdeal.nD Cert.JoinIdeal.τ).loc Cert.JoinIdeal.main_arg3) = Layout.block ⟨2, ![1024, 2048]⟩ ⟨2, ![8192, 2048]⟩ 0 8 c (m' (((0 : Dev Cert.JoinRefIdeal.nD).tc : Thread Cert.JoinRefIdeal.nD Cert.JoinRefIdeal.τ).loc Cert.JoinRefIdeal.main_arg3))) →
    ∃ (v0 : Buf (Elt Ideal) (((0 : Dev Cert.JoinRefIdeal.nD).tc : Thread Cert.JoinRefIdeal.nD Cert.JoinRefIdeal.τ).loc Cert.JoinRefIdeal.main_v2)) (v1 : Buf (Elt Ideal) (((0 : Dev Cert.JoinRefIdeal.nD).tc : Thread Cert.JoinRefIdeal.nD Cert.JoinRefIdeal.τ).loc Cert.JoinRefIdeal.main_v5)) (v2 : Buf (Elt Ideal) (((0 : Dev Cert.JoinRefIdeal.nD).tc : Thread Cert.JoinRefIdeal.nD Cert.JoinRefIdeal.τ).loc Cert.JoinRefIdeal.main_v8)) (v3 : Buf (Elt Ideal) (((0 : Dev Cert.JoinRefIdeal.nD).tc : Thread Cert.JoinRefIdeal.nD Cert.JoinRefIdeal.τ).loc Cert.JoinRefIdeal.main_v11)),
      θ_run (Cert.JoinIdeal.defs (F := Ideal)) (onTc (τ := Cert.JoinIdeal.τ) (Cert.JoinIdeal.main (F := Ideal))) ⟨m, fun _ => 0, g⟩ (fun r => ∀ c : Dev Cert.JoinIdeal.nD,
          r.2.mem ((c.tc : Thread Cert.JoinIdeal.nD Cert.JoinIdeal.τ).loc Cert.JoinIdeal.main_v1_0) = Layout.block ⟨2, ![2048, 1792]⟩ ⟨2, ![16384, 1792]⟩ 0 8 c v0
          ∧ r.2.mem ((c.tc : Thread Cert.JoinIdeal.nD Cert.JoinIdeal.τ).loc Cert.JoinIdeal.main_v1_1) = Layout.block ⟨2, ![512, 2048]⟩ ⟨2, ![4096, 2048]⟩ 0 8 c v1
          ∧ r.2.mem ((c.tc : Thread Cert.JoinIdeal.nD Cert.JoinIdeal.τ).loc Cert.JoinIdeal.main_v1_2) = Layout.block ⟨2, ![2048, 2048]⟩ ⟨2, ![16384, 2048]⟩ 0 8 c v2
          ∧ r.2.mem ((c.tc : Thread Cert.JoinIdeal.nD Cert.JoinIdeal.τ).loc Cert.JoinIdeal.main_v1_3) = Layout.block ⟨2, ![2048, 2048]⟩ ⟨2, ![16384, 2048]⟩ 0 8 c v3
          ∧ r.2.mem ((c.tc : Thread Cert.JoinIdeal.nD Cert.JoinIdeal.τ).loc Cert.JoinIdeal.main_arg0) = m ((c.tc : Thread Cert.JoinIdeal.nD Cert.JoinIdeal.τ).loc Cert.JoinIdeal.main_arg0)
          ∧ r.2.mem ((c.tc : Thread Cert.JoinIdeal.nD Cert.JoinIdeal.τ).loc Cert.JoinIdeal.main_arg1) = m ((c.tc : Thread Cert.JoinIdeal.nD Cert.JoinIdeal.τ).loc Cert.JoinIdeal.main_arg1)
          ∧ r.2.mem ((c.tc : Thread Cert.JoinIdeal.nD Cert.JoinIdeal.τ).loc Cert.JoinIdeal.main_arg2) = m ((c.tc : Thread Cert.JoinIdeal.nD Cert.JoinIdeal.τ).loc Cert.JoinIdeal.main_arg2)
          ∧ r.2.mem ((c.tc : Thread Cert.JoinIdeal.nD Cert.JoinIdeal.τ).loc Cert.JoinIdeal.main_arg3) = m ((c.tc : Thread Cert.JoinIdeal.nD Cert.JoinIdeal.τ).loc Cert.JoinIdeal.main_arg3))
      ∧ θ_run (Cert.JoinRefIdeal.defs (F := Ideal)) (onTc (τ := Cert.JoinRefIdeal.τ) (Cert.JoinRefIdeal.main (F := Ideal))) ⟨m', fun _ => 0, g'⟩ (fun r =>
          r.2.mem (((0 : Dev Cert.JoinRefIdeal.nD).tc : Thread Cert.JoinRefIdeal.nD Cert.JoinRefIdeal.τ).loc Cert.JoinRefIdeal.main_v2) = v0
          ∧ r.2.mem (((0 : Dev Cert.JoinRefIdeal.nD).tc : Thread Cert.JoinRefIdeal.nD Cert.JoinRefIdeal.τ).loc Cert.JoinRefIdeal.main_v5) = v1
          ∧ r.2.mem (((0 : Dev Cert.JoinRefIdeal.nD).tc : Thread Cert.JoinRefIdeal.nD Cert.JoinRefIdeal.τ).loc Cert.JoinRefIdeal.main_v8) = v2
          ∧ r.2.mem (((0 : Dev Cert.JoinRefIdeal.nD).tc : Thread Cert.JoinRefIdeal.nD Cert.JoinRefIdeal.τ).loc Cert.JoinRefIdeal.main_v11) = v3
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0)
          ∧ r.2.mem (((0 : Dev Cert.JoinRefIdeal.nD).tc : Thread Cert.JoinRefIdeal.nD Cert.JoinRefIdeal.τ).loc Cert.JoinRefIdeal.main_arg1) = m' (((0 : Dev Cert.JoinRefIdeal.nD).tc : Thread Cert.JoinRefIdeal.nD Cert.JoinRefIdeal.τ).loc Cert.JoinRefIdeal.main_arg1)
          ∧ r.2.mem (((0 : Dev Cert.JoinRefIdeal.nD).tc : Thread Cert.JoinRefIdeal.nD Cert.JoinRefIdeal.τ).loc Cert.JoinRefIdeal.main_arg2) = m' (((0 : Dev Cert.JoinRefIdeal.nD).tc : Thread Cert.JoinRefIdeal.nD Cert.JoinRefIdeal.τ).loc Cert.JoinRefIdeal.main_arg2)
          ∧ r.2.mem (((0 : Dev Cert.JoinRefIdeal.nD).tc : Thread Cert.JoinRefIdeal.nD Cert.JoinRefIdeal.τ).loc Cert.JoinRefIdeal.main_arg3) = m' (((0 : Dev Cert.JoinRefIdeal.nD).tc : Thread Cert.JoinRefIdeal.nD Cert.JoinRefIdeal.τ).loc Cert.JoinRefIdeal.main_arg3))

def bitexact_Join_JoinRef [hJoin : Cert.Join.Facts] [hJoinRef : Cert.JoinRef.Facts] : Prop :=
  ∀ (m : (ℓ : Loc Cert.Join.nD Cert.Join.τ Cert.Join.sig) → Buf (Elt Bits) ℓ) (g : Dev Cert.Join.nD → PrngReg)
    (m' : (ℓ : Loc Cert.JoinRef.nD Cert.JoinRef.τ Cert.JoinRef.sig) → Buf (Elt Bits) ℓ) (g' : Dev Cert.JoinRef.nD → PrngReg), Pre_Join m →
    (∀ c : Dev Cert.Join.nD,
      m ((c.tc : Thread Cert.Join.nD Cert.Join.τ).loc Cert.Join.main_arg0) = Layout.block ⟨2, ![1024, 1792]⟩ ⟨2, ![8192, 1792]⟩ 0 8 c (m' (((0 : Dev Cert.JoinRef.nD).tc : Thread Cert.JoinRef.nD Cert.JoinRef.τ).loc Cert.JoinRef.main_arg0))
      ∧ m ((c.tc : Thread Cert.Join.nD Cert.Join.τ).loc Cert.Join.main_arg1) = Layout.block ⟨2, ![256, 2048]⟩ ⟨2, ![2048, 2048]⟩ 0 8 c (m' (((0 : Dev Cert.JoinRef.nD).tc : Thread Cert.JoinRef.nD Cert.JoinRef.τ).loc Cert.JoinRef.main_arg1))
      ∧ m ((c.tc : Thread Cert.Join.nD Cert.Join.τ).loc Cert.Join.main_arg2) = Layout.block ⟨2, ![1024, 2048]⟩ ⟨2, ![8192, 2048]⟩ 0 8 c (m' (((0 : Dev Cert.JoinRef.nD).tc : Thread Cert.JoinRef.nD Cert.JoinRef.τ).loc Cert.JoinRef.main_arg2))
      ∧ m ((c.tc : Thread Cert.Join.nD Cert.Join.τ).loc Cert.Join.main_arg3) = Layout.block ⟨2, ![1024, 2048]⟩ ⟨2, ![8192, 2048]⟩ 0 8 c (m' (((0 : Dev Cert.JoinRef.nD).tc : Thread Cert.JoinRef.nD Cert.JoinRef.τ).loc Cert.JoinRef.main_arg3))) →
    ∃ (v0 : Buf (Elt Bits) (((0 : Dev Cert.JoinRef.nD).tc : Thread Cert.JoinRef.nD Cert.JoinRef.τ).loc Cert.JoinRef.main_v2)) (v1 : Buf (Elt Bits) (((0 : Dev Cert.JoinRef.nD).tc : Thread Cert.JoinRef.nD Cert.JoinRef.τ).loc Cert.JoinRef.main_v5)) (v2 : Buf (Elt Bits) (((0 : Dev Cert.JoinRef.nD).tc : Thread Cert.JoinRef.nD Cert.JoinRef.τ).loc Cert.JoinRef.main_v8)) (v3 : Buf (Elt Bits) (((0 : Dev Cert.JoinRef.nD).tc : Thread Cert.JoinRef.nD Cert.JoinRef.τ).loc Cert.JoinRef.main_v11)),
      θ_run (Cert.Join.defs (F := Bits)) (onTc (τ := Cert.Join.τ) (Cert.Join.main (F := Bits))) ⟨m, fun _ => 0, g⟩ (fun r => ∀ c : Dev Cert.Join.nD,
          r.2.mem ((c.tc : Thread Cert.Join.nD Cert.Join.τ).loc Cert.Join.main_v1_0) = Layout.block ⟨2, ![2048, 1792]⟩ ⟨2, ![16384, 1792]⟩ 0 8 c v0
          ∧ r.2.mem ((c.tc : Thread Cert.Join.nD Cert.Join.τ).loc Cert.Join.main_v1_1) = Layout.block ⟨2, ![512, 2048]⟩ ⟨2, ![4096, 2048]⟩ 0 8 c v1
          ∧ r.2.mem ((c.tc : Thread Cert.Join.nD Cert.Join.τ).loc Cert.Join.main_v1_2) = Layout.block ⟨2, ![2048, 2048]⟩ ⟨2, ![16384, 2048]⟩ 0 8 c v2
          ∧ r.2.mem ((c.tc : Thread Cert.Join.nD Cert.Join.τ).loc Cert.Join.main_v1_3) = Layout.block ⟨2, ![2048, 2048]⟩ ⟨2, ![16384, 2048]⟩ 0 8 c v3
          ∧ r.2.mem ((c.tc : Thread Cert.Join.nD Cert.Join.τ).loc Cert.Join.main_arg0) = m ((c.tc : Thread Cert.Join.nD Cert.Join.τ).loc Cert.Join.main_arg0)
          ∧ r.2.mem ((c.tc : Thread Cert.Join.nD Cert.Join.τ).loc Cert.Join.main_arg1) = m ((c.tc : Thread Cert.Join.nD Cert.Join.τ).loc Cert.Join.main_arg1)
          ∧ r.2.mem ((c.tc : Thread Cert.Join.nD Cert.Join.τ).loc Cert.Join.main_arg2) = m ((c.tc : Thread Cert.Join.nD Cert.Join.τ).loc Cert.Join.main_arg2)
          ∧ r.2.mem ((c.tc : Thread Cert.Join.nD Cert.Join.τ).loc Cert.Join.main_arg3) = m ((c.tc : Thread Cert.Join.nD Cert.Join.τ).loc Cert.Join.main_arg3))
      ∧ θ_run (Cert.JoinRef.defs (F := Bits)) (onTc (τ := Cert.JoinRef.τ) (Cert.JoinRef.main (F := Bits))) ⟨m', fun _ => 0, g'⟩ (fun r =>
          r.2.mem (((0 : Dev Cert.JoinRef.nD).tc : Thread Cert.JoinRef.nD Cert.JoinRef.τ).loc Cert.JoinRef.main_v2) = v0
          ∧ r.2.mem (((0 : Dev Cert.JoinRef.nD).tc : Thread Cert.JoinRef.nD Cert.JoinRef.τ).loc Cert.JoinRef.main_v5) = v1
          ∧ r.2.mem (((0 : Dev Cert.JoinRef.nD).tc : Thread Cert.JoinRef.nD Cert.JoinRef.τ).loc Cert.JoinRef.main_v8) = v2
          ∧ r.2.mem (((0 : Dev Cert.JoinRef.nD).tc : Thread Cert.JoinRef.nD Cert.JoinRef.τ).loc Cert.JoinRef.main_v11) = v3
          ∧ r.2.mem (((0 : Dev Cert.JoinRef.nD).tc : Thread Cert.JoinRef.nD Cert.JoinRef.τ).loc Cert.JoinRef.main_arg0) = m' (((0 : Dev Cert.JoinRef.nD).tc : Thread Cert.JoinRef.nD Cert.JoinRef.τ).loc Cert.JoinRef.main_arg0)
          ∧ r.2.mem (((0 : Dev Cert.JoinRef.nD).tc : Thread Cert.JoinRef.nD Cert.JoinRef.τ).loc Cert.JoinRef.main_arg1) = m' (((0 : Dev Cert.JoinRef.nD).tc : Thread Cert.JoinRef.nD Cert.JoinRef.τ).loc Cert.JoinRef.main_arg1)
          ∧ r.2.mem (((0 : Dev Cert.JoinRef.nD).tc : Thread Cert.JoinRef.nD Cert.JoinRef.τ).loc Cert.JoinRef.main_arg2) = m' (((0 : Dev Cert.JoinRef.nD).tc : Thread Cert.JoinRef.nD Cert.JoinRef.τ).loc Cert.JoinRef.main_arg2)
          ∧ r.2.mem (((0 : Dev Cert.JoinRef.nD).tc : Thread Cert.JoinRef.nD Cert.JoinRef.τ).loc Cert.JoinRef.main_arg3) = m' (((0 : Dev Cert.JoinRef.nD).tc : Thread Cert.JoinRef.nD Cert.JoinRef.τ).loc Cert.JoinRef.main_arg3))

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![2048, 1792]⟩ ⟨2, ![2048, 7168]⟩ (Layout.meshBlock [2, 2, 2] ![[], [0, 1]] c) (m' (((0 : Dev Cert.GatherRefIdeal.nD).tc : Thread Cert.GatherRefIdeal.nD Cert.GatherRefIdeal.τ).loc Cert.GatherRefIdeal.main_arg0))
      ∧ m ((c.tc : Thread Cert.GatherIdeal.nD Cert.GatherIdeal.τ).loc Cert.GatherIdeal.main_arg1) = Layout.blockN ⟨2, ![512, 2048]⟩ ⟨2, ![2048, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg1))
      ∧ m ((c.tc : Thread Cert.GatherIdeal.nD Cert.GatherIdeal.τ).loc Cert.GatherIdeal.main_arg2) = Layout.blockN ⟨2, ![2048, 2048]⟩ ⟨2, ![2048, 8192]⟩ (Layout.meshBlock [2, 2, 2] ![[], [0, 1]] c) (m' (((0 : Dev Cert.GatherRefIdeal.nD).tc : Thread Cert.GatherRefIdeal.nD Cert.GatherRefIdeal.τ).loc Cert.GatherRefIdeal.main_arg2))
      ∧ m ((c.tc : Thread Cert.GatherIdeal.nD Cert.GatherIdeal.τ).loc Cert.GatherIdeal.main_arg3) = Layout.blockN ⟨2, ![2048, 2048]⟩ ⟨2, ![8192, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg3))) →
    ∃ (v0 : Buf (Elt Ideal) (((0 : Dev Cert.GatherRefIdeal.nD).tc : Thread Cert.GatherRefIdeal.nD Cert.GatherRefIdeal.τ).loc Cert.GatherRefIdeal.main_v1)) (v1 : Buf (Elt Ideal) (((0 : Dev Cert.GatherRefIdeal.nD).tc : Thread Cert.GatherRefIdeal.nD Cert.GatherRefIdeal.τ).loc Cert.GatherRefIdeal.main_v2)) (v2 : Buf (Elt Ideal) (((0 : Dev Cert.GatherRefIdeal.nD).tc : Thread Cert.GatherRefIdeal.nD Cert.GatherRefIdeal.τ).loc Cert.GatherRefIdeal.main_v4)) (v3 : Buf (Elt Ideal) (((0 : Dev Cert.GatherRefIdeal.nD).tc : Thread Cert.GatherRefIdeal.nD Cert.GatherRefIdeal.τ).loc Cert.GatherRefIdeal.main_v5)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_v1_2) = v2
          ∧ r.2.mem ((c.tc : Thread Cert.GatherIdeal.nD Cert.GatherIdeal.τ).loc Cert.GatherIdeal.main_v1_3) = v3
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_v2) = v1
          ∧ r.2.mem (((0 : Dev Cert.GatherRefIdeal.nD).tc : Thread Cert.GatherRefIdeal.nD Cert.GatherRefIdeal.τ).loc Cert.GatherRefIdeal.main_v4) = v2
          ∧ r.2.mem (((0 : Dev Cert.GatherRefIdeal.nD).tc : Thread Cert.GatherRefIdeal.nD Cert.GatherRefIdeal.τ).loc Cert.GatherRefIdeal.main_v5) = v3
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![2048, 1792]⟩ ⟨2, ![2048, 7168]⟩ (Layout.meshBlock [2, 2, 2] ![[], [0, 1]] c) (m' (((0 : Dev Cert.GatherRef.nD).tc : Thread Cert.GatherRef.nD Cert.GatherRef.τ).loc Cert.GatherRef.main_arg0))
      ∧ m ((c.tc : Thread Cert.Gather.nD Cert.Gather.τ).loc Cert.Gather.main_arg1) = Layout.blockN ⟨2, ![512, 2048]⟩ ⟨2, ![2048, 2048]⟩ (Layout.meshBlock [2, 2, 2] ![[0, 1], []] c) (m' (((0 : Dev Cert.GatherRef.nD).tc : Thread Cert.GatherRef.nD Cert.GatherRef.τ).loc Cert.GatherRef.main_arg1))
      ∧ m ((c.tc : Thread Cert.Gather.nD Cert.Gather.τ).loc Cert.Gather.main_arg2) = Layout.blockN ⟨2, ![2048, 2048]⟩ ⟨2, ![2048, 8192]⟩ (Layout.meshBlock [2, 2, 2] ![[], [0, 1]] c) (m' (((0 : Dev Cert.GatherRef.nD).tc : Thread Cert.GatherRef.nD Cert.GatherRef.τ).loc Cert.GatherRef.main_arg2))
      ∧ m ((c.tc : Thread Cert.Gather.nD Cert.Gather.τ).loc Cert.Gather.main_arg3) = Layout.blockN ⟨2, ![2048, 2048]⟩ ⟨2, ![8192, 2048]⟩ (Layout.meshBlock [2, 2, 2] ![[0, 1], []] c) (m' (((0 : Dev Cert.GatherRef.nD).tc : Thread Cert.GatherRef.nD Cert.GatherRef.τ).loc Cert.GatherRef.main_arg3))) →
    ∃ (v0 : Buf (Elt Bits) (((0 : Dev Cert.GatherRef.nD).tc : Thread Cert.GatherRef.nD Cert.GatherRef.τ).loc Cert.GatherRef.main_v1)) (v1 : Buf (Elt Bits) (((0 : Dev Cert.GatherRef.nD).tc : Thread Cert.GatherRef.nD Cert.GatherRef.τ).loc Cert.GatherRef.main_v2)) (v2 : Buf (Elt Bits) (((0 : Dev Cert.GatherRef.nD).tc : Thread Cert.GatherRef.nD Cert.GatherRef.τ).loc Cert.GatherRef.main_v4)) (v3 : Buf (Elt Bits) (((0 : Dev Cert.GatherRef.nD).tc : Thread Cert.GatherRef.nD Cert.GatherRef.τ).loc Cert.GatherRef.main_v5)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_v1_2) = v2
          ∧ r.2.mem ((c.tc : Thread Cert.Gather.nD Cert.Gather.τ).loc Cert.Gather.main_v1_3) = v3
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1)
          ∧ r.2.mem ((c.tc : Thread Cert.Gather.nD Cert.Gather.τ).loc Cert.Gather.main_arg2) = m ((c.tc : Thread Cert.Gather.nD Cert.Gather.τ).loc Cert.Gather.main_arg2)
          ∧ r.2.mem ((c.tc : Thread Cert.Gather.nD Cert.Gather.τ).loc Cert.Gather.main_arg3) = m ((c.tc : Thread Cert.Gather.nD Cert.Gather.τ).loc Cert.Gather.main_arg3))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v1) = v0
          ∧ r.2.mem (((0 : Dev Cert.GatherRef.nD).tc : Thread Cert.GatherRef.nD Cert.GatherRef.τ).loc Cert.GatherRef.main_v2) = v1
          ∧ r.2.mem (((0 : Dev Cert.GatherRef.nD).tc : Thread Cert.GatherRef.nD Cert.GatherRef.τ).loc Cert.GatherRef.main_v4) = v2
          ∧ r.2.mem (((0 : Dev Cert.GatherRef.nD).tc : Thread Cert.GatherRef.nD Cert.GatherRef.τ).loc Cert.GatherRef.main_v5) = v3
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0)
          ∧ r.2.mem (((0 : Dev Cert.GatherRef.nD).tc : Thread Cert.GatherRef.nD Cert.GatherRef.τ).loc Cert.GatherRef.main_arg1) = m' (((0 : Dev Cert.GatherRef.nD).tc : Thread Cert.GatherRef.nD Cert.GatherRef.τ).loc Cert.GatherRef.main_arg1)
          ∧ r.2.mem (((0 : Dev Cert.GatherRef.nD).tc : Thread Cert.GatherRef.nD Cert.GatherRef.τ).loc Cert.GatherRef.main_arg2) = m' (((0 : Dev Cert.GatherRef.nD).tc : Thread Cert.GatherRef.nD Cert.GatherRef.τ).loc Cert.GatherRef.main_arg2)
          ∧ r.2.mem (((0 : Dev Cert.GatherRef.nD).tc : Thread Cert.GatherRef.nD Cert.GatherRef.τ).loc Cert.GatherRef.main_arg3) = m' (((0 : Dev Cert.GatherRef.nD).tc : Thread Cert.GatherRef.nD Cert.GatherRef.τ).loc Cert.GatherRef.main_arg3))

def preserves_UpdateIn_UpdateInIdeal : Prop :=
  True

def algebraic_UpdateInIdeal_UpdateInRefIdeal [hUpdateInIdeal : Cert.UpdateInIdeal.Facts] [hUpdateInRefIdeal : Cert.UpdateInRefIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInRefIdeal.nD Cert.UpdateInRefIdeal.τ Cert.UpdateInRefIdeal.sig) → Buf (Elt Ideal) ℓ) (g' : Dev Cert.UpdateInRefIdeal.nD → PrngReg), Pre_UpdateInIdeal m →
    (∀ c : Dev Cert.UpdateInIdeal.nD,
      m' ((c.tc : Thread Cert.UpdateInRefIdeal.nD Cert.UpdateInRefIdeal.τ).loc Cert.UpdateInRefIdeal.main_arg0) = m ((c.tc : Thread Cert.UpdateInIdeal.nD Cert.UpdateInIdeal.τ).loc Cert.UpdateInIdeal.main_arg0)
      ∧ m' ((c.tc : Thread Cert.UpdateInRefIdeal.nD Cert.UpdateInRefIdeal.τ).loc Cert.UpdateInRefIdeal.main_arg1) = m ((c.tc : Thread Cert.UpdateInIdeal.nD Cert.UpdateInIdeal.τ).loc Cert.UpdateInIdeal.main_arg1)
      ∧ m' ((c.tc : Thread Cert.UpdateInRefIdeal.nD Cert.UpdateInRefIdeal.τ).loc Cert.UpdateInRefIdeal.main_arg2) = m ((c.tc : Thread Cert.UpdateInIdeal.nD Cert.UpdateInIdeal.τ).loc Cert.UpdateInIdeal.main_arg2)
      ∧ m' ((c.tc : Thread Cert.UpdateInRefIdeal.nD Cert.UpdateInRefIdeal.τ).loc Cert.UpdateInRefIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInRefIdeal.defs (F := Ideal)) (onTc (τ := Cert.UpdateInRefIdeal.τ) (Cert.UpdateInRefIdeal.main (F := Ideal))) ⟨m', fun _ => 0, g'⟩ (fun r => ∀ c : Dev Cert.UpdateInRefIdeal.nD,
          r.2.mem ((c.tc : Thread Cert.UpdateInRefIdeal.nD Cert.UpdateInRefIdeal.τ).loc Cert.UpdateInRefIdeal.main_v23) = v0 c
          ∧ r.2.mem ((c.tc : Thread Cert.UpdateInRefIdeal.nD Cert.UpdateInRefIdeal.τ).loc Cert.UpdateInRefIdeal.main_v4) = v1 c
          ∧ r.2.mem ((c.tc : Thread Cert.UpdateInRefIdeal.nD Cert.UpdateInRefIdeal.τ).loc Cert.UpdateInRefIdeal.main_v10) = v2 c
          ∧ r.2.mem ((c.tc : Thread Cert.UpdateInRefIdeal.nD Cert.UpdateInRefIdeal.τ).loc Cert.UpdateInRefIdeal.main_arg0) = m' ((c.tc : Thread Cert.UpdateInRefIdeal.nD Cert.UpdateInRefIdeal.τ).loc Cert.UpdateInRefIdeal.main_arg0)
          ∧ r.2.mem ((c.tc : Thread Cert.UpdateInRefIdeal.nD Cert.UpdateInRefIdeal.τ).loc Cert.UpdateInRefIdeal.main_arg1) = m' ((c.tc : Thread Cert.UpdateInRefIdeal.nD Cert.UpdateInRefIdeal.τ).loc Cert.UpdateInRefIdeal.main_arg1)
          ∧ r.2.mem ((c.tc : Thread Cert.UpdateInRefIdeal.nD Cert.UpdateInRefIdeal.τ).loc Cert.UpdateInRefIdeal.main_arg2) = m' ((c.tc : Thread Cert.UpdateInRefIdeal.nD Cert.UpdateInRefIdeal.τ).loc Cert.UpdateInRefIdeal.main_arg2)
          ∧ r.2.mem ((c.tc : Thread Cert.UpdateInRefIdeal.nD Cert.UpdateInRefIdeal.τ).loc Cert.UpdateInRefIdeal.main_arg3) = m' ((c.tc : Thread Cert.UpdateInRefIdeal.nD Cert.UpdateInRefIdeal.τ).loc Cert.UpdateInRefIdeal.main_arg3))

def preserves_UpdateOut_UpdateOutIdeal : Prop :=
  True

def algebraic_UpdateOutIdeal_UpdateOutRefIdeal [hUpdateOutIdeal : Cert.UpdateOutIdeal.Facts] [hUpdateOutRefIdeal : Cert.UpdateOutRefIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutRefIdeal.nD Cert.UpdateOutRefIdeal.τ Cert.UpdateOutRefIdeal.sig) → Buf (Elt Ideal) ℓ) (g' : Dev Cert.UpdateOutRefIdeal.nD → PrngReg), Pre_UpdateOutIdeal m →
    (∀ c : Dev Cert.UpdateOutIdeal.nD,
      m' ((c.tc : Thread Cert.UpdateOutRefIdeal.nD Cert.UpdateOutRefIdeal.τ).loc Cert.UpdateOutRefIdeal.main_arg0) = m ((c.tc : Thread Cert.UpdateOutIdeal.nD Cert.UpdateOutIdeal.τ).loc Cert.UpdateOutIdeal.main_arg0)
      ∧ m' ((c.tc : Thread Cert.UpdateOutRefIdeal.nD Cert.UpdateOutRefIdeal.τ).loc Cert.UpdateOutRefIdeal.main_arg1) = m ((c.tc : Thread Cert.UpdateOutIdeal.nD Cert.UpdateOutIdeal.τ).loc Cert.UpdateOutIdeal.main_arg1)
      ∧ m' ((c.tc : Thread Cert.UpdateOutRefIdeal.nD Cert.UpdateOutRefIdeal.τ).loc Cert.UpdateOutRefIdeal.main_arg2) = m ((c.tc : Thread Cert.UpdateOutIdeal.nD Cert.UpdateOutIdeal.τ).loc Cert.UpdateOutIdeal.main_arg2)
      ∧ m' ((c.tc : Thread Cert.UpdateOutRefIdeal.nD Cert.UpdateOutRefIdeal.τ).loc Cert.UpdateOutRefIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutRefIdeal.defs (F := Ideal)) (onTc (τ := Cert.UpdateOutRefIdeal.τ) (Cert.UpdateOutRefIdeal.main (F := Ideal))) ⟨m', fun _ => 0, g'⟩ (fun r => ∀ c : Dev Cert.UpdateOutRefIdeal.nD,
          r.2.mem ((c.tc : Thread Cert.UpdateOutRefIdeal.nD Cert.UpdateOutRefIdeal.τ).loc Cert.UpdateOutRefIdeal.main_v23) = v0 c
          ∧ r.2.mem ((c.tc : Thread Cert.UpdateOutRefIdeal.nD Cert.UpdateOutRefIdeal.τ).loc Cert.UpdateOutRefIdeal.main_v4) = v1 c
          ∧ r.2.mem ((c.tc : Thread Cert.UpdateOutRefIdeal.nD Cert.UpdateOutRefIdeal.τ).loc Cert.UpdateOutRefIdeal.main_v10) = v2 c
          ∧ r.2.mem ((c.tc : Thread Cert.UpdateOutRefIdeal.nD Cert.UpdateOutRefIdeal.τ).loc Cert.UpdateOutRefIdeal.main_arg0) = m' ((c.tc : Thread Cert.UpdateOutRefIdeal.nD Cert.UpdateOutRefIdeal.τ).loc Cert.UpdateOutRefIdeal.main_arg0)
          ∧ r.2.mem ((c.tc : Thread Cert.UpdateOutRefIdeal.nD Cert.UpdateOutRefIdeal.τ).loc Cert.UpdateOutRefIdeal.main_arg1) = m' ((c.tc : Thread Cert.UpdateOutRefIdeal.nD Cert.UpdateOutRefIdeal.τ).loc Cert.UpdateOutRefIdeal.main_arg1)
          ∧ r.2.mem ((c.tc : Thread Cert.UpdateOutRefIdeal.nD Cert.UpdateOutRefIdeal.τ).loc Cert.UpdateOutRefIdeal.main_arg2) = m' ((c.tc : Thread Cert.UpdateOutRefIdeal.nD Cert.UpdateOutRefIdeal.τ).loc Cert.UpdateOutRefIdeal.main_arg2)
          ∧ r.2.mem ((c.tc : Thread Cert.UpdateOutRefIdeal.nD Cert.UpdateOutRefIdeal.τ).loc Cert.UpdateOutRefIdeal.main_arg3) = m' ((c.tc : Thread Cert.UpdateOutRefIdeal.nD Cert.UpdateOutRefIdeal.τ).loc Cert.UpdateOutRefIdeal.main_arg3))

def preserves_UpdateMlp_UpdateMlpIdeal : Prop :=
  True

def algebraic_UpdateMlpIdeal_UpdateMlpRefIdeal [hUpdateMlpIdeal : Cert.UpdateMlpIdeal.Facts] [hUpdateMlpRefIdeal : Cert.UpdateMlpRefIdeal.Facts] : Prop :=
  ∀ (m : (ℓ : Loc Cert.UpdateMlpIdeal.nD Cert.UpdateMlpIdeal.τ Cert.UpdateMlpIdeal.sig) → Buf (Elt Ideal) ℓ) (g : Dev Cert.UpdateMlpIdeal.nD → PrngReg)
    (m' : (ℓ : Loc Cert.UpdateMlpRefIdeal.nD Cert.UpdateMlpRefIdeal.τ Cert.UpdateMlpRefIdeal.sig) → Buf (Elt Ideal) ℓ) (g' : Dev Cert.UpdateMlpRefIdeal.nD → PrngReg), Pre_UpdateMlpIdeal m →
    (∀ c : Dev Cert.UpdateMlpIdeal.nD,
      m' ((c.tc : Thread Cert.UpdateMlpRefIdeal.nD Cert.UpdateMlpRefIdeal.τ).loc Cert.UpdateMlpRefIdeal.main_arg0) = m ((c.tc : Thread Cert.UpdateMlpIdeal.nD Cert.UpdateMlpIdeal.τ).loc Cert.UpdateMlpIdeal.main_arg0)
      ∧ m' ((c.tc : Thread Cert.UpdateMlpRefIdeal.nD Cert.UpdateMlpRefIdeal.τ).loc Cert.UpdateMlpRefIdeal.main_arg1) = m ((c.tc : Thread Cert.UpdateMlpIdeal.nD Cert.UpdateMlpIdeal.τ).loc Cert.UpdateMlpIdeal.main_arg1)
      ∧ m' ((c.tc : Thread Cert.UpdateMlpRefIdeal.nD Cert.UpdateMlpRefIdeal.τ).loc Cert.UpdateMlpRefIdeal.main_arg2) = m ((c.tc : Thread Cert.UpdateMlpIdeal.nD Cert.UpdateMlpIdeal.τ).loc Cert.UpdateMlpIdeal.main_arg2)
      ∧ m' ((c.tc : Thread Cert.UpdateMlpRefIdeal.nD Cert.UpdateMlpRefIdeal.τ).loc Cert.UpdateMlpRefIdeal.main_arg3) = m ((c.tc : Thread Cert.UpdateMlpIdeal.nD Cert.UpdateMlpIdeal.τ).loc Cert.UpdateMlpIdeal.main_arg3)) →
    ∃ (v0 : (c : Dev Cert.UpdateMlpIdeal.nD) → Buf (Elt Ideal) ((c.tc : Thread Cert.UpdateMlpIdeal.nD Cert.UpdateMlpIdeal.τ).loc Cert.UpdateMlpIdeal.main_v0_0)) (v1 : (c : Dev Cert.UpdateMlpIdeal.nD) → Buf (Elt Ideal) ((c.tc : Thread Cert.UpdateMlpIdeal.nD Cert.UpdateMlpIdeal.τ).loc Cert.UpdateMlpIdeal.main_v0_1)) (v2 : (c : Dev Cert.UpdateMlpIdeal.nD) → Buf (Elt Ideal) ((c.tc : Thread Cert.UpdateMlpIdeal.nD Cert.UpdateMlpIdeal.τ).loc Cert.UpdateMlpIdeal.main_v0_2)),
      θ_run (Cert.UpdateMlpIdeal.defs (F := Ideal)) (onTc (τ := Cert.UpdateMlpIdeal.τ) (Cert.UpdateMlpIdeal.main (F := Ideal))) ⟨m, fun _ => 0, g⟩ (fun r => ∀ c : Dev Cert.UpdateMlpIdeal.nD,
          r.2.mem ((c.tc : Thread Cert.UpdateMlpIdeal.nD Cert.UpdateMlpIdeal.τ).loc Cert.UpdateMlpIdeal.main_v0_0) = v0 c
          ∧ r.2.mem ((c.tc : Thread Cert.UpdateMlpIdeal.nD Cert.UpdateMlpIdeal.τ).loc Cert.UpdateMlpIdeal.main_v0_1) = v1 c
          ∧ r.2.mem ((c.tc : Thread Cert.UpdateMlpIdeal.nD Cert.UpdateMlpIdeal.τ).loc Cert.UpdateMlpIdeal.main_v0_2) = v2 c
          ∧ r.2.mem ((c.tc : Thread Cert.UpdateMlpIdeal.nD Cert.UpdateMlpIdeal.τ).loc Cert.UpdateMlpIdeal.main_arg0) = m ((c.tc : Thread Cert.UpdateMlpIdeal.nD Cert.UpdateMlpIdeal.τ).loc Cert.UpdateMlpIdeal.main_arg0)
          ∧ r.2.mem ((c.tc : Thread Cert.UpdateMlpIdeal.nD Cert.UpdateMlpIdeal.τ).loc Cert.UpdateMlpIdeal.main_arg1) = m ((c.tc : Thread Cert.UpdateMlpIdeal.nD Cert.UpdateMlpIdeal.τ).loc Cert.UpdateMlpIdeal.main_arg1)
          ∧ r.2.mem ((c.tc : Thread Cert.UpdateMlpIdeal.nD Cert.UpdateMlpIdeal.τ).loc Cert.UpdateMlpIdeal.main_arg2) = m ((c.tc : Thread Cert.UpdateMlpIdeal.nD Cert.UpdateMlpIdeal.τ).loc Cert.UpdateMlpIdeal.main_arg2)
          ∧ r.2.mem ((c.tc : Thread Cert.UpdateMlpIdeal.nD Cert.UpdateMlpIdeal.τ).loc Cert.UpdateMlpIdeal.main_arg3) = m ((c.tc : Thread Cert.UpdateMlpIdeal.nD Cert.UpdateMlpIdeal.τ).loc Cert.UpdateMlpIdeal.main_arg3))
      ∧ θ_run (Cert.UpdateMlpRefIdeal.defs (F := Ideal)) (onTc (τ := Cert.UpdateMlpRefIdeal.τ) (Cert.UpdateMlpRefIdeal.main (F := Ideal))) ⟨m', fun _ => 0, g'⟩ (fun r => ∀ c : Dev Cert.UpdateMlpRefIdeal.nD,
          r.2.mem ((c.tc : Thread Cert.UpdateMlpRefIdeal.nD Cert.UpdateMlpRefIdeal.τ).loc Cert.UpdateMlpRefIdeal.main_v23) = v0 c
          ∧ r.2.mem ((c.tc : Thread Cert.UpdateMlpRefIdeal.nD Cert.UpdateMlpRefIdeal.τ).loc Cert.UpdateMlpRefIdeal.main_v4) = v1 c
          ∧ r.2.mem ((c.tc : Thread Cert.UpdateMlpRefIdeal.nD Cert.UpdateMlpRefIdeal.τ).loc Cert.UpdateMlpRefIdeal.main_v10) = v2 c
          ∧ r.2.mem ((c.tc : Thread Cert.UpdateMlpRefIdeal.nD Cert.UpdateMlpRefIdeal.τ).loc Cert.UpdateMlpRefIdeal.main_arg0) = m' ((c.tc : Thread Cert.UpdateMlpRefIdeal.nD Cert.UpdateMlpRefIdeal.τ).loc Cert.UpdateMlpRefIdeal.main_arg0)
          ∧ r.2.mem ((c.tc : Thread Cert.UpdateMlpRefIdeal.nD Cert.UpdateMlpRefIdeal.τ).loc Cert.UpdateMlpRefIdeal.main_arg1) = m' ((c.tc : Thread Cert.UpdateMlpRefIdeal.nD Cert.UpdateMlpRefIdeal.τ).loc Cert.UpdateMlpRefIdeal.main_arg1)
          ∧ r.2.mem ((c.tc : Thread Cert.UpdateMlpRefIdeal.nD Cert.UpdateMlpRefIdeal.τ).loc Cert.UpdateMlpRefIdeal.main_arg2) = m' ((c.tc : Thread Cert.UpdateMlpRefIdeal.nD Cert.UpdateMlpRefIdeal.τ).loc Cert.UpdateMlpRefIdeal.main_arg2)
          ∧ r.2.mem ((c.tc : Thread Cert.UpdateMlpRefIdeal.nD Cert.UpdateMlpRefIdeal.τ).loc Cert.UpdateMlpRefIdeal.main_arg3) = m' ((c.tc : Thread Cert.UpdateMlpRefIdeal.nD Cert.UpdateMlpRefIdeal.τ).loc Cert.UpdateMlpRefIdeal.main_arg3))

def preserves_UpdateNorm_UpdateNormIdeal : Prop :=
  True

def algebraic_UpdateNormIdeal_UpdateNormRefIdeal [hUpdateNormIdeal : Cert.UpdateNormIdeal.Facts] [hUpdateNormRefIdeal : Cert.UpdateNormRefIdeal.Facts] : Prop :=
  ∀ (m : (ℓ : Loc Cert.UpdateNormIdeal.nD Cert.UpdateNormIdeal.τ Cert.UpdateNormIdeal.sig) → Buf (Elt Ideal) ℓ) (g : Dev Cert.UpdateNormIdeal.nD → PrngReg)
    (m' : (ℓ : Loc Cert.UpdateNormRefIdeal.nD Cert.UpdateNormRefIdeal.τ Cert.UpdateNormRefIdeal.sig) → Buf (Elt Ideal) ℓ) (g' : Dev Cert.UpdateNormRefIdeal.nD → PrngReg), Pre_UpdateNormIdeal m →
    (∀ c : Dev Cert.UpdateNormIdeal.nD,
      m' ((c.tc : Thread Cert.UpdateNormRefIdeal.nD Cert.UpdateNormRefIdeal.τ).loc Cert.UpdateNormRefIdeal.main_arg0) = m ((c.tc : Thread Cert.UpdateNormIdeal.nD Cert.UpdateNormIdeal.τ).loc Cert.UpdateNormIdeal.main_arg0)
      ∧ m' ((c.tc : Thread Cert.UpdateNormRefIdeal.nD Cert.UpdateNormRefIdeal.τ).loc Cert.UpdateNormRefIdeal.main_arg1) = m ((c.tc : Thread Cert.UpdateNormIdeal.nD Cert.UpdateNormIdeal.τ).loc Cert.UpdateNormIdeal.main_arg1)
      ∧ m' ((c.tc : Thread Cert.UpdateNormRefIdeal.nD Cert.UpdateNormRefIdeal.τ).loc Cert.UpdateNormRefIdeal.main_arg2) = m ((c.tc : Thread Cert.UpdateNormIdeal.nD Cert.UpdateNormIdeal.τ).loc Cert.UpdateNormIdeal.main_arg2)
      ∧ m' ((c.tc : Thread Cert.UpdateNormRefIdeal.nD Cert.UpdateNormRefIdeal.τ).loc Cert.UpdateNormRefIdeal.main_arg3) = m ((c.tc : Thread Cert.UpdateNormIdeal.nD Cert.UpdateNormIdeal.τ).loc Cert.UpdateNormIdeal.main_arg3)) →
    ∃ (v0 : (c : Dev Cert.UpdateNormIdeal.nD) → Buf (Elt Ideal) ((c.tc : Thread Cert.UpdateNormIdeal.nD Cert.UpdateNormIdeal.τ).loc Cert.UpdateNormIdeal.main_v0_0)) (v1 : (c : Dev Cert.UpdateNormIdeal.nD) → Buf (Elt Ideal) ((c.tc : Thread Cert.UpdateNormIdeal.nD Cert.UpdateNormIdeal.τ).loc Cert.UpdateNormIdeal.main_v0_1)) (v2 : (c : Dev Cert.UpdateNormIdeal.nD) → Buf (Elt Ideal) ((c.tc : Thread Cert.UpdateNormIdeal.nD Cert.UpdateNormIdeal.τ).loc Cert.UpdateNormIdeal.main_v0_2)),
      θ_run (Cert.UpdateNormIdeal.defs (F := Ideal)) (onTc (τ := Cert.UpdateNormIdeal.τ) (Cert.UpdateNormIdeal.main (F := Ideal))) ⟨m, fun _ => 0, g⟩ (fun r => ∀ c : Dev Cert.UpdateNormIdeal.nD,
          r.2.mem ((c.tc : Thread Cert.UpdateNormIdeal.nD Cert.UpdateNormIdeal.τ).loc Cert.UpdateNormIdeal.main_v0_0) = v0 c
          ∧ r.2.mem ((c.tc : Thread Cert.UpdateNormIdeal.nD Cert.UpdateNormIdeal.τ).loc Cert.UpdateNormIdeal.main_v0_1) = v1 c
          ∧ r.2.mem ((c.tc : Thread Cert.UpdateNormIdeal.nD Cert.UpdateNormIdeal.τ).loc Cert.UpdateNormIdeal.main_v0_2) = v2 c
          ∧ r.2.mem ((c.tc : Thread Cert.UpdateNormIdeal.nD Cert.UpdateNormIdeal.τ).loc Cert.UpdateNormIdeal.main_arg0) = m ((c.tc : Thread Cert.UpdateNormIdeal.nD Cert.UpdateNormIdeal.τ).loc Cert.UpdateNormIdeal.main_arg0)
          ∧ r.2.mem ((c.tc : Thread Cert.UpdateNormIdeal.nD Cert.UpdateNormIdeal.τ).loc Cert.UpdateNormIdeal.main_arg1) = m ((c.tc : Thread Cert.UpdateNormIdeal.nD Cert.UpdateNormIdeal.τ).loc Cert.UpdateNormIdeal.main_arg1)
          ∧ r.2.mem ((c.tc : Thread Cert.UpdateNormIdeal.nD Cert.UpdateNormIdeal.τ).loc Cert.UpdateNormIdeal.main_arg2) = m ((c.tc : Thread Cert.UpdateNormIdeal.nD Cert.UpdateNormIdeal.τ).loc Cert.UpdateNormIdeal.main_arg2)
          ∧ r.2.mem ((c.tc : Thread Cert.UpdateNormIdeal.nD Cert.UpdateNormIdeal.τ).loc Cert.UpdateNormIdeal.main_arg3) = m ((c.tc : Thread Cert.UpdateNormIdeal.nD Cert.UpdateNormIdeal.τ).loc Cert.UpdateNormIdeal.main_arg3))
      ∧ θ_run (Cert.UpdateNormRefIdeal.defs (F := Ideal)) (onTc (τ := Cert.UpdateNormRefIdeal.τ) (Cert.UpdateNormRefIdeal.main (F := Ideal))) ⟨m', fun _ => 0, g'⟩ (fun r => ∀ c : Dev Cert.UpdateNormRefIdeal.nD,
          r.2.mem ((c.tc : Thread Cert.UpdateNormRefIdeal.nD Cert.UpdateNormRefIdeal.τ).loc Cert.UpdateNormRefIdeal.main_v23) = v0 c
          ∧ r.2.mem ((c.tc : Thread Cert.UpdateNormRefIdeal.nD Cert.UpdateNormRefIdeal.τ).loc Cert.UpdateNormRefIdeal.main_v4) = v1 c
          ∧ r.2.mem ((c.tc : Thread Cert.UpdateNormRefIdeal.nD Cert.UpdateNormRefIdeal.τ).loc Cert.UpdateNormRefIdeal.main_v10) = v2 c
          ∧ r.2.mem ((c.tc : Thread Cert.UpdateNormRefIdeal.nD Cert.UpdateNormRefIdeal.τ).loc Cert.UpdateNormRefIdeal.main_arg0) = m' ((c.tc : Thread Cert.UpdateNormRefIdeal.nD Cert.UpdateNormRefIdeal.τ).loc Cert.UpdateNormRefIdeal.main_arg0)
          ∧ r.2.mem ((c.tc : Thread Cert.UpdateNormRefIdeal.nD Cert.UpdateNormRefIdeal.τ).loc Cert.UpdateNormRefIdeal.main_arg1) = m' ((c.tc : Thread Cert.UpdateNormRefIdeal.nD Cert.UpdateNormRefIdeal.τ).loc Cert.UpdateNormRefIdeal.main_arg1)
          ∧ r.2.mem ((c.tc : Thread Cert.UpdateNormRefIdeal.nD Cert.UpdateNormRefIdeal.τ).loc Cert.UpdateNormRefIdeal.main_arg2) = m' ((c.tc : Thread Cert.UpdateNormRefIdeal.nD Cert.UpdateNormRefIdeal.τ).loc Cert.UpdateNormRefIdeal.main_arg2)
          ∧ r.2.mem ((c.tc : Thread Cert.UpdateNormRefIdeal.nD Cert.UpdateNormRefIdeal.τ).loc Cert.UpdateNormRefIdeal.main_arg3) = m' ((c.tc : Thread Cert.UpdateNormRefIdeal.nD Cert.UpdateNormRefIdeal.τ).loc Cert.UpdateNormRefIdeal.main_arg3))

def preserves_UpdateLb_UpdateLbIdeal : Prop :=
  True

def algebraic_UpdateLbIdeal_UpdateLbRefIdeal [hUpdateLbIdeal : Cert.UpdateLbIdeal.Facts] [hUpdateLbRefIdeal : Cert.UpdateLbRefIdeal.Facts] : Prop :=
  ∀ (m : (ℓ : Loc Cert.UpdateLbIdeal.nD Cert.UpdateLbIdeal.τ Cert.UpdateLbIdeal.sig) → Buf (Elt Ideal) ℓ) (g : Dev Cert.UpdateLbIdeal.nD → PrngReg)
    (m' : (ℓ : Loc Cert.UpdateLbRefIdeal.nD Cert.UpdateLbRefIdeal.τ Cert.UpdateLbRefIdeal.sig) → Buf (Elt Ideal) ℓ) (g' : Dev Cert.UpdateLbRefIdeal.nD → PrngReg), Pre_UpdateLbIdeal m →
    (∀ c : Dev Cert.UpdateLbIdeal.nD,
      m' ((c.tc : Thread Cert.UpdateLbRefIdeal.nD Cert.UpdateLbRefIdeal.τ).loc Cert.UpdateLbRefIdeal.main_arg0) = m ((c.tc : Thread Cert.UpdateLbIdeal.nD Cert.UpdateLbIdeal.τ).loc Cert.UpdateLbIdeal.main_arg0)
      ∧ m' ((c.tc : Thread Cert.UpdateLbRefIdeal.nD Cert.UpdateLbRefIdeal.τ).loc Cert.UpdateLbRefIdeal.main_arg1) = m ((c.tc : Thread Cert.UpdateLbIdeal.nD Cert.UpdateLbIdeal.τ).loc Cert.UpdateLbIdeal.main_arg1)
      ∧ m' ((c.tc : Thread Cert.UpdateLbRefIdeal.nD Cert.UpdateLbRefIdeal.τ).loc Cert.UpdateLbRefIdeal.main_arg2) = m ((c.tc : Thread Cert.UpdateLbIdeal.nD Cert.UpdateLbIdeal.τ).loc Cert.UpdateLbIdeal.main_arg2)
      ∧ m' ((c.tc : Thread Cert.UpdateLbRefIdeal.nD Cert.UpdateLbRefIdeal.τ).loc Cert.UpdateLbRefIdeal.main_arg3) = m ((c.tc : Thread Cert.UpdateLbIdeal.nD Cert.UpdateLbIdeal.τ).loc Cert.UpdateLbIdeal.main_arg3)) →
    ∃ (v0 : (c : Dev Cert.UpdateLbIdeal.nD) → Buf (Elt Ideal) ((c.tc : Thread Cert.UpdateLbIdeal.nD Cert.UpdateLbIdeal.τ).loc Cert.UpdateLbIdeal.main_v0_0)) (v1 : (c : Dev Cert.UpdateLbIdeal.nD) → Buf (Elt Ideal) ((c.tc : Thread Cert.UpdateLbIdeal.nD Cert.UpdateLbIdeal.τ).loc Cert.UpdateLbIdeal.main_v0_1)) (v2 : (c : Dev Cert.UpdateLbIdeal.nD) → Buf (Elt Ideal) ((c.tc : Thread Cert.UpdateLbIdeal.nD Cert.UpdateLbIdeal.τ).loc Cert.UpdateLbIdeal.main_v0_2)),
      θ_run (Cert.UpdateLbIdeal.defs (F := Ideal)) (onTc (τ := Cert.UpdateLbIdeal.τ) (Cert.UpdateLbIdeal.main (F := Ideal))) ⟨m, fun _ => 0, g⟩ (fun r => ∀ c : Dev Cert.UpdateLbIdeal.nD,
          r.2.mem ((c.tc : Thread Cert.UpdateLbIdeal.nD Cert.UpdateLbIdeal.τ).loc Cert.UpdateLbIdeal.main_v0_0) = v0 c
          ∧ r.2.mem ((c.tc : Thread Cert.UpdateLbIdeal.nD Cert.UpdateLbIdeal.τ).loc Cert.UpdateLbIdeal.main_v0_1) = v1 c
          ∧ r.2.mem ((c.tc : Thread Cert.UpdateLbIdeal.nD Cert.UpdateLbIdeal.τ).loc Cert.UpdateLbIdeal.main_v0_2) = v2 c
          ∧ r.2.mem ((c.tc : Thread Cert.UpdateLbIdeal.nD Cert.UpdateLbIdeal.τ).loc Cert.UpdateLbIdeal.main_arg0) = m ((c.tc : Thread Cert.UpdateLbIdeal.nD Cert.UpdateLbIdeal.τ).loc Cert.UpdateLbIdeal.main_arg0)
          ∧ r.2.mem ((c.tc : Thread Cert.UpdateLbIdeal.nD Cert.UpdateLbIdeal.τ).loc Cert.UpdateLbIdeal.main_arg1) = m ((c.tc : Thread Cert.UpdateLbIdeal.nD Cert.UpdateLbIdeal.τ).loc Cert.UpdateLbIdeal.main_arg1)
          ∧ r.2.mem ((c.tc : Thread Cert.UpdateLbIdeal.nD Cert.UpdateLbIdeal.τ).loc Cert.UpdateLbIdeal.main_arg2) = m ((c.tc : Thread Cert.UpdateLbIdeal.nD Cert.UpdateLbIdeal.τ).loc Cert.UpdateLbIdeal.main_arg2)
          ∧ r.2.mem ((c.tc : Thread Cert.UpdateLbIdeal.nD Cert.UpdateLbIdeal.τ).loc Cert.UpdateLbIdeal.main_arg3) = m ((c.tc : Thread Cert.UpdateLbIdeal.nD Cert.UpdateLbIdeal.τ).loc Cert.UpdateLbIdeal.main_arg3))
      ∧ θ_run (Cert.UpdateLbRefIdeal.defs (F := Ideal)) (onTc (τ := Cert.UpdateLbRefIdeal.τ) (Cert.UpdateLbRefIdeal.main (F := Ideal))) ⟨m', fun _ => 0, g'⟩ (fun r => ∀ c : Dev Cert.UpdateLbRefIdeal.nD,
          r.2.mem ((c.tc : Thread Cert.UpdateLbRefIdeal.nD Cert.UpdateLbRefIdeal.τ).loc Cert.UpdateLbRefIdeal.main_v23) = v0 c
          ∧ r.2.mem ((c.tc : Thread Cert.UpdateLbRefIdeal.nD Cert.UpdateLbRefIdeal.τ).loc Cert.UpdateLbRefIdeal.main_v4) = v1 c
          ∧ r.2.mem ((c.tc : Thread Cert.UpdateLbRefIdeal.nD Cert.UpdateLbRefIdeal.τ).loc Cert.UpdateLbRefIdeal.main_v10) = v2 c
          ∧ r.2.mem ((c.tc : Thread Cert.UpdateLbRefIdeal.nD Cert.UpdateLbRefIdeal.τ).loc Cert.UpdateLbRefIdeal.main_arg0) = m' ((c.tc : Thread Cert.UpdateLbRefIdeal.nD Cert.UpdateLbRefIdeal.τ).loc Cert.UpdateLbRefIdeal.main_arg0)
          ∧ r.2.mem ((c.tc : Thread Cert.UpdateLbRefIdeal.nD Cert.UpdateLbRefIdeal.τ).loc Cert.UpdateLbRefIdeal.main_arg1) = m' ((c.tc : Thread Cert.UpdateLbRefIdeal.nD Cert.UpdateLbRefIdeal.τ).loc Cert.UpdateLbRefIdeal.main_arg1)
          ∧ r.2.mem ((c.tc : Thread Cert.UpdateLbRefIdeal.nD Cert.UpdateLbRefIdeal.τ).loc Cert.UpdateLbRefIdeal.main_arg2) = m' ((c.tc : Thread Cert.UpdateLbRefIdeal.nD Cert.UpdateLbRefIdeal.τ).loc Cert.UpdateLbRefIdeal.main_arg2)
          ∧ r.2.mem ((c.tc : Thread Cert.UpdateLbRefIdeal.nD Cert.UpdateLbRefIdeal.τ).loc Cert.UpdateLbRefIdeal.main_arg3) = m' ((c.tc : Thread Cert.UpdateLbRefIdeal.nD Cert.UpdateLbRefIdeal.τ).loc Cert.UpdateLbRefIdeal.main_arg3))

def preserves_UpdateHead_UpdateHeadIdeal : Prop :=
  True

def algebraic_UpdateHeadIdeal_UpdateHeadRefIdeal [hUpdateHeadIdeal : Cert.UpdateHeadIdeal.Facts] [hUpdateHeadRefIdeal : Cert.UpdateHeadRefIdeal.Facts] : Prop :=
  ∀ (m : (ℓ : Loc Cert.UpdateHeadIdeal.nD Cert.UpdateHeadIdeal.τ Cert.UpdateHeadIdeal.sig) → Buf (Elt Ideal) ℓ) (g : Dev Cert.UpdateHeadIdeal.nD → PrngReg)
    (m' : (ℓ : Loc Cert.UpdateHeadRefIdeal.nD Cert.UpdateHeadRefIdeal.τ Cert.UpdateHeadRefIdeal.sig) → Buf (Elt Ideal) ℓ) (g' : Dev Cert.UpdateHeadRefIdeal.nD → PrngReg), Pre_UpdateHeadIdeal m →
    (∀ c : Dev Cert.UpdateHeadIdeal.nD,
      m' ((c.tc : Thread Cert.UpdateHeadRefIdeal.nD Cert.UpdateHeadRefIdeal.τ).loc Cert.UpdateHeadRefIdeal.main_arg0) = m ((c.tc : Thread Cert.UpdateHeadIdeal.nD Cert.UpdateHeadIdeal.τ).loc Cert.UpdateHeadIdeal.main_arg0)
      ∧ m' ((c.tc : Thread Cert.UpdateHeadRefIdeal.nD Cert.UpdateHeadRefIdeal.τ).loc Cert.UpdateHeadRefIdeal.main_arg1) = m ((c.tc : Thread Cert.UpdateHeadIdeal.nD Cert.UpdateHeadIdeal.τ).loc Cert.UpdateHeadIdeal.main_arg1)
      ∧ m' ((c.tc : Thread Cert.UpdateHeadRefIdeal.nD Cert.UpdateHeadRefIdeal.τ).loc Cert.UpdateHeadRefIdeal.main_arg2) = m ((c.tc : Thread Cert.UpdateHeadIdeal.nD Cert.UpdateHeadIdeal.τ).loc Cert.UpdateHeadIdeal.main_arg2)
      ∧ m' ((c.tc : Thread Cert.UpdateHeadRefIdeal.nD Cert.UpdateHeadRefIdeal.τ).loc Cert.UpdateHeadRefIdeal.main_arg3) = m ((c.tc : Thread Cert.UpdateHeadIdeal.nD Cert.UpdateHeadIdeal.τ).loc Cert.UpdateHeadIdeal.main_arg3)) →
    ∃ (v0 : (c : Dev Cert.UpdateHeadIdeal.nD) → Buf (Elt Ideal) ((c.tc : Thread Cert.UpdateHeadIdeal.nD Cert.UpdateHeadIdeal.τ).loc Cert.UpdateHeadIdeal.main_v0_0)) (v1 : (c : Dev Cert.UpdateHeadIdeal.nD) → Buf (Elt Ideal) ((c.tc : Thread Cert.UpdateHeadIdeal.nD Cert.UpdateHeadIdeal.τ).loc Cert.UpdateHeadIdeal.main_v0_1)) (v2 : (c : Dev Cert.UpdateHeadIdeal.nD) → Buf (Elt Ideal) ((c.tc : Thread Cert.UpdateHeadIdeal.nD Cert.UpdateHeadIdeal.τ).loc Cert.UpdateHeadIdeal.main_v0_2)),
      θ_run (Cert.UpdateHeadIdeal.defs (F := Ideal)) (onTc (τ := Cert.UpdateHeadIdeal.τ) (Cert.UpdateHeadIdeal.main (F := Ideal))) ⟨m, fun _ => 0, g⟩ (fun r => ∀ c : Dev Cert.UpdateHeadIdeal.nD,
          r.2.mem ((c.tc : Thread Cert.UpdateHeadIdeal.nD Cert.UpdateHeadIdeal.τ).loc Cert.UpdateHeadIdeal.main_v0_0) = v0 c
          ∧ r.2.mem ((c.tc : Thread Cert.UpdateHeadIdeal.nD Cert.UpdateHeadIdeal.τ).loc Cert.UpdateHeadIdeal.main_v0_1) = v1 c
          ∧ r.2.mem ((c.tc : Thread Cert.UpdateHeadIdeal.nD Cert.UpdateHeadIdeal.τ).loc Cert.UpdateHeadIdeal.main_v0_2) = v2 c
          ∧ r.2.mem ((c.tc : Thread Cert.UpdateHeadIdeal.nD Cert.UpdateHeadIdeal.τ).loc Cert.UpdateHeadIdeal.main_arg0) = m ((c.tc : Thread Cert.UpdateHeadIdeal.nD Cert.UpdateHeadIdeal.τ).loc Cert.UpdateHeadIdeal.main_arg0)
          ∧ r.2.mem ((c.tc : Thread Cert.UpdateHeadIdeal.nD Cert.UpdateHeadIdeal.τ).loc Cert.UpdateHeadIdeal.main_arg1) = m ((c.tc : Thread Cert.UpdateHeadIdeal.nD Cert.UpdateHeadIdeal.τ).loc Cert.UpdateHeadIdeal.main_arg1)
          ∧ r.2.mem ((c.tc : Thread Cert.UpdateHeadIdeal.nD Cert.UpdateHeadIdeal.τ).loc Cert.UpdateHeadIdeal.main_arg2) = m ((c.tc : Thread Cert.UpdateHeadIdeal.nD Cert.UpdateHeadIdeal.τ).loc Cert.UpdateHeadIdeal.main_arg2)
          ∧ r.2.mem ((c.tc : Thread Cert.UpdateHeadIdeal.nD Cert.UpdateHeadIdeal.τ).loc Cert.UpdateHeadIdeal.main_arg3) = m ((c.tc : Thread Cert.UpdateHeadIdeal.nD Cert.UpdateHeadIdeal.τ).loc Cert.UpdateHeadIdeal.main_arg3))
      ∧ θ_run (Cert.UpdateHeadRefIdeal.defs (F := Ideal)) (onTc (τ := Cert.UpdateHeadRefIdeal.τ) (Cert.UpdateHeadRefIdeal.main (F := Ideal))) ⟨m', fun _ => 0, g'⟩ (fun r => ∀ c : Dev Cert.UpdateHeadRefIdeal.nD,
          r.2.mem ((c.tc : Thread Cert.UpdateHeadRefIdeal.nD Cert.UpdateHeadRefIdeal.τ).loc Cert.UpdateHeadRefIdeal.main_v23) = v0 c
          ∧ r.2.mem ((c.tc : Thread Cert.UpdateHeadRefIdeal.nD Cert.UpdateHeadRefIdeal.τ).loc Cert.UpdateHeadRefIdeal.main_v4) = v1 c
          ∧ r.2.mem ((c.tc : Thread Cert.UpdateHeadRefIdeal.nD Cert.UpdateHeadRefIdeal.τ).loc Cert.UpdateHeadRefIdeal.main_v10) = v2 c
          ∧ r.2.mem ((c.tc : Thread Cert.UpdateHeadRefIdeal.nD Cert.UpdateHeadRefIdeal.τ).loc Cert.UpdateHeadRefIdeal.main_arg0) = m' ((c.tc : Thread Cert.UpdateHeadRefIdeal.nD Cert.UpdateHeadRefIdeal.τ).loc Cert.UpdateHeadRefIdeal.main_arg0)
          ∧ r.2.mem ((c.tc : Thread Cert.UpdateHeadRefIdeal.nD Cert.UpdateHeadRefIdeal.τ).loc Cert.UpdateHeadRefIdeal.main_arg1) = m' ((c.tc : Thread Cert.UpdateHeadRefIdeal.nD Cert.UpdateHeadRefIdeal.τ).loc Cert.UpdateHeadRefIdeal.main_arg1)
          ∧ r.2.mem ((c.tc : Thread Cert.UpdateHeadRefIdeal.nD Cert.UpdateHeadRefIdeal.τ).loc Cert.UpdateHeadRefIdeal.main_arg2) = m' ((c.tc : Thread Cert.UpdateHeadRefIdeal.nD Cert.UpdateHeadRefIdeal.τ).loc Cert.UpdateHeadRefIdeal.main_arg2)
          ∧ r.2.mem ((c.tc : Thread Cert.UpdateHeadRefIdeal.nD Cert.UpdateHeadRefIdeal.τ).loc Cert.UpdateHeadRefIdeal.main_arg3) = m' ((c.tc : Thread Cert.UpdateHeadRefIdeal.nD Cert.UpdateHeadRefIdeal.τ).loc Cert.UpdateHeadRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v2) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v2) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1))

def preserves_SumMlp_SumMlpIdeal : Prop :=
  True

def algebraic_SumMlpIdeal_SumMlpRefIdeal [hSumMlpIdeal : Cert.SumMlpIdeal.Facts] [hSumMlpRefIdeal : Cert.SumMlpRefIdeal.Facts] : Prop :=
  ∀ (m : (ℓ : Loc Cert.SumMlpIdeal.nD Cert.SumMlpIdeal.τ Cert.SumMlpIdeal.sig) → Buf (Elt Ideal) ℓ) (g : Dev Cert.SumMlpIdeal.nD → PrngReg)
    (m' : (ℓ : Loc Cert.SumMlpRefIdeal.nD Cert.SumMlpRefIdeal.τ Cert.SumMlpRefIdeal.sig) → Buf (Elt Ideal) ℓ) (g' : Dev Cert.SumMlpRefIdeal.nD → PrngReg), Pre_SumMlpIdeal m →
    (∀ c : Dev Cert.SumMlpIdeal.nD,
      m' ((c.tc : Thread Cert.SumMlpRefIdeal.nD Cert.SumMlpRefIdeal.τ).loc Cert.SumMlpRefIdeal.main_arg0) = m ((c.tc : Thread Cert.SumMlpIdeal.nD Cert.SumMlpIdeal.τ).loc Cert.SumMlpIdeal.main_arg0)
      ∧ m' ((c.tc : Thread Cert.SumMlpRefIdeal.nD Cert.SumMlpRefIdeal.τ).loc Cert.SumMlpRefIdeal.main_arg1) = m ((c.tc : Thread Cert.SumMlpIdeal.nD Cert.SumMlpIdeal.τ).loc Cert.SumMlpIdeal.main_arg1)) →
    ∃ (v0 : (c : Dev Cert.SumMlpIdeal.nD) → Buf (Elt Ideal) ((c.tc : Thread Cert.SumMlpIdeal.nD Cert.SumMlpIdeal.τ).loc Cert.SumMlpIdeal.main_v0)),
      θ_run (Cert.SumMlpIdeal.defs (F := Ideal)) (onTc (τ := Cert.SumMlpIdeal.τ) (Cert.SumMlpIdeal.main (F := Ideal))) ⟨m, fun _ => 0, g⟩ (fun r => ∀ c : Dev Cert.SumMlpIdeal.nD,
          r.2.mem ((c.tc : Thread Cert.SumMlpIdeal.nD Cert.SumMlpIdeal.τ).loc Cert.SumMlpIdeal.main_v0) = v0 c
          ∧ r.2.mem ((c.tc : Thread Cert.SumMlpIdeal.nD Cert.SumMlpIdeal.τ).loc Cert.SumMlpIdeal.main_arg0) = m ((c.tc : Thread Cert.SumMlpIdeal.nD Cert.SumMlpIdeal.τ).loc Cert.SumMlpIdeal.main_arg0)
          ∧ r.2.mem ((c.tc : Thread Cert.SumMlpIdeal.nD Cert.SumMlpIdeal.τ).loc Cert.SumMlpIdeal.main_arg1) = m ((c.tc : Thread Cert.SumMlpIdeal.nD Cert.SumMlpIdeal.τ).loc Cert.SumMlpIdeal.main_arg1))
      ∧ θ_run (Cert.SumMlpRefIdeal.defs (F := Ideal)) (onTc (τ := Cert.SumMlpRefIdeal.τ) (Cert.SumMlpRefIdeal.main (F := Ideal))) ⟨m', fun _ => 0, g'⟩ (fun r => ∀ c : Dev Cert.SumMlpRefIdeal.nD,
          r.2.mem ((c.tc : Thread Cert.SumMlpRefIdeal.nD Cert.SumMlpRefIdeal.τ).loc Cert.SumMlpRefIdeal.main_v2) = v0 c
          ∧ r.2.mem ((c.tc : Thread Cert.SumMlpRefIdeal.nD Cert.SumMlpRefIdeal.τ).loc Cert.SumMlpRefIdeal.main_arg0) = m' ((c.tc : Thread Cert.SumMlpRefIdeal.nD Cert.SumMlpRefIdeal.τ).loc Cert.SumMlpRefIdeal.main_arg0)
          ∧ r.2.mem ((c.tc : Thread Cert.SumMlpRefIdeal.nD Cert.SumMlpRefIdeal.τ).loc Cert.SumMlpRefIdeal.main_arg1) = m' ((c.tc : Thread Cert.SumMlpRefIdeal.nD Cert.SumMlpRefIdeal.τ).loc Cert.SumMlpRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v22) = v0 c
          ∧ r.2.mem ((c.tc : Thread Cert.NormBackRefIdeal.nD Cert.NormBackRefIdeal.τ).loc Cert.NormBackRefIdeal.main_v25) = v1 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v26) = v0 c
          ∧ r.2.mem ((c.tc : Thread Cert.LossHeadRefIdeal.nD Cert.LossHeadRefIdeal.τ).loc Cert.LossHeadRefIdeal.main_v27) = v1 c
          ∧ r.2.mem ((c.tc : Thread Cert.LossHeadRefIdeal.nD Cert.LossHeadRefIdeal.τ).loc Cert.LossHeadRefIdeal.main_v30) = v2 c
          ∧ r.2.mem ((c.tc : Thread Cert.LossHeadRefIdeal.nD Cert.LossHeadRefIdeal.τ).loc Cert.LossHeadRefIdeal.main_v33) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v20) = v0 c
          ∧ r.2.mem ((c.tc : Thread Cert.TailRefIdeal.nD Cert.TailRefIdeal.τ).loc Cert.TailRefIdeal.main_v21) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v1) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v2) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v0_0)) (v1 : (c : Dev Cert.MlpUpIdeal.nD) → Buf (Elt Ideal) ((c.tc : Thread Cert.MlpUpIdeal.nD Cert.MlpUpIdeal.τ).loc Cert.MlpUpIdeal.main_v0_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v0_0) = v0 c
          ∧ r.2.mem ((c.tc : Thread Cert.MlpUpIdeal.nD Cert.MlpUpIdeal.τ).loc Cert.MlpUpIdeal.main_v0_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v2) = v0 c
          ∧ r.2.mem ((c.tc : Thread Cert.MlpUpRefIdeal.nD Cert.MlpUpRefIdeal.τ).loc Cert.MlpUpRefIdeal.main_v6) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v0)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v0) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v2) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_MlpDownBack_MlpDownBackIdeal : Prop :=
  True

def algebraic_MlpDownBackIdeal_MlpDownBackRefIdeal [hMlpDownBackIdeal : Cert.MlpDownBackIdeal.Facts] [hMlpDownBackRefIdeal : Cert.MlpDownBackRefIdeal.Facts] : Prop :=
  ∀ (m : (ℓ : Loc Cert.MlpDownBackIdeal.nD Cert.MlpDownBackIdeal.τ Cert.MlpDownBackIdeal.sig) → Buf (Elt Ideal) ℓ) (g : Dev Cert.MlpDownBackIdeal.nD → PrngReg)
    (m' : (ℓ : Loc Cert.MlpDownBackRefIdeal.nD Cert.MlpDownBackRefIdeal.τ Cert.MlpDownBackRefIdeal.sig) → Buf (Elt Ideal) ℓ) (g' : Dev Cert.MlpDownBackRefIdeal.nD → PrngReg), Pre_MlpDownBackIdeal m →
    (∀ c : Dev Cert.MlpDownBackIdeal.nD,
      m' ((c.tc : Thread Cert.MlpDownBackRefIdeal.nD Cert.MlpDownBackRefIdeal.τ).loc Cert.MlpDownBackRefIdeal.main_arg0) = m ((c.tc : Thread Cert.MlpDownBackIdeal.nD Cert.MlpDownBackIdeal.τ).loc Cert.MlpDownBackIdeal.main_arg0)
      ∧ m' ((c.tc : Thread Cert.MlpDownBackRefIdeal.nD Cert.MlpDownBackRefIdeal.τ).loc Cert.MlpDownBackRefIdeal.main_arg1) = m ((c.tc : Thread Cert.MlpDownBackIdeal.nD Cert.MlpDownBackIdeal.τ).loc Cert.MlpDownBackIdeal.main_arg1)
      ∧ m' ((c.tc : Thread Cert.MlpDownBackRefIdeal.nD Cert.MlpDownBackRefIdeal.τ).loc Cert.MlpDownBackRefIdeal.main_arg2) = m ((c.tc : Thread Cert.MlpDownBackIdeal.nD Cert.MlpDownBackIdeal.τ).loc Cert.MlpDownBackIdeal.main_arg2)) →
    ∃ (v0 : (c : Dev Cert.MlpDownBackIdeal.nD) → Buf (Elt Ideal) ((c.tc : Thread Cert.MlpDownBackIdeal.nD Cert.MlpDownBackIdeal.τ).loc Cert.MlpDownBackIdeal.main_v0)),
      θ_run (Cert.MlpDownBackIdeal.defs (F := Ideal)) (onTc (τ := Cert.MlpDownBackIdeal.τ) (Cert.MlpDownBackIdeal.main (F := Ideal))) ⟨m, fun _ => 0, g⟩ (fun r => ∀ c : Dev Cert.MlpDownBackIdeal.nD,
          r.2.mem ((c.tc : Thread Cert.MlpDownBackIdeal.nD Cert.MlpDownBackIdeal.τ).loc Cert.MlpDownBackIdeal.main_v0) = v0 c
          ∧ r.2.mem ((c.tc : Thread Cert.MlpDownBackIdeal.nD Cert.MlpDownBackIdeal.τ).loc Cert.MlpDownBackIdeal.main_arg0) = m ((c.tc : Thread Cert.MlpDownBackIdeal.nD Cert.MlpDownBackIdeal.τ).loc Cert.MlpDownBackIdeal.main_arg0)
          ∧ r.2.mem ((c.tc : Thread Cert.MlpDownBackIdeal.nD Cert.MlpDownBackIdeal.τ).loc Cert.MlpDownBackIdeal.main_arg1) = m ((c.tc : Thread Cert.MlpDownBackIdeal.nD Cert.MlpDownBackIdeal.τ).loc Cert.MlpDownBackIdeal.main_arg1)
          ∧ r.2.mem ((c.tc : Thread Cert.MlpDownBackIdeal.nD Cert.MlpDownBackIdeal.τ).loc Cert.MlpDownBackIdeal.main_arg2) = m ((c.tc : Thread Cert.MlpDownBackIdeal.nD Cert.MlpDownBackIdeal.τ).loc Cert.MlpDownBackIdeal.main_arg2))
      ∧ θ_run (Cert.MlpDownBackRefIdeal.defs (F := Ideal)) (onTc (τ := Cert.MlpDownBackRefIdeal.τ) (Cert.MlpDownBackRefIdeal.main (F := Ideal))) ⟨m', fun _ => 0, g'⟩ (fun r => ∀ c : Dev Cert.MlpDownBackRefIdeal.nD,
          r.2.mem ((c.tc : Thread Cert.MlpDownBackRefIdeal.nD Cert.MlpDownBackRefIdeal.τ).loc Cert.MlpDownBackRefIdeal.main_v8) = v0 c
          ∧ r.2.mem ((c.tc : Thread Cert.MlpDownBackRefIdeal.nD Cert.MlpDownBackRefIdeal.τ).loc Cert.MlpDownBackRefIdeal.main_arg0) = m' ((c.tc : Thread Cert.MlpDownBackRefIdeal.nD Cert.MlpDownBackRefIdeal.τ).loc Cert.MlpDownBackRefIdeal.main_arg0)
          ∧ r.2.mem ((c.tc : Thread Cert.MlpDownBackRefIdeal.nD Cert.MlpDownBackRefIdeal.τ).loc Cert.MlpDownBackRefIdeal.main_arg1) = m' ((c.tc : Thread Cert.MlpDownBackRefIdeal.nD Cert.MlpDownBackRefIdeal.τ).loc Cert.MlpDownBackRefIdeal.main_arg1)
          ∧ r.2.mem ((c.tc : Thread Cert.MlpDownBackRefIdeal.nD Cert.MlpDownBackRefIdeal.τ).loc Cert.MlpDownBackRefIdeal.main_arg2) = m' ((c.tc : Thread Cert.MlpDownBackRefIdeal.nD Cert.MlpDownBackRefIdeal.τ).loc Cert.MlpDownBackRefIdeal.main_arg2))

def preserves_MlpUpBack_MlpUpBackIdeal : Prop :=
  True

def algebraic_MlpUpBackIdeal_MlpUpBackRefIdeal [hMlpUpBackIdeal : Cert.MlpUpBackIdeal.Facts] [hMlpUpBackRefIdeal : Cert.MlpUpBackRefIdeal.Facts] : Prop :=
  ∀ (m : (ℓ : Loc Cert.MlpUpBackIdeal.nD Cert.MlpUpBackIdeal.τ Cert.MlpUpBackIdeal.sig) → Buf (Elt Ideal) ℓ) (g : Dev Cert.MlpUpBackIdeal.nD → PrngReg)
    (m' : (ℓ : Loc Cert.MlpUpBackRefIdeal.nD Cert.MlpUpBackRefIdeal.τ Cert.MlpUpBackRefIdeal.sig) → Buf (Elt Ideal) ℓ) (g' : Dev Cert.MlpUpBackRefIdeal.nD → PrngReg), Pre_MlpUpBackIdeal m →
    (∀ c : Dev Cert.MlpUpBackIdeal.nD,
      m' ((c.tc : Thread Cert.MlpUpBackRefIdeal.nD Cert.MlpUpBackRefIdeal.τ).loc Cert.MlpUpBackRefIdeal.main_arg0) = m ((c.tc : Thread Cert.MlpUpBackIdeal.nD Cert.MlpUpBackIdeal.τ).loc Cert.MlpUpBackIdeal.main_arg0)
      ∧ m' ((c.tc : Thread Cert.MlpUpBackRefIdeal.nD Cert.MlpUpBackRefIdeal.τ).loc Cert.MlpUpBackRefIdeal.main_arg1) = m ((c.tc : Thread Cert.MlpUpBackIdeal.nD Cert.MlpUpBackIdeal.τ).loc Cert.MlpUpBackIdeal.main_arg1)) →
    ∃ (v0 : (c : Dev Cert.MlpUpBackIdeal.nD) → Buf (Elt Ideal) ((c.tc : Thread Cert.MlpUpBackIdeal.nD Cert.MlpUpBackIdeal.τ).loc Cert.MlpUpBackIdeal.main_v0)),
      θ_run (Cert.MlpUpBackIdeal.defs (F := Ideal)) (onTc (τ := Cert.MlpUpBackIdeal.τ) (Cert.MlpUpBackIdeal.main (F := Ideal))) ⟨m, fun _ => 0, g⟩ (fun r => ∀ c : Dev Cert.MlpUpBackIdeal.nD,
          r.2.mem ((c.tc : Thread Cert.MlpUpBackIdeal.nD Cert.MlpUpBackIdeal.τ).loc Cert.MlpUpBackIdeal.main_v0) = v0 c
          ∧ r.2.mem ((c.tc : Thread Cert.MlpUpBackIdeal.nD Cert.MlpUpBackIdeal.τ).loc Cert.MlpUpBackIdeal.main_arg0) = m ((c.tc : Thread Cert.MlpUpBackIdeal.nD Cert.MlpUpBackIdeal.τ).loc Cert.MlpUpBackIdeal.main_arg0)
          ∧ r.2.mem ((c.tc : Thread Cert.MlpUpBackIdeal.nD Cert.MlpUpBackIdeal.τ).loc Cert.MlpUpBackIdeal.main_arg1) = m ((c.tc : Thread Cert.MlpUpBackIdeal.nD Cert.MlpUpBackIdeal.τ).loc Cert.MlpUpBackIdeal.main_arg1))
      ∧ θ_run (Cert.MlpUpBackRefIdeal.defs (F := Ideal)) (onTc (τ := Cert.MlpUpBackRefIdeal.τ) (Cert.MlpUpBackRefIdeal.main (F := Ideal))) ⟨m', fun _ => 0, g'⟩ (fun r => ∀ c : Dev Cert.MlpUpBackRefIdeal.nD,
          r.2.mem ((c.tc : Thread Cert.MlpUpBackRefIdeal.nD Cert.MlpUpBackRefIdeal.τ).loc Cert.MlpUpBackRefIdeal.main_v1) = v0 c
          ∧ r.2.mem ((c.tc : Thread Cert.MlpUpBackRefIdeal.nD Cert.MlpUpBackRefIdeal.τ).loc Cert.MlpUpBackRefIdeal.main_arg0) = m' ((c.tc : Thread Cert.MlpUpBackRefIdeal.nD Cert.MlpUpBackRefIdeal.τ).loc Cert.MlpUpBackRefIdeal.main_arg0)
          ∧ r.2.mem ((c.tc : Thread Cert.MlpUpBackRefIdeal.nD Cert.MlpUpBackRefIdeal.τ).loc Cert.MlpUpBackRefIdeal.main_arg1) = m' ((c.tc : Thread Cert.MlpUpBackRefIdeal.nD Cert.MlpUpBackRefIdeal.τ).loc Cert.MlpUpBackRefIdeal.main_arg1))

def preserves_ProjInBack_ProjInBackIdeal : Prop :=
  True

def algebraic_ProjInBackIdeal_ProjInBackRefIdeal [hProjInBackIdeal : Cert.ProjInBackIdeal.Facts] [hProjInBackRefIdeal : Cert.ProjInBackRefIdeal.Facts] : Prop :=
  ∀ (m : (ℓ : Loc Cert.ProjInBackIdeal.nD Cert.ProjInBackIdeal.τ Cert.ProjInBackIdeal.sig) → Buf (Elt Ideal) ℓ) (g : Dev Cert.ProjInBackIdeal.nD → PrngReg)
    (m' : (ℓ : Loc Cert.ProjInBackRefIdeal.nD Cert.ProjInBackRefIdeal.τ Cert.ProjInBackRefIdeal.sig) → Buf (Elt Ideal) ℓ) (g' : Dev Cert.ProjInBackRefIdeal.nD → PrngReg), Pre_ProjInBackIdeal m →
    (∀ c : Dev Cert.ProjInBackIdeal.nD,
      m' ((c.tc : Thread Cert.ProjInBackRefIdeal.nD Cert.ProjInBackRefIdeal.τ).loc Cert.ProjInBackRefIdeal.main_arg0) = m ((c.tc : Thread Cert.ProjInBackIdeal.nD Cert.ProjInBackIdeal.τ).loc Cert.ProjInBackIdeal.main_arg0)
      ∧ m' ((c.tc : Thread Cert.ProjInBackRefIdeal.nD Cert.ProjInBackRefIdeal.τ).loc Cert.ProjInBackRefIdeal.main_arg1) = m ((c.tc : Thread Cert.ProjInBackIdeal.nD Cert.ProjInBackIdeal.τ).loc Cert.ProjInBackIdeal.main_arg1)) →
    ∃ (v0 : (c : Dev Cert.ProjInBackIdeal.nD) → Buf (Elt Ideal) ((c.tc : Thread Cert.ProjInBackIdeal.nD Cert.ProjInBackIdeal.τ).loc Cert.ProjInBackIdeal.main_v0)),
      θ_run (Cert.ProjInBackIdeal.defs (F := Ideal)) (onTc (τ := Cert.ProjInBackIdeal.τ) (Cert.ProjInBackIdeal.main (F := Ideal))) ⟨m, fun _ => 0, g⟩ (fun r => ∀ c : Dev Cert.ProjInBackIdeal.nD,
          r.2.mem ((c.tc : Thread Cert.ProjInBackIdeal.nD Cert.ProjInBackIdeal.τ).loc Cert.ProjInBackIdeal.main_v0) = v0 c
          ∧ r.2.mem ((c.tc : Thread Cert.ProjInBackIdeal.nD Cert.ProjInBackIdeal.τ).loc Cert.ProjInBackIdeal.main_arg0) = m ((c.tc : Thread Cert.ProjInBackIdeal.nD Cert.ProjInBackIdeal.τ).loc Cert.ProjInBackIdeal.main_arg0)
          ∧ r.2.mem ((c.tc : Thread Cert.ProjInBackIdeal.nD Cert.ProjInBackIdeal.τ).loc Cert.ProjInBackIdeal.main_arg1) = m ((c.tc : Thread Cert.ProjInBackIdeal.nD Cert.ProjInBackIdeal.τ).loc Cert.ProjInBackIdeal.main_arg1))
      ∧ θ_run (Cert.ProjInBackRefIdeal.defs (F := Ideal)) (onTc (τ := Cert.ProjInBackRefIdeal.τ) (Cert.ProjInBackRefIdeal.main (F := Ideal))) ⟨m', fun _ => 0, g'⟩ (fun r => ∀ c : Dev Cert.ProjInBackRefIdeal.nD,
          r.2.mem ((c.tc : Thread Cert.ProjInBackRefIdeal.nD Cert.ProjInBackRefIdeal.τ).loc Cert.ProjInBackRefIdeal.main_v1) = v0 c
          ∧ r.2.mem ((c.tc : Thread Cert.ProjInBackRefIdeal.nD Cert.ProjInBackRefIdeal.τ).loc Cert.ProjInBackRefIdeal.main_arg0) = m' ((c.tc : Thread Cert.ProjInBackRefIdeal.nD Cert.ProjInBackRefIdeal.τ).loc Cert.ProjInBackRefIdeal.main_arg0)
          ∧ r.2.mem ((c.tc : Thread Cert.ProjInBackRefIdeal.nD Cert.ProjInBackRefIdeal.τ).loc Cert.ProjInBackRefIdeal.main_arg1) = m' ((c.tc : Thread Cert.ProjInBackRefIdeal.nD Cert.ProjInBackRefIdeal.τ).loc Cert.ProjInBackRefIdeal.main_arg1))

def preserves_ProjOutBack_ProjOutBackIdeal : Prop :=
  True

def algebraic_ProjOutBackIdeal_ProjOutBackRefIdeal [hProjOutBackIdeal : Cert.ProjOutBackIdeal.Facts] [hProjOutBackRefIdeal : Cert.ProjOutBackRefIdeal.Facts] : Prop :=
  ∀ (m : (ℓ : Loc Cert.ProjOutBackIdeal.nD Cert.ProjOutBackIdeal.τ Cert.ProjOutBackIdeal.sig) → Buf (Elt Ideal) ℓ) (g : Dev Cert.ProjOutBackIdeal.nD → PrngReg)
    (m' : (ℓ : Loc Cert.ProjOutBackRefIdeal.nD Cert.ProjOutBackRefIdeal.τ Cert.ProjOutBackRefIdeal.sig) → Buf (Elt Ideal) ℓ) (g' : Dev Cert.ProjOutBackRefIdeal.nD → PrngReg), Pre_ProjOutBackIdeal m →
    (∀ c : Dev Cert.ProjOutBackIdeal.nD,
      m' ((c.tc : Thread Cert.ProjOutBackRefIdeal.nD Cert.ProjOutBackRefIdeal.τ).loc Cert.ProjOutBackRefIdeal.main_arg0) = m ((c.tc : Thread Cert.ProjOutBackIdeal.nD Cert.ProjOutBackIdeal.τ).loc Cert.ProjOutBackIdeal.main_arg0)
      ∧ m' ((c.tc : Thread Cert.ProjOutBackRefIdeal.nD Cert.ProjOutBackRefIdeal.τ).loc Cert.ProjOutBackRefIdeal.main_arg1) = m ((c.tc : Thread Cert.ProjOutBackIdeal.nD Cert.ProjOutBackIdeal.τ).loc Cert.ProjOutBackIdeal.main_arg1)) →
    ∃ (v0 : (c : Dev Cert.ProjOutBackIdeal.nD) → Buf (Elt Ideal) ((c.tc : Thread Cert.ProjOutBackIdeal.nD Cert.ProjOutBackIdeal.τ).loc Cert.ProjOutBackIdeal.main_v0)),
      θ_run (Cert.ProjOutBackIdeal.defs (F := Ideal)) (onTc (τ := Cert.ProjOutBackIdeal.τ) (Cert.ProjOutBackIdeal.main (F := Ideal))) ⟨m, fun _ => 0, g⟩ (fun r => ∀ c : Dev Cert.ProjOutBackIdeal.nD,
          r.2.mem ((c.tc : Thread Cert.ProjOutBackIdeal.nD Cert.ProjOutBackIdeal.τ).loc Cert.ProjOutBackIdeal.main_v0) = v0 c
          ∧ r.2.mem ((c.tc : Thread Cert.ProjOutBackIdeal.nD Cert.ProjOutBackIdeal.τ).loc Cert.ProjOutBackIdeal.main_arg0) = m ((c.tc : Thread Cert.ProjOutBackIdeal.nD Cert.ProjOutBackIdeal.τ).loc Cert.ProjOutBackIdeal.main_arg0)
          ∧ r.2.mem ((c.tc : Thread Cert.ProjOutBackIdeal.nD Cert.ProjOutBackIdeal.τ).loc Cert.ProjOutBackIdeal.main_arg1) = m ((c.tc : Thread Cert.ProjOutBackIdeal.nD Cert.ProjOutBackIdeal.τ).loc Cert.ProjOutBackIdeal.main_arg1))
      ∧ θ_run (Cert.ProjOutBackRefIdeal.defs (F := Ideal)) (onTc (τ := Cert.ProjOutBackRefIdeal.τ) (Cert.ProjOutBackRefIdeal.main (F := Ideal))) ⟨m', fun _ => 0, g'⟩ (fun r => ∀ c : Dev Cert.ProjOutBackRefIdeal.nD,
          r.2.mem ((c.tc : Thread Cert.ProjOutBackRefIdeal.nD Cert.ProjOutBackRefIdeal.τ).loc Cert.ProjOutBackRefIdeal.main_v1) = v0 c
          ∧ r.2.mem ((c.tc : Thread Cert.ProjOutBackRefIdeal.nD Cert.ProjOutBackRefIdeal.τ).loc Cert.ProjOutBackRefIdeal.main_arg0) = m' ((c.tc : Thread Cert.ProjOutBackRefIdeal.nD Cert.ProjOutBackRefIdeal.τ).loc Cert.ProjOutBackRefIdeal.main_arg0)
          ∧ r.2.mem ((c.tc : Thread Cert.ProjOutBackRefIdeal.nD Cert.ProjOutBackRefIdeal.τ).loc Cert.ProjOutBackRefIdeal.main_arg1) = m' ((c.tc : Thread Cert.ProjOutBackRefIdeal.nD Cert.ProjOutBackRefIdeal.τ).loc Cert.ProjOutBackRefIdeal.main_arg1))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v2) = v0 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v2) = v0 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1))

def preserves_GradOut_GradOutIdeal : Prop :=
  True

def algebraic_GradOutIdeal_GradOutRefIdeal [hGradOutIdeal : Cert.GradOutIdeal.Facts] [hGradOutRefIdeal : Cert.GradOutRefIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutRefIdeal.nD Cert.GradOutRefIdeal.τ Cert.GradOutRefIdeal.sig) → Buf (Elt Ideal) ℓ) (g' : Dev Cert.GradOutRefIdeal.nD → PrngReg), Pre_GradOutIdeal m →
    (∀ c : Dev Cert.GradOutIdeal.nD,
      m' ((c.tc : Thread Cert.GradOutRefIdeal.nD Cert.GradOutRefIdeal.τ).loc Cert.GradOutRefIdeal.main_arg0) = m ((c.tc : Thread Cert.GradOutIdeal.nD Cert.GradOutIdeal.τ).loc Cert.GradOutIdeal.main_arg0)
      ∧ m' ((c.tc : Thread Cert.GradOutRefIdeal.nD Cert.GradOutRefIdeal.τ).loc Cert.GradOutRefIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutRefIdeal.defs (F := Ideal)) (onTc (τ := Cert.GradOutRefIdeal.τ) (Cert.GradOutRefIdeal.main (F := Ideal))) ⟨m', fun _ => 0, g'⟩ (fun r => ∀ c : Dev Cert.GradOutRefIdeal.nD,
          r.2.mem ((c.tc : Thread Cert.GradOutRefIdeal.nD Cert.GradOutRefIdeal.τ).loc Cert.GradOutRefIdeal.main_v1) = v0 c
          ∧ r.2.mem ((c.tc : Thread Cert.GradOutRefIdeal.nD Cert.GradOutRefIdeal.τ).loc Cert.GradOutRefIdeal.main_arg0) = m' ((c.tc : Thread Cert.GradOutRefIdeal.nD Cert.GradOutRefIdeal.τ).loc Cert.GradOutRefIdeal.main_arg0)
          ∧ r.2.mem ((c.tc : Thread Cert.GradOutRefIdeal.nD Cert.GradOutRefIdeal.τ).loc Cert.GradOutRefIdeal.main_arg1) = m' ((c.tc : Thread Cert.GradOutRefIdeal.nD Cert.GradOutRefIdeal.τ).loc Cert.GradOutRefIdeal.main_arg1))

def preserves_GradDown_GradDownIdeal : Prop :=
  True

def algebraic_GradDownIdeal_GradDownRefIdeal [hGradDownIdeal : Cert.GradDownIdeal.Facts] [hGradDownRefIdeal : Cert.GradDownRefIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownRefIdeal.nD Cert.GradDownRefIdeal.τ Cert.GradDownRefIdeal.sig) → Buf (Elt Ideal) ℓ) (g' : Dev Cert.GradDownRefIdeal.nD → PrngReg), Pre_GradDownIdeal m →
    (∀ c : Dev Cert.GradDownIdeal.nD,
      m' ((c.tc : Thread Cert.GradDownRefIdeal.nD Cert.GradDownRefIdeal.τ).loc Cert.GradDownRefIdeal.main_arg0) = m ((c.tc : Thread Cert.GradDownIdeal.nD Cert.GradDownIdeal.τ).loc Cert.GradDownIdeal.main_arg0)
      ∧ m' ((c.tc : Thread Cert.GradDownRefIdeal.nD Cert.GradDownRefIdeal.τ).loc Cert.GradDownRefIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownRefIdeal.defs (F := Ideal)) (onTc (τ := Cert.GradDownRefIdeal.τ) (Cert.GradDownRefIdeal.main (F := Ideal))) ⟨m', fun _ => 0, g'⟩ (fun r => ∀ c : Dev Cert.GradDownRefIdeal.nD,
          r.2.mem ((c.tc : Thread Cert.GradDownRefIdeal.nD Cert.GradDownRefIdeal.τ).loc Cert.GradDownRefIdeal.main_v1) = v0 c
          ∧ r.2.mem ((c.tc : Thread Cert.GradDownRefIdeal.nD Cert.GradDownRefIdeal.τ).loc Cert.GradDownRefIdeal.main_arg0) = m' ((c.tc : Thread Cert.GradDownRefIdeal.nD Cert.GradDownRefIdeal.τ).loc Cert.GradDownRefIdeal.main_arg0)
          ∧ r.2.mem ((c.tc : Thread Cert.GradDownRefIdeal.nD Cert.GradDownRefIdeal.τ).loc Cert.GradDownRefIdeal.main_arg1) = m' ((c.tc : Thread Cert.GradDownRefIdeal.nD Cert.GradDownRefIdeal.τ).loc Cert.GradDownRefIdeal.main_arg1))

def preserves_MlpNormBack_MlpNormBackIdeal : Prop :=
  True

def algebraic_MlpNormBackIdeal_MlpNormBackRefIdeal [hMlpNormBackIdeal : Cert.MlpNormBackIdeal.Facts] [hMlpNormBackRefIdeal : Cert.MlpNormBackRefIdeal.Facts] : Prop :=
  ∀ (m : (ℓ : Loc Cert.MlpNormBackIdeal.nD Cert.MlpNormBackIdeal.τ Cert.MlpNormBackIdeal.sig) → Buf (Elt Ideal) ℓ) (g : Dev Cert.MlpNormBackIdeal.nD → PrngReg)
    (m' : (ℓ : Loc Cert.MlpNormBackRefIdeal.nD Cert.MlpNormBackRefIdeal.τ Cert.MlpNormBackRefIdeal.sig) → Buf (Elt Ideal) ℓ) (g' : Dev Cert.MlpNormBackRefIdeal.nD → PrngReg), Pre_MlpNormBackIdeal m →
    (∀ c : Dev Cert.MlpNormBackIdeal.nD,
      m' ((c.tc : Thread Cert.MlpNormBackRefIdeal.nD Cert.MlpNormBackRefIdeal.τ).loc Cert.MlpNormBackRefIdeal.main_arg0) = m ((c.tc : Thread Cert.MlpNormBackIdeal.nD Cert.MlpNormBackIdeal.τ).loc Cert.MlpNormBackIdeal.main_arg0)
      ∧ m' ((c.tc : Thread Cert.MlpNormBackRefIdeal.nD Cert.MlpNormBackRefIdeal.τ).loc Cert.MlpNormBackRefIdeal.main_arg1) = m ((c.tc : Thread Cert.MlpNormBackIdeal.nD Cert.MlpNormBackIdeal.τ).loc Cert.MlpNormBackIdeal.main_arg1)
      ∧ m' ((c.tc : Thread Cert.MlpNormBackRefIdeal.nD Cert.MlpNormBackRefIdeal.τ).loc Cert.MlpNormBackRefIdeal.main_arg2) = m ((c.tc : Thread Cert.MlpNormBackIdeal.nD Cert.MlpNormBackIdeal.τ).loc Cert.MlpNormBackIdeal.main_arg2)
      ∧ m' ((c.tc : Thread Cert.MlpNormBackRefIdeal.nD Cert.MlpNormBackRefIdeal.τ).loc Cert.MlpNormBackRefIdeal.main_arg3) = m ((c.tc : Thread Cert.MlpNormBackIdeal.nD Cert.MlpNormBackIdeal.τ).loc Cert.MlpNormBackIdeal.main_arg3)) →
    ∃ (v0 : (c : Dev Cert.MlpNormBackIdeal.nD) → Buf (Elt Ideal) ((c.tc : Thread Cert.MlpNormBackIdeal.nD Cert.MlpNormBackIdeal.τ).loc Cert.MlpNormBackIdeal.main_v0_0)) (v1 : (c : Dev Cert.MlpNormBackIdeal.nD) → Buf (Elt Ideal) ((c.tc : Thread Cert.MlpNormBackIdeal.nD Cert.MlpNormBackIdeal.τ).loc Cert.MlpNormBackIdeal.main_v0_1)) (v2 : (c : Dev Cert.MlpNormBackIdeal.nD) → Buf (Elt Ideal) ((c.tc : Thread Cert.MlpNormBackIdeal.nD Cert.MlpNormBackIdeal.τ).loc Cert.MlpNormBackIdeal.main_v0_2)),
      θ_run (Cert.MlpNormBackIdeal.defs (F := Ideal)) (onTc (τ := Cert.MlpNormBackIdeal.τ) (Cert.MlpNormBackIdeal.main (F := Ideal))) ⟨m, fun _ => 0, g⟩ (fun r => ∀ c : Dev Cert.MlpNormBackIdeal.nD,
          r.2.mem ((c.tc : Thread Cert.MlpNormBackIdeal.nD Cert.MlpNormBackIdeal.τ).loc Cert.MlpNormBackIdeal.main_v0_0) = v0 c
          ∧ r.2.mem ((c.tc : Thread Cert.MlpNormBackIdeal.nD Cert.MlpNormBackIdeal.τ).loc Cert.MlpNormBackIdeal.main_v0_1) = v1 c
          ∧ r.2.mem ((c.tc : Thread Cert.MlpNormBackIdeal.nD Cert.MlpNormBackIdeal.τ).loc Cert.MlpNormBackIdeal.main_v0_2) = v2 c
          ∧ r.2.mem ((c.tc : Thread Cert.MlpNormBackIdeal.nD Cert.MlpNormBackIdeal.τ).loc Cert.MlpNormBackIdeal.main_arg0) = m ((c.tc : Thread Cert.MlpNormBackIdeal.nD Cert.MlpNormBackIdeal.τ).loc Cert.MlpNormBackIdeal.main_arg0)
          ∧ r.2.mem ((c.tc : Thread Cert.MlpNormBackIdeal.nD Cert.MlpNormBackIdeal.τ).loc Cert.MlpNormBackIdeal.main_arg1) = m ((c.tc : Thread Cert.MlpNormBackIdeal.nD Cert.MlpNormBackIdeal.τ).loc Cert.MlpNormBackIdeal.main_arg1)
          ∧ r.2.mem ((c.tc : Thread Cert.MlpNormBackIdeal.nD Cert.MlpNormBackIdeal.τ).loc Cert.MlpNormBackIdeal.main_arg2) = m ((c.tc : Thread Cert.MlpNormBackIdeal.nD Cert.MlpNormBackIdeal.τ).loc Cert.MlpNormBackIdeal.main_arg2)
          ∧ r.2.mem ((c.tc : Thread Cert.MlpNormBackIdeal.nD Cert.MlpNormBackIdeal.τ).loc Cert.MlpNormBackIdeal.main_arg3) = m ((c.tc : Thread Cert.MlpNormBackIdeal.nD Cert.MlpNormBackIdeal.τ).loc Cert.MlpNormBackIdeal.main_arg3))
      ∧ θ_run (Cert.MlpNormBackRefIdeal.defs (F := Ideal)) (onTc (τ := Cert.MlpNormBackRefIdeal.τ) (Cert.MlpNormBackRefIdeal.main (F := Ideal))) ⟨m', fun _ => 0, g'⟩ (fun r => ∀ c : Dev Cert.MlpNormBackRefIdeal.nD,
          r.2.mem ((c.tc : Thread Cert.MlpNormBackRefIdeal.nD Cert.MlpNormBackRefIdeal.τ).loc Cert.MlpNormBackRefIdeal.main_v22) = v0 c
          ∧ r.2.mem ((c.tc : Thread Cert.MlpNormBackRefIdeal.nD Cert.MlpNormBackRefIdeal.τ).loc Cert.MlpNormBackRefIdeal.main_v26) = v1 c
          ∧ r.2.mem ((c.tc : Thread Cert.MlpNormBackRefIdeal.nD Cert.MlpNormBackRefIdeal.τ).loc Cert.MlpNormBackRefIdeal.main_v25) = v2 c
          ∧ r.2.mem ((c.tc : Thread Cert.MlpNormBackRefIdeal.nD Cert.MlpNormBackRefIdeal.τ).loc Cert.MlpNormBackRefIdeal.main_arg0) = m' ((c.tc : Thread Cert.MlpNormBackRefIdeal.nD Cert.MlpNormBackRefIdeal.τ).loc Cert.MlpNormBackRefIdeal.main_arg0)
          ∧ r.2.mem ((c.tc : Thread Cert.MlpNormBackRefIdeal.nD Cert.MlpNormBackRefIdeal.τ).loc Cert.MlpNormBackRefIdeal.main_arg1) = m' ((c.tc : Thread Cert.MlpNormBackRefIdeal.nD Cert.MlpNormBackRefIdeal.τ).loc Cert.MlpNormBackRefIdeal.main_arg1)
          ∧ r.2.mem ((c.tc : Thread Cert.MlpNormBackRefIdeal.nD Cert.MlpNormBackRefIdeal.τ).loc Cert.MlpNormBackRefIdeal.main_arg2) = m' ((c.tc : Thread Cert.MlpNormBackRefIdeal.nD Cert.MlpNormBackRefIdeal.τ).loc Cert.MlpNormBackRefIdeal.main_arg2)
          ∧ r.2.mem ((c.tc : Thread Cert.MlpNormBackRefIdeal.nD Cert.MlpNormBackRefIdeal.τ).loc Cert.MlpNormBackRefIdeal.main_arg3) = m' ((c.tc : Thread Cert.MlpNormBackRefIdeal.nD Cert.MlpNormBackRefIdeal.τ).loc Cert.MlpNormBackRefIdeal.main_arg3))

def preserves_CastIn_CastInIdeal : Prop :=
  True

def algebraic_CastInIdeal_CastInRefIdeal [hCastInIdeal : Cert.CastInIdeal.Facts] [hCastInRefIdeal : Cert.CastInRefIdeal.Facts] : Prop :=
  ∀ (m : (ℓ : Loc Cert.CastInIdeal.nD Cert.CastInIdeal.τ Cert.CastInIdeal.sig) → Buf (Elt Ideal) ℓ) (g : Dev Cert.CastInIdeal.nD → PrngReg)
    (m' : (ℓ : Loc Cert.CastInRefIdeal.nD Cert.CastInRefIdeal.τ Cert.CastInRefIdeal.sig) → Buf (Elt Ideal) ℓ) (g' : Dev Cert.CastInRefIdeal.nD → PrngReg), Pre_CastInIdeal m →
    (∀ c : Dev Cert.CastInIdeal.nD,
      m' ((c.tc : Thread Cert.CastInRefIdeal.nD Cert.CastInRefIdeal.τ).loc Cert.CastInRefIdeal.main_arg0) = m ((c.tc : Thread Cert.CastInIdeal.nD Cert.CastInIdeal.τ).loc Cert.CastInIdeal.main_arg0)) →
    ∃ (v0 : (c : Dev Cert.CastInIdeal.nD) → Buf (Elt Ideal) ((c.tc : Thread Cert.CastInIdeal.nD Cert.CastInIdeal.τ).loc Cert.CastInIdeal.main_v0)),
      θ_run (Cert.CastInIdeal.defs (F := Ideal)) (onTc (τ := Cert.CastInIdeal.τ) (Cert.CastInIdeal.main (F := Ideal))) ⟨m, fun _ => 0, g⟩ (fun r => ∀ c : Dev Cert.CastInIdeal.nD,
          r.2.mem ((c.tc : Thread Cert.CastInIdeal.nD Cert.CastInIdeal.τ).loc Cert.CastInIdeal.main_v0) = v0 c
          ∧ r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0))
      ∧ θ_run (Cert.CastInRefIdeal.defs (F := Ideal)) (onTc (τ := Cert.CastInRefIdeal.τ) (Cert.CastInRefIdeal.main (F := Ideal))) ⟨m', fun _ => 0, g'⟩ (fun r => ∀ c : Dev Cert.CastInRefIdeal.nD,
          r.2.mem ((c.tc : Thread Cert.CastInRefIdeal.nD Cert.CastInRefIdeal.τ).loc Cert.CastInRefIdeal.main_v0) = v0 c
          ∧ r.2.mem ((c.tc : Thread Cert.CastInRefIdeal.nD Cert.CastInRefIdeal.τ).loc Cert.CastInRefIdeal.main_arg0) = m' ((c.tc : Thread Cert.CastInRefIdeal.nD Cert.CastInRefIdeal.τ).loc Cert.CastInRefIdeal.main_arg0))

def preserves_CastOut_CastOutIdeal : Prop :=
  True

def algebraic_CastOutIdeal_CastOutRefIdeal [hCastOutIdeal : Cert.CastOutIdeal.Facts] [hCastOutRefIdeal : Cert.CastOutRefIdeal.Facts] : Prop :=
  ∀ (m : (ℓ : Loc Cert.CastOutIdeal.nD Cert.CastOutIdeal.τ Cert.CastOutIdeal.sig) → Buf (Elt Ideal) ℓ) (g : Dev Cert.CastOutIdeal.nD → PrngReg)
    (m' : (ℓ : Loc Cert.CastOutRefIdeal.nD Cert.CastOutRefIdeal.τ Cert.CastOutRefIdeal.sig) → Buf (Elt Ideal) ℓ) (g' : Dev Cert.CastOutRefIdeal.nD → PrngReg), Pre_CastOutIdeal m →
    (∀ c : Dev Cert.CastOutIdeal.nD,
      m' ((c.tc : Thread Cert.CastOutRefIdeal.nD Cert.CastOutRefIdeal.τ).loc Cert.CastOutRefIdeal.main_arg0) = m ((c.tc : Thread Cert.CastOutIdeal.nD Cert.CastOutIdeal.τ).loc Cert.CastOutIdeal.main_arg0)) →
    ∃ (v0 : (c : Dev Cert.CastOutIdeal.nD) → Buf (Elt Ideal) ((c.tc : Thread Cert.CastOutIdeal.nD Cert.CastOutIdeal.τ).loc Cert.CastOutIdeal.main_v0)),
      θ_run (Cert.CastOutIdeal.defs (F := Ideal)) (onTc (τ := Cert.CastOutIdeal.τ) (Cert.CastOutIdeal.main (F := Ideal))) ⟨m, fun _ => 0, g⟩ (fun r => ∀ c : Dev Cert.CastOutIdeal.nD,
          r.2.mem ((c.tc : Thread Cert.CastOutIdeal.nD Cert.CastOutIdeal.τ).loc Cert.CastOutIdeal.main_v0) = v0 c
          ∧ r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ θ_run (Cert.CastOutRefIdeal.defs (F := Ideal)) (onTc (τ := Cert.CastOutRefIdeal.τ) (Cert.CastOutRefIdeal.main (F := Ideal))) ⟨m', fun _ => 0, g'⟩ (fun r => ∀ c : Dev Cert.CastOutRefIdeal.nD,
          r.2.mem ((c.tc : Thread Cert.CastOutRefIdeal.nD Cert.CastOutRefIdeal.τ).loc Cert.CastOutRefIdeal.main_v0) = v0 c
          ∧ r.2.mem ((c.tc : Thread Cert.CastOutRefIdeal.nD Cert.CastOutRefIdeal.τ).loc Cert.CastOutRefIdeal.main_arg0) = m' ((c.tc : Thread Cert.CastOutRefIdeal.nD Cert.CastOutRefIdeal.τ).loc Cert.CastOutRefIdeal.main_arg0))

def preserves_CastMlp_CastMlpIdeal : Prop :=
  True

def algebraic_CastMlpIdeal_CastMlpRefIdeal [hCastMlpIdeal : Cert.CastMlpIdeal.Facts] [hCastMlpRefIdeal : Cert.CastMlpRefIdeal.Facts] : Prop :=
  ∀ (m : (ℓ : Loc Cert.CastMlpIdeal.nD Cert.CastMlpIdeal.τ Cert.CastMlpIdeal.sig) → Buf (Elt Ideal) ℓ) (g : Dev Cert.CastMlpIdeal.nD → PrngReg)
    (m' : (ℓ : Loc Cert.CastMlpRefIdeal.nD Cert.CastMlpRefIdeal.τ Cert.CastMlpRefIdeal.sig) → Buf (Elt Ideal) ℓ) (g' : Dev Cert.CastMlpRefIdeal.nD → PrngReg), Pre_CastMlpIdeal m →
    (∀ c : Dev Cert.CastMlpIdeal.nD,
      m' ((c.tc : Thread Cert.CastMlpRefIdeal.nD Cert.CastMlpRefIdeal.τ).loc Cert.CastMlpRefIdeal.main_arg0) = m ((c.tc : Thread Cert.CastMlpIdeal.nD Cert.CastMlpIdeal.τ).loc Cert.CastMlpIdeal.main_arg0)) →
    ∃ (v0 : (c : Dev Cert.CastMlpIdeal.nD) → Buf (Elt Ideal) ((c.tc : Thread Cert.CastMlpIdeal.nD Cert.CastMlpIdeal.τ).loc Cert.CastMlpIdeal.main_v0)),
      θ_run (Cert.CastMlpIdeal.defs (F := Ideal)) (onTc (τ := Cert.CastMlpIdeal.τ) (Cert.CastMlpIdeal.main (F := Ideal))) ⟨m, fun _ => 0, g⟩ (fun r => ∀ c : Dev Cert.CastMlpIdeal.nD,
          r.2.mem ((c.tc : Thread Cert.CastMlpIdeal.nD Cert.CastMlpIdeal.τ).loc Cert.CastMlpIdeal.main_v0) = v0 c
          ∧ r.2.mem ((c.tc : Thread Cert.CastMlpIdeal.nD Cert.CastMlpIdeal.τ).loc Cert.CastMlpIdeal.main_arg0) = m ((c.tc : Thread Cert.CastMlpIdeal.nD Cert.CastMlpIdeal.τ).loc Cert.CastMlpIdeal.main_arg0))
      ∧ θ_run (Cert.CastMlpRefIdeal.defs (F := Ideal)) (onTc (τ := Cert.CastMlpRefIdeal.τ) (Cert.CastMlpRefIdeal.main (F := Ideal))) ⟨m', fun _ => 0, g'⟩ (fun r => ∀ c : Dev Cert.CastMlpRefIdeal.nD,
          r.2.mem ((c.tc : Thread Cert.CastMlpRefIdeal.nD Cert.CastMlpRefIdeal.τ).loc Cert.CastMlpRefIdeal.main_v0) = v0 c
          ∧ r.2.mem ((c.tc : Thread Cert.CastMlpRefIdeal.nD Cert.CastMlpRefIdeal.τ).loc Cert.CastMlpRefIdeal.main_arg0) = m' ((c.tc : Thread Cert.CastMlpRefIdeal.nD Cert.CastMlpRefIdeal.τ).loc Cert.CastMlpRefIdeal.main_arg0))

def preserves_HeadNormBack_HeadNormBackIdeal : Prop :=
  True

def algebraic_HeadNormBackIdeal_HeadNormBackRefIdeal [hHeadNormBackIdeal : Cert.HeadNormBackIdeal.Facts] [hHeadNormBackRefIdeal : Cert.HeadNormBackRefIdeal.Facts] : Prop :=
  ∀ (m : (ℓ : Loc Cert.HeadNormBackIdeal.nD Cert.HeadNormBackIdeal.τ Cert.HeadNormBackIdeal.sig) → Buf (Elt Ideal) ℓ) (g : Dev Cert.HeadNormBackIdeal.nD → PrngReg)
    (m' : (ℓ : Loc Cert.HeadNormBackRefIdeal.nD Cert.HeadNormBackRefIdeal.τ Cert.HeadNormBackRefIdeal.sig) → Buf (Elt Ideal) ℓ) (g' : Dev Cert.HeadNormBackRefIdeal.nD → PrngReg), Pre_HeadNormBackIdeal m →
    (∀ c : Dev Cert.HeadNormBackIdeal.nD,
      m' ((c.tc : Thread Cert.HeadNormBackRefIdeal.nD Cert.HeadNormBackRefIdeal.τ).loc Cert.HeadNormBackRefIdeal.main_arg0) = m ((c.tc : Thread Cert.HeadNormBackIdeal.nD Cert.HeadNormBackIdeal.τ).loc Cert.HeadNormBackIdeal.main_arg0)
      ∧ m' ((c.tc : Thread Cert.HeadNormBackRefIdeal.nD Cert.HeadNormBackRefIdeal.τ).loc Cert.HeadNormBackRefIdeal.main_arg1) = m ((c.tc : Thread Cert.HeadNormBackIdeal.nD Cert.HeadNormBackIdeal.τ).loc Cert.HeadNormBackIdeal.main_arg1)
      ∧ m' ((c.tc : Thread Cert.HeadNormBackRefIdeal.nD Cert.HeadNormBackRefIdeal.τ).loc Cert.HeadNormBackRefIdeal.main_arg2) = m ((c.tc : Thread Cert.HeadNormBackIdeal.nD Cert.HeadNormBackIdeal.τ).loc Cert.HeadNormBackIdeal.main_arg2)) →
    ∃ (v0 : (c : Dev Cert.HeadNormBackIdeal.nD) → Buf (Elt Ideal) ((c.tc : Thread Cert.HeadNormBackIdeal.nD Cert.HeadNormBackIdeal.τ).loc Cert.HeadNormBackIdeal.main_v0_0)) (v1 : (c : Dev Cert.HeadNormBackIdeal.nD) → Buf (Elt Ideal) ((c.tc : Thread Cert.HeadNormBackIdeal.nD Cert.HeadNormBackIdeal.τ).loc Cert.HeadNormBackIdeal.main_v0_1)),
      θ_run (Cert.HeadNormBackIdeal.defs (F := Ideal)) (onTc (τ := Cert.HeadNormBackIdeal.τ) (Cert.HeadNormBackIdeal.main (F := Ideal))) ⟨m, fun _ => 0, g⟩ (fun r => ∀ c : Dev Cert.HeadNormBackIdeal.nD,
          r.2.mem ((c.tc : Thread Cert.HeadNormBackIdeal.nD Cert.HeadNormBackIdeal.τ).loc Cert.HeadNormBackIdeal.main_v0_0) = v0 c
          ∧ r.2.mem ((c.tc : Thread Cert.HeadNormBackIdeal.nD Cert.HeadNormBackIdeal.τ).loc Cert.HeadNormBackIdeal.main_v0_1) = v1 c
          ∧ r.2.mem ((c.tc : Thread Cert.HeadNormBackIdeal.nD Cert.HeadNormBackIdeal.τ).loc Cert.HeadNormBackIdeal.main_arg0) = m ((c.tc : Thread Cert.HeadNormBackIdeal.nD Cert.HeadNormBackIdeal.τ).loc Cert.HeadNormBackIdeal.main_arg0)
          ∧ r.2.mem ((c.tc : Thread Cert.HeadNormBackIdeal.nD Cert.HeadNormBackIdeal.τ).loc Cert.HeadNormBackIdeal.main_arg1) = m ((c.tc : Thread Cert.HeadNormBackIdeal.nD Cert.HeadNormBackIdeal.τ).loc Cert.HeadNormBackIdeal.main_arg1)
          ∧ r.2.mem ((c.tc : Thread Cert.HeadNormBackIdeal.nD Cert.HeadNormBackIdeal.τ).loc Cert.HeadNormBackIdeal.main_arg2) = m ((c.tc : Thread Cert.HeadNormBackIdeal.nD Cert.HeadNormBackIdeal.τ).loc Cert.HeadNormBackIdeal.main_arg2))
      ∧ θ_run (Cert.HeadNormBackRefIdeal.defs (F := Ideal)) (onTc (τ := Cert.HeadNormBackRefIdeal.τ) (Cert.HeadNormBackRefIdeal.main (F := Ideal))) ⟨m', fun _ => 0, g'⟩ (fun r => ∀ c : Dev Cert.HeadNormBackRefIdeal.nD,
          r.2.mem ((c.tc : Thread Cert.HeadNormBackRefIdeal.nD Cert.HeadNormBackRefIdeal.τ).loc Cert.HeadNormBackRefIdeal.main_v28) = v0 c
          ∧ r.2.mem ((c.tc : Thread Cert.HeadNormBackRefIdeal.nD Cert.HeadNormBackRefIdeal.τ).loc Cert.HeadNormBackRefIdeal.main_v34) = v1 c
          ∧ r.2.mem ((c.tc : Thread Cert.HeadNormBackRefIdeal.nD Cert.HeadNormBackRefIdeal.τ).loc Cert.HeadNormBackRefIdeal.main_arg0) = m' ((c.tc : Thread Cert.HeadNormBackRefIdeal.nD Cert.HeadNormBackRefIdeal.τ).loc Cert.HeadNormBackRefIdeal.main_arg0)
          ∧ r.2.mem ((c.tc : Thread Cert.HeadNormBackRefIdeal.nD Cert.HeadNormBackRefIdeal.τ).loc Cert.HeadNormBackRefIdeal.main_arg1) = m' ((c.tc : Thread Cert.HeadNormBackRefIdeal.nD Cert.HeadNormBackRefIdeal.τ).loc Cert.HeadNormBackRefIdeal.main_arg1)
          ∧ r.2.mem ((c.tc : Thread Cert.HeadNormBackRefIdeal.nD Cert.HeadNormBackRefIdeal.τ).loc Cert.HeadNormBackRefIdeal.main_arg2) = m' ((c.tc : Thread Cert.HeadNormBackRefIdeal.nD Cert.HeadNormBackRefIdeal.τ).loc Cert.HeadNormBackRefIdeal.main_arg2))

def preserves_GateNormBack_GateNormBackIdeal : Prop :=
  True

def algebraic_GateNormBackIdeal_GateNormBackRefIdeal [hGateNormBackIdeal : Cert.GateNormBackIdeal.Facts] [hGateNormBackRefIdeal : Cert.GateNormBackRefIdeal.Facts] : Prop :=
  ∀ (m : (ℓ : Loc Cert.GateNormBackIdeal.nD Cert.GateNormBackIdeal.τ Cert.GateNormBackIdeal.sig) → Buf (Elt Ideal) ℓ) (g : Dev Cert.GateNormBackIdeal.nD → PrngReg)
    (m' : (ℓ : Loc Cert.GateNormBackRefIdeal.nD Cert.GateNormBackRefIdeal.τ Cert.GateNormBackRefIdeal.sig) → Buf (Elt Ideal) ℓ) (g' : Dev Cert.GateNormBackRefIdeal.nD → PrngReg), Pre_GateNormBackIdeal m →
    (∀ c : Dev Cert.GateNormBackIdeal.nD,
      m' ((c.tc : Thread Cert.GateNormBackRefIdeal.nD Cert.GateNormBackRefIdeal.τ).loc Cert.GateNormBackRefIdeal.main_arg0) = m ((c.tc : Thread Cert.GateNormBackIdeal.nD Cert.GateNormBackIdeal.τ).loc Cert.GateNormBackIdeal.main_arg0)
      ∧ m' ((c.tc : Thread Cert.GateNormBackRefIdeal.nD Cert.GateNormBackRefIdeal.τ).loc Cert.GateNormBackRefIdeal.main_arg1) = m ((c.tc : Thread Cert.GateNormBackIdeal.nD Cert.GateNormBackIdeal.τ).loc Cert.GateNormBackIdeal.main_arg1)
      ∧ m' ((c.tc : Thread Cert.GateNormBackRefIdeal.nD Cert.GateNormBackRefIdeal.τ).loc Cert.GateNormBackRefIdeal.main_arg2) = m ((c.tc : Thread Cert.GateNormBackIdeal.nD Cert.GateNormBackIdeal.τ).loc Cert.GateNormBackIdeal.main_arg2)
      ∧ m' ((c.tc : Thread Cert.GateNormBackRefIdeal.nD Cert.GateNormBackRefIdeal.τ).loc Cert.GateNormBackRefIdeal.main_arg3) = m ((c.tc : Thread Cert.GateNormBackIdeal.nD Cert.GateNormBackIdeal.τ).loc Cert.GateNormBackIdeal.main_arg3)) →
    ∃ (v0 : (c : Dev Cert.GateNormBackIdeal.nD) → Buf (Elt Ideal) ((c.tc : Thread Cert.GateNormBackIdeal.nD Cert.GateNormBackIdeal.τ).loc Cert.GateNormBackIdeal.main_v0_0)) (v1 : (c : Dev Cert.GateNormBackIdeal.nD) → Buf (Elt Ideal) ((c.tc : Thread Cert.GateNormBackIdeal.nD Cert.GateNormBackIdeal.τ).loc Cert.GateNormBackIdeal.main_v0_1)) (v2 : (c : Dev Cert.GateNormBackIdeal.nD) → Buf (Elt Ideal) ((c.tc : Thread Cert.GateNormBackIdeal.nD Cert.GateNormBackIdeal.τ).loc Cert.GateNormBackIdeal.main_v0_2)),
      θ_run (Cert.GateNormBackIdeal.defs (F := Ideal)) (onTc (τ := Cert.GateNormBackIdeal.τ) (Cert.GateNormBackIdeal.main (F := Ideal))) ⟨m, fun _ => 0, g⟩ (fun r => ∀ c : Dev Cert.GateNormBackIdeal.nD,
          r.2.mem ((c.tc : Thread Cert.GateNormBackIdeal.nD Cert.GateNormBackIdeal.τ).loc Cert.GateNormBackIdeal.main_v0_0) = v0 c
          ∧ r.2.mem ((c.tc : Thread Cert.GateNormBackIdeal.nD Cert.GateNormBackIdeal.τ).loc Cert.GateNormBackIdeal.main_v0_1) = v1 c
          ∧ r.2.mem ((c.tc : Thread Cert.GateNormBackIdeal.nD Cert.GateNormBackIdeal.τ).loc Cert.GateNormBackIdeal.main_v0_2) = v2 c
          ∧ r.2.mem ((c.tc : Thread Cert.GateNormBackIdeal.nD Cert.GateNormBackIdeal.τ).loc Cert.GateNormBackIdeal.main_arg0) = m ((c.tc : Thread Cert.GateNormBackIdeal.nD Cert.GateNormBackIdeal.τ).loc Cert.GateNormBackIdeal.main_arg0)
          ∧ r.2.mem ((c.tc : Thread Cert.GateNormBackIdeal.nD Cert.GateNormBackIdeal.τ).loc Cert.GateNormBackIdeal.main_arg1) = m ((c.tc : Thread Cert.GateNormBackIdeal.nD Cert.GateNormBackIdeal.τ).loc Cert.GateNormBackIdeal.main_arg1)
          ∧ r.2.mem ((c.tc : Thread Cert.GateNormBackIdeal.nD Cert.GateNormBackIdeal.τ).loc Cert.GateNormBackIdeal.main_arg2) = m ((c.tc : Thread Cert.GateNormBackIdeal.nD Cert.GateNormBackIdeal.τ).loc Cert.GateNormBackIdeal.main_arg2)
          ∧ r.2.mem ((c.tc : Thread Cert.GateNormBackIdeal.nD Cert.GateNormBackIdeal.τ).loc Cert.GateNormBackIdeal.main_arg3) = m ((c.tc : Thread Cert.GateNormBackIdeal.nD Cert.GateNormBackIdeal.τ).loc Cert.GateNormBackIdeal.main_arg3))
      ∧ θ_run (Cert.GateNormBackRefIdeal.defs (F := Ideal)) (onTc (τ := Cert.GateNormBackRefIdeal.τ) (Cert.GateNormBackRefIdeal.main (F := Ideal))) ⟨m', fun _ => 0, g'⟩ (fun r => ∀ c : Dev Cert.GateNormBackRefIdeal.nD,
          r.2.mem ((c.tc : Thread Cert.GateNormBackRefIdeal.nD Cert.GateNormBackRefIdeal.τ).loc Cert.GateNormBackRefIdeal.main_v51) = v0 c
          ∧ r.2.mem ((c.tc : Thread Cert.GateNormBackRefIdeal.nD Cert.GateNormBackRefIdeal.τ).loc Cert.GateNormBackRefIdeal.main_v52) = v1 c
          ∧ r.2.mem ((c.tc : Thread Cert.GateNormBackRefIdeal.nD Cert.GateNormBackRefIdeal.τ).loc Cert.GateNormBackRefIdeal.main_v58) = v2 c
          ∧ r.2.mem ((c.tc : Thread Cert.GateNormBackRefIdeal.nD Cert.GateNormBackRefIdeal.τ).loc Cert.GateNormBackRefIdeal.main_arg0) = m' ((c.tc : Thread Cert.GateNormBackRefIdeal.nD Cert.GateNormBackRefIdeal.τ).loc Cert.GateNormBackRefIdeal.main_arg0)
          ∧ r.2.mem ((c.tc : Thread Cert.GateNormBackRefIdeal.nD Cert.GateNormBackRefIdeal.τ).loc Cert.GateNormBackRefIdeal.main_arg1) = m' ((c.tc : Thread Cert.GateNormBackRefIdeal.nD Cert.GateNormBackRefIdeal.τ).loc Cert.GateNormBackRefIdeal.main_arg1)
          ∧ r.2.mem ((c.tc : Thread Cert.GateNormBackRefIdeal.nD Cert.GateNormBackRefIdeal.τ).loc Cert.GateNormBackRefIdeal.main_arg2) = m' ((c.tc : Thread Cert.GateNormBackRefIdeal.nD Cert.GateNormBackRefIdeal.τ).loc Cert.GateNormBackRefIdeal.main_arg2)
          ∧ r.2.mem ((c.tc : Thread Cert.GateNormBackRefIdeal.nD Cert.GateNormBackRefIdeal.τ).loc Cert.GateNormBackRefIdeal.main_arg3) = m' ((c.tc : Thread Cert.GateNormBackRefIdeal.nD Cert.GateNormBackRefIdeal.τ).loc Cert.GateNormBackRefIdeal.main_arg3))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)
      ∧ m' ((c.tc : Thread Cert.PackRefIdeal.nD Cert.PackRefIdeal.τ).loc Cert.PackRefIdeal.main_arg4) = m ((c.tc : Thread Cert.PackIdeal.nD Cert.PackIdeal.τ).loc Cert.PackIdeal.main_arg4)
      ∧ m' ((c.tc : Thread Cert.PackRefIdeal.nD Cert.PackRefIdeal.τ).loc Cert.PackRefIdeal.main_arg5) = m ((c.tc : Thread Cert.PackIdeal.nD Cert.PackIdeal.τ).loc Cert.PackIdeal.main_arg5)
      ∧ m' ((c.tc : Thread Cert.PackRefIdeal.nD Cert.PackRefIdeal.τ).loc Cert.PackRefIdeal.main_arg6) = m ((c.tc : Thread Cert.PackIdeal.nD Cert.PackIdeal.τ).loc Cert.PackIdeal.main_arg6)) →
    ∃ (v0 : (c : Dev Cert.PackIdeal.nD) → Buf (Elt Ideal) ((c.tc : Thread Cert.PackIdeal.nD Cert.PackIdeal.τ).loc Cert.PackIdeal.main_v0)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v0) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
          ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
          ∧ r.2.mem ((c.tc : Thread Cert.PackIdeal.nD Cert.PackIdeal.τ).loc Cert.PackIdeal.main_arg6) = m ((c.tc : Thread Cert.PackIdeal.nD Cert.PackIdeal.τ).loc Cert.PackIdeal.main_arg6))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v1) = v0 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4)
          ∧ r.2.mem ((c.tc : Thread Cert.PackRefIdeal.nD Cert.PackRefIdeal.τ).loc Cert.PackRefIdeal.main_arg5) = m' ((c.tc : Thread Cert.PackRefIdeal.nD Cert.PackRefIdeal.τ).loc Cert.PackRefIdeal.main_arg5)
          ∧ r.2.mem ((c.tc : Thread Cert.PackRefIdeal.nD Cert.PackRefIdeal.τ).loc Cert.PackRefIdeal.main_arg6) = m' ((c.tc : Thread Cert.PackRefIdeal.nD Cert.PackRefIdeal.τ).loc Cert.PackRefIdeal.main_arg6))

def Claim : Prop :=
  ∃ (hSwap : Cert.Swap.Facts) (hSwapIdeal : Cert.SwapIdeal.Facts) (hSwapRefIdeal : Cert.SwapRefIdeal.Facts) (hSwapRef : Cert.SwapRef.Facts) (hScatter : Cert.Scatter.Facts) (hScatterIdeal : Cert.ScatterIdeal.Facts) (hScatterRefIdeal : Cert.ScatterRefIdeal.Facts) (hScatterRef : Cert.ScatterRef.Facts) (hJoin : Cert.Join.Facts) (hJoinIdeal : Cert.JoinIdeal.Facts) (hJoinRefIdeal : Cert.JoinRefIdeal.Facts) (hJoinRef : Cert.JoinRef.Facts) (hGather : Cert.Gather.Facts) (hGatherIdeal : Cert.GatherIdeal.Facts) (hGatherRefIdeal : Cert.GatherRefIdeal.Facts) (hGatherRef : Cert.GatherRef.Facts) (hUpdateIn : Cert.UpdateIn.Facts) (hUpdateInIdeal : Cert.UpdateInIdeal.Facts) (hUpdateInRefIdeal : Cert.UpdateInRefIdeal.Facts) (hUpdateOut : Cert.UpdateOut.Facts) (hUpdateOutIdeal : Cert.UpdateOutIdeal.Facts) (hUpdateOutRefIdeal : Cert.UpdateOutRefIdeal.Facts) (hUpdateMlp : Cert.UpdateMlp.Facts) (hUpdateMlpIdeal : Cert.UpdateMlpIdeal.Facts) (hUpdateMlpRefIdeal : Cert.UpdateMlpRefIdeal.Facts) (hUpdateNorm : Cert.UpdateNorm.Facts) (hUpdateNormIdeal : Cert.UpdateNormIdeal.Facts) (hUpdateNormRefIdeal : Cert.UpdateNormRefIdeal.Facts) (hUpdateLb : Cert.UpdateLb.Facts) (hUpdateLbIdeal : Cert.UpdateLbIdeal.Facts) (hUpdateLbRefIdeal : Cert.UpdateLbRefIdeal.Facts) (hUpdateHead : Cert.UpdateHead.Facts) (hUpdateHeadIdeal : Cert.UpdateHeadIdeal.Facts) (hUpdateHeadRefIdeal : Cert.UpdateHeadRefIdeal.Facts) (hSumIn : Cert.SumIn.Facts) (hSumInIdeal : Cert.SumInIdeal.Facts) (hSumInRefIdeal : Cert.SumInRefIdeal.Facts) (hSumOut : Cert.SumOut.Facts) (hSumOutIdeal : Cert.SumOutIdeal.Facts) (hSumOutRefIdeal : Cert.SumOutRefIdeal.Facts) (hSumMlp : Cert.SumMlp.Facts) (hSumMlpIdeal : Cert.SumMlpIdeal.Facts) (hSumMlpRefIdeal : Cert.SumMlpRefIdeal.Facts) (hNorm : Cert.Norm.Facts) (hNormIdeal : Cert.NormIdeal.Facts) (hNormRefIdeal : Cert.NormRefIdeal.Facts) (hNormBack : Cert.NormBack.Facts) (hNormBackIdeal : Cert.NormBackIdeal.Facts) (hNormBackRefIdeal : Cert.NormBackRefIdeal.Facts) (hLossHead : Cert.LossHead.Facts) (hLossHeadIdeal : Cert.LossHeadIdeal.Facts) (hLossHeadRefIdeal : Cert.LossHeadRefIdeal.Facts) (hTail : Cert.Tail.Facts) (hTailIdeal : Cert.TailIdeal.Facts) (hTailRefIdeal : Cert.TailRefIdeal.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hMlpDownBack : Cert.MlpDownBack.Facts) (hMlpDownBackIdeal : Cert.MlpDownBackIdeal.Facts) (hMlpDownBackRefIdeal : Cert.MlpDownBackRefIdeal.Facts) (hMlpUpBack : Cert.MlpUpBack.Facts) (hMlpUpBackIdeal : Cert.MlpUpBackIdeal.Facts) (hMlpUpBackRefIdeal : Cert.MlpUpBackRefIdeal.Facts) (hProjInBack : Cert.ProjInBack.Facts) (hProjInBackIdeal : Cert.ProjInBackIdeal.Facts) (hProjInBackRefIdeal : Cert.ProjInBackRefIdeal.Facts) (hProjOutBack : Cert.ProjOutBack.Facts) (hProjOutBackIdeal : Cert.ProjOutBackIdeal.Facts) (hProjOutBackRefIdeal : Cert.ProjOutBackRefIdeal.Facts) (hGradIn : Cert.GradIn.Facts) (hGradInIdeal : Cert.GradInIdeal.Facts) (hGradInRefIdeal : Cert.GradInRefIdeal.Facts) (hGradUp : Cert.GradUp.Facts) (hGradUpIdeal : Cert.GradUpIdeal.Facts) (hGradUpRefIdeal : Cert.GradUpRefIdeal.Facts) (hGradOut : Cert.GradOut.Facts) (hGradOutIdeal : Cert.GradOutIdeal.Facts) (hGradOutRefIdeal : Cert.GradOutRefIdeal.Facts) (hGradDown : Cert.GradDown.Facts) (hGradDownIdeal : Cert.GradDownIdeal.Facts) (hGradDownRefIdeal : Cert.GradDownRefIdeal.Facts) (hMlpNormBack : Cert.MlpNormBack.Facts) (hMlpNormBackIdeal : Cert.MlpNormBackIdeal.Facts) (hMlpNormBackRefIdeal : Cert.MlpNormBackRefIdeal.Facts) (hCastIn : Cert.CastIn.Facts) (hCastInIdeal : Cert.CastInIdeal.Facts) (hCastInRefIdeal : Cert.CastInRefIdeal.Facts) (hCastOut : Cert.CastOut.Facts) (hCastOutIdeal : Cert.CastOutIdeal.Facts) (hCastOutRefIdeal : Cert.CastOutRefIdeal.Facts) (hCastMlp : Cert.CastMlp.Facts) (hCastMlpIdeal : Cert.CastMlpIdeal.Facts) (hCastMlpRefIdeal : Cert.CastMlpRefIdeal.Facts) (hHeadNormBack : Cert.HeadNormBack.Facts) (hHeadNormBackIdeal : Cert.HeadNormBackIdeal.Facts) (hHeadNormBackRefIdeal : Cert.HeadNormBackRefIdeal.Facts) (hGateNormBack : Cert.GateNormBack.Facts) (hGateNormBackIdeal : Cert.GateNormBackIdeal.Facts) (hGateNormBackRefIdeal : Cert.GateNormBackRefIdeal.Facts) (hPack : Cert.Pack.Facts) (hPackIdeal : Cert.PackIdeal.Facts) (hPackRefIdeal : Cert.PackRefIdeal.Facts),
    quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Join (hJoin := hJoin)
    ∧ quiescent_JoinIdeal (hJoinIdeal := hJoinIdeal)
    ∧ quiescent_JoinRefIdeal (hJoinRefIdeal := hJoinRefIdeal)
    ∧ quiescent_JoinRef (hJoinRef := hJoinRef)
    ∧ quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_UpdateIn (hUpdateIn := hUpdateIn)
    ∧ quiescent_UpdateInIdeal (hUpdateInIdeal := hUpdateInIdeal)
    ∧ quiescent_UpdateInRefIdeal (hUpdateInRefIdeal := hUpdateInRefIdeal)
    ∧ quiescent_UpdateOut (hUpdateOut := hUpdateOut)
    ∧ quiescent_UpdateOutIdeal (hUpdateOutIdeal := hUpdateOutIdeal)
    ∧ quiescent_UpdateOutRefIdeal (hUpdateOutRefIdeal := hUpdateOutRefIdeal)
    ∧ quiescent_UpdateMlp (hUpdateMlp := hUpdateMlp)
    ∧ quiescent_UpdateMlpIdeal (hUpdateMlpIdeal := hUpdateMlpIdeal)
    ∧ quiescent_UpdateMlpRefIdeal (hUpdateMlpRefIdeal := hUpdateMlpRefIdeal)
    ∧ quiescent_UpdateNorm (hUpdateNorm := hUpdateNorm)
    ∧ quiescent_UpdateNormIdeal (hUpdateNormIdeal := hUpdateNormIdeal)
    ∧ quiescent_UpdateNormRefIdeal (hUpdateNormRefIdeal := hUpdateNormRefIdeal)
    ∧ quiescent_UpdateLb (hUpdateLb := hUpdateLb)
    ∧ quiescent_UpdateLbIdeal (hUpdateLbIdeal := hUpdateLbIdeal)
    ∧ quiescent_UpdateLbRefIdeal (hUpdateLbRefIdeal := hUpdateLbRefIdeal)
    ∧ quiescent_UpdateHead (hUpdateHead := hUpdateHead)
    ∧ quiescent_UpdateHeadIdeal (hUpdateHeadIdeal := hUpdateHeadIdeal)
    ∧ quiescent_UpdateHeadRefIdeal (hUpdateHeadRefIdeal := hUpdateHeadRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumMlp (hSumMlp := hSumMlp)
    ∧ quiescent_SumMlpIdeal (hSumMlpIdeal := hSumMlpIdeal)
    ∧ quiescent_SumMlpRefIdeal (hSumMlpRefIdeal := hSumMlpRefIdeal)
    ∧ quiescent_Norm (hNorm := hNorm)
    ∧ quiescent_NormIdeal (hNormIdeal := hNormIdeal)
    ∧ quiescent_NormRefIdeal (hNormRefIdeal := hNormRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Tail (hTail := hTail)
    ∧ quiescent_TailIdeal (hTailIdeal := hTailIdeal)
    ∧ quiescent_TailRefIdeal (hTailRefIdeal := hTailRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_MlpDownBack (hMlpDownBack := hMlpDownBack)
    ∧ quiescent_MlpDownBackIdeal (hMlpDownBackIdeal := hMlpDownBackIdeal)
    ∧ quiescent_MlpDownBackRefIdeal (hMlpDownBackRefIdeal := hMlpDownBackRefIdeal)
    ∧ quiescent_MlpUpBack (hMlpUpBack := hMlpUpBack)
    ∧ quiescent_MlpUpBackIdeal (hMlpUpBackIdeal := hMlpUpBackIdeal)
    ∧ quiescent_MlpUpBackRefIdeal (hMlpUpBackRefIdeal := hMlpUpBackRefIdeal)
    ∧ quiescent_ProjInBack (hProjInBack := hProjInBack)
    ∧ quiescent_ProjInBackIdeal (hProjInBackIdeal := hProjInBackIdeal)
    ∧ quiescent_ProjInBackRefIdeal (hProjInBackRefIdeal := hProjInBackRefIdeal)
    ∧ quiescent_ProjOutBack (hProjOutBack := hProjOutBack)
    ∧ quiescent_ProjOutBackIdeal (hProjOutBackIdeal := hProjOutBackIdeal)
    ∧ quiescent_ProjOutBackRefIdeal (hProjOutBackRefIdeal := hProjOutBackRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_GradOut (hGradOut := hGradOut)
    ∧ quiescent_GradOutIdeal (hGradOutIdeal := hGradOutIdeal)
    ∧ quiescent_GradOutRefIdeal (hGradOutRefIdeal := hGradOutRefIdeal)
    ∧ quiescent_GradDown (hGradDown := hGradDown)
    ∧ quiescent_GradDownIdeal (hGradDownIdeal := hGradDownIdeal)
    ∧ quiescent_GradDownRefIdeal (hGradDownRefIdeal := hGradDownRefIdeal)
    ∧ quiescent_MlpNormBack (hMlpNormBack := hMlpNormBack)
    ∧ quiescent_MlpNormBackIdeal (hMlpNormBackIdeal := hMlpNormBackIdeal)
    ∧ quiescent_MlpNormBackRefIdeal (hMlpNormBackRefIdeal := hMlpNormBackRefIdeal)
    ∧ quiescent_CastIn (hCastIn := hCastIn)
    ∧ quiescent_CastInIdeal (hCastInIdeal := hCastInIdeal)
    ∧ quiescent_CastInRefIdeal (hCastInRefIdeal := hCastInRefIdeal)
    ∧ quiescent_CastOut (hCastOut := hCastOut)
    ∧ quiescent_CastOutIdeal (hCastOutIdeal := hCastOutIdeal)
    ∧ quiescent_CastOutRefIdeal (hCastOutRefIdeal := hCastOutRefIdeal)
    ∧ quiescent_CastMlp (hCastMlp := hCastMlp)
    ∧ quiescent_CastMlpIdeal (hCastMlpIdeal := hCastMlpIdeal)
    ∧ quiescent_CastMlpRefIdeal (hCastMlpRefIdeal := hCastMlpRefIdeal)
    ∧ quiescent_HeadNormBack (hHeadNormBack := hHeadNormBack)
    ∧ quiescent_HeadNormBackIdeal (hHeadNormBackIdeal := hHeadNormBackIdeal)
    ∧ quiescent_HeadNormBackRefIdeal (hHeadNormBackRefIdeal := hHeadNormBackRefIdeal)
    ∧ quiescent_GateNormBack (hGateNormBack := hGateNormBack)
    ∧ quiescent_GateNormBackIdeal (hGateNormBackIdeal := hGateNormBackIdeal)
    ∧ quiescent_GateNormBackRefIdeal (hGateNormBackRefIdeal := hGateNormBackRefIdeal)
    ∧ quiescent_Pack (hPack := hPack)
    ∧ quiescent_PackIdeal (hPackIdeal := hPackIdeal)
    ∧ quiescent_PackRefIdeal (hPackRefIdeal := hPackRefIdeal)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Join_JoinIdeal
    ∧ algebraic_JoinIdeal_JoinRefIdeal (hJoinIdeal := hJoinIdeal) (hJoinRefIdeal := hJoinRefIdeal)
    ∧ bitexact_Join_JoinRef (hJoin := hJoin) (hJoinRef := hJoinRef)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_UpdateIn_UpdateInIdeal
    ∧ algebraic_UpdateInIdeal_UpdateInRefIdeal (hUpdateInIdeal := hUpdateInIdeal) (hUpdateInRefIdeal := hUpdateInRefIdeal)
    ∧ preserves_UpdateOut_UpdateOutIdeal
    ∧ algebraic_UpdateOutIdeal_UpdateOutRefIdeal (hUpdateOutIdeal := hUpdateOutIdeal) (hUpdateOutRefIdeal := hUpdateOutRefIdeal)
    ∧ preserves_UpdateMlp_UpdateMlpIdeal
    ∧ algebraic_UpdateMlpIdeal_UpdateMlpRefIdeal (hUpdateMlpIdeal := hUpdateMlpIdeal) (hUpdateMlpRefIdeal := hUpdateMlpRefIdeal)
    ∧ preserves_UpdateNorm_UpdateNormIdeal
    ∧ algebraic_UpdateNormIdeal_UpdateNormRefIdeal (hUpdateNormIdeal := hUpdateNormIdeal) (hUpdateNormRefIdeal := hUpdateNormRefIdeal)
    ∧ preserves_UpdateLb_UpdateLbIdeal
    ∧ algebraic_UpdateLbIdeal_UpdateLbRefIdeal (hUpdateLbIdeal := hUpdateLbIdeal) (hUpdateLbRefIdeal := hUpdateLbRefIdeal)
    ∧ preserves_UpdateHead_UpdateHeadIdeal
    ∧ algebraic_UpdateHeadIdeal_UpdateHeadRefIdeal (hUpdateHeadIdeal := hUpdateHeadIdeal) (hUpdateHeadRefIdeal := hUpdateHeadRefIdeal)
    ∧ preserves_SumIn_SumInIdeal
    ∧ algebraic_SumInIdeal_SumInRefIdeal (hSumInIdeal := hSumInIdeal) (hSumInRefIdeal := hSumInRefIdeal)
    ∧ preserves_SumOut_SumOutIdeal
    ∧ algebraic_SumOutIdeal_SumOutRefIdeal (hSumOutIdeal := hSumOutIdeal) (hSumOutRefIdeal := hSumOutRefIdeal)
    ∧ preserves_SumMlp_SumMlpIdeal
    ∧ algebraic_SumMlpIdeal_SumMlpRefIdeal (hSumMlpIdeal := hSumMlpIdeal) (hSumMlpRefIdeal := hSumMlpRefIdeal)
    ∧ preserves_Norm_NormIdeal
    ∧ algebraic_NormIdeal_NormRefIdeal (hNormIdeal := hNormIdeal) (hNormRefIdeal := hNormRefIdeal)
    ∧ preserves_NormBack_NormBackIdeal
    ∧ algebraic_NormBackIdeal_NormBackRefIdeal (hNormBackIdeal := hNormBackIdeal) (hNormBackRefIdeal := hNormBackRefIdeal)
    ∧ preserves_LossHead_LossHeadIdeal
    ∧ algebraic_LossHeadIdeal_LossHeadRefIdeal (hLossHeadIdeal := hLossHeadIdeal) (hLossHeadRefIdeal := hLossHeadRefIdeal)
    ∧ preserves_Tail_TailIdeal
    ∧ algebraic_TailIdeal_TailRefIdeal (hTailIdeal := hTailIdeal) (hTailRefIdeal := hTailRefIdeal)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_MlpDownBack_MlpDownBackIdeal
    ∧ algebraic_MlpDownBackIdeal_MlpDownBackRefIdeal (hMlpDownBackIdeal := hMlpDownBackIdeal) (hMlpDownBackRefIdeal := hMlpDownBackRefIdeal)
    ∧ preserves_MlpUpBack_MlpUpBackIdeal
    ∧ algebraic_MlpUpBackIdeal_MlpUpBackRefIdeal (hMlpUpBackIdeal := hMlpUpBackIdeal) (hMlpUpBackRefIdeal := hMlpUpBackRefIdeal)
    ∧ preserves_ProjInBack_ProjInBackIdeal
    ∧ algebraic_ProjInBackIdeal_ProjInBackRefIdeal (hProjInBackIdeal := hProjInBackIdeal) (hProjInBackRefIdeal := hProjInBackRefIdeal)
    ∧ preserves_ProjOutBack_ProjOutBackIdeal
    ∧ algebraic_ProjOutBackIdeal_ProjOutBackRefIdeal (hProjOutBackIdeal := hProjOutBackIdeal) (hProjOutBackRefIdeal := hProjOutBackRefIdeal)
    ∧ preserves_GradIn_GradInIdeal
    ∧ algebraic_GradInIdeal_GradInRefIdeal (hGradInIdeal := hGradInIdeal) (hGradInRefIdeal := hGradInRefIdeal)
    ∧ preserves_GradUp_GradUpIdeal
    ∧ algebraic_GradUpIdeal_GradUpRefIdeal (hGradUpIdeal := hGradUpIdeal) (hGradUpRefIdeal := hGradUpRefIdeal)
    ∧ preserves_GradOut_GradOutIdeal
    ∧ algebraic_GradOutIdeal_GradOutRefIdeal (hGradOutIdeal := hGradOutIdeal) (hGradOutRefIdeal := hGradOutRefIdeal)
    ∧ preserves_GradDown_GradDownIdeal
    ∧ algebraic_GradDownIdeal_GradDownRefIdeal (hGradDownIdeal := hGradDownIdeal) (hGradDownRefIdeal := hGradDownRefIdeal)
    ∧ preserves_MlpNormBack_MlpNormBackIdeal
    ∧ algebraic_MlpNormBackIdeal_MlpNormBackRefIdeal (hMlpNormBackIdeal := hMlpNormBackIdeal) (hMlpNormBackRefIdeal := hMlpNormBackRefIdeal)
    ∧ preserves_CastIn_CastInIdeal
    ∧ algebraic_CastInIdeal_CastInRefIdeal (hCastInIdeal := hCastInIdeal) (hCastInRefIdeal := hCastInRefIdeal)
    ∧ preserves_CastOut_CastOutIdeal
    ∧ algebraic_CastOutIdeal_CastOutRefIdeal (hCastOutIdeal := hCastOutIdeal) (hCastOutRefIdeal := hCastOutRefIdeal)
    ∧ preserves_CastMlp_CastMlpIdeal
    ∧ algebraic_CastMlpIdeal_CastMlpRefIdeal (hCastMlpIdeal := hCastMlpIdeal) (hCastMlpRefIdeal := hCastMlpRefIdeal)
    ∧ preserves_HeadNormBack_HeadNormBackIdeal
    ∧ algebraic_HeadNormBackIdeal_HeadNormBackRefIdeal (hHeadNormBackIdeal := hHeadNormBackIdeal) (hHeadNormBackRefIdeal := hHeadNormBackRefIdeal)
    ∧ preserves_GateNormBack_GateNormBackIdeal
    ∧ algebraic_GateNormBackIdeal_GateNormBackRefIdeal (hGateNormBackIdeal := hGateNormBackIdeal) (hGateNormBackRefIdeal := hGateNormBackRefIdeal)
    ∧ preserves_Pack_PackIdeal
    ∧ algebraic_PackIdeal_PackRefIdeal (hPackIdeal := hPackIdeal) (hPackRefIdeal := hPackRefIdeal)
-- ==== Swap.lean ====
abbrev S4x2048x1792 : Shape := ⟨3, ![4, 2048, 1792]⟩
abbrev S4x512x2048 : Shape := ⟨3, ![4, 512, 2048]⟩
abbrev S4x2048x2048 : Shape := ⟨3, ![4, 2048, 2048]⟩
abbrev S4x1024x1792 : Shape := ⟨3, ![4, 1024, 1792]⟩
abbrev S4x256x2048 : Shape := ⟨3, ![4, 256, 2048]⟩
abbrev S4x1024x2048 : Shape := ⟨3, ![4, 1024, 2048]⟩
abbrev S4 : Shape := ⟨1, ![4]⟩
abbrev S1 : Shape := ⟨1, ![1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x1792, .f32⟩
  | .hbm, ⟨1, _⟩ => ⟨S4x512x2048, .f32⟩
  | .hbm, ⟨2, _⟩ => ⟨S4x2048x2048, .f32⟩
  | .hbm, ⟨3, _⟩ => ⟨S4x2048x2048, .f32⟩
  | .hbm, ⟨4, _⟩ => ⟨S4x1024x1792, .f32⟩
  | .hbm, ⟨5, _⟩ => ⟨S4x256x2048, .f32⟩
  | .hbm, ⟨6, _⟩ => ⟨S4x1024x2048, .f32⟩
  | .hbm, ⟨7, _⟩ => ⟨S4x1024x2048, .f32⟩
  | _, _ => ⟨S4x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c0_i32_10 : BitVec 32 := 0#32
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1024_i32 : BitVec 32 := 1024#32
  let v10 : BitVec 32 := Scalar.muli v9 c1024_i32
  let c0_i32_11 : BitVec 32 := 0#32
  ![0, v10.toNat, 0]
def k0_dev1 (d0 : Dev nD) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v12 : BitVec 32 := Scalar.muli v2 c4_i32_6
  let v13 : BitVec 32 := Scalar.addi c0_i32_7 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v14 : BitVec 32 := Scalar.muli v5 c2_i32_8
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_9 : BitVec 32 := 1#32
  let v16 : BitVec 32 := Scalar.muli v11 c1_i32_9
  let v17 : BitVec 32 := Scalar.addi v15 v16
  v17.toNat
def k0_off2 (d0 : Dev nD) : Fin 3 → Nat :=
  let c0_i32_20 : BitVec 32 := 0#32
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v23 : BitVec 32 := Scalar.subi c1_i32_12 v8
  let c256_i32 : BitVec 32 := 256#32
  let v24 : BitVec 32 := Scalar.muli v23 c256_i32
  let c0_i32_21 : BitVec 32 := 0#32
  ![0, v24.toNat, 0]
def k0_dev2 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v26 : BitVec 32 := Scalar.muli v2 c4_i32_16
  let v27 : BitVec 32 := Scalar.addi c0_i32_17 v26
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v28 : BitVec 32 := Scalar.muli v5 c2_i32_18
  let v29 : BitVec 32 := Scalar.addi v27 v28
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v25 : BitVec 32 := Scalar.subi c1_i32_13 v8
  let c1_i32_19 : BitVec 32 := 1#32
  let v30 : BitVec 32 := Scalar.muli v25 c1_i32_19
  let v31 : BitVec 32 := Scalar.addi v29 v30
  v31.toNat
def k0_off3 (d0 : Dev nD) : Fin 3 → Nat :=
  let c0_i32_31 : BitVec 32 := 0#32
  let c1_i32_22 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v37 : BitVec 32 := Scalar.subi c1_i32_22 v8
  let c1024_i32_23 : BitVec 32 := 1024#32
  let v38 : BitVec 32 := Scalar.muli v37 c1024_i32_23
  let c0_i32_32 : BitVec 32 := 0#32
  ![0, v38.toNat, 0]
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v40 : BitVec 32 := Scalar.muli v2 c4_i32_27
  let v41 : BitVec 32 := Scalar.addi c0_i32_28 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v42 : BitVec 32 := Scalar.muli v5 c2_i32_29
  let v43 : BitVec 32 := Scalar.addi v41 v42
  let c1_i32_24 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v39 : BitVec 32 := Scalar.subi c1_i32_24 v8
  let c1_i32_30 : BitVec 32 := 1#32
  let v44 : BitVec 32 := Scalar.muli v39 c1_i32_30
  let v45 : BitVec 32 := Scalar.addi v43 v44
  v45.toNat
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v54 : BitVec 32 := Scalar.muli v2 c4_i32_37
  let v55 : BitVec 32 := Scalar.addi c0_i32_38 v54
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v56 : BitVec 32 := Scalar.muli v5 c2_i32_39
  let v57 : BitVec 32 := Scalar.addi v55 v56
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_35 v8
  let c1_i32_40 : BitVec 32 := 1#32
  let v58 : BitVec 32 := Scalar.muli v53 c1_i32_40
  let v59 : BitVec 32 := Scalar.addi v57 v58
  v59.toNat
-- ==== SwapRef.lean ====
abbrev S32x2048x1792 : Shape := ⟨3, ![32, 2048, 1792]⟩
abbrev S32x512x2048 : Shape := ⟨3, ![32, 512, 2048]⟩
abbrev S32x2048x2048 : Shape := ⟨3, ![32, 2048, 2048]⟩
abbrev S4x2x4x2x1024x1792 : Shape := ⟨6, ![4, 2, 4, 2, 1024, 1792]⟩
abbrev S4x1x4x1x1024x1792 : Shape := ⟨6, ![4, 1, 4, 1, 1024, 1792]⟩
abbrev S4x4x1024x1792 : Shape := ⟨4, ![4, 4, 1024, 1792]⟩
abbrev S4x1x4x1024x1792 : Shape := ⟨5, ![4, 1, 4, 1024, 1792]⟩
abbrev S4x2x4x1024x1792 : Shape := ⟨5, ![4, 2, 4, 1024, 1792]⟩
abbrev S32x1024x1792 : Shape := ⟨3, ![32, 1024, 1792]⟩
abbrev S4x2x4x2x256x2048 : Shape := ⟨6, ![4, 2, 4, 2, 256, 2048]⟩
abbrev S4x1x4x1x256x2048 : Shape := ⟨6, ![4, 1, 4, 1, 256, 2048]⟩
abbrev S4x4x256x2048 : Shape := ⟨4, ![4, 4, 256, 2048]⟩
abbrev S4x1x4x256x2048 : Shape := ⟨5, ![4, 1, 4, 256, 2048]⟩
abbrev S4x2x4x256x2048 : Shape := ⟨5, ![4, 2, 4, 256, 2048]⟩
abbrev S32x256x2048 : Shape := ⟨3, ![32, 256, 2048]⟩
abbrev S4x2x4x2x1024x2048 : Shape := ⟨6, ![4, 2, 4, 2, 1024, 2048]⟩
abbrev S4x1x4x1x1024x2048 : Shape := ⟨6, ![4, 1, 4, 1, 1024, 2048]⟩
abbrev S4x4x1024x2048 : Shape := ⟨4, ![4, 4, 1024, 2048]⟩
abbrev S4x1x4x1024x2048 : Shape := ⟨5, ![4, 1, 4, 1024, 2048]⟩
abbrev S4x2x4x1024x2048 : Shape := ⟨5, ![4, 2, 4, 1024, 2048]⟩
abbrev S32x1024x2048 : Shape := ⟨3, ![32, 1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S32x2048x1792, .f32⟩
  | .hbm, ⟨1, _⟩ => ⟨S32x512x2048, .f32⟩
  | .hbm, ⟨2, _⟩ => ⟨S32x2048x2048, .f32⟩
  | .hbm, ⟨3, _⟩ => ⟨S32x2048x2048, .f32⟩
  | .hbm, ⟨4, _⟩ => ⟨S4x2x4x2x1024x1792, .f32⟩
  | .hbm, ⟨5, _⟩ => ⟨S4x1x4x1x1024x1792, .f32⟩
  | .hbm, ⟨6, _⟩ => ⟨S4x4x1024x1792, .f32⟩
  | .hbm, ⟨7, _⟩ => ⟨S4x1x4x1x1024x1792, .f32⟩
  | .hbm, ⟨8, _⟩ => ⟨S4x4x1024x1792, .f32⟩
  | .hbm, ⟨9, _⟩ => ⟨S4x1x4x1024x1792, .f32⟩
  | .hbm, ⟨10, _⟩ => ⟨S4x1x4x1024x1792, .f32⟩
  | .hbm, ⟨11, _⟩ => ⟨S4x2x4x1024x1792, .f32⟩
  | .hbm, ⟨12, _⟩ => ⟨S32x1024x1792, .f32⟩
  | .hbm, ⟨13, _⟩ => ⟨S4x2x4x2x256x2048, .f32⟩
  | .hbm, ⟨14, _⟩ => ⟨S4x1x4x1x256x2048, .f32⟩
  | .hbm, ⟨15, _⟩ => ⟨S4x4x256x2048, .f32⟩
  | .hbm, ⟨16, _⟩ => ⟨S4x1x4x1x256x2048, .f32⟩
  | .hbm, ⟨17, _⟩ => ⟨S4x4x256x2048, .f32⟩
  | .hbm, ⟨18, _⟩ => ⟨S4x1x4x256x2048, .f32⟩
  | .hbm, ⟨19, _⟩ => ⟨S4x1x4x256x2048, .f32⟩
  | .hbm, ⟨20, _⟩ => ⟨S4x2x4x256x2048, .f32⟩
  | .hbm, ⟨21, _⟩ => ⟨S32x256x2048, .f32⟩
  | .hbm, ⟨22, _⟩ => ⟨S4x2x4x2x1024x2048, .f32⟩
  | .hbm, ⟨23, _⟩ => ⟨S4x1x4x1x1024x2048, .f32⟩
  | .hbm, ⟨24, _⟩ => ⟨S4x4x1024x2048, .f32⟩
  | .hbm, ⟨25, _⟩ => ⟨S4x1x4x1x1024x2048, .f32⟩
  | .hbm, ⟨26, _⟩ => ⟨S4x4x1024x2048, .f32⟩
  | .hbm, ⟨27, _⟩ => ⟨S4x1x4x1024x2048, .f32⟩
  | .hbm, ⟨28, _⟩ => ⟨S4x1x4x1024x2048, .f32⟩
  | .hbm, ⟨29, _⟩ => ⟨S4x2x4x1024x2048, .f32⟩
  | .hbm, ⟨30, _⟩ => ⟨S32x1024x2048, .f32⟩
  | .hbm, ⟨31, _⟩ => ⟨S4x2x4x2x1024x2048, .f32⟩
  | .hbm, ⟨32, _⟩ => ⟨S4x1x4x1x1024x2048, .f32⟩
  | .hbm, ⟨33, _⟩ => ⟨S4x4x1024x2048, .f32⟩
  | .hbm, ⟨34, _⟩ => ⟨S4x1x4x1x1024x2048, .f32⟩
  | .hbm, ⟨35, _⟩ => ⟨S4x4x1024x2048, .f32⟩
  | .hbm, ⟨36, _⟩ => ⟨S4x1x4x1024x2048, .f32⟩
  | .hbm, ⟨37, _⟩ => ⟨S4x1x4x1024x2048, .f32⟩
  | .hbm, ⟨38, _⟩ => ⟨S4x2x4x1024x2048, .f32⟩
  | .hbm, ⟨39, _⟩ => ⟨S32x1024x2048, .f32⟩
  | _, _ => ⟨S32x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩

abbrev nD : Nat := 1
abbrev τ : Topo := Topo.v7x

variable {F : FTy → Type} [FloatOps F]
-- ==== Scatter.lean ====
abbrev S4x1024x1792 : Shape := ⟨3, ![4, 1024, 1792]⟩
abbrev S4x256x2048 : Shape := ⟨3, ![4, 256, 2048]⟩
abbrev S4x1024x2048 : Shape := ⟨3, ![4, 1024, 2048]⟩
abbrev S3x1024x1792 : Shape := ⟨3, ![3, 1024, 1792]⟩
abbrev S3x256x2048 : Shape := ⟨3, ![3, 256, 2048]⟩
abbrev S3x1024x2048 : Shape := ⟨3, ![3, 1024, 2048]⟩
abbrev S12 : Shape := ⟨1, ![12]⟩
abbrev S1 : Shape := ⟨1, ![1]⟩
abbrev S_ : Shape := ⟨0, ![]⟩
abbrev S1x1024x1792 : Shape := ⟨3, ![1, 1024, 1792]⟩
abbrev S1024x1792 : Shape := ⟨2, ![1024, 1792]⟩
abbrev S1x256x2048 : Shape := ⟨3, ![1, 256, 2048]⟩
abbrev S256x2048 : Shape := ⟨2, ![256, 2048]⟩
abbrev S1x1024x2048 : Shape := ⟨3, ![1, 1024, 2048]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4x1024x1792, .bf16⟩
  | .hbm, ⟨1, _⟩ => ⟨S4x256x2048, .bf16⟩
  | .hbm, ⟨2, _⟩ => ⟨S4x1024x2048, .bf16⟩
  | .hbm, ⟨3, _⟩ => ⟨S4x1024x2048, .bf16⟩
  | .hbm, ⟨4, _⟩ => ⟨S3x1024x1792, .bf16⟩
  | .hbm, ⟨5, _⟩ => ⟨S3x256x2048, .bf16⟩
  | .hbm, ⟨6, _⟩ => ⟨S3x1024x2048, .bf16⟩
  | .hbm, ⟨7, _⟩ => ⟨S3x1024x2048, .bf16⟩
  | _, _ => ⟨S4x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v13 : BitVec 32 := Scalar.muli c2_i32_7 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_16 : BitVec 32 := 0#32
  let c0_i32_17 : BitVec 32 := 0#32
  ![v14.toNat, 0, 0]
def k0_dev1 (d0 : Dev nD) : Nat :=
  let c0_i32_11 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_10 : BitVec 32 := 4#32
  let v15 : BitVec 32 := Scalar.muli v9 c4_i32_10
  let v16 : BitVec 32 := Scalar.addi c0_i32_11 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v17 : BitVec 32 := Scalar.muli v5 c2_i32_12
  let v18 : BitVec 32 := Scalar.addi v16 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v19 : BitVec 32 := Scalar.muli v8 c1_i32_13
  let v20 : BitVec 32 := Scalar.addi v18 v19
  v20.toNat
def k0_off2 (d0 : Dev nD) : Fin 3 → Nat :=
  let c2_i32_18 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v29 : BitVec 32 := Scalar.muli c2_i32_18 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v30 : BitVec 32 := Scalar.addi v29 v10
  let c0_i32_28 : BitVec 32 := 0#32
  let c0_i32_29 : BitVec 32 := 0#32
  ![v30.toNat, 0, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v31 : BitVec 32 := Scalar.muli v2 c4_i32_22
  let v32 : BitVec 32 := Scalar.addi c0_i32_23 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v33 : BitVec 32 := Scalar.muli v10 c2_i32_24
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v35 : BitVec 32 := Scalar.muli v8 c1_i32_25
  let v36 : BitVec 32 := Scalar.addi v34 v35
  v36.toNat
def k0_off3 (d0 : Dev nD) : Fin 3 → Nat :=
  let c2_i32_30 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v45 : BitVec 32 := Scalar.muli c2_i32_30 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v46 : BitVec 32 := Scalar.addi v45 v12
  let c0_i32_40 : BitVec 32 := 0#32
  let c0_i32_41 : BitVec 32 := 0#32
  ![v46.toNat, 0, 0]
def k0_dev3 (d0 : Dev nD) : Nat :=
  let c0_i32_35 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_34 : BitVec 32 := 4#32
  let v47 : BitVec 32 := Scalar.muli v11 c4_i32_34
  let v48 : BitVec 32 := Scalar.addi c0_i32_35 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_36 : BitVec 32 := 2#32
  let v49 : BitVec 32 := Scalar.muli v12 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
def k0_off4 (d0 : Dev nD) : Fin 3 → Nat :=
  let c2_i32_42 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v61 : BitVec 32 := Scalar.muli c2_i32_42 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v62 : BitVec 32 := Scalar.addi v61 v5
  let c0_i32_51 : BitVec 32 := 0#32
  let c0_i32_52 : BitVec 32 := 0#32
  ![v62.toNat, 0, 0]
def k0_dev4 (d0 : Dev nD) : Nat :=
  let c0_i32_46 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_45 : BitVec 32 := 4#32
  let v63 : BitVec 32 := Scalar.muli v9 c4_i32_45
  let v64 : BitVec 32 := Scalar.addi c0_i32_46 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v65 : BitVec 32 := Scalar.muli v5 c2_i32_47
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v67 : BitVec 32 := Scalar.muli v8 c1_i32_48
  let v68 : BitVec 32 := Scalar.addi v66 v67
  v68.toNat
def k0_off5 (d0 : Dev nD) : Fin 3 → Nat :=
  let c2_i32_53 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v77 : BitVec 32 := Scalar.muli c2_i32_53 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v78 : BitVec 32 := Scalar.addi v77 v10
  let c0_i32_63 : BitVec 32 := 0#32
  let c0_i32_64 : BitVec 32 := 0#32
  ![v78.toNat, 0, 0]
def k0_dev5 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v79 : BitVec 32 := Scalar.muli v2 c4_i32_57
  let v80 : BitVec 32 := Scalar.addi c0_i32_58 v79
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_59 : BitVec 32 := 2#32
  let v81 : BitVec 32 := Scalar.muli v10 c2_i32_59
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v83 : BitVec 32 := Scalar.muli v8 c1_i32_60
  let v84 : BitVec 32 := Scalar.addi v82 v83
  v84.toNat
def k0_off6 (d0 : Dev nD) : Fin 3 → Nat :=
  let c2_i32_65 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v93 : BitVec 32 := Scalar.muli c2_i32_65 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v94 : BitVec 32 := Scalar.addi v93 v12
  let c0_i32_74 : BitVec 32 := 0#32
  let c0_i32_75 : BitVec 32 := 0#32
  ![v94.toNat, 0, 0]
def k0_dev6 (d0 : Dev nD) : Nat :=
  let c0_i32_69 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_68 : BitVec 32 := 4#32
  let v95 : BitVec 32 := Scalar.muli v11 c4_i32_68
  let v96 : BitVec 32 := Scalar.addi c0_i32_69 v95
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_70 : BitVec 32 := 2#32
  let v97 : BitVec 32 := Scalar.muli v12 c2_i32_70
  let v98 : BitVec 32 := Scalar.addi v96 v97
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v99 : BitVec 32 := Scalar.muli v8 c1_i32_71
  let v100 : BitVec 32 := Scalar.addi v98 v99
  v100.toNat
def k0_off7 (d0 : Dev nD) : Fin 3 → Nat :=
  let c2_i32_76 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v109 : BitVec 32 := Scalar.muli c2_i32_76 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v110 : BitVec 32 := Scalar.addi v109 v5
  let c0_i32_85 : BitVec 32 := 0#32
  let c0_i32_86 : BitVec 32 := 0#32
  ![v110.toNat, 0, 0]
def k0_dev7 (d0 : Dev nD) : Nat :=
  let c0_i32_80 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_79 : BitVec 32 := 4#32
  let v111 : BitVec 32 := Scalar.muli v9 c4_i32_79
  let v112 : BitVec 32 := Scalar.addi c0_i32_80 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v113 : BitVec 32 := Scalar.muli v5 c2_i32_81
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v115 : BitVec 32 := Scalar.muli v8 c1_i32_82
  let v116 : BitVec 32 := Scalar.addi v114 v115
  v116.toNat
def k0_off8 (d0 : Dev nD) : Fin 3 → Nat :=
  let c2_i32_87 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v125 : BitVec 32 := Scalar.muli c2_i32_87 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v126 : BitVec 32 := Scalar.addi v125 v10
  let c0_i32_96 : BitVec 32 := 0#32
  let c0_i32_97 : BitVec 32 := 0#32
  ![v126.toNat, 0, 0]
def k0_dev8 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v127 : BitVec 32 := Scalar.muli v2 c4_i32_90
  let v128 : BitVec 32 := Scalar.addi c0_i32_91 v127
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_92 : BitVec 32 := 2#32
  let v129 : BitVec 32 := Scalar.muli v10 c2_i32_92
  let v130 : BitVec 32 := Scalar.addi v128 v129
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_93 : BitVec 32 := 1#32
  let v131 : BitVec 32 := Scalar.muli v8 c1_i32_93
  let v132 : BitVec 32 := Scalar.addi v130 v131
  v132.toNat
def k0_off9 (d0 : Dev nD) : Fin 3 → Nat :=
  let c2_i32_98 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v141 : BitVec 32 := Scalar.muli c2_i32_98 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v142 : BitVec 32 := Scalar.addi v141 v12
  let c0_i32_107 : BitVec 32 := 0#32
  let c0_i32_108 : BitVec 32 := 0#32
  ![v142.toNat, 0, 0]
def k0_dev9 (d0 : Dev nD) : Nat :=
  let c0_i32_102 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_101 : BitVec 32 := 4#32
  let v143 : BitVec 32 := Scalar.muli v11 c4_i32_101
  let v144 : BitVec 32 := Scalar.addi c0_i32_102 v143
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_103 : BitVec 32 := 2#32
  let v145 : BitVec 32 := Scalar.muli v12 c2_i32_103
  let v146 : BitVec 32 := Scalar.addi v144 v145
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v147 : BitVec 32 := Scalar.muli v8 c1_i32_104
  let v148 : BitVec 32 := Scalar.addi v146 v147
  v148.toNat
def k0_dev10 (d0 : Dev nD) : Nat :=
  let c0_i32_113 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_112 : BitVec 32 := 4#32
  let v159 : BitVec 32 := Scalar.muli v9 c4_i32_112
  let v160 : BitVec 32 := Scalar.addi c0_i32_113 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_114 : BitVec 32 := 2#32
  let v161 : BitVec 32 := Scalar.muli v5 c2_i32_114
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v163 : BitVec 32 := Scalar.muli v8 c1_i32_115
  let v164 : BitVec 32 := Scalar.addi v162 v163
  v164.toNat
def k0_dev11 (d0 : Dev nD) : Nat :=
  let c0_i32_124 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_123 : BitVec 32 := 4#32
  let v175 : BitVec 32 := Scalar.muli v2 c4_i32_123
  let v176 : BitVec 32 := Scalar.addi c0_i32_124 v175
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_125 : BitVec 32 := 2#32
  let v177 : BitVec 32 := Scalar.muli v10 c2_i32_125
  let v178 : BitVec 32 := Scalar.addi v176 v177
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v179 : BitVec 32 := Scalar.muli v8 c1_i32_126
  let v180 : BitVec 32 := Scalar.addi v178 v179
  v180.toNat
def k0_dev12 (d0 : Dev nD) : Nat :=
  let c0_i32_135 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_134 : BitVec 32 := 4#32
  let v191 : BitVec 32 := Scalar.muli v11 c4_i32_134
  let v192 : BitVec 32 := Scalar.addi c0_i32_135 v191
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_136 : BitVec 32 := 2#32
  let v193 : BitVec 32 := Scalar.muli v12 c2_i32_136
  let v194 : BitVec 32 := Scalar.addi v192 v193
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_137 : BitVec 32 := 1#32
  let v195 : BitVec 32 := Scalar.muli v8 c1_i32_137
  let v196 : BitVec 32 := Scalar.addi v194 v195
  v196.toNat
-- ==== ScatterRef.lean ====
abbrev S32x1024x1792 : Shape := ⟨3, ![32, 1024, 1792]⟩
abbrev S32x256x2048 : Shape := ⟨3, ![32, 256, 2048]⟩
abbrev S32x1024x2048 : Shape := ⟨3, ![32, 1024, 2048]⟩
abbrev S2x2x2x2x2x1835008 : Shape := ⟨6, ![2, 2, 2, 2, 2, 1835008]⟩
abbrev S4x4x2x1835008 : Shape := ⟨4, ![4, 4, 2, 1835008]⟩
abbrev S2x2x2x1835008 : Shape := ⟨4, ![2, 2, 2, 1835008]⟩
abbrev S2x2x2x1x1835008 : Shape := ⟨5, ![2, 2, 2, 1, 1835008]⟩
abbrev S2x2x2x3x1835008 : Shape := ⟨5, ![2, 2, 2, 3, 1835008]⟩
abbrev S24x1024x1792 : Shape := ⟨3, ![24, 1024, 1792]⟩
abbrev S2x2x2x2x2x524288 : Shape := ⟨6, ![2, 2, 2, 2, 2, 524288]⟩
abbrev S4x4x2x524288 : Shape := ⟨4, ![4, 4, 2, 524288]⟩
abbrev S2x2x2x524288 : Shape := ⟨4, ![2, 2, 2, 524288]⟩
abbrev S2x2x2x1x524288 : Shape := ⟨5, ![2, 2, 2, 1, 524288]⟩
abbrev S2x2x2x3x524288 : Shape := ⟨5, ![2, 2, 2, 3, 524288]⟩
abbrev S24x256x2048 : Shape := ⟨3, ![24, 256, 2048]⟩
abbrev S2x2x2x2x2x2097152 : Shape := ⟨6, ![2, 2, 2, 2, 2, 2097152]⟩
abbrev S4x4x2x2097152 : Shape := ⟨4, ![4, 4, 2, 2097152]⟩
abbrev S2x2x2x2097152 : Shape := ⟨4, ![2, 2, 2, 2097152]⟩
abbrev S2x2x2x1x2097152 : Shape := ⟨5, ![2, 2, 2, 1, 2097152]⟩
abbrev S2x2x2x3x2097152 : Shape := ⟨5, ![2, 2, 2, 3, 2097152]⟩
abbrev S24x1024x2048 : Shape := ⟨3, ![24, 1024, 2048]⟩

abbrev nBuf : Space → Nat
  | .hbm => 48
  | .vmem => 0
  | .smem => 0
  | _ => 0

abbrev bufTy : (tb : Table) → Fin (tcTables nBuf tb) → BufTy
  | .hbm, ⟨0, _⟩ => ⟨S32x1024x1792, .bf16⟩
  | .hbm, ⟨1, _⟩ => ⟨S32x256x2048, .bf16⟩
  | .hbm, ⟨2, _⟩ => ⟨S32x1024x2048, .bf16⟩
  | .hbm, ⟨3, _⟩ => ⟨S32x1024x2048, .bf16⟩
  | .hbm, ⟨4, _⟩ => ⟨S2x2x2x2x2x1835008, .bf16⟩
  | .hbm, ⟨5, _⟩ => ⟨S2x2x2x2x2x1835008, .bf16⟩
  | .hbm, ⟨6, _⟩ => ⟨S4x4x2x1835008, .bf16⟩
  | .hbm, ⟨7, _⟩ => ⟨S2x2x2x1835008, .bf16⟩
  | .hbm, ⟨8, _⟩ => ⟨S2x2x2x1835008, .bf16⟩
  | .hbm, ⟨9, _⟩ => ⟨S2x2x2x1835008, .bf16⟩
  | .hbm, ⟨10, _⟩ => ⟨S2x2x2x1x1835008, .bf16⟩
  | .hbm, ⟨11, _⟩ => ⟨S2x2x2x1x1835008, .bf16⟩
  | .hbm, ⟨12, _⟩ => ⟨S2x2x2x1x1835008, .bf16⟩
  | .hbm, ⟨13, _⟩ => ⟨S2x2x2x3x1835008, .bf16⟩
  | .hbm, ⟨14, _⟩ => ⟨S24x1024x1792, .bf16⟩
  | .hbm, ⟨15, _⟩ => ⟨S2x2x2x2x2x524288, .bf16⟩
  | .hbm, ⟨16, _⟩ => ⟨S2x2x2x2x2x524288, .bf16⟩
  | .hbm, ⟨17, _⟩ => ⟨S4x4x2x524288, .bf16⟩
  | .hbm, ⟨18, _⟩ => ⟨S2x2x2x524288, .bf16⟩
  | .hbm, ⟨19, _⟩ => ⟨S2x2x2x524288, .bf16⟩
  | .hbm, ⟨20, _⟩ => ⟨S2x2x2x524288, .bf16⟩
  | .hbm, ⟨21, _⟩ => ⟨S2x2x2x1x524288, .bf16⟩
  | .hbm, ⟨22, _⟩ => ⟨S2x2x2x1x524288, .bf16⟩
  | .hbm, ⟨23, _⟩ => ⟨S2x2x2x1x524288, .bf16⟩
  | .hbm, ⟨24, _⟩ => ⟨S2x2x2x3x524288, .bf16⟩
  | .hbm, ⟨25, _⟩ => ⟨S24x256x2048, .bf16⟩
  | .hbm, ⟨26, _⟩ => ⟨S2x2x2x2x2x2097152, .bf16⟩
  | .hbm, ⟨27, _⟩ => ⟨S2x2x2x2x2x2097152, .bf16⟩
  | .hbm, ⟨28, _⟩ => ⟨S4x4x2x2097152, .bf16⟩
  | .hbm, ⟨29, _⟩ => ⟨S2x2x2x2097152, .bf16⟩
  | .hbm, ⟨30, _⟩ => ⟨S2x2x2x2097152, .bf16⟩
  | .hbm, ⟨31, _⟩ => ⟨S2x2x2x2097152, .bf16⟩
  | .hbm, ⟨32, _⟩ => ⟨S2x2x2x1x2097152, .bf16⟩
  | .hbm, ⟨33, _⟩ => ⟨S2x2x2x1x2097152, .bf16⟩
  | .hbm, ⟨34, _⟩ => ⟨S2x2x2x1x2097152, .bf16⟩
  | .hbm, ⟨35, _⟩ => ⟨S2x2x2x3x2097152, .bf16⟩
  | .hbm, ⟨36, _⟩ => ⟨S24x1024x2048, .bf16⟩
  | .hbm, ⟨37, _⟩ => ⟨S2x2x2x2x2x2097152, .bf16⟩
  | .hbm, ⟨38, _⟩ => ⟨S2x2x2x2x2x2097152, .bf16⟩
  | .hbm, ⟨39, _⟩ => ⟨S4x4x2x2097152, .bf16⟩
  | .hbm, ⟨40, _⟩ => ⟨S2x2x2x2097152, .bf16⟩
  | .hbm, ⟨41, _⟩ => ⟨S2x2x2x2097152, .bf16⟩
  | .hbm, ⟨42, _⟩ => ⟨S2x2x2x2097152, .bf16⟩
  | .hbm, ⟨43, _⟩ => ⟨S2x2x2x1x2097152, .bf16⟩
  | .hbm, ⟨44, _⟩ => ⟨S2x2x2x1x2097152, .bf16⟩
  | .hbm, ⟨45, _⟩ => ⟨S2x2x2x1x2097152, .bf16⟩
  | .hbm, ⟨46, _⟩ => ⟨S2x2x2x3x2097152, .bf16⟩
  | .hbm, ⟨47, _⟩ => ⟨S24x1024x2048, .bf16⟩
  | _, _ => ⟨S32x1024x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩

abbrev nD : Nat := 1
abbrev τ : Topo := Topo.v7x

variable {F : FTy → Type} [FloatOps F]
-- ==== Join.lean ====
abbrev S1024x1792 : Shape := ⟨2, ![1024, 1792]⟩
abbrev S256x2048 : Shape := ⟨2, ![256, 2048]⟩
abbrev S1024x2048 : Shape := ⟨2, ![1024, 2048]⟩
abbrev S2048x1792 : Shape := ⟨2, ![2048, 1792]⟩
abbrev S512x2048 : Shape := ⟨2, ![512, 2048]⟩
abbrev S2048x2048 : Shape := ⟨2, ![2048, 2048]⟩
abbrev S4 : Shape := ⟨1, ![4]⟩
abbrev S1 : Shape := ⟨1, ![1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S256x2048, .f32⟩
  | .hbm, ⟨2, _⟩ => ⟨S1024x2048, .f32⟩
  | .hbm, ⟨3, _⟩ => ⟨S1024x2048, .f32⟩
  | .hbm, ⟨4, _⟩ => ⟨S2048x1792, .f32⟩
  | .hbm, ⟨5, _⟩ => ⟨S512x2048, .f32⟩
  | .hbm, ⟨6, _⟩ => ⟨S2048x2048, .f32⟩
  | .hbm, ⟨7, _⟩ => ⟨S2048x2048, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v9 : BitVec 32 := Scalar.muli v8 c1024_i32
  let c0_i32_3 : BitVec 32 := 0#32
  ![v9.toNat, 0]
def k0_dev1 (d0 : Dev nD) : Nat :=
  let c0_i32_8 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_7 : BitVec 32 := 4#32
  let v14 : BitVec 32 := Scalar.muli v2 c4_i32_7
  let v15 : BitVec 32 := Scalar.addi c0_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_9 : BitVec 32 := 2#32
  let v16 : BitVec 32 := Scalar.muli v5 c2_i32_9
  let v17 : BitVec 32 := Scalar.addi v15 v16
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_4 v8
  let c1_i32_10 : BitVec 32 := 1#32
  let v18 : BitVec 32 := Scalar.muli v13 c1_i32_10
  let v19 : BitVec 32 := Scalar.addi v17 v18
  v19.toNat
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v25 : BitVec 32 := Scalar.muli v8 c256_i32
  let c0_i32_13 : BitVec 32 := 0#32
  ![v25.toNat, 0]
def k0_dev2 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v30 : BitVec 32 := Scalar.muli v2 c4_i32_17
  let v31 : BitVec 32 := Scalar.addi c0_i32_18 v30
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v32 : BitVec 32 := Scalar.muli v5 c2_i32_19
  let v33 : BitVec 32 := Scalar.addi v31 v32
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v29 : BitVec 32 := Scalar.subi c1_i32_14 v8
  let c1_i32_20 : BitVec 32 := 1#32
  let v34 : BitVec 32 := Scalar.muli v29 c1_i32_20
  let v35 : BitVec 32 := Scalar.addi v33 v34
  v35.toNat
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_22 : BitVec 32 := 1024#32
  let v41 : BitVec 32 := Scalar.muli v8 c1024_i32_22
  let c0_i32_24 : BitVec 32 := 0#32
  ![v41.toNat, 0]
def k0_dev3 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v46 : BitVec 32 := Scalar.muli v2 c4_i32_28
  let v47 : BitVec 32 := Scalar.addi c0_i32_29 v46
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v48 : BitVec 32 := Scalar.muli v5 c2_i32_30
  let v49 : BitVec 32 := Scalar.addi v47 v48
  let c1_i32_25 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.subi c1_i32_25 v8
  let c1_i32_31 : BitVec 32 := 1#32
  let v50 : BitVec 32 := Scalar.muli v45 c1_i32_31
  let v51 : BitVec 32 := Scalar.addi v49 v50
  v51.toNat
def k0_dev4 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v62 : BitVec 32 := Scalar.muli v2 c4_i32_38
  let v63 : BitVec 32 := Scalar.addi c0_i32_39 v62
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v64 : BitVec 32 := Scalar.muli v5 c2_i32_40
  let v65 : BitVec 32 := Scalar.addi v63 v64
  let c1_i32_35 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v61 : BitVec 32 := Scalar.subi c1_i32_35 v8
  let c1_i32_41 : BitVec 32 := 1#32
  let v66 : BitVec 32 := Scalar.muli v61 c1_i32_41
  let v67 : BitVec 32 := Scalar.addi v65 v66
  v67.toNat
def k0_off4 (d0 : Dev nD) : Fin 2 → Nat :=
  let c1_i32_43 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v73 : BitVec 32 := Scalar.subi c1_i32_43 v8
  let c1024_i32_44 : BitVec 32 := 1024#32
  let v74 : BitVec 32 := Scalar.muli v73 c1024_i32_44
  let c0_i32_51 : BitVec 32 := 0#32
  ![v74.toNat, 0]
def k0_off5 (d0 : Dev nD) : Fin 2 → Nat :=
  let c1_i32_53 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_53 v8
  let c256_i32_54 : BitVec 32 := 256#32
  let v86 : BitVec 32 := Scalar.muli v85 c256_i32_54
  let c0_i32_61 : BitVec 32 := 0#32
  ![v86.toNat, 0]
def k0_off6 (d0 : Dev nD) : Fin 2 → Nat :=
  let c1_i32_63 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v97 : BitVec 32 := Scalar.subi c1_i32_63 v8
  let c1024_i32_64 : BitVec 32 := 1024#32
  let v98 : BitVec 32 := Scalar.muli v97 c1024_i32_64
  let c0_i32_71 : BitVec 32 := 0#32
  ![v98.toNat, 0]
-- ==== JoinRef.lean ====
abbrev S8192x1792 : Shape := ⟨2, ![8192, 1792]⟩
abbrev S2048x2048 : Shape := ⟨2, ![2048, 2048]⟩
abbrev S8192x2048 : Shape := ⟨2, ![8192, 2048]⟩
abbrev S4x1x2048x1792 : Shape := ⟨4, ![4, 1, 2048, 1792]⟩
abbrev S4x2x2048x1792 : Shape := ⟨4, ![4, 2, 2048, 1792]⟩
abbrev S16384x1792 : Shape := ⟨2, ![16384, 1792]⟩
abbrev S4x1x512x2048 : Shape := ⟨4, ![4, 1, 512, 2048]⟩
abbrev S4x2x512x2048 : Shape := ⟨4, ![4, 2, 512, 2048]⟩
abbrev S4096x2048 : Shape := ⟨2, ![4096, 2048]⟩
abbrev S4x1x2048x2048 : Shape := ⟨4, ![4, 1, 2048, 2048]⟩
abbrev S4x2x2048x2048 : Shape := ⟨4, ![4, 2, 2048, 2048]⟩
abbrev S16384x2048 : Shape := ⟨2, ![16384, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S4x1x2048x1792, .f32⟩
  | .hbm, ⟨5, _⟩ => ⟨S4x2x2048x1792, .f32⟩
  | .hbm, ⟨6, _⟩ => ⟨S16384x1792, .f32⟩
  | .hbm, ⟨7, _⟩ => ⟨S4x1x512x2048, .f32⟩
  | .hbm, ⟨8, _⟩ => ⟨S4x2x512x2048, .f32⟩
  | .hbm, ⟨9, _⟩ => ⟨S4096x2048, .f32⟩
  | .hbm, ⟨10, _⟩ => ⟨S4x1x2048x2048, .f32⟩
  | .hbm, ⟨11, _⟩ => ⟨S4x2x2048x2048, .f32⟩
  | .hbm, ⟨12, _⟩ => ⟨S16384x2048, .f32⟩
  | .hbm, ⟨13, _⟩ => ⟨S4x1x2048x2048, .f32⟩
  | .hbm, ⟨14, _⟩ => ⟨S4x2x2048x2048, .f32⟩
  | .hbm, ⟨15, _⟩ => ⟨S16384x2048, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Gather.lean ====
abbrev S2048x1792 : Shape := ⟨2, ![2048, 1792]⟩
abbrev S512x2048 : Shape := ⟨2, ![512, 2048]⟩
abbrev S2048x2048 : Shape := ⟨2, ![2048, 2048]⟩
abbrev S4x2048x1792 : Shape := ⟨3, ![4, 2048, 1792]⟩
abbrev S4x512x2048 : Shape := ⟨3, ![4, 512, 2048]⟩
abbrev S4x2048x2048 : Shape := ⟨3, ![4, 2048, 2048]⟩
abbrev S24 : Shape := ⟨1, ![24]⟩
abbrev S4 : Shape := ⟨1, ![4]⟩
abbrev S1 : Shape := ⟨1, ![1]⟩
abbrev S_ : Shape := ⟨0, ![]⟩
abbrev S1x2048x1792 : Shape := ⟨3, ![1, 2048, 1792]⟩
abbrev S1x1024x1792 : Shape := ⟨3, ![1, 1024, 1792]⟩
abbrev S1024x1792 : Shape := ⟨2, ![1024, 1792]⟩
abbrev S1x512x2048 : Shape := ⟨3, ![1, 512, 2048]⟩
abbrev S1x256x2048 : Shape := ⟨3, ![1, 256, 2048]⟩
abbrev S256x2048 : Shape := ⟨2, ![256, 2048]⟩
abbrev S1x2048x2048 : Shape := ⟨3, ![1, 2048, 2048]⟩
abbrev S1x1024x2048 : Shape := ⟨3, ![1, 1024, 2048]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1792, .bf16⟩
  | .hbm, ⟨1, _⟩ => ⟨S512x2048, .bf16⟩
  | .hbm, ⟨2, _⟩ => ⟨S2048x2048, .bf16⟩
  | .hbm, ⟨3, _⟩ => ⟨S2048x2048, .bf16⟩
  | .hbm, ⟨4, _⟩ => ⟨S4x2048x1792, .bf16⟩
  | .hbm, ⟨5, _⟩ => ⟨S4x512x2048, .bf16⟩
  | .hbm, ⟨6, _⟩ => ⟨S4x2048x2048, .bf16⟩
  | .hbm, ⟨7, _⟩ => ⟨S4x2048x2048, .bf16⟩
  | _, _ => ⟨S2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_8 : BitVec 32 := 0#32
  let c0_i32_9 : BitVec 32 := 0#32
  ![v14.toNat, 0, 0]
def k0_off2 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_10 : BitVec 32 := 1024#32
  let v20 : BitVec 32 := Scalar.muli v8 c1024_i32_10
  let c0_i32_17 : BitVec 32 := 0#32
  ![v14.toNat, v20.toNat, 0]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v19 : BitVec 32 := Scalar.muli v8 c1024_i32
  let c0_i32_18 : BitVec 32 := 0#32
  ![v19.toNat, 0]
def k0_dev1 (d0 : Dev nD) : Nat :=
  let c0_i32_14 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_13 : BitVec 32 := 4#32
  let v21 : BitVec 32 := Scalar.muli v9 c4_i32_13
  let v22 : BitVec 32 := Scalar.addi c0_i32_14 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v23 : BitVec 32 := Scalar.muli v5 c2_i32_15
  let v24 : BitVec 32 := Scalar.addi v22 v23
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v25 : BitVec 32 := Scalar.muli v8 c1_i32_16
  let v26 : BitVec 32 := Scalar.addi v24 v25
  v26.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v36 : BitVec 32 := Scalar.muli v2 c4_i32_23
  let v37 : BitVec 32 := Scalar.addi c0_i32_24 v36
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v38 : BitVec 32 := Scalar.muli v10 c2_i32_25
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v40 : BitVec 32 := Scalar.muli v8 c1_i32_26
  let v41 : BitVec 32 := Scalar.addi v39 v40
  v41.toNat
def k0_dev3 (d0 : Dev nD) : Nat :=
  let c0_i32_34 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_33 : BitVec 32 := 4#32
  let v51 : BitVec 32 := Scalar.muli v11 c4_i32_33
  let v52 : BitVec 32 := Scalar.addi c0_i32_34 v51
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_35 : BitVec 32 := 2#32
  let v53 : BitVec 32 := Scalar.muli v12 c2_i32_35
  let v54 : BitVec 32 := Scalar.addi v52 v53
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v55 : BitVec 32 := Scalar.muli v8 c1_i32_36
  let v56 : BitVec 32 := Scalar.addi v54 v55
  v56.toNat
def k0_off4 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_40 : BitVec 32 := 0#32
  let c0_i32_41 : BitVec 32 := 0#32
  ![v14.toNat, 0, 0]
def k0_off5 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_42 : BitVec 32 := 256#32
  let v69 : BitVec 32 := Scalar.muli v8 c256_i32_42
  let c0_i32_48 : BitVec 32 := 0#32
  ![v14.toNat, v69.toNat, 0]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v68 : BitVec 32 := Scalar.muli v8 c256_i32
  let c0_i32_49 : BitVec 32 := 0#32
  ![v68.toNat, 0]
def k0_dev4 (d0 : Dev nD) : Nat :=
  let c0_i32_45 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_44 : BitVec 32 := 4#32
  let v70 : BitVec 32 := Scalar.muli v9 c4_i32_44
  let v71 : BitVec 32 := Scalar.addi c0_i32_45 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v72 : BitVec 32 := Scalar.muli v5 c2_i32_46
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v74 : BitVec 32 := Scalar.muli v8 c1_i32_47
  let v75 : BitVec 32 := Scalar.addi v73 v74
  v75.toNat
def k0_dev5 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v85 : BitVec 32 := Scalar.muli v2 c4_i32_53
  let v86 : BitVec 32 := Scalar.addi c0_i32_54 v85
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_55 : BitVec 32 := 2#32
  let v87 : BitVec 32 := Scalar.muli v10 c2_i32_55
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_56 : BitVec 32 := 1#32
  let v89 : BitVec 32 := Scalar.muli v8 c1_i32_56
  let v90 : BitVec 32 := Scalar.addi v88 v89
  v90.toNat
def k0_dev6 (d0 : Dev nD) : Nat :=
  let c0_i32_63 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_62 : BitVec 32 := 4#32
  let v100 : BitVec 32 := Scalar.muli v11 c4_i32_62
  let v101 : BitVec 32 := Scalar.addi c0_i32_63 v100
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_64 : BitVec 32 := 2#32
  let v102 : BitVec 32 := Scalar.muli v12 c2_i32_64
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_65 : BitVec 32 := 1#32
  let v104 : BitVec 32 := Scalar.muli v8 c1_i32_65
  let v105 : BitVec 32 := Scalar.addi v103 v104
  v105.toNat
def k0_off7 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32_69 : BitVec 32 := 0#32
  let c0_i32_70 : BitVec 32 := 0#32
  ![v14.toNat, 0, 0]
def k0_off8 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_72 : BitVec 32 := 1024#32
  let v118 : BitVec 32 := Scalar.muli v8 c1024_i32_72
  let c0_i32_78 : BitVec 32 := 0#32
  ![v14.toNat, v118.toNat, 0]
def k0_off9 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_71 : BitVec 32 := 1024#32
  let v117 : BitVec 32 := Scalar.muli v8 c1024_i32_71
  let c0_i32_79 : BitVec 32 := 0#32
  ![v117.toNat, 0]
def k0_dev7 (d0 : Dev nD) : Nat :=
  let c0_i32_75 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_74 : BitVec 32 := 4#32
  let v119 : BitVec 32 := Scalar.muli v9 c4_i32_74
  let v120 : BitVec 32 := Scalar.addi c0_i32_75 v119
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v121 : BitVec 32 := Scalar.muli v5 c2_i32_76
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_77 : BitVec 32 := 1#32
  let v123 : BitVec 32 := Scalar.muli v8 c1_i32_77
  let v124 : BitVec 32 := Scalar.addi v122 v123
  v124.toNat
def k0_dev8 (d0 : Dev nD) : Nat :=
  let c0_i32_84 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_83 : BitVec 32 := 4#32
  let v134 : BitVec 32 := Scalar.muli v2 c4_i32_83
  let v135 : BitVec 32 := Scalar.addi c0_i32_84 v134
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_85 : BitVec 32 := 2#32
  let v136 : BitVec 32 := Scalar.muli v10 c2_i32_85
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_86 : BitVec 32 := 1#32
  let v138 : BitVec 32 := Scalar.muli v8 c1_i32_86
  let v139 : BitVec 32 := Scalar.addi v137 v138
  v139.toNat
def k0_dev9 (d0 : Dev nD) : Nat :=
  let c0_i32_93 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_92 : BitVec 32 := 4#32
  let v149 : BitVec 32 := Scalar.muli v11 c4_i32_92
  let v150 : BitVec 32 := Scalar.addi c0_i32_93 v149
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_94 : BitVec 32 := 2#32
  let v151 : BitVec 32 := Scalar.muli v12 c2_i32_94
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_95 : BitVec 32 := 1#32
  let v153 : BitVec 32 := Scalar.muli v8 c1_i32_95
  let v154 : BitVec 32 := Scalar.addi v152 v153
  v154.toNat
def k0_dev10 (d0 : Dev nD) : Nat :=
  let c0_i32_104 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_103 : BitVec 32 := 4#32
  let v168 : BitVec 32 := Scalar.muli v9 c4_i32_103
  let v169 : BitVec 32 := Scalar.addi c0_i32_104 v168
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_105 : BitVec 32 := 2#32
  let v170 : BitVec 32 := Scalar.muli v5 c2_i32_105
  let v171 : BitVec 32 := Scalar.addi v169 v170
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_106 : BitVec 32 := 1#32
  let v172 : BitVec 32 := Scalar.muli v8 c1_i32_106
  let v173 : BitVec 32 := Scalar.addi v171 v172
  v173.toNat
def k0_dev11 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_112 : BitVec 32 := 4#32
  let v183 : BitVec 32 := Scalar.muli v2 c4_i32_112
  let v184 : BitVec 32 := Scalar.addi c0_i32_113 v183
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_114 : BitVec 32 := 2#32
  let v185 : BitVec 32 := Scalar.muli v10 c2_i32_114
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v187 : BitVec 32 := Scalar.muli v8 c1_i32_115
  let v188 : BitVec 32 := Scalar.addi v186 v187
  v188.toNat
def k0_dev12 (d0 : Dev nD) : Nat :=
  let c0_i32_122 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_121 : BitVec 32 := 4#32
  let v198 : BitVec 32 := Scalar.muli v11 c4_i32_121
  let v199 : BitVec 32 := Scalar.addi c0_i32_122 v198
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_123 : BitVec 32 := 2#32
  let v200 : BitVec 32 := Scalar.muli v12 c2_i32_123
  let v201 : BitVec 32 := Scalar.addi v199 v200
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_124 : BitVec 32 := 1#32
  let v202 : BitVec 32 := Scalar.muli v8 c1_i32_124
  let v203 : BitVec 32 := Scalar.addi v201 v202
  v203.toNat
def k0_off10 (d0 : Dev nD) : Fin 3 → Nat :=
  let c2_i32_127 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v211 : BitVec 32 := Scalar.muli c2_i32_127 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v212 : BitVec 32 := Scalar.addi v211 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_128 : BitVec 32 := 1024#32
  let v213 : BitVec 32 := Scalar.muli v8 c1024_i32_128
  let c0_i32_135 : BitVec 32 := 0#32
  ![v212.toNat, v213.toNat, 0]
def k0_dev13 (d0 : Dev nD) : Nat :=
  let c0_i32_141 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_140 : BitVec 32 := 4#32
  let v227 : BitVec 32 := Scalar.muli v2 c4_i32_140
  let v228 : BitVec 32 := Scalar.addi c0_i32_141 v227
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_142 : BitVec 32 := 2#32
  let v229 : BitVec 32 := Scalar.muli v5 c2_i32_142
  let v230 : BitVec 32 := Scalar.addi v228 v229
  let c1_i32_137 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v226 : BitVec 32 := Scalar.subi c1_i32_137 v8
  let c1_i32_143 : BitVec 32 := 1#32
  let v231 : BitVec 32 := Scalar.muli v226 c1_i32_143
  let v232 : BitVec 32 := Scalar.addi v230 v231
  v232.toNat
def k0_off11 (d0 : Dev nD) : Fin 3 → Nat :=
  let c2_i32_146 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v241 : BitVec 32 := Scalar.muli c2_i32_146 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v242 : BitVec 32 := Scalar.addi v241 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_147 : BitVec 32 := 1024#32
  let v243 : BitVec 32 := Scalar.muli v8 c1024_i32_147
  let c0_i32_154 : BitVec 32 := 0#32
  ![v242.toNat, v243.toNat, 0]
def k0_dev14 (d0 : Dev nD) : Nat :=
  let c0_i32_160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_159 : BitVec 32 := 4#32
  let v257 : BitVec 32 := Scalar.muli v2 c4_i32_159
  let v258 : BitVec 32 := Scalar.addi c0_i32_160 v257
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v259 : BitVec 32 := Scalar.muli v5 c2_i32_161
  let v260 : BitVec 32 := Scalar.addi v258 v259
  let c1_i32_156 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v256 : BitVec 32 := Scalar.subi c1_i32_156 v8
  let c1_i32_162 : BitVec 32 := 1#32
  let v261 : BitVec 32 := Scalar.muli v256 c1_i32_162
  let v262 : BitVec 32 := Scalar.addi v260 v261
  v262.toNat
def k0_off12 (d0 : Dev nD) : Fin 3 → Nat :=
  let c2_i32_165 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v271 : BitVec 32 := Scalar.muli c2_i32_165 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v272 : BitVec 32 := Scalar.addi v271 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_166 : BitVec 32 := 1024#32
  let v273 : BitVec 32 := Scalar.muli v8 c1024_i32_166
  let c0_i32_173 : BitVec 32 := 0#32
  ![v272.toNat, v273.toNat, 0]
def k0_dev15 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v287 : BitVec 32 := Scalar.muli v2 c4_i32_177
  let v288 : BitVec 32 := Scalar.addi c0_i32_178 v287
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v289 : BitVec 32 := Scalar.muli v5 c2_i32_179
  let v290 : BitVec 32 := Scalar.addi v288 v289
  let c1_i32_175 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v286 : BitVec 32 := Scalar.subi c1_i32_175 v8
  let c1_i32_180 : BitVec 32 := 1#32
  let v291 : BitVec 32 := Scalar.muli v286 c1_i32_180
  let v292 : BitVec 32 := Scalar.addi v290 v291
  v292.toNat
def k0_off13 (d0 : Dev nD) : Fin 3 → Nat :=
  let c2_i32_183 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v301 : BitVec 32 := Scalar.muli c2_i32_183 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v302 : BitVec 32 := Scalar.addi v301 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_184 : BitVec 32 := 256#32
  let v303 : BitVec 32 := Scalar.muli v8 c256_i32_184
  let c0_i32_191 : BitVec 32 := 0#32
  ![v302.toNat, v303.toNat, 0]
def k0_dev16 (d0 : Dev nD) : Nat :=
  let c0_i32_196 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_195 : BitVec 32 := 4#32
  let v317 : BitVec 32 := Scalar.muli v2 c4_i32_195
  let v318 : BitVec 32 := Scalar.addi c0_i32_196 v317
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_197 : BitVec 32 := 2#32
  let v319 : BitVec 32 := Scalar.muli v5 c2_i32_197
  let v320 : BitVec 32 := Scalar.addi v318 v319
  let c1_i32_193 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v316 : BitVec 32 := Scalar.subi c1_i32_193 v8
  let c1_i32_198 : BitVec 32 := 1#32
  let v321 : BitVec 32 := Scalar.muli v316 c1_i32_198
  let v322 : BitVec 32 := Scalar.addi v320 v321
  v322.toNat
def k0_off14 (d0 : Dev nD) : Fin 3 → Nat :=
  let c2_i32_201 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v331 : BitVec 32 := Scalar.muli c2_i32_201 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v332 : BitVec 32 := Scalar.addi v331 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_202 : BitVec 32 := 256#32
  let v333 : BitVec 32 := Scalar.muli v8 c256_i32_202
  let c0_i32_209 : BitVec 32 := 0#32
  ![v332.toNat, v333.toNat, 0]
def k0_dev17 (d0 : Dev nD) : Nat :=
  let c0_i32_214 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_213 : BitVec 32 := 4#32
  let v347 : BitVec 32 := Scalar.muli v2 c4_i32_213
  let v348 : BitVec 32 := Scalar.addi c0_i32_214 v347
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_215 : BitVec 32 := 2#32
  let v349 : BitVec 32 := Scalar.muli v5 c2_i32_215
  let v350 : BitVec 32 := Scalar.addi v348 v349
  let c1_i32_211 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v346 : BitVec 32 := Scalar.subi c1_i32_211 v8
  let c1_i32_216 : BitVec 32 := 1#32
  let v351 : BitVec 32 := Scalar.muli v346 c1_i32_216
  let v352 : BitVec 32 := Scalar.addi v350 v351
  v352.toNat
def k0_off15 (d0 : Dev nD) : Fin 3 → Nat :=
  let c2_i32_219 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v361 : BitVec 32 := Scalar.muli c2_i32_219 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v362 : BitVec 32 := Scalar.addi v361 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_220 : BitVec 32 := 256#32
  let v363 : BitVec 32 := Scalar.muli v8 c256_i32_220
  let c0_i32_227 : BitVec 32 := 0#32
  ![v362.toNat, v363.toNat, 0]
def k0_dev18 (d0 : Dev nD) : Nat :=
  let c0_i32_232 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_231 : BitVec 32 := 4#32
  let v377 : BitVec 32 := Scalar.muli v2 c4_i32_231
  let v378 : BitVec 32 := Scalar.addi c0_i32_232 v377
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_233 : BitVec 32 := 2#32
  let v379 : BitVec 32 := Scalar.muli v5 c2_i32_233
  let v380 : BitVec 32 := Scalar.addi v378 v379
  let c1_i32_229 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v376 : BitVec 32 := Scalar.subi c1_i32_229 v8
  let c1_i32_234 : BitVec 32 := 1#32
  let v381 : BitVec 32 := Scalar.muli v376 c1_i32_234
  let v382 : BitVec 32 := Scalar.addi v380 v381
  v382.toNat
def k0_off16 (d0 : Dev nD) : Fin 3 → Nat :=
  let c2_i32_237 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v391 : BitVec 32 := Scalar.muli c2_i32_237 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v392 : BitVec 32 := Scalar.addi v391 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_238 : BitVec 32 := 1024#32
  let v393 : BitVec 32 := Scalar.muli v8 c1024_i32_238
  let c0_i32_245 : BitVec 32 := 0#32
  ![v392.toNat, v393.toNat, 0]
def k0_dev19 (d0 : Dev nD) : Nat :=
  let c0_i32_250 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_249 : BitVec 32 := 4#32
  let v407 : BitVec 32 := Scalar.muli v2 c4_i32_249
  let v408 : BitVec 32 := Scalar.addi c0_i32_250 v407
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_251 : BitVec 32 := 2#32
  let v409 : BitVec 32 := Scalar.muli v5 c2_i32_251
  let v410 : BitVec 32 := Scalar.addi v408 v409
  let c1_i32_247 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v406 : BitVec 32 := Scalar.subi c1_i32_247 v8
  let c1_i32_252 : BitVec 32 := 1#32
  let v411 : BitVec 32 := Scalar.muli v406 c1_i32_252
  let v412 : BitVec 32 := Scalar.addi v410 v411
  v412.toNat
def k0_off17 (d0 : Dev nD) : Fin 3 → Nat :=
  let c2_i32_255 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v421 : BitVec 32 := Scalar.muli c2_i32_255 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v422 : BitVec 32 := Scalar.addi v421 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_256 : BitVec 32 := 1024#32
  let v423 : BitVec 32 := Scalar.muli v8 c1024_i32_256
  let c0_i32_263 : BitVec 32 := 0#32
  ![v422.toNat, v423.toNat, 0]
def k0_dev20 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_267 : BitVec 32 := 4#32
  let v437 : BitVec 32 := Scalar.muli v2 c4_i32_267
  let v438 : BitVec 32 := Scalar.addi c0_i32_268 v437
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_269 : BitVec 32 := 2#32
  let v439 : BitVec 32 := Scalar.muli v5 c2_i32_269
  let v440 : BitVec 32 := Scalar.addi v438 v439
  let c1_i32_265 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v436 : BitVec 32 := Scalar.subi c1_i32_265 v8
  let c1_i32_270 : BitVec 32 := 1#32
  let v441 : BitVec 32 := Scalar.muli v436 c1_i32_270
  let v442 : BitVec 32 := Scalar.addi v440 v441
  v442.toNat
def k0_off18 (d0 : Dev nD) : Fin 3 → Nat :=
  let c2_i32_273 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v451 : BitVec 32 := Scalar.muli c2_i32_273 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v452 : BitVec 32 := Scalar.addi v451 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_274 : BitVec 32 := 1024#32
  let v453 : BitVec 32 := Scalar.muli v8 c1024_i32_274
  let c0_i32_281 : BitVec 32 := 0#32
  ![v452.toNat, v453.toNat, 0]
def k0_dev21 (d0 : Dev nD) : Nat :=
  let c0_i32_286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_285 : BitVec 32 := 4#32
  let v467 : BitVec 32 := Scalar.muli v2 c4_i32_285
  let v468 : BitVec 32 := Scalar.addi c0_i32_286 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_287 : BitVec 32 := 2#32
  let v469 : BitVec 32 := Scalar.muli v5 c2_i32_287
  let v470 : BitVec 32 := Scalar.addi v468 v469
  let c1_i32_283 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v466 : BitVec 32 := Scalar.subi c1_i32_283 v8
  let c1_i32_288 : BitVec 32 := 1#32
  let v471 : BitVec 32 := Scalar.muli v466 c1_i32_288
  let v472 : BitVec 32 := Scalar.addi v470 v471
  v472.toNat
def k0_dev22 (d0 : Dev nD) : Nat :=
  let c0_i32_304 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_303 : BitVec 32 := 4#32
  let v497 : BitVec 32 := Scalar.muli v2 c4_i32_303
  let v498 : BitVec 32 := Scalar.addi c0_i32_304 v497
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_305 : BitVec 32 := 2#32
  let v499 : BitVec 32 := Scalar.muli v5 c2_i32_305
  let v500 : BitVec 32 := Scalar.addi v498 v499
  let c1_i32_301 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v496 : BitVec 32 := Scalar.subi c1_i32_301 v8
  let c1_i32_306 : BitVec 32 := 1#32
  let v501 : BitVec 32 := Scalar.muli v496 c1_i32_306
  let v502 : BitVec 32 := Scalar.addi v500 v501
  v502.toNat
def k0_dev23 (d0 : Dev nD) : Nat :=
  let c0_i32_322 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_321 : BitVec 32 := 4#32
  let v527 : BitVec 32 := Scalar.muli v2 c4_i32_321
  let v528 : BitVec 32 := Scalar.addi c0_i32_322 v527
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_323 : BitVec 32 := 2#32
  let v529 : BitVec 32 := Scalar.muli v5 c2_i32_323
  let v530 : BitVec 32 := Scalar.addi v528 v529
  let c1_i32_319 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v526 : BitVec 32 := Scalar.subi c1_i32_319 v8
  let c1_i32_324 : BitVec 32 := 1#32
  let v531 : BitVec 32 := Scalar.muli v526 c1_i32_324
  let v532 : BitVec 32 := Scalar.addi v530 v531
  v532.toNat
def k0_dev24 (d0 : Dev nD) : Nat :=
  let c0_i32_340 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_339 : BitVec 32 := 4#32
  let v557 : BitVec 32 := Scalar.muli v2 c4_i32_339
  let v558 : BitVec 32 := Scalar.addi c0_i32_340 v557
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_341 : BitVec 32 := 2#32
  let v559 : BitVec 32 := Scalar.muli v5 c2_i32_341
  let v560 : BitVec 32 := Scalar.addi v558 v559
  let c1_i32_337 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v556 : BitVec 32 := Scalar.subi c1_i32_337 v8
  let c1_i32_342 : BitVec 32 := 1#32
  let v561 : BitVec 32 := Scalar.muli v556 c1_i32_342
  let v562 : BitVec 32 := Scalar.addi v560 v561
  v562.toNat
def k0_off19 (d0 : Dev nD) : Fin 3 → Nat :=
  let c2_i32_345 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v571 : BitVec 32 := Scalar.muli c2_i32_345 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v572 : BitVec 32 := Scalar.addi v571 v5
  let c1_i32_346 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v573 : BitVec 32 := Scalar.subi c1_i32_346 v8
  let c1024_i32_347 : BitVec 32 := 1024#32
  let v574 : BitVec 32 := Scalar.muli v573 c1024_i32_347
  let c0_i32_354 : BitVec 32 := 0#32
  ![v572.toNat, v574.toNat, 0]
def k0_off20 (d0 : Dev nD) : Fin 3 → Nat :=
  let c2_i32_356 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v587 : BitVec 32 := Scalar.muli c2_i32_356 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v588 : BitVec 32 := Scalar.addi v587 v10
  let c1_i32_357 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v589 : BitVec 32 := Scalar.subi c1_i32_357 v8
  let c1024_i32_358 : BitVec 32 := 1024#32
  let v590 : BitVec 32 := Scalar.muli v589 c1024_i32_358
  let c0_i32_365 : BitVec 32 := 0#32
  ![v588.toNat, v590.toNat, 0]
def k0_off21 (d0 : Dev nD) : Fin 3 → Nat :=
  let c2_i32_367 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v603 : BitVec 32 := Scalar.muli c2_i32_367 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v604 : BitVec 32 := Scalar.addi v603 v12
  let c1_i32_368 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v605 : BitVec 32 := Scalar.subi c1_i32_368 v8
  let c1024_i32_369 : BitVec 32 := 1024#32
  let v606 : BitVec 32 := Scalar.muli v605 c1024_i32_369
  let c0_i32_376 : BitVec 32 := 0#32
  ![v604.toNat, v606.toNat, 0]
def k0_off22 (d0 : Dev nD) : Fin 3 → Nat :=
  let c2_i32_378 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v619 : BitVec 32 := Scalar.muli c2_i32_378 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v620 : BitVec 32 := Scalar.addi v619 v5
  let c1_i32_379 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v621 : BitVec 32 := Scalar.subi c1_i32_379 v8
  let c256_i32_380 : BitVec 32 := 256#32
  let v622 : BitVec 32 := Scalar.muli v621 c256_i32_380
  let c0_i32_387 : BitVec 32 := 0#32
  ![v620.toNat, v622.toNat, 0]
def k0_off23 (d0 : Dev nD) : Fin 3 → Nat :=
  let c2_i32_389 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v635 : BitVec 32 := Scalar.muli c2_i32_389 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v636 : BitVec 32 := Scalar.addi v635 v10
  let c1_i32_390 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v637 : BitVec 32 := Scalar.subi c1_i32_390 v8
  let c256_i32_391 : BitVec 32 := 256#32
  let v638 : BitVec 32 := Scalar.muli v637 c256_i32_391
  let c0_i32_398 : BitVec 32 := 0#32
  ![v636.toNat, v638.toNat, 0]
def k0_off24 (d0 : Dev nD) : Fin 3 → Nat :=
  let c2_i32_400 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v651 : BitVec 32 := Scalar.muli c2_i32_400 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v652 : BitVec 32 := Scalar.addi v651 v12
  let c1_i32_401 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v653 : BitVec 32 := Scalar.subi c1_i32_401 v8
  let c256_i32_402 : BitVec 32 := 256#32
  let v654 : BitVec 32 := Scalar.muli v653 c256_i32_402
  let c0_i32_409 : BitVec 32 := 0#32
  ![v652.toNat, v654.toNat, 0]
def k0_off25 (d0 : Dev nD) : Fin 3 → Nat :=
  let c2_i32_411 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v667 : BitVec 32 := Scalar.muli c2_i32_411 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v668 : BitVec 32 := Scalar.addi v667 v5
  let c1_i32_412 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v669 : BitVec 32 := Scalar.subi c1_i32_412 v8
  let c1024_i32_413 : BitVec 32 := 1024#32
  let v670 : BitVec 32 := Scalar.muli v669 c1024_i32_413
  let c0_i32_420 : BitVec 32 := 0#32
  ![v668.toNat, v670.toNat, 0]
def k0_off26 (d0 : Dev nD) : Fin 3 → Nat :=
  let c2_i32_422 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v683 : BitVec 32 := Scalar.muli c2_i32_422 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v684 : BitVec 32 := Scalar.addi v683 v10
  let c1_i32_423 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v685 : BitVec 32 := Scalar.subi c1_i32_423 v8
  let c1024_i32_424 : BitVec 32 := 1024#32
  let v686 : BitVec 32 := Scalar.muli v685 c1024_i32_424
  let c0_i32_431 : BitVec 32 := 0#32
  ![v684.toNat, v686.toNat, 0]
def k0_off27 (d0 : Dev nD) : Fin 3 → Nat :=
  let c2_i32_433 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v699 : BitVec 32 := Scalar.muli c2_i32_433 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v700 : BitVec 32 := Scalar.addi v699 v12
  let c1_i32_434 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v701 : BitVec 32 := Scalar.subi c1_i32_434 v8
  let c1024_i32_435 : BitVec 32 := 1024#32
  let v702 : BitVec 32 := Scalar.muli v701 c1024_i32_435
  let c0_i32_442 : BitVec 32 := 0#32
  ![v700.toNat, v702.toNat, 0]
-- ==== GatherRef.lean ====
abbrev S2048x7168 : Shape := ⟨2, ![2048, 7168]⟩
abbrev S2048x2048 : Shape := ⟨2, ![2048, 2048]⟩
abbrev S2048x8192 : Shape := ⟨2, ![2048, 8192]⟩
abbrev S8192x2048 : Shape := ⟨2, ![8192, 2048]⟩
abbrev S2048x4x1792 : Shape := ⟨3, ![2048, 4, 1792]⟩
abbrev S4x2048x1792 : Shape := ⟨3, ![4, 2048, 1792]⟩
abbrev S4x512x2048 : Shape := ⟨3, ![4, 512, 2048]⟩
abbrev S2048x4x2048 : Shape := ⟨3, ![2048, 4, 2048]⟩
abbrev S4x2048x2048 : Shape := ⟨3, ![4, 2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x7168, .bf16⟩
  | .hbm, ⟨1, _⟩ => ⟨S2048x2048, .bf16⟩
  | .hbm, ⟨2, _⟩ => ⟨S2048x8192, .bf16⟩
  | .hbm, ⟨3, _⟩ => ⟨S8192x2048, .bf16⟩
  | .hbm, ⟨4, _⟩ => ⟨S2048x4x1792, .bf16⟩
  | .hbm, ⟨5, _⟩ => ⟨S4x2048x1792, .bf16⟩
  | .hbm, ⟨6, _⟩ => ⟨S4x512x2048, .bf16⟩
  | .hbm, ⟨7, _⟩ => ⟨S2048x4x2048, .bf16⟩
  | .hbm, ⟨8, _⟩ => ⟨S4x2048x2048, .bf16⟩
  | .hbm, ⟨9, _⟩ => ⟨S4x2048x2048, .bf16⟩
  | _, _ => ⟨S2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== UpdateIn.lean ====
abbrev S2048x1792 : Shape := ⟨2, ![2048, 1792]⟩
abbrev S256x1792 : Shape := ⟨2, ![256, 1792]⟩

abbrev nBuf : Space → Nat
  | .hbm => 7
  | .vmem => 14
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateInIdeal.lean ====
abbrev S2048x1792 : Shape := ⟨2, ![2048, 1792]⟩
abbrev S256x1792 : Shape := ⟨2, ![256, 1792]⟩

abbrev nBuf : Space → Nat
  | .hbm => 7
  | .vmem => 14
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateInRefIdeal.lean ====
abbrev S2048x1792 : Shape := ⟨2, ![2048, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S_, .f32⟩
  | .hbm, ⟨5, _⟩ => ⟨S2048x1792, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S_, .f32⟩
  | .hbm, ⟨12, _⟩ => ⟨S2048x1792, .f32⟩
  | .hbm, ⟨13, _⟩ => ⟨S2048x1792, .f32⟩
  | .hbm, ⟨14, _⟩ => ⟨S2048x1792, .f32⟩
  | .hbm, ⟨15, _⟩ => ⟨S_, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S_, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S_, .f32⟩
  | .hbm, ⟨27, _⟩ => ⟨S2048x1792, .f32⟩
  | .hbm, ⟨28, _⟩ => ⟨S2048x1792, .f32⟩
  | .hbm, ⟨29, _⟩ => ⟨S2048x1792, .f32⟩
  | .hbm, ⟨30, _⟩ => ⟨S_, .f32⟩
  | .hbm, ⟨31, _⟩ => ⟨S2048x1792, .f32⟩
  | .hbm, ⟨32, _⟩ => ⟨S2048x1792, .f32⟩
  | .hbm, ⟨33, _⟩ => ⟨S2048x1792, .f32⟩
  | .hbm, ⟨34, _⟩ => ⟨S_, .f32⟩
  | .hbm, ⟨35, _⟩ => ⟨S2048x1792, .f32⟩
  | .hbm, ⟨36, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateOut.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateOutIdeal.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateMlp.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateMlpIdeal.lean ====
abbrev S2048x2048 : Shape := ⟨2, ![2048, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateMlpRefIdeal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateNorm.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateNormIdeal.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateNormRefIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateLb.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateLbIdeal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateLbRefIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateHead.lean ====
abbrev S1x128 : Shape := ⟨2, ![1, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateHeadRefIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumIn.lean ====
abbrev S1024x1792 : Shape := ⟨2, ![1024, 1792]⟩
abbrev S3x1024x1792 : Shape := ⟨3, ![3, 1024, 1792]⟩
abbrev S256x1792 : Shape := ⟨2, ![256, 1792]⟩
abbrev S3x256x1792 : Shape := ⟨3, ![3, 256, 1792]⟩
abbrev S1x256x1792 : Shape := ⟨3, ![1, 256, 1792]⟩

abbrev nBuf : Space → Nat
  | .hbm => 3
  | .vmem => 6
  | .smem => 0
  | _ => 0

abbrev bufTy : (tb : Table) → Fin (tcTables nBuf tb) → BufTy
  | .hbm, ⟨0, _⟩ => ⟨S1024x1792, .f32⟩
  | .hbm, ⟨1, _⟩ => ⟨S3x1024x1792, .bf16⟩
  | .hbm, ⟨2, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S3x256x1792, .bf16⟩
  | .local _ .vmem, ⟨3, _⟩ => ⟨S3x256x1792, .bf16⟩
  | .local _ .vmem, ⟨4, _⟩ => ⟨S256x1792, .f32⟩
  | .local _ .vmem, ⟨5, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInIdeal.lean ====
abbrev S1024x1792 : Shape := ⟨2, ![1024, 1792]⟩
abbrev S3x1024x1792 : Shape := ⟨3, ![3, 1024, 1792]⟩
abbrev S256x1792 : Shape := ⟨2, ![256, 1792]⟩
abbrev S3x256x1792 : Shape := ⟨3, ![3, 256, 1792]⟩
abbrev S1x256x1792 : Shape := ⟨3, ![1, 256, 1792]⟩

abbrev nBuf : Space → Nat
  | .hbm => 3
  | .vmem => 6
  | .smem => 0
  | _ => 0

abbrev bufTy : (tb : Table) → Fin (tcTables nBuf tb) → BufTy
  | .hbm, ⟨0, _⟩ => ⟨S1024x1792, .f32⟩
  | .hbm, ⟨1, _⟩ => ⟨S3x1024x1792, .bf16⟩
  | .hbm, ⟨2, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S3x256x1792, .bf16⟩
  | .local _ .vmem, ⟨3, _⟩ => ⟨S3x256x1792, .bf16⟩
  | .local _ .vmem, ⟨4, _⟩ => ⟨S256x1792, .f32⟩
  | .local _ .vmem, ⟨5, _⟩ => ⟨S256x1792, .f32⟩
  | _, _ => ⟨S1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInRefIdeal.lean ====
abbrev S1024x1792 : Shape := ⟨2, ![1024, 1792]⟩
abbrev S3x1024x1792 : Shape := ⟨3, ![3, 1024, 1792]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1792, .f32⟩
  | .hbm, ⟨1, _⟩ => ⟨S3x1024x1792, .bf16⟩
  | .hbm, ⟨2, _⟩ => ⟨S3x1024x1792, .f32⟩
  | .hbm, ⟨3, _⟩ => ⟨S_, .f32⟩
  | .hbm, ⟨4, _⟩ => ⟨S1024x1792, .f32⟩
  | .hbm, ⟨5, _⟩ => ⟨S1024x1792, .f32⟩
  | _, _ => ⟨S1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumOut.lean ====
abbrev S256x2048 : Shape := ⟨2, ![256, 2048]⟩
abbrev S3x256x2048 : Shape := ⟨3, ![3, 256, 2048]⟩
abbrev S1x256x2048 : Shape := ⟨3, ![1, 256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S256x2048, .f32⟩
  | .local _ .vmem, ⟨0, _⟩ => ⟨S256x2048, .f32⟩
  | .local _ .vmem, ⟨1, _⟩ => ⟨S3x256x2048, .bf16⟩
  | .local _ .vmem, ⟨2, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutIdeal.lean ====
abbrev S256x2048 : Shape := ⟨2, ![256, 2048]⟩
abbrev S3x256x2048 : Shape := ⟨3, ![3, 256, 2048]⟩
abbrev S1x256x2048 : Shape := ⟨3, ![1, 256, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S256x2048, .f32⟩
  | .local _ .vmem, ⟨0, _⟩ => ⟨S256x2048, .f32⟩
  | .local _ .vmem, ⟨1, _⟩ => ⟨S3x256x2048, .bf16⟩
  | .local _ .vmem, ⟨2, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutRefIdeal.lean ====
abbrev S256x2048 : Shape := ⟨2, ![256, 2048]⟩
abbrev S3x256x2048 : Shape := ⟨3, ![3, 256, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S3x256x2048, .bf16⟩
  | .hbm, ⟨2, _⟩ => ⟨S3x256x2048, .f32⟩
  | .hbm, ⟨3, _⟩ => ⟨S_, .f32⟩
  | .hbm, ⟨4, _⟩ => ⟨S256x2048, .f32⟩
  | .hbm, ⟨5, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumMlp.lean ====
abbrev S1024x2048 : Shape := ⟨2, ![1024, 2048]⟩
abbrev S3x1024x2048 : Shape := ⟨3, ![3, 1024, 2048]⟩
abbrev S256x2048 : Shape := ⟨2, ![256, 2048]⟩
abbrev S3x256x2048 : Shape := ⟨3, ![3, 256, 2048]⟩
abbrev S1x256x2048 : Shape := ⟨3, ![1, 256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S3x1024x2048, .bf16⟩
  | .hbm, ⟨2, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S3x256x2048, .bf16⟩
  | .local _ .vmem, ⟨3, _⟩ => ⟨S3x256x2048, .bf16⟩
  | .local _ .vmem, ⟨4, _⟩ => ⟨S256x2048, .f32⟩
  | .local _ .vmem, ⟨5, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumMlpRefIdeal.lean ====
abbrev S1024x2048 : Shape := ⟨2, ![1024, 2048]⟩
abbrev S3x1024x2048 : Shape := ⟨3, ![3, 1024, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S3x1024x2048, .bf16⟩
  | .hbm, ⟨2, _⟩ => ⟨S3x1024x2048, .f32⟩
  | .hbm, ⟨3, _⟩ => ⟨S_, .f32⟩
  | .hbm, ⟨4, _⟩ => ⟨S1024x2048, .f32⟩
  | .hbm, ⟨5, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBack.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBackRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== LossHead.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S1x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .bf16⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Tail.lean ====
abbrev S2x1024 : Shape := ⟨2, ![2, 1024]⟩
abbrev S1x1024 : Shape := ⟨2, ![1, 1024]⟩
abbrev S1x2048 : Shape := ⟨2, ![1, 2048]⟩
abbrev S1x128 : Shape := ⟨2, ![1, 128]⟩
abbrev S1x1x2048 : Shape := ⟨3, ![1, 1, 2048]⟩
abbrev S1 : Shape := ⟨1, ![1]⟩
abbrev S1x1x1 : Shape := ⟨3, ![1, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S1x2048, .f32⟩
  | .hbm, ⟨3, _⟩ => ⟨S2x1024, .f32⟩
  | .hbm, ⟨4, _⟩ => ⟨S1x128, .f32⟩
  | .local _ .vmem, ⟨0, _⟩ => ⟨S2x1024, .f32⟩
  | .local _ .vmem, ⟨1, _⟩ => ⟨S1x1024, .f32⟩
  | .local _ .vmem, ⟨2, _⟩ => ⟨S1x2048, .f32⟩
  | .local _ .vmem, ⟨3, _⟩ => ⟨S2x1024, .f32⟩
  | .local _ .vmem, ⟨4, _⟩ => ⟨S1x128, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== TailRefIdeal.lean ====
abbrev S2x1024 : Shape := ⟨2, ![2, 1024]⟩
abbrev S1x1024 : Shape := ⟨2, ![1, 1024]⟩
abbrev S1x2048 : Shape := ⟨2, ![1, 2048]⟩
abbrev S_ : Shape := ⟨0, ![]⟩
abbrev S1024 : Shape := ⟨1, ![1024]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S1x2048, .f32⟩
  | .hbm, ⟨3, _⟩ => ⟨S_, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S1024, .f32⟩
  | .hbm, ⟨14, _⟩ => ⟨S1x1024, .f32⟩
  | .hbm, ⟨15, _⟩ => ⟨S2x1024, .f32⟩
  | .hbm, ⟨16, _⟩ => ⟨S2x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x1024, .f32⟩
  | .hbm, ⟨30, _⟩ => ⟨S2x1024, .f32⟩
  | .hbm, ⟨31, _⟩ => ⟨S1x128, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== ProjIn.lean ====
abbrev S8192x2048 : Shape := ⟨2, ![8192, 2048]⟩
abbrev S4x2048x1792 : Shape := ⟨3, ![4, 2048, 1792]⟩
abbrev S8192x7168 : Shape := ⟨2, ![8192, 7168]⟩
abbrev S512x2048 : Shape := ⟨2, ![512, 2048]⟩
abbrev S1x2048x1792 : Shape := ⟨3, ![1, 2048, 1792]⟩
abbrev S512x1792 : Shape := ⟨2, ![512, 1792]⟩
abbrev S2048x1792 : Shape := ⟨2, ![2048, 1792]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x1792, .bf16⟩
  | .hbm, ⟨2, _⟩ => ⟨S8192x7168, .f32⟩
  | .local _ .vmem, ⟨0, _⟩ => ⟨S512x2048, .bf16⟩
  | .local _ .vmem, ⟨1, _⟩ => ⟨S512x2048, .bf16⟩
  | .local _ .vmem, ⟨2, _⟩ => ⟨S1x2048x1792, .bf16⟩
  | .local _ .vmem, ⟨3, _⟩ => ⟨S1x2048x1792, .bf16⟩
  | .local _ .vmem, ⟨4, _⟩ => ⟨S512x1792, .f32⟩
  | .local _ .vmem, ⟨5, _⟩ => ⟨S512x1792, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S8192x2048 : Shape := ⟨2, ![8192, 2048]⟩
abbrev S4x2048x1792 : Shape := ⟨3, ![4, 2048, 1792]⟩
abbrev S8192x4x1792 : Shape := ⟨3, ![8192, 4, 1792]⟩
abbrev S8192x7168 : Shape := ⟨2, ![8192, 7168]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x1792, .bf16⟩
  | .hbm, ⟨2, _⟩ => ⟨S8192x4x1792, .f32⟩
  | .hbm, ⟨3, _⟩ => ⟨S8192x7168, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjOut.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjOutRefIdeal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .hbm, ⟨3, _⟩ => ⟨S2048x2048, .bf16⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlpUp.lean ====
abbrev S8192x2048 : Shape := ⟨2, ![8192, 2048]⟩
abbrev S4x2048x2048 : Shape := ⟨3, ![4, 2048, 2048]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpUpRefIdeal.lean ====
abbrev S8192x2048 : Shape := ⟨2, ![8192, 2048]⟩
abbrev S4x2048x2048 : Shape := ⟨3, ![4, 2048, 2048]⟩
abbrev S8192x4x2048 : Shape := ⟨3, ![8192, 4, 2048]⟩
abbrev S8192x8192 : Shape := ⟨2, ![8192, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .bf16⟩
  | .hbm, ⟨2, _⟩ => ⟨S8192x4x2048, .f32⟩
  | .hbm, ⟨3, _⟩ => ⟨S8192x8192, .f32⟩
  | .hbm, ⟨4, _⟩ => ⟨S8192x8192, .bf16⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpDown.lean ====
abbrev S8192x8192 : Shape := ⟨2, ![8192, 8192]⟩
abbrev S1x8192x2048 : Shape := ⟨3, ![1, 8192, 2048]⟩
abbrev S8192x2048 : Shape := ⟨2, ![8192, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S8192x8192 : Shape := ⟨2, ![8192, 8192]⟩
abbrev S1x8192x2048 : Shape := ⟨3, ![1, 8192, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1x8192x2048, .bf16⟩
  | .hbm, ⟨2, _⟩ => ⟨S8192x2048, .f32⟩
  | .hbm, ⟨3, _⟩ => ⟨S8192x2048, .bf16⟩
  | .hbm, ⟨4, _⟩ => ⟨S8192x2048, .f32⟩
  | .hbm, ⟨5, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MlpDownBack.lean ====
abbrev S8192x2048 : Shape := ⟨2, ![8192, 2048]⟩
abbrev S1x8192x2048 : Shape := ⟨3, ![1, 8192, 2048]⟩
abbrev S8192x8192 : Shape := ⟨2, ![8192, 8192]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x8192x2048, .bf16⟩
  | .hbm, ⟨2, _⟩ => ⟨S8192x8192, .bf16⟩
  | .hbm, ⟨3, _⟩ => ⟨S8192x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownBackRefIdeal.lean ====
abbrev S8192x2048 : Shape := ⟨2, ![8192, 2048]⟩
abbrev S1x8192x2048 : Shape := ⟨3, ![1, 8192, 2048]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x8192x2048, .bf16⟩
  | .hbm, ⟨2, _⟩ => ⟨S8192x8192, .bf16⟩
  | .hbm, ⟨3, _⟩ => ⟨S8192x2048, .bf16⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlpUpBack.lean ====
abbrev S8192x8192 : Shape := ⟨2, ![8192, 8192]⟩
abbrev S4x2048x2048 : Shape := ⟨3, ![4, 2048, 2048]⟩
abbrev S8192x2048 : Shape := ⟨2, ![8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpBackRefIdeal.lean ====
abbrev S8192x8192 : Shape := ⟨2, ![8192, 8192]⟩
abbrev S4x2048x2048 : Shape := ⟨3, ![4, 2048, 2048]⟩
abbrev S8192x4x2048 : Shape := ⟨3, ![8192, 4, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S4x2048x2048, .bf16⟩
  | .hbm, ⟨2, _⟩ => ⟨S8192x4x2048, .bf16⟩
  | .hbm, ⟨3, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjInBack.lean ====
abbrev S8192x7168 : Shape := ⟨2, ![8192, 7168]⟩
abbrev S4x2048x1792 : Shape := ⟨3, ![4, 2048, 1792]⟩
abbrev S8192x2048 : Shape := ⟨2, ![8192, 2048]⟩
abbrev S1024x1792 : Shape := ⟨2, ![1024, 1792]⟩
abbrev S1x1024x1792 : Shape := ⟨3, ![1, 1024, 1792]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x7168, .bf16⟩
  | .hbm, ⟨1, _⟩ => ⟨S4x2048x1792, .bf16⟩
  | .hbm, ⟨2, _⟩ => ⟨S8192x2048, .f32⟩
  | .local _ .vmem, ⟨0, _⟩ => ⟨S1024x1792, .bf16⟩
  | .local _ .vmem, ⟨1, _⟩ => ⟨S1024x1792, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInBackRefIdeal.lean ====
abbrev S8192x7168 : Shape := ⟨2, ![8192, 7168]⟩
abbrev S4x2048x1792 : Shape := ⟨3, ![4, 2048, 1792]⟩
abbrev S8192x4x1792 : Shape := ⟨3, ![8192, 4, 1792]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S4x2048x1792, .bf16⟩
  | .hbm, ⟨2, _⟩ => ⟨S8192x4x1792, .bf16⟩
  | .hbm, ⟨3, _⟩ => ⟨S8192x2048, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjOutBack.lean ====
abbrev S8192x2048 : Shape := ⟨2, ![8192, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutBackRefIdeal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .bf16⟩
  | .hbm, ⟨2, _⟩ => ⟨S2048x2048, .bf16⟩
  | .hbm, ⟨3, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradIn.lean ====
abbrev S8192x2048 : Shape := ⟨2, ![8192, 2048]⟩
abbrev S8192x7168 : Shape := ⟨2, ![8192, 7168]⟩
abbrev S4x2048x1792 : Shape := ⟨3, ![4, 2048, 1792]⟩
abbrev S1024x1024 : Shape := ⟨2, ![1024, 1024]⟩
abbrev S1024x1792 : Shape := ⟨2, ![1024, 1792]⟩
abbrev S1x1024x1792 : Shape := ⟨3, ![1, 1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S4x2048x1792, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1x1024x1792, .f32⟩
  | .local _ .vmem, ⟨5, _⟩ => ⟨S1x1024x1792, .f32⟩
  | .local _ .vmem, ⟨6, _⟩ => ⟨S1024x1792, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInRefIdeal.lean ====
abbrev S8192x2048 : Shape := ⟨2, ![8192, 2048]⟩
abbrev S8192x7168 : Shape := ⟨2, ![8192, 7168]⟩
abbrev S8192x4x1792 : Shape := ⟨3, ![8192, 4, 1792]⟩
abbrev S4x1792x2048 : Shape := ⟨3, ![4, 1792, 2048]⟩
abbrev S4x2048x1792 : Shape := ⟨3, ![4, 2048, 1792]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S8192x4x1792, .bf16⟩
  | .hbm, ⟨3, _⟩ => ⟨S4x1792x2048, .f32⟩
  | .hbm, ⟨4, _⟩ => ⟨S4x2048x1792, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradUp.lean ====
abbrev S8192x2048 : Shape := ⟨2, ![8192, 2048]⟩
abbrev S8192x8192 : Shape := ⟨2, ![8192, 8192]⟩
abbrev S4x2048x2048 : Shape := ⟨3, ![4, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S4x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpRefIdeal.lean ====
abbrev S8192x2048 : Shape := ⟨2, ![8192, 2048]⟩
abbrev S8192x8192 : Shape := ⟨2, ![8192, 8192]⟩
abbrev S8192x4x2048 : Shape := ⟨3, ![8192, 4, 2048]⟩
abbrev S4x2048x2048 : Shape := ⟨3, ![4, 2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S8192x4x2048, .bf16⟩
  | .hbm, ⟨3, _⟩ => ⟨S4x2048x2048, .f32⟩
  | .hbm, ⟨4, _⟩ => ⟨S4x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradOut.lean ====
abbrev S8192x2048 : Shape := ⟨2, ![8192, 2048]⟩
abbrev S1x2048x2048 : Shape := ⟨3, ![1, 2048, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutRefIdeal.lean ====
abbrev S8192x2048 : Shape := ⟨2, ![8192, 2048]⟩
abbrev S2048x2048 : Shape := ⟨2, ![2048, 2048]⟩
abbrev S1x2048x2048 : Shape := ⟨3, ![1, 2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .hbm, ⟨3, _⟩ => ⟨S1x2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradDown.lean ====
abbrev S8192x8192 : Shape := ⟨2, ![8192, 8192]⟩
abbrev S8192x2048 : Shape := ⟨2, ![8192, 2048]⟩
abbrev S1x8192x2048 : Shape := ⟨3, ![1, 8192, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S1x8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownRefIdeal.lean ====
abbrev S8192x8192 : Shape := ⟨2, ![8192, 8192]⟩
abbrev S8192x2048 : Shape := ⟨2, ![8192, 2048]⟩
abbrev S1x8192x2048 : Shape := ⟨3, ![1, 8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S8192x2048, .f32⟩
  | .hbm, ⟨3, _⟩ => ⟨S1x8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlpNormBack.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MlpNormBackRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== CastIn.lean ====
abbrev S2048x1792 : Shape := ⟨2, ![2048, 1792]⟩
abbrev S256x1792 : Shape := ⟨2, ![256, 1792]⟩

abbrev nBuf : Space → Nat
  | .hbm => 2
  | .vmem => 4
  | .smem => 0
  | _ => 0

abbrev bufTy : (tb : Table) → Fin (tcTables nBuf tb) → BufTy
  | .hbm, ⟨0, _⟩ => ⟨S2048x1792, .f32⟩
  | .hbm, ⟨1, _⟩ => ⟨S2048x1792, .bf16⟩
  | .local _ .vmem, ⟨0, _⟩ => ⟨S256x1792, .f32⟩
  | .local _ .vmem, ⟨1, _⟩ => ⟨S256x1792, .f32⟩
  | .local _ .vmem, ⟨2, _⟩ => ⟨S256x1792, .bf16⟩
  | .local _ .vmem, ⟨3, _⟩ => ⟨S256x1792, .bf16⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastInIdeal.lean ====
abbrev S2048x1792 : Shape := ⟨2, ![2048, 1792]⟩
abbrev S256x1792 : Shape := ⟨2, ![256, 1792]⟩

abbrev nBuf : Space → Nat
  | .hbm => 2
  | .vmem => 4
  | .smem => 0
  | _ => 0

abbrev bufTy : (tb : Table) → Fin (tcTables nBuf tb) → BufTy
  | .hbm, ⟨0, _⟩ => ⟨S2048x1792, .f32⟩
  | .hbm, ⟨1, _⟩ => ⟨S2048x1792, .bf16⟩
  | .local _ .vmem, ⟨0, _⟩ => ⟨S256x1792, .f32⟩
  | .local _ .vmem, ⟨1, _⟩ => ⟨S256x1792, .f32⟩
  | .local _ .vmem, ⟨2, _⟩ => ⟨S256x1792, .bf16⟩
  | .local _ .vmem, ⟨3, _⟩ => ⟨S256x1792, .bf16⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastInRefIdeal.lean ====
abbrev S2048x1792 : Shape := ⟨2, ![2048, 1792]⟩

abbrev nBuf : Space → Nat
  | .hbm => 2
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .bf16⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastOut.lean ====
abbrev S512x2048 : Shape := ⟨2, ![512, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S512x2048, .f32⟩
  | .hbm, ⟨1, _⟩ => ⟨S512x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastOutIdeal.lean ====
abbrev S512x2048 : Shape := ⟨2, ![512, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S512x2048, .f32⟩
  | .hbm, ⟨1, _⟩ => ⟨S512x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastOutRefIdeal.lean ====
abbrev S512x2048 : Shape := ⟨2, ![512, 2048]⟩

abbrev nBuf : Space → Nat
  | .hbm => 2
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== CastMlp.lean ====
abbrev S2048x2048 : Shape := ⟨2, ![2048, 2048]⟩
abbrev S256x2048 : Shape := ⟨2, ![256, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastMlpRefIdeal.lean ====
abbrev S2048x2048 : Shape := ⟨2, ![2048, 2048]⟩

abbrev nBuf : Space → Nat
  | .hbm => 2
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== HeadNormBack.lean ====
abbrev S8192x1024 : Shape := ⟨2, ![8192, 1024]⟩
abbrev S8192x2048 : Shape := ⟨2, ![8192, 2048]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1x128, .f32⟩
  | .hbm, ⟨3, _⟩ => ⟨S8192x1024, .f32⟩
  | .hbm, ⟨4, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== HeadNormBackRefIdeal.lean ====
abbrev S8192x1024 : Shape := ⟨2, ![8192, 1024]⟩
abbrev S8192x2048 : Shape := ⟨2, ![8192, 2048]⟩
abbrev S1x128 : Shape := ⟨2, ![1, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S8192x128 : Shape := ⟨2, ![8192, 128]⟩
abbrev S128 : Shape := ⟨1, ![128]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1x128, .f32⟩
  | .hbm, ⟨3, _⟩ => ⟨S8192x8x128, .f32⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S1x1x128, .f32⟩
  | .hbm, ⟨18, _⟩ => ⟨S8192x8x128, .f32⟩
  | .hbm, ⟨19, _⟩ => ⟨S8192x8x128, .f32⟩
  | .hbm, ⟨20, _⟩ => ⟨S8192x8x128, .f32⟩
  | .hbm, ⟨21, _⟩ => ⟨S8192x8x128, .f32⟩
  | .hbm, ⟨22, _⟩ => ⟨S8192x8x128, .f32⟩
  | .hbm, ⟨23, _⟩ => ⟨S8192x8x128, .f32⟩
  | .hbm, ⟨24, _⟩ => ⟨S8192x8x128, .f32⟩
  | .hbm, ⟨25, _⟩ => ⟨S_, .f32⟩
  | .hbm, ⟨26, _⟩ => ⟨S8192x8, .f32⟩
  | .hbm, ⟨27, _⟩ => ⟨S8192x8x1, .f32⟩
  | .hbm, ⟨28, _⟩ => ⟨S_, .f32⟩
  | .hbm, ⟨29, _⟩ => ⟨S8192x8x1, .f32⟩
  | .hbm, ⟨30, _⟩ => ⟨S8192x8x1, .f32⟩
  | .hbm, ⟨31, _⟩ => ⟨S8192x8x128, .f32⟩
  | .hbm, ⟨32, _⟩ => ⟨S8192x8x128, .f32⟩
  | .hbm, ⟨33, _⟩ => ⟨S8192x8x128, .f32⟩
  | .hbm, ⟨34, _⟩ => ⟨S8192x8x128, .f32⟩
  | .hbm, ⟨35, _⟩ => ⟨S8192x8x128, .f32⟩
  | .hbm, ⟨36, _⟩ => ⟨S8192x1024, .f32⟩
  | .hbm, ⟨37, _⟩ => ⟨S8192x8x128, .f32⟩
  | .hbm, ⟨38, _⟩ => ⟨S8192x8x128, .f32⟩
  | .hbm, ⟨39, _⟩ => ⟨S8192x8x128, .f32⟩
  | .hbm, ⟨40, _⟩ => ⟨S_, .f32⟩
  | .hbm, ⟨41, _⟩ => ⟨S8192x128, .f32⟩
  | .hbm, ⟨42, _⟩ => ⟨S_, .f32⟩
  | .hbm, ⟨43, _⟩ => ⟨S128, .f32⟩
  | .hbm, ⟨44, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== GateNormBack.lean ====
abbrev S8192x1024 : Shape := ⟨2, ![8192, 1024]⟩
abbrev S8192x7168 : Shape := ⟨2, ![8192, 7168]⟩
abbrev S8192x2048 : Shape := ⟨2, ![8192, 2048]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x2048, .f32⟩
  | .hbm, ⟨3, _⟩ => ⟨S1x128, .f32⟩
  | .hbm, ⟨4, _⟩ => ⟨S8192x1024, .f32⟩
  | .hbm, ⟨5, _⟩ => ⟨S8192x1024, .f32⟩
  | .hbm, ⟨6, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateNormBackRefIdeal.lean ====
abbrev S8192x1024 : Shape := ⟨2, ![8192, 1024]⟩
abbrev S8192x7168 : Shape := ⟨2, ![8192, 7168]⟩
abbrev S8192x2048 : Shape := ⟨2, ![8192, 2048]⟩
abbrev S1x128 : Shape := ⟨2, ![1, 128]⟩
abbrev S8192x8x128 : Shape := ⟨3, ![8192, 8, 128]⟩
abbrev S_ : Shape := ⟨0, ![]⟩
abbrev S8192x8 : Shape := ⟨2, ![8192, 8]⟩
abbrev S8192x8x1 : Shape := ⟨3, ![8192, 8, 1]⟩
abbrev S1x1x128 : Shape := ⟨3, ![1, 1, 128]⟩
abbrev S8192x128 : Shape := ⟨2, ![8192, 128]⟩
abbrev S128 : Shape := ⟨1, ![128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S8192x2048, .f32⟩
  | .hbm, ⟨3, _⟩ => ⟨S1x128, .f32⟩
  | .hbm, ⟨4, _⟩ => ⟨S8192x1024, .f32⟩
  | .hbm, ⟨5, _⟩ => ⟨S8192x1024, .f32⟩
  | .hbm, ⟨6, _⟩ => ⟨S8192x8x128, .f32⟩
  | .hbm, ⟨7, _⟩ => ⟨S8192x8x128, .f32⟩
  | .hbm, ⟨8, _⟩ => ⟨S8192x8x128, .f32⟩
  | .hbm, ⟨9, _⟩ => ⟨S8192x8x128, .f32⟩
  | .hbm, ⟨10, _⟩ => ⟨S8192x8x128, .f32⟩
  | .hbm, ⟨11, _⟩ => ⟨S_, .f32⟩
  | .hbm, ⟨12, _⟩ => ⟨S8192x8x128, .f32⟩
  | .hbm, ⟨13, _⟩ => ⟨S8192x8x128, .f32⟩
  | .hbm, ⟨14, _⟩ => ⟨S_, .f32⟩
  | .hbm, ⟨15, _⟩ => ⟨S8192x8x128, .f32⟩
  | .hbm, ⟨16, _⟩ => ⟨S8192x8x128, .f32⟩
  | .hbm, ⟨17, _⟩ => ⟨S8192x8x128, .f32⟩
  | .hbm, ⟨18, _⟩ => ⟨S_, .f32⟩
  | .hbm, ⟨19, _⟩ => ⟨S8192x8, .f32⟩
  | .hbm, ⟨20, _⟩ => ⟨S8192x8x1, .f32⟩
  | .hbm, ⟨21, _⟩ => ⟨S_, .f32⟩
  | .hbm, ⟨22, _⟩ => ⟨S8192x8x1, .f32⟩
  | .hbm, ⟨23, _⟩ => ⟨S8192x8x1, .f32⟩
  | .hbm, ⟨24, _⟩ => ⟨S_, .f32⟩
  | .hbm, ⟨25, _⟩ => ⟨S8192x8x1, .f32⟩
  | .hbm, ⟨26, _⟩ => ⟨S8192x8x1, .f32⟩
  | .hbm, ⟨27, _⟩ => ⟨S8192x8x1, .f32⟩
  | .hbm, ⟨28, _⟩ => ⟨S8192x8x128, .f32⟩
  | .hbm, ⟨29, _⟩ => ⟨S8192x8x128, .f32⟩
  | .hbm, ⟨30, _⟩ => ⟨S1x1x128, .f32⟩
  | .hbm, ⟨31, _⟩ => ⟨S8192x8x128, .f32⟩
  | .hbm, ⟨32, _⟩ => ⟨S8192x8x128, .f32⟩
  | .hbm, ⟨33, _⟩ => ⟨S8192x8x128, .f32⟩
  | .hbm, ⟨34, _⟩ => ⟨S8192x8x128, .f32⟩
  | .hbm, ⟨35, _⟩ => ⟨S8192x8x128, .f32⟩
  | .hbm, ⟨36, _⟩ => ⟨S8192x8x128, .f32⟩
  | .hbm, ⟨37, _⟩ => ⟨S8192x8x128, .f32⟩
  | .hbm, ⟨38, _⟩ => ⟨S_, .f32⟩
  | .hbm, ⟨39, _⟩ => ⟨S8192x8, .f32⟩
  | .hbm, ⟨40, _⟩ => ⟨S8192x8x1, .f32⟩
  | .hbm, ⟨41, _⟩ => ⟨S_, .f32⟩
  | .hbm, ⟨42, _⟩ => ⟨S8192x8x1, .f32⟩
  | .hbm, ⟨43, _⟩ => ⟨S8192x8x1, .f32⟩
  | .hbm, ⟨44, _⟩ => ⟨S8192x8x128, .f32⟩
  | .hbm, ⟨45, _⟩ => ⟨S8192x8x128, .f32⟩
  | .hbm, ⟨46, _⟩ => ⟨S8192x8x128, .f32⟩
  | .hbm, ⟨47, _⟩ => ⟨S8192x8x128, .f32⟩
  | .hbm, ⟨48, _⟩ => ⟨S8192x8x128, .f32⟩
  | .hbm, ⟨49, _⟩ => ⟨S8192x8x128, .f32⟩
  | .hbm, ⟨50, _⟩ => ⟨S8192x8x128, .f32⟩
  | .hbm, ⟨51, _⟩ => ⟨S1x1x128, .f32⟩
  | .hbm, ⟨52, _⟩ => ⟨S8192x8x128, .f32⟩
  | .hbm, ⟨53, _⟩ => ⟨S8192x8x128, .f32⟩
  | .hbm, ⟨54, _⟩ => ⟨S8192x8x128, .f32⟩
  | .hbm, ⟨55, _⟩ => ⟨S_, .f32⟩
  | .hbm, ⟨56, _⟩ => ⟨S8192x8x128, .f32⟩
  | .hbm, ⟨57, _⟩ => ⟨S8192x8x128, .f32⟩
  | .hbm, ⟨58, _⟩ => ⟨S8192x8x128, .f32⟩
  | .hbm, ⟨59, _⟩ => ⟨S_, .f32⟩
  | .hbm, ⟨60, _⟩ => ⟨S8192x8x128, .f32⟩
  | .hbm, ⟨61, _⟩ => ⟨S8192x8x128, .f32⟩
  | .hbm, ⟨62, _⟩ => ⟨S8192x8x128, .f32⟩
  | .hbm, ⟨63, _⟩ => ⟨S8192x8x128, .f32⟩
  | .hbm, ⟨64, _⟩ => ⟨S8192x1024, .f32⟩
  | .hbm, ⟨65, _⟩ => ⟨S8192x1024, .f32⟩
  | .hbm, ⟨66, _⟩ => ⟨S8192x8x128, .f32⟩
  | .hbm, ⟨67, _⟩ => ⟨S8192x8x128, .f32⟩
  | .hbm, ⟨68, _⟩ => ⟨S8192x8x128, .f32⟩
  | .hbm, ⟨69, _⟩ => ⟨S_, .f32⟩
  | .hbm, ⟨70, _⟩ => ⟨S8192x128, .f32⟩
  | .hbm, ⟨71, _⟩ => ⟨S_, .f32⟩
  | .hbm, ⟨72, _⟩ => ⟨S128, .f32⟩
  | .hbm, ⟨73, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Pack.lean ====
abbrev S8192x1024 : Shape := ⟨2, ![8192, 1024]⟩
abbrev S8192x7168 : Shape := ⟨2, ![8192, 7168]⟩
abbrev S256x1024 : Shape := ⟨2, ![256, 1024]⟩
abbrev S256x7168 : Shape := ⟨2, ![256, 7168]⟩

abbrev nBuf : Space → Nat
  | .hbm => 8
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x7168, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x7168, .bf16⟩
  | .local _ .vmem, ⟨15, _⟩ => ⟨S256x7168, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PackRefIdeal.lean ====
abbrev S8192x1024 : Shape := ⟨2, ![8192, 1024]⟩
abbrev S8192x7168 : Shape := ⟨2, ![8192, 7168]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x7168, .f32⟩
  | .hbm, ⟨8, _⟩ => ⟨S8192x7168, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]
-- ==== Proof.Launching.lean ====
/-
# Launching a kernel whose cores write into each other's results without asking first

A region whose operands and results all stay where they are (no window is staged), and whose cores copy straight into
the result buffers of other cores as soon as they run. A sender therefore needs, from its first step, the elements of
the receiver's result buffer. `run_shared` hands the certificate, in one step taken once for the whole machine, every
core's own semaphores together with every core's unscoped buffers, so that the buffers can be dealt to the cores that
write them.
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {Λ₀ : Idealize.SL.Sem.Labels} {P : Type} [Fintype P]

variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- The levels of the TensorCores' cells, assigned for the whole machine at once. -/
theorem levels_assigned [Preorder Lvl] (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have other : ∀ d : Dev nD, (bigSep (Finset.univ.erase Proc.tc) fun q => (coreLevAts ((d, q) : Thread nD τ) L lv : sProp 𝕄)) = BI.emp := fun d => by
    refine (bigSep_congr (Ψ := fun _ : Proc τ => (BI.emp : sProp 𝕄)) fun q hq => ?_).trans (BI.bigSep_emp_const _)
    unfold coreLevAts
    refine (bigSep_congr (Ψ := fun _ : SemLoc sig => (BI.emp : sProp 𝕄)) fun sm _ => ?_).trans (BI.bigSep_emp_const _)
    rw [hL (((d, q) : Thread nD τ), sm) (Finset.ne_of_mem_erase hq), BI.bigSep_empty]
  have whole : (levAts L lv : sProp 𝕄) = bigSep Finset.univ fun d : Dev nD => coreLevAts (d.tc : Thread nD τ) L lv := by
    rw [show (levAts L lv : sProp 𝕄) = bigSep Finset.univ fun c : Thread nD τ => coreLevAts c L lv
      from bigSep_univ_prod fun g : GSem nD τ sig => bigSep (L g) fun i => levAt g i (lv g i),
      bigSep_threads (fun c : Thread nD τ => coreLevAts c L lv), bigSep_congr fun d _ => other d, BI.bigSep_emp_const]
    exact Entails.antisymm sep_emp.1 sep_emp.2
  have drop : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [whole]
    exact bigSep_mono fun c _ => show iprop(_ ∗ coreLevAts (c.tc : Thread nD τ) L lv) ⊢ (coreLevAts (c.tc : Thread nD τ) L lv : sProp 𝕄) from sep_elim_right
  exact (bigSep_mono fun c _ => lev_assign_cells (c.tc : Thread nD τ) L lv).trans ((BI.bigSep_bupd _ _).trans (BI.bupd_mono drop))

/-- What core `c` holds when its @main starts: its scoped buffers and the machine's idle cells, what it owes, the levels,
    the credit for what other cores owe it, and what the certificate dealt it. -/
abbrev atStart [Preorder Lvl] (O₀ : Dev nD → CellTallies nD τ sig Ix) (L : GSem nD τ sig → Finset Ix) (lv : GSem nD τ sig → Ix → Lvl)
    (G' : Dev nD → sProp 𝕄) (c : Dev nD) : sProp 𝕄 :=
  iprop(scopedBufs (c.tc : Thread nD τ) ∗ PerCore.cellsSems0 (pinD pcs a) p c ∗ PerCore.idleSems0 (pinD pcs a) phinj p (fun _ => ho) c
    ∗ owes (c.tc : Thread nD τ) (O₀ c) ∅ ∗ levAts L lv ∗ launchCred O₀ c
    ∗ PerCore.cellsGhost (pinD pcs a) EP p c ∗ PerCore.toksInit (pinD pcs a) EP p c ∗ G' c)

include phinj hw ho in
/-- The launch of an @main that is one region with no window and no table. `hdeal` is the certificate's own step: it gets
    every core's own semaphores at zero, every core's unscoped buffers at their launch contents and the certificate's ghost
    resources, all at once, and deals each core `G' c`. `hin` and `hout` say how the region's first and last invariants are
    made of it and give it back; `hread` reads the post `QY` off what the cores hold at the end. -/
theorem run_shared [DecidableEq P] [Preorder Lvl] [∀ e, Nonempty (Val e)] [Infinite Name] [EP.LandsIn (upEmb : UEmb _ 𝕄)]
    [IsEmpty (Fin (pcs p).W)] [IsEmpty (Fin (pcs p).pre.K)]
    (m : (ℓ : Loc nD τ sig) → Buf Val ℓ) (g : Dev nD → PrngReg)
    (main : Dev nD → Prog (TpuEff nD τ sig Val (Sig Λ₀ P fun p => (pcs p).Adm) .tc) PUnit)
    (hmain : ∀ c, main c = .op (.customCall (entry p) ()) fun _ => .ret ⟨⟩)
    (hbody : ∀ c, BodyObligationLoose (pdats p c) defs₀ 𝒱₀ ι Set.univ)
    (O₀ : Dev nD → CellTallies nD τ sig Ix) (howed₀ : ∀ c, (pdats p c).owed 0 = O₀ c) (howedN : ∀ c, (pdats p c).owed (Fin.last _) = 0)
    (L : GSem nD τ sig → Finset Ix) (lv : GSem nD τ sig → Ix → Lvl) (hL : ∀ g : GSem nD τ sig, g.1.2 ≠ .tc → L g = ∅)
    (G G' : Dev nD → sProp 𝕄) (u₀ : U)
    (hu₀ : (ownU u₀ : sProp 𝕄)
      ⊢ |={Set.univ}=> iprop(BI.own (EP (initOf (PerCore.cells (pinD pcs a) phinj) (PerCore.launchToks (pinD pcs a) phinj))) ∗ bigSep Finset.univ G))
    (hdeal : (bigSep Finset.univ fun c => iprop(ownSems0 osem c ∗ unscopedBufs c (fun b => m ((c.tc : Thread nD τ).loc b)) ∗ G c) : sProp 𝕄)
      ⊢ |={Set.univ}=> bigSep Finset.univ G')
    (X Y Z : Dev nD → sProp 𝕄)
    (hX : ∀ c, iprop(levAts L lv ∗ launchCred O₀ c ∗ G' c) ⊢ |={Set.univ}=> iprop(X c ∗ Z c))
    (hin : ∀ c, iprop(X c ∗ scopedRest (pinD pcs a c p).spec c) ⊢ (pdats p c).Φ 0)
    (hout : ∀ c, (pdats p c).Φ (Fin.last (pinD pcs a c p).N) ⊢ iprop(Y c ∗ ownSems0 osem c ∗ scopedRest (pinD pcs a c p).spec c))
    (QY : Dev nD → MemSt nD τ sig Val → Prop)
    (hread : ∀ c (s' : Phys nD τ sig Val), iprop(Y c ∗ Z c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let rdats := Dat.toRs pdats
  have hss := fun c : Dev nD => PerCore.scopedSems0_split (pinD pcs a) phinj p (fun _ => hw) (fun _ => ho) (Ix := Ix) (Val := Val) (Name := Name) (U := U) (Lvl := Lvl) c
  have hsb := fun c : Dev nD => PerCore.scopedBufs_split (pinD pcs a) p c hw.stage_scoped hw.stage_inj (fun w => isEmptyElim w) (nD := nD) (τ := τ) (Ix := Ix) (Val := Val) (Name := Name) (U := U) (Lvl := Lvl)
  let atEnd : Dev nD → sProp 𝕄 := fun c => iprop(Y c ∗ Z c ∗ scopedSems0 (c.tc : Thread nD τ))
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ => atStart pcs a phinj p ho EP O₀ L lv G') (fun _ => atEnd) (fun _ => iprop(emp)) Set.univ ?_ (fun _ c => ?_) fun _ => ?_))
  · -- the launch: every core's holdings regrouped, the levels assigned, and the certificate's step taken over all cores
    have one (c : Dev nD) :
        coreInit (Ix := Ix) (Name := Name) (U := U) (Lvl := Lvl) (owing O₀) 0 (⟨m, fun _ => 0, g⟩ : MemSt nD τ sig Val) (c.tc : Thread nD τ)
          ⊢ iprop(iprop(scopedBufs (c.tc : Thread nD τ) ∗ PerCore.cellsSems0 (pinD pcs a) p c ∗ PerCore.idleSems0 (pinD pcs a) phinj p (fun _ => ho) c)
              ∗ ownSems0 osem c ∗ unscopedBufs c (fun b => m ((c.tc : Thread nD τ).loc b))
              ∗ owes (c.tc : Thread nD τ) (O₀ c) ∅ ∗ levels0 c ∗ launchCred O₀ c) := by
      refine (coreInit_boundary_owing O₀ m g c).trans ?_
      unfold boundary
      rw [hss c]
      iintro ⟨⟨Hsc, ⟨⟨Hcells, Hos⟩, Hidle⟩, -⟩, Hub, -, HL, Hlv, -, Hcr⟩
      isplitl [Hsc Hcells Hidle]
      · isplitl [Hsc]; · iexact Hsc
        isplitl [Hcells] <;> iassumption
      isplitl [Hos]; · iexact Hos
      isplitl [Hub]; · iexact Hub
      isplitl [HL]; · iexact HL
      isplitl [Hlv] <;> iassumption
    have pick (Ψ : P → Dev nD → sProp 𝕄) :
        (bigSep Finset.univ fun c : Dev nD => bigSep Finset.univ fun q => Ψ q c) ⊢ bigSep Finset.univ fun c : Dev nD => Ψ p c :=
      bigSep_mono fun c _ => BI.bigSep_elim (Finset.mem_univ p)
    have all : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => iprop(scopedBufs (c.tc : Thread nD τ) ∗ PerCore.cellsSems0 (pinD pcs a) p c ∗ PerCore.idleSems0 (pinD pcs a) phinj p (fun _ => ho) c))
            ∗ (bigSep Finset.univ fun c : Dev nD => ownSems0 (Ix := Ix) (Name := Name) (U := U) (Lvl := Lvl) (Val := Val) (τ := τ) osem c)
            ∗ (bigSep Finset.univ fun c : Dev nD => unscopedBufs c fun b => m ((c.tc : Thread nD τ).loc b))
            ∗ (bigSep Finset.univ fun c : Dev nD => owes (c.tc : Thread nD τ) (O₀ c) ∅)
            ∗ (bigSep Finset.univ fun c : Dev nD => levels0 (Ix := Ix) (Val := Val) (Name := Name) (U := U) (Lvl := Lvl) (τ := τ) (sig := sig) c)
            ∗ (bigSep Finset.univ fun c : Dev nD => launchCred (Name := Name) (U := U) (Lvl := Lvl) (Val := Val) O₀ c) : sProp 𝕄) := by
      refine (bigSep_mono fun c _ => one c).trans ?_
      simp only [bigSep_sep']
      exact BI.Entails.refl _
    iintro ⟨Hcores, Hu⟩
    ihave Hc := all $$ Hcores
    icases Hc with ⟨Hb, Hos, Hub, HL, Hlv, Hcr⟩
    imod (levels_assigned L lv hL) $$ Hlv with Hla
    imod hu₀ $$ Hu with ⟨HP, HG⟩
    imod (PerCore.fund_ghost (pinD pcs a) EP phinj) $$ HP with ⟨Hg, Ht⟩
    imod hdeal $$ [Hos Hub HG] with HG'
    · rw [bigSep_sep', bigSep_sep']; isplitl [Hos]; · iexact Hos
      isplitl [Hub] <;> iassumption
    imodintro
    iexists ()
    isplitr []
    · simp only [atStart, bigSep_sep']
      icases Hb with ⟨Hsc, Hcells, Hidle⟩
      isplitl [Hsc]; · iexact Hsc
      isplitl [Hcells]; · iexact Hcells
      isplitl [Hidle]; · iexact Hidle
      isplitl [HL]; · iexact HL
      isplitl [Hla]; · iapply (BI.bigSep_intro_persistent (S := Finset.univ) fun (c : Dev nD) _ => (BI.Entails.refl (levAts L lv : sProp 𝕄))); iexact Hla
      isplitl [Hcr]; · iexact Hcr
      isplitl [Hg]; · iapply (pick fun q c => PerCore.cellsGhost (pinD pcs a) EP q c); iexact Hg
      isplitl [Ht]; · iapply (pick fun q c => PerCore.toksInit (pinD pcs a) EP q c); iexact Ht
      iexact HG'
    · iempintro
  · -- one core: the region, then the return
    have back : iprop((rdats p c).Φ (Fin.last (pinD pcs a c p).N) ∗ PerCore.cellsSems0 (pinD pcs a) p c ∗ Dat.staging (pinD pcs a c p) c ∗ PerCore.idleSems0 (pinD pcs a) phinj p (fun _ => ho) c)
        ⊢ iprop(Y c ∗ scopedSems0 (c.tc : Thread nD τ) ∗ scopedBufs (c.tc : Thread nD τ)) := by
      rw [hss c, hsb c]
      iintro ⟨HΦ, Hcells, Hst, Hidle⟩
      ihave H := (show (rdats p c).Φ (Fin.last (pinD pcs a c p).N) ⊢ _ from hout c) $$ HΦ
      icases H with ⟨HY, Hos, Hrest⟩
      isplitl [HY]; · iexact HY
      isplitl [Hcells Hos Hidle]
      · isplitl [Hcells Hos]; · isplitl [Hcells] <;> iassumption
        iexact Hidle
      isplitl [Hst] <;> iassumption
    have last : PerCore.RDat.EntryPost (pinD pcs a) rdats ι p c ⊢ iprop(∃ W, owes (c.tc : Thread nD τ) (0 : CellTallies nD τ sig Ix) W) := by
      unfold PerCore.RDat.EntryPost RDat.owesAt owesWithin
      rw [show (rdats p c).owed (Fin.last (pinD pcs a c p).N) = 0 from howedN c]
      iintro ⟨-, ⟨%W, -, HW⟩⟩
      iexists W; iexact HW
    have noTable : (BI.emp : sProp 𝕄) ⊢ prefHeld (pcs p).pre c (fun _ => fullShare.right) (a c p).1 := by
      unfold prefHeld; rw [Finset.univ_eq_empty, BI.bigSep_empty]
    have noArray : (BI.emp : sProp 𝕄) ⊢ (rdats p c).arrays (rdats p c).A := by
      haveI : IsEmpty (Fin (pinD pcs a c p).W) := ‹IsEmpty (Fin (pcs p).W)›
      unfold RDat.arrays; rw [Finset.univ_eq_empty, BI.bigSep_empty]
    have noWait : (BI.emp : sProp 𝕄) ⊢ PerCore.RDat.cellsWaits (pinD pcs a) rdats ι p c := by
      haveI : IsEmpty (Fin (pinD pcs a c p).W) := ‹IsEmpty (Fin (pcs p).W)›
      unfold PerCore.RDat.cellsWaits; rw [Finset.univ_eq_empty, BI.bigSep_empty]
    simp only [atStart]
    rw [hmain c]
    iintro ⟨Hsc, Hcells, Hidle, HL, Hla, Hcr, Hg, Ht, HG⟩
    iapply (fupd_wp frame (wpE 𝔻 𝕍 (c.tc : Thread nD τ) none) Set.univ _ _)
    imod (PerCore.RDat.cellsInit_alloc (pinD pcs a) rdats EP phinj p c) $$ [Hcells Hg] with ⟨%κ, -, Hinit⟩
    · isplitl [Hcells] <;> iassumption
    imod (hX c) $$ [Hla Hcr HG] with ⟨HX, HZ⟩
    · isplitl [Hla]; · iexact Hla
      isplitl [Hcr] <;> iassumption
    imodintro
    iapply (PerCore.RDat.wp_customCall_entry_frame pcs a rdats ι EP κ phinj p defs₀ 𝒱₀ (fun _ => fullShare.right) c Set.univ (fun _ _ => Set.mem_univ _)
        (hbody c).toR (fun w => isEmptyElim (α := Fin (pcs p).W) w) none (fun u h => nomatch h) (X := X c) (Y := Y c) (R := scopedRest (pinD pcs a c p).spec c)
        (I := PerCore.idleSems0 (pinD pcs a) phinj p (fun _ => ho) c)
        (Entails.of_eq (hsb c)) (by iintro ⟨HX, -, HR⟩; iapply (show _ ⊢ (rdats p c).Φ 0 from hin c); isplitl [HX] <;> iassumption) back
        (k := fun _ => .ret ⟨⟩) (Q := fun _ => post (liftTc atEnd BI.emp) (c.tc : Thread nD τ))) $$ [HL Hinit Ht HX Hidle Hsc]
    · isplitl [HL Hinit Ht]
      · unfold PerCore.RDat.EntryPre RDat.owesAt owesWithin
        rw [show (rdats p c).owed 0 = O₀ c from howed₀ c]
        isplitr; · iapply noArray; iempintro
        isplitl [HL]
        · iexists ∅; isplitr; · ipureintro; rw [Finset.coe_empty]; exact Set.empty_subset _
          iexact HL
        isplitr; · iapply noWait; iempintro
        isplitl [Hinit] <;> iassumption
      isplitr; · iapply noTable; iempintro
      isplitl [HX]; · iexact HX
      isplitl [Hidle]; · iexact Hidle
      iexact Hsc
    iintro ⟨Hpost, HY, Hss2, -⟩
    rw [wp_ret]; imodintro
    unfold post; simp only [liftTc_tc, atEnd]
    ihave HW := last $$ Hpost
    isplitr [HW]
    · isplitl [HY]; · iexact HY
      isplitl [HZ] <;> iassumption
    · iexact HW
  · -- the posts, read against a final state
    have one (c : Dev nD) (s' : Phys nD τ sig Val) : iprop(atEnd c ∗ SI s') ⊢ |={Set.univ}=>
        iprop(⌜QY c s'.mem ∧ ∀ sm : SemLoc sig, sm.isScoped .tc = true → s'.mem.sem ((c.tc : Thread nD τ), sm) = 0⌝ ∗ SI s') := by
      simp only [atEnd]
      iintro ⟨⟨HY, HZ, Hss⟩, HSI⟩
      ihave %hz := (tcScoped_read_pers c s') $$ [Hss HSI]
      · isplitl [Hss] <;> iassumption
      imod (hread c s') $$ [HY HZ HSI] with ⟨%hy, HSI⟩
      · isplitl [HY]; · iexact HY
        isplitl [HZ] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ one s') $$ [H HSI] with %h
    · isplitl [H] <;> iassumption
    imodintro
    ipureintro
    exact ⟨fun c => h c (Finset.mem_univ c), hsc⟩

end Cert.Exchange

end
-- ==== Proof.Exchange.lean ====
/-
# Kernels that only move data: each semaphore used once

A kernel of this kind copies parts of its operands into its own results and into the results of other cores, every copy
on semaphores of its own. So each semaphore of each core has one round with one contribution, the completion of one
copy, and delivers one thing: the source's share to the sender, the written elements to the receiver. `Plan` names the
copies and their semaphores, `sched` is the schedule, `hold` what a core holds between two operations, and the `step_`
theorems carry `hold` across each operation of such a kernel.
-/
module

public import proofs.«01_k».proof.Proof.Launching

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {T Lc : Type}

/-- The semaphores of one core: those its copies to others end on, those on which copies from others arrive, and those
    of its own local copies. -/
abbrev Cell (T Lc : Type) : Type := T ⊕ T ⊕ Lc

/-- The copies of a kernel. Core `c`'s copy `t` goes to core `dest t c`, signals `send t` on `c` when the source has been
    read and `recv t` on `dest t c` when everything has landed; the local copy `l` signals `loc l`. `amt`, `lamt`: the
    units each signal is worth. `level` orders the copies: one that passes on what another brought is later. -/
structure Plan (nD : Nat) (sig : RefSig) (T Lc : Type) where
  dest : T → Dev nD ≃ Dev nD
  send : T → SemLoc sig
  recv : T → SemLoc sig
  loc : Lc → SemLoc sig
  amt : T → ℕ
  lamt : Lc → ℕ
  level : T → ℕ
  amt_pos : ∀ t, 0 < amt t
  lamt_pos : ∀ l, 0 < lamt l
  inj : Function.Injective (Sum.elim send (Sum.elim recv loc) : Cell T Lc → SemLoc sig)

/-- The semaphore of a cell, -/
abbrev Plan.sem (P : Plan nD sig T Lc) : Cell T Lc → SemLoc sig := Sum.elim P.send (Sum.elim P.recv P.loc)
/-- and the units its one signal is worth. -/
def Plan.size (P : Plan nD sig T Lc) : Cell T Lc → ℕ := Sum.elim P.amt (Sum.elim P.amt P.lamt)

theorem Plan.size_pos (P : Plan nD sig T Lc) : ∀ k, 0 < P.size k
  | .inl t => P.amt_pos t
  | .inr (.inl t) => P.amt_pos t
  | .inr (.inr l) => P.lamt_pos l

/-- Two copies of the rounds algebra: the pipeline's own cells and the kernel's. -/
abbrev UX (nD : Nat) (τ : Topo) (sig : RefSig) : Type := UR sig nD τ × UR sig nD τ

local notation "𝕄" => MT nD τ sig Unit Val ℕ (UX nD τ sig) ℕ

/-- Where the kernel's rounds live. -/
abbrev ER : Emb (UR sig nD τ) 𝕄 := embR

section Sched

variable (P : Plan nD sig T Lc) (pay : Dev nD → Cell T Lc → sProp (MT nD τ sig Unit Val ℕ (UX nD τ sig) ℕ))

open Classical in
/-- The schedule: one round with one contribution per cell, which delivers `pay`. -/
def sched : Rounds.Schedule (GSem nD τ sig) Unit 𝕄 where
  duties g r := if r = 0 ∧ g.1.2 = .tc ∧ ∃ k, P.sem k = g.2 then {()} else ∅
  unitless _ := False
  amount g _ _ := if h : ∃ k, P.sem k = g.2 then P.size h.choose else 1
  payload g _ _ := if h : ∃ k, P.sem k = g.2 then pay g.1.1 h.choose else iprop(emp)
  amount_pos g _ _ _ := by
    by_cases h : ∃ k, P.sem k = g.2
    · rw [dif_pos h]; exact P.size_pos _
    · rw [dif_neg h]; exact Nat.one_pos

instance sched_storable [∀ c k, BI.Storable (upEmb : UEmb _ 𝕄) (pay c k)] (g : GSem nD τ sig) (r : ℕ) (d : Unit) :
    BI.Storable (upEmb : UEmb _ 𝕄) ((sched P pay).payload g r d) := by
  dsimp only [sched]; split <;> infer_instance

/-- Core `c`'s cell `k`. -/
abbrev cell (c : Dev nD) (k : Cell T Lc) : GSem nD τ sig := ((c : Thread nD τ), P.sem k)

theorem choose_eq (k : Cell T Lc) (h : ∃ k', P.sem k' = P.sem k) : h.choose = k := P.inj h.choose_spec

theorem duties_cell (c : Dev nD) (k : Cell T Lc) : (sched P pay).duties (cell P c k) 0 = {()} := by
  dsimp only [sched]; exact if_pos ⟨rfl, rfl, k, rfl⟩
theorem duty_mem (c : Dev nD) (k : Cell T Lc) : () ∈ (sched P pay).duties (cell P c k) 0 := by
  rw [duties_cell]; exact Finset.mem_singleton_self _
theorem duties_later (g : GSem nD τ sig) : ∀ r, 1 ≤ r → (sched P pay).duties g r = ∅ :=
  fun r hr => by dsimp only [sched]; exact if_neg fun h => by omega
theorem amount_cell (c : Dev nD) (k : Cell T Lc) (u : Unit) : (sched P pay).amount (cell P c k) 0 u = P.size k := by
  have h : ∃ k', P.sem k' = P.sem k := ⟨k, rfl⟩
  dsimp only [sched]; rw [dif_pos h, choose_eq]
theorem payload_cell (c : Dev nD) (k : Cell T Lc) (u : Unit) : (sched P pay).payload (cell P c k) 0 u = pay c k := by
  have h : ∃ k', P.sem k' = P.sem k := ⟨k, rfl⟩
  dsimp only [sched]; rw [dif_pos h, choose_eq]
theorem expect_cell (c : Dev nD) (k : Cell T Lc) : (sched P pay).expect (cell P c k) 0 = P.size k := by
  unfold Schedule.expect Schedule.amountOf; rw [duties_cell, Finset.sum_singleton, amount_cell]
theorem rest_cell (c : Dev nD) (k : Cell T Lc) :
    bigSep ((sched P pay).duties (cell P c k) 0 \ ∅) (fun u => (sched P pay).payload (cell P c k) 0 u) = pay c k := by
  rw [Finset.sdiff_empty, duties_cell, bigSep_singleton, payload_cell]

end Sched

/-! ## Levels -/

section Levels

variable (P : Plan nD sig T Lc)

/-- Every semaphore of every core is waited on at one index. -/
def L (g : GSem nD τ sig) : Finset Unit := if g.1.2 = .tc then {()} else ∅
open Classical in
/-- A copy's arrival is at its copy's level; all other completions are below. -/
def lv (g : GSem nD τ sig) (_ : Unit) : ℕ := if h : ∃ t, P.recv t = g.2 then P.level h.choose + 1 else 0

theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _

theorem lv_recv (c : Dev nD) (t : T) : lv P ((c : Thread nD τ), P.recv t) () = P.level t + 1 := by
  have h : ∃ t', P.recv t' = P.recv t := ⟨t, rfl⟩
  have e : h.choose = t := by
    have := P.inj (a₁ := .inr (.inl h.choose)) (a₂ := .inr (.inl t)) h.choose_spec
    simpa using this
  unfold lv; rw [dif_pos h, e]
theorem lv_send (c : Dev nD) (t : T) : lv P ((c : Thread nD τ), P.send t) () = 0 := by
  unfold lv; rw [dif_neg]; rintro ⟨t', h⟩
  exact absurd (P.inj (a₁ := .inr (.inl t')) (a₂ := .inl t) h) (by simp)
theorem lv_loc (c : Dev nD) (l : Lc) : lv P ((c : Thread nD τ), P.loc l) () = 0 := by
  unfold lv; rw [dif_neg]; rintro ⟨t', h⟩
  exact absurd (P.inj (a₁ := .inr (.inl t')) (a₂ := .inr (.inr l)) h) (by simp)

end Levels

/-! ## What a core holds -/

/-- How far an operation's completion is: not begun, outstanding, or waited for. -/
inductive Stage | ready | going | over
  deriving DecidableEq

section Hold

variable [Fintype T] [DecidableEq T] [Fintype Lc] [DecidableEq Lc]
variable (P : Plan nD sig T Lc) (pay : Dev nD → Cell T Lc → sProp (MT nD τ sig Unit Val ℕ (UX nD τ sig) ℕ)) (res : Dev nD → T → sProp (MT nD τ sig Unit Val ℕ (UX nD τ sig) ℕ)) (lres : Dev nD → Lc → sProp (MT nD τ sig Unit Val ℕ (UX nD τ sig) ℕ))
variable (K : Dev nD × Cell T Lc → ℕ)

/-- The cells' invariants, with that round 0 of each is reached. -/
def records : sProp 𝕄 :=
  iprop((bigSep Finset.univ fun ck : Dev nD × Cell T Lc => cellInv ER (sched P pay) (K ck) (cell P ck.1 ck.2))
    ∗ bigSep Finset.univ fun ck : Dev nD × Cell T Lc => reached ER (cell (τ := τ) P ck.1 ck.2) 0)
instance records_persistent [∀ c k, BI.Storable (upEmb : UEmb _ 𝕄) (pay c k)] : BI.Persistent (records P pay K) := by
  unfold records; infer_instance

/-- A copy to another core: before it, what it reads and writes and the right to complete on both cells; -/
def sendSide (c : Dev nD) (t : T) : Stage → sProp 𝕄
  | .ready => iprop(res c t ∗ dutyTok ER (cell (τ := τ) P c (.inl t)) 0 () ∗ dutyTok ER (cell (τ := τ) P (P.dest t c) (.inr (.inl t))) 0 ()
      ∗ atPos ER (cell (τ := τ) P c (.inl t)) 0 ∅ 0)
  | .going => iprop(cred (tallyAt (cell (τ := τ) P c (.inl t)) () (P.amt t)) ∗ atPos ER (cell (τ := τ) P c (.inl t)) 0 ∅ 0)
  | .over => iprop(pay c (.inl t) ∗ semVal (cell (τ := τ) P c (.inl t)) 0)
/-- a copy from another core: outstanding from the start, then (`going`) landed, then (`over`) passed on; -/
def recvSide (c : Dev nD) (t : T) : Stage → sProp 𝕄
  | .ready => iprop(cred (tallyAt (cell (τ := τ) P c (.inr (.inl t))) () (P.amt t)) ∗ atPos ER (cell (τ := τ) P c (.inr (.inl t))) 0 ∅ 0)
  | .going => iprop(pay c (.inr (.inl t)) ∗ semVal (cell (τ := τ) P c (.inr (.inl t))) 0)
  | .over => semVal (cell (τ := τ) P c (.inr (.inl t))) 0
/-- a local copy. -/
def localSide (c : Dev nD) (l : Lc) : Stage → sProp 𝕄
  | .ready => iprop(lres c l ∗ dutyTok ER (cell (τ := τ) P c (.inr (.inr l))) 0 () ∗ atPos ER (cell (τ := τ) P c (.inr (.inr l))) 0 ∅ 0)
  | .going => iprop(cred (tallyAt (cell (τ := τ) P c (.inr (.inr l))) () (P.lamt l)) ∗ atPos ER (cell (τ := τ) P c (.inr (.inr l))) 0 ∅ 0)
  | .over => iprop(pay c (.inr (.inr l)) ∗ semVal (cell (τ := τ) P c (.inr (.inr l))) 0)

/- A completion that is due, and one that has been waited for, are read the same way in all three. -/
theorem sendSide_due (c : Dev nD) (t : T) : sendSide P pay res c t .going
    = iprop(cred (tallyAt (cell (τ := τ) P c (.inl t)) () (P.size (.inl t))) ∗ atPos ER (cell (τ := τ) P c (.inl t)) 0 ∅ 0) := rfl
theorem sendSide_done (c : Dev nD) (t : T) : sendSide P pay res c t .over = iprop(pay c (.inl t) ∗ semVal (cell (τ := τ) P c (.inl t)) 0) := rfl
theorem recvSide_due (c : Dev nD) (t : T) : recvSide P pay c t .ready
    = iprop(cred (tallyAt (cell (τ := τ) P c (.inr (.inl t))) () (P.size (.inr (.inl t)))) ∗ atPos ER (cell (τ := τ) P c (.inr (.inl t))) 0 ∅ 0) := rfl
theorem recvSide_done (c : Dev nD) (t : T) : recvSide P pay c t .going = iprop(pay c (.inr (.inl t)) ∗ semVal (cell (τ := τ) P c (.inr (.inl t))) 0) := rfl
theorem localSide_due (c : Dev nD) (l : Lc) : localSide P pay lres c l .going
    = iprop(cred (tallyAt (cell (τ := τ) P c (.inr (.inr l))) () (P.size (.inr (.inr l)))) ∗ atPos ER (cell (τ := τ) P c (.inr (.inr l))) 0 ∅ 0) := rfl
theorem localSide_done (c : Dev nD) (l : Lc) : localSide P pay lres c l .over = iprop(pay c (.inr (.inr l)) ∗ semVal (cell (τ := τ) P c (.inr (.inr l))) 0) := rfl

/-- What core `c` owes the cores it has yet to send to. -/
def owed (c : Dev nD) (σ : T → Stage) : CellTallies nD τ sig Unit :=
  ∑ t ∈ Finset.univ.filter (fun t => σ t = .ready), tallyAt (cell P (P.dest t c) (.inr (.inl t))) () (P.amt t)

/-- What core `c` holds when its copies to others, its copies from others and its local copies are at `σ`, `ρ`, `κ`,
    apart from what it owes. -/
def parts (c : Dev nD) (σ ρ : T → Stage) (κ : Lc → Stage) : sProp 𝕄 :=
  iprop((levAts L (lv P) ∗ records P pay K)
    ∗ (bigSep Finset.univ fun t => sendSide P pay res c t (σ t)) ∗ (bigSep Finset.univ fun t => recvSide P pay c t (ρ t))
    ∗ (bigSep Finset.univ fun l => localSide P pay lres c l (κ l)))
/-- The same with what it owes. -/
def hold (c : Dev nD) (σ ρ : T → Stage) (κ : Lc → Stage) : sProp 𝕄 :=
  iprop(parts P pay res lres K c σ ρ κ ∗ ∃ W, owes (c : Thread nD τ) (owed P c σ) W)

theorem inv_at (ck : Dev nD × Cell T Lc) : (records P pay K : sProp 𝕄) ⊢ (cellInv ER (sched P pay) (K ck) (cell P ck.1 ck.2) : sProp 𝕄) := by
  unfold records
  exact sep_elim_left.trans (BI.bigSep_elim (Finset.mem_univ ck))
theorem reached_at (ck : Dev nD × Cell T Lc) : (records P pay K : sProp 𝕄) ⊢ (reached ER (cell (τ := τ) P ck.1 ck.2) 0 : sProp 𝕄) := by
  unfold records
  exact sep_elim_right.trans (BI.bigSep_elim (Finset.mem_univ ck))

/-- One member of a family at its stage, and the family with that member moved on. -/
theorem take {I : Type} [Fintype I] [DecidableEq I] (Φ : I → Stage → sProp 𝕄) (σ : I → Stage) (i : I) (s : Stage) (h : σ i = s) :
    (bigSep Finset.univ fun j => Φ j (σ j)) ⊢ (iprop(Φ i s ∗ bigSep (Finset.univ.erase i) fun j => Φ j (σ j)) : sProp 𝕄) := by
  rw [bigSep_univ_at _ i, h]
theorem put {I : Type} [Fintype I] [DecidableEq I] (Φ : I → Stage → sProp 𝕄) (σ : I → Stage) (i : I) (s : Stage) :
    (iprop(Φ i s ∗ bigSep (Finset.univ.erase i) fun j => Φ j (σ j)) : sProp 𝕄) ⊢ (bigSep Finset.univ fun j => Φ j (Function.update σ i s j)) := by
  rw [bigSep_univ_at (fun j => Φ j (Function.update σ i s j)) i, Function.update_self]
  exact sep_mono_right (Entails.of_eq (bigSep_congr fun j hj => by rw [Function.update_of_ne (Finset.ne_of_mem_erase hj)]))

theorem owed_pos {c : Dev nD} {σ : T → Stage} {g : GSem nD τ sig} {u : Unit} (h : 0 < owed P c σ g u) :
    ∃ t, σ t = .ready ∧ g = cell P (P.dest t c) (.inr (.inl t)) := by
  unfold owed at h
  obtain ⟨t, ht, h⟩ := Pipeline.sum_pos_exists h
  exact ⟨t, (Finset.mem_filter.mp ht).2, (Pipeline.tallyAt_pos h).1⟩

/-- Sending `t` takes its tally off what is owed. -/
theorem owed_send (c : Dev nD) (σ : T → Stage) (t : T) (h : σ t = .ready) (s : Stage) (hs : s ≠ .ready) :
    owed (τ := τ) P c σ = owed P c (Function.update σ t s) + tallyAt (cell P (P.dest t c) (.inr (.inl t))) () (P.amt t) := by
  unfold owed
  have e : Finset.univ.filter (fun t' => σ t' = .ready) = insert t (Finset.univ.filter fun t' => Function.update σ t s t' = .ready) := by
    ext t'
    simp only [Finset.mem_filter, Finset.mem_univ, true_and, Finset.mem_insert]
    by_cases e : t' = t
    · subst e; simp [h]
    · simp [e, Function.update_of_ne e]
  rw [e, Finset.sum_insert (by simp [hs]), add_comm]
/-- No other step changes what is owed. -/
theorem owed_other (c : Dev nD) (σ : T → Stage) (t : T) (h : σ t ≠ .ready) (s : Stage) (hs : s ≠ .ready) :
    owed (τ := τ) P c (Function.update σ t s) = owed P c σ := by
  unfold owed
  refine Finset.sum_congr ?_ fun _ _ => rfl
  ext t'
  simp only [Finset.mem_filter, Finset.mem_univ, true_and]
  by_cases e : t' = t
  · subst e; simp [h, hs]
  · simp [Function.update_of_ne e]
theorem owed_none (c : Dev nD) (σ : T → Stage) (h : ∀ t, σ t ≠ .ready) : owed (τ := τ) P c σ = 0 := by
  unfold owed
  rw [Finset.filter_false_of_mem fun t _ => h t, Finset.sum_empty]

theorem may_wait (c : Dev nD) (σ : T → Stage) (k : Cell T Lc) (h : ∀ t, σ t = .ready → lv P (cell (τ := τ) P c k) () < P.level t + 1) :
    (levAts L (lv P) : sProp 𝕄) ⊢ MayWait (c : Thread nD τ) (P.sem k) () (owed P c σ) :=
  Pipeline.mayWait_of_levAts (L_tc c _) fun g u hg => by
    obtain ⟨t, ht, rfl⟩ := owed_pos P hg
    refine ⟨L_tc _ _, lt_of_lt_of_eq (h t ht) (lv_recv P _ t).symm⟩

/-! ## The operations -/

variable {P pay res lres K}
variable [∀ c k, BI.Storable (upEmb : UEmb _ (MT nD τ sig Unit Val ℕ (UX nD τ sig) ℕ)) (pay c k)]
variable {Λ : Idealize.SL.Sem.Labels} {defs : Defs nD τ sig Val Λ} {𝒱 : Variants} {α : Type} {Q : α → sProp (MT nD τ sig Unit Val ℕ (UX nD τ sig) ℕ)}
variable {c : Dev nD} {σ ρ : T → Stage} {κ : Lc → Stage}

/-- A wait for one of the core's cells, whichever it is: its payload comes, and the cell closes at zero. -/
theorem wait_cell (k : Cell T Lc) (σ : T → Stage)
    (h : ∀ t, σ t = .ready → lv P (cell (τ := τ) P c k) () < P.level t + 1)
    {sem : DmaSem sig} (hs : SemLoc.dma sem = P.sem k) {w : TpuEff nD τ sig Val Λ .tc PUnit} {n : ℕ}
    (hw : ∀ K' : PUnit → sProp 𝕄, wpE (Ix := Unit) (Name := ℕ) (U := UX nD τ sig) (Lvl := ℕ) defs 𝒱 (c : Thread nD τ) none Set.univ w K' = waitSpec (c : Thread nD τ) Set.univ (.dma sem) n K') (hn : n = P.size k)
    {kt : PUnit → Prog (TpuEff nD τ sig Val Λ .tc) α} (W : Waits sig Unit) :
    (iprop((levAts L (lv P) ∗ records P pay K) ∗ (cred (tallyAt (cell (τ := τ) P c k) () (P.size k)) ∗ atPos ER (cell (τ := τ) P c k) 0 ∅ 0)
        ∗ owes (c : Thread nD τ) (owed P c σ) W) : sProp 𝕄)
      ⊢ iprop(((∃ W', owes (c : Thread nD τ) (owed P c σ) W') ∗ pay c k ∗ semVal (cell (τ := τ) P c k) 0
            -∗ wp frame (wpE defs 𝒱 (c : Thread nD τ) none) Set.univ (kt ⟨⟩) Q)
          -∗ wp frame (wpE defs 𝒱 (c : Thread nD τ) none) Set.univ (.op w kt) Q) := by
  subst hn
  rw [hs] at hw
  iintro ⟨⟨#Hlev, #HR⟩, ⟨Hc, Hat⟩, Ho⟩ Hk
  iapply (Rounds.wp_wait_rest_token 𝒱 ER (sched P pay) (c : Thread nD τ) none (κ := K (c, k)) hw (Set.mem_univ _) ()
      (O := owed P c σ) (W := W) (R := 0) (m := 0) (T := ∅) (by rw [Nat.zero_add]; exact (expect_cell P pay c k).symm)) $$ [Hc Hat Ho]
  · isplitr; · iapply (inv_at P pay K (c, k)); iexact HR
    isplitl [Hc]; · iexact Hc
    isplitl [Ho]; · iexact Ho
    isplitr; · iapply (may_wait P c σ k h); iexact Hlev
    iexact Hat
  iintro ⟨Ho, Hat, -, Hp⟩
  ihave Hp' := (Entails.of_eq (rest_cell P pay c k)) $$ Hp
  imod (Rounds.cell_close ER (sched P pay) (Set.mem_univ (K (c, k))) (fun h => h) (R := 0 + 1) (duties_later P pay (cell P c k))) $$ [Hat] with Hz
  · isplitr; · iapply (inv_at P pay K (c, k)); iexact HR
    iexact Hat
  iapply Hk
  isplitl [Ho]; · iexists _; iexact Ho
  isplitl [Hp']; · iexact Hp'
  iexact Hz

/-- The wait for a copy's source to have been read. -/
theorem step_wait_send (t : T) (ht : σ t = .going)
    {sem : DmaSem sig} (hs : SemLoc.dma sem = P.send t) {w : TpuEff nD τ sig Val Λ .tc PUnit} {n : ℕ}
    (hw : ∀ K' : PUnit → sProp 𝕄, wpE (Ix := Unit) (Name := ℕ) (U := UX nD τ sig) (Lvl := ℕ) defs 𝒱 (c : Thread nD τ) none Set.univ w K' = waitSpec (c : Thread nD τ) Set.univ (.dma sem) n K') (hn : n = P.amt t)
    {kt : PUnit → Prog (TpuEff nD τ sig Val Λ .tc) α}
    (hk : hold P pay res lres K c (Function.update σ t .over) ρ κ ⊢ wp frame (wpE defs 𝒱 (c : Thread nD τ) none) Set.univ (kt ⟨⟩) Q) :
    hold P pay res lres K c σ ρ κ ⊢ wp frame (wpE defs 𝒱 (c : Thread nD τ) none) Set.univ (.op w kt) Q := by
  unfold hold parts
  iintro ⟨⟨#HR, Hs, Hr, Hl⟩, ⟨%W, Ho⟩⟩
  ihave Hs' := (take (sendSide P pay res c) σ t .going ht) $$ Hs
  icases Hs' with ⟨Ht, Hs⟩
  iapply (wait_cell (K := K) (pay := pay) (.inl t) σ (fun t' _ => by rw [show cell (τ := τ) P c (.inl t) = ((c : Thread nD τ), P.send t) from rfl, lv_send]; omega) hs hw hn W) $$ [Ht Ho]
  · isplitr; · iexact HR
    isplitl [Ht]; · iapply (Entails.of_eq (sendSide_due P pay res c t)) $$ Ht
    iexact Ho
  iintro ⟨Ho, Ht⟩
  iapply hk
  unfold hold parts
  rw [owed_other P c σ t (by rw [ht]; decide) .over (by decide)]
  isplitr [Ho]
  · isplitr; · iexact HR
    isplitl [Hs Ht]
    · iapply (put (sendSide P pay res c) σ t .over)
      isplitl [Ht]; · iapply (Entails.of_eq (sendSide_done P pay res c t).symm) $$ Ht
      iexact Hs
    isplitl [Hr]; · iexact Hr
    iexact Hl
  iexact Ho

/-- The wait for a copy from another core to have landed. -/
theorem step_wait_recv (t : T) (ht : ρ t = .ready) (hlev : ∀ t', σ t' = .ready → P.level t < P.level t')
    {sem : DmaSem sig} (hs : SemLoc.dma sem = P.recv t) {w : TpuEff nD τ sig Val Λ .tc PUnit} {n : ℕ}
    (hw : ∀ K' : PUnit → sProp 𝕄, wpE (Ix := Unit) (Name := ℕ) (U := UX nD τ sig) (Lvl := ℕ) defs 𝒱 (c : Thread nD τ) none Set.univ w K' = waitSpec (c : Thread nD τ) Set.univ (.dma sem) n K') (hn : n = P.amt t)
    {kt : PUnit → Prog (TpuEff nD τ sig Val Λ .tc) α}
    (hk : hold P pay res lres K c σ (Function.update ρ t .going) κ ⊢ wp frame (wpE defs 𝒱 (c : Thread nD τ) none) Set.univ (kt ⟨⟩) Q) :
    hold P pay res lres K c σ ρ κ ⊢ wp frame (wpE defs 𝒱 (c : Thread nD τ) none) Set.univ (.op w kt) Q := by
  unfold hold parts
  iintro ⟨⟨#HR, Hs, Hr, Hl⟩, ⟨%W, Ho⟩⟩
  ihave Hr' := (take (recvSide P pay c) ρ t .ready ht) $$ Hr
  icases Hr' with ⟨Ht, Hr⟩
  iapply (wait_cell (K := K) (pay := pay) (.inr (.inl t)) σ (fun t' h' => by
      rw [show cell (τ := τ) P c (.inr (.inl t)) = ((c : Thread nD τ), P.recv t) from rfl, lv_recv]; exact Nat.succ_lt_succ (hlev t' h')) hs hw hn W) $$ [Ht Ho]
  · isplitr; · iexact HR
    isplitl [Ht]; · iapply (Entails.of_eq (recvSide_due P pay c t)) $$ Ht
    iexact Ho
  iintro ⟨Ho, Ht⟩
  iapply hk
  unfold hold parts
  isplitr [Ho]
  · isplitr; · iexact HR
    isplitl [Hs]; · iexact Hs
    isplitl [Hr Ht]
    · iapply (put (recvSide P pay c) ρ t .going)
      isplitl [Ht]; · iapply (Entails.of_eq (recvSide_done P pay c t).symm) $$ Ht
      iexact Hr
    iexact Hl
  iexact Ho

/-- The wait for a local copy. -/
theorem step_wait_local (l : Lc) (hl : κ l = .going)
    {sem : DmaSem sig} (hs : SemLoc.dma sem = P.loc l) {w : TpuEff nD τ sig Val Λ .tc PUnit} {n : ℕ}
    (hw : ∀ K' : PUnit → sProp 𝕄, wpE (Ix := Unit) (Name := ℕ) (U := UX nD τ sig) (Lvl := ℕ) defs 𝒱 (c : Thread nD τ) none Set.univ w K' = waitSpec (c : Thread nD τ) Set.univ (.dma sem) n K') (hn : n = P.lamt l)
    {kt : PUnit → Prog (TpuEff nD τ sig Val Λ .tc) α}
    (hk : hold P pay res lres K c σ ρ (Function.update κ l .over) ⊢ wp frame (wpE defs 𝒱 (c : Thread nD τ) none) Set.univ (kt ⟨⟩) Q) :
    hold P pay res lres K c σ ρ κ ⊢ wp frame (wpE defs 𝒱 (c : Thread nD τ) none) Set.univ (.op w kt) Q := by
  unfold hold parts
  iintro ⟨⟨#HR, Hs, Hr, Hl⟩, ⟨%W, Ho⟩⟩
  ihave Hl' := (take (localSide P pay lres c) κ l .going hl) $$ Hl
  icases Hl' with ⟨Ht, Hl⟩
  iapply (wait_cell (K := K) (pay := pay) (.inr (.inr l)) σ (fun t' _ => by rw [show cell (τ := τ) P c (.inr (.inr l)) = ((c : Thread nD τ), P.loc l) from rfl, lv_loc]; omega) hs hw hn W) $$ [Ht Ho]
  · isplitr; · iexact HR
    isplitl [Ht]; · iapply (Entails.of_eq (localSide_due P pay lres c l)) $$ Ht
    iexact Ho
  iintro ⟨Ho, Ht⟩
  iapply hk
  unfold hold parts
  isplitr [Ho]
  · isplitr; · iexact HR
    isplitl [Hs]; · iexact Hs
    isplitl [Hr]; · iexact Hr
    iapply (put (localSide P pay lres c) κ l .over)
    isplitl [Ht]; · iapply (Entails.of_eq (localSide_done P pay lres c l).symm) $$ Ht
    iexact Hl
  iexact Ho

/-- The start of a local copy. -/
theorem step_copy (l : Lc) (hl : κ l = .ready)
    {s : Shape} {e : EltTy} {sp sp' : Space} {src : Memref sig .tc sp s e} {dst : Memref sig .tc sp' s e} {sem : SemLoc sig} (hs : sem = P.loc l)
    {hsrc : src.view.WordExact} {hdst : dst.view.WordExact} {hsem : DmaTarget.Typed (nD := nD) (τ := τ) (p := .tc) sp sem (.here dst)}
    (q : PosShare TreeShare) (fs : Buf Val (src.view.loc (c : Thread nD τ)))
    (hn : dst.view.amount sem = P.lamt l)
    (hres : lres c l ⊢ (iprop((src.view.loc (c : Thread nD τ) ↦[src.view.set]{q} fs)
        ∗ ∃ fd, dst.view.loc (c : Thread nD τ) ↦[dst.view.set]{fullShare} fd) : sProp 𝕄))
    (hpay : ∀ fd, (iprop((dst.view.loc (c : Thread nD τ) ↦[dst.view.set]{fullShare} (dst.view.write Val fd (src.view.read Val fs) Finset.univ))
        ∗ (src.view.loc (c : Thread nD τ) ↦[src.view.set]{q} fs)) : sProp 𝕄) ⊢ pay c (.inr (.inr l)))
    {kt : PUnit → Prog (TpuEff nD τ sig Val Λ .tc) α}
    (hk : hold P pay res lres K c σ ρ (Function.update κ l .going) ⊢ wp frame (wpE defs 𝒱 (c : Thread nD τ) none) Set.univ (kt ⟨⟩) Q) :
    hold P pay res lres K c σ ρ κ ⊢ wp frame (wpE defs 𝒱 (c : Thread nD τ) none) Set.univ (.op (.enqueueDma src (.here dst) sem hsrc hdst hsem) kt) Q := by
  subst hs
  unfold hold parts
  iintro ⟨⟨⟨#Hlev, #HR⟩, Hs, Hr, Hl⟩, Ho⟩
  ihave Hl' := (take (localSide P pay lres c) κ l .ready hl) $$ Hl
  icases Hl' with ⟨Ht, Hl⟩
  unfold localSide
  icases Ht with ⟨Hres, Htok, Hat⟩
  ihave Hres' := hres $$ Hres
  icases Hres' with ⟨Hsrc, ⟨%fd, Hdst⟩⟩
  iapply (Rounds.wp_copy_pointsTo 𝒱 ER (sched P pay) (c : Thread nD τ) none (κ := K (c, .inr (.inr l))) (r := 0) (d := ()) (fd := fd) (fs := fs) (q := q)
      (duty_mem P pay c (.inr (.inr l))) () (P.lamt l) hn (amount_cell P pay c (.inr (.inr l)) ())
      ((hpay fd).trans (Entails.of_eq (payload_cell P pay c (.inr (.inr l)) ()).symm))) $$ [Hsrc Hdst Htok]
  · isplitr; · iapply (inv_at P pay K (c, .inr (.inr l))); iexact HR
    isplitl [Hsrc]; · iexact Hsrc
    isplitl [Hdst]; · iexact Hdst
    isplitl [Htok]; · iexact Htok
    iapply (reached_at P pay K (c, .inr (.inr l))); iexact HR
  iintro Hc
  iapply hk
  unfold hold parts
  isplitr [Ho]
  · isplitr
    · isplitr; · iexact Hlev
      iexact HR
    isplitl [Hs]; · iexact Hs
    isplitl [Hr]; · iexact Hr
    iapply (put (localSide P pay lres c) κ l .going)
    isplitl [Hc Hat]
    · unfold localSide
      isplitl [Hc]; · iexact Hc
      iexact Hat
    unfold localSide
    iexact Hl
  iexact Ho

/-- The start of a copy to another core, part of what it needs (`X`) taken from what has landed. -/
theorem step_send_with (t : T) (ht : σ t = .ready) (ρ' : T → Stage) (X : sProp 𝕄)
    (hX : (bigSep Finset.univ fun t => recvSide P pay c t (ρ t)) ⊢ (iprop(X ∗ bigSep Finset.univ fun t => recvSide P pay c t (ρ' t)) : sProp 𝕄))
    {n : Dev nD} (hto : n = P.dest t c)
    {s : Shape} {e : EltTy} {sp sp' : Space} {src : Memref sig .tc sp s e} {dst : Memref sig .tc sp' s e}
    {hsc : dst.view.ref.isScScratch = false} {sS sem : SemLoc sig} (hs : sS = P.send t) (hr : sem = P.recv t)
    {hsrc : src.view.WordExact} {hdst : dst.view.WordExact} {hsem : DmaTarget.Typed sp sem (.remote (n : Thread nD τ) dst sS hsc)}
    (q : PosShare TreeShare) (fs : Buf Val (src.view.loc (c : Thread nD τ)))
    (hn : dst.view.amount sem = P.amt t)
    (hres : iprop(res c t ∗ X) ⊢ (iprop((src.view.loc (c : Thread nD τ) ↦[src.view.set]{q} fs)
        ∗ ∃ fd, dst.view.loc (P.dest t c : Thread nD τ) ↦[dst.view.set]{fullShare} fd) : sProp 𝕄))
    (hsent : (src.view.loc (c : Thread nD τ) ↦[src.view.set]{q} fs : sProp 𝕄) ⊢ pay c (.inl t))
    (hgot : ∀ fd, (dst.view.loc (P.dest t c : Thread nD τ) ↦[dst.view.set]{fullShare} (dst.view.write Val fd (src.view.read Val fs) Finset.univ) : sProp 𝕄)
        ⊢ pay (P.dest t c) (.inr (.inl t)))
    {kt : PUnit → Prog (TpuEff nD τ sig Val Λ .tc) α}
    (hk : hold P pay res lres K c (Function.update σ t .going) ρ' κ ⊢ wp frame (wpE defs 𝒱 (c : Thread nD τ) none) Set.univ (kt ⟨⟩) Q) :
    hold P pay res lres K c σ ρ κ
      ⊢ wp frame (wpE defs 𝒱 (c : Thread nD τ) none) Set.univ (.op (.enqueueDma src (.remote (n : Thread nD τ) dst sS hsc) sem hsrc hdst hsem) kt) Q := by
  subst hs hr hto
  unfold hold parts
  iintro ⟨⟨⟨#Hlev, #HR⟩, Hs, Hr, Hl⟩, ⟨%W, Ho⟩⟩
  ihave Hs' := (take (sendSide P pay res c) σ t .ready ht) $$ Hs
  icases Hs' with ⟨Ht, Hs⟩
  ihave Hr' := hX $$ Hr
  icases Hr' with ⟨HX, Hr⟩
  unfold sendSide
  icases Ht with ⟨Hres, Htok, Htok', Hat⟩
  ihave Hres' := hres $$ [Hres HX]
  · isplitl [Hres]; · iexact Hres
    iexact HX
  icases Hres' with ⟨Hsrc, ⟨%fd, Hdst⟩⟩
  iapply (Rounds.wp_send_pointsTo 𝒱 ER (sched P pay) (c : Thread nD τ) none (κ₁ := K (c, .inl t)) (κ₂ := K (P.dest t c, .inr (.inl t)))
      (r₁ := 0) (r₂ := 0) (d₁ := ()) (d₂ := ()) (fd := fd) (fs := fs) (q := q)
      (duty_mem P pay c (.inl t)) (duty_mem P pay (P.dest t c) (.inr (.inl t))) () () (P.amt t) hn
      (amount_cell P pay c (.inl t) ()) (amount_cell P pay (P.dest t c) (.inr (.inl t)) ()) (owed P c (Function.update σ t .going))
      (owed_send P c σ t ht .going (by decide)) (W := W)
      (hsent.trans (Entails.of_eq (payload_cell P pay c (.inl t) ()).symm))
      ((hgot fd).trans (Entails.of_eq (payload_cell P pay (P.dest t c) (.inr (.inl t)) ()).symm))) $$ [Hsrc Hdst Htok Htok' Ho]
  · isplitr; · iapply (inv_at P pay K (c, .inl t)); iexact HR
    isplitr; · iapply (inv_at P pay K (P.dest t c, .inr (.inl t))); iexact HR
    isplitl [Hsrc]; · iexact Hsrc
    isplitl [Hdst]; · iexact Hdst
    isplitl [Ho]; · iexact Ho
    isplitl [Htok]; · iexact Htok
    isplitr; · iapply (reached_at P pay K (c, .inl t)); iexact HR
    isplitl [Htok']; · iexact Htok'
    iapply (reached_at P pay K (P.dest t c, .inr (.inl t))); iexact HR
  iintro ⟨Hc, Ho⟩
  iapply hk
  unfold hold parts
  isplitr [Ho]
  · isplitr
    · isplitr; · iexact Hlev
      iexact HR
    isplitl [Hs Hc Hat]
    · iapply (put (sendSide P pay res c) σ t .going)
      isplitl [Hc Hat]
      · unfold sendSide
        isplitl [Hc]; · iexact Hc
        iexact Hat
      unfold sendSide
      iexact Hs
    isplitl [Hr]; · iexact Hr
    iexact Hl
  iexists W; iexact Ho

/-- The start of a copy to another core. -/
theorem step_send (t : T) (ht : σ t = .ready)
    {n : Dev nD} (hto : n = P.dest t c)
    {s : Shape} {e : EltTy} {sp sp' : Space} {src : Memref sig .tc sp s e} {dst : Memref sig .tc sp' s e}
    {hsc : dst.view.ref.isScScratch = false} {sS sem : SemLoc sig} (hs : sS = P.send t) (hr : sem = P.recv t)
    {hsrc : src.view.WordExact} {hdst : dst.view.WordExact} {hsem : DmaTarget.Typed sp sem (.remote (n : Thread nD τ) dst sS hsc)}
    (q : PosShare TreeShare) (fs : Buf Val (src.view.loc (c : Thread nD τ)))
    (hn : dst.view.amount sem = P.amt t)
    (hres : res c t ⊢ (iprop((src.view.loc (c : Thread nD τ) ↦[src.view.set]{q} fs)
        ∗ ∃ fd, dst.view.loc (P.dest t c : Thread nD τ) ↦[dst.view.set]{fullShare} fd) : sProp 𝕄))
    (hsent : (src.view.loc (c : Thread nD τ) ↦[src.view.set]{q} fs : sProp 𝕄) ⊢ pay c (.inl t))
    (hgot : ∀ fd, (dst.view.loc (P.dest t c : Thread nD τ) ↦[dst.view.set]{fullShare} (dst.view.write Val fd (src.view.read Val fs) Finset.univ) : sProp 𝕄)
        ⊢ pay (P.dest t c) (.inr (.inl t)))
    {kt : PUnit → Prog (TpuEff nD τ sig Val Λ .tc) α}
    (hk : hold P pay res lres K c (Function.update σ t .going) ρ κ ⊢ wp frame (wpE defs 𝒱 (c : Thread nD τ) none) Set.univ (kt ⟨⟩) Q) :
    hold P pay res lres K c σ ρ κ
      ⊢ wp frame (wpE defs 𝒱 (c : Thread nD τ) none) Set.univ (.op (.enqueueDma src (.remote (n : Thread nD τ) dst sS hsc) sem hsrc hdst hsem) kt) Q :=
  step_send_with t ht ρ iprop(emp) (emp_sep (PROP := sProp 𝕄)).2 hto hs hr q fs hn ((sep_emp (PROP := sProp 𝕄)).1.trans hres) hsent hgot hk

/-- The start of a copy that passes on what copy `t'` brought. -/
theorem step_pass (t : T) (ht : σ t = .ready) (t' : T) (ht' : ρ t' = .going)
    {n : Dev nD} (hto : n = P.dest t c)
    {s : Shape} {e : EltTy} {sp sp' : Space} {src : Memref sig .tc sp s e} {dst : Memref sig .tc sp' s e}
    {hsc : dst.view.ref.isScScratch = false} {sS sem : SemLoc sig} (hs : sS = P.send t) (hr : sem = P.recv t)
    {hsrc : src.view.WordExact} {hdst : dst.view.WordExact} {hsem : DmaTarget.Typed sp sem (.remote (n : Thread nD τ) dst sS hsc)}
    (q : PosShare TreeShare) (fs : Buf Val (src.view.loc (c : Thread nD τ)))
    (hn : dst.view.amount sem = P.amt t)
    (hres : iprop(res c t ∗ pay c (.inr (.inl t'))) ⊢ (iprop((src.view.loc (c : Thread nD τ) ↦[src.view.set]{q} fs)
        ∗ ∃ fd, dst.view.loc (P.dest t c : Thread nD τ) ↦[dst.view.set]{fullShare} fd) : sProp 𝕄))
    (hsent : (src.view.loc (c : Thread nD τ) ↦[src.view.set]{q} fs : sProp 𝕄) ⊢ pay c (.inl t))
    (hgot : ∀ fd, (dst.view.loc (P.dest t c : Thread nD τ) ↦[dst.view.set]{fullShare} (dst.view.write Val fd (src.view.read Val fs) Finset.univ) : sProp 𝕄)
        ⊢ pay (P.dest t c) (.inr (.inl t)))
    {kt : PUnit → Prog (TpuEff nD τ sig Val Λ .tc) α}
    (hk : hold P pay res lres K c (Function.update σ t .going) (Function.update ρ t' .over) κ ⊢ wp frame (wpE defs 𝒱 (c : Thread nD τ) none) Set.univ (kt ⟨⟩) Q) :
    hold P pay res lres K c σ ρ κ
      ⊢ wp frame (wpE defs 𝒱 (c : Thread nD τ) none) Set.univ (.op (.enqueueDma src (.remote (n : Thread nD τ) dst sS hsc) sem hsrc hdst hsem) kt) Q :=
  step_send_with t ht (Function.update ρ t' .over) (pay c (.inr (.inl t')))
    ((take (recvSide P pay c) ρ t' .going ht').trans (by
      iintro ⟨Ht, Hr⟩
      unfold recvSide
      icases Ht with ⟨Hp, Hz⟩
      isplitl [Hp]; · iexact Hp
      iapply (put (recvSide P pay c) ρ t' .over)
      isplitl [Hz]; · unfold recvSide; iexact Hz
      unfold recvSide; iexact Hr))
    hto hs hr q fs hn hres hsent hgot hk

end Hold

end Cert.Exchange

end
-- ==== Proof.Deal.lean ====
/-
# The launch of a kernel that only moves data

`run_exchange`: what a program whose `@main` is one such kernel (`Exchange.lean`) does, from a proof of its body at one
core. Before the launch every core's buffers are split into what it keeps, what each of its copies reads, and what each
copy from another core writes; the last are dealt to the cores that send those copies.
-/
module

public import proofs.«01_k».proof.Proof.Exchange

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {T Lc : Type}
variable [Fintype T] [DecidableEq T] [Fintype Lc] [DecidableEq Lc]

local notation "𝕄" => MT nD τ sig Unit Val ℕ (UX nD τ sig) ℕ

variable (P : Plan nD sig T Lc) (pay : Dev nD → Cell T Lc → sProp (MT nD τ sig Unit Val ℕ (UX nD τ sig) ℕ))
variable (src into : Dev nD → T → sProp (MT nD τ sig Unit Val ℕ (UX nD τ sig) ℕ)) (lres : Dev nD → Lc → sProp (MT nD τ sig Unit Val ℕ (UX nD τ sig) ℕ))
variable (keep : Dev nD → sProp (MT nD τ sig Unit Val ℕ (UX nD τ sig) ℕ))

/-- What core `c` needs to start its copy `t`: what it reads, and what it writes on the core it goes to. -/
def need (c : Dev nD) (t : T) : sProp 𝕄 := iprop(src c t ∗ into (P.dest t c) t)

theorem cell_injective : Function.Injective (fun ck : Dev nD × Cell T Lc => cell (τ := τ) P ck.1 ck.2) := by
  rintro ⟨c, k⟩ ⟨c', k'⟩ h
  have h1 : c = c' := congrArg (fun g : GSem nD τ sig => g.1.1) h
  have h2 : k = k' := P.inj (congrArg Prod.snd h)
  rw [h1, h2]

/-- All the kernel's cells, -/
def allCells : Finset (GSem nD τ sig) := Finset.univ.map ⟨fun ck : Dev nD × Cell T Lc => cell P ck.1 ck.2, cell_injective P⟩
/-- and the one contribution to each. -/
def allToks : Finset (GSem nD τ sig × ℕ × Unit) :=
  Finset.univ.map ⟨fun ck : Dev nD × Cell T Lc => (cell P ck.1 ck.2, 0, ()), fun _ _ h => cell_injective P (congrArg Prod.fst h)⟩

/-- What the rounds give core `c` at launch. -/
def funds (c : Dev nD) : sProp 𝕄 :=
  iprop((bigSep Finset.univ fun k => roundState ER (sched P pay) (cell P c k) 0)
    ∗ (bigSep Finset.univ fun k => atPos ER (cell (τ := τ) P c k) 0 ∅ 0) ∗ (bigSep Finset.univ fun k => reached ER (cell (τ := τ) P c k) 0)
    ∗ (bigSep Finset.univ fun k => dutyTok ER (cell (τ := τ) P c k) 0 ()))

theorem fund_all : (BI.own (ER (initOf (allCells P) (allToks P))) : sProp 𝕄) ⊢ |==> bigSep Finset.univ (funds P pay) := by
  have hX (Φ : GSem nD τ sig → sProp 𝕄) :
      bigSep (allCells P) Φ = bigSep Finset.univ fun c : Dev nD => bigSep Finset.univ fun k => Φ (cell P c k) := by
    unfold allCells; rw [bigSep_map, bigSep_univ_prod]; rfl
  have hT : bigSep (allToks P) (fun x => (dutyTok ER x.1 x.2.1 x.2.2 : sProp 𝕄))
      = bigSep Finset.univ fun c : Dev nD => bigSep Finset.univ fun k => dutyTok ER (cell P c k) 0 () := by
    unfold allToks; rw [bigSep_map, bigSep_univ_prod]; rfl
  iintro H
  imod (Rounds.fund ER (sched P pay) (allCells P) (allToks P)) $$ H with ⟨Hst, Hr, Hat, Ht⟩
  imodintro
  ihave Hst' := (Entails.of_eq (hX fun g => roundState ER (sched P pay) g 0)) $$ Hst
  ihave Hat' := (Entails.of_eq (hX fun g => atPos ER g 0 ∅ 0)) $$ Hat
  ihave Hr' := (Entails.of_eq (hX fun g => reached ER g 0)) $$ Hr
  ihave Ht' := (Entails.of_eq hT) $$ Ht
  unfold funds; simp only [bigSep_sep']
  isplitl [Hst']; · iexact Hst'
  isplitl [Hat']; · iexact Hat'
  isplitl [Hr']; · iexact Hr'
  iexact Ht'

/-- A family over the cells, by kinds. -/
theorem by_kind (Φ : Cell T Lc → sProp 𝕄) :
    bigSep Finset.univ Φ = iprop((bigSep Finset.univ fun t => Φ (.inl t)) ∗ (bigSep Finset.univ fun t => Φ (.inr (.inl t))) ∗ (bigSep Finset.univ fun l => Φ (.inr (.inr l)))) := by
  have h : bigSep Finset.univ Φ = iprop((bigSep Finset.univ fun t => Φ (.inl t)) ∗ (bigSep Finset.univ fun k => Φ (.inr k))) := BI.bigSep_univ_sum Φ
  have h' : (bigSep Finset.univ fun k : T ⊕ Lc => Φ (.inr k)) = iprop((bigSep Finset.univ fun t => Φ (.inr (.inl t))) ∗ (bigSep Finset.univ fun l => Φ (.inr (.inr l)))) :=
    BI.bigSep_univ_sum fun k => Φ (.inr k)
  rw [h, h']

/-- A family over cores and copies, each member moved from the core a copy goes to to the one it comes from. -/
theorem to_senders (Φ : Dev nD → T → sProp 𝕄) :
    (bigSep Finset.univ fun c => bigSep Finset.univ fun t => Φ c t) = bigSep Finset.univ fun c => bigSep Finset.univ fun t => Φ (P.dest t c) t := by
  rw [← bigSep_univ_prod (fun ct : Dev nD × T => Φ ct.1 ct.2), ← bigSep_univ_prod (fun ct : Dev nD × T => Φ (P.dest ct.2 ct.1) ct.2)]
  exact bigSep_univ_equiv
    (⟨fun ct => (P.dest ct.2 ct.1, ct.2), fun ct => ((P.dest ct.2).symm ct.1, ct.2), fun _ => by simp, fun _ => by simp⟩ : Dev nD × T ≃ Dev nD × T)
    fun ct => Φ ct.1 ct.2

/-- What core `c` starts from, what it is owed apart. -/
def dealt (K : Dev nD × Cell T Lc → ℕ) (c : Dev nD) : sProp 𝕄 :=
  iprop(records P pay K ∗ keep c ∗ (bigSep Finset.univ fun t => need P src into c t) ∗ (bigSep Finset.univ fun l => lres c l)
    ∗ (bigSep Finset.univ fun k => atPos ER (cell (τ := τ) P c k) 0 ∅ 0)
    ∗ (bigSep Finset.univ fun t => dutyTok ER (cell (τ := τ) P c (.inl t)) 0 ())
    ∗ (bigSep Finset.univ fun t => dutyTok ER (cell (τ := τ) P (P.dest t c) (.inr (.inl t))) 0 ())
    ∗ (bigSep Finset.univ fun l => dutyTok ER (cell (τ := τ) P c (.inr (.inr l))) 0 ()))

variable [∀ c k, BI.Storable (upEmb : UEmb _ (MT nD τ sig Unit Val ℕ (UX nD τ sig) ℕ)) (pay c k)]

theorem deal (m : (ℓ : Loc nD τ sig) → Buf Val ℓ)
    (hmem : ∀ c, (unscopedBufs c (fun b => m ((c.tc : Thread nD τ).loc b)) : sProp 𝕄)
      ⊢ iprop(keep c ∗ (bigSep Finset.univ fun t => src c t) ∗ (bigSep Finset.univ fun t => into c t) ∗ (bigSep Finset.univ fun l => lres c l))) :
    (bigSep Finset.univ fun c => iprop(ownSems0 P.sem c ∗ unscopedBufs c (fun b => m ((c.tc : Thread nD τ).loc b)) ∗ funds P pay c) : sProp 𝕄)
      ⊢ |={Set.univ}=> bigSep Finset.univ fun c => iprop(∃ K, dealt P pay src into lres keep K c) := by
  have hM : (bigSep Finset.univ fun c => (unscopedBufs c (fun b => m ((c.tc : Thread nD τ).loc b)) : sProp 𝕄)) ⊢ (_ : sProp 𝕄) := bigSep_mono fun c _ => hmem c
  have hI : (iprop((bigSep Finset.univ fun c : Dev nD => ownSems0 P.sem c)
        ∗ bigSep Finset.univ fun c : Dev nD => bigSep Finset.univ fun k => roundState ER (sched P pay) (cell P c k) 0) : sProp 𝕄)
      ⊢ |={Set.univ}=> iprop(∃ K : Dev nD × Cell T Lc → ℕ, bigSep Finset.univ fun ck => cellInv ER (sched P pay) (K ck) (cell P ck.1 ck.2)) := by
    have h1 : (iprop((bigSep Finset.univ fun c : Dev nD => ownSems0 P.sem c)
        ∗ bigSep Finset.univ fun c : Dev nD => bigSep Finset.univ fun k => roundState ER (sched P pay) (cell P c k) 0) : sProp 𝕄)
        = bigSep Finset.univ fun ck : Dev nD × Cell T Lc => iprop(semVal (cell (τ := τ) P ck.1 ck.2) 0 ∗ roundState ER (sched P pay) (cell P ck.1 ck.2) 0) := by
      rw [bigSep_sep', bigSep_univ_prod, bigSep_univ_prod]; rfl
    rw [h1]
    iintro H
    have h2 : (bigSep Finset.univ fun ck : Dev nD × Cell T Lc => iprop(semVal (cell (τ := τ) P ck.1 ck.2) 0 ∗ roundState ER (sched P pay) (cell P ck.1 ck.2) 0) : sProp 𝕄)
        ⊢ |={Set.univ}=> bigSep Finset.univ fun ck : Dev nD × Cell T Lc => iprop(∃ κ : ℕ, cellInv ER (sched P pay) κ (cell P ck.1 ck.2)) :=
      (bigSep_mono fun ck _ => (Rounds.body_intro ER (sched P pay) (cell P ck.1 ck.2)).trans inv_alloc).trans (bigSep_fupd _ _)
    imod h2 $$ H with H
    imodintro
    iapply (BI.bigSep_exists_pi Finset.univ (fun (ck : Dev nD × Cell T Lc) (κ : ℕ) => (cellInv ER (sched P pay) κ (cell P ck.1 ck.2) : sProp 𝕄))) $$ H
  rw [bigSep_sep', bigSep_sep']
  unfold funds
  rw [bigSep_sep', bigSep_sep', bigSep_sep']
  iintro ⟨Hz, Hm, Hst, Hat, Hr, Ht⟩
  imod hI $$ [Hz Hst] with ⟨%K, #HI⟩
  · isplitl [Hz] <;> iassumption
  imodintro
  ihave Hm' := hM $$ Hm
  ihave Hr' := (Entails.of_eq (bigSep_univ_prod fun ck : Dev nD × Cell T Lc => (reached ER (cell (τ := τ) P ck.1 ck.2) 0 : sProp 𝕄)).symm) $$ Hr
  ihave Hm'' := (Entails.of_eq (bigSep_sep' _ _ _)) $$ Hm'
  icases Hm'' with ⟨Hkeep, Hm⟩
  ihave Hm' := (Entails.of_eq (bigSep_sep' _ _ _)) $$ Hm
  icases Hm' with ⟨Hsrc, Hm⟩
  ihave Hm' := (Entails.of_eq (bigSep_sep' _ _ _)) $$ Hm
  icases Hm' with ⟨Hinto, Hloc⟩
  ihave Hinto' := (Entails.of_eq (to_senders P into)) $$ Hinto
  ihave Ht' := (Entails.of_eq (bigSep_congr (s := Finset.univ) fun (c : Dev nD) _ => by_kind fun k => (dutyTok ER (cell (τ := τ) P c k) 0 () : sProp 𝕄))) $$ Ht
  ihave Ht := (Entails.of_eq (bigSep_sep' _ _ _)) $$ Ht'
  icases Ht with ⟨Hts, Ht⟩
  ihave Ht' := (Entails.of_eq (bigSep_sep' _ _ _)) $$ Ht
  icases Ht' with ⟨Htr, Htl⟩
  ihave Htr' := (Entails.of_eq (to_senders P fun c t => (dutyTok ER (cell (τ := τ) P c (.inr (.inl t))) 0 () : sProp 𝕄))) $$ Htr
  icases Hr' with #Hr
  iapply (bigSep_with_persistent (R := records P pay K) (Φ := fun c => iprop(keep c ∗ ((bigSep Finset.univ fun t => src c t) ∗ (bigSep Finset.univ fun t => into (P.dest t c) t)) ∗ (bigSep Finset.univ fun l => lres c l)
    ∗ (bigSep Finset.univ fun k => atPos ER (cell (τ := τ) P c k) 0 ∅ 0)
    ∗ (bigSep Finset.univ fun t => dutyTok ER (cell (τ := τ) P c (.inl t)) 0 ())
    ∗ (bigSep Finset.univ fun t => dutyTok ER (cell (τ := τ) P (P.dest t c) (.inr (.inl t))) 0 ())
    ∗ (bigSep Finset.univ fun l => dutyTok ER (cell (τ := τ) P c (.inr (.inr l))) 0 ()))) fun c _ => by
      iintro H
      iexists K
      unfold dealt need
      rw [bigSep_sep']
      iexact H)
  isplitr
  · unfold records; isplitr; · iexact HI
    iexact Hr
  simp only [bigSep_sep']
  isplitl [Hkeep]; · iexact Hkeep
  isplitl [Hsrc Hinto']
  · isplitl [Hsrc]; · iexact Hsrc
    iexact Hinto'
  isplitl [Hloc]; · iexact Hloc
  isplitl [Hat]; · iexact Hat
  isplitl [Hts]; · iexact Hts
  isplitl [Htr']; · iexact Htr'
  iexact Htl

/-- Nothing begun. -/
abbrev fresh {I : Type} : I → Stage := fun _ => .ready
/-- All over. -/
abbrev ended {I : Type} : I → Stage := fun _ => .over

/-- What every core is owed at launch: each copy that comes to it. -/
theorem credit (c : Dev nD) :
    (launchCred (fun d => owed P d fresh) c : sProp 𝕄)
      ⊢ bigSep Finset.univ fun t => cred (tallyAt (cell (τ := τ) P c (.inr (.inl t))) () (P.amt t)) := by
  have e : (fun d => owed (τ := τ) P d fresh) = fun d => ∑ t ∈ Finset.univ, tallyAt (cell (τ := τ) P (P.dest t d) (.inr (.inl t))) () (P.amt t) := by
    funext d; unfold owed; rw [Finset.filter_true_of_mem fun _ _ => rfl]
  rw [e, launchCred_sum]
  exact bigSep_mono fun t _ => launchCred_tallyAt (P.recv t) (P.dest t) (P.dest t).symm (P.dest t).apply_symm_apply (P.dest t).symm_apply_apply () (P.amt t) c

/-- The start of core `c`'s body. -/
def begun (c : Dev nD) : sProp 𝕄 := iprop(∃ K, parts P pay (need P src into) lres K c fresh fresh fresh)

theorem begin_ (c : Dev nD) :
    (iprop(levAts L (lv P) ∗ launchCred (fun d => owed P d fresh) c ∗ ∃ K, dealt P pay src into lres keep K c) : sProp 𝕄)
      ⊢ |={Set.univ}=> iprop(begun P pay src into lres c ∗ keep c) := by
  iintro ⟨Hlev, Hc, ⟨%K, Hd⟩⟩
  ihave Hc' := (credit P c) $$ Hc
  unfold dealt
  icases Hd with ⟨HR, Hkeep, Hn, Hl, Hat, Hts, Htr, Htl⟩
  ihave Hat' := (Entails.of_eq (by_kind fun k => (atPos ER (cell (τ := τ) P c k) 0 ∅ 0 : sProp 𝕄))) $$ Hat
  icases Hat' with ⟨Has, Har, Hal⟩
  imodintro
  isplitr [Hkeep]
  · unfold begun
    iexists K
    unfold parts fresh sendSide recvSide localSide
    simp only [bigSep_sep']
    isplitl [Hlev HR]
    · isplitl [Hlev]; · iexact Hlev
      iexact HR
    isplitl [Hn Hts Htr Has]
    · isplitl [Hn]; · iexact Hn
      isplitl [Hts]; · iexact Hts
      isplitl [Htr]; · iexact Htr
      iexact Has
    isplitl [Hc' Har]
    · isplitl [Hc']; · iexact Hc'
      iexact Har
    isplitl [Hl]; · iexact Hl
    isplitl [Htl]; · iexact Htl
    iexact Hal
  iexact Hkeep

/-- What has landed on core `c` and has not been passed on. -/
def landed (ρ : T → Stage) (c : Dev nD) (t : T) : sProp 𝕄 := if ρ t = .going then pay c (.inr (.inl t)) else iprop(emp)

/-- The end of core `c`'s body: what its copies read, what landed and stayed, what its local copies moved. -/
def finished (ρ : T → Stage) (c : Dev nD) : sProp 𝕄 :=
  iprop((bigSep Finset.univ fun t => pay c (.inl t)) ∗ (bigSep Finset.univ fun t => landed pay ρ c t) ∗ (bigSep Finset.univ fun l => pay c (.inr (.inr l))))

theorem finish (K : Dev nD × Cell T Lc → ℕ) (ρ : T → Stage) (hρ : ∀ t, ρ t ≠ .ready) (c : Dev nD) :
    parts P pay (need P src into) lres K c ended ρ ended ⊢ (iprop(finished pay ρ c ∗ ownSems0 P.sem c) : sProp 𝕄) := by
  have hr (t : T) : recvSide P pay c t (ρ t) = iprop(landed pay ρ c t ∗ semVal (cell (τ := τ) P c (.inr (.inl t))) 0) := by
    unfold landed
    cases h : ρ t with
    | ready => exact absurd h (hρ t)
    | going => rw [if_pos rfl]; rfl
    | over => rw [if_neg (by decide)]; exact (BI.Entails.antisymm emp_sep.1 emp_sep.2).symm
  unfold parts ended finished ownSems0
  rw [by_kind, bigSep_congr (s := Finset.univ) fun t _ => hr t]
  simp only [sendSide, localSide, bigSep_sep']
  iintro ⟨-, ⟨Hs, Hzs⟩, ⟨Hr, Hzr⟩, ⟨Hl, Hzl⟩⟩
  isplitl [Hs Hr Hl]
  · isplitl [Hs]; · iexact Hs
    isplitl [Hr]; · iexact Hr
    iexact Hl
  isplitl [Hzs]; · iexact Hzs
  isplitl [Hzr]; · iexact Hzr
  iexact Hzl

/-! ## The run -/

section Run

variable {Λ₀ : Idealize.SL.Sem.Labels} {Pp : Type} [Fintype Pp] [DecidableEq Pp]
variable (pcs : Pp → PCfg sig Λ₀ Val) (a : Dev nD → (p : Pp) → (pcs p).Adm)
variable [hW : ∀ p, IsEmpty (Fin (pcs p).W)]

/-- The pipeline's proof data: no window, the body's start before it and its end after it. -/
def dats (ρ : T → Stage) (p : Pp) (c : Dev nD) : Dat τ Val Unit ℕ (UX nD τ sig) ℕ (pinD pcs a c p) c where
  A w := isEmptyElim (α := Fin (pcs p).W) w
  after w := isEmptyElim (α := Fin (pcs p).W) w
  Φ t := if t.val = 0 then iprop(begun P pay src into lres c ∗ scopedRest (pinD pcs a c p).spec c)
    else iprop(finished pay ρ c ∗ ownSems0 P.sem c ∗ scopedRest (pinD pcs a c p).spec c)
  q w := isEmptyElim (α := Fin (pcs p).W) w
  owed t := if t.val = 0 then owed P c fresh else 0

variable (phinj : Function.Injective (PerCore.cellOf (nD := nD) (τ := τ) (pinD pcs a))) (p : Pp)
variable (hw : WinFacts₀ (pcs p).spec) (ho : OwnSemFacts (pcs p).spec P.sem)
variable (defs₀ : Defs nD τ sig Val Λ₀) (𝒱₀ : Variants)

theorem body_obligation (ρ : T → Stage) (hρ : ∀ t, ρ t ≠ .ready) (c : Dev nD) (hN : (pinD pcs a c p).N = 1)
    (hbody : ∀ (K : Dev nD × Cell T Lc → ℕ) (t : Fin (pinD pcs a c p).N),
      hold P pay (need P src into) lres K c fresh fresh fresh
        ⊢ wp frame (wpE defs₀ 𝒱₀ (c : Thread nD τ) none) Set.univ (defs₀ .tc (pinD pcs a c p).body ((pinD pcs a c p).bodyArgs t ((pinD pcs a c p).slots t)))
            fun _ => hold P pay (need P src into) lres K c ended ρ ended) :
    BodyObligationLoose (dats P pay src into lres pcs a ρ p c) defs₀ 𝒱₀ () Set.univ := fun t => by
  have : IsEmpty (Fin (pinD pcs a c p).W) := hW p
  have ht : t.val = 0 := by have := t.isLt; omega
  have hz : (t.castSucc : Fin _).val = 0 := ht
  have hs : (t.succ : Fin _).val ≠ 0 := by rw [Fin.val_succ]; omega
  rw [Finset.univ_eq_empty, BI.bigSep_empty, BI.bigSep_empty]
  unfold Dat.owesAt Pipeline.owesWithin
  dsimp only [dats]
  rw [if_pos hz, if_neg hs, if_pos hz, if_neg hs]
  iintro ⟨⟨Hb, Hsc⟩, ⟨%W, -, Ho⟩, -⟩
  unfold begun
  icases Hb with ⟨%K, Hp⟩
  ihave Hwp := (hbody K t) $$ [Hp Ho]
  · unfold hold
    isplitl [Hp]; · iexact Hp
    iexists W; iexact Ho
  iapply (wp_wand _ _ _) $$ Hwp
  iintro %_ H
  unfold hold
  icases H with ⟨Hp, ⟨%W', Ho⟩⟩
  ihave Hf := (finish P pay src into lres K ρ hρ c) $$ Hp
  icases Hf with ⟨Hf, Hz⟩
  rw [owed_none P c ended (fun _ h => Stage.noConfusion h)]
  isplitl [Hf Hz Hsc]
  · isplitl [Hf]; · iexact Hf
    isplitl [Hz]; · iexact Hz
    iexact Hsc
  isplitl [Ho]
  · iexists W'
    isplitr; · ipureintro; exact fun _ _ => Or.inl trivial
    iexact Ho
  iempintro

include phinj hw ho in
/-- A program whose `@main` is one kernel that only moves data ends with every semaphore at zero and, on every core, with
    whatever the memory the core holds at the end says (`QY`). -/
theorem run_exchange [∀ e, Nonempty (Val e)] [IsEmpty (Fin (pcs p).pre.K)]
    (m : (ℓ : Loc nD τ sig) → Buf Val ℓ) (g : Dev nD → PrngReg)
    (main : Dev nD → Prog (TpuEff nD τ sig Val (Sig Λ₀ Pp fun p => (pcs p).Adm) .tc) PUnit)
    (hmain : ∀ c, main c = .op (.customCall (entry p) ()) fun _ => .ret ⟨⟩)
    (ρ : T → Stage) (hρ : ∀ t, ρ t ≠ .ready) (hN : ∀ c, (pinD pcs a c p).N = 1)
    (hbody : ∀ (c : Dev nD) (K : Dev nD × Cell T Lc → ℕ) (t : Fin (pinD pcs a c p).N),
      hold P pay (need P src into) lres K c fresh fresh fresh
        ⊢ wp frame (wpE defs₀ 𝒱₀ (c : Thread nD τ) none) Set.univ (defs₀ .tc (pinD pcs a c p).body ((pinD pcs a c p).bodyArgs t ((pinD pcs a c p).slots t)))
            fun _ => hold P pay (need P src into) lres K c ended ρ ended)
    (hmem : ∀ c, (unscopedBufs c (fun b => m ((c.tc : Thread nD τ).loc b)) : sProp 𝕄)
      ⊢ iprop(keep c ∗ (bigSep Finset.univ fun t => src c t) ∗ (bigSep Finset.univ fun t => into c t) ∗ (bigSep Finset.univ fun l => lres c l)))
    (QY : Dev nD → MemSt nD τ sig Val → Prop)
    (hread : ∀ c (s' : Phys nD τ sig Val), iprop(finished pay ρ c ∗ keep c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q :=
  run_shared (Name := ℕ) (Lvl := ℕ) pcs a (dats P pay src into lres pcs a ρ) () phinj p hw ho embL defs₀ 𝒱₀ m g main hmain
    (fun c => body_obligation P pay src into lres pcs a p defs₀ 𝒱₀ ρ hρ c (hN c) (hbody c))
    (fun c => owed P c fresh) (fun c => by dsimp only [dats]; exact if_pos rfl)
    (fun c => by dsimp only [dats]; exact if_neg (by rw [Fin.val_last, hN c]; decide))
    L (lv P) L_of_ne (funds P pay) (fun c => iprop(∃ K, dealt P pay src into lres keep K c))
    (initOf (PerCore.cells (pinD pcs a) phinj) (PerCore.launchToks (pinD pcs a) phinj), initOf (allCells P) (allToks P))
    (by
      iintro Hu
      ihave H := (ownU_pair _ _) $$ Hu
      icases H with ⟨HP, HX⟩
      imod (fund_all P pay) $$ HX with HG
      imodintro
      isplitl [HP] <;> iassumption)
    (deal P pay src into lres keep m hmem)
    (begun P pay src into lres) (finished pay ρ) keep
    (begin_ P pay src into lres keep)
    (fun c => by
      dsimp only [dats]; rw [if_pos (by rfl)])
    (fun c => by
      dsimp only [dats]; rw [if_neg (by rw [Fin.val_last, hN c]; decide)])
    QY hread hQ

end Run

end Cert.Exchange

end
-- ==== Proof.Moves.lean ====
/-
# Kernels that only move data: the copies by what they read and where they write

`Move` is one copy, `Picture` a kernel's copies with the shares they read at and the contents every buffer ends with. Each
step of such a kernel (`Picture.send`, `Picture.pass`, `Picture.copy`) and its run (`Picture.run`) then follow from one
fact per copy, that what it reads is what the written part ends as, and from how the buffers divide into the parts.
-/
module

public import proofs.«01_k».proof.Proof.Deal

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UX nD τ sig) ℕ

/-! ## Shares and parts of a buffer -/

section Parts

variable {ℓ : Loc nD τ sig} {f : Buf Val ℓ}

/-- What is left of a share after `n` parts have been given away, -/
def restShare (q : PosShare TreeShare) : ℕ → PosShare TreeShare
  | 0 => q
  | n + 1 => (restShare q n).left
/-- and the next part. -/
def partShare (q : PosShare TreeShare) (n : ℕ) : PosShare TreeShare := (restShare q n).right

/-- A buffer's share in `n` parts and the rest. -/
theorem divide (q : PosShare TreeShare) (n : ℕ) :
    (ℓ ↦{q} f : sProp 𝕄) ⊢ iprop((ℓ ↦{restShare q n} f) ∗ bigSep (Finset.univ : Finset (Fin n)) fun i => ℓ ↦{partShare q i} f) := by
  induction n with
  | zero =>
    iintro H
    isplitl
    · iexact H
    · rw [Finset.univ_eq_empty, BI.bigSep_empty]; iempintro
  | succ n ih =>
    rw [Fin.univ_castSuccEmb, Finset.cons_eq_insert, bigSep_insert (by simp), BI.bigSep_map]
    refine ih.trans (show _ ⊢ iprop((ℓ ↦{restShare q (n + 1)} f) ∗ (ℓ ↦{partShare q n} f) ∗ bigSep Finset.univ fun i : Fin n => ℓ ↦{partShare q i} f) from ?_)
    iintro ⟨H, Hs⟩
    ihave H2 := (pointsTo_share (PosShare.mem_left_op_right (restShare q n))).1 $$ H
    icases H2 with ⟨Hl, Hr⟩
    isplitl [Hl]; · iexact Hl
    isplitl [Hr]; · iexact Hr
    iexact Hs

/-- A part of a buffer, the remainder let go. -/
theorem narrow (q : PosShare TreeShare) (S : Finset (Idx ℓ)) : (ℓ ↦{q} f : sProp 𝕄) ⊢ ℓ ↦[S]{q} f := by
  iintro H
  ihave H2 := (pointsTo_split_subset (Finset.subset_univ S)).1 $$ H
  icases H2 with ⟨H, -⟩
  iexact H

/-- A buffer as the parts that tile it. -/
theorem tile {K : Type} [Fintype K] (q : PosShare TreeShare) (V : K → Finset (Idx ℓ))
    (hd : ∀ k k', k ≠ k' → Disjoint (V k) (V k')) (hc : ∀ i, ∃ k, i ∈ V k) :
    (ℓ ↦{q} f : sProp 𝕄) = bigSep Finset.univ fun k => ℓ ↦[V k]{q} f := by
  rw [← pointsTo_biUnion Finset.univ V fun k _ k' _ h => hd k k' h]
  congr 1
  ext i
  simpa using hc i

end Parts

/-- What was copied through a view is what the written elements are to be, where the two read alike. -/
theorem landed_eq {ℓ : Loc nD τ sig} {κ : Kind} {sp : Space} {s : Shape} {e : EltTy} (v : View sig κ sp s e) (w : s.Idx → Val e)
    (fd f : v.ty.Contents Val) (h : ∀ x, v.read Val f x = w x) : ∀ i ∈ v.set, v.write Val fd w Finset.univ i = f i := by
  intro i hi
  obtain ⟨x, -, rfl⟩ := Finset.mem_map.1 hi
  rw [View.write_emb_of_mem _ _ (Finset.mem_univ x), ← h x, View.read_apply, cast_cast, cast_eq]

/-! ## A kernel's copies -/

/-- One copy, as the core that starts it names its two ends. -/
structure Move (nD : Nat) (sig : RefSig) where
  {s : Shape}
  {e : EltTy}
  {sp : Space}
  {sp' : Space}
  src : Dev nD → Memref sig .tc sp s e
  dst : Dev nD → Memref sig .tc sp' s e

/-- A kernel's copies: `remote` to other cores, `own` within one core, the shares they read at, the contents `E` that
    every buffer ends with; `passes t`: copy `t` reads what another copy brought. -/
structure Picture (τ : Topo) (Val : EltTy → Type) {T Lc : Type} (P : Plan nD sig T Lc) where
  remote : T → Move nD sig
  own : Lc → Move nD sig
  q : T → PosShare TreeShare
  lq : Lc → PosShare TreeShare
  passes : T → Bool
  E : (ℓ : Loc nD τ sig) → Buf Val ℓ
  agree : ∀ t c x, ((remote t).dst c).view.read Val (E (((remote t).dst c).view.loc (P.dest t c : Thread nD τ))) x
    = ((remote t).src c).view.read Val (E (((remote t).src c).view.loc (c : Thread nD τ))) x
  agree_own : ∀ l c x, ((own l).dst c).view.read Val (E (((own l).dst c).view.loc (c : Thread nD τ))) x
    = ((own l).src c).view.read Val (E (((own l).src c).view.loc (c : Thread nD τ))) x

namespace Picture

variable {T Lc : Type} {P : Plan nD sig T Lc} (M : Picture τ Val P)

/-- The read end of copy `t` of core `c`, at its share and its final contents, -/
def srcEnd (c : Dev nD) (t : T) : sProp 𝕄 :=
  ((M.remote t).src c).view.loc (c : Thread nD τ) ↦[((M.remote t).src c).view.set]{M.q t} M.E (((M.remote t).src c).view.loc (c : Thread nD τ))
/-- the written end on core `d` of copy `t` of core `c`, at its final contents, -/
def dstEnd (c d : Dev nD) (t : T) : sProp 𝕄 :=
  ((M.remote t).dst c).view.loc (d : Thread nD τ) ↦[((M.remote t).dst c).view.set]{fullShare} M.E (((M.remote t).dst c).view.loc (d : Thread nD τ))
/-- and at any contents. -/
def dstFree (c d : Dev nD) (t : T) : sProp 𝕄 :=
  iprop(∃ f, ((M.remote t).dst c).view.loc (d : Thread nD τ) ↦[((M.remote t).dst c).view.set]{fullShare} f)
/-- The same of a local copy. -/
def srcOwn (c : Dev nD) (l : Lc) : sProp 𝕄 :=
  ((M.own l).src c).view.loc (c : Thread nD τ) ↦[((M.own l).src c).view.set]{M.lq l} M.E (((M.own l).src c).view.loc (c : Thread nD τ))
def dstOwn (c : Dev nD) (l : Lc) : sProp 𝕄 :=
  ((M.own l).dst c).view.loc (c : Thread nD τ) ↦[((M.own l).dst c).view.set]{fullShare} M.E (((M.own l).dst c).view.loc (c : Thread nD τ))
def freeOwn (c : Dev nD) (l : Lc) : sProp 𝕄 :=
  iprop(∃ f, ((M.own l).dst c).view.loc (c : Thread nD τ) ↦[((M.own l).dst c).view.set]{fullShare} f)

/-- What core `c`'s semaphores deliver: its read ends back, the written ends on it, its local copies' both ends. -/
def pay (c : Dev nD) : Cell T Lc → sProp 𝕄
  | .inl t => M.srcEnd c t
  | .inr (.inl t) => M.dstEnd ((P.dest t).symm c) c t
  | .inr (.inr l) => iprop(M.dstOwn c l ∗ M.srcOwn c l)

instance pay_storable (c : Dev nD) (k : Cell T Lc) : BI.Storable (upEmb : UEmb _ 𝕄) (M.pay c k) := by
  rcases k with t | t | l
  · unfold pay srcEnd; infer_instance
  · unfold pay dstEnd; infer_instance
  · unfold pay dstOwn srcOwn; infer_instance

/-- What core `c` starts copy `t` with: the read end (unless another copy brings it), -/
def src (c : Dev nD) (t : T) : sProp 𝕄 := if M.passes t then iprop(emp) else M.srcEnd c t
/-- and what of core `c`'s buffers copy `t` of another core may overwrite. -/
def into (c : Dev nD) (t : T) : sProp 𝕄 := M.dstFree ((P.dest t).symm c) c t
def ownRes (c : Dev nD) (l : Lc) : sProp 𝕄 := iprop(M.srcOwn c l ∗ M.freeOwn c l)

theorem pay_recv (c : Dev nD) (t : T) : M.pay (P.dest t c) (.inr (.inl t)) = M.dstEnd c (P.dest t c) t := by
  show M.dstEnd ((P.dest t).symm (P.dest t c)) (P.dest t c) t = _
  rw [Equiv.symm_apply_apply]
theorem into_dest (c : Dev nD) (t : T) : M.into (P.dest t c) t = M.dstFree c (P.dest t c) t := by
  unfold into; rw [Equiv.symm_apply_apply]

theorem got (c : Dev nD) (t : T) (fd : Buf Val (((M.remote t).dst c).view.loc (P.dest t c : Thread nD τ))) :
    (((M.remote t).dst c).view.loc (P.dest t c : Thread nD τ) ↦[((M.remote t).dst c).view.set]{fullShare}
      (((M.remote t).dst c).view.write Val fd (((M.remote t).src c).view.read Val (M.E (((M.remote t).src c).view.loc (c : Thread nD τ)))) Finset.univ) : sProp 𝕄)
      ⊢ M.pay (P.dest t c) (.inr (.inl t)) := by
  rw [pay_recv]; unfold dstEnd
  exact Entails.of_eq (pointsTo_congr (landed_eq (ℓ := ((M.remote t).dst c).view.loc (P.dest t c : Thread nD τ)) _ _ _ _ (M.agree t c)))

variable [Fintype T] [DecidableEq T] [Fintype Lc] [DecidableEq Lc]
variable {K : Dev nD × Cell T Lc → ℕ} {c : Dev nD} {σ ρ : T → Stage} {κ : Lc → Stage}
variable {Λ : Labels} {defs : Defs nD τ sig Val Λ} {𝒱 : Variants} {α : Type} {Q : α → sProp (MT nD τ sig Unit Val ℕ (UX nD τ sig) ℕ)}

/-- What a core of this kernel holds between two operations. -/
abbrev holds (K : Dev nD × Cell T Lc → ℕ) (c : Dev nD) (σ ρ : T → Stage) (κ : Lc → Stage) : sProp 𝕄 :=
  hold P M.pay (need P M.src M.into) M.ownRes K c σ ρ κ

/-- The start of a copy to another core. -/
theorem send (t : T) (ht : σ t = .ready) (hp : M.passes t = false) {n : Dev nD} (hto : n = P.dest t c)
    {hsc : ((M.remote t).dst c).view.ref.isScScratch = false} {sS sem : SemLoc sig} (hs : sS = P.send t) (hr : sem = P.recv t)
    {hsrc : ((M.remote t).src c).view.WordExact} {hdst : ((M.remote t).dst c).view.WordExact}
    {hsem : DmaTarget.Typed (M.remote t).sp sem (.remote (n : Thread nD τ) ((M.remote t).dst c) sS hsc)}
    (hn : ((M.remote t).dst c).view.amount sem = P.amt t)
    {kt : PUnit → Prog (TpuEff nD τ sig Val Λ .tc) α}
    (hk : M.holds K c (Function.update σ t .going) ρ κ ⊢ wp frame (wpE defs 𝒱 (c : Thread nD τ) none) Set.univ (kt ⟨⟩) Q) :
    M.holds K c σ ρ κ ⊢ wp frame (wpE defs 𝒱 (c : Thread nD τ) none) Set.univ
      (.op (.enqueueDma ((M.remote t).src c) (.remote (n : Thread nD τ) ((M.remote t).dst c) sS hsc) sem hsrc hdst hsem) kt) Q :=
  step_send t ht hto hs hr (M.q t) (M.E (((M.remote t).src c).view.loc (c : Thread nD τ))) hn
    (by
      unfold need src
      rw [into_dest, if_neg (by rw [hp]; decide)]
      exact Entails.rfl)
    Entails.rfl (M.got c t) hk

/-- The start of a copy that passes on what copy `t'` brought. -/
theorem pass (t : T) (ht : σ t = .ready) (hp : M.passes t = true) (t' : T) (ht' : ρ t' = .going)
    (hb : M.pay c (.inr (.inl t')) ⊢ M.srcEnd c t) {n : Dev nD} (hto : n = P.dest t c)
    {hsc : ((M.remote t).dst c).view.ref.isScScratch = false} {sS sem : SemLoc sig} (hs : sS = P.send t) (hr : sem = P.recv t)
    {hsrc : ((M.remote t).src c).view.WordExact} {hdst : ((M.remote t).dst c).view.WordExact}
    {hsem : DmaTarget.Typed (M.remote t).sp sem (.remote (n : Thread nD τ) ((M.remote t).dst c) sS hsc)}
    (hn : ((M.remote t).dst c).view.amount sem = P.amt t)
    {kt : PUnit → Prog (TpuEff nD τ sig Val Λ .tc) α}
    (hk : M.holds K c (Function.update σ t .going) (Function.update ρ t' .over) κ ⊢ wp frame (wpE defs 𝒱 (c : Thread nD τ) none) Set.univ (kt ⟨⟩) Q) :
    M.holds K c σ ρ κ ⊢ wp frame (wpE defs 𝒱 (c : Thread nD τ) none) Set.univ
      (.op (.enqueueDma ((M.remote t).src c) (.remote (n : Thread nD τ) ((M.remote t).dst c) sS hsc) sem hsrc hdst hsem) kt) Q :=
  step_pass t ht t' ht' hto hs hr (M.q t) (M.E (((M.remote t).src c).view.loc (c : Thread nD τ))) hn
    (by
      unfold need src
      rw [into_dest, if_pos hp]
      show iprop((emp ∗ M.dstFree c (P.dest t c) t) ∗ M.pay c (.inr (.inl t'))) ⊢ iprop(M.srcEnd c t ∗ M.dstFree c (P.dest t c) t)
      iintro ⟨⟨-, Hd⟩, Hs⟩
      isplitl [Hs]
      · iapply hb $$ Hs
      · iexact Hd)
    Entails.rfl (M.got c t) hk

/-- The start of a local copy. -/
theorem copy (l : Lc) (hl : κ l = .ready) {sem : SemLoc sig} (hs : sem = P.loc l)
    {hsrc : ((M.own l).src c).view.WordExact} {hdst : ((M.own l).dst c).view.WordExact}
    {hsem : DmaTarget.Typed (nD := nD) (τ := τ) (p := .tc) (M.own l).sp sem (.here ((M.own l).dst c))}
    (hn : ((M.own l).dst c).view.amount sem = P.lamt l)
    {kt : PUnit → Prog (TpuEff nD τ sig Val Λ .tc) α}
    (hk : M.holds K c σ ρ (Function.update κ l .going) ⊢ wp frame (wpE defs 𝒱 (c : Thread nD τ) none) Set.univ (kt ⟨⟩) Q) :
    M.holds K c σ ρ κ ⊢ wp frame (wpE defs 𝒱 (c : Thread nD τ) none) Set.univ
      (.op (.enqueueDma ((M.own l).src c) (.here ((M.own l).dst c)) sem hsrc hdst hsem) kt) Q :=
  step_copy l hl hs (M.lq l) (M.E (((M.own l).src c).view.loc (c : Thread nD τ))) hn
    Entails.rfl
    (fun fd => by
      show _ ⊢ iprop(M.dstOwn c l ∗ M.srcOwn c l)
      unfold dstOwn srcOwn
      rw [pointsTo_congr (landed_eq (ℓ := ((M.own l).dst c).view.loc (c : Thread nD τ)) _ _ fd _ (M.agree_own l c))])
    hk

/-- The wait for a copy's source to have been read, -/
theorem sent (t : T) (ht : σ t = .going) {sem : DmaSem sig} (hs : SemLoc.dma sem = P.send t) {w : TpuEff nD τ sig Val Λ .tc PUnit} {n : ℕ}
    (hw : ∀ K' : PUnit → sProp 𝕄, wpE (Ix := Unit) (Name := ℕ) (U := UX nD τ sig) (Lvl := ℕ) defs 𝒱 (c : Thread nD τ) none Set.univ w K' = waitSpec (c : Thread nD τ) Set.univ (.dma sem) n K') (hn : n = P.amt t)
    {kt : PUnit → Prog (TpuEff nD τ sig Val Λ .tc) α}
    (hk : M.holds K c (Function.update σ t .over) ρ κ ⊢ wp frame (wpE defs 𝒱 (c : Thread nD τ) none) Set.univ (kt ⟨⟩) Q) :
    M.holds K c σ ρ κ ⊢ wp frame (wpE defs 𝒱 (c : Thread nD τ) none) Set.univ (.op w kt) Q :=
  step_wait_send t ht hs hw hn hk

/-- for a copy of another core to have landed, -/
theorem received (t : T) (ht : ρ t = .ready) (hlev : ∀ t', σ t' = .ready → P.level t < P.level t') {sem : DmaSem sig} (hs : SemLoc.dma sem = P.recv t) {w : TpuEff nD τ sig Val Λ .tc PUnit} {n : ℕ}
    (hw : ∀ K' : PUnit → sProp 𝕄, wpE (Ix := Unit) (Name := ℕ) (U := UX nD τ sig) (Lvl := ℕ) defs 𝒱 (c : Thread nD τ) none Set.univ w K' = waitSpec (c : Thread nD τ) Set.univ (.dma sem) n K') (hn : n = P.amt t)
    {kt : PUnit → Prog (TpuEff nD τ sig Val Λ .tc) α}
    (hk : M.holds K c σ (Function.update ρ t .going) κ ⊢ wp frame (wpE defs 𝒱 (c : Thread nD τ) none) Set.univ (kt ⟨⟩) Q) :
    M.holds K c σ ρ κ ⊢ wp frame (wpE defs 𝒱 (c : Thread nD τ) none) Set.univ (.op w kt) Q :=
  step_wait_recv t ht hlev hs hw hn hk

/-- and for a local copy to be done. -/
theorem copied (l : Lc) (hl : κ l = .going) {sem : DmaSem sig} (hs : SemLoc.dma sem = P.loc l) {w : TpuEff nD τ sig Val Λ .tc PUnit} {n : ℕ}
    (hw : ∀ K' : PUnit → sProp 𝕄, wpE (Ix := Unit) (Name := ℕ) (U := UX nD τ sig) (Lvl := ℕ) defs 𝒱 (c : Thread nD τ) none Set.univ w K' = waitSpec (c : Thread nD τ) Set.univ (.dma sem) n K') (hn : n = P.lamt l)
    {kt : PUnit → Prog (TpuEff nD τ sig Val Λ .tc) α}
    (hk : M.holds K c σ ρ (Function.update κ l .over) ⊢ wp frame (wpE defs 𝒱 (c : Thread nD τ) none) Set.univ (kt ⟨⟩) Q) :
    M.holds K c σ ρ κ ⊢ wp frame (wpE defs 𝒱 (c : Thread nD τ) none) Set.univ (.op w kt) Q :=
  step_wait_local l hl hs hw hn hk

/-- The end of the kernel. -/
theorem done (v : PUnit) (hσ : σ = ended) (hκ : κ = ended) (ρ' : T → Stage) (hρ : ρ = ρ') :
    M.holds K c σ ρ κ ⊢ wp frame (wpE defs 𝒱 (c : Thread nD τ) none) Set.univ (.ret v) fun _ => M.holds K c ended ρ' ended := by
  subst hσ hκ hρ
  rw [wp_ret]
  exact fupd_intro

end Picture

end Cert.Exchange
-- ==== Proof.Whole.lean ====
/-
# Kernels that move whole buffers

`run_moves`: a program whose `@main` is one kernel with argument buffers `args w` and result buffers `outs w`, whose
copies (`Moves.lean`) read the arguments (or what another copy brought) and together fill the results. From its body's
proof at one core: every buffer ends with the contents `E`.
-/
module

public import proofs.«01_k».proof.Proof.Moves

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}

local notation "𝕄" => MT nD τ sig Unit Val ℕ (UX nD τ sig) ℕ

/-- The elements a view names, as elements of the buffer it is known to lie in. -/
def setOn {sp : Space} {s : Shape} {e : EltTy} (v : Memref sig .tc sp s e) (r : Ref sig .tc) (h : v.view.ref = r) (c : Dev nD) :
    Finset (Idx ((c.tc : Thread nD τ).loc r)) := by
  subst h; exact v.view.set

theorem pointsTo_setOn {sp : Space} {s : Shape} {e : EltTy} (v : Memref sig .tc sp s e) (r : Ref sig .tc) (h : v.view.ref = r) (c : Dev nD)
    (q : PosShare TreeShare) (E : (ℓ : Loc nD τ sig) → Buf Val ℓ) :
    (v.view.loc (c : Thread nD τ) ↦[v.view.set]{q} E (v.view.loc (c : Thread nD τ)) : sProp 𝕄)
      = ((c.tc : Thread nD τ).loc r ↦[setOn v r h c]{q} E ((c.tc : Thread nD τ).loc r)) := by
  subst h; rfl

theorem free_setOn {sp : Space} {s : Shape} {e : EltTy} (v : Memref sig .tc sp s e) (r : Ref sig .tc) (h : v.view.ref = r) (c : Dev nD)
    (q : PosShare TreeShare) (m : (ℓ : Loc nD τ sig) → Buf Val ℓ) :
    ((c.tc : Thread nD τ).loc r ↦[setOn v r h c]{q} m ((c.tc : Thread nD τ).loc r) : sProp 𝕄)
      ⊢ iprop(∃ f, v.view.loc (c : Thread nD τ) ↦[v.view.set]{q} f) := by
  subst h
  iintro H
  iexists (m (v.view.loc (c : Thread nD τ)))
  iexact H

theorem narrow_setOn {sp : Space} {s : Shape} {e : EltTy} (v : Memref sig .tc sp s e) (r : Ref sig .tc) (h : v.view.ref = r) (c : Dev nD)
    (q : PosShare TreeShare) (E : (ℓ : Loc nD τ sig) → Buf Val ℓ) :
    ((c.tc : Thread nD τ).loc r ↦{q} E ((c.tc : Thread nD τ).loc r) : sProp 𝕄)
      ⊢ v.view.loc (c : Thread nD τ) ↦[v.view.set]{q} E (v.view.loc (c : Thread nD τ)) := by
  rw [pointsTo_setOn v r h]
  exact narrow _ _

/-! ## A memory with some buffers filled -/

section Fill

variable {W : Type} (m : (ℓ : Loc nD τ sig) → Buf Val ℓ) (outs : W → Ref sig .tc)

open Classical in
/-- The memory `m` with every core's buffers `outs w` filled with `V`. -/
def fill (V : (c : Dev nD) → (w : W) → Buf Val ((c.tc : Thread nD τ).loc (outs w))) (ℓ : Loc nD τ sig) : Buf Val ℓ :=
  if h : ∃ p : Dev nD × W, (p.1.tc : Thread nD τ).loc (outs p.2) = ℓ then h.choose_spec ▸ V h.choose.1 h.choose.2 else m ℓ

variable {m outs} {V : (c : Dev nD) → (w : W) → Buf Val ((c.tc : Thread nD τ).loc (outs w))}

theorem fill_out (ho : Function.Injective outs) (c : Dev nD) (w : W) : fill m outs V ((c.tc : Thread nD τ).loc (outs w)) = V c w := by
  have key : ∀ (p : Dev nD × W) (h : (p.1.tc : Thread nD τ).loc (outs p.2) = (c.tc : Thread nD τ).loc (outs w)),
      (h ▸ V p.1 p.2 : Buf Val ((c.tc : Thread nD τ).loc (outs w))) = V c w := by
    rintro ⟨d, v⟩ h
    obtain rfl : d = c := congrArg Prod.fst h
    obtain rfl : v = w := ho (Proc.devRef_injective _ (congrArg Prod.snd h))
    rfl
  have h : ∃ p : Dev nD × W, (p.1.tc : Thread nD τ).loc (outs p.2) = (c.tc : Thread nD τ).loc (outs w) := ⟨(c, w), rfl⟩
  unfold fill
  rw [dif_pos h]
  exact key _ h.choose_spec

theorem fill_other (c : Dev nD) (r : Ref sig .tc) (hr : ∀ w, outs w ≠ r) :
    fill m outs V ((c.tc : Thread nD τ).loc r) = m ((c.tc : Thread nD τ).loc r) := by
  unfold fill
  exact dif_neg fun ⟨p, h⟩ => hr p.2 (Proc.devRef_injective (c.tc : Thread nD τ).2 (congrArg Prod.snd h))

/-- A copy's two ends agree in `E` when they do in what `E` is on their buffers. -/
theorem agree_of {E : (ℓ : Loc nD τ sig) → Buf Val ℓ} {s : Shape} {e : EltTy} {sp sp' : Space} {src : Memref sig .tc sp s e} {dst : Memref sig .tc sp' s e}
    {c d : Dev nD} {X : Buf Val (src.view.loc (c : Thread nD τ))} {Y : Buf Val (dst.view.loc (d : Thread nD τ))}
    (hY : E (dst.view.loc (d : Thread nD τ)) = Y) (hX : E (src.view.loc (c : Thread nD τ)) = X)
    (h : ∀ x, dst.view.read Val Y x = src.view.read Val X x) (x : s.Idx) :
    dst.view.read Val (E (dst.view.loc (d : Thread nD τ))) x = src.view.read Val (E (src.view.loc (c : Thread nD τ))) x := by
  rw [hY, hX]; exact h x

end Fill

/-- A whole buffer's view names every element. -/
theorem mem_setOn_whole (r : Ref sig .tc) (h : (Memref.whole r : Memref sig .tc r.space r.ty.shape r.ty.elt).view.ref = r) (c : Dev nD)
    (i : Idx ((c.tc : Thread nD τ).loc r)) : i ∈ setOn (Memref.whole r) r h c := by
  show i ∈ (View.whole r).set
  rw [View.set_whole]
  exact Finset.mem_univ i

section Run

variable {W : Type} [Fintype W] [DecidableEq W] {nA nB : ℕ}
variable {P : Plan nD sig (W × Fin nA) (W × Fin nB)} (M : Picture τ Val P) (args outs : W → Ref sig .tc)

/-- Where a kernel's copies lie: what reads an argument, and what is written in each result. -/
structure Placed : Prop where
  src : ∀ t c, M.passes t = false → ((M.remote t).src c).view.ref = args t.1
  dst : ∀ t c, ((M.remote t).dst c).view.ref = outs t.1
  ownSrc : ∀ l c, ((M.own l).src c).view.ref = args l.1
  ownDst : ∀ l c, ((M.own l).dst c).view.ref = outs l.1
  share : ∀ w a, M.passes (w, a) = false → M.q (w, a) = partShare fullShare a
  ownShare : ∀ w b, M.lq (w, b) = partShare (restShare fullShare nA) b

variable {M args outs} (pl : Placed M args outs)
include pl

/-- The part of result `w` of core `c` that one copy writes. -/
def Placed.part (c : Dev nD) (w : W) : Fin nA ⊕ Fin nB → Finset (Idx ((c.tc : Thread nD τ).loc (outs w)))
  | .inl a => setOn ((M.remote (w, a)).dst ((P.dest (w, a)).symm c)) (outs w) (pl.dst _ _) c
  | .inr b => setOn ((M.own (w, b)).dst c) (outs w) (pl.ownDst _ _) c

/-- What core `c` keeps of its arguments during the run, -/
def Placed.keep (pl : Placed M args outs) (c : Dev nD) : sProp 𝕄 :=
  bigSep Finset.univ fun w => (c.tc : Thread nD τ).loc (args w) ↦{restShare (restShare fullShare nA) nB} M.E ((c.tc : Thread nD τ).loc (args w))

omit [Fintype W] [DecidableEq W] in
theorem Placed.arg_split (c : Dev nD) (w : W) :
    ((c.tc : Thread nD τ).loc (args w) ↦{fullShare} M.E ((c.tc : Thread nD τ).loc (args w)) : sProp 𝕄)
      ⊢ iprop(((c.tc : Thread nD τ).loc (args w) ↦{restShare (restShare fullShare nA) nB} M.E ((c.tc : Thread nD τ).loc (args w)))
        ∗ (bigSep Finset.univ fun a : Fin nA => M.src c (w, a)) ∗ (bigSep Finset.univ fun b : Fin nB => M.srcOwn c (w, b))) := by
  have ha : (bigSep (Finset.univ : Finset (Fin nA)) fun a => ((c.tc : Thread nD τ).loc (args w) ↦{partShare fullShare a} M.E ((c.tc : Thread nD τ).loc (args w)) : sProp 𝕄))
      ⊢ bigSep Finset.univ fun a : Fin nA => M.src c (w, a) := by
    refine bigSep_mono fun a _ => ?_
    unfold Picture.src Picture.srcEnd
    cases hp : M.passes (w, a) with
    | true => rw [if_pos rfl]; exact (show (_ : sProp 𝕄) ⊢ iprop(emp) by iintro -; iempintro)
    | false =>
      rw [if_neg (by decide), pl.share w a hp]
      exact narrow_setOn _ _ (pl.src (w, a) c hp) c _ M.E
  have hb : (bigSep (Finset.univ : Finset (Fin nB)) fun b => ((c.tc : Thread nD τ).loc (args w) ↦{partShare (restShare fullShare nA) b} M.E ((c.tc : Thread nD τ).loc (args w)) : sProp 𝕄))
      ⊢ bigSep Finset.univ fun b : Fin nB => M.srcOwn c (w, b) := by
    refine bigSep_mono fun b _ => ?_
    unfold Picture.srcOwn
    rw [pl.ownShare w b]
    exact narrow_setOn _ _ (pl.ownSrc (w, b) c) c _ M.E
  iintro H
  ihave H1 := (divide fullShare nA) $$ H
  icases H1 with ⟨H, Ha⟩
  ihave H2 := (divide (restShare fullShare nA) nB) $$ H
  icases H2 with ⟨H, Hb⟩
  ihave Ha' := ha $$ Ha
  ihave Hb' := hb $$ Hb
  isplitl [H]; · iexact H
  isplitl [Ha']; · iexact Ha'
  iexact Hb'

/-- The parts of every result are disjoint and cover it. -/
def Placed.Tiles : Prop :=
  ∀ c w, (∀ k k', k ≠ k' → Disjoint (pl.part c w k) (pl.part c w k')) ∧ ∀ i, ∃ k, i ∈ pl.part c w k

omit [Fintype W] [DecidableEq W] in
theorem Placed.out_split (ht : pl.Tiles) (m : (ℓ : Loc nD τ sig) → Buf Val ℓ) (c : Dev nD) (w : W) :
    ((c.tc : Thread nD τ).loc (outs w) ↦{fullShare} m ((c.tc : Thread nD τ).loc (outs w)) : sProp 𝕄)
      ⊢ iprop((bigSep Finset.univ fun a : Fin nA => M.into c (w, a)) ∗ (bigSep Finset.univ fun b : Fin nB => M.freeOwn c (w, b))) := by
  rw [tile fullShare (pl.part c w) (ht c w).1 (ht c w).2, BI.bigSep_univ_sum]
  refine BI.sep_mono (bigSep_mono fun a _ => ?_) (bigSep_mono fun b _ => ?_)
  · exact free_setOn _ _ (pl.dst (w, a) _) c fullShare m
  · exact free_setOn _ _ (pl.ownDst (w, b) c) c fullShare m

omit [Fintype W] [DecidableEq W] in
theorem Placed.out_join (ht : pl.Tiles) (c : Dev nD) (w : W) :
    (iprop((bigSep Finset.univ fun a : Fin nA => M.dstEnd ((P.dest (w, a)).symm c) c (w, a)) ∗ (bigSep Finset.univ fun b : Fin nB => M.dstOwn c (w, b))) : sProp 𝕄)
      ⊢ (c.tc : Thread nD τ).loc (outs w) ↦{fullShare} M.E ((c.tc : Thread nD τ).loc (outs w)) := by
  rw [tile fullShare (pl.part c w) (ht c w).1 (ht c w).2, BI.bigSep_univ_sum]
  refine BI.sep_mono (bigSep_mono fun a _ => ?_) (bigSep_mono fun b _ => ?_)
  · exact Entails.of_eq (pointsTo_setOn _ _ (pl.dst (w, a) _) c fullShare M.E)
  · exact Entails.of_eq (pointsTo_setOn _ _ (pl.ownDst (w, b) c) c fullShare M.E)

/-- What a core's unscoped memory is, before the run. -/
theorem Placed.memory (ht : pl.Tiles) (m : (ℓ : Loc nD τ sig) → Buf Val ℓ)
    (hE : ∀ (c : Dev nD) w, M.E ((c.tc : Thread nD τ).loc (args w)) = m ((c.tc : Thread nD τ).loc (args w)))
    (hinj : Function.Injective (Sum.elim args outs))
    (hun : (Finset.univ.filter fun b : Ref sig .tc => ¬ b.isScoped = true) = Finset.univ.map ⟨Sum.elim args outs, hinj⟩) (c : Dev nD) :
    (unscopedBufs c (fun b => m ((c.tc : Thread nD τ).loc b)) : sProp 𝕄)
      ⊢ iprop(pl.keep c ∗ (bigSep Finset.univ fun t => M.src c t) ∗ (bigSep Finset.univ fun t => M.into c t) ∗ (bigSep Finset.univ fun l => M.ownRes c l)) := by
  have h0 : (unscopedBufs c (fun b => m ((c.tc : Thread nD τ).loc b)) : sProp 𝕄)
      = iprop((bigSep Finset.univ fun w => (c.tc : Thread nD τ).loc (args w) ↦{fullShare} M.E ((c.tc : Thread nD τ).loc (args w)))
        ∗ (bigSep Finset.univ fun w => (c.tc : Thread nD τ).loc (outs w) ↦{fullShare} m ((c.tc : Thread nD τ).loc (outs w)))) := by
    unfold unscopedBufs
    rw [hun, BI.bigSep_map, BI.bigSep_univ_sum]
    refine congrArg₂ _ (bigSep_congr fun w _ => ?_) rfl
    rw [hE]; rfl
  have h1 := bigSep_mono (s := (Finset.univ : Finset W)) fun w _ => pl.arg_split c w
  have h2 := bigSep_mono (s := (Finset.univ : Finset W)) fun w _ => pl.out_split ht m c w
  simp only [bigSep_sep'] at h1 h2
  rw [h0]
  unfold Placed.keep Picture.ownRes
  simp only [bigSep_sep', bigSep_univ_prod]
  have h1' : (bigSep (Finset.univ : Finset W) fun w => ((c.tc : Thread nD τ).loc (args w) ↦{fullShare} M.E ((c.tc : Thread nD τ).loc (args w)) : sProp 𝕄))
      ⊢ iprop((bigSep Finset.univ fun w => (c.tc : Thread nD τ).loc (args w) ↦{restShare (restShare fullShare nA) nB} M.E ((c.tc : Thread nD τ).loc (args w)))
        ∗ (bigSep Finset.univ fun w : W => bigSep Finset.univ fun a : Fin nA => M.src c (w, a))
        ∗ (bigSep Finset.univ fun w : W => bigSep Finset.univ fun b : Fin nB => M.srcOwn c (w, b))) := h1
  have h2' : (bigSep (Finset.univ : Finset W) fun w => ((c.tc : Thread nD τ).loc (outs w) ↦{fullShare} m ((c.tc : Thread nD τ).loc (outs w)) : sProp 𝕄))
      ⊢ iprop((bigSep Finset.univ fun w : W => bigSep Finset.univ fun a : Fin nA => M.into c (w, a))
        ∗ (bigSep Finset.univ fun w : W => bigSep Finset.univ fun b : Fin nB => M.freeOwn c (w, b))) := h2
  iintro ⟨Ha, Ho⟩
  ihave H1 := h1' $$ Ha
  icases H1 with ⟨Hk, Hs, Hl⟩
  ihave H2 := h2' $$ Ho
  icases H2 with ⟨Hi, Hf⟩
  isplitl [Hk]; · iexact Hk
  isplitl [Hs]; · iexact Hs
  isplitl [Hi]; · iexact Hi
  isplitl [Hl]; · iexact Hl
  iexact Hf

/-- What the end of the run gives back of the results, given that what landed and was passed on came back with the copy
    that passed it on (`hback`). -/
theorem Placed.outs_end (ht : pl.Tiles) (ρ : W × Fin nA → Stage)
    (hback : ∀ c w, (iprop((bigSep Finset.univ fun a : Fin nA => M.pay c (.inl (w, a))) ∗ (bigSep Finset.univ fun a : Fin nA => landed M.pay ρ c (w, a))) : sProp 𝕄)
      ⊢ bigSep Finset.univ fun a : Fin nA => M.dstEnd ((P.dest (w, a)).symm c) c (w, a)) (c : Dev nD) :
    (finished M.pay ρ c : sProp 𝕄)
      ⊢ bigSep Finset.univ fun w => (c.tc : Thread nD τ).loc (outs w) ↦{fullShare} M.E ((c.tc : Thread nD τ).loc (outs w)) := by
  have h1 (w : W) : (iprop((bigSep Finset.univ fun a : Fin nA => M.pay c (.inl (w, a))) ∗ (bigSep Finset.univ fun a : Fin nA => landed M.pay ρ c (w, a))
        ∗ (bigSep Finset.univ fun b : Fin nB => iprop(M.dstOwn c (w, b) ∗ M.srcOwn c (w, b)))) : sProp 𝕄)
      ⊢ (c.tc : Thread nD τ).loc (outs w) ↦{fullShare} M.E ((c.tc : Thread nD τ).loc (outs w)) := by
    simp only [bigSep_sep']
    iintro ⟨Hp, Hl, Ho, -⟩
    iapply (pl.out_join ht c w)
    isplitl [Hp Hl]
    · iapply (hback c w)
      isplitl [Hp]; · iexact Hp
      iexact Hl
    · iexact Ho
  have h2 := bigSep_mono (s := (Finset.univ : Finset W)) fun w _ => h1 w
  simp only [bigSep_sep'] at h2
  unfold finished
  simp only [bigSep_univ_prod]
  refine (show iprop(_ ∗ _ ∗ bigSep Finset.univ fun w : W => bigSep Finset.univ fun b : Fin nB => iprop(M.dstOwn c (w, b) ∗ M.srcOwn c (w, b))) ⊢ _ from ?_)
  simp only [bigSep_sep']
  exact h2

/-- The end of the run, read in the memory: every argument and every result holds `E`. -/
theorem Placed.read (ht : pl.Tiles) (ρ : W × Fin nA → Stage)
    (hback : ∀ c w, (iprop((bigSep Finset.univ fun a : Fin nA => M.pay c (.inl (w, a))) ∗ (bigSep Finset.univ fun a : Fin nA => landed M.pay ρ c (w, a))) : sProp 𝕄)
      ⊢ bigSep Finset.univ fun a : Fin nA => M.dstEnd ((P.dest (w, a)).symm c) c (w, a)) (c : Dev nD) (s' : Phys nD τ sig Val) :
    (iprop(finished M.pay ρ c ∗ pl.keep c ∗ SI s') : sProp 𝕄) ⊢ |={Set.univ}=> iprop(
      ⌜∀ w, s'.mem.mem ((c.tc : Thread nD τ).loc (args w)) = M.E ((c.tc : Thread nD τ).loc (args w))
        ∧ s'.mem.mem ((c.tc : Thread nD τ).loc (outs w)) = M.E ((c.tc : Thread nD τ).loc (outs w))⌝ ∗ SI s') := by
  have he := pl.outs_end ht ρ hback c
  unfold Placed.keep
  iintro ⟨Hf, Hk, Hs⟩
  ihave Ho := he $$ Hf
  ihave H := (pointsTo_read_all' Finset.univ (fun w => (c.tc : Thread nD τ).loc (args w)) (fun w => M.E ((c.tc : Thread nD τ).loc (args w))) s' (fun _ => restShare (restShare fullShare nA) nB)) $$ [Hk Hs]
  · isplitl [Hk]; · iexact Hk
    iexact Hs
  icases H with ⟨%ha, Hs⟩
  ihave H := (pointsTo_read_all' Finset.univ (fun w => (c.tc : Thread nD τ).loc (outs w)) (fun w => M.E ((c.tc : Thread nD τ).loc (outs w))) s' (fun _ => fullShare)) $$ [Ho Hs]
  · isplitl [Ho]; · iexact Ho
    iexact Hs
  icases H with ⟨%hb, Hs⟩
  imodintro
  isplitr
  · ipureintro; exact fun w => ⟨ha w (Finset.mem_univ w), hb w (Finset.mem_univ w)⟩
  iexact Hs

end Run

section Launch

variable {W : Type} [Fintype W] [DecidableEq W] {nA nB : ℕ}
variable {P : Plan nD sig (W × Fin nA) (W × Fin nB)} {M : Picture τ Val P} {args outs : W → Ref sig .tc} (pl : Placed M args outs)
variable {Λ₀ : Idealize.SL.Sem.Labels} {Pp : Type} [Fintype Pp] [DecidableEq Pp]
variable (pcs : Pp → PCfg sig Λ₀ Val) (a : Dev nD → (p : Pp) → (pcs p).Adm)
variable [hW : ∀ p, IsEmpty (Fin (pcs p).W)]
variable (phinj : Function.Injective (PerCore.cellOf (nD := nD) (τ := τ) (pinD pcs a))) (p : Pp)
variable (hw : WinFacts₀ (pcs p).spec) (ho : OwnSemFacts (pcs p).spec P.sem)
variable (defs₀ : Defs nD τ sig Val Λ₀) (𝒱₀ : Variants)

include phinj hw ho in
/-- A program whose `@main` is one kernel that moves whole buffers ends with every argument and every result, on every
    core, at the contents `E`, and with every semaphore at zero. -/
theorem run_moves [∀ e, Nonempty (Val e)] [IsEmpty (Fin (pcs p).pre.K)]
    (m : (ℓ : Loc nD τ sig) → Buf Val ℓ) (g : Dev nD → PrngReg)
    (main : Dev nD → Prog (TpuEff nD τ sig Val (Sig Λ₀ Pp fun p => (pcs p).Adm) .tc) PUnit)
    (hmain : ∀ c, main c = .op (.customCall (entry p) ()) fun _ => .ret ⟨⟩)
    (ρ : W × Fin nA → Stage) (hρ : ∀ t, ρ t ≠ .ready) (hN : ∀ c, (pinD pcs a c p).N = 1)
    (hbody : ∀ (c : Dev nD) (K : Dev nD × Cell (W × Fin nA) (W × Fin nB) → ℕ) (t : Fin (pinD pcs a c p).N),
      M.holds K c fresh fresh fresh
        ⊢ wp frame (wpE defs₀ 𝒱₀ (c : Thread nD τ) none) Set.univ (defs₀ .tc (pinD pcs a c p).body ((pinD pcs a c p).bodyArgs t ((pinD pcs a c p).slots t)))
            fun _ => M.holds K c ended ρ ended)
    (ht : pl.Tiles)
    (hE : ∀ (c : Dev nD) w, M.E ((c.tc : Thread nD τ).loc (args w)) = m ((c.tc : Thread nD τ).loc (args w)))
    (hinj : Function.Injective (Sum.elim args outs))
    (hun : (Finset.univ.filter fun b : Ref sig .tc => ¬ b.isScoped = true) = Finset.univ.map ⟨Sum.elim args outs, hinj⟩)
    (hback : ∀ c w, (iprop((bigSep Finset.univ fun a : Fin nA => M.pay c (.inl (w, a))) ∗ (bigSep Finset.univ fun a : Fin nA => landed M.pay ρ c (w, a))) : sProp 𝕄)
      ⊢ bigSep Finset.univ fun a : Fin nA => M.dstEnd ((P.dest (w, a)).symm c) c (w, a))
    {Q : PUnit × MemSt nD τ sig Val → Prop}
    (hQ : ∀ s : MemSt nD τ sig Val, (∀ (c : Dev nD) w, s.mem ((c.tc : Thread nD τ).loc (args w)) = M.E ((c.tc : Thread nD τ).loc (args w))
        ∧ s.mem ((c.tc : Thread nD τ).loc (outs w)) = M.E ((c.tc : Thread nD τ).loc (outs w))) →
      (∀ g' : GSem nD τ sig, (g'.1.2 ≠ .tc ∨ g'.2.isScoped .tc = true) → s.sem g' = 0) → Q (⟨⟩, s)) :
    θ_run (Pipeline.defs pcs defs₀) (onTc main) ⟨m, fun _ => 0, g⟩ Q :=
  run_exchange P M.pay M.src M.into M.ownRes pl.keep pcs a phinj p hw ho defs₀ 𝒱₀ m g main hmain ρ hρ hN hbody
    (fun c => pl.memory ht m hE hinj hun c) _ (fun c s' => pl.read ht ρ hback c s') hQ

/-- Where every landed copy stays, nothing has to come back. -/
theorem back_all (c : Dev nD) (w : W) :
    (iprop((bigSep Finset.univ fun a : Fin nA => M.pay c (.inl (w, a))) ∗ (bigSep Finset.univ fun a : Fin nA => landed M.pay (fun _ => .going) c (w, a))) : sProp 𝕄)
      ⊢ bigSep Finset.univ fun a : Fin nA => M.dstEnd ((P.dest (w, a)).symm c) c (w, a) := by
  iintro ⟨-, H⟩
  iexact H

end Launch

end Cert.Exchange
-- ==== Proof.SwapRun.lean ====
/-
# The swap of the gradients between the two cores of a chip: the run

Every core sends its sibling, of each of its four arrays, the half of the rows that is the sibling's. The sibling of core
`c` is `c` with its last bit turned. `run_main`: from any memory every core's result `w` ends as the rows of the
sibling's array `w` that belong to the core, the arguments as they were, every semaphore at zero.
-/
module

public import proofs.«01_k».proof.Proof.Whole
public import proofs.«01_k».proof.Proof.Gen.SwapIdeal
public import proofs.«01_k».proof.Proof.Gen.SwapIdeal.Skeleton
public import proofs.«01_k».proof.Proof.Gen.SwapIdeal.Launch

@[expose] public section

noncomputable section

namespace Cert.SwapRun

open Cert.SwapIdeal Cert.SwapIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

/-- The other core of the same chip. -/
def sibling (c : Dev nD) : Dev nD := (![1, 0, 3, 2, 5, 4, 7, 6] : Dev nD → Dev nD) c
theorem sibling_sibling : Function.Involutive sibling := by unfold Function.Involutive; decide

/-- The four arrays and the four results. -/
def args : Fin 4 → Ref sig .tc := ![main_arg0, main_arg1, main_arg2, main_arg3]
def outs : Fin 4 → Ref sig .tc := ![main_v1_0, main_v1_1, main_v1_2, main_v1_3]

/-- The copies: the sibling's rows of each array onto the sibling's whole result. -/
def remote : Fin 4 × Fin 1 → Move nD sig
  | (0, _) => ⟨fun c => (Memref.whole main_arg0).slice (Rect.unit (s := S4x2048x1792) (k0_off1 c) S4x1024x1792.size (k0_off1_inb c)) (fun _ => rfl), fun _ => Memref.whole main_v1_0⟩
  | (1, _) => ⟨fun c => (Memref.whole main_arg1).slice (Rect.unit (s := S4x512x2048) (k0_off2 c) S4x256x2048.size (k0_off2_inb c)) (fun _ => rfl), fun _ => Memref.whole main_v1_1⟩
  | (2, _) => ⟨fun c => (Memref.whole main_arg2).slice (Rect.unit (s := S4x2048x2048) (k0_off3 c) S4x1024x2048.size (k0_off3_inb c)) (fun _ => rfl), fun _ => Memref.whole main_v1_2⟩
  | (3, _) => ⟨fun c => (Memref.whole main_arg3).slice (Rect.unit (s := S4x2048x2048) (k0_off3 c) S4x1024x2048.size (k0_off3_inb c)) (fun _ => rfl), fun _ => Memref.whole main_v1_3⟩

def plan : Plan nD sig (Fin 4 × Fin 1) (Fin 4 × Fin 0) where
  dest _ := sibling_sibling.toPerm
  send t := .dma (⟨t.1.val, by have := t.1.isLt; omega⟩ : Fin 8)
  recv t := .dma (⟨4 + t.1.val, by have := t.1.isLt; omega⟩ : Fin 8)
  loc l := l.2.elim0
  amt t := ((remote t).dst 0).view.amount (.dma (0 : Fin 8))
  lamt l := l.2.elim0
  level _ := 0
  amt_pos t := by obtain ⟨w, a⟩ := t; revert w a; decide
  lamt_pos l := l.2.elim0
  inj := by
    rintro (⟨w, a⟩ | ⟨w, a⟩ | l) (⟨w', a'⟩ | ⟨w', a'⟩ | l') h
    all_goals first | exact l.2.elim0 | exact l'.2.elim0 | skip
    all_goals
      revert w a w' a'
      decide

variable (m : (ℓ : Loc nD τ sig) → Buf (Elt F) ℓ)

/-- What core `c`'s result `w` ends as. -/
def result (c : Dev nD) : (w : Fin 4) → Buf (Elt F) ((c.tc : Thread nD τ).loc (outs w))
  | 0 => ((remote (0, 0)).src (sibling c)).view.read (Elt F) (m ((sibling c).tc.loc main_arg0))
  | 1 => ((remote (1, 0)).src (sibling c)).view.read (Elt F) (m ((sibling c).tc.loc main_arg1))
  | 2 => ((remote (2, 0)).src (sibling c)).view.read (Elt F) (m ((sibling c).tc.loc main_arg2))
  | 3 => ((remote (3, 0)).src (sibling c)).view.read (Elt F) (m ((sibling c).tc.loc main_arg3))

/-- The sibling's results are the core's own parts. -/
theorem result_sibling (c : Dev nD) :
    result m (sibling c) 0 = ((remote (0, 0)).src c).view.read (Elt F) (m (c.tc.loc main_arg0))
    ∧ result m (sibling c) 1 = ((remote (1, 0)).src c).view.read (Elt F) (m (c.tc.loc main_arg1))
    ∧ result m (sibling c) 2 = ((remote (2, 0)).src c).view.read (Elt F) (m (c.tc.loc main_arg2))
    ∧ result m (sibling c) 3 = ((remote (3, 0)).src c).view.read (Elt F) (m (c.tc.loc main_arg3)) := by
  unfold result
  rw [sibling_sibling]
  exact ⟨rfl, rfl, rfl, rfl⟩

theorem outs_inj : Function.Injective outs := by decide
theorem outs_ne_args : ∀ w v, outs w ≠ args v := by decide

abbrev final : (ℓ : Loc nD τ sig) → Buf (Elt F) ℓ := fill m outs (result m)

def picture : Picture τ (Elt F) plan where
  remote := remote
  own l := l.2.elim0
  q _ := partShare fullShare 0
  lq l := l.2.elim0
  passes _ := false
  E := final m
  agree
    | (0, _), c => agree_of (fill_out outs_inj (sibling c) 0) (fill_other c main_arg0 (outs_ne_args · 0)) fun x => congrFun (result_sibling m c).1 x
    | (1, _), c => agree_of (fill_out outs_inj (sibling c) 1) (fill_other c main_arg1 (outs_ne_args · 1)) fun x => congrFun (result_sibling m c).2.1 x
    | (2, _), c => agree_of (fill_out outs_inj (sibling c) 2) (fill_other c main_arg2 (outs_ne_args · 2)) fun x => congrFun (result_sibling m c).2.2.1 x
    | (3, _), c => agree_of (fill_out outs_inj (sibling c) 3) (fill_other c main_arg3 (outs_ne_args · 3)) fun x => congrFun (result_sibling m c).2.2.2 x
  agree_own l := l.2.elim0

theorem placed : Placed (picture m) args outs where
  src := by
    rintro ⟨w, a⟩ c -
    fin_cases w <;> rfl
  dst := by
    rintro ⟨w, a⟩ c
    fin_cases w <;> rfl
  ownSrc l := l.2.elim0
  ownDst l := l.2.elim0
  share w a _ := by rw [Subsingleton.elim a 0]; rfl
  ownShare _ b := b.elim0

theorem tiles : (placed m).Tiles := by
  intro c w
  refine ⟨fun k k' h => absurd (by revert k k'; decide) h, fun i => ⟨.inl 0, ?_⟩⟩
  match w with
  | 0 => exact mem_setOn_whole main_v1_0 rfl c i
  | 1 => exact mem_setOn_whole main_v1_1 rfl c i
  | 2 => exact mem_setOn_whole main_v1_2 rfl c i
  | 3 => exact mem_setOn_whole main_v1_3 rfl c i

section Body

/-- The body of the one kernel, on the buffers it is called with. -/
abbrev bodyProg : Prog (TpuEff nD τ sig (Elt F) Λ₀ .tc) PUnit :=
  cc0_grads_to_sibling (Memref.whole main_arg0) (Memref.isWhole_whole _) (Memref.whole main_arg1) (Memref.isWhole_whole _)
    (Memref.whole main_arg2) (Memref.isWhole_whole _) (Memref.whole main_arg3) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _) cc0_scratch0 cc0_scratch1

variable {K : Dev nD × Cell (Fin 4 × Fin 1) (Fin 4 × Fin 0) → ℕ} {c : Dev nD}

theorem dest_eq (c : Dev nD) (n : ℕ) (hn : n < nD) (h : n = (4 * (c.val / 4) + 2 * ((c.val / 2) % 2) + 1) - (c.val % 2)) (t : Fin 4 × Fin 1) :
    (⟨n, hn⟩ : Dev nD) = plan.dest t c := by
  subst h
  exact Fin.ext (by show _ = (sibling c).val; revert c; decide)

/-- The body at one core. -/
theorem body (𝒱₀ : Variants) :
    (picture m).holds K c fresh fresh fresh
      ⊢ wp frame (wpE (defs₀ (F := F)) 𝒱₀ (c : Thread nD τ) none) Set.univ (bodyProg (F := F))
          fun _ => (picture m).holds K c ended (fun _ => .going) ended := by
  simp only [bodyProg, cc0_grads_to_sibling_eq_skeleton]
  unfold cc0_grads_to_sibling_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  refine (picture m).send (0, 0) rfl rfl (dest_eq c _ _ (k0_dev1_eq c) _) rfl rfl rfl ?_
  refine (picture m).send (1, 0) rfl rfl (dest_eq c _ _ (k0_dev2_eq c) _) rfl rfl rfl ?_
  refine (picture m).send (2, 0) rfl rfl (dest_eq c _ _ (k0_dev3_eq c) _) rfl rfl rfl ?_
  refine (picture m).send (3, 0) rfl rfl (dest_eq c _ _ (k0_dev4_eq c) _) rfl rfl rfl ?_
  refine (picture m).sent (0, 0) rfl rfl (wpE_waitDma2_eq 𝒱₀ (c : Thread nD τ) none Set.univ) rfl ?_
  refine (picture m).received (0, 0) rfl (by decide) rfl (wpE_waitDma2_eq 𝒱₀ (c : Thread nD τ) none Set.univ) rfl ?_
  refine (picture m).sent (1, 0) rfl rfl (wpE_waitDma2_eq 𝒱₀ (c : Thread nD τ) none Set.univ) rfl ?_
  refine (picture m).received (1, 0) rfl (by decide) rfl (wpE_waitDma2_eq 𝒱₀ (c : Thread nD τ) none Set.univ) rfl ?_
  refine (picture m).sent (2, 0) rfl rfl (wpE_waitDma2_eq 𝒱₀ (c : Thread nD τ) none Set.univ) rfl ?_
  refine (picture m).received (2, 0) rfl (by decide) rfl (wpE_waitDma2_eq 𝒱₀ (c : Thread nD τ) none Set.univ) rfl ?_
  refine (picture m).sent (3, 0) rfl rfl (wpE_waitDma2_eq 𝒱₀ (c : Thread nD τ) none Set.univ) rfl ?_
  refine (picture m).received (3, 0) rfl (by decide) rfl (wpE_waitDma2_eq 𝒱₀ (c : Thread nD τ) none Set.univ) rfl ?_
  exact (picture m).done _ (by decide) (by decide) _ (by decide)

end Body

theorem ownSemFacts : OwnSemFacts cfg0.spec plan.sem := ⟨by decide, plan.inj, by decide⟩

/-- The program terminates, every argument as it was, every result the sibling's rows, every semaphore at zero. -/
theorem run_main (g : Dev nD → PrngReg) :
    θ_run (defs (F := F)) (onTc (τ := τ) (main (F := F))) ⟨m, fun _ => 0, g⟩ (fun r => (∀ (c : Dev nD) w,
      r.2.mem ((c.tc : Thread nD τ).loc (args w)) = m ((c.tc : Thread nD τ).loc (args w))
      ∧ r.2.mem ((c.tc : Thread nD τ).loc (outs w)) = result m c w) ∧ r.2.sem = fun _ => 0) :=
  have hE (c : Dev nD) (w : Fin 4) : final m ((c.tc : Thread nD τ).loc (args w)) = m ((c.tc : Thread nD τ).loc (args w)) :=
    fill_other c (args w) (outs_ne_args · w)
  run_moves (placed m) (fun p => (cfgs p).toPCfg) (fun _ p => (cfgs p).toPCfg_adm) cellOf_inj (0 : Fin 1)
    winFacts0.to₀ ownSemFacts defs₀ Variants.none m g main (fun _ => rfl)
    (fun _ => .going) (fun _ h => by cases h) (fun _ => N_0) (fun c K t => body m Variants.none) (tiles m) hE (by decide) (by decide)
    (fun c w => back_all c w)
    (fun s h hs => ⟨fun c w => ⟨(h c w).1.trans (hE c w), (h c w).2.trans (fill_out outs_inj c w)⟩, sem_eq_zero_of_scoped (by decide) hs⟩)

end Cert.SwapRun
-- ==== Proof.SwapValue.lean ====
/-
# The swap of the gradients: what the reference computes

`ref_value`: the reference's array at an index, for arrays of any row count and width. With `i 0 = 8 p + 4 s + q` (chip,
core, slice) it is row `s h + i 1` of slice `q` of the other core of the chip.
-/
module

public import Idealize.ShloMosaic.Lib.Pipeline.Value
public import Idealize.ShloMosaic.Lib.ValueIdx
public import Idealize.ShloMosaic.Lib.ValueIdxRank6

@[expose] public section

noncomputable section

namespace Cert.SwapValue

open Idealize.ShloMosaic Idealize.ShloMosaic.ValueIdx

variable {α : Type} {R h w : ℕ}

/-- One of the two pieces the reference stacks: of core `b` of every chip, the half `r` of every slice. -/
theorem piece (A : (⟨3, ![32, R, w]⟩ : Shape).Idx → α) (hR : R = 2 * h) (b r : ℕ) (hb : b < 2) (hr : r < 2)
    (c1 : Shape.ShapeCasts ⟨3, ![32, R, w]⟩ ⟨6, ![4, 2, 4, 2, h, w]⟩)
    (sl : Shape.Slices ⟨6, ![4, 2, 4, 2, h, w]⟩ ![0, b, 0, r, 0, 0] ⟨6, ![4, 1, 4, 1, h, w]⟩)
    (c2 : Shape.ShapeCasts ⟨6, ![4, 1, 4, 1, h, w]⟩ ⟨4, ![4, 4, h, w]⟩)
    (bc : Shape.BroadcastsInDim ⟨4, ![4, 4, h, w]⟩ ⟨5, ![4, 1, 4, h, w]⟩ ![0, 2, 3, 4])
    (p q : Fin 4) (y : Fin h) (z : Fin w) (k : (⟨3, ![32, R, w]⟩ : Shape).Idx)
    (k0 : (k 0).val = (p.val * 2 + b) * 4 + q.val) (k1 : (k 1).val = r * h + y.val) (k2 : (k 2).val = z.val) :
    broadcastInDim ⟨5, ![4, 1, 4, h, w]⟩ ![0, 2, 3, 4] bc
      (shapeCast ⟨4, ![4, 4, h, w]⟩ (extractStridedSlice ⟨6, ![4, 1, 4, 1, h, w]⟩ ![0, b, 0, r, 0, 0] (shapeCast ⟨6, ![4, 2, 4, 2, h, w]⟩ A c1) sl) c2)
      (ix5 p 0 q y z) = A k := by
  rw [broadcastInDim_apply _ _ _ _ (ix4 p q y z) (by
    intro a
    fin_cases a
    · rfl
    · rfl
    · show y.val = if h = 1 then 0 else y.val
      split
      · have := y.isLt; omega
      · rfl
    · show z.val = if w = 1 then 0 else z.val
      split
      · have := z.isLt; omega
      · rfl)]
  rw [shapeCast_apply _ c2 (ix4 p q y z) (ix6 p 0 q 0 y z) (by
    rw [Shape.rowMajor_val_six, Shape.rowMajor_val_four]
    show ((((p.val * 1 + 0) * 4 + q.val) * 1 + 0) * h + y.val) * w + z.val = ((p.val * 4 + q.val) * h + y.val) * w + z.val
    simp)]
  rw [extractStridedSlice_apply _ _ _ _ (ix6 p ⟨b, hb⟩ q ⟨r, hr⟩ y z) (by
    intro a
    fin_cases a
    · show p.val = 0 + p.val; omega
    · show b = b + 0; rfl
    · show q.val = 0 + q.val; omega
    · show r = r + 0; rfl
    · show y.val = 0 + y.val; omega
    · show z.val = 0 + z.val; omega)]
  refine shapeCast_apply _ c1 _ k ?_
  rw [Shape.rowMajor_val_six, Shape.rowMajor_val_three]
  subst hR
  show ((k 0).val * (2 * h) + (k 1).val) * w + (k 2).val = ((((p.val * 2 + b) * 4 + q.val) * 2 + r) * h + y.val) * w + z.val
  rw [k0, k1, k2]
  ring

/-- The reference's array at an index. -/
theorem ref_value (A : (⟨3, ![32, R, w]⟩ : Shape).Idx → α) (hR : R = 2 * h)
    (c1 : Shape.ShapeCasts ⟨3, ![32, R, w]⟩ ⟨6, ![4, 2, 4, 2, h, w]⟩)
    (sl : Shape.Slices ⟨6, ![4, 2, 4, 2, h, w]⟩ ![0, 1, 0, 0, 0, 0] ⟨6, ![4, 1, 4, 1, h, w]⟩)
    (sl' : Shape.Slices ⟨6, ![4, 2, 4, 2, h, w]⟩ ![0, 0, 0, 1, 0, 0] ⟨6, ![4, 1, 4, 1, h, w]⟩)
    (c2 : Shape.ShapeCasts ⟨6, ![4, 1, 4, 1, h, w]⟩ ⟨4, ![4, 4, h, w]⟩)
    (bc : Shape.BroadcastsInDim ⟨4, ![4, 4, h, w]⟩ ⟨5, ![4, 1, 4, h, w]⟩ ![0, 2, 3, 4])
    (cc : Shape.Concatenates [⟨5, ![4, 1, 4, h, w]⟩, ⟨5, ![4, 1, 4, h, w]⟩] ⟨5, ![4, 2, 4, h, w]⟩ 1)
    (c3 : Shape.ShapeCasts ⟨5, ![4, 2, 4, h, w]⟩ ⟨3, ![32, h, w]⟩)
    (i : (⟨3, ![32, h, w]⟩ : Shape).Idx) (k : (⟨3, ![32, R, w]⟩ : Shape).Idx)
    (k0 : (k 0).val + 4 * ((i 0).val / 4 % 2) = (i 0).val + 4 * (1 - (i 0).val / 4 % 2))
    (k1 : (k 1).val = (i 0).val / 4 % 2 * h + (i 1).val) (k2 : (k 2).val = (i 2).val) :
    shapeCast ⟨3, ![32, h, w]⟩ (concatenate ⟨5, ![4, 2, 4, h, w]⟩ 1
      [⟨⟨5, ![4, 1, 4, h, w]⟩, broadcastInDim ⟨5, ![4, 1, 4, h, w]⟩ ![0, 2, 3, 4] bc
        (shapeCast ⟨4, ![4, 4, h, w]⟩ (extractStridedSlice ⟨6, ![4, 1, 4, 1, h, w]⟩ ![0, 1, 0, 0, 0, 0] (shapeCast ⟨6, ![4, 2, 4, 2, h, w]⟩ A c1) sl) c2)⟩,
       ⟨⟨5, ![4, 1, 4, h, w]⟩, broadcastInDim ⟨5, ![4, 1, 4, h, w]⟩ ![0, 2, 3, 4] bc
        (shapeCast ⟨4, ![4, 4, h, w]⟩ (extractStridedSlice ⟨6, ![4, 1, 4, 1, h, w]⟩ ![0, 0, 0, 1, 0, 0] (shapeCast ⟨6, ![4, 2, 4, 2, h, w]⟩ A c1) sl') c2)⟩] cc) c3 i
      = A k := by
  have hi0 : (i 0).val < 32 := (i 0).isLt
  obtain ⟨p, hp⟩ : ∃ p : Fin 4, p.val = (i 0).val / 8 := ⟨⟨(i 0).val / 8, by omega⟩, rfl⟩
  obtain ⟨q, hq⟩ : ∃ q : Fin 4, q.val = (i 0).val % 4 := ⟨⟨(i 0).val % 4, by omega⟩, rfl⟩
  obtain ⟨s, hs⟩ : ∃ s : Fin 2, s.val = (i 0).val / 4 % 2 := ⟨⟨(i 0).val / 4 % 2, by omega⟩, rfl⟩
  obtain ⟨y, hy⟩ : ∃ y : Fin h, y.val = (i 1).val := ⟨i 1, rfl⟩
  obtain ⟨z, hz⟩ : ∃ z : Fin w, z.val = (i 2).val := ⟨i 2, rfl⟩
  have hi : (p.val * 2 + s.val) * 4 + q.val = (i 0).val := by omega
  rw [shapeCast_apply _ c3 i (ix5 p s q y z) (by
    rw [Shape.rowMajor_val_five, Shape.rowMajor_val_three]
    show ((((p.val * 2 + s.val) * 4 + q.val) * h + y.val) * w + z.val) = ((i 0).val * h + (i 1).val) * w + (i 2).val
    rw [hi, hy, hz])]
  rw [← hs, ← hy] at k1
  rw [← hs] at k0
  rw [← hz] at k2
  obtain h0 | h1 : s = 0 ∨ s = 1 := by omega
  · subst h0
    refine (concatenate_pair_apply_left (t := ⟨5, ![4, 2, 4, h, w]⟩) (s₁ := ⟨5, ![4, 1, 4, h, w]⟩) (s₂ := ⟨5, ![4, 1, 4, h, w]⟩) (1 : Fin 5) _ _ _ (ix5 p (0 : Fin 2) q y z) rfl (ix5 p (0 : Fin 1) q y z) (fun b => match b with | 0 => rfl | 1 => rfl | 2 => rfl | 3 => rfl | 4 => rfl)).trans ?_
    exact piece A hR 1 0 (by decide) (by decide) c1 sl c2 bc p q y z k (by simp at k0 hi; omega) (by simpa using k1) k2
  · subst h1
    refine (concatenate_pair_apply_right (t := ⟨5, ![4, 2, 4, h, w]⟩) (s₁ := ⟨5, ![4, 1, 4, h, w]⟩) (s₂ := ⟨5, ![4, 1, 4, h, w]⟩) (1 : Fin 5) _ _ _ (ix5 p (1 : Fin 2) q y z) rfl rfl (ix5 p (0 : Fin 1) q y z)
      (fun b hb => match b with | 0 => rfl | 1 => absurd rfl hb | 2 => rfl | 3 => rfl | 4 => rfl) rfl).trans ?_
    exact piece A hR 0 1 (by decide) (by decide) c1 sl' c2 bc p q y z k (by simp at k0 hi; omega) (by simpa using k1) k2

end Cert.SwapValue
-- ==== Proof.SwapProof.lean ====
/-
# The swap of the gradients: the claims

`value`: the kernel's results are the blocks of the reference's arrays, for any floats. The frames are read off the same
runs.
-/
module

public import proofs.«01_k».proof.Defs
public import proofs.«01_k».proof.Proof.SwapRun
public import proofs.«01_k».proof.Proof.SwapValue
public import Idealize.ShloMosaic.Lib.Pipeline.ValueKit.Geometry
public import proofs.«01_k».proof.Proof.Gen.Swap
public import proofs.«01_k».proof.Proof.Gen.SwapRef.Run
public import proofs.«01_k».proof.Proof.Gen.SwapRefIdeal.Run

@[expose] public section

noncomputable section

namespace Cert.SwapProof

open Cert.SwapIdeal Cert.SwapIdeal.Gen Cert.SwapRun

open Idealize.ShloMosaic Idealize.ShloMosaic.TcCoe Idealize.SL.Sem

variable {F : FTy → Type} [FloatOps F]

/-- The two coordinates of the sibling's row that a core's row `a` comes from. -/
theorem rows (c : Dev nD) (a : ℕ) (ha : a < 4) :
    ((sibling c).val * 4 + a) + 4 * ((c.val * 4 + a) / 4 % 2) = (c.val * 4 + a) + 4 * (1 - (c.val * 4 + a) / 4 % 2)
    ∧ (c.val * 4 + a) / 4 % 2 = c.val % 2 ∧ 1 - (sibling c).val % 2 = c.val % 2 ∧ (sibling c).val % 2 ≤ 1 := by
  obtain ⟨a, rfl⟩ : ∃ b : Fin 4, b.val = a := ⟨⟨a, ha⟩, rfl⟩
  clear ha
  revert c a
  decide

/-- A core's result, an index at a time: if the sibling's array is its block of `A`, it is the core's block of the
    reference's array `V`. -/
theorem of_block {α : Type} {R h w : ℕ} (hR : R = 2 * h) (c : Dev nD) (A : (⟨3, ![32, R, w]⟩ : Shape).Idx → α)
    (V : (⟨3, ![32, h, w]⟩ : Shape).Idx → α)
    (hV : ∀ (i : (⟨3, ![32, h, w]⟩ : Shape).Idx) (k : (⟨3, ![32, R, w]⟩ : Shape).Idx)
      (k0 : (k 0).val + 4 * ((i 0).val / 4 % 2) = (i 0).val + 4 * (1 - (i 0).val / 4 % 2))
      (k1 : (k 1).val = (i 0).val / 4 % 2 * h + (i 1).val) (k2 : (k 2).val = (i 2).val), V i = A k)
    (T : Layout.Tiles ⟨3, ![4, h, w]⟩ ⟨3, ![32, h, w]⟩ 0 8) (T' : Layout.Tiles ⟨3, ![4, R, w]⟩ ⟨3, ![32, R, w]⟩ 0 8)
    (i : (⟨3, ![4, h, w]⟩ : Shape).Idx) (k : (⟨3, ![4, R, w]⟩ : Shape).Idx)
    (k0 : (k 0).val = 0 + (i 0).val) (k1 : (k 1).val = h - h * ((sibling c).val % 2) + (i 1).val) (k2 : (k 2).val = 0 + (i 2).val) :
    Layout.block ⟨3, ![4, R, w]⟩ ⟨3, ![32, R, w]⟩ 0 8 (sibling c) A T' k = Layout.block ⟨3, ![4, h, w]⟩ ⟨3, ![32, h, w]⟩ 0 8 c V T i := by
  have ha : (i 0).val < 4 := (i 0).isLt
  obtain ⟨h0, h1, h2, h3⟩ := rows c (i 0).val ha
  refine (hV _ _ ?_ ?_ ?_).symm
  · show ((sibling c).val * 4 + (k 0).val) + 4 * ((c.val * 4 + (i 0).val) / 4 % 2) = (c.val * 4 + (i 0).val) + 4 * (1 - (c.val * 4 + (i 0).val) / 4 % 2)
    rw [k0, Nat.zero_add]; exact h0
  · show (k 1).val = (c.val * 4 + (i 0).val) / 4 % 2 * h + (i 1).val
    rw [k1, h1, ← h2, Nat.mul_comm _ h, Nat.mul_sub, Nat.mul_one]
  · exact k2.trans (Nat.zero_add _)

/-- An index of a rectangle of a whole buffer, placed in the buffer. -/
theorem emb_val {b : Ref sig .tc} {off off' size : Fin b.ty.shape.rank → ℕ} (h : off = off') (inb)
    (j : (Rect.unit off size inb).shape.Idx) (a : Fin b.ty.shape.rank) :
    ((((View.whole b).slice (Rect.unit off size inb)).emb j a : Fin _) : ℕ) = off' a + j a := by
  subst h; exact Idealize.ShloMosaic.ValueKit.view_emb_slice_whole_unit_val b off size inb j a

theorem value (m : (ℓ : Loc nD τ sig) → Buf (Elt F) ℓ) (g : Dev nD → PrngReg)
    (m' : (ℓ : Loc Cert.SwapRefIdeal.nD Cert.SwapRefIdeal.τ Cert.SwapRefIdeal.sig) → Buf (Elt F) ℓ) (g' : Dev Cert.SwapRefIdeal.nD → PrngReg)
    (hm : ∀ c : Dev nD,
      m (c.tc.loc main_arg0) = Layout.block ⟨3, ![4, 2048, 1792]⟩ ⟨3, ![32, 2048, 1792]⟩ 0 8 c (m' (((0 : Dev Cert.SwapRefIdeal.nD).tc : Thread Cert.SwapRefIdeal.nD Cert.SwapRefIdeal.τ).loc Cert.SwapRefIdeal.main_arg0))
      ∧ m (c.tc.loc main_arg1) = Layout.block ⟨3, ![4, 512, 2048]⟩ ⟨3, ![32, 512, 2048]⟩ 0 8 c (m' (((0 : Dev Cert.SwapRefIdeal.nD).tc : Thread Cert.SwapRefIdeal.nD Cert.SwapRefIdeal.τ).loc Cert.SwapRefIdeal.main_arg1))
      ∧ m (c.tc.loc main_arg2) = Layout.block ⟨3, ![4, 2048, 2048]⟩ ⟨3, ![32, 2048, 2048]⟩ 0 8 c (m' (((0 : Dev Cert.SwapRefIdeal.nD).tc : Thread Cert.SwapRefIdeal.nD Cert.SwapRefIdeal.τ).loc Cert.SwapRefIdeal.main_arg2))
      ∧ m (c.tc.loc main_arg3) = Layout.block ⟨3, ![4, 2048, 2048]⟩ ⟨3, ![32, 2048, 2048]⟩ 0 8 c (m' (((0 : Dev Cert.SwapRefIdeal.nD).tc : Thread Cert.SwapRefIdeal.nD Cert.SwapRefIdeal.τ).loc Cert.SwapRefIdeal.main_arg3))) :
    ∃ (v0 : Buf (Elt F) (((0 : Dev Cert.SwapRefIdeal.nD).tc : Thread Cert.SwapRefIdeal.nD Cert.SwapRefIdeal.τ).loc Cert.SwapRefIdeal.main_v8)) (v1 : Buf (Elt F) (((0 : Dev Cert.SwapRefIdeal.nD).tc : Thread Cert.SwapRefIdeal.nD Cert.SwapRefIdeal.τ).loc Cert.SwapRefIdeal.main_v17)) (v2 : Buf (Elt F) (((0 : Dev Cert.SwapRefIdeal.nD).tc : Thread Cert.SwapRefIdeal.nD Cert.SwapRefIdeal.τ).loc Cert.SwapRefIdeal.main_v26)) (v3 : Buf (Elt F) (((0 : Dev Cert.SwapRefIdeal.nD).tc : Thread Cert.SwapRefIdeal.nD Cert.SwapRefIdeal.τ).loc Cert.SwapRefIdeal.main_v35)),
      θ_run (defs (F := F)) (onTc (τ := τ) (main (F := F))) ⟨m, fun _ => 0, g⟩ (fun r => ∀ c : Dev nD,
          r.2.mem (c.tc.loc main_v1_0) = Layout.block ⟨3, ![4, 1024, 1792]⟩ ⟨3, ![32, 1024, 1792]⟩ 0 8 c v0
          ∧ r.2.mem (c.tc.loc main_v1_1) = Layout.block ⟨3, ![4, 256, 2048]⟩ ⟨3, ![32, 256, 2048]⟩ 0 8 c v1
          ∧ r.2.mem (c.tc.loc main_v1_2) = Layout.block ⟨3, ![4, 1024, 2048]⟩ ⟨3, ![32, 1024, 2048]⟩ 0 8 c v2
          ∧ r.2.mem (c.tc.loc main_v1_3) = Layout.block ⟨3, ![4, 1024, 2048]⟩ ⟨3, ![32, 1024, 2048]⟩ 0 8 c v3
          ∧ r.2.mem (c.tc.loc main_arg0) = m (c.tc.loc main_arg0)
          ∧ r.2.mem (c.tc.loc main_arg1) = m (c.tc.loc main_arg1)
          ∧ r.2.mem (c.tc.loc main_arg2) = m (c.tc.loc main_arg2)
          ∧ r.2.mem (c.tc.loc main_arg3) = m (c.tc.loc main_arg3))
      ∧ θ_run (Cert.SwapRefIdeal.defs (F := F)) (onTc (τ := Cert.SwapRefIdeal.τ) (Cert.SwapRefIdeal.main (F := F))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_v17) = v1
          ∧ r.2.mem (((0 : Dev Cert.SwapRefIdeal.nD).tc : Thread Cert.SwapRefIdeal.nD Cert.SwapRefIdeal.τ).loc Cert.SwapRefIdeal.main_v26) = v2
          ∧ r.2.mem (((0 : Dev Cert.SwapRefIdeal.nD).tc : Thread Cert.SwapRefIdeal.nD Cert.SwapRefIdeal.τ).loc Cert.SwapRefIdeal.main_v35) = v3
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0)
          ∧ r.2.mem (((0 : Dev Cert.SwapRefIdeal.nD).tc : Thread Cert.SwapRefIdeal.nD Cert.SwapRefIdeal.τ).loc Cert.SwapRefIdeal.main_arg1) = m' (((0 : Dev Cert.SwapRefIdeal.nD).tc : Thread Cert.SwapRefIdeal.nD Cert.SwapRefIdeal.τ).loc Cert.SwapRefIdeal.main_arg1)
          ∧ r.2.mem (((0 : Dev Cert.SwapRefIdeal.nD).tc : Thread Cert.SwapRefIdeal.nD Cert.SwapRefIdeal.τ).loc Cert.SwapRefIdeal.main_arg2) = m' (((0 : Dev Cert.SwapRefIdeal.nD).tc : Thread Cert.SwapRefIdeal.nD Cert.SwapRefIdeal.τ).loc Cert.SwapRefIdeal.main_arg2)
          ∧ r.2.mem (((0 : Dev Cert.SwapRefIdeal.nD).tc : Thread Cert.SwapRefIdeal.nD Cert.SwapRefIdeal.τ).loc Cert.SwapRefIdeal.main_arg3) = m' (((0 : Dev Cert.SwapRefIdeal.nD).tc : Thread Cert.SwapRefIdeal.nD Cert.SwapRefIdeal.τ).loc Cert.SwapRefIdeal.main_arg3)) := by
  refine ⟨_, _, _, _, ?_, (θ_run _ _ _).mono (fun r h => h 0) (Cert.SwapRefIdeal.Value.run m' g')⟩
  refine (θ_run _ _ _).mono (fun r h c => ?_) (run_main m g)
  refine ⟨(h.1 c 0).2.trans ?_, (h.1 c 1).2.trans ?_, (h.1 c 2).2.trans ?_, (h.1 c 3).2.trans ?_, (h.1 c 0).1, (h.1 c 1).1, (h.1 c 2).1, (h.1 c 3).1⟩
  · funext i
    refine (congrFun (hm (sibling c)).1 _).trans ?_
    refine of_block (R := 2048) (h := 1024) (w := 1792) rfl c _ _ ?_ _ _ i _ (emb_val (b := main_arg0) (k0_off1_eq _) _ _ 0) (emb_val (b := main_arg0) (k0_off1_eq _) _ _ 1) (emb_val (b := main_arg0) (k0_off1_eq _) _ _ 2)
    exact fun i k k0 k1 k2 => Cert.SwapValue.ref_value _ rfl _ _ _ _ _ _ _ i k k0 k1 k2
  · funext i
    refine (congrFun (hm (sibling c)).2.1 _).trans ?_
    refine of_block (R := 512) (h := 256) (w := 2048) rfl c _ _ ?_ _ _ i _ (emb_val (b := main_arg1) (k0_off2_eq _) _ _ 0) (emb_val (b := main_arg1) (k0_off2_eq _) _ _ 1) (emb_val (b := main_arg1) (k0_off2_eq _) _ _ 2)
    exact fun i k k0 k1 k2 => Cert.SwapValue.ref_value _ rfl _ _ _ _ _ _ _ i k k0 k1 k2
  · funext i
    refine (congrFun (hm (sibling c)).2.2.1 _).trans ?_
    refine of_block (R := 2048) (h := 1024) (w := 2048) rfl c _ _ ?_ _ _ i _ (emb_val (b := main_arg2) (k0_off3_eq _) _ _ 0) (emb_val (b := main_arg2) (k0_off3_eq _) _ _ 1) (emb_val (b := main_arg2) (k0_off3_eq _) _ _ 2)
    exact fun i k k0 k1 k2 => Cert.SwapValue.ref_value _ rfl _ _ _ _ _ _ _ i k k0 k1 k2
  · funext i
    refine (congrFun (hm (sibling c)).2.2.2 _).trans ?_
    refine of_block (R := 2048) (h := 1024) (w := 2048) rfl c _ _ ?_ _ _ i _ (emb_val (b := main_arg3) (k0_off3_eq _) _ _ 0) (emb_val (b := main_arg3) (k0_off3_eq _) _ _ 1) (emb_val (b := main_arg3) (k0_off3_eq _) _ _ 2)
    exact fun i k k0 k1 k2 => Cert.SwapValue.ref_value _ rfl _ _ _ _ _ _ _ i k k0 k1 k2

/-! ## The claims -/

theorem quiescent_kernel_ideal : Cert.quiescent_SwapIdeal := fun m g _ =>
  (θ_run _ _ _).mono (fun r h => ⟨fun c => ⟨(h.1 c 0).1, (h.1 c 1).1, (h.1 c 2).1, (h.1 c 3).1⟩, h.2⟩) (run_main m g)

theorem quiescent_kernel : Cert.quiescent_Swap := fun m g _ =>
  (θ_run (Cert.SwapIdeal.defs (F := Bits)) _ _).mono (fun r h => ⟨fun c => ⟨(h.1 c 0).1, (h.1 c 1).1, (h.1 c 2).1, (h.1 c 3).1⟩, h.2⟩) (run_main (F := Bits) m g)

theorem quiescent_ref_ideal : Cert.quiescent_SwapRefIdeal := fun m g _ =>
  (θ_run _ _ _).mono (fun r h => ⟨fun c => (h c).2.2.2.2, sem_eq_zero_of_no_sems (by decide) r.2⟩) (Cert.SwapRefIdeal.Value.run m g)

theorem quiescent_ref : Cert.quiescent_SwapRef := fun m g _ =>
  (θ_run _ _ _).mono (fun r h => ⟨fun c => (h c).2.2.2.2, sem_eq_zero_of_no_sems (by decide) r.2⟩) (Cert.SwapRef.Value.run m g)

theorem algebraic : Cert.algebraic_SwapIdeal_SwapRefIdeal := fun m g m' g' _ hm => value (F := Ideal) m g m' g' hm

theorem bitexact : Cert.bitexact_Swap_SwapRef := fun m g m' g' _ hm => value (F := Bits) m g m' g' hm

end Cert.SwapProof
-- ==== Proof.Slices.lean ====
/-
# Slices of whole buffers, an index at a time

Which elements of a buffer a slice names (`mem_slice`, `mem_squeezed`) and where it places an index (`emb_slice`,
`emb_squeezed`), with the slice's offsets rewritten to a closed form; parts that tile a buffer because every index says
which part it is in (`tiles_of`); a memory read at equal places (`at_eq`).
-/
module

public import proofs.«01_k».proof.Proof.Whole
public import Idealize.ShloMosaic.Lib.Pipeline.ValueKit.Geometry
public import Idealize.ShloMosaic.Lib.ValueLayout

@[expose] public section

noncomputable section

namespace Cert.Exchange

open Idealize.ShloMosaic Idealize.ShloMosaic.TcCoe Idealize.ShloMosaic.ValueIdx

variable {nD : Nat} {τ : Topo} {sig : RefSig} {Val : EltTy → Type}

/-- The elements a unit-stride slice names. -/
theorem mem_slice (r : Ref sig .tc) {off off' size : Fin r.ty.shape.rank → ℕ} (h : off = off') (inb) (hr)
    (hv : ((Memref.whole r).slice (Rect.unit (s := r.ty.shape) off size inb) hr : Memref sig .tc r.space _ r.ty.elt).view.ref = r) (c : Dev nD)
    (i : r.ty.shape.Idx) :
    i ∈ (setOn ((Memref.whole r).slice (Rect.unit (s := r.ty.shape) off size inb) hr) r hv c : Finset (Idx ((c.tc : Thread nD τ).loc r)))
      ↔ ∀ a, off' a ≤ i a ∧ (i a).val < off' a + size a := by
  subst h
  show i ∈ ((View.whole r).slice (Rect.unit off size inb)).set ↔ _
  rw [View.set_slice_whole]
  exact Rect.mem_set_unit

/-- The same, some axes of size one dropped. -/
theorem mem_squeezed (r : Ref sig .tc) {off off' size : Fin r.ty.shape.rank → ℕ} (h : off = off') (inb) (hr) {s' : Shape} (hs)
    (hv : (((Memref.whole r).slice (Rect.unit (s := r.ty.shape) off size inb) hr).squeeze s' hs : Memref sig .tc r.space _ r.ty.elt).view.ref = r) (c : Dev nD)
    (i : r.ty.shape.Idx) :
    i ∈ (setOn (((Memref.whole r).slice (Rect.unit (s := r.ty.shape) off size inb) hr).squeeze s' hs) r hv c : Finset (Idx ((c.tc : Thread nD τ).loc r)))
      ↔ ∀ a, off' a ≤ i a ∧ (i a).val < off' a + size a := by
  have e : (setOn (((Memref.whole r).slice (Rect.unit (s := r.ty.shape) off size inb) hr).squeeze s' hs) r hv c : Finset (Idx ((c.tc : Thread nD τ).loc r)))
      = setOn ((Memref.whole r).slice (Rect.unit (s := r.ty.shape) off size inb) hr) r hv c :=
    View.set_reshape (v := (View.whole r).slice (Rect.unit off size inb)) hs.numel_eq
  rw [e]
  exact mem_slice r h inb hr hv c i

/-- An index of a unit-stride slice, placed in the buffer, -/
theorem emb_slice {s : Shape} {off off' size : Fin s.rank → ℕ} (h : off = off') (inb) (j : (Rect.unit off size inb).shape.Idx) (a : Fin s.rank) :
    (((Rect.unit off size inb).emb j a : Fin _) : ℕ) = off' a + (j a).val := by
  subst h; exact Idealize.ShloMosaic.ValueKit.rect_emb_unit_val off size inb j a

/-- and of one whose first axis, of size one, is dropped. -/
theorem emb_squeezed {A B C h w : ℕ} {off off' : Fin 3 → ℕ} (ho : off = off') (inb) (hn)
    (x : (⟨2, ![h, w]⟩ : Shape).Idx) :
    (((Rect.unit (s := ⟨3, ![A, B, C]⟩) off ![1, h, w] inb).emb (Shape.reshapeEquiv hn x) 0 : Fin _) : ℕ) = off' 0
    ∧ (((Rect.unit (s := ⟨3, ![A, B, C]⟩) off ![1, h, w] inb).emb (Shape.reshapeEquiv hn x) 1 : Fin _) : ℕ) = off' 1 + (x 0).val
    ∧ (((Rect.unit (s := ⟨3, ![A, B, C]⟩) off ![1, h, w] inb).emb (Shape.reshapeEquiv hn x) 2 : Fin _) : ℕ) = off' 2 + (x 1).val := by
  have hx : Shape.reshapeEquiv (s := ⟨3, ![1, h, w]⟩) hn x = ix3 (0 : Fin 1) (x 0) (x 1) := by
    have e : x = ix2 (x 0) (x 1) := by
      funext b
      exact match b with | 0 => rfl | 1 => rfl
    rw [e]
    exact reshapeEquiv_ix2_1ab hn _ _
  have hx' : Shape.reshapeEquiv (s := (Rect.unit (s := ⟨3, ![A, B, C]⟩) off ![1, h, w] inb).shape) hn x = ix3 (0 : Fin 1) (x 0) (x 1) := hx
  refine ⟨(emb_slice ho inb _ 0).trans ?_, (emb_slice ho inb _ 1).trans ?_, (emb_slice ho inb _ 2).trans ?_⟩
  · rw [hx']; rfl
  · rw [hx']; rfl
  · rw [hx']; rfl

/-- A memory read at one place of one core's buffer. -/
theorem at_eq (m : (ℓ : Loc nD τ sig) → Buf Val ℓ) (r : Ref sig .tc) {d d' : Dev nD} (hd : d = d') (i j : r.ty.shape.Idx) (h : ∀ a, (i a).val = (j a).val) :
    (m ((d.tc : Thread nD τ).loc r) : r.ty.shape.Idx → Val r.ty.elt) i = (m ((d'.tc : Thread nD τ).loc r) : r.ty.shape.Idx → Val r.ty.elt) j := by
  subst hd
  obtain rfl : i = j := funext fun a => Fin.ext (h a)
  rfl

variable {W : Type} {nA nB : ℕ} {P : Plan nD sig (W × Fin nA) (W × Fin nB)} {M : Picture τ Val P} {args outs : W → Ref sig .tc}

/-- Parts tile when every index says which part it is in. -/
theorem tiles_of (pl : Placed M args outs) (which : (c : Dev nD) → (w : W) → Idx ((c.tc : Thread nD τ).loc (outs w)) → Fin nA ⊕ Fin nB)
    (h : ∀ c w k i, i ∈ pl.part c w k ↔ which c w i = k) : pl.Tiles := fun c w =>
  ⟨fun k k' hk => Finset.disjoint_left.2 fun i hi hi' => hk (((h c w k i).1 hi).symm.trans ((h c w k' i).1 hi')),
    fun i => ⟨_, (h c w _ i).2 rfl⟩⟩

end Cert.Exchange
-- ==== Proof.ScatterRun.lean ====
/-
# Handing the slices of the gradients to the chips they belong to: the run

Every core sends, of each of four arrays of one slice for every chip, the slice of each other chip to the same core of that
chip, where it lands in the result's slice for the direction it came from (along x, along y, along both).
`run_main`: from any memory every core's result `w` ends as its own chip's slices of the three other chips' arrays `w`, the
arguments as they were, every semaphore at zero.
-/
module

public import proofs.«01_k».proof.Proof.Slices
public import proofs.«01_k».proof.Proof.Gen.ScatterIdeal
public import proofs.«01_k».proof.Proof.Gen.ScatterIdeal.Skeleton
public import proofs.«01_k».proof.Proof.Gen.ScatterIdeal.Launch

@[expose] public section

noncomputable section

namespace Cert.ScatterRun

open Cert.ScatterIdeal Cert.ScatterIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.ValueIdx

variable {F : FTy → Type} [FloatOps F]

/-- The same core of the chip next to it along x, along y, along both. -/
def peer (k : Fin 3) (c : Dev nD) : Dev nD :=
  (![![4, 5, 6, 7, 0, 1, 2, 3], ![2, 3, 0, 1, 6, 7, 4, 5], ![6, 7, 4, 5, 2, 3, 0, 1]] : Fin 3 → Dev nD → Dev nD) k c
theorem peer_peer (k : Fin 3) : Function.Involutive (peer k) := by unfold Function.Involutive; revert k; decide

/-- The four arrays and the four results. -/
def args : Fin 4 → Ref sig .tc := ![main_arg0, main_arg1, main_arg2, main_arg3]
def outs : Fin 4 → Ref sig .tc := ![main_v1_0, main_v1_1, main_v1_2, main_v1_3]

/-- The copies: the other chip's slice of each array onto the slice of its result for the direction. -/
def remote : Fin 4 × Fin 3 → Move nD sig
  | (0, 0) => ⟨fun c => ((Memref.whole main_arg0).slice (Rect.unit (s := S4x1024x1792) (k0_off1 c) S1x1024x1792.size (k0_off1_inb c)) (fun _ => rfl)).squeeze S1024x1792 squeezes_S1x1024x1792_S1024x1792,
      fun _ => ((Memref.whole main_v1_0).slice (Rect.unit (s := S3x1024x1792) ![0, 0, 0] S1x1024x1792.size inb_S3x1024x1792_S1x1024x1792_0_0_0) (fun _ => rfl)).squeeze S1024x1792 squeezes_S1x1024x1792_S1024x1792⟩
  | (0, 1) => ⟨fun c => ((Memref.whole main_arg0).slice (Rect.unit (s := S4x1024x1792) (k0_off2 c) S1x1024x1792.size (k0_off2_inb c)) (fun _ => rfl)).squeeze S1024x1792 squeezes_S1x1024x1792_S1024x1792,
      fun _ => ((Memref.whole main_v1_0).slice (Rect.unit (s := S3x1024x1792) ![1, 0, 0] S1x1024x1792.size inb_S3x1024x1792_S1x1024x1792_1_0_0) (fun _ => rfl)).squeeze S1024x1792 squeezes_S1x1024x1792_S1024x1792⟩
  | (0, 2) => ⟨fun c => ((Memref.whole main_arg0).slice (Rect.unit (s := S4x1024x1792) (k0_off3 c) S1x1024x1792.size (k0_off3_inb c)) (fun _ => rfl)).squeeze S1024x1792 squeezes_S1x1024x1792_S1024x1792,
      fun _ => ((Memref.whole main_v1_0).slice (Rect.unit (s := S3x1024x1792) ![2, 0, 0] S1x1024x1792.size inb_S3x1024x1792_S1x1024x1792_2_0_0) (fun _ => rfl)).squeeze S1024x1792 squeezes_S1x1024x1792_S1024x1792⟩
  | (1, 0) => ⟨fun c => ((Memref.whole main_arg1).slice (Rect.unit (s := S4x256x2048) (k0_off4 c) S1x256x2048.size (k0_off4_inb c)) (fun _ => rfl)).squeeze S256x2048 squeezes_S1x256x2048_S256x2048,
      fun _ => ((Memref.whole main_v1_1).slice (Rect.unit (s := S3x256x2048) ![0, 0, 0] S1x256x2048.size inb_S3x256x2048_S1x256x2048_0_0_0) (fun _ => rfl)).squeeze S256x2048 squeezes_S1x256x2048_S256x2048⟩
  | (1, 1) => ⟨fun c => ((Memref.whole main_arg1).slice (Rect.unit (s := S4x256x2048) (k0_off5 c) S1x256x2048.size (k0_off5_inb c)) (fun _ => rfl)).squeeze S256x2048 squeezes_S1x256x2048_S256x2048,
      fun _ => ((Memref.whole main_v1_1).slice (Rect.unit (s := S3x256x2048) ![1, 0, 0] S1x256x2048.size inb_S3x256x2048_S1x256x2048_1_0_0) (fun _ => rfl)).squeeze S256x2048 squeezes_S1x256x2048_S256x2048⟩
  | (1, 2) => ⟨fun c => ((Memref.whole main_arg1).slice (Rect.unit (s := S4x256x2048) (k0_off6 c) S1x256x2048.size (k0_off6_inb c)) (fun _ => rfl)).squeeze S256x2048 squeezes_S1x256x2048_S256x2048,
      fun _ => ((Memref.whole main_v1_1).slice (Rect.unit (s := S3x256x2048) ![2, 0, 0] S1x256x2048.size inb_S3x256x2048_S1x256x2048_2_0_0) (fun _ => rfl)).squeeze S256x2048 squeezes_S1x256x2048_S256x2048⟩
  | (2, 0) => ⟨fun c => ((Memref.whole main_arg2).slice (Rect.unit (s := S4x1024x2048) (k0_off7 c) S1x1024x2048.size (k0_off7_inb c)) (fun _ => rfl)).squeeze S1024x2048 squeezes_S1x1024x2048_S1024x2048,
      fun _ => ((Memref.whole main_v1_2).slice (Rect.unit (s := S3x1024x2048) ![0, 0, 0] S1x1024x2048.size inb_S3x1024x2048_S1x1024x2048_0_0_0) (fun _ => rfl)).squeeze S1024x2048 squeezes_S1x1024x2048_S1024x2048⟩
  | (2, 1) => ⟨fun c => ((Memref.whole main_arg2).slice (Rect.unit (s := S4x1024x2048) (k0_off8 c) S1x1024x2048.size (k0_off8_inb c)) (fun _ => rfl)).squeeze S1024x2048 squeezes_S1x1024x2048_S1024x2048,
      fun _ => ((Memref.whole main_v1_2).slice (Rect.unit (s := S3x1024x2048) ![1, 0, 0] S1x1024x2048.size inb_S3x1024x2048_S1x1024x2048_1_0_0) (fun _ => rfl)).squeeze S1024x2048 squeezes_S1x1024x2048_S1024x2048⟩
  | (2, 2) => ⟨fun c => ((Memref.whole main_arg2).slice (Rect.unit (s := S4x1024x2048) (k0_off9 c) S1x1024x2048.size (k0_off9_inb c)) (fun _ => rfl)).squeeze S1024x2048 squeezes_S1x1024x2048_S1024x2048,
      fun _ => ((Memref.whole main_v1_2).slice (Rect.unit (s := S3x1024x2048) ![2, 0, 0] S1x1024x2048.size inb_S3x1024x2048_S1x1024x2048_2_0_0) (fun _ => rfl)).squeeze S1024x2048 squeezes_S1x1024x2048_S1024x2048⟩
  | (3, 0) => ⟨fun c => ((Memref.whole main_arg3).slice (Rect.unit (s := S4x1024x2048) (k0_off7 c) S1x1024x2048.size (k0_off7_inb c)) (fun _ => rfl)).squeeze S1024x2048 squeezes_S1x1024x2048_S1024x2048,
      fun _ => ((Memref.whole main_v1_3).slice (Rect.unit (s := S3x1024x2048) ![0, 0, 0] S1x1024x2048.size inb_S3x1024x2048_S1x1024x2048_0_0_0) (fun _ => rfl)).squeeze S1024x2048 squeezes_S1x1024x2048_S1024x2048⟩
  | (3, 1) => ⟨fun c => ((Memref.whole main_arg3).slice (Rect.unit (s := S4x1024x2048) (k0_off8 c) S1x1024x2048.size (k0_off8_inb c)) (fun _ => rfl)).squeeze S1024x2048 squeezes_S1x1024x2048_S1024x2048,
      fun _ => ((Memref.whole main_v1_3).slice (Rect.unit (s := S3x1024x2048) ![1, 0, 0] S1x1024x2048.size inb_S3x1024x2048_S1x1024x2048_1_0_0) (fun _ => rfl)).squeeze S1024x2048 squeezes_S1x1024x2048_S1024x2048⟩
  | (3, 2) => ⟨fun c => ((Memref.whole main_arg3).slice (Rect.unit (s := S4x1024x2048) (k0_off9 c) S1x1024x2048.size (k0_off9_inb c)) (fun _ => rfl)).squeeze S1024x2048 squeezes_S1x1024x2048_S1024x2048,
      fun _ => ((Memref.whole main_v1_3).slice (Rect.unit (s := S3x1024x2048) ![2, 0, 0] S1x1024x2048.size inb_S3x1024x2048_S1x1024x2048_2_0_0) (fun _ => rfl)).squeeze S1024x2048 squeezes_S1x1024x2048_S1024x2048⟩

def plan : Plan nD sig (Fin 4 × Fin 3) (Fin 4 × Fin 0) where
  dest t := (peer_peer t.2).toPerm
  send t := .dma (⟨3 * t.1.val + t.2.val, by have := t.1.isLt; have := t.2.isLt; omega⟩ : Fin 24)
  recv t := .dma (⟨12 + (3 * t.1.val + t.2.val), by have := t.1.isLt; have := t.2.isLt; omega⟩ : Fin 24)
  loc l := l.2.elim0
  amt t := ((remote t).dst 0).view.amount (.dma (0 : Fin 24))
  lamt l := l.2.elim0
  level _ := 0
  amt_pos t := by obtain ⟨w, a⟩ := t; revert w a; decide
  lamt_pos l := l.2.elim0
  inj := by
    rintro (⟨w, a⟩ | ⟨w, a⟩ | l) (⟨w', a'⟩ | ⟨w', a'⟩ | l') h
    all_goals first | exact l.2.elim0 | exact l'.2.elim0 | skip
    all_goals
      revert w a w' a'
      decide

/-- Chip `d / 2`'s slices of what the three other chips hold. -/
def taken {α : Type} {h w : ℕ} (A : Dev nD → (⟨3, ![4, h, w]⟩ : Shape).Idx → α) (d : Dev nD)
    (i : (⟨3, ![3, h, w]⟩ : Shape).Idx) : α :=
  A (peer (i 0) d) (ix3 ⟨d.val / 2, by have : d.val < 8 := d.isLt; omega⟩ (i 1) (i 2))

/-- At an index of what core `c` sent. -/
theorem taken_at {α : Type} {h w : ℕ} (A : Dev nD → (⟨3, ![4, h, w]⟩ : Shape).Idx → α) (k : Fin 3) (c : Dev nD)
    (i : (⟨3, ![3, h, w]⟩ : Shape).Idx) (j : (⟨3, ![4, h, w]⟩ : Shape).Idx) {x y n : ℕ} (hn : n = (peer k c).val / 2)
    (hi : (i 0).val = k.val ∧ (i 1).val = 0 + x ∧ (i 2).val = 0 + y) (hj : (j 0).val = n ∧ (j 1).val = 0 + x ∧ (j 2).val = 0 + y) :
    taken A (peer k c) i = A c j := by
  have hk : i 0 = k := Fin.ext hi.1
  unfold taken
  rw [hk, peer_peer k c]
  congr 1
  funext b
  exact match b with
    | 0 => Fin.ext (hn.symm.trans hj.1.symm)
    | 1 => Fin.ext (hi.2.1.trans hj.2.1.symm)
    | 2 => Fin.ext (hi.2.2.trans hj.2.2.symm)

variable (m : (ℓ : Loc nD τ sig) → Buf (Elt F) ℓ)

/-- What core `c`'s result `w` ends as. -/
def result (c : Dev nD) : (w : Fin 4) → Buf (Elt F) ((c.tc : Thread nD τ).loc (outs w))
  | 0 => (taken (h := 1024) (w := 1792) (fun d => m (d.tc.loc main_arg0)) c : (⟨3, ![3, 1024, 1792]⟩ : Shape).Idx → Elt F .bf16)
  | 1 => (taken (h := 256) (w := 2048) (fun d => m (d.tc.loc main_arg1)) c : (⟨3, ![3, 256, 2048]⟩ : Shape).Idx → Elt F .bf16)
  | 2 => (taken (h := 1024) (w := 2048) (fun d => m (d.tc.loc main_arg2)) c : (⟨3, ![3, 1024, 2048]⟩ : Shape).Idx → Elt F .bf16)
  | 3 => (taken (h := 1024) (w := 2048) (fun d => m (d.tc.loc main_arg3)) c : (⟨3, ![3, 1024, 2048]⟩ : Shape).Idx → Elt F .bf16)

theorem outs_inj : Function.Injective outs := by decide
theorem outs_ne_args : ∀ w v, outs w ≠ args v := by decide

abbrev final : (ℓ : Loc nD τ sig) → Buf (Elt F) ℓ := fill m outs (result m)

/-- Which slice a core sends along x, along y, along both. -/
theorem slice_x (c : Dev nD) : (((c.val / 2) % 2) + 2) - 2 * (c.val / 4) = (peer 0 c).val / 2 := by revert c; decide
theorem slice_y (c : Dev nD) : (2 * (c.val / 4) + 1) - ((c.val / 2) % 2) = (peer 1 c).val / 2 := by revert c; decide
theorem slice_xy (c : Dev nD) : 3 - (2 * (c.val / 4) + ((c.val / 2) % 2)) = (peer 2 c).val / 2 := by revert c; decide

theorem agrees0_0 (c : Dev nD) (x : (S1024x1792 : Shape).Idx) :
    ((((Memref.whole main_v1_0).slice (Rect.unit (s := S3x1024x1792) ![0, 0, 0] S1x1024x1792.size inb_S3x1024x1792_S1x1024x1792_0_0_0) (fun _ => rfl)).squeeze S1024x1792 squeezes_S1x1024x1792_S1024x1792 : Memref sig .tc .hbm S1024x1792 .bf16).view.read (Elt F) (result m (peer 0 c) 0) x : Elt F .bf16)
      = ((((Memref.whole main_arg0).slice (Rect.unit (s := S4x1024x1792) (k0_off1 c) S1x1024x1792.size (k0_off1_inb c)) (fun _ => rfl)).squeeze S1024x1792 squeezes_S1x1024x1792_S1024x1792 : Memref sig .tc .hbm S1024x1792 .bf16).view.read (Elt F) (m ((c.tc : Thread nD τ).loc main_arg0)) x : Elt F .bf16) :=
  taken_at (h := 1024) (w := 1792) (fun d => m (d.tc.loc main_arg0)) 0 c _ _ (slice_x c)
    (emb_squeezed (A := 3) (B := 1024) (C := 1792) (h := 1024) (w := 1792) (off' := ![0, 0, 0]) rfl _ _ x)
    (emb_squeezed (A := 4) (B := 1024) (C := 1792) (h := 1024) (w := 1792) (k0_off1_eq c) _ _ x)

theorem agrees0_1 (c : Dev nD) (x : (S1024x1792 : Shape).Idx) :
    ((((Memref.whole main_v1_0).slice (Rect.unit (s := S3x1024x1792) ![1, 0, 0] S1x1024x1792.size inb_S3x1024x1792_S1x1024x1792_1_0_0) (fun _ => rfl)).squeeze S1024x1792 squeezes_S1x1024x1792_S1024x1792 : Memref sig .tc .hbm S1024x1792 .bf16).view.read (Elt F) (result m (peer 1 c) 0) x : Elt F .bf16)
      = ((((Memref.whole main_arg0).slice (Rect.unit (s := S4x1024x1792) (k0_off2 c) S1x1024x1792.size (k0_off2_inb c)) (fun _ => rfl)).squeeze S1024x1792 squeezes_S1x1024x1792_S1024x1792 : Memref sig .tc .hbm S1024x1792 .bf16).view.read (Elt F) (m ((c.tc : Thread nD τ).loc main_arg0)) x : Elt F .bf16) :=
  taken_at (h := 1024) (w := 1792) (fun d => m (d.tc.loc main_arg0)) 1 c _ _ (slice_y c)
    (emb_squeezed (A := 3) (B := 1024) (C := 1792) (h := 1024) (w := 1792) (off' := ![1, 0, 0]) rfl _ _ x)
    (emb_squeezed (A := 4) (B := 1024) (C := 1792) (h := 1024) (w := 1792) (k0_off2_eq c) _ _ x)

theorem agrees0_2 (c : Dev nD) (x : (S1024x1792 : Shape).Idx) :
    ((((Memref.whole main_v1_0).slice (Rect.unit (s := S3x1024x1792) ![2, 0, 0] S1x1024x1792.size inb_S3x1024x1792_S1x1024x1792_2_0_0) (fun _ => rfl)).squeeze S1024x1792 squeezes_S1x1024x1792_S1024x1792 : Memref sig .tc .hbm S1024x1792 .bf16).view.read (Elt F) (result m (peer 2 c) 0) x : Elt F .bf16)
      = ((((Memref.whole main_arg0).slice (Rect.unit (s := S4x1024x1792) (k0_off3 c) S1x1024x1792.size (k0_off3_inb c)) (fun _ => rfl)).squeeze S1024x1792 squeezes_S1x1024x1792_S1024x1792 : Memref sig .tc .hbm S1024x1792 .bf16).view.read (Elt F) (m ((c.tc : Thread nD τ).loc main_arg0)) x : Elt F .bf16) :=
  taken_at (h := 1024) (w := 1792) (fun d => m (d.tc.loc main_arg0)) 2 c _ _ (slice_xy c)
    (emb_squeezed (A := 3) (B := 1024) (C := 1792) (h := 1024) (w := 1792) (off' := ![2, 0, 0]) rfl _ _ x)
    (emb_squeezed (A := 4) (B := 1024) (C := 1792) (h := 1024) (w := 1792) (k0_off3_eq c) _ _ x)

theorem agrees1_0 (c : Dev nD) (x : (S256x2048 : Shape).Idx) :
    ((((Memref.whole main_v1_1).slice (Rect.unit (s := S3x256x2048) ![0, 0, 0] S1x256x2048.size inb_S3x256x2048_S1x256x2048_0_0_0) (fun _ => rfl)).squeeze S256x2048 squeezes_S1x256x2048_S256x2048 : Memref sig .tc .hbm S256x2048 .bf16).view.read (Elt F) (result m (peer 0 c) 1) x : Elt F .bf16)
      = ((((Memref.whole main_arg1).slice (Rect.unit (s := S4x256x2048) (k0_off4 c) S1x256x2048.size (k0_off4_inb c)) (fun _ => rfl)).squeeze S256x2048 squeezes_S1x256x2048_S256x2048 : Memref sig .tc .hbm S256x2048 .bf16).view.read (Elt F) (m ((c.tc : Thread nD τ).loc main_arg1)) x : Elt F .bf16) :=
  taken_at (h := 256) (w := 2048) (fun d => m (d.tc.loc main_arg1)) 0 c _ _ (slice_x c)
    (emb_squeezed (A := 3) (B := 256) (C := 2048) (h := 256) (w := 2048) (off' := ![0, 0, 0]) rfl _ _ x)
    (emb_squeezed (A := 4) (B := 256) (C := 2048) (h := 256) (w := 2048) (k0_off4_eq c) _ _ x)

theorem agrees1_1 (c : Dev nD) (x : (S256x2048 : Shape).Idx) :
    ((((Memref.whole main_v1_1).slice (Rect.unit (s := S3x256x2048) ![1, 0, 0] S1x256x2048.size inb_S3x256x2048_S1x256x2048_1_0_0) (fun _ => rfl)).squeeze S256x2048 squeezes_S1x256x2048_S256x2048 : Memref sig .tc .hbm S256x2048 .bf16).view.read (Elt F) (result m (peer 1 c) 1) x : Elt F .bf16)
      = ((((Memref.whole main_arg1).slice (Rect.unit (s := S4x256x2048) (k0_off5 c) S1x256x2048.size (k0_off5_inb c)) (fun _ => rfl)).squeeze S256x2048 squeezes_S1x256x2048_S256x2048 : Memref sig .tc .hbm S256x2048 .bf16).view.read (Elt F) (m ((c.tc : Thread nD τ).loc main_arg1)) x : Elt F .bf16) :=
  taken_at (h := 256) (w := 2048) (fun d => m (d.tc.loc main_arg1)) 1 c _ _ (slice_y c)
    (emb_squeezed (A := 3) (B := 256) (C := 2048) (h := 256) (w := 2048) (off' := ![1, 0, 0]) rfl _ _ x)
    (emb_squeezed (A := 4) (B := 256) (C := 2048) (h := 256) (w := 2048) (k0_off5_eq c) _ _ x)

theorem agrees1_2 (c : Dev nD) (x : (S256x2048 : Shape).Idx) :
    ((((Memref.whole main_v1_1).slice (Rect.unit (s := S3x256x2048) ![2, 0, 0] S1x256x2048.size inb_S3x256x2048_S1x256x2048_2_0_0) (fun _ => rfl)).squeeze S256x2048 squeezes_S1x256x2048_S256x2048 : Memref sig .tc .hbm S256x2048 .bf16).view.read (Elt F) (result m (peer 2 c) 1) x : Elt F .bf16)
      = ((((Memref.whole main_arg1).slice (Rect.unit (s := S4x256x2048) (k0_off6 c) S1x256x2048.size (k0_off6_inb c)) (fun _ => rfl)).squeeze S256x2048 squeezes_S1x256x2048_S256x2048 : Memref sig .tc .hbm S256x2048 .bf16).view.read (Elt F) (m ((c.tc : Thread nD τ).loc main_arg1)) x : Elt F .bf16) :=
  taken_at (h := 256) (w := 2048) (fun d => m (d.tc.loc main_arg1)) 2 c _ _ (slice_xy c)
    (emb_squeezed (A := 3) (B := 256) (C := 2048) (h := 256) (w := 2048) (off' := ![2, 0, 0]) rfl _ _ x)
    (emb_squeezed (A := 4) (B := 256) (C := 2048) (h := 256) (w := 2048) (k0_off6_eq c) _ _ x)

theorem agrees2_0 (c : Dev nD) (x : (S1024x2048 : Shape).Idx) :
    ((((Memref.whole main_v1_2).slice (Rect.unit (s := S3x1024x2048) ![0, 0, 0] S1x1024x2048.size inb_S3x1024x2048_S1x1024x2048_0_0_0) (fun _ => rfl)).squeeze S1024x2048 squeezes_S1x1024x2048_S1024x2048 : Memref sig .tc .hbm S1024x2048 .bf16).view.read (Elt F) (result m (peer 0 c) 2) x : Elt F .bf16)
      = ((((Memref.whole main_arg2).slice (Rect.unit (s := S4x1024x2048) (k0_off7 c) S1x1024x2048.size (k0_off7_inb c)) (fun _ => rfl)).squeeze S1024x2048 squeezes_S1x1024x2048_S1024x2048 : Memref sig .tc .hbm S1024x2048 .bf16).view.read (Elt F) (m ((c.tc : Thread nD τ).loc main_arg2)) x : Elt F .bf16) :=
  taken_at (h := 1024) (w := 2048) (fun d => m (d.tc.loc main_arg2)) 0 c _ _ (slice_x c)
    (emb_squeezed (A := 3) (B := 1024) (C := 2048) (h := 1024) (w := 2048) (off' := ![0, 0, 0]) rfl _ _ x)
    (emb_squeezed (A := 4) (B := 1024) (C := 2048) (h := 1024) (w := 2048) (k0_off7_eq c) _ _ x)

theorem agrees2_1 (c : Dev nD) (x : (S1024x2048 : Shape).Idx) :
    ((((Memref.whole main_v1_2).slice (Rect.unit (s := S3x1024x2048) ![1, 0, 0] S1x1024x2048.size inb_S3x1024x2048_S1x1024x2048_1_0_0) (fun _ => rfl)).squeeze S1024x2048 squeezes_S1x1024x2048_S1024x2048 : Memref sig .tc .hbm S1024x2048 .bf16).view.read (Elt F) (result m (peer 1 c) 2) x : Elt F .bf16)
      = ((((Memref.whole main_arg2).slice (Rect.unit (s := S4x1024x2048) (k0_off8 c) S1x1024x2048.size (k0_off8_inb c)) (fun _ => rfl)).squeeze S1024x2048 squeezes_S1x1024x2048_S1024x2048 : Memref sig .tc .hbm S1024x2048 .bf16).view.read (Elt F) (m ((c.tc : Thread nD τ).loc main_arg2)) x : Elt F .bf16) :=
  taken_at (h := 1024) (w := 2048) (fun d => m (d.tc.loc main_arg2)) 1 c _ _ (slice_y c)
    (emb_squeezed (A := 3) (B := 1024) (C := 2048) (h := 1024) (w := 2048) (off' := ![1, 0, 0]) rfl _ _ x)
    (emb_squeezed (A := 4) (B := 1024) (C := 2048) (h := 1024) (w := 2048) (k0_off8_eq c) _ _ x)

theorem agrees2_2 (c : Dev nD) (x : (S1024x2048 : Shape).Idx) :
    ((((Memref.whole main_v1_2).slice (Rect.unit (s := S3x1024x2048) ![2, 0, 0] S1x1024x2048.size inb_S3x1024x2048_S1x1024x2048_2_0_0) (fun _ => rfl)).squeeze S1024x2048 squeezes_S1x1024x2048_S1024x2048 : Memref sig .tc .hbm S1024x2048 .bf16).view.read (Elt F) (result m (peer 2 c) 2) x : Elt F .bf16)
      = ((((Memref.whole main_arg2).slice (Rect.unit (s := S4x1024x2048) (k0_off9 c) S1x1024x2048.size (k0_off9_inb c)) (fun _ => rfl)).squeeze S1024x2048 squeezes_S1x1024x2048_S1024x2048 : Memref sig .tc .hbm S1024x2048 .bf16).view.read (Elt F) (m ((c.tc : Thread nD τ).loc main_arg2)) x : Elt F .bf16) :=
  taken_at (h := 1024) (w := 2048) (fun d => m (d.tc.loc main_arg2)) 2 c _ _ (slice_xy c)
    (emb_squeezed (A := 3) (B := 1024) (C := 2048) (h := 1024) (w := 2048) (off' := ![2, 0, 0]) rfl _ _ x)
    (emb_squeezed (A := 4) (B := 1024) (C := 2048) (h := 1024) (w := 2048) (k0_off9_eq c) _ _ x)

theorem agrees3_0 (c : Dev nD) (x : (S1024x2048 : Shape).Idx) :
    ((((Memref.whole main_v1_3).slice (Rect.unit (s := S3x1024x2048) ![0, 0, 0] S1x1024x2048.size inb_S3x1024x2048_S1x1024x2048_0_0_0) (fun _ => rfl)).squeeze S1024x2048 squeezes_S1x1024x2048_S1024x2048 : Memref sig .tc .hbm S1024x2048 .bf16).view.read (Elt F) (result m (peer 0 c) 3) x : Elt F .bf16)
      = ((((Memref.whole main_arg3).slice (Rect.unit (s := S4x1024x2048) (k0_off7 c) S1x1024x2048.size (k0_off7_inb c)) (fun _ => rfl)).squeeze S1024x2048 squeezes_S1x1024x2048_S1024x2048 : Memref sig .tc .hbm S1024x2048 .bf16).view.read (Elt F) (m ((c.tc : Thread nD τ).loc main_arg3)) x : Elt F .bf16) :=
  taken_at (h := 1024) (w := 2048) (fun d => m (d.tc.loc main_arg3)) 0 c _ _ (slice_x c)
    (emb_squeezed (A := 3) (B := 1024) (C := 2048) (h := 1024) (w := 2048) (off' := ![0, 0, 0]) rfl _ _ x)
    (emb_squeezed (A := 4) (B := 1024) (C := 2048) (h := 1024) (w := 2048) (k0_off7_eq c) _ _ x)

theorem agrees3_1 (c : Dev nD) (x : (S1024x2048 : Shape).Idx) :
    ((((Memref.whole main_v1_3).slice (Rect.unit (s := S3x1024x2048) ![1, 0, 0] S1x1024x2048.size inb_S3x1024x2048_S1x1024x2048_1_0_0) (fun _ => rfl)).squeeze S1024x2048 squeezes_S1x1024x2048_S1024x2048 : Memref sig .tc .hbm S1024x2048 .bf16).view.read (Elt F) (result m (peer 1 c) 3) x : Elt F .bf16)
      = ((((Memref.whole main_arg3).slice (Rect.unit (s := S4x1024x2048) (k0_off8 c) S1x1024x2048.size (k0_off8_inb c)) (fun _ => rfl)).squeeze S1024x2048 squeezes_S1x1024x2048_S1024x2048 : Memref sig .tc .hbm S1024x2048 .bf16).view.read (Elt F) (m ((c.tc : Thread nD τ).loc main_arg3)) x : Elt F .bf16) :=
  taken_at (h := 1024) (w := 2048) (fun d => m (d.tc.loc main_arg3)) 1 c _ _ (slice_y c)
    (emb_squeezed (A := 3) (B := 1024) (C := 2048) (h := 1024) (w := 2048) (off' := ![1, 0, 0]) rfl _ _ x)
    (emb_squeezed (A := 4) (B := 1024) (C := 2048) (h := 1024) (w := 2048) (k0_off8_eq c) _ _ x)

theorem agrees3_2 (c : Dev nD) (x : (S1024x2048 : Shape).Idx) :
    ((((Memref.whole main_v1_3).slice (Rect.unit (s := S3x1024x2048) ![2, 0, 0] S1x1024x2048.size inb_S3x1024x2048_S1x1024x2048_2_0_0) (fun _ => rfl)).squeeze S1024x2048 squeezes_S1x1024x2048_S1024x2048 : Memref sig .tc .hbm S1024x2048 .bf16).view.read (Elt F) (result m (peer 2 c) 3) x : Elt F .bf16)
      = ((((Memref.whole main_arg3).slice (Rect.unit (s := S4x1024x2048) (k0_off9 c) S1x1024x2048.size (k0_off9_inb c)) (fun _ => rfl)).squeeze S1024x2048 squeezes_S1x1024x2048_S1024x2048 : Memref sig .tc .hbm S1024x2048 .bf16).view.read (Elt F) (m ((c.tc : Thread nD τ).loc main_arg3)) x : Elt F .bf16) :=
  taken_at (h := 1024) (w := 2048) (fun d => m (d.tc.loc main_arg3)) 2 c _ _ (slice_xy c)
    (emb_squeezed (A := 3) (B := 1024) (C := 2048) (h := 1024) (w := 2048) (off' := ![2, 0, 0]) rfl _ _ x)
    (emb_squeezed (A := 4) (B := 1024) (C := 2048) (h := 1024) (w := 2048) (k0_off9_eq c) _ _ x)

def picture : Picture τ (Elt F) plan where
  remote := remote
  own l := l.2.elim0
  q t := partShare fullShare t.2.val
  lq l := l.2.elim0
  passes _ := false
  E := final m
  agree
    | (0, 0), c => agree_of (fill_out outs_inj (peer 0 c) 0) (fill_other c main_arg0 (outs_ne_args · 0)) fun x => agrees0_0 m c x
    | (0, 1), c => agree_of (fill_out outs_inj (peer 1 c) 0) (fill_other c main_arg0 (outs_ne_args · 0)) fun x => agrees0_1 m c x
    | (0, 2), c => agree_of (fill_out outs_inj (peer 2 c) 0) (fill_other c main_arg0 (outs_ne_args · 0)) fun x => agrees0_2 m c x
    | (1, 0), c => agree_of (fill_out outs_inj (peer 0 c) 1) (fill_other c main_arg1 (outs_ne_args · 1)) fun x => agrees1_0 m c x
    | (1, 1), c => agree_of (fill_out outs_inj (peer 1 c) 1) (fill_other c main_arg1 (outs_ne_args · 1)) fun x => agrees1_1 m c x
    | (1, 2), c => agree_of (fill_out outs_inj (peer 2 c) 1) (fill_other c main_arg1 (outs_ne_args · 1)) fun x => agrees1_2 m c x
    | (2, 0), c => agree_of (fill_out outs_inj (peer 0 c) 2) (fill_other c main_arg2 (outs_ne_args · 2)) fun x => agrees2_0 m c x
    | (2, 1), c => agree_of (fill_out outs_inj (peer 1 c) 2) (fill_other c main_arg2 (outs_ne_args · 2)) fun x => agrees2_1 m c x
    | (2, 2), c => agree_of (fill_out outs_inj (peer 2 c) 2) (fill_other c main_arg2 (outs_ne_args · 2)) fun x => agrees2_2 m c x
    | (3, 0), c => agree_of (fill_out outs_inj (peer 0 c) 3) (fill_other c main_arg3 (outs_ne_args · 3)) fun x => agrees3_0 m c x
    | (3, 1), c => agree_of (fill_out outs_inj (peer 1 c) 3) (fill_other c main_arg3 (outs_ne_args · 3)) fun x => agrees3_1 m c x
    | (3, 2), c => agree_of (fill_out outs_inj (peer 2 c) 3) (fill_other c main_arg3 (outs_ne_args · 3)) fun x => agrees3_2 m c x
  agree_own l := l.2.elim0

theorem placed : Placed (picture m) args outs where
  src := by
    rintro ⟨w, a⟩ c -
    fin_cases w <;> fin_cases a <;> rfl
  dst := by
    rintro ⟨w, a⟩ c
    fin_cases w <;> fin_cases a <;> rfl
  ownSrc l := l.2.elim0
  ownDst l := l.2.elim0
  share w a _ := rfl
  ownShare _ b := b.elim0

/-- The slice for one direction. -/
theorem slice_iff {h w : ℕ} (k : Fin 3) (i : (⟨3, ![3, h, w]⟩ : Shape).Idx) :
    (∀ a, (![k.val, 0, 0] : Fin 3 → ℕ) a ≤ (i a).val ∧ (i a).val < (![k.val, 0, 0] : Fin 3 → ℕ) a + (![1, h, w] : Fin 3 → ℕ) a)
      ↔ (Sum.inl (i 0 : Fin 3) : Fin 3 ⊕ Fin 0) = .inl k := by
  have hi1 : (i 1).val < h := (i 1).isLt
  have hi2 : (i 2).val < w := (i 2).isLt
  constructor
  · intro H
    have H0 : k.val ≤ (i 0).val ∧ (i 0).val < k.val + 1 := H 0
    exact congrArg Sum.inl (Fin.ext (show (i 0).val = k.val by omega))
  · intro H
    have H0 : (i 0).val = k.val := congrArg Fin.val (Sum.inl.inj H)
    exact fun a => match a with
      | 0 => (show k.val ≤ (i 0).val ∧ (i 0).val < k.val + 1 by omega)
      | 1 => (show 0 ≤ (i 1).val ∧ (i 1).val < 0 + h by omega)
      | 2 => (show 0 ≤ (i 2).val ∧ (i 2).val < 0 + w by omega)

theorem tiles : (placed m).Tiles := by
  refine tiles_of (placed m) (fun c w => match w with
    | 0 => fun i : (⟨3, ![3, 1024, 1792]⟩ : Shape).Idx => .inl (i 0 : Fin 3)
    | 1 => fun i : (⟨3, ![3, 256, 2048]⟩ : Shape).Idx => .inl (i 0 : Fin 3)
    | 2 => fun i : (⟨3, ![3, 1024, 2048]⟩ : Shape).Idx => .inl (i 0 : Fin 3)
    | 3 => fun i : (⟨3, ![3, 1024, 2048]⟩ : Shape).Idx => .inl (i 0 : Fin 3)) ?_
  intro c w k i
  obtain k | b := k
  case inr => exact b.elim0
  match w, k with
  | 0, 0 => exact (mem_squeezed main_v1_0 (off' := ![0, 0, 0]) rfl inb_S3x1024x1792_S1x1024x1792_0_0_0 (fun _ => rfl) squeezes_S1x1024x1792_S1024x1792 rfl c i).trans (slice_iff (h := 1024) (w := 1792) 0 i)
  | 0, 1 => exact (mem_squeezed main_v1_0 (off' := ![1, 0, 0]) rfl inb_S3x1024x1792_S1x1024x1792_1_0_0 (fun _ => rfl) squeezes_S1x1024x1792_S1024x1792 rfl c i).trans (slice_iff (h := 1024) (w := 1792) 1 i)
  | 0, 2 => exact (mem_squeezed main_v1_0 (off' := ![2, 0, 0]) rfl inb_S3x1024x1792_S1x1024x1792_2_0_0 (fun _ => rfl) squeezes_S1x1024x1792_S1024x1792 rfl c i).trans (slice_iff (h := 1024) (w := 1792) 2 i)
  | 1, 0 => exact (mem_squeezed main_v1_1 (off' := ![0, 0, 0]) rfl inb_S3x256x2048_S1x256x2048_0_0_0 (fun _ => rfl) squeezes_S1x256x2048_S256x2048 rfl c i).trans (slice_iff (h := 256) (w := 2048) 0 i)
  | 1, 1 => exact (mem_squeezed main_v1_1 (off' := ![1, 0, 0]) rfl inb_S3x256x2048_S1x256x2048_1_0_0 (fun _ => rfl) squeezes_S1x256x2048_S256x2048 rfl c i).trans (slice_iff (h := 256) (w := 2048) 1 i)
  | 1, 2 => exact (mem_squeezed main_v1_1 (off' := ![2, 0, 0]) rfl inb_S3x256x2048_S1x256x2048_2_0_0 (fun _ => rfl) squeezes_S1x256x2048_S256x2048 rfl c i).trans (slice_iff (h := 256) (w := 2048) 2 i)
  | 2, 0 => exact (mem_squeezed main_v1_2 (off' := ![0, 0, 0]) rfl inb_S3x1024x2048_S1x1024x2048_0_0_0 (fun _ => rfl) squeezes_S1x1024x2048_S1024x2048 rfl c i).trans (slice_iff (h := 1024) (w := 2048) 0 i)
  | 2, 1 => exact (mem_squeezed main_v1_2 (off' := ![1, 0, 0]) rfl inb_S3x1024x2048_S1x1024x2048_1_0_0 (fun _ => rfl) squeezes_S1x1024x2048_S1024x2048 rfl c i).trans (slice_iff (h := 1024) (w := 2048) 1 i)
  | 2, 2 => exact (mem_squeezed main_v1_2 (off' := ![2, 0, 0]) rfl inb_S3x1024x2048_S1x1024x2048_2_0_0 (fun _ => rfl) squeezes_S1x1024x2048_S1024x2048 rfl c i).trans (slice_iff (h := 1024) (w := 2048) 2 i)
  | 3, 0 => exact (mem_squeezed main_v1_3 (off' := ![0, 0, 0]) rfl inb_S3x1024x2048_S1x1024x2048_0_0_0 (fun _ => rfl) squeezes_S1x1024x2048_S1024x2048 rfl c i).trans (slice_iff (h := 1024) (w := 2048) 0 i)
  | 3, 1 => exact (mem_squeezed main_v1_3 (off' := ![1, 0, 0]) rfl inb_S3x1024x2048_S1x1024x2048_1_0_0 (fun _ => rfl) squeezes_S1x1024x2048_S1024x2048 rfl c i).trans (slice_iff (h := 1024) (w := 2048) 1 i)
  | 3, 2 => exact (mem_squeezed main_v1_3 (off' := ![2, 0, 0]) rfl inb_S3x1024x2048_S1x1024x2048_2_0_0 (fun _ => rfl) squeezes_S1x1024x2048_S1024x2048 rfl c i).trans (slice_iff (h := 1024) (w := 2048) 2 i)

section Body

/-- The body of the one kernel, on the buffers it is called with. -/
abbrev bodyProg : Prog (TpuEff nD τ sig (Elt F) Λ₀ .tc) PUnit :=
  cc0_grads_to_chips (Memref.whole main_arg0) (Memref.isWhole_whole _) (Memref.whole main_arg1) (Memref.isWhole_whole _)
    (Memref.whole main_arg2) (Memref.isWhole_whole _) (Memref.whole main_arg3) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _) cc0_scratch0 cc0_scratch1

variable {K : Dev nD × Cell (Fin 4 × Fin 3) (Fin 4 × Fin 0) → ℕ} {c : Dev nD}

theorem dest_x (c : Dev nD) (n : ℕ) (hn : n < nD) (h : n = (2 * ((c.val / 2) % 2) + (c.val % 2) + 4) - 4 * (c.val / 4)) (w : Fin 4) :
    (⟨n, hn⟩ : Dev nD) = plan.dest (w, 0) c := by
  subst h
  exact Fin.ext (by show _ = (peer 0 c).val; revert c; decide)
theorem dest_y (c : Dev nD) (n : ℕ) (hn : n < nD) (h : n = (4 * (c.val / 4) + (c.val % 2) + 2) - 2 * ((c.val / 2) % 2)) (w : Fin 4) :
    (⟨n, hn⟩ : Dev nD) = plan.dest (w, 1) c := by
  subst h
  exact Fin.ext (by show _ = (peer 1 c).val; revert c; decide)
theorem dest_xy (c : Dev nD) (n : ℕ) (hn : n < nD) (h : n = ((c.val % 2) + 6) - (4 * (c.val / 4) + 2 * ((c.val / 2) % 2))) (w : Fin 4) :
    (⟨n, hn⟩ : Dev nD) = plan.dest (w, 2) c := by
  subst h
  exact Fin.ext (by show _ = (peer 2 c).val; revert c; decide)

set_option maxHeartbeats 2000000 in
/-- The body at one core. -/
theorem body (𝒱₀ : Variants) :
    (picture m).holds K c fresh fresh fresh
      ⊢ wp frame (wpE (defs₀ (F := F)) 𝒱₀ (c : Thread nD τ) none) Set.univ (bodyProg (F := F))
          fun _ => (picture m).holds K c ended (fun _ => .going) ended := by
  simp only [bodyProg, cc0_grads_to_chips_eq_skeleton]
  unfold cc0_grads_to_chips_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel
  simp only [Prog.lift, Prog.bind_op, Prog.bind_ret, Prog.pure_eq_ret, wp_deviceId]
  refine (picture m).send (0, 0) rfl rfl (dest_x c _ _ (k0_dev1_eq c) _) rfl rfl rfl ?_
  refine (picture m).send (0, 1) rfl rfl (dest_y c _ _ (k0_dev2_eq c) _) rfl rfl rfl ?_
  refine (picture m).send (0, 2) rfl rfl (dest_xy c _ _ (k0_dev3_eq c) _) rfl rfl rfl ?_
  refine (picture m).send (1, 0) rfl rfl (dest_x c _ _ (k0_dev4_eq c) _) rfl rfl rfl ?_
  refine (picture m).send (1, 1) rfl rfl (dest_y c _ _ (k0_dev5_eq c) _) rfl rfl rfl ?_
  refine (picture m).send (1, 2) rfl rfl (dest_xy c _ _ (k0_dev6_eq c) _) rfl rfl rfl ?_
  refine (picture m).send (2, 0) rfl rfl (dest_x c _ _ (k0_dev7_eq c) _) rfl rfl rfl ?_
  refine (picture m).send (2, 1) rfl rfl (dest_y c _ _ (k0_dev8_eq c) _) rfl rfl rfl ?_
  refine (picture m).send (2, 2) rfl rfl (dest_xy c _ _ (k0_dev9_eq c) _) rfl rfl rfl ?_
  refine (picture m).send (3, 0) rfl rfl (dest_x c _ _ (k0_dev10_eq c) _) rfl rfl rfl ?_
  refine (picture m).send (3, 1) rfl rfl (dest_y c _ _ (k0_dev11_eq c) _) rfl rfl rfl ?_
  refine (picture m).send (3, 2) rfl rfl (dest_xy c _ _ (k0_dev12_eq c) _) rfl rfl rfl ?_
  refine (picture m).sent (0, 0) rfl rfl (wpE_waitDma2_eq 𝒱₀ (c : Thread nD τ) none Set.univ) rfl ?_
  refine (picture m).received (0, 0) rfl (by decide) rfl (wpE_waitDma2_eq 𝒱₀ (c : Thread nD τ) none Set.univ) rfl ?_
  refine (picture m).sent (0, 1) rfl rfl (wpE_waitDma2_eq 𝒱₀ (c : Thread nD τ) none Set.univ) rfl ?_
  refine (picture m).received (0, 1) rfl (by decide) rfl (wpE_waitDma2_eq 𝒱₀ (c : Thread nD τ) none Set.univ) rfl ?_
  refine (picture m).sent (0, 2) rfl rfl (wpE_waitDma2_eq 𝒱₀ (c : Thread nD τ) none Set.univ) rfl ?_
  refine (picture m).received (0, 2) rfl (by decide) rfl (wpE_waitDma2_eq 𝒱₀ (c : Thread nD τ) none Set.univ) rfl ?_
  refine (picture m).sent (1, 0) rfl rfl (wpE_waitDma2_eq 𝒱₀ (c : Thread nD τ) none Set.univ) rfl ?_
  refine (picture m).received (1, 0) rfl (by decide) rfl (wpE_waitDma2_eq 𝒱₀ (c : Thread nD τ) none Set.univ) rfl ?_
  refine (picture m).sent (1, 1) rfl rfl (wpE_waitDma2_eq 𝒱₀ (c : Thread nD τ) none Set.univ) rfl ?_
  refine (picture m).received (1, 1) rfl (by decide) rfl (wpE_waitDma2_eq 𝒱₀ (c : Thread nD τ) none Set.univ) rfl ?_
  refine (picture m).sent (1, 2) rfl rfl (wpE_waitDma2_eq 𝒱₀ (c : Thread nD τ) none Set.univ) rfl ?_
  refine (picture m).received (1, 2) rfl (by decide) rfl (wpE_waitDma2_eq 𝒱₀ (c : Thread nD τ) none Set.univ) rfl ?_
  refine (picture m).sent (2, 0) rfl rfl (wpE_waitDma2_eq 𝒱₀ (c : Thread nD τ) none Set.univ) rfl ?_
  refine (picture m).received (2, 0) rfl (by decide) rfl (wpE_waitDma2_eq 𝒱₀ (c : Thread nD τ) none Set.univ) rfl ?_
  refine (picture m).sent (2, 1) rfl rfl (wpE_waitDma2_eq 𝒱₀ (c : Thread nD τ) none Set.univ) rfl ?_
  refine (picture m).received (2, 1) rfl (by decide) rfl (wpE_waitDma2_eq 𝒱₀ (c : Thread nD τ) none Set.univ) rfl ?_
  refine (picture m).sent (2, 2) rfl rfl (wpE_waitDma2_eq 𝒱₀ (c : Thread nD τ) none Set.univ) rfl ?_
  refine (picture m).received (2, 2) rfl (by decide) rfl (wpE_waitDma2_eq 𝒱₀ (c : Thread nD τ) none Set.univ) rfl ?_
  refine (picture m).sent (3, 0) rfl rfl (wpE_waitDma2_eq 𝒱₀ (c : Thread nD τ) none Set.univ) rfl ?_
  refine (picture m).received (3, 0) rfl (by decide) rfl (wpE_waitDma2_eq 𝒱₀ (c : Thread nD τ) none Set.univ) rfl ?_
  refine (picture m).sent (3, 1) rfl rfl (wpE_waitDma2_eq 𝒱₀ (c : Thread nD τ) none Set.univ) rfl ?_
  refine (picture m).received (3, 1) rfl (by decide) rfl (wpE_waitDma2_eq 𝒱₀ (c : Thread nD τ) none Set.univ) rfl ?_
  refine (picture m).sent (3, 2) rfl rfl (wpE_waitDma2_eq 𝒱₀ (c : Thread nD τ) none Set.univ) rfl ?_
  refine (picture m).received (3, 2) rfl (by decide) rfl (wpE_waitDma2_eq 𝒱₀ (c : Thread nD τ) none Set.univ) rfl ?_
  exact (picture m).done _ (by decide) (by decide) _ (by decide)

end Body

theorem ownSemFacts : OwnSemFacts cfg0.spec plan.sem := ⟨by decide, plan.inj, by decide⟩

/-- The program terminates, every argument as it was, every result its chip's slices of the three others, every semaphore at zero. -/
theorem run_main (g : Dev nD → PrngReg) :
    θ_run (defs (F := F)) (onTc (τ := τ) (main (F := F))) ⟨m, fun _ => 0, g⟩ (fun r => (∀ (c : Dev nD) w,
      r.2.mem ((c.tc : Thread nD τ).loc (args w)) = m ((c.tc : Thread nD τ).loc (args w))
      ∧ r.2.mem ((c.tc : Thread nD τ).loc (outs w)) = result m c w) ∧ r.2.sem = fun _ => 0) :=
  have hE (c : Dev nD) (w : Fin 4) : final m ((c.tc : Thread nD τ).loc (args w)) = m ((c.tc : Thread nD τ).loc (args w)) :=
    fill_other c (args w) (outs_ne_args · w)
  run_moves (placed m) (fun p => (cfgs p).toPCfg) (fun _ p => (cfgs p).toPCfg_adm) cellOf_inj (0 : Fin 1)
    winFacts0.to₀ ownSemFacts defs₀ Variants.none m g main (fun _ => rfl)
    (fun _ => .going) (fun _ h => by cases h) (fun _ => N_0) (fun c K t => body m Variants.none) (tiles m) hE (by decide) (by decide)
    (fun c w => back_all c w)
    (fun s h hs => ⟨fun c w => ⟨(h c w).1.trans (hE c w), (h c w).2.trans (fill_out outs_inj c w)⟩, sem_eq_zero_of_scoped (by decide) hs⟩)

end Cert.ScatterRun
-- ==== Proof.ScatterProof.lean ====
/-
# Handing the slices of the gradients to the chips they belong to: the claims

`value`: the kernel's results are the blocks of the reference's arrays, for any floats. The frames are read off the same
runs.
-/
module

public import proofs.«01_k».proof.Defs
public import proofs.«01_k».proof.Proof.ScatterRun
public import Idealize.ShloMosaic.Lib.Pipeline.Value
public import proofs.«01_k».proof.Proof.Gen.Scatter
public import proofs.«01_k».proof.Proof.Gen.ScatterRef.Run
public import proofs.«01_k».proof.Proof.Gen.ScatterRefIdeal.Run

@[expose] public section

noncomputable section

namespace Cert.ScatterProof

open Cert.ScatterIdeal Cert.ScatterIdeal.Gen Cert.ScatterRun Cert.Exchange

open Idealize.ShloMosaic Idealize.ShloMosaic.TcCoe Idealize.ShloMosaic.ValueIdx Idealize.SL.Sem

variable {F : FTy → Type} [FloatOps F]

/-- The reference's reordering of an array, chips that own beside chips that hold, at an index. -/
theorem pairs_at {α : Type} {h w n : ℕ} (hn : n = h * w) (A : (⟨3, ![32, h, w]⟩ : Shape).Idx → α)
    (c1 : Shape.ShapeCasts ⟨3, ![32, h, w]⟩ ⟨6, ![2, 2, 2, 2, 2, n]⟩)
    (tr : Shape.Transposes ⟨6, ![2, 2, 2, 2, 2, n]⟩ [3, 0, 4, 1, 2, 5] ⟨6, ![2, 2, 2, 2, 2, n]⟩)
    (c2 : Shape.ShapeCasts ⟨6, ![2, 2, 2, 2, 2, n]⟩ ⟨4, ![4, 4, 2, n]⟩)
    (px py s qx qy : Fin 2) (a b : Fin 4) (z : Fin n) (ha : a.val = 2 * qx.val + px.val) (hb : b.val = 2 * qy.val + py.val)
    (j : (⟨3, ![32, h, w]⟩ : Shape).Idx) (j0 : (j 0).val = (((px.val * 2 + py.val) * 2 + s.val) * 2 + qx.val) * 2 + qy.val)
    (jz : (j 1).val * w + (j 2).val = z.val) :
    shapeCast ⟨4, ![4, 4, 2, n]⟩ (transpose ⟨6, ![2, 2, 2, 2, 2, n]⟩ [3, 0, 4, 1, 2, 5]
      (shapeCast ⟨6, ![2, 2, 2, 2, 2, n]⟩ A c1) tr) c2 (ix4 a b s z) = A j := by
  rw [shapeCast_apply _ c2 (ix4 a b s z) (ix6 qx px qy py s z) (by
    rw [Shape.rowMajor_val_six, Shape.rowMajor_val_four]
    show ((((qx.val * 2 + px.val) * 2 + qy.val) * 2 + py.val) * 2 + s.val) * n + z.val = ((a.val * 4 + b.val) * 2 + s.val) * n + z.val
    rw [show (((qx.val * 2 + px.val) * 2 + qy.val) * 2 + py.val) = a.val * 4 + b.val by omega])]
  refine (transpose_apply (s := ⟨6, ![2, 2, 2, 2, 2, n]⟩) (t := ⟨6, ![2, 2, 2, 2, 2, n]⟩) _ _ tr (ix6 qx px qy py s z) (ix6 px py s qx qy z)
    (fun b => match b with | 0 => rfl | 1 => rfl | 2 => rfl | 3 => rfl | 4 => rfl | 5 => rfl)).trans ?_
  refine shapeCast_apply _ c1 _ j ?_
  rw [Shape.rowMajor_val_six, Shape.rowMajor_val_three]
  show ((j 0).val * h + (j 1).val) * w + (j 2).val
    = ((((px.val * 2 + py.val) * 2 + s.val) * 2 + qx.val) * 2 + qy.val) * n + z.val
  rw [← j0, ← jz, hn, Nat.add_mul, Nat.mul_assoc, Nat.add_assoc]

/-- Opening an axis of one at place three. -/
theorem open_at {α : Type} {n : ℕ} (B : (⟨4, ![2, 2, 2, n]⟩ : Shape).Idx → α)
    (bc : Shape.BroadcastsInDim ⟨4, ![2, 2, 2, n]⟩ ⟨5, ![2, 2, 2, 1, n]⟩ ![0, 1, 2, 4]) (qx qy s : Fin 2) (z : Fin n) :
    broadcastInDim ⟨5, ![2, 2, 2, 1, n]⟩ ![0, 1, 2, 4] bc B (ix5 qx qy s (0 : Fin 1) z) = B (ix4 qx qy s z) := by
  refine broadcastInDim_apply _ _ _ _ (ix4 qx qy s z) ?_
  intro a
  exact match a with
    | 0 => rfl
    | 1 => rfl
    | 2 => rfl
    | 3 => (by
      show z.val = if n = 1 then 0 else z.val
      split
      · have := z.isLt; omega
      · rfl)

/-- A strided slice at an index. -/
theorem strided_at {α : Type} {s t : Shape} (start strides : Fin s.rank → Nat) (x : s.Idx → α) (h : s.SlicesBy start strides t)
    (j : t.Idx) (k : s.Idx) (hk : ∀ a : Fin s.rank, (k a).val = start a + strides a * (j (a.cast h.1.symm)).val) :
    Host.slice t start strides x h j = x k := by
  unfold Host.slice
  exact congrArg x (funext fun a => Fin.ext (hk a).symm)

section
variable {α : Type} {h w n : ℕ} (hn : n = h * w) (A : (⟨3, ![32, h, w]⟩ : Shape).Idx → α)
    (c1 : Shape.ShapeCasts ⟨3, ![32, h, w]⟩ ⟨6, ![2, 2, 2, 2, 2, n]⟩)
    (tr : Shape.Transposes ⟨6, ![2, 2, 2, 2, 2, n]⟩ [3, 0, 4, 1, 2, 5] ⟨6, ![2, 2, 2, 2, 2, n]⟩)
    (c2 : Shape.ShapeCasts ⟨6, ![2, 2, 2, 2, 2, n]⟩ ⟨4, ![4, 4, 2, n]⟩)
    (bc : Shape.BroadcastsInDim ⟨4, ![2, 2, 2, n]⟩ ⟨5, ![2, 2, 2, 1, n]⟩ ![0, 1, 2, 4])
    (h0 : Shape.SlicesBy ⟨4, ![4, 4, 2, n]⟩ ![1, 0, 0, 0] ![1, 3, 1, 1] ⟨4, ![2, 2, 2, n]⟩)
    (h1 : Shape.SlicesBy ⟨4, ![4, 4, 2, n]⟩ ![0, 1, 0, 0] ![3, 1, 1, 1] ⟨4, ![2, 2, 2, n]⟩)
    (h2 : Shape.Slices ⟨4, ![4, 4, 2, n]⟩ ![1, 1, 0, 0] ⟨4, ![2, 2, 2, n]⟩)

/-- The reordered array. -/
abbrev pairs : (⟨4, ![4, 4, 2, n]⟩ : Shape).Idx → α :=
  shapeCast ⟨4, ![4, 4, 2, n]⟩ (transpose ⟨6, ![2, 2, 2, 2, 2, n]⟩ [3, 0, 4, 1, 2, 5]
      (shapeCast ⟨6, ![2, 2, 2, 2, 2, n]⟩ A c1) tr) c2

include hn in
/-- The reference's array at an index: for each direction, what the chip in that direction holds of a chip's slice. -/
theorem ref_value
    (cat : Shape.Concatenates [⟨5, ![2, 2, 2, 1, n]⟩, ⟨5, ![2, 2, 2, 1, n]⟩, ⟨5, ![2, 2, 2, 1, n]⟩] ⟨5, ![2, 2, 2, 3, n]⟩ 3)
    (c3 : Shape.ShapeCasts ⟨5, ![2, 2, 2, 3, n]⟩ ⟨3, ![24, h, w]⟩)
    (i : (⟨3, ![24, h, w]⟩ : Shape).Idx) (j : (⟨3, ![32, h, w]⟩ : Shape).Idx) (qx qy s : Fin 2) (k : Fin 3) (px py : Fin 2)
    (i0 : (i 0).val = ((qx.val * 2 + qy.val) * 2 + s.val) * 3 + k.val)
    (j0 : (j 0).val = (((px.val * 2 + py.val) * 2 + s.val) * 2 + qx.val) * 2 + qy.val)
    (hx : px.val = if k = 1 then qx.val else 1 - qx.val) (hy : py.val = if k = 0 then qy.val else 1 - qy.val)
    (j1 : (j 1).val = (i 1).val) (j2 : (j 2).val = (i 2).val) :
    shapeCast ⟨3, ![24, h, w]⟩ (concatenate ⟨5, ![2, 2, 2, 3, n]⟩ 3
      [⟨⟨5, ![2, 2, 2, 1, n]⟩, broadcastInDim ⟨5, ![2, 2, 2, 1, n]⟩ ![0, 1, 2, 4] bc
          (Host.slice ⟨4, ![2, 2, 2, n]⟩ ![1, 0, 0, 0] ![1, 3, 1, 1] (pairs A c1 tr c2) h0)⟩,
        ⟨⟨5, ![2, 2, 2, 1, n]⟩, broadcastInDim ⟨5, ![2, 2, 2, 1, n]⟩ ![0, 1, 2, 4] bc
          (Host.slice ⟨4, ![2, 2, 2, n]⟩ ![0, 1, 0, 0] ![3, 1, 1, 1] (pairs A c1 tr c2) h1)⟩,
        ⟨⟨5, ![2, 2, 2, 1, n]⟩, broadcastInDim ⟨5, ![2, 2, 2, 1, n]⟩ ![0, 1, 2, 4] bc
          (extractStridedSlice ⟨4, ![2, 2, 2, n]⟩ ![1, 1, 0, 0] (pairs A c1 tr c2) h2)⟩] cat) c3 i = A j := by
  have hi1 : (i 1).val < h := (i 1).isLt
  have hi2 : (i 2).val < w := (i 2).isLt
  obtain ⟨z, hz⟩ : ∃ z : Fin n, (i 1).val * w + (i 2).val = z.val := by
    refine ⟨⟨(i 1).val * w + (i 2).val, ?_⟩, rfl⟩
    rw [hn]
    calc (i 1).val * w + (i 2).val < (i 1).val * w + w := by omega
      _ = ((i 1).val + 1) * w := (Nat.succ_mul _ _).symm
      _ ≤ h * w := Nat.mul_le_mul_right _ hi1
  have hqx := qx.isLt
  have hqy := qy.isLt
  have jz : (j 1).val * w + (j 2).val = z.val := by rw [j1, j2, hz]
  rw [shapeCast_apply _ c3 i (ix5 qx qy s k z) (by
    rw [Shape.rowMajor_val_five, Shape.rowMajor_val_three]
    show (((qx.val * 2 + qy.val) * 2 + s.val) * 3 + k.val) * n + z.val = ((i 0).val * h + (i 1).val) * w + (i 2).val
    rw [← i0, ← hz, hn, Nat.add_mul, Nat.mul_assoc, Nat.add_assoc])]
  match k with
  | 0 =>
    have hx : px.val = 1 - qx.val := hx
    have hy : py.val = qy.val := hy
    refine (concatenate_apply_piece (t := ⟨5, ![2, 2, 2, 3, n]⟩) (3 : Fin 5) _ _ _ 0 (by show 0 < 3; decide) ⟨5, ![2, 2, 2, 1, n]⟩ _ rfl rfl 0 rfl
      (ix5 qx qy s (0 : Fin 1) z) (fun b => match b with
        | 0 => fun _ => rfl | 1 => fun _ => rfl | 2 => fun _ => rfl | 3 => fun hb => absurd rfl hb | 4 => fun _ => rfl) rfl).trans ?_
    refine (open_at _ bc qx qy s z).trans ?_
    refine (strided_at (s := ⟨4, ![4, 4, 2, n]⟩) (t := ⟨4, ![2, 2, 2, n]⟩) _ _ _ h0 (ix4 qx qy s z) (ix4 ⟨1 + qx.val, by omega⟩ ⟨3 * qy.val, by omega⟩ s z) (fun b => match b with
      | 0 => (show 1 + qx.val = 1 + 1 * qx.val by omega) | 1 => (show 3 * qy.val = 0 + 3 * qy.val by omega)
      | 2 => (show s.val = 0 + 1 * s.val by omega) | 3 => (show z.val = 0 + 1 * z.val by omega))).trans ?_
    exact pairs_at hn A c1 tr c2 px py s qx qy _ _ z (show 1 + qx.val = 2 * qx.val + px.val by omega)
      (show 3 * qy.val = 2 * qy.val + py.val by omega) j j0 jz
  | 1 =>
    have hx : px.val = qx.val := hx
    have hy : py.val = 1 - qy.val := hy
    refine (concatenate_apply_piece (t := ⟨5, ![2, 2, 2, 3, n]⟩) (3 : Fin 5) _ _ _ 1 (by show 1 < 3; decide) ⟨5, ![2, 2, 2, 1, n]⟩ _ rfl rfl 1 rfl
      (ix5 qx qy s (0 : Fin 1) z) (fun b => match b with
        | 0 => fun _ => rfl | 1 => fun _ => rfl | 2 => fun _ => rfl | 3 => fun hb => absurd rfl hb | 4 => fun _ => rfl) rfl).trans ?_
    refine (open_at _ bc qx qy s z).trans ?_
    refine (strided_at (s := ⟨4, ![4, 4, 2, n]⟩) (t := ⟨4, ![2, 2, 2, n]⟩) _ _ _ h1 (ix4 qx qy s z) (ix4 ⟨3 * qx.val, by omega⟩ ⟨1 + qy.val, by omega⟩ s z) (fun b => match b with
      | 0 => (show 3 * qx.val = 0 + 3 * qx.val by omega) | 1 => (show 1 + qy.val = 1 + 1 * qy.val by omega)
      | 2 => (show s.val = 0 + 1 * s.val by omega) | 3 => (show z.val = 0 + 1 * z.val by omega))).trans ?_
    exact pairs_at hn A c1 tr c2 px py s qx qy _ _ z (show 3 * qx.val = 2 * qx.val + px.val by omega)
      (show 1 + qy.val = 2 * qy.val + py.val by omega) j j0 jz
  | 2 =>
    have hx : px.val = 1 - qx.val := hx
    have hy : py.val = 1 - qy.val := hy
    refine (concatenate_apply_piece (t := ⟨5, ![2, 2, 2, 3, n]⟩) (3 : Fin 5) _ _ _ 2 (by show 2 < 3; decide) ⟨5, ![2, 2, 2, 1, n]⟩ _ rfl rfl 2 rfl
      (ix5 qx qy s (0 : Fin 1) z) (fun b => match b with
        | 0 => fun _ => rfl | 1 => fun _ => rfl | 2 => fun _ => rfl | 3 => fun hb => absurd rfl hb | 4 => fun _ => rfl) rfl).trans ?_
    refine (open_at _ bc qx qy s z).trans ?_
    refine (extractStridedSlice_apply (s := ⟨4, ![4, 4, 2, n]⟩) (t := ⟨4, ![2, 2, 2, n]⟩) _ _ h2 (ix4 qx qy s z) (ix4 ⟨1 + qx.val, by omega⟩ ⟨1 + qy.val, by omega⟩ s z) (fun b => match b with
      | 0 => rfl | 1 => rfl
      | 2 => (show s.val = 0 + s.val by omega) | 3 => (show z.val = 0 + z.val by omega))).trans ?_
    exact pairs_at hn A c1 tr c2 px py s qx qy _ _ z (show 1 + qx.val = 2 * qx.val + px.val by omega)
      (show 1 + qy.val = 2 * qy.val + py.val by omega) j j0 jz
end

/-- The place of a core, and of its neighbour along each direction. -/
theorem place (c : Dev nD) (k : Fin 3) : ∃ qx qy s px py : Fin 2, c.val = (qx.val * 2 + qy.val) * 2 + s.val
    ∧ (peer k c).val = (px.val * 2 + py.val) * 2 + s.val
    ∧ px.val = (if k = 1 then qx.val else 1 - qx.val) ∧ py.val = (if k = 0 then qy.val else 1 - qy.val) := by
  revert c k
  decide

/-- A core's result, an index at a time: if every core's array is its block of `A`, it is the core's block of the
    reference's array `V`. -/
theorem of_block {α : Type} {h w : ℕ} (c : Dev nD) (A : (⟨3, ![32, h, w]⟩ : Shape).Idx → α)
    (V : (⟨3, ![24, h, w]⟩ : Shape).Idx → α)
    (hV : ∀ (i : (⟨3, ![24, h, w]⟩ : Shape).Idx) (j : (⟨3, ![32, h, w]⟩ : Shape).Idx) (qx qy s : Fin 2) (k : Fin 3) (px py : Fin 2)
      (i0 : (i 0).val = ((qx.val * 2 + qy.val) * 2 + s.val) * 3 + k.val)
      (j0 : (j 0).val = (((px.val * 2 + py.val) * 2 + s.val) * 2 + qx.val) * 2 + qy.val)
      (hx : px.val = if k = 1 then qx.val else 1 - qx.val) (hy : py.val = if k = 0 then qy.val else 1 - qy.val)
      (j1 : (j 1).val = (i 1).val) (j2 : (j 2).val = (i 2).val), V i = A j)
    (T : Layout.Tiles ⟨3, ![3, h, w]⟩ ⟨3, ![24, h, w]⟩ 0 8) (T' : Layout.Tiles ⟨3, ![4, h, w]⟩ ⟨3, ![32, h, w]⟩ 0 8)
    (B : Dev nD → (⟨3, ![4, h, w]⟩ : Shape).Idx → α) (hB : ∀ d, B d = Layout.block ⟨3, ![4, h, w]⟩ ⟨3, ![32, h, w]⟩ 0 8 d A T') :
    taken B c = Layout.block ⟨3, ![3, h, w]⟩ ⟨3, ![24, h, w]⟩ 0 8 c V T := by
  funext i
  obtain ⟨k, hk⟩ : ∃ k : Fin 3, k = i 0 := ⟨_, rfl⟩
  obtain ⟨qx, qy, s, px, py, hc, hd, hx, hy⟩ := place c k
  have hs := s.isLt
  have hqx := qx.isLt
  have hqy := qy.isLt
  unfold taken
  rw [hB, ← hk]
  refine (hV _ _ qx qy s k px py ?_ ?_ hx hy ?_ ?_).symm
  · show c.val * 3 + (i 0).val = ((qx.val * 2 + qy.val) * 2 + s.val) * 3 + k.val
    rw [hc, hk]
  · show (peer k c).val * 4 + c.val / 2 = (((px.val * 2 + py.val) * 2 + s.val) * 2 + qx.val) * 2 + qy.val
    omega
  · rfl
  · rfl

theorem value (m : (ℓ : Loc nD τ sig) → Buf (Elt F) ℓ) (g : Dev nD → PrngReg)
    (m' : (ℓ : Loc Cert.ScatterRefIdeal.nD Cert.ScatterRefIdeal.τ Cert.ScatterRefIdeal.sig) → Buf (Elt F) ℓ) (g' : Dev Cert.ScatterRefIdeal.nD → PrngReg)
    (hm : ∀ c : Dev nD,
      m (c.tc.loc main_arg0) = Layout.block ⟨3, ![4, 1024, 1792]⟩ ⟨3, ![32, 1024, 1792]⟩ 0 8 c (m' (((0 : Dev Cert.ScatterRefIdeal.nD).tc : Thread Cert.ScatterRefIdeal.nD Cert.ScatterRefIdeal.τ).loc Cert.ScatterRefIdeal.main_arg0))
      ∧ m (c.tc.loc main_arg1) = Layout.block ⟨3, ![4, 256, 2048]⟩ ⟨3, ![32, 256, 2048]⟩ 0 8 c (m' (((0 : Dev Cert.ScatterRefIdeal.nD).tc : Thread Cert.ScatterRefIdeal.nD Cert.ScatterRefIdeal.τ).loc Cert.ScatterRefIdeal.main_arg1))
      ∧ m (c.tc.loc main_arg2) = Layout.block ⟨3, ![4, 1024, 2048]⟩ ⟨3, ![32, 1024, 2048]⟩ 0 8 c (m' (((0 : Dev Cert.ScatterRefIdeal.nD).tc : Thread Cert.ScatterRefIdeal.nD Cert.ScatterRefIdeal.τ).loc Cert.ScatterRefIdeal.main_arg2))
      ∧ m (c.tc.loc main_arg3) = Layout.block ⟨3, ![4, 1024, 2048]⟩ ⟨3, ![32, 1024, 2048]⟩ 0 8 c (m' (((0 : Dev Cert.ScatterRefIdeal.nD).tc : Thread Cert.ScatterRefIdeal.nD Cert.ScatterRefIdeal.τ).loc Cert.ScatterRefIdeal.main_arg3))) :
    ∃ (v0 : Buf (Elt F) (((0 : Dev Cert.ScatterRefIdeal.nD).tc : Thread Cert.ScatterRefIdeal.nD Cert.ScatterRefIdeal.τ).loc Cert.ScatterRefIdeal.main_v10)) (v1 : Buf (Elt F) (((0 : Dev Cert.ScatterRefIdeal.nD).tc : Thread Cert.ScatterRefIdeal.nD Cert.ScatterRefIdeal.τ).loc Cert.ScatterRefIdeal.main_v21)) (v2 : Buf (Elt F) (((0 : Dev Cert.ScatterRefIdeal.nD).tc : Thread Cert.ScatterRefIdeal.nD Cert.ScatterRefIdeal.τ).loc Cert.ScatterRefIdeal.main_v32)) (v3 : Buf (Elt F) (((0 : Dev Cert.ScatterRefIdeal.nD).tc : Thread Cert.ScatterRefIdeal.nD Cert.ScatterRefIdeal.τ).loc Cert.ScatterRefIdeal.main_v43)),
      θ_run (defs (F := F)) (onTc (τ := τ) (main (F := F))) ⟨m, fun _ => 0, g⟩ (fun r => ∀ c : Dev nD,
          r.2.mem (c.tc.loc main_v1_0) = Layout.block ⟨3, ![3, 1024, 1792]⟩ ⟨3, ![24, 1024, 1792]⟩ 0 8 c v0
          ∧ r.2.mem (c.tc.loc main_v1_1) = Layout.block ⟨3, ![3, 256, 2048]⟩ ⟨3, ![24, 256, 2048]⟩ 0 8 c v1
          ∧ r.2.mem (c.tc.loc main_v1_2) = Layout.block ⟨3, ![3, 1024, 2048]⟩ ⟨3, ![24, 1024, 2048]⟩ 0 8 c v2
          ∧ r.2.mem (c.tc.loc main_v1_3) = Layout.block ⟨3, ![3, 1024, 2048]⟩ ⟨3, ![24, 1024, 2048]⟩ 0 8 c v3
          ∧ r.2.mem (c.tc.loc main_arg0) = m (c.tc.loc main_arg0)
          ∧ r.2.mem (c.tc.loc main_arg1) = m (c.tc.loc main_arg1)
          ∧ r.2.mem (c.tc.loc main_arg2) = m (c.tc.loc main_arg2)
          ∧ r.2.mem (c.tc.loc main_arg3) = m (c.tc.loc main_arg3))
      ∧ θ_run (Cert.ScatterRefIdeal.defs (F := F)) (onTc (τ := Cert.ScatterRefIdeal.τ) (Cert.ScatterRefIdeal.main (F := F))) ⟨m', fun _ => 0, g'⟩ (fun r =>
          r.2.mem (((0 : Dev Cert.ScatterRefIdeal.nD).tc : Thread Cert.ScatterRefIdeal.nD Cert.ScatterRefIdeal.τ).loc Cert.ScatterRefIdeal.main_v10) = v0
          ∧ r.2.mem (((0 : Dev Cert.ScatterRefIdeal.nD).tc : Thread Cert.ScatterRefIdeal.nD Cert.ScatterRefIdeal.τ).loc Cert.ScatterRefIdeal.main_v21) = v1
          ∧ r.2.mem (((0 : Dev Cert.ScatterRefIdeal.nD).tc : Thread Cert.ScatterRefIdeal.nD Cert.ScatterRefIdeal.τ).loc Cert.ScatterRefIdeal.main_v32) = v2
          ∧ r.2.mem (((0 : Dev Cert.ScatterRefIdeal.nD).tc : Thread Cert.ScatterRefIdeal.nD Cert.ScatterRefIdeal.τ).loc Cert.ScatterRefIdeal.main_v43) = v3
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0)
          ∧ r.2.mem (((0 : Dev Cert.ScatterRefIdeal.nD).tc : Thread Cert.ScatterRefIdeal.nD Cert.ScatterRefIdeal.τ).loc Cert.ScatterRefIdeal.main_arg1) = m' (((0 : Dev Cert.ScatterRefIdeal.nD).tc : Thread Cert.ScatterRefIdeal.nD Cert.ScatterRefIdeal.τ).loc Cert.ScatterRefIdeal.main_arg1)
          ∧ r.2.mem (((0 : Dev Cert.ScatterRefIdeal.nD).tc : Thread Cert.ScatterRefIdeal.nD Cert.ScatterRefIdeal.τ).loc Cert.ScatterRefIdeal.main_arg2) = m' (((0 : Dev Cert.ScatterRefIdeal.nD).tc : Thread Cert.ScatterRefIdeal.nD Cert.ScatterRefIdeal.τ).loc Cert.ScatterRefIdeal.main_arg2)
          ∧ r.2.mem (((0 : Dev Cert.ScatterRefIdeal.nD).tc : Thread Cert.ScatterRefIdeal.nD Cert.ScatterRefIdeal.τ).loc Cert.ScatterRefIdeal.main_arg3) = m' (((0 : Dev Cert.ScatterRefIdeal.nD).tc : Thread Cert.ScatterRefIdeal.nD Cert.ScatterRefIdeal.τ).loc Cert.ScatterRefIdeal.main_arg3)) := by
  refine ⟨_, _, _, _, ?_, (θ_run _ _ _).mono (fun r h => h 0) (Cert.ScatterRefIdeal.Value.run m' g')⟩
  refine (θ_run _ _ _).mono (fun r h c => ?_) (run_main m g)
  refine ⟨(h.1 c 0).2.trans ?_, (h.1 c 1).2.trans ?_, (h.1 c 2).2.trans ?_, (h.1 c 3).2.trans ?_, (h.1 c 0).1, (h.1 c 1).1, (h.1 c 2).1, (h.1 c 3).1⟩
  · refine of_block (h := 1024) (w := 1792) c _ _ ?_ _ _ _ (fun d => (hm d).1)
    exact fun i j qx qy s k px py i0 j0 hx hy j1 j2 =>
      ref_value (h := 1024) (w := 1792) (n := 1835008) rfl _ _ _ _ _ _ _ _ _ _ i j qx qy s k px py i0 j0 hx hy j1 j2
  · refine of_block (h := 256) (w := 2048) c _ _ ?_ _ _ _ (fun d => (hm d).2.1)
    exact fun i j qx qy s k px py i0 j0 hx hy j1 j2 =>
      ref_value (h := 256) (w := 2048) (n := 524288) rfl _ _ _ _ _ _ _ _ _ _ i j qx qy s k px py i0 j0 hx hy j1 j2
  · refine of_block (h := 1024) (w := 2048) c _ _ ?_ _ _ _ (fun d => (hm d).2.2.1)
    exact fun i j qx qy s k px py i0 j0 hx hy j1 j2 =>
      ref_value (h := 1024) (w := 2048) (n := 2097152) rfl _ _ _ _ _ _ _ _ _ _ i j qx qy s k px py i0 j0 hx hy j1 j2
  · refine of_block (h := 1024) (w := 2048) c _ _ ?_ _ _ _ (fun d => (hm d).2.2.2)
    exact fun i j qx qy s k px py i0 j0 hx hy j1 j2 =>
      ref_value (h := 1024) (w := 2048) (n := 2097152) rfl _ _ _ _ _ _ _ _ _ _ i j qx qy s k px py i0 j0 hx hy j1 j2

/-! ## The claims -/

theorem quiescent_kernel_ideal : Cert.quiescent_ScatterIdeal := fun m g _ =>
  (θ_run _ _ _).mono (fun r h => ⟨fun c => ⟨(h.1 c 0).1, (h.1 c 1).1, (h.1 c 2).1, (h.1 c 3).1⟩, h.2⟩) (run_main m g)

theorem quiescent_kernel : Cert.quiescent_Scatter := fun m g _ =>
  (θ_run (Cert.ScatterIdeal.defs (F := Bits)) _ _).mono (fun r h => ⟨fun c => ⟨(h.1 c 0).1, (h.1 c 1).1, (h.1 c 2).1, (h.1 c 3).1⟩, h.2⟩) (run_main (F := Bits) m g)

theorem quiescent_ref_ideal : Cert.quiescent_ScatterRefIdeal := fun m g _ =>
  (θ_run _ _ _).mono (fun r h => ⟨fun c => (h c).2.2.2.2, sem_eq_zero_of_no_sems (by decide) r.2⟩) (Cert.ScatterRefIdeal.Value.run m g)

theorem quiescent_ref : Cert.quiescent_ScatterRef := fun m g _ =>
  (θ_run _ _ _).mono (fun r h => ⟨fun c => (h c).2.2.2.2, sem_eq_zero_of_no_sems (by decide) r.2⟩) (Cert.ScatterRef.Value.run m g)

theorem algebraic : Cert.algebraic_ScatterIdeal_ScatterRefIdeal := fun m g m' g' _ hm => value (F := Ideal) m g m' g' hm

theorem bitexact : Cert.bitexact_Scatter_ScatterRef := fun m g m' g' _ hm => value (F := Bits) m g m' g' hm

end Cert.ScatterProof
-- ==== Proof.JoinRun.lean ====
/-
# Joining the halves of the gradients of the two cores of a chip: the run

Every core copies its half of the rows of each of four arrays into its result, and sends it to the same rows of its
sibling's result. `run_main`: from any memory every core's result `w` ends as the chip's two halves one below the other,
the arguments as they were, every semaphore at zero.
-/
module

public import proofs.«01_k».proof.Proof.Slices
public import proofs.«01_k».proof.Proof.Gen.JoinIdeal
public import proofs.«01_k».proof.Proof.Gen.JoinIdeal.Skeleton
public import proofs.«01_k».proof.Proof.Gen.JoinIdeal.Launch

@[expose] public section

noncomputable section

namespace Cert.JoinRun

open Cert.JoinIdeal Cert.JoinIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.ValueIdx

variable {F : FTy → Type} [FloatOps F]

/-- The other core of the same chip. -/
def sibling (c : Dev nD) : Dev nD := (![1, 0, 3, 2, 5, 4, 7, 6] : Dev nD → Dev nD) c
theorem sibling_sibling : Function.Involutive sibling := by unfold Function.Involutive; decide

/-- The four arrays and the four results. -/
def args : Fin 4 → Ref sig .tc := ![main_arg0, main_arg1, main_arg2, main_arg3]
def outs : Fin 4 → Ref sig .tc := ![main_v1_0, main_v1_1, main_v1_2, main_v1_3]

/-- The copies to the sibling: the whole array onto the sender's half of the rows. -/
def remote : Fin 4 × Fin 1 → Move nD sig
  | (0, _) => ⟨fun _ => Memref.whole main_arg0, fun c => (Memref.whole main_v1_0).slice (Rect.unit (s := S2048x1792) (k0_off1 c) S1024x1792.size (k0_off1_inb c)) (fun _ => rfl)⟩
  | (1, _) => ⟨fun _ => Memref.whole main_arg1, fun c => (Memref.whole main_v1_1).slice (Rect.unit (s := S512x2048) (k0_off2 c) S256x2048.size (k0_off2_inb c)) (fun _ => rfl)⟩
  | (2, _) => ⟨fun _ => Memref.whole main_arg2, fun c => (Memref.whole main_v1_2).slice (Rect.unit (s := S2048x2048) (k0_off3 c) S1024x2048.size (k0_off3_inb c)) (fun _ => rfl)⟩
  | (3, _) => ⟨fun _ => Memref.whole main_arg3, fun c => (Memref.whole main_v1_3).slice (Rect.unit (s := S2048x2048) (k0_off3 c) S1024x2048.size (k0_off3_inb c)) (fun _ => rfl)⟩

/-- The copies within a core: the whole array onto the same rows of the core's own result. -/
def own (l : Fin 4 × Fin 1) : Move nD sig := remote l

def plan : Plan nD sig (Fin 4 × Fin 1) (Fin 4 × Fin 1) where
  dest _ := sibling_sibling.toPerm
  send t := .dma (⟨t.1.val, by have := t.1.isLt; omega⟩ : Fin 12)
  recv t := .dma (⟨4 + t.1.val, by have := t.1.isLt; omega⟩ : Fin 12)
  loc l := .dma (⟨8 + l.1.val, by have := l.1.isLt; omega⟩ : Fin 12)
  amt t := ((remote t).dst 0).view.amount (.dma (0 : Fin 12))
  lamt l := ((own l).dst 0).view.amount (.dma (0 : Fin 12))
  level _ := 0
  amt_pos t := by obtain ⟨w, a⟩ := t; revert w a; decide
  lamt_pos t := by obtain ⟨w, a⟩ := t; revert w a; decide
  inj := by
    rintro (⟨w, a⟩ | ⟨w, a⟩ | ⟨w, a⟩) (⟨w', a'⟩ | ⟨w', a'⟩ | ⟨w', a'⟩) h
    all_goals
      revert w a w' a'
      decide

/-- The core of `c`'s chip whose half row `r` lies in, the halves `h` rows each. -/
def half (h : ℕ) (c : Dev nD) (r : ℕ) : Dev nD := if r / h = c.val % 2 then c else sibling c

/-- The two halves of a chip, one below the other. -/
def joined {α : Type} {R h w : ℕ} (hh : 0 < h) (A : Dev nD → (⟨2, ![h, w]⟩ : Shape).Idx → α) (c : Dev nD)
    (i : (⟨2, ![R, w]⟩ : Shape).Idx) : α :=
  A (half h c (i 0).val) (ix2 ⟨(i 0).val % h, Nat.mod_lt _ hh⟩ (i 1))

/-- At an index of core `d`'s half. -/
theorem joined_at {α : Type} {R h w : ℕ} (hh : 0 < h) (A : Dev nD → (⟨2, ![h, w]⟩ : Shape).Idx → α) (c d : Dev nD) (hd : d = c ∨ d = sibling c)
    (i : (⟨2, ![R, w]⟩ : Shape).Idx) (j : (⟨2, ![h, w]⟩ : Shape).Idx) (h0 : (i 0).val = h * (d.val % 2) + (j 0).val) (h1 : (i 1).val = 0 + (j 1).val) :
    joined hh A c i = A d j := by
  have hj : (j 0).val < h := (j 0).isLt
  have hq : (i 0).val / h = d.val % 2 := by rw [h0, Nat.mul_add_div hh, Nat.div_eq_of_lt hj, Nat.add_zero]
  have hr : (i 0).val % h = (j 0).val := by rw [h0, Nat.mul_add_mod, Nat.mod_eq_of_lt hj]
  have hc : half h c (i 0).val = d := by
    unfold half
    rw [hq]
    clear hq hr h0 h1
    revert c d
    decide
  unfold joined
  rw [hc]
  congr 1
  funext b
  exact match b with
    | 0 => Fin.ext hr
    | 1 => Fin.ext (h1.trans (Nat.zero_add _))

variable (m : (ℓ : Loc nD τ sig) → Buf (Elt F) ℓ)

/-- What core `c`'s result `w` ends as. -/
def result (c : Dev nD) : (w : Fin 4) → Buf (Elt F) ((c.tc : Thread nD τ).loc (outs w))
  | 0 => (joined (R := 2048) (h := 1024) (w := 1792) (by decide) (fun d => m (d.tc.loc main_arg0)) c : (⟨2, ![2048, 1792]⟩ : Shape).Idx → Elt F .f32)
  | 1 => (joined (R := 512) (h := 256) (w := 2048) (by decide) (fun d => m (d.tc.loc main_arg1)) c : (⟨2, ![512, 2048]⟩ : Shape).Idx → Elt F .f32)
  | 2 => (joined (R := 2048) (h := 1024) (w := 2048) (by decide) (fun d => m (d.tc.loc main_arg2)) c : (⟨2, ![2048, 2048]⟩ : Shape).Idx → Elt F .f32)
  | 3 => (joined (R := 2048) (h := 1024) (w := 2048) (by decide) (fun d => m (d.tc.loc main_arg3)) c : (⟨2, ![2048, 2048]⟩ : Shape).Idx → Elt F .f32)

theorem outs_inj : Function.Injective outs := by decide
theorem outs_ne_args : ∀ w v, outs w ≠ args v := by decide

abbrev final : (ℓ : Loc nD τ sig) → Buf (Elt F) ℓ := fill m outs (result m)

/-- Core `c`'s rows of result 0, on a core `d` of its chip, are its own array. -/
theorem agrees0 (c d : Dev nD) (hd : c = d ∨ c = sibling d) (x : (S1024x1792 : Shape).Idx) :
    (((Memref.whole main_v1_0).slice (Rect.unit (s := S2048x1792) (k0_off1 c) S1024x1792.size (k0_off1_inb c)) (fun _ => rfl) : Memref sig .tc .hbm S1024x1792 .f32).view.read (Elt F) (result m d 0) x : Elt F .f32)
      = (m ((c.tc : Thread nD τ).loc main_arg0) : (S1024x1792 : Shape).Idx → Elt F .f32) x :=
  joined_at (R := 2048) (h := 1024) (w := 1792) (by decide) (fun d => m (d.tc.loc main_arg0)) d c hd _ x (emb_slice (s := S2048x1792) (k0_off1_eq c) _ _ 0) (emb_slice (s := S2048x1792) (k0_off1_eq c) _ _ 1)

/-- Core `c`'s rows of result 1, on a core `d` of its chip, are its own array. -/
theorem agrees1 (c d : Dev nD) (hd : c = d ∨ c = sibling d) (x : (S256x2048 : Shape).Idx) :
    (((Memref.whole main_v1_1).slice (Rect.unit (s := S512x2048) (k0_off2 c) S256x2048.size (k0_off2_inb c)) (fun _ => rfl) : Memref sig .tc .hbm S256x2048 .f32).view.read (Elt F) (result m d 1) x : Elt F .f32)
      = (m ((c.tc : Thread nD τ).loc main_arg1) : (S256x2048 : Shape).Idx → Elt F .f32) x :=
  joined_at (R := 512) (h := 256) (w := 2048) (by decide) (fun d => m (d.tc.loc main_arg1)) d c hd _ x (emb_slice (s := S512x2048) (k0_off2_eq c) _ _ 0) (emb_slice (s := S512x2048) (k0_off2_eq c) _ _ 1)

/-- Core `c`'s rows of result 2, on a core `d` of its chip, are its own array. -/
theorem agrees2 (c d : Dev nD) (hd : c = d ∨ c = sibling d) (x : (S1024x2048 : Shape).Idx) :
    (((Memref.whole main_v1_2).slice (Rect.unit (s := S2048x2048) (k0_off3 c) S1024x2048.size (k0_off3_inb c)) (fun _ => rfl) : Memref sig .tc .hbm S1024x2048 .f32).view.read (Elt F) (result m d 2) x : Elt F .f32)
      = (m ((c.tc : Thread nD τ).loc main_arg2) : (S1024x2048 : Shape).Idx → Elt F .f32) x :=
  joined_at (R := 2048) (h := 1024) (w := 2048) (by decide) (fun d => m (d.tc.loc main_arg2)) d c hd _ x (emb_slice (s := S2048x2048) (k0_off3_eq c) _ _ 0) (emb_slice (s := S2048x2048) (k0_off3_eq c) _ _ 1)

/-- Core `c`'s rows of result 3, on a core `d` of its chip, are its own array. -/
theorem agrees3 (c d : Dev nD) (hd : c = d ∨ c = sibling d) (x : (S1024x2048 : Shape).Idx) :
    (((Memref.whole main_v1_3).slice (Rect.unit (s := S2048x2048) (k0_off3 c) S1024x2048.size (k0_off3_inb c)) (fun _ => rfl) : Memref sig .tc .hbm S1024x2048 .f32).view.read (Elt F) (result m d 3) x : Elt F .f32)
      = (m ((c.tc : Thread nD τ).loc main_arg3) : (S1024x2048 : Shape).Idx → Elt F .f32) x :=
  joined_at (R := 2048) (h := 1024) (w := 2048) (by decide) (fun d => m (d.tc.loc main_arg3)) d c hd _ x (emb_slice (s := S2048x2048) (k0_off3_eq c) _ _ 0) (emb_slice (s := S2048x2048) (k0_off3_eq c) _ _ 1)

theorem self_or (c : Dev nD) : c = sibling c ∨ c = sibling (sibling c) := Or.inr (sibling_sibling c).symm

def picture : Picture τ (Elt F) plan where
  remote := remote
  own := own
  q _ := partShare fullShare 0
  lq _ := partShare (restShare fullShare 1) 0
  passes _ := false
  E := final m
  agree
    | (0, _), c => agree_of (fill_out outs_inj (sibling c) 0) (fill_other c main_arg0 (outs_ne_args · 0)) fun x => agrees0 m c (sibling c) (self_or c) x
    | (1, _), c => agree_of (fill_out outs_inj (sibling c) 1) (fill_other c main_arg1 (outs_ne_args · 1)) fun x => agrees1 m c (sibling c) (self_or c) x
    | (2, _), c => agree_of (fill_out outs_inj (sibling c) 2) (fill_other c main_arg2 (outs_ne_args · 2)) fun x => agrees2 m c (sibling c) (self_or c) x
    | (3, _), c => agree_of (fill_out outs_inj (sibling c) 3) (fill_other c main_arg3 (outs_ne_args · 3)) fun x => agrees3 m c (sibling c) (self_or c) x
  agree_own
    | (0, _), c => agree_of (fill_out outs_inj c 0) (fill_other c main_arg0 (outs_ne_args · 0)) fun x => agrees0 m c c (Or.inl rfl) x
    | (1, _), c => agree_of (fill_out outs_inj c 1) (fill_other c main_arg1 (outs_ne_args · 1)) fun x => agrees1 m c c (Or.inl rfl) x
    | (2, _), c => agree_of (fill_out outs_inj c 2) (fill_other c main_arg2 (outs_ne_args · 2)) fun x => agrees2 m c c (Or.inl rfl) x
    | (3, _), c => agree_of (fill_out outs_inj c 3) (fill_other c main_arg3 (outs_ne_args · 3)) fun x => agrees3 m c c (Or.inl rfl) x

theorem placed : Placed (picture m) args outs where
  src := by
    rintro ⟨w, a⟩ c -
    fin_cases w <;> rfl
  dst := by
    rintro ⟨w, a⟩ c
    fin_cases w <;> rfl
  ownSrc := by
    rintro ⟨w, a⟩ c
    fin_cases w <;> rfl
  ownDst := by
    rintro ⟨w, a⟩ c
    fin_cases w <;> rfl
  share w a _ := by rw [Subsingleton.elim a 0]; rfl
  ownShare w a := by rw [Subsingleton.elim a 0]; rfl

/-- Which copy brings row `r`, the halves `h` rows each. -/
def side (h : ℕ) (c : Dev nD) (r : ℕ) : Fin 1 ⊕ Fin 1 := if r / h = c.val % 2 then .inr 0 else .inl 0

/-- The half whose rows begin at `h` times core `d`'s number within its chip. -/
theorem side_iff {R h w : ℕ} (hh : 0 < h) (hR : R = 2 * h) (c d : Dev nD) (k : Fin 1 ⊕ Fin 1) (hk : k = side 1 c (d.val % 2)) (i : (⟨2, ![R, w]⟩ : Shape).Idx) :
    (∀ a, (![h * (d.val % 2), 0] : Fin 2 → ℕ) a ≤ (i a).val ∧ (i a).val < (![h * (d.val % 2), 0] : Fin 2 → ℕ) a + (![h, w] : Fin 2 → ℕ) a) ↔ side h c (i 0).val = k := by
  have hi0 : (i 0).val < R := (i 0).isLt
  have hi1 : (i 1).val < w := (i 1).isLt
  have hq : (i 0).val / h < 2 := Nat.div_lt_of_lt_mul (by rw [Nat.mul_comm]; omega)
  have hs : side h c (i 0).val = k ↔ (i 0).val / h = d.val % 2 := by
    subst hk
    unfold side
    generalize (i 0).val / h = q at hq
    obtain ⟨q, rfl⟩ : ∃ p : Fin 2, p.val = q := ⟨⟨q, hq⟩, rfl⟩
    clear hq hi0 hi1
    revert c d q
    decide
  rw [hs]
  constructor
  · intro H
    have H0 : h * (d.val % 2) ≤ (i 0).val ∧ (i 0).val < h * (d.val % 2) + h := H 0
    refine Nat.div_eq_of_lt_le (by rw [Nat.mul_comm]; exact H0.1) ?_
    rw [Nat.succ_mul, Nat.mul_comm]; exact H0.2
  · intro H
    have e := Nat.div_add_mod (i 0).val h
    have l := Nat.mod_lt (i 0).val hh
    rw [H] at e
    exact fun a => match a with
      | 0 => (show h * (d.val % 2) ≤ (i 0).val ∧ (i 0).val < h * (d.val % 2) + h by omega)
      | 1 => (show 0 ≤ (i 1).val ∧ (i 1).val < 0 + w by omega)

theorem tiles : (placed m).Tiles := by
  refine tiles_of (placed m) (fun c w => match w with
    | 0 => fun i : (⟨2, ![2048, 1792]⟩ : Shape).Idx => side 1024 c (i 0).val
    | 1 => fun i : (⟨2, ![512, 2048]⟩ : Shape).Idx => side 256 c (i 0).val
    | 2 => fun i : (⟨2, ![2048, 2048]⟩ : Shape).Idx => side 1024 c (i 0).val
    | 3 => fun i : (⟨2, ![2048, 2048]⟩ : Shape).Idx => side 1024 c (i 0).val) ?_
  intro c w k i
  have hk (b : Fin 1) : (Sum.inl b : Fin 1 ⊕ Fin 1) = side 1 c ((sibling c).val % 2) := by clear i; revert c b; decide
  have hk' (b : Fin 1) : (Sum.inr b : Fin 1 ⊕ Fin 1) = side 1 c (c.val % 2) := by clear hk i; revert c b; decide
  match w, k with
  | 0, .inl b => exact (mem_slice main_v1_0 (k0_off1_eq (sibling c)) (k0_off1_inb (sibling c)) (fun _ => rfl) rfl c i).trans (side_iff (R := 2048) (h := 1024) (w := 1792) (by decide) rfl c (sibling c) _ (hk b) i)
  | 0, .inr b => exact (mem_slice main_v1_0 (k0_off1_eq c) (k0_off1_inb c) (fun _ => rfl) rfl c i).trans (side_iff (R := 2048) (h := 1024) (w := 1792) (by decide) rfl c c _ (hk' b) i)
  | 1, .inl b => exact (mem_slice main_v1_1 (k0_off2_eq (sibling c)) (k0_off2_inb (sibling c)) (fun _ => rfl) rfl c i).trans (side_iff (R := 512) (h := 256) (w := 2048) (by decide) rfl c (sibling c) _ (hk b) i)
  | 1, .inr b => exact (mem_slice main_v1_1 (k0_off2_eq c) (k0_off2_inb c) (fun _ => rfl) rfl c i).trans (side_iff (R := 512) (h := 256) (w := 2048) (by decide) rfl c c _ (hk' b) i)
  | 2, .inl b => exact (mem_slice main_v1_2 (k0_off3_eq (sibling c)) (k0_off3_inb (sibling c)) (fun _ => rfl) rfl c i).trans (side_iff (R := 2048) (h := 1024) (w := 2048) (by decide) rfl c (sibling c) _ (hk b) i)
  | 2, .inr b => exact (mem_slice main_v1_2 (k0_off3_eq c) (k0_off3_inb c) (fun _ => rfl) rfl c i).trans (side_iff (R := 2048) (h := 1024) (w := 2048) (by decide) rfl c c _ (hk' b) i)
  | 3, .inl b => exact (mem_slice main_v1_3 (k0_off3_eq (sibling c)) (k0_off3_inb (sibling c)) (fun _ => rfl) rfl c i).trans (side_iff (R := 2048) (h := 1024) (w := 2048) (by decide) rfl c (sibling c) _ (hk b) i)
  | 3, .inr b => exact (mem_slice main_v1_3 (k0_off3_eq c) (k0_off3_inb c) (fun _ => rfl) rfl c i).trans (side_iff (R := 2048) (h := 1024) (w := 2048) (by decide) rfl c c _ (hk' b) i)

section Body

/-- The body of the one kernel, on the buffers it is called with. -/
abbrev bodyProg : Prog (TpuEff nD τ sig (Elt F) Λ₀ .tc) PUnit :=
  cc0_grads_join (Memref.whole main_arg0) (Memref.isWhole_whole _) (Memref.whole main_arg1) (Memref.isWhole_whole _)
    (Memref.whole main_arg2) (Memref.isWhole_whole _) (Memref.whole main_arg3) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _) cc0_scratch0 cc0_scratch1 cc0_scratch2

variable {K : Dev nD × Cell (Fin 4 × Fin 1) (Fin 4 × Fin 1) → ℕ} {c : Dev nD}

theorem dest_eq (c : Dev nD) (n : ℕ) (hn : n < nD) (h : n = (4 * (c.val / 4) + 2 * ((c.val / 2) % 2) + 1) - (c.val % 2)) (t : Fin 4 × Fin 1) :
    (⟨n, hn⟩ : Dev nD) = plan.dest t c := by
  subst h
  exact Fin.ext (by show _ = (sibling c).val; revert c; decide)

/-- The body at one core. -/
theorem body (𝒱₀ : Variants) :
    (picture m).holds K c fresh fresh fresh
      ⊢ wp frame (wpE (defs₀ (F := F)) 𝒱₀ (c : Thread nD τ) none) Set.univ (bodyProg (F := F))
          fun _ => (picture m).holds K c ended (fun _ => .going) ended := by
  simp only [bodyProg, cc0_grads_join_eq_skeleton]
  unfold cc0_grads_join_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  refine (picture m).copy (0, 0) rfl rfl rfl ?_
  refine (picture m).send (0, 0) rfl rfl (dest_eq c _ _ (k0_dev1_eq c) _) rfl rfl rfl ?_
  refine (picture m).copy (1, 0) rfl rfl rfl ?_
  refine (picture m).send (1, 0) rfl rfl (dest_eq c _ _ (k0_dev2_eq c) _) rfl rfl rfl ?_
  refine (picture m).copy (2, 0) rfl rfl rfl ?_
  refine (picture m).send (2, 0) rfl rfl (dest_eq c _ _ (k0_dev3_eq c) _) rfl rfl rfl ?_
  refine (picture m).copy (3, 0) rfl rfl rfl ?_
  refine (picture m).send (3, 0) rfl rfl (dest_eq c _ _ (k0_dev4_eq c) _) rfl rfl rfl ?_
  refine (picture m).received (0, 0) rfl (by decide) rfl (wpE_waitDma2_eq 𝒱₀ (c : Thread nD τ) none Set.univ) rfl ?_
  refine (picture m).received (1, 0) rfl (by decide) rfl (wpE_waitDma2_eq 𝒱₀ (c : Thread nD τ) none Set.univ) rfl ?_
  refine (picture m).received (2, 0) rfl (by decide) rfl (wpE_waitDma2_eq 𝒱₀ (c : Thread nD τ) none Set.univ) rfl ?_
  refine (picture m).received (3, 0) rfl (by decide) rfl (wpE_waitDma2_eq 𝒱₀ (c : Thread nD τ) none Set.univ) rfl ?_
  refine (picture m).sent (0, 0) rfl rfl (wpE_waitDma2_eq 𝒱₀ (c : Thread nD τ) none Set.univ) rfl ?_
  refine (picture m).sent (1, 0) rfl rfl (wpE_waitDma2_eq 𝒱₀ (c : Thread nD τ) none Set.univ) rfl ?_
  refine (picture m).sent (2, 0) rfl rfl (wpE_waitDma2_eq 𝒱₀ (c : Thread nD τ) none Set.univ) rfl ?_
  refine (picture m).sent (3, 0) rfl rfl (wpE_waitDma2_eq 𝒱₀ (c : Thread nD τ) none Set.univ) rfl ?_
  refine (picture m).copied (0, 0) rfl rfl (wpE_waitDma2_eq 𝒱₀ (c : Thread nD τ) none Set.univ) rfl ?_
  refine (picture m).copied (1, 0) rfl rfl (wpE_waitDma2_eq 𝒱₀ (c : Thread nD τ) none Set.univ) rfl ?_
  refine (picture m).copied (2, 0) rfl rfl (wpE_waitDma2_eq 𝒱₀ (c : Thread nD τ) none Set.univ) rfl ?_
  refine (picture m).copied (3, 0) rfl rfl (wpE_waitDma2_eq 𝒱₀ (c : Thread nD τ) none Set.univ) rfl ?_
  exact (picture m).done _ (by decide) (by decide) _ (by decide)

end Body

theorem ownSemFacts : OwnSemFacts cfg0.spec plan.sem := ⟨by decide, plan.inj, by decide⟩

/-- The program terminates, every argument as it was, every result the chip's two halves, every semaphore at zero. -/
theorem run_main (g : Dev nD → PrngReg) :
    θ_run (defs (F := F)) (onTc (τ := τ) (main (F := F))) ⟨m, fun _ => 0, g⟩ (fun r => (∀ (c : Dev nD) w,
      r.2.mem ((c.tc : Thread nD τ).loc (args w)) = m ((c.tc : Thread nD τ).loc (args w))
      ∧ r.2.mem ((c.tc : Thread nD τ).loc (outs w)) = result m c w) ∧ r.2.sem = fun _ => 0) :=
  have hE (c : Dev nD) (w : Fin 4) : final m ((c.tc : Thread nD τ).loc (args w)) = m ((c.tc : Thread nD τ).loc (args w)) :=
    fill_other c (args w) (outs_ne_args · w)
  run_moves (placed m) (fun p => (cfgs p).toPCfg) (fun _ p => (cfgs p).toPCfg_adm) cellOf_inj (0 : Fin 1)
    winFacts0.to₀ ownSemFacts defs₀ Variants.none m g main (fun _ => rfl)
    (fun _ => .going) (fun _ h => by cases h) (fun _ => N_0) (fun c K t => body m Variants.none) (tiles m) hE (by decide) (by decide)
    (fun c w => back_all c w)
    (fun s h hs => ⟨fun c w => ⟨(h c w).1.trans (hE c w), (h c w).2.trans (fill_out outs_inj c w)⟩, sem_eq_zero_of_scoped (by decide) hs⟩)

end Cert.JoinRun
-- ==== Proof.JoinProof.lean ====
/-
# Joining the halves of a chip's gradients: the claims

`value`: the kernel's results are the blocks of the reference's arrays, for any floats. The frames are read off the same
runs.
-/
module

public import proofs.«01_k».proof.Defs
public import proofs.«01_k».proof.Proof.JoinRun
public import Idealize.ShloMosaic.Lib.Pipeline.Value
public import proofs.«01_k».proof.Proof.Gen.Join
public import proofs.«01_k».proof.Proof.Gen.JoinRef.Run
public import proofs.«01_k».proof.Proof.Gen.JoinRefIdeal.Run

@[expose] public section

noncomputable section

namespace Cert.JoinProof

open Cert.JoinIdeal Cert.JoinIdeal.Gen Cert.JoinRun Cert.Exchange

open Idealize.ShloMosaic Idealize.ShloMosaic.TcCoe Idealize.ShloMosaic.ValueIdx Idealize.SL.Sem

variable {F : FTy → Type} [FloatOps F]

/-- The reference's array at an index: every chip's rows, once for each of its cores. -/
theorem ref_value {α : Type} {r w : ℕ} (A : (⟨2, ![4 * r, w]⟩ : Shape).Idx → α)
    (c1 : Shape.ShapeCasts ⟨2, ![4 * r, w]⟩ ⟨4, ![4, 1, r, w]⟩)
    (bc : Shape.BroadcastsInDim ⟨4, ![4, 1, r, w]⟩ ⟨4, ![4, 2, r, w]⟩ ![0, 1, 2, 3])
    (c2 : Shape.ShapeCasts ⟨4, ![4, 2, r, w]⟩ ⟨2, ![8 * r, w]⟩)
    (i : (⟨2, ![8 * r, w]⟩ : Shape).Idx) (k : (⟨2, ![4 * r, w]⟩ : Shape).Idx)
    (p : Fin 4) (s : Fin 2) (y : Fin r) (i0 : (i 0).val = (p.val * 2 + s.val) * r + y.val)
    (k0 : (k 0).val = p.val * r + y.val) (k1 : (k 1).val = (i 1).val) :
    shapeCast ⟨2, ![8 * r, w]⟩ (broadcastInDim ⟨4, ![4, 2, r, w]⟩ ![0, 1, 2, 3] bc (shapeCast ⟨4, ![4, 1, r, w]⟩ A c1)) c2 i = A k := by
  obtain ⟨z, hz⟩ : ∃ z : Fin w, z.val = (i 1).val := ⟨i 1, rfl⟩
  rw [shapeCast_apply _ c2 i (ix4 p s y z) (by
    rw [Shape.rowMajor_val_four, Shape.rowMajor_val_two]
    show ((p.val * 2 + s.val) * r + y.val) * w + z.val = (i 0).val * w + (i 1).val
    rw [i0, hz])]
  rw [broadcastInDim_apply _ _ _ _ (ix4 p (0 : Fin 1) y z) (by
    intro a
    exact match a with
      | 0 => rfl
      | 1 => rfl
      | 2 => (by
        show y.val = if r = 1 then 0 else y.val
        split
        · have := y.isLt; omega
        · rfl)
      | 3 => (by
        show z.val = if w = 1 then 0 else z.val
        split
        · have := z.isLt; omega
        · rfl))]
  refine shapeCast_apply _ c1 _ k ?_
  rw [Shape.rowMajor_val_four, Shape.rowMajor_val_two]
  show (k 0).val * w + (k 1).val = ((p.val * 1 + 0) * r + y.val) * w + z.val
  rw [k0, k1, hz, Nat.mul_one, Nat.add_zero]

theorem half_val (c : Dev nD) (q : ℕ) (hq : q < 2) : (if q = c.val % 2 then c else sibling c).val = c.val / 2 * 2 + q := by
  obtain ⟨q, rfl⟩ : ∃ p : Fin 2, p.val = q := ⟨⟨q, hq⟩, rfl⟩
  clear hq
  revert c q
  decide

/-- A core's result, an index at a time: if every core's array is its block of `A`, it is the core's block of the
    reference's array `V`. -/
theorem of_block {α : Type} {h w : ℕ} (hh : 0 < h) (c : Dev nD) (A : (⟨2, ![4 * (2 * h), w]⟩ : Shape).Idx → α)
    (V : (⟨2, ![8 * (2 * h), w]⟩ : Shape).Idx → α)
    (hV : ∀ (i : (⟨2, ![8 * (2 * h), w]⟩ : Shape).Idx) (k : (⟨2, ![4 * (2 * h), w]⟩ : Shape).Idx)
      (p : Fin 4) (s : Fin 2) (y : Fin (2 * h)) (i0 : (i 0).val = (p.val * 2 + s.val) * (2 * h) + y.val)
      (k0 : (k 0).val = p.val * (2 * h) + y.val) (k1 : (k 1).val = (i 1).val), V i = A k)
    (T : Layout.Tiles ⟨2, ![2 * h, w]⟩ ⟨2, ![8 * (2 * h), w]⟩ 0 8) (T' : Layout.Tiles ⟨2, ![h, w]⟩ ⟨2, ![4 * (2 * h), w]⟩ 0 8)
    (B : Dev nD → (⟨2, ![h, w]⟩ : Shape).Idx → α) (hB : ∀ d, B d = Layout.block ⟨2, ![h, w]⟩ ⟨2, ![4 * (2 * h), w]⟩ 0 8 d A T') :
    joined (R := 2 * h) hh B c = Layout.block ⟨2, ![2 * h, w]⟩ ⟨2, ![8 * (2 * h), w]⟩ 0 8 c V T := by
  funext i
  have hi : (i 0).val < 2 * h := (i 0).isLt
  have hq : (i 0).val / h < 2 := Nat.div_lt_of_lt_mul (hi.trans_eq (Nat.mul_comm _ _))
  have hd : (half h c (i 0).val).val = c.val / 2 * 2 + (i 0).val / h := half_val c _ hq
  have hc : c.val < 8 := c.isLt
  unfold joined
  rw [hB]
  refine (hV _ _ ⟨c.val / 2, by omega⟩ ⟨c.val % 2, by omega⟩ ⟨(i 0).val, hi⟩ ?_ ?_ ?_).symm
  · show c.val * (2 * h) + (i 0).val = (c.val / 2 * 2 + c.val % 2) * (2 * h) + (i 0).val
    rw [show c.val / 2 * 2 + c.val % 2 = c.val by omega]
  · show (half h c (i 0).val).val * h + (i 0).val % h = c.val / 2 * (2 * h) + (i 0).val
    have e := Nat.div_add_mod (i 0).val h
    rw [hd, Nat.add_mul, Nat.mul_assoc, Nat.add_assoc, Nat.mul_comm ((i 0).val / h) h, e]
  · rfl

theorem value (m : (ℓ : Loc nD τ sig) → Buf (Elt F) ℓ) (g : Dev nD → PrngReg)
    (m' : (ℓ : Loc Cert.JoinRefIdeal.nD Cert.JoinRefIdeal.τ Cert.JoinRefIdeal.sig) → Buf (Elt F) ℓ) (g' : Dev Cert.JoinRefIdeal.nD → PrngReg)
    (hm : ∀ c : Dev nD,
      m (c.tc.loc main_arg0) = Layout.block ⟨2, ![1024, 1792]⟩ ⟨2, ![8192, 1792]⟩ 0 8 c (m' (((0 : Dev Cert.JoinRefIdeal.nD).tc : Thread Cert.JoinRefIdeal.nD Cert.JoinRefIdeal.τ).loc Cert.JoinRefIdeal.main_arg0))
      ∧ m (c.tc.loc main_arg1) = Layout.block ⟨2, ![256, 2048]⟩ ⟨2, ![2048, 2048]⟩ 0 8 c (m' (((0 : Dev Cert.JoinRefIdeal.nD).tc : Thread Cert.JoinRefIdeal.nD Cert.JoinRefIdeal.τ).loc Cert.JoinRefIdeal.main_arg1))
      ∧ m (c.tc.loc main_arg2) = Layout.block ⟨2, ![1024, 2048]⟩ ⟨2, ![8192, 2048]⟩ 0 8 c (m' (((0 : Dev Cert.JoinRefIdeal.nD).tc : Thread Cert.JoinRefIdeal.nD Cert.JoinRefIdeal.τ).loc Cert.JoinRefIdeal.main_arg2))
      ∧ m (c.tc.loc main_arg3) = Layout.block ⟨2, ![1024, 2048]⟩ ⟨2, ![8192, 2048]⟩ 0 8 c (m' (((0 : Dev Cert.JoinRefIdeal.nD).tc : Thread Cert.JoinRefIdeal.nD Cert.JoinRefIdeal.τ).loc Cert.JoinRefIdeal.main_arg3))) :
    ∃ (v0 : Buf (Elt F) (((0 : Dev Cert.JoinRefIdeal.nD).tc : Thread Cert.JoinRefIdeal.nD Cert.JoinRefIdeal.τ).loc Cert.JoinRefIdeal.main_v2)) (v1 : Buf (Elt F) (((0 : Dev Cert.JoinRefIdeal.nD).tc : Thread Cert.JoinRefIdeal.nD Cert.JoinRefIdeal.τ).loc Cert.JoinRefIdeal.main_v5)) (v2 : Buf (Elt F) (((0 : Dev Cert.JoinRefIdeal.nD).tc : Thread Cert.JoinRefIdeal.nD Cert.JoinRefIdeal.τ).loc Cert.JoinRefIdeal.main_v8)) (v3 : Buf (Elt F) (((0 : Dev Cert.JoinRefIdeal.nD).tc : Thread Cert.JoinRefIdeal.nD Cert.JoinRefIdeal.τ).loc Cert.JoinRefIdeal.main_v11)),
      θ_run (defs (F := F)) (onTc (τ := τ) (main (F := F))) ⟨m, fun _ => 0, g⟩ (fun r => ∀ c : Dev nD,
          r.2.mem (c.tc.loc main_v1_0) = Layout.block ⟨2, ![2048, 1792]⟩ ⟨2, ![16384, 1792]⟩ 0 8 c v0
          ∧ r.2.mem (c.tc.loc main_v1_1) = Layout.block ⟨2, ![512, 2048]⟩ ⟨2, ![4096, 2048]⟩ 0 8 c v1
          ∧ r.2.mem (c.tc.loc main_v1_2) = Layout.block ⟨2, ![2048, 2048]⟩ ⟨2, ![16384, 2048]⟩ 0 8 c v2
          ∧ r.2.mem (c.tc.loc main_v1_3) = Layout.block ⟨2, ![2048, 2048]⟩ ⟨2, ![16384, 2048]⟩ 0 8 c v3
          ∧ r.2.mem (c.tc.loc main_arg0) = m (c.tc.loc main_arg0)
          ∧ r.2.mem (c.tc.loc main_arg1) = m (c.tc.loc main_arg1)
          ∧ r.2.mem (c.tc.loc main_arg2) = m (c.tc.loc main_arg2)
          ∧ r.2.mem (c.tc.loc main_arg3) = m (c.tc.loc main_arg3))
      ∧ θ_run (Cert.JoinRefIdeal.defs (F := F)) (onTc (τ := Cert.JoinRefIdeal.τ) (Cert.JoinRefIdeal.main (F := F))) ⟨m', fun _ => 0, g'⟩ (fun r =>
          r.2.mem (((0 : Dev Cert.JoinRefIdeal.nD).tc : Thread Cert.JoinRefIdeal.nD Cert.JoinRefIdeal.τ).loc Cert.JoinRefIdeal.main_v2) = v0
          ∧ r.2.mem (((0 : Dev Cert.JoinRefIdeal.nD).tc : Thread Cert.JoinRefIdeal.nD Cert.JoinRefIdeal.τ).loc Cert.JoinRefIdeal.main_v5) = v1
          ∧ r.2.mem (((0 : Dev Cert.JoinRefIdeal.nD).tc : Thread Cert.JoinRefIdeal.nD Cert.JoinRefIdeal.τ).loc Cert.JoinRefIdeal.main_v8) = v2
          ∧ r.2.mem (((0 : Dev Cert.JoinRefIdeal.nD).tc : Thread Cert.JoinRefIdeal.nD Cert.JoinRefIdeal.τ).loc Cert.JoinRefIdeal.main_v11) = v3
          ∧ r.2.mem (((0 : Dev Cert.JoinRefIdeal.nD).tc : Thread Cert.JoinRefIdeal.nD Cert.JoinRefIdeal.τ).loc Cert.JoinRefIdeal.main_arg0) = m' (((0 : Dev Cert.JoinRefIdeal.nD).tc : Thread Cert.JoinRefIdeal.nD Cert.JoinRefIdeal.τ).loc Cert.JoinRefIdeal.main_arg0)
          ∧ r.2.mem (((0 : Dev Cert.JoinRefIdeal.nD).tc : Thread Cert.JoinRefIdeal.nD Cert.JoinRefIdeal.τ).loc Cert.JoinRefIdeal.main_arg1) = m' (((0 : Dev Cert.JoinRefIdeal.nD).tc : Thread Cert.JoinRefIdeal.nD Cert.JoinRefIdeal.τ).loc Cert.JoinRefIdeal.main_arg1)
          ∧ r.2.mem (((0 : Dev Cert.JoinRefIdeal.nD).tc : Thread Cert.JoinRefIdeal.nD Cert.JoinRefIdeal.τ).loc Cert.JoinRefIdeal.main_arg2) = m' (((0 : Dev Cert.JoinRefIdeal.nD).tc : Thread Cert.JoinRefIdeal.nD Cert.JoinRefIdeal.τ).loc Cert.JoinRefIdeal.main_arg2)
          ∧ r.2.mem (((0 : Dev Cert.JoinRefIdeal.nD).tc : Thread Cert.JoinRefIdeal.nD Cert.JoinRefIdeal.τ).loc Cert.JoinRefIdeal.main_arg3) = m' (((0 : Dev Cert.JoinRefIdeal.nD).tc : Thread Cert.JoinRefIdeal.nD Cert.JoinRefIdeal.τ).loc Cert.JoinRefIdeal.main_arg3)) := by
  refine ⟨_, _, _, _, ?_, (θ_run _ _ _).mono (fun r h => h 0) (Cert.JoinRefIdeal.Value.run m' g')⟩
  refine (θ_run _ _ _).mono (fun r h c => ?_) (run_main m g)
  refine ⟨(h.1 c 0).2.trans ?_, (h.1 c 1).2.trans ?_, (h.1 c 2).2.trans ?_, (h.1 c 3).2.trans ?_, (h.1 c 0).1, (h.1 c 1).1, (h.1 c 2).1, (h.1 c 3).1⟩
  · refine of_block (h := 1024) (w := 1792) (by decide) c _ _ ?_ _ _ _ (fun d => (hm d).1)
    exact fun i k p s y i0 k0 k1 => ref_value _ _ _ _ i k p s y i0 k0 k1
  · refine of_block (h := 256) (w := 2048) (by decide) c _ _ ?_ _ _ _ (fun d => (hm d).2.1)
    exact fun i k p s y i0 k0 k1 => ref_value _ _ _ _ i k p s y i0 k0 k1
  · refine of_block (h := 1024) (w := 2048) (by decide) c _ _ ?_ _ _ _ (fun d => (hm d).2.2.1)
    exact fun i k p s y i0 k0 k1 => ref_value _ _ _ _ i k p s y i0 k0 k1
  · refine of_block (h := 1024) (w := 2048) (by decide) c _ _ ?_ _ _ _ (fun d => (hm d).2.2.2)
    exact fun i k p s y i0 k0 k1 => ref_value _ _ _ _ i k p s y i0 k0 k1

/-! ## The claims -/

theorem quiescent_kernel_ideal : Cert.quiescent_JoinIdeal := fun m g _ =>
  (θ_run _ _ _).mono (fun r h => ⟨fun c => ⟨(h.1 c 0).1, (h.1 c 1).1, (h.1 c 2).1, (h.1 c 3).1⟩, h.2⟩) (run_main m g)

theorem quiescent_kernel : Cert.quiescent_Join := fun m g _ =>
  (θ_run (Cert.JoinIdeal.defs (F := Bits)) _ _).mono (fun r h => ⟨fun c => ⟨(h.1 c 0).1, (h.1 c 1).1, (h.1 c 2).1, (h.1 c 3).1⟩, h.2⟩) (run_main (F := Bits) m g)

theorem quiescent_ref_ideal : Cert.quiescent_JoinRefIdeal := fun m g _ =>
  (θ_run _ _ _).mono (fun r h => ⟨fun c => (h c).2.2.2.2, sem_eq_zero_of_no_sems (by decide) r.2⟩) (Cert.JoinRefIdeal.Value.run m g)

theorem quiescent_ref : Cert.quiescent_JoinRef := fun m g _ =>
  (θ_run _ _ _).mono (fun r h => ⟨fun c => (h c).2.2.2.2, sem_eq_zero_of_no_sems (by decide) r.2⟩) (Cert.JoinRef.Value.run m g)

theorem algebraic : Cert.algebraic_JoinIdeal_JoinRefIdeal := fun m g m' g' _ hm => value (F := Ideal) m g m' g' hm

theorem bitexact : Cert.bitexact_Join_JoinRef := fun m g m' g' _ hm => value (F := Bits) m g m' g' hm

end Cert.JoinProof
-- ==== Proof.GatherRun.lean ====
/-
# Gathering the weights of all chips: the run

Every core copies its shard of each of four arrays into its own chip's slice of the result, and sends its core's half of the
shard's rows to the same core of the three other chips; each half that arrives it passes on to the other core of its own
chip. `run_main`: from any memory every core's result `w` ends as the four chips' shards, of its own chip its own shard and
of another chip each half of the rows from the core of that half; the arguments as they were, every semaphore at zero.
-/
module

public import proofs.«01_k».proof.Proof.Slices
public import proofs.«01_k».proof.Proof.Gen.GatherIdeal
public import proofs.«01_k».proof.Proof.Gen.GatherIdeal.Skeleton
public import proofs.«01_k».proof.Proof.Gen.GatherIdeal.Launch

@[expose] public section

noncomputable section

namespace Cert.GatherRun

open Cert.GatherIdeal Cert.GatherIdeal.Gen Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline Idealize.ShloMosaic.ValueIdx

variable {F : FTy → Type} [FloatOps F]

/-- The same core of the chip next to it along x, along y, along both. -/
def peer (k : Fin 3) (c : Dev nD) : Dev nD :=
  (![![4, 5, 6, 7, 0, 1, 2, 3], ![2, 3, 0, 1, 6, 7, 4, 5], ![6, 7, 4, 5, 2, 3, 0, 1]] : Fin 3 → Dev nD → Dev nD) k c
theorem peer_peer (k : Fin 3) : Function.Involutive (peer k) := by unfold Function.Involutive; revert k; decide

/-- The other core of the same chip. -/
def sibling (c : Dev nD) : Dev nD := (![1, 0, 3, 2, 5, 4, 7, 6] : Dev nD → Dev nD) c
theorem sibling_sibling : Function.Involutive sibling := by unfold Function.Involutive; decide

/-- The four arrays and the four results. -/
def args : Fin 4 → Ref sig .tc := ![main_arg0, main_arg1, main_arg2, main_arg3]
def outs : Fin 4 → Ref sig .tc := ![main_v1_0, main_v1_1, main_v1_2, main_v1_3]

/-- The copies to other cores: copy `k < 3` sends half the shard to the chip in direction `k`, copy `3 + k` passes on what came
    from there. -/
def remote : Fin 4 × Fin 6 → Move nD sig
  | (0, 0) => ⟨fun c => (Memref.whole main_arg0).slice (Rect.unit (s := S2048x1792) (k0_off3 c) S1024x1792.size (k0_off3_inb c)) (fun _ => rfl),
      fun c => ((Memref.whole main_v1_0).slice (Rect.unit (s := S4x2048x1792) (k0_off2 c) S1x1024x1792.size (k0_off2_inb c)) (fun _ => rfl)).squeeze S1024x1792 squeezes_S1x1024x1792_S1024x1792⟩
  | (0, 1) => ⟨fun c => (Memref.whole main_arg0).slice (Rect.unit (s := S2048x1792) (k0_off3 c) S1024x1792.size (k0_off3_inb c)) (fun _ => rfl),
      fun c => ((Memref.whole main_v1_0).slice (Rect.unit (s := S4x2048x1792) (k0_off2 c) S1x1024x1792.size (k0_off2_inb c)) (fun _ => rfl)).squeeze S1024x1792 squeezes_S1x1024x1792_S1024x1792⟩
  | (0, 2) => ⟨fun c => (Memref.whole main_arg0).slice (Rect.unit (s := S2048x1792) (k0_off3 c) S1024x1792.size (k0_off3_inb c)) (fun _ => rfl),
      fun c => ((Memref.whole main_v1_0).slice (Rect.unit (s := S4x2048x1792) (k0_off2 c) S1x1024x1792.size (k0_off2_inb c)) (fun _ => rfl)).squeeze S1024x1792 squeezes_S1x1024x1792_S1024x1792⟩
  | (0, 3) => ⟨fun c => ((Memref.whole main_v1_0).slice (Rect.unit (s := S4x2048x1792) (k0_off10 c) S1x1024x1792.size (k0_off10_inb c)) (fun _ => rfl)).squeeze S1024x1792 squeezes_S1x1024x1792_S1024x1792,
      fun c => ((Memref.whole main_v1_0).slice (Rect.unit (s := S4x2048x1792) (k0_off10 c) S1x1024x1792.size (k0_off10_inb c)) (fun _ => rfl)).squeeze S1024x1792 squeezes_S1x1024x1792_S1024x1792⟩
  | (0, 4) => ⟨fun c => ((Memref.whole main_v1_0).slice (Rect.unit (s := S4x2048x1792) (k0_off11 c) S1x1024x1792.size (k0_off11_inb c)) (fun _ => rfl)).squeeze S1024x1792 squeezes_S1x1024x1792_S1024x1792,
      fun c => ((Memref.whole main_v1_0).slice (Rect.unit (s := S4x2048x1792) (k0_off11 c) S1x1024x1792.size (k0_off11_inb c)) (fun _ => rfl)).squeeze S1024x1792 squeezes_S1x1024x1792_S1024x1792⟩
  | (0, 5) => ⟨fun c => ((Memref.whole main_v1_0).slice (Rect.unit (s := S4x2048x1792) (k0_off12 c) S1x1024x1792.size (k0_off12_inb c)) (fun _ => rfl)).squeeze S1024x1792 squeezes_S1x1024x1792_S1024x1792,
      fun c => ((Memref.whole main_v1_0).slice (Rect.unit (s := S4x2048x1792) (k0_off12 c) S1x1024x1792.size (k0_off12_inb c)) (fun _ => rfl)).squeeze S1024x1792 squeezes_S1x1024x1792_S1024x1792⟩
  | (1, 0) => ⟨fun c => (Memref.whole main_arg1).slice (Rect.unit (s := S512x2048) (k0_off6 c) S256x2048.size (k0_off6_inb c)) (fun _ => rfl),
      fun c => ((Memref.whole main_v1_1).slice (Rect.unit (s := S4x512x2048) (k0_off5 c) S1x256x2048.size (k0_off5_inb c)) (fun _ => rfl)).squeeze S256x2048 squeezes_S1x256x2048_S256x2048⟩
  | (1, 1) => ⟨fun c => (Memref.whole main_arg1).slice (Rect.unit (s := S512x2048) (k0_off6 c) S256x2048.size (k0_off6_inb c)) (fun _ => rfl),
      fun c => ((Memref.whole main_v1_1).slice (Rect.unit (s := S4x512x2048) (k0_off5 c) S1x256x2048.size (k0_off5_inb c)) (fun _ => rfl)).squeeze S256x2048 squeezes_S1x256x2048_S256x2048⟩
  | (1, 2) => ⟨fun c => (Memref.whole main_arg1).slice (Rect.unit (s := S512x2048) (k0_off6 c) S256x2048.size (k0_off6_inb c)) (fun _ => rfl),
      fun c => ((Memref.whole main_v1_1).slice (Rect.unit (s := S4x512x2048) (k0_off5 c) S1x256x2048.size (k0_off5_inb c)) (fun _ => rfl)).squeeze S256x2048 squeezes_S1x256x2048_S256x2048⟩
  | (1, 3) => ⟨fun c => ((Memref.whole main_v1_1).slice (Rect.unit (s := S4x512x2048) (k0_off13 c) S1x256x2048.size (k0_off13_inb c)) (fun _ => rfl)).squeeze S256x2048 squeezes_S1x256x2048_S256x2048,
      fun c => ((Memref.whole main_v1_1).slice (Rect.unit (s := S4x512x2048) (k0_off13 c) S1x256x2048.size (k0_off13_inb c)) (fun _ => rfl)).squeeze S256x2048 squeezes_S1x256x2048_S256x2048⟩
  | (1, 4) => ⟨fun c => ((Memref.whole main_v1_1).slice (Rect.unit (s := S4x512x2048) (k0_off14 c) S1x256x2048.size (k0_off14_inb c)) (fun _ => rfl)).squeeze S256x2048 squeezes_S1x256x2048_S256x2048,
      fun c => ((Memref.whole main_v1_1).slice (Rect.unit (s := S4x512x2048) (k0_off14 c) S1x256x2048.size (k0_off14_inb c)) (fun _ => rfl)).squeeze S256x2048 squeezes_S1x256x2048_S256x2048⟩
  | (1, 5) => ⟨fun c => ((Memref.whole main_v1_1).slice (Rect.unit (s := S4x512x2048) (k0_off15 c) S1x256x2048.size (k0_off15_inb c)) (fun _ => rfl)).squeeze S256x2048 squeezes_S1x256x2048_S256x2048,
      fun c => ((Memref.whole main_v1_1).slice (Rect.unit (s := S4x512x2048) (k0_off15 c) S1x256x2048.size (k0_off15_inb c)) (fun _ => rfl)).squeeze S256x2048 squeezes_S1x256x2048_S256x2048⟩
  | (2, 0) => ⟨fun c => (Memref.whole main_arg2).slice (Rect.unit (s := S2048x2048) (k0_off9 c) S1024x2048.size (k0_off9_inb c)) (fun _ => rfl),
      fun c => ((Memref.whole main_v1_2).slice (Rect.unit (s := S4x2048x2048) (k0_off8 c) S1x1024x2048.size (k0_off8_inb c)) (fun _ => rfl)).squeeze S1024x2048 squeezes_S1x1024x2048_S1024x2048⟩
  | (2, 1) => ⟨fun c => (Memref.whole main_arg2).slice (Rect.unit (s := S2048x2048) (k0_off9 c) S1024x2048.size (k0_off9_inb c)) (fun _ => rfl),
      fun c => ((Memref.whole main_v1_2).slice (Rect.unit (s := S4x2048x2048) (k0_off8 c) S1x1024x2048.size (k0_off8_inb c)) (fun _ => rfl)).squeeze S1024x2048 squeezes_S1x1024x2048_S1024x2048⟩
  | (2, 2) => ⟨fun c => (Memref.whole main_arg2).slice (Rect.unit (s := S2048x2048) (k0_off9 c) S1024x2048.size (k0_off9_inb c)) (fun _ => rfl),
      fun c => ((Memref.whole main_v1_2).slice (Rect.unit (s := S4x2048x2048) (k0_off8 c) S1x1024x2048.size (k0_off8_inb c)) (fun _ => rfl)).squeeze S1024x2048 squeezes_S1x1024x2048_S1024x2048⟩
  | (2, 3) => ⟨fun c => ((Memref.whole main_v1_2).slice (Rect.unit (s := S4x2048x2048) (k0_off16 c) S1x1024x2048.size (k0_off16_inb c)) (fun _ => rfl)).squeeze S1024x2048 squeezes_S1x1024x2048_S1024x2048,
      fun c => ((Memref.whole main_v1_2).slice (Rect.unit (s := S4x2048x2048) (k0_off16 c) S1x1024x2048.size (k0_off16_inb c)) (fun _ => rfl)).squeeze S1024x2048 squeezes_S1x1024x2048_S1024x2048⟩
  | (2, 4) => ⟨fun c => ((Memref.whole main_v1_2).slice (Rect.unit (s := S4x2048x2048) (k0_off17 c) S1x1024x2048.size (k0_off17_inb c)) (fun _ => rfl)).squeeze S1024x2048 squeezes_S1x1024x2048_S1024x2048,
      fun c => ((Memref.whole main_v1_2).slice (Rect.unit (s := S4x2048x2048) (k0_off17 c) S1x1024x2048.size (k0_off17_inb c)) (fun _ => rfl)).squeeze S1024x2048 squeezes_S1x1024x2048_S1024x2048⟩
  | (2, 5) => ⟨fun c => ((Memref.whole main_v1_2).slice (Rect.unit (s := S4x2048x2048) (k0_off18 c) S1x1024x2048.size (k0_off18_inb c)) (fun _ => rfl)).squeeze S1024x2048 squeezes_S1x1024x2048_S1024x2048,
      fun c => ((Memref.whole main_v1_2).slice (Rect.unit (s := S4x2048x2048) (k0_off18 c) S1x1024x2048.size (k0_off18_inb c)) (fun _ => rfl)).squeeze S1024x2048 squeezes_S1x1024x2048_S1024x2048⟩
  | (3, 0) => ⟨fun c => (Memref.whole main_arg3).slice (Rect.unit (s := S2048x2048) (k0_off9 c) S1024x2048.size (k0_off9_inb c)) (fun _ => rfl),
      fun c => ((Memref.whole main_v1_3).slice (Rect.unit (s := S4x2048x2048) (k0_off8 c) S1x1024x2048.size (k0_off8_inb c)) (fun _ => rfl)).squeeze S1024x2048 squeezes_S1x1024x2048_S1024x2048⟩
  | (3, 1) => ⟨fun c => (Memref.whole main_arg3).slice (Rect.unit (s := S2048x2048) (k0_off9 c) S1024x2048.size (k0_off9_inb c)) (fun _ => rfl),
      fun c => ((Memref.whole main_v1_3).slice (Rect.unit (s := S4x2048x2048) (k0_off8 c) S1x1024x2048.size (k0_off8_inb c)) (fun _ => rfl)).squeeze S1024x2048 squeezes_S1x1024x2048_S1024x2048⟩
  | (3, 2) => ⟨fun c => (Memref.whole main_arg3).slice (Rect.unit (s := S2048x2048) (k0_off9 c) S1024x2048.size (k0_off9_inb c)) (fun _ => rfl),
      fun c => ((Memref.whole main_v1_3).slice (Rect.unit (s := S4x2048x2048) (k0_off8 c) S1x1024x2048.size (k0_off8_inb c)) (fun _ => rfl)).squeeze S1024x2048 squeezes_S1x1024x2048_S1024x2048⟩
  | (3, 3) => ⟨fun c => ((Memref.whole main_v1_3).slice (Rect.unit (s := S4x2048x2048) (k0_off16 c) S1x1024x2048.size (k0_off16_inb c)) (fun _ => rfl)).squeeze S1024x2048 squeezes_S1x1024x2048_S1024x2048,
      fun c => ((Memref.whole main_v1_3).slice (Rect.unit (s := S4x2048x2048) (k0_off16 c) S1x1024x2048.size (k0_off16_inb c)) (fun _ => rfl)).squeeze S1024x2048 squeezes_S1x1024x2048_S1024x2048⟩
  | (3, 4) => ⟨fun c => ((Memref.whole main_v1_3).slice (Rect.unit (s := S4x2048x2048) (k0_off17 c) S1x1024x2048.size (k0_off17_inb c)) (fun _ => rfl)).squeeze S1024x2048 squeezes_S1x1024x2048_S1024x2048,
      fun c => ((Memref.whole main_v1_3).slice (Rect.unit (s := S4x2048x2048) (k0_off17 c) S1x1024x2048.size (k0_off17_inb c)) (fun _ => rfl)).squeeze S1024x2048 squeezes_S1x1024x2048_S1024x2048⟩
  | (3, 5) => ⟨fun c => ((Memref.whole main_v1_3).slice (Rect.unit (s := S4x2048x2048) (k0_off18 c) S1x1024x2048.size (k0_off18_inb c)) (fun _ => rfl)).squeeze S1024x2048 squeezes_S1x1024x2048_S1024x2048,
      fun c => ((Memref.whole main_v1_3).slice (Rect.unit (s := S4x2048x2048) (k0_off18 c) S1x1024x2048.size (k0_off18_inb c)) (fun _ => rfl)).squeeze S1024x2048 squeezes_S1x1024x2048_S1024x2048⟩

/-- The copies within a core: the shard onto its own chip's slice. -/
def own : Fin 4 × Fin 1 → Move nD sig
  | (0, _) => ⟨fun _ => Memref.whole main_arg0, fun c => ((Memref.whole main_v1_0).slice (Rect.unit (s := S4x2048x1792) (k0_off1 c) S1x2048x1792.size (k0_off1_inb c)) (fun _ => rfl)).squeeze S2048x1792 squeezes_S1x2048x1792_S2048x1792⟩
  | (1, _) => ⟨fun _ => Memref.whole main_arg1, fun c => ((Memref.whole main_v1_1).slice (Rect.unit (s := S4x512x2048) (k0_off4 c) S1x512x2048.size (k0_off4_inb c)) (fun _ => rfl)).squeeze S512x2048 squeezes_S1x512x2048_S512x2048⟩
  | (2, _) => ⟨fun _ => Memref.whole main_arg2, fun c => ((Memref.whole main_v1_2).slice (Rect.unit (s := S4x2048x2048) (k0_off7 c) S1x2048x2048.size (k0_off7_inb c)) (fun _ => rfl)).squeeze S2048x2048 squeezes_S1x2048x2048_S2048x2048⟩
  | (3, _) => ⟨fun _ => Memref.whole main_arg3, fun c => ((Memref.whole main_v1_3).slice (Rect.unit (s := S4x2048x2048) (k0_off7 c) S1x2048x2048.size (k0_off7_inb c)) (fun _ => rfl)).squeeze S2048x2048 squeezes_S1x2048x2048_S2048x2048⟩

def dest : Fin 6 → Dev nD ≃ Dev nD := fun a => match a with
  | 0 => (peer_peer 0).toPerm | 1 => (peer_peer 1).toPerm | 2 => (peer_peer 2).toPerm
  | 3 => sibling_sibling.toPerm | 4 => sibling_sibling.toPerm | 5 => sibling_sibling.toPerm

def plan : Plan nD sig (Fin 4 × Fin 6) (Fin 4 × Fin 1) where
  dest t := dest t.2
  send t := .dma (⟨6 * t.1.val + t.2.val, by have := t.1.isLt; have := t.2.isLt; omega⟩ : Fin 52)
  recv t := .dma (⟨24 + (6 * t.1.val + t.2.val), by have := t.1.isLt; have := t.2.isLt; omega⟩ : Fin 52)
  loc l := .dma (⟨48 + l.1.val, by have := l.1.isLt; omega⟩ : Fin 52)
  amt t := ((remote t).dst 0).view.amount (.dma (0 : Fin 52))
  lamt l := ((own l).dst 0).view.amount (.dma (0 : Fin 52))
  level t := t.2.val / 3
  amt_pos t := by obtain ⟨w, a⟩ := t; revert w a; decide
  lamt_pos t := by obtain ⟨w, a⟩ := t; revert w a; decide
  inj := by
    rintro (⟨w, a⟩ | ⟨w, a⟩ | ⟨w, a⟩) (⟨w', a'⟩ | ⟨w', a'⟩ | ⟨w', a'⟩) h
    all_goals
      revert w a w' a'
      decide

/-- The core that what core `c` holds of half `b` of chip `q`'s shard came from. -/
def source (c : Dev nD) (q : Fin 4) (b : Fin 2) : Dev nD :=
  if q.val = c.val / 2 then c else ⟨2 * q.val + b.val, by have := q.isLt; have := b.isLt; show _ < 8; omega⟩

/-- The half row `r` lies in, the halves `h` rows each. -/
def rowHalf {h : ℕ} (r : Fin (2 * h)) : Fin 2 := ⟨r.val / h, Nat.div_lt_of_lt_mul (r.isLt.trans_eq (Nat.mul_comm _ _))⟩

theorem rowHalf_eq {h : ℕ} (hh : 0 < h) (r : Fin (2 * h)) (b : Fin 2) {x : ℕ} (hx : x < h) (hr : r.val = h * b.val + x) : rowHalf r = b := by
  refine Fin.ext ?_
  show r.val / h = b.val
  rw [hr, Nat.mul_add_div hh, Nat.div_eq_of_lt hx, Nat.add_zero]

/-- The half an index of a result lies in. -/
def halfOf {h w : ℕ} (i : (⟨3, ![4, 2 * h, w]⟩ : Shape).Idx) : Fin 2 := rowHalf (i 1)

/-- The four chips' shards as core `c` has them. -/
def gathered {α : Type} {h w : ℕ} (A : Dev nD → (⟨2, ![2 * h, w]⟩ : Shape).Idx → α) (c : Dev nD)
    (i : (⟨3, ![4, 2 * h, w]⟩ : Shape).Idx) : α :=
  A (source c (i 0) (halfOf i)) (ix2 (i 1) (i 2))

theorem source_sent (k : Fin 3) (c : Dev nD) (q : Fin 4) (b : Fin 2) : q.val = c.val / 2 → b.val = c.val % 2 → source (peer k c) q b = c := by
  revert k c q b
  decide
theorem source_passed (k : Fin 3) (c : Dev nD) (q : Fin 4) (b : Fin 2) : q.val = (peer k c).val / 2 → source (sibling c) q b = source c q b := by
  revert k c q b
  decide

section At

variable {α : Type} {h w : ℕ} (A : Dev nD → (⟨2, ![2 * h, w]⟩ : Shape).Idx → α) (c : Dev nD)
  (i : (⟨3, ![4, 2 * h, w]⟩ : Shape).Idx)

/-- At an index of what core `c` sent, -/
theorem gathered_sent (hh : 0 < h) (k : Fin 3) (j : (⟨2, ![2 * h, w]⟩ : Shape).Idx) {x y n : ℕ} (hn : n = c.val / 2) (hx : x < h)
    (hi : (i 0).val = n ∧ (i 1).val = h * (c.val % 2) + x ∧ (i 2).val = 0 + y) (j0 : (j 0).val = h * (c.val % 2) + x) (j1 : (j 1).val = 0 + y) :
    gathered A (peer k c) i = A c j := by
  have hb : halfOf i = ⟨c.val % 2, Nat.mod_lt _ (by decide)⟩ := rowHalf_eq hh _ _ hx hi.2.1
  unfold gathered
  rw [hb, source_sent k c (i 0) _ (hi.1.trans hn) rfl]
  congr 1
  funext b
  exact match b with
    | 0 => Fin.ext (hi.2.1.trans j0.symm)
    | 1 => Fin.ext (hi.2.2.trans j1.symm)

/-- of what it passed on, -/
theorem gathered_passed (k : Fin 3) {n : ℕ} (hn : n = (peer k c).val / 2) (hi : (i 0).val = n) : gathered A (sibling c) i = gathered A c i := by
  unfold gathered
  rw [source_passed k c (i 0) _ (hi.trans hn)]

/-- and of its own chip's slice. -/
theorem gathered_own (j : (⟨2, ![2 * h, w]⟩ : Shape).Idx) {n : ℕ} (hn : n = c.val / 2)
    (hi : (i 0).val = n ∧ (i 1).val = 0 + (j 0).val ∧ (i 2).val = 0 + (j 1).val) : gathered A c i = A c j := by
  unfold gathered source
  rw [if_pos (hi.1.trans hn)]
  congr 1
  funext b
  exact match b with
    | 0 => Fin.ext (hi.2.1.trans (Nat.zero_add _))
    | 1 => Fin.ext (hi.2.2.trans (Nat.zero_add _))

end At

variable (m : (ℓ : Loc nD τ sig) → Buf (Elt F) ℓ)

/-- What core `c`'s result `w` ends as. -/
def result (c : Dev nD) : (w : Fin 4) → Buf (Elt F) ((c.tc : Thread nD τ).loc (outs w))
  | 0 => (gathered (h := 1024) (w := 1792) (fun d => m (d.tc.loc main_arg0)) c : (⟨3, ![4, 2048, 1792]⟩ : Shape).Idx → Elt F .bf16)
  | 1 => (gathered (h := 256) (w := 2048) (fun d => m (d.tc.loc main_arg1)) c : (⟨3, ![4, 512, 2048]⟩ : Shape).Idx → Elt F .bf16)
  | 2 => (gathered (h := 1024) (w := 2048) (fun d => m (d.tc.loc main_arg2)) c : (⟨3, ![4, 2048, 2048]⟩ : Shape).Idx → Elt F .bf16)
  | 3 => (gathered (h := 1024) (w := 2048) (fun d => m (d.tc.loc main_arg3)) c : (⟨3, ![4, 2048, 2048]⟩ : Shape).Idx → Elt F .bf16)

theorem outs_inj : Function.Injective outs := by decide
theorem outs_ne_args : ∀ w v, outs w ≠ args v := by decide

abbrev final : (ℓ : Loc nD τ sig) → Buf (Elt F) ℓ := fill m outs (result m)

/-- Which slice is the core's own chip's, and which of the chips along x, along y, along both. -/
theorem slice_mine (c : Dev nD) : 2 * (c.val / 4) + ((c.val / 2) % 2) = c.val / 2 := by revert c; decide
theorem slice_x (c : Dev nD) : (((c.val / 2) % 2) + 2) - 2 * (c.val / 4) = (peer 0 c).val / 2 := by revert c; decide
theorem slice_y (c : Dev nD) : (2 * (c.val / 4) + 1) - ((c.val / 2) % 2) = (peer 1 c).val / 2 := by revert c; decide
theorem slice_xy (c : Dev nD) : 3 - (2 * (c.val / 4) + ((c.val / 2) % 2)) = (peer 2 c).val / 2 := by revert c; decide

theorem agrees_own0 (c : Dev nD) (x : (S2048x1792 : Shape).Idx) :
    ((((Memref.whole main_v1_0).slice (Rect.unit (s := S4x2048x1792) (k0_off1 c) S1x2048x1792.size (k0_off1_inb c)) (fun _ => rfl)).squeeze S2048x1792 squeezes_S1x2048x1792_S2048x1792 : Memref sig .tc .hbm S2048x1792 .bf16).view.read (Elt F) (result m c 0) x : Elt F .bf16)
      = ((Memref.whole main_arg0 : Memref sig .tc .hbm S2048x1792 .bf16).view.read (Elt F) (m ((c.tc : Thread nD τ).loc main_arg0)) x : Elt F .bf16) :=
  gathered_own (h := 1024) (w := 1792) (fun d => m (d.tc.loc main_arg0)) c _ x (slice_mine c)
    (emb_squeezed (A := 4) (B := 2048) (C := 1792) (h := 2048) (w := 1792) (k0_off1_eq c) _ _ x)

theorem agrees_sent0 (k : Fin 3) (c : Dev nD) (x : (S1024x1792 : Shape).Idx) :
    ((((Memref.whole main_v1_0).slice (Rect.unit (s := S4x2048x1792) (k0_off2 c) S1x1024x1792.size (k0_off2_inb c)) (fun _ => rfl)).squeeze S1024x1792 squeezes_S1x1024x1792_S1024x1792 : Memref sig .tc .hbm S1024x1792 .bf16).view.read (Elt F) (result m (peer k c) 0) x : Elt F .bf16)
      = (((Memref.whole main_arg0).slice (Rect.unit (s := S2048x1792) (k0_off3 c) S1024x1792.size (k0_off3_inb c)) (fun _ => rfl) : Memref sig .tc .hbm S1024x1792 .bf16).view.read (Elt F) (m ((c.tc : Thread nD τ).loc main_arg0)) x : Elt F .bf16) :=
  gathered_sent (h := 1024) (w := 1792) (fun d => m (d.tc.loc main_arg0)) c _ (by decide) k _ (slice_mine c) (x 0).isLt
    (emb_squeezed (A := 4) (B := 2048) (C := 1792) (h := 1024) (w := 1792) (k0_off2_eq c) _ _ x)
    (emb_slice (s := S2048x1792) (k0_off3_eq c) _ _ 0) (emb_slice (s := S2048x1792) (k0_off3_eq c) _ _ 1)

theorem agrees_passed0_0 (c : Dev nD) (x : (S1024x1792 : Shape).Idx) :
    ((((Memref.whole main_v1_0).slice (Rect.unit (s := S4x2048x1792) (k0_off10 c) S1x1024x1792.size (k0_off10_inb c)) (fun _ => rfl)).squeeze S1024x1792 squeezes_S1x1024x1792_S1024x1792 : Memref sig .tc .hbm S1024x1792 .bf16).view.read (Elt F) (result m (sibling c) 0) x : Elt F .bf16)
      = ((((Memref.whole main_v1_0).slice (Rect.unit (s := S4x2048x1792) (k0_off10 c) S1x1024x1792.size (k0_off10_inb c)) (fun _ => rfl)).squeeze S1024x1792 squeezes_S1x1024x1792_S1024x1792 : Memref sig .tc .hbm S1024x1792 .bf16).view.read (Elt F) (result m c 0) x : Elt F .bf16) :=
  gathered_passed (h := 1024) (w := 1792) (fun d => m (d.tc.loc main_arg0)) c _ 0 (slice_x c)
    (emb_squeezed (A := 4) (B := 2048) (C := 1792) (h := 1024) (w := 1792) (k0_off10_eq c) _ _ x).1

theorem agrees_passed0_1 (c : Dev nD) (x : (S1024x1792 : Shape).Idx) :
    ((((Memref.whole main_v1_0).slice (Rect.unit (s := S4x2048x1792) (k0_off11 c) S1x1024x1792.size (k0_off11_inb c)) (fun _ => rfl)).squeeze S1024x1792 squeezes_S1x1024x1792_S1024x1792 : Memref sig .tc .hbm S1024x1792 .bf16).view.read (Elt F) (result m (sibling c) 0) x : Elt F .bf16)
      = ((((Memref.whole main_v1_0).slice (Rect.unit (s := S4x2048x1792) (k0_off11 c) S1x1024x1792.size (k0_off11_inb c)) (fun _ => rfl)).squeeze S1024x1792 squeezes_S1x1024x1792_S1024x1792 : Memref sig .tc .hbm S1024x1792 .bf16).view.read (Elt F) (result m c 0) x : Elt F .bf16) :=
  gathered_passed (h := 1024) (w := 1792) (fun d => m (d.tc.loc main_arg0)) c _ 1 (slice_y c)
    (emb_squeezed (A := 4) (B := 2048) (C := 1792) (h := 1024) (w := 1792) (k0_off11_eq c) _ _ x).1

theorem agrees_passed0_2 (c : Dev nD) (x : (S1024x1792 : Shape).Idx) :
    ((((Memref.whole main_v1_0).slice (Rect.unit (s := S4x2048x1792) (k0_off12 c) S1x1024x1792.size (k0_off12_inb c)) (fun _ => rfl)).squeeze S1024x1792 squeezes_S1x1024x1792_S1024x1792 : Memref sig .tc .hbm S1024x1792 .bf16).view.read (Elt F) (result m (sibling c) 0) x : Elt F .bf16)
      = ((((Memref.whole main_v1_0).slice (Rect.unit (s := S4x2048x1792) (k0_off12 c) S1x1024x1792.size (k0_off12_inb c)) (fun _ => rfl)).squeeze S1024x1792 squeezes_S1x1024x1792_S1024x1792 : Memref sig .tc .hbm S1024x1792 .bf16).view.read (Elt F) (result m c 0) x : Elt F .bf16) :=
  gathered_passed (h := 1024) (w := 1792) (fun d => m (d.tc.loc main_arg0)) c _ 2 (slice_xy c)
    (emb_squeezed (A := 4) (B := 2048) (C := 1792) (h := 1024) (w := 1792) (k0_off12_eq c) _ _ x).1

theorem agrees_own1 (c : Dev nD) (x : (S512x2048 : Shape).Idx) :
    ((((Memref.whole main_v1_1).slice (Rect.unit (s := S4x512x2048) (k0_off4 c) S1x512x2048.size (k0_off4_inb c)) (fun _ => rfl)).squeeze S512x2048 squeezes_S1x512x2048_S512x2048 : Memref sig .tc .hbm S512x2048 .bf16).view.read (Elt F) (result m c 1) x : Elt F .bf16)
      = ((Memref.whole main_arg1 : Memref sig .tc .hbm S512x2048 .bf16).view.read (Elt F) (m ((c.tc : Thread nD τ).loc main_arg1)) x : Elt F .bf16) :=
  gathered_own (h := 256) (w := 2048) (fun d => m (d.tc.loc main_arg1)) c _ x (slice_mine c)
    (emb_squeezed (A := 4) (B := 512) (C := 2048) (h := 512) (w := 2048) (k0_off4_eq c) _ _ x)

theorem agrees_sent1 (k : Fin 3) (c : Dev nD) (x : (S256x2048 : Shape).Idx) :
    ((((Memref.whole main_v1_1).slice (Rect.unit (s := S4x512x2048) (k0_off5 c) S1x256x2048.size (k0_off5_inb c)) (fun _ => rfl)).squeeze S256x2048 squeezes_S1x256x2048_S256x2048 : Memref sig .tc .hbm S256x2048 .bf16).view.read (Elt F) (result m (peer k c) 1) x : Elt F .bf16)
      = (((Memref.whole main_arg1).slice (Rect.unit (s := S512x2048) (k0_off6 c) S256x2048.size (k0_off6_inb c)) (fun _ => rfl) : Memref sig .tc .hbm S256x2048 .bf16).view.read (Elt F) (m ((c.tc : Thread nD τ).loc main_arg1)) x : Elt F .bf16) :=
  gathered_sent (h := 256) (w := 2048) (fun d => m (d.tc.loc main_arg1)) c _ (by decide) k _ (slice_mine c) (x 0).isLt
    (emb_squeezed (A := 4) (B := 512) (C := 2048) (h := 256) (w := 2048) (k0_off5_eq c) _ _ x)
    (emb_slice (s := S512x2048) (k0_off6_eq c) _ _ 0) (emb_slice (s := S512x2048) (k0_off6_eq c) _ _ 1)

theorem agrees_passed1_0 (c : Dev nD) (x : (S256x2048 : Shape).Idx) :
    ((((Memref.whole main_v1_1).slice (Rect.unit (s := S4x512x2048) (k0_off13 c) S1x256x2048.size (k0_off13_inb c)) (fun _ => rfl)).squeeze S256x2048 squeezes_S1x256x2048_S256x2048 : Memref sig .tc .hbm S256x2048 .bf16).view.read (Elt F) (result m (sibling c) 1) x : Elt F .bf16)
      = ((((Memref.whole main_v1_1).slice (Rect.unit (s := S4x512x2048) (k0_off13 c) S1x256x2048.size (k0_off13_inb c)) (fun _ => rfl)).squeeze S256x2048 squeezes_S1x256x2048_S256x2048 : Memref sig .tc .hbm S256x2048 .bf16).view.read (Elt F) (result m c 1) x : Elt F .bf16) :=
  gathered_passed (h := 256) (w := 2048) (fun d => m (d.tc.loc main_arg1)) c _ 0 (slice_x c)
    (emb_squeezed (A := 4) (B := 512) (C := 2048) (h := 256) (w := 2048) (k0_off13_eq c) _ _ x).1

theorem agrees_passed1_1 (c : Dev nD) (x : (S256x2048 : Shape).Idx) :
    ((((Memref.whole main_v1_1).slice (Rect.unit (s := S4x512x2048) (k0_off14 c) S1x256x2048.size (k0_off14_inb c)) (fun _ => rfl)).squeeze S256x2048 squeezes_S1x256x2048_S256x2048 : Memref sig .tc .hbm S256x2048 .bf16).view.read (Elt F) (result m (sibling c) 1) x : Elt F .bf16)
      = ((((Memref.whole main_v1_1).slice (Rect.unit (s := S4x512x2048) (k0_off14 c) S1x256x2048.size (k0_off14_inb c)) (fun _ => rfl)).squeeze S256x2048 squeezes_S1x256x2048_S256x2048 : Memref sig .tc .hbm S256x2048 .bf16).view.read (Elt F) (result m c 1) x : Elt F .bf16) :=
  gathered_passed (h := 256) (w := 2048) (fun d => m (d.tc.loc main_arg1)) c _ 1 (slice_y c)
    (emb_squeezed (A := 4) (B := 512) (C := 2048) (h := 256) (w := 2048) (k0_off14_eq c) _ _ x).1

theorem agrees_passed1_2 (c : Dev nD) (x : (S256x2048 : Shape).Idx) :
    ((((Memref.whole main_v1_1).slice (Rect.unit (s := S4x512x2048) (k0_off15 c) S1x256x2048.size (k0_off15_inb c)) (fun _ => rfl)).squeeze S256x2048 squeezes_S1x256x2048_S256x2048 : Memref sig .tc .hbm S256x2048 .bf16).view.read (Elt F) (result m (sibling c) 1) x : Elt F .bf16)
      = ((((Memref.whole main_v1_1).slice (Rect.unit (s := S4x512x2048) (k0_off15 c) S1x256x2048.size (k0_off15_inb c)) (fun _ => rfl)).squeeze S256x2048 squeezes_S1x256x2048_S256x2048 : Memref sig .tc .hbm S256x2048 .bf16).view.read (Elt F) (result m c 1) x : Elt F .bf16) :=
  gathered_passed (h := 256) (w := 2048) (fun d => m (d.tc.loc main_arg1)) c _ 2 (slice_xy c)
    (emb_squeezed (A := 4) (B := 512) (C := 2048) (h := 256) (w := 2048) (k0_off15_eq c) _ _ x).1

theorem agrees_own2 (c : Dev nD) (x : (S2048x2048 : Shape).Idx) :
    ((((Memref.whole main_v1_2).slice (Rect.unit (s := S4x2048x2048) (k0_off7 c) S1x2048x2048.size (k0_off7_inb c)) (fun _ => rfl)).squeeze S2048x2048 squeezes_S1x2048x2048_S2048x2048 : Memref sig .tc .hbm S2048x2048 .bf16).view.read (Elt F) (result m c 2) x : Elt F .bf16)
      = ((Memref.whole main_arg2 : Memref sig .tc .hbm S2048x2048 .bf16).view.read (Elt F) (m ((c.tc : Thread nD τ).loc main_arg2)) x : Elt F .bf16) :=
  gathered_own (h := 1024) (w := 2048) (fun d => m (d.tc.loc main_arg2)) c _ x (slice_mine c)
    (emb_squeezed (A := 4) (B := 2048) (C := 2048) (h := 2048) (w := 2048) (k0_off7_eq c) _ _ x)

theorem agrees_sent2 (k : Fin 3) (c : Dev nD) (x : (S1024x2048 : Shape).Idx) :
    ((((Memref.whole main_v1_2).slice (Rect.unit (s := S4x2048x2048) (k0_off8 c) S1x1024x2048.size (k0_off8_inb c)) (fun _ => rfl)).squeeze S1024x2048 squeezes_S1x1024x2048_S1024x2048 : Memref sig .tc .hbm S1024x2048 .bf16).view.read (Elt F) (result m (peer k c) 2) x : Elt F .bf16)
      = (((Memref.whole main_arg2).slice (Rect.unit (s := S2048x2048) (k0_off9 c) S1024x2048.size (k0_off9_inb c)) (fun _ => rfl) : Memref sig .tc .hbm S1024x2048 .bf16).view.read (Elt F) (m ((c.tc : Thread nD τ).loc main_arg2)) x : Elt F .bf16) :=
  gathered_sent (h := 1024) (w := 2048) (fun d => m (d.tc.loc main_arg2)) c _ (by decide) k _ (slice_mine c) (x 0).isLt
    (emb_squeezed (A := 4) (B := 2048) (C := 2048) (h := 1024) (w := 2048) (k0_off8_eq c) _ _ x)
    (emb_slice (s := S2048x2048) (k0_off9_eq c) _ _ 0) (emb_slice (s := S2048x2048) (k0_off9_eq c) _ _ 1)

theorem agrees_passed2_0 (c : Dev nD) (x : (S1024x2048 : Shape).Idx) :
    ((((Memref.whole main_v1_2).slice (Rect.unit (s := S4x2048x2048) (k0_off16 c) S1x1024x2048.size (k0_off16_inb c)) (fun _ => rfl)).squeeze S1024x2048 squeezes_S1x1024x2048_S1024x2048 : Memref sig .tc .hbm S1024x2048 .bf16).view.read (Elt F) (result m (sibling c) 2) x : Elt F .bf16)
      = ((((Memref.whole main_v1_2).slice (Rect.unit (s := S4x2048x2048) (k0_off16 c) S1x1024x2048.size (k0_off16_inb c)) (fun _ => rfl)).squeeze S1024x2048 squeezes_S1x1024x2048_S1024x2048 : Memref sig .tc .hbm S1024x2048 .bf16).view.read (Elt F) (result m c 2) x : Elt F .bf16) :=
  gathered_passed (h := 1024) (w := 2048) (fun d => m (d.tc.loc main_arg2)) c _ 0 (slice_x c)
    (emb_squeezed (A := 4) (B := 2048) (C := 2048) (h := 1024) (w := 2048) (k0_off16_eq c) _ _ x).1

theorem agrees_passed2_1 (c : Dev nD) (x : (S1024x2048 : Shape).Idx) :
    ((((Memref.whole main_v1_2).slice (Rect.unit (s := S4x2048x2048) (k0_off17 c) S1x1024x2048.size (k0_off17_inb c)) (fun _ => rfl)).squeeze S1024x2048 squeezes_S1x1024x2048_S1024x2048 : Memref sig .tc .hbm S1024x2048 .bf16).view.read (Elt F) (result m (sibling c) 2) x : Elt F .bf16)
      = ((((Memref.whole main_v1_2).slice (Rect.unit (s := S4x2048x2048) (k0_off17 c) S1x1024x2048.size (k0_off17_inb c)) (fun _ => rfl)).squeeze S1024x2048 squeezes_S1x1024x2048_S1024x2048 : Memref sig .tc .hbm S1024x2048 .bf16).view.read (Elt F) (result m c 2) x : Elt F .bf16) :=
  gathered_passed (h := 1024) (w := 2048) (fun d => m (d.tc.loc main_arg2)) c _ 1 (slice_y c)
    (emb_squeezed (A := 4) (B := 2048) (C := 2048) (h := 1024) (w := 2048) (k0_off17_eq c) _ _ x).1

theorem agrees_passed2_2 (c : Dev nD) (x : (S1024x2048 : Shape).Idx) :
    ((((Memref.whole main_v1_2).slice (Rect.unit (s := S4x2048x2048) (k0_off18 c) S1x1024x2048.size (k0_off18_inb c)) (fun _ => rfl)).squeeze S1024x2048 squeezes_S1x1024x2048_S1024x2048 : Memref sig .tc .hbm S1024x2048 .bf16).view.read (Elt F) (result m (sibling c) 2) x : Elt F .bf16)
      = ((((Memref.whole main_v1_2).slice (Rect.unit (s := S4x2048x2048) (k0_off18 c) S1x1024x2048.size (k0_off18_inb c)) (fun _ => rfl)).squeeze S1024x2048 squeezes_S1x1024x2048_S1024x2048 : Memref sig .tc .hbm S1024x2048 .bf16).view.read (Elt F) (result m c 2) x : Elt F .bf16) :=
  gathered_passed (h := 1024) (w := 2048) (fun d => m (d.tc.loc main_arg2)) c _ 2 (slice_xy c)
    (emb_squeezed (A := 4) (B := 2048) (C := 2048) (h := 1024) (w := 2048) (k0_off18_eq c) _ _ x).1

theorem agrees_own3 (c : Dev nD) (x : (S2048x2048 : Shape).Idx) :
    ((((Memref.whole main_v1_3).slice (Rect.unit (s := S4x2048x2048) (k0_off7 c) S1x2048x2048.size (k0_off7_inb c)) (fun _ => rfl)).squeeze S2048x2048 squeezes_S1x2048x2048_S2048x2048 : Memref sig .tc .hbm S2048x2048 .bf16).view.read (Elt F) (result m c 3) x : Elt F .bf16)
      = ((Memref.whole main_arg3 : Memref sig .tc .hbm S2048x2048 .bf16).view.read (Elt F) (m ((c.tc : Thread nD τ).loc main_arg3)) x : Elt F .bf16) :=
  gathered_own (h := 1024) (w := 2048) (fun d => m (d.tc.loc main_arg3)) c _ x (slice_mine c)
    (emb_squeezed (A := 4) (B := 2048) (C := 2048) (h := 2048) (w := 2048) (k0_off7_eq c) _ _ x)

theorem agrees_sent3 (k : Fin 3) (c : Dev nD) (x : (S1024x2048 : Shape).Idx) :
    ((((Memref.whole main_v1_3).slice (Rect.unit (s := S4x2048x2048) (k0_off8 c) S1x1024x2048.size (k0_off8_inb c)) (fun _ => rfl)).squeeze S1024x2048 squeezes_S1x1024x2048_S1024x2048 : Memref sig .tc .hbm S1024x2048 .bf16).view.read (Elt F) (result m (peer k c) 3) x : Elt F .bf16)
      = (((Memref.whole main_arg3).slice (Rect.unit (s := S2048x2048) (k0_off9 c) S1024x2048.size (k0_off9_inb c)) (fun _ => rfl) : Memref sig .tc .hbm S1024x2048 .bf16).view.read (Elt F) (m ((c.tc : Thread nD τ).loc main_arg3)) x : Elt F .bf16) :=
  gathered_sent (h := 1024) (w := 2048) (fun d => m (d.tc.loc main_arg3)) c _ (by decide) k _ (slice_mine c) (x 0).isLt
    (emb_squeezed (A := 4) (B := 2048) (C := 2048) (h := 1024) (w := 2048) (k0_off8_eq c) _ _ x)
    (emb_slice (s := S2048x2048) (k0_off9_eq c) _ _ 0) (emb_slice (s := S2048x2048) (k0_off9_eq c) _ _ 1)

theorem agrees_passed3_0 (c : Dev nD) (x : (S1024x2048 : Shape).Idx) :
    ((((Memref.whole main_v1_3).slice (Rect.unit (s := S4x2048x2048) (k0_off16 c) S1x1024x2048.size (k0_off16_inb c)) (fun _ => rfl)).squeeze S1024x2048 squeezes_S1x1024x2048_S1024x2048 : Memref sig .tc .hbm S1024x2048 .bf16).view.read (Elt F) (result m (sibling c) 3) x : Elt F .bf16)
      = ((((Memref.whole main_v1_3).slice (Rect.unit (s := S4x2048x2048) (k0_off16 c) S1x1024x2048.size (k0_off16_inb c)) (fun _ => rfl)).squeeze S1024x2048 squeezes_S1x1024x2048_S1024x2048 : Memref sig .tc .hbm S1024x2048 .bf16).view.read (Elt F) (result m c 3) x : Elt F .bf16) :=
  gathered_passed (h := 1024) (w := 2048) (fun d => m (d.tc.loc main_arg3)) c _ 0 (slice_x c)
    (emb_squeezed (A := 4) (B := 2048) (C := 2048) (h := 1024) (w := 2048) (k0_off16_eq c) _ _ x).1

theorem agrees_passed3_1 (c : Dev nD) (x : (S1024x2048 : Shape).Idx) :
    ((((Memref.whole main_v1_3).slice (Rect.unit (s := S4x2048x2048) (k0_off17 c) S1x1024x2048.size (k0_off17_inb c)) (fun _ => rfl)).squeeze S1024x2048 squeezes_S1x1024x2048_S1024x2048 : Memref sig .tc .hbm S1024x2048 .bf16).view.read (Elt F) (result m (sibling c) 3) x : Elt F .bf16)
      = ((((Memref.whole main_v1_3).slice (Rect.unit (s := S4x2048x2048) (k0_off17 c) S1x1024x2048.size (k0_off17_inb c)) (fun _ => rfl)).squeeze S1024x2048 squeezes_S1x1024x2048_S1024x2048 : Memref sig .tc .hbm S1024x2048 .bf16).view.read (Elt F) (result m c 3) x : Elt F .bf16) :=
  gathered_passed (h := 1024) (w := 2048) (fun d => m (d.tc.loc main_arg3)) c _ 1 (slice_y c)
    (emb_squeezed (A := 4) (B := 2048) (C := 2048) (h := 1024) (w := 2048) (k0_off17_eq c) _ _ x).1

theorem agrees_passed3_2 (c : Dev nD) (x : (S1024x2048 : Shape).Idx) :
    ((((Memref.whole main_v1_3).slice (Rect.unit (s := S4x2048x2048) (k0_off18 c) S1x1024x2048.size (k0_off18_inb c)) (fun _ => rfl)).squeeze S1024x2048 squeezes_S1x1024x2048_S1024x2048 : Memref sig .tc .hbm S1024x2048 .bf16).view.read (Elt F) (result m (sibling c) 3) x : Elt F .bf16)
      = ((((Memref.whole main_v1_3).slice (Rect.unit (s := S4x2048x2048) (k0_off18 c) S1x1024x2048.size (k0_off18_inb c)) (fun _ => rfl)).squeeze S1024x2048 squeezes_S1x1024x2048_S1024x2048 : Memref sig .tc .hbm S1024x2048 .bf16).view.read (Elt F) (result m c 3) x : Elt F .bf16) :=
  gathered_passed (h := 1024) (w := 2048) (fun d => m (d.tc.loc main_arg3)) c _ 2 (slice_xy c)
    (emb_squeezed (A := 4) (B := 2048) (C := 2048) (h := 1024) (w := 2048) (k0_off18_eq c) _ _ x).1

def picture : Picture τ (Elt F) plan where
  remote := remote
  own := own
  q t := if 3 ≤ t.2.val then fullShare else partShare fullShare t.2.val
  lq l := partShare (restShare fullShare 6) l.2.val
  passes t := decide (3 ≤ t.2.val)
  E := final m
  agree
    | (0, 0), c => agree_of (fill_out outs_inj (peer 0 c) 0) (fill_other c main_arg0 (outs_ne_args · 0)) fun x => agrees_sent0 m 0 c x
    | (0, 1), c => agree_of (fill_out outs_inj (peer 1 c) 0) (fill_other c main_arg0 (outs_ne_args · 0)) fun x => agrees_sent0 m 1 c x
    | (0, 2), c => agree_of (fill_out outs_inj (peer 2 c) 0) (fill_other c main_arg0 (outs_ne_args · 0)) fun x => agrees_sent0 m 2 c x
    | (0, 3), c => agree_of (fill_out outs_inj (sibling c) 0) (fill_out outs_inj c 0) fun x => agrees_passed0_0 m c x
    | (0, 4), c => agree_of (fill_out outs_inj (sibling c) 0) (fill_out outs_inj c 0) fun x => agrees_passed0_1 m c x
    | (0, 5), c => agree_of (fill_out outs_inj (sibling c) 0) (fill_out outs_inj c 0) fun x => agrees_passed0_2 m c x
    | (1, 0), c => agree_of (fill_out outs_inj (peer 0 c) 1) (fill_other c main_arg1 (outs_ne_args · 1)) fun x => agrees_sent1 m 0 c x
    | (1, 1), c => agree_of (fill_out outs_inj (peer 1 c) 1) (fill_other c main_arg1 (outs_ne_args · 1)) fun x => agrees_sent1 m 1 c x
    | (1, 2), c => agree_of (fill_out outs_inj (peer 2 c) 1) (fill_other c main_arg1 (outs_ne_args · 1)) fun x => agrees_sent1 m 2 c x
    | (1, 3), c => agree_of (fill_out outs_inj (sibling c) 1) (fill_out outs_inj c 1) fun x => agrees_passed1_0 m c x
    | (1, 4), c => agree_of (fill_out outs_inj (sibling c) 1) (fill_out outs_inj c 1) fun x => agrees_passed1_1 m c x
    | (1, 5), c => agree_of (fill_out outs_inj (sibling c) 1) (fill_out outs_inj c 1) fun x => agrees_passed1_2 m c x
    | (2, 0), c => agree_of (fill_out outs_inj (peer 0 c) 2) (fill_other c main_arg2 (outs_ne_args · 2)) fun x => agrees_sent2 m 0 c x
    | (2, 1), c => agree_of (fill_out outs_inj (peer 1 c) 2) (fill_other c main_arg2 (outs_ne_args · 2)) fun x => agrees_sent2 m 1 c x
    | (2, 2), c => agree_of (fill_out outs_inj (peer 2 c) 2) (fill_other c main_arg2 (outs_ne_args · 2)) fun x => agrees_sent2 m 2 c x
    | (2, 3), c => agree_of (fill_out outs_inj (sibling c) 2) (fill_out outs_inj c 2) fun x => agrees_passed2_0 m c x
    | (2, 4), c => agree_of (fill_out outs_inj (sibling c) 2) (fill_out outs_inj c 2) fun x => agrees_passed2_1 m c x
    | (2, 5), c => agree_of (fill_out outs_inj (sibling c) 2) (fill_out outs_inj c 2) fun x => agrees_passed2_2 m c x
    | (3, 0), c => agree_of (fill_out outs_inj (peer 0 c) 3) (fill_other c main_arg3 (outs_ne_args · 3)) fun x => agrees_sent3 m 0 c x
    | (3, 1), c => agree_of (fill_out outs_inj (peer 1 c) 3) (fill_other c main_arg3 (outs_ne_args · 3)) fun x => agrees_sent3 m 1 c x
    | (3, 2), c => agree_of (fill_out outs_inj (peer 2 c) 3) (fill_other c main_arg3 (outs_ne_args · 3)) fun x => agrees_sent3 m 2 c x
    | (3, 3), c => agree_of (fill_out outs_inj (sibling c) 3) (fill_out outs_inj c 3) fun x => agrees_passed3_0 m c x
    | (3, 4), c => agree_of (fill_out outs_inj (sibling c) 3) (fill_out outs_inj c 3) fun x => agrees_passed3_1 m c x
    | (3, 5), c => agree_of (fill_out outs_inj (sibling c) 3) (fill_out outs_inj c 3) fun x => agrees_passed3_2 m c x
  agree_own
    | (0, _), c => agree_of (fill_out outs_inj c 0) (fill_other c main_arg0 (outs_ne_args · 0)) fun x => agrees_own0 m c x
    | (1, _), c => agree_of (fill_out outs_inj c 1) (fill_other c main_arg1 (outs_ne_args · 1)) fun x => agrees_own1 m c x
    | (2, _), c => agree_of (fill_out outs_inj c 2) (fill_other c main_arg2 (outs_ne_args · 2)) fun x => agrees_own2 m c x
    | (3, _), c => agree_of (fill_out outs_inj c 3) (fill_other c main_arg3 (outs_ne_args · 3)) fun x => agrees_own3 m c x

theorem placed : Placed (picture m) args outs where
  src := by
    rintro ⟨w, a⟩ c h
    fin_cases a
    case «3» => cases h
    case «4» => cases h
    case «5» => cases h
    all_goals fin_cases w <;> rfl
  dst := by
    rintro ⟨w, a⟩ c
    fin_cases w <;> fin_cases a <;> rfl
  ownSrc := by
    rintro ⟨w, b⟩ c
    fin_cases w <;> rfl
  ownDst := by
    rintro ⟨w, b⟩ c
    fin_cases w <;> rfl
  share w a h := if_neg (of_decide_eq_false h)
  ownShare w b := rfl

/-- The copy that brings core `c` half `b` of chip `q`'s shard. -/
def bringer (c : Dev nD) (q : Fin 4) (b : Fin 2) : Fin 6 ⊕ Fin 1 :=
  if q.val = c.val / 2 then .inr 0
  else if b.val = c.val % 2 then
    .inl (if q.val = (peer 0 c).val / 2 then 0 else if q.val = (peer 1 c).val / 2 then 1 else 2)
  else .inl (if q.val = (peer 0 c).val / 2 then 3 else if q.val = (peer 1 c).val / 2 then 4 else 5)

theorem half_iff {h w : ℕ} (hh : 0 < h) (n : ℕ) (b : Fin 2) (i : (⟨3, ![4, 2 * h, w]⟩ : Shape).Idx) :
    (∀ a, (![n, h * b.val, 0] : Fin 3 → ℕ) a ≤ (i a).val ∧ (i a).val < (![n, h * b.val, 0] : Fin 3 → ℕ) a + (![1, h, w] : Fin 3 → ℕ) a)
      ↔ (i 0).val = n ∧ halfOf i = b := by
  have hi2 : (i 2).val < w := (i 2).isLt
  constructor
  · intro H
    have H0 : n ≤ (i 0).val ∧ (i 0).val < n + 1 := H 0
    have H1 : h * b.val ≤ (i 1).val ∧ (i 1).val < h * b.val + h := H 1
    exact ⟨by omega, rowHalf_eq hh _ _ (x := (i 1).val - h * b.val) (by omega) (by omega)⟩
  · rintro ⟨H0, H1⟩
    have e := Nat.div_add_mod (i 1).val h
    have hm := Nat.mod_lt (i 1).val hh
    have H1' : (i 1).val / h = b.val := congrArg Fin.val H1
    rw [H1'] at e
    exact fun a => match a with
      | 0 => (show n ≤ (i 0).val ∧ (i 0).val < n + 1 by omega)
      | 1 => (show h * b.val ≤ (i 1).val ∧ (i 1).val < h * b.val + h by omega)
      | 2 => (show 0 ≤ (i 2).val ∧ (i 2).val < 0 + w by omega)

theorem whole_iff {R w : ℕ} (n : ℕ) (i : (⟨3, ![4, R, w]⟩ : Shape).Idx) :
    (∀ a, (![n, 0, 0] : Fin 3 → ℕ) a ≤ (i a).val ∧ (i a).val < (![n, 0, 0] : Fin 3 → ℕ) a + (![1, R, w] : Fin 3 → ℕ) a) ↔ (i 0).val = n := by
  have hi1 : (i 1).val < R := (i 1).isLt
  have hi2 : (i 2).val < w := (i 2).isLt
  constructor
  · intro H
    have H0 : n ≤ (i 0).val ∧ (i 0).val < n + 1 := H 0
    omega
  · intro H0
    exact fun a => match a with
      | 0 => (show n ≤ (i 0).val ∧ (i 0).val < n + 1 by omega)
      | 1 => (show 0 ≤ (i 1).val ∧ (i 1).val < 0 + R by omega)
      | 2 => (show 0 ≤ (i 2).val ∧ (i 2).val < 0 + w by omega)

theorem brought_x (c d : Dev nD) (hd : d = peer 0 c) (q : Fin 4) (b : Fin 2) :
    (q.val = 2 * (d.val / 4) + ((d.val / 2) % 2) ∧ b = ⟨d.val % 2, Nat.mod_lt _ (by decide)⟩) ↔ bringer c q b = .inl 0 := by
  subst hd; revert c q b; decide
theorem passed_x (c d : Dev nD) (hd : d = sibling c) (q : Fin 4) (b : Fin 2) :
    (q.val = (((d.val / 2) % 2) + 2) - 2 * (d.val / 4) ∧ b = ⟨d.val % 2, Nat.mod_lt _ (by decide)⟩) ↔ bringer c q b = .inl 3 := by
  subst hd; revert c q b; decide
theorem brought_y (c d : Dev nD) (hd : d = peer 1 c) (q : Fin 4) (b : Fin 2) :
    (q.val = 2 * (d.val / 4) + ((d.val / 2) % 2) ∧ b = ⟨d.val % 2, Nat.mod_lt _ (by decide)⟩) ↔ bringer c q b = .inl 1 := by
  subst hd; revert c q b; decide
theorem passed_y (c d : Dev nD) (hd : d = sibling c) (q : Fin 4) (b : Fin 2) :
    (q.val = (2 * (d.val / 4) + 1) - ((d.val / 2) % 2) ∧ b = ⟨d.val % 2, Nat.mod_lt _ (by decide)⟩) ↔ bringer c q b = .inl 4 := by
  subst hd; revert c q b; decide
theorem brought_xy (c d : Dev nD) (hd : d = peer 2 c) (q : Fin 4) (b : Fin 2) :
    (q.val = 2 * (d.val / 4) + ((d.val / 2) % 2) ∧ b = ⟨d.val % 2, Nat.mod_lt _ (by decide)⟩) ↔ bringer c q b = .inl 2 := by
  subst hd; revert c q b; decide
theorem passed_xy (c d : Dev nD) (hd : d = sibling c) (q : Fin 4) (b : Fin 2) :
    (q.val = 3 - (2 * (d.val / 4) + ((d.val / 2) % 2)) ∧ b = ⟨d.val % 2, Nat.mod_lt _ (by decide)⟩) ↔ bringer c q b = .inl 5 := by
  subst hd; revert c q b; decide
theorem kept (c : Dev nD) (q : Fin 4) (b : Fin 2) : q.val = 2 * (c.val / 4) + ((c.val / 2) % 2) ↔ bringer c q b = .inr 0 := by
  revert c q b; decide

theorem tiles : (placed m).Tiles := by
  refine tiles_of (placed m) (fun c w => match w with
    | 0 => fun i : (⟨3, ![4, 2048, 1792]⟩ : Shape).Idx => bringer c (i 0) (halfOf (h := 1024) (w := 1792) i)
    | 1 => fun i : (⟨3, ![4, 512, 2048]⟩ : Shape).Idx => bringer c (i 0) (halfOf (h := 256) (w := 2048) i)
    | 2 => fun i : (⟨3, ![4, 2048, 2048]⟩ : Shape).Idx => bringer c (i 0) (halfOf (h := 1024) (w := 2048) i)
    | 3 => fun i : (⟨3, ![4, 2048, 2048]⟩ : Shape).Idx => bringer c (i 0) (halfOf (h := 1024) (w := 2048) i)) ?_
  intro c w k i
  obtain k | b := k
  case inr =>
    obtain rfl : b = 0 := Subsingleton.elim _ _
    match w with
    | 0 => exact (mem_squeezed main_v1_0 (k0_off1_eq c) (k0_off1_inb c) (fun _ => rfl) squeezes_S1x2048x1792_S2048x1792 rfl c i).trans ((whole_iff (R := 2048) (w := 1792) _ i).trans (kept c _ _))
    | 1 => exact (mem_squeezed main_v1_1 (k0_off4_eq c) (k0_off4_inb c) (fun _ => rfl) squeezes_S1x512x2048_S512x2048 rfl c i).trans ((whole_iff (R := 512) (w := 2048) _ i).trans (kept c _ _))
    | 2 => exact (mem_squeezed main_v1_2 (k0_off7_eq c) (k0_off7_inb c) (fun _ => rfl) squeezes_S1x2048x2048_S2048x2048 rfl c i).trans ((whole_iff (R := 2048) (w := 2048) _ i).trans (kept c _ _))
    | 3 => exact (mem_squeezed main_v1_3 (k0_off7_eq c) (k0_off7_inb c) (fun _ => rfl) squeezes_S1x2048x2048_S2048x2048 rfl c i).trans ((whole_iff (R := 2048) (w := 2048) _ i).trans (kept c _ _))
  match w, k with
  | 0, 0 => exact (mem_squeezed main_v1_0 (k0_off2_eq (peer 0 c)) (k0_off2_inb (peer 0 c)) (fun _ => rfl) squeezes_S1x1024x1792_S1024x1792 rfl c i).trans ((half_iff (h := 1024) (w := 1792) (by decide) _ ⟨_, Nat.mod_lt _ (by decide)⟩ i).trans (brought_x c _ rfl _ _))
  | 0, 1 => exact (mem_squeezed main_v1_0 (k0_off2_eq (peer 1 c)) (k0_off2_inb (peer 1 c)) (fun _ => rfl) squeezes_S1x1024x1792_S1024x1792 rfl c i).trans ((half_iff (h := 1024) (w := 1792) (by decide) _ ⟨_, Nat.mod_lt _ (by decide)⟩ i).trans (brought_y c _ rfl _ _))
  | 0, 2 => exact (mem_squeezed main_v1_0 (k0_off2_eq (peer 2 c)) (k0_off2_inb (peer 2 c)) (fun _ => rfl) squeezes_S1x1024x1792_S1024x1792 rfl c i).trans ((half_iff (h := 1024) (w := 1792) (by decide) _ ⟨_, Nat.mod_lt _ (by decide)⟩ i).trans (brought_xy c _ rfl _ _))
  | 0, 3 => exact (mem_squeezed main_v1_0 (k0_off10_eq (sibling c)) (k0_off10_inb (sibling c)) (fun _ => rfl) squeezes_S1x1024x1792_S1024x1792 rfl c i).trans ((half_iff (h := 1024) (w := 1792) (by decide) _ ⟨_, Nat.mod_lt _ (by decide)⟩ i).trans (passed_x c _ rfl _ _))
  | 0, 4 => exact (mem_squeezed main_v1_0 (k0_off11_eq (sibling c)) (k0_off11_inb (sibling c)) (fun _ => rfl) squeezes_S1x1024x1792_S1024x1792 rfl c i).trans ((half_iff (h := 1024) (w := 1792) (by decide) _ ⟨_, Nat.mod_lt _ (by decide)⟩ i).trans (passed_y c _ rfl _ _))
  | 0, 5 => exact (mem_squeezed main_v1_0 (k0_off12_eq (sibling c)) (k0_off12_inb (sibling c)) (fun _ => rfl) squeezes_S1x1024x1792_S1024x1792 rfl c i).trans ((half_iff (h := 1024) (w := 1792) (by decide) _ ⟨_, Nat.mod_lt _ (by decide)⟩ i).trans (passed_xy c _ rfl _ _))
  | 1, 0 => exact (mem_squeezed main_v1_1 (k0_off5_eq (peer 0 c)) (k0_off5_inb (peer 0 c)) (fun _ => rfl) squeezes_S1x256x2048_S256x2048 rfl c i).trans ((half_iff (h := 256) (w := 2048) (by decide) _ ⟨_, Nat.mod_lt _ (by decide)⟩ i).trans (brought_x c _ rfl _ _))
  | 1, 1 => exact (mem_squeezed main_v1_1 (k0_off5_eq (peer 1 c)) (k0_off5_inb (peer 1 c)) (fun _ => rfl) squeezes_S1x256x2048_S256x2048 rfl c i).trans ((half_iff (h := 256) (w := 2048) (by decide) _ ⟨_, Nat.mod_lt _ (by decide)⟩ i).trans (brought_y c _ rfl _ _))
  | 1, 2 => exact (mem_squeezed main_v1_1 (k0_off5_eq (peer 2 c)) (k0_off5_inb (peer 2 c)) (fun _ => rfl) squeezes_S1x256x2048_S256x2048 rfl c i).trans ((half_iff (h := 256) (w := 2048) (by decide) _ ⟨_, Nat.mod_lt _ (by decide)⟩ i).trans (brought_xy c _ rfl _ _))
  | 1, 3 => exact (mem_squeezed main_v1_1 (k0_off13_eq (sibling c)) (k0_off13_inb (sibling c)) (fun _ => rfl) squeezes_S1x256x2048_S256x2048 rfl c i).trans ((half_iff (h := 256) (w := 2048) (by decide) _ ⟨_, Nat.mod_lt _ (by decide)⟩ i).trans (passed_x c _ rfl _ _))
  | 1, 4 => exact (mem_squeezed main_v1_1 (k0_off14_eq (sibling c)) (k0_off14_inb (sibling c)) (fun _ => rfl) squeezes_S1x256x2048_S256x2048 rfl c i).trans ((half_iff (h := 256) (w := 2048) (by decide) _ ⟨_, Nat.mod_lt _ (by decide)⟩ i).trans (passed_y c _ rfl _ _))
  | 1, 5 => exact (mem_squeezed main_v1_1 (k0_off15_eq (sibling c)) (k0_off15_inb (sibling c)) (fun _ => rfl) squeezes_S1x256x2048_S256x2048 rfl c i).trans ((half_iff (h := 256) (w := 2048) (by decide) _ ⟨_, Nat.mod_lt _ (by decide)⟩ i).trans (passed_xy c _ rfl _ _))
  | 2, 0 => exact (mem_squeezed main_v1_2 (k0_off8_eq (peer 0 c)) (k0_off8_inb (peer 0 c)) (fun _ => rfl) squeezes_S1x1024x2048_S1024x2048 rfl c i).trans ((half_iff (h := 1024) (w := 2048) (by decide) _ ⟨_, Nat.mod_lt _ (by decide)⟩ i).trans (brought_x c _ rfl _ _))
  | 2, 1 => exact (mem_squeezed main_v1_2 (k0_off8_eq (peer 1 c)) (k0_off8_inb (peer 1 c)) (fun _ => rfl) squeezes_S1x1024x2048_S1024x2048 rfl c i).trans ((half_iff (h := 1024) (w := 2048) (by decide) _ ⟨_, Nat.mod_lt _ (by decide)⟩ i).trans (brought_y c _ rfl _ _))
  | 2, 2 => exact (mem_squeezed main_v1_2 (k0_off8_eq (peer 2 c)) (k0_off8_inb (peer 2 c)) (fun _ => rfl) squeezes_S1x1024x2048_S1024x2048 rfl c i).trans ((half_iff (h := 1024) (w := 2048) (by decide) _ ⟨_, Nat.mod_lt _ (by decide)⟩ i).trans (brought_xy c _ rfl _ _))
  | 2, 3 => exact (mem_squeezed main_v1_2 (k0_off16_eq (sibling c)) (k0_off16_inb (sibling c)) (fun _ => rfl) squeezes_S1x1024x2048_S1024x2048 rfl c i).trans ((half_iff (h := 1024) (w := 2048) (by decide) _ ⟨_, Nat.mod_lt _ (by decide)⟩ i).trans (passed_x c _ rfl _ _))
  | 2, 4 => exact (mem_squeezed main_v1_2 (k0_off17_eq (sibling c)) (k0_off17_inb (sibling c)) (fun _ => rfl) squeezes_S1x1024x2048_S1024x2048 rfl c i).trans ((half_iff (h := 1024) (w := 2048) (by decide) _ ⟨_, Nat.mod_lt _ (by decide)⟩ i).trans (passed_y c _ rfl _ _))
  | 2, 5 => exact (mem_squeezed main_v1_2 (k0_off18_eq (sibling c)) (k0_off18_inb (sibling c)) (fun _ => rfl) squeezes_S1x1024x2048_S1024x2048 rfl c i).trans ((half_iff (h := 1024) (w := 2048) (by decide) _ ⟨_, Nat.mod_lt _ (by decide)⟩ i).trans (passed_xy c _ rfl _ _))
  | 3, 0 => exact (mem_squeezed main_v1_3 (k0_off8_eq (peer 0 c)) (k0_off8_inb (peer 0 c)) (fun _ => rfl) squeezes_S1x1024x2048_S1024x2048 rfl c i).trans ((half_iff (h := 1024) (w := 2048) (by decide) _ ⟨_, Nat.mod_lt _ (by decide)⟩ i).trans (brought_x c _ rfl _ _))
  | 3, 1 => exact (mem_squeezed main_v1_3 (k0_off8_eq (peer 1 c)) (k0_off8_inb (peer 1 c)) (fun _ => rfl) squeezes_S1x1024x2048_S1024x2048 rfl c i).trans ((half_iff (h := 1024) (w := 2048) (by decide) _ ⟨_, Nat.mod_lt _ (by decide)⟩ i).trans (brought_y c _ rfl _ _))
  | 3, 2 => exact (mem_squeezed main_v1_3 (k0_off8_eq (peer 2 c)) (k0_off8_inb (peer 2 c)) (fun _ => rfl) squeezes_S1x1024x2048_S1024x2048 rfl c i).trans ((half_iff (h := 1024) (w := 2048) (by decide) _ ⟨_, Nat.mod_lt _ (by decide)⟩ i).trans (brought_xy c _ rfl _ _))
  | 3, 3 => exact (mem_squeezed main_v1_3 (k0_off16_eq (sibling c)) (k0_off16_inb (sibling c)) (fun _ => rfl) squeezes_S1x1024x2048_S1024x2048 rfl c i).trans ((half_iff (h := 1024) (w := 2048) (by decide) _ ⟨_, Nat.mod_lt _ (by decide)⟩ i).trans (passed_x c _ rfl _ _))
  | 3, 4 => exact (mem_squeezed main_v1_3 (k0_off17_eq (sibling c)) (k0_off17_inb (sibling c)) (fun _ => rfl) squeezes_S1x1024x2048_S1024x2048 rfl c i).trans ((half_iff (h := 1024) (w := 2048) (by decide) _ ⟨_, Nat.mod_lt _ (by decide)⟩ i).trans (passed_y c _ rfl _ _))
  | 3, 5 => exact (mem_squeezed main_v1_3 (k0_off18_eq (sibling c)) (k0_off18_inb (sibling c)) (fun _ => rfl) squeezes_S1x1024x2048_S1024x2048 rfl c i).trans ((half_iff (h := 1024) (w := 2048) (by decide) _ ⟨_, Nat.mod_lt _ (by decide)⟩ i).trans (passed_xy c _ rfl _ _))

/-- What landed is what is passed on: the sender's name of the place and the receiver's. -/
theorem same_part {r : Ref sig .tc} {off off' size : Fin r.ty.shape.rank → ℕ} (h : off = off') (inb) (inb') (hr) (hr') {s' : Shape} (hs) (hs') (c : Dev nD)
    (q : PosShare TreeShare) (E : (ℓ : Loc nD τ sig) → Buf (Elt F) ℓ) :
    (((((Memref.whole r).slice (Rect.unit (s := r.ty.shape) off size inb) hr).squeeze s' hs : Memref sig .tc r.space _ r.ty.elt).view.loc (c : Thread nD τ))
        ↦[(((Memref.whole r).slice (Rect.unit (s := r.ty.shape) off size inb) hr).squeeze s' hs : Memref sig .tc r.space _ r.ty.elt).view.set]{q}
          E ((((Memref.whole r).slice (Rect.unit (s := r.ty.shape) off size inb) hr).squeeze s' hs : Memref sig .tc r.space _ r.ty.elt).view.loc (c : Thread nD τ))
        : sProp (MT nD τ sig Unit (Elt F) ℕ (UX nD τ sig) ℕ))
      = ((((Memref.whole r).slice (Rect.unit (s := r.ty.shape) off' size inb') hr').squeeze s' hs' : Memref sig .tc r.space _ r.ty.elt).view.loc (c : Thread nD τ))
        ↦[(((Memref.whole r).slice (Rect.unit (s := r.ty.shape) off' size inb') hr').squeeze s' hs' : Memref sig .tc r.space _ r.ty.elt).view.set]{q}
          E ((((Memref.whole r).slice (Rect.unit (s := r.ty.shape) off' size inb') hr').squeeze s' hs' : Memref sig .tc r.space _ r.ty.elt).view.loc (c : Thread nD τ)) := by
  subst h; rfl

theorem landed0_0 (c : Dev nD) : (picture m).pay c (.inr (.inl (0, 0))) = (picture m).srcEnd c (0, 3) :=
  same_part (r := main_v1_0) (show k0_off2 (peer 0 c) = k0_off10 c by rw [k0_off2_eq, k0_off10_eq]; revert c; decide) _ _ (fun _ => rfl) (fun _ => rfl) squeezes_S1x1024x1792_S1024x1792 squeezes_S1x1024x1792_S1024x1792 c fullShare (final m)
theorem landed0_1 (c : Dev nD) : (picture m).pay c (.inr (.inl (0, 1))) = (picture m).srcEnd c (0, 4) :=
  same_part (r := main_v1_0) (show k0_off2 (peer 1 c) = k0_off11 c by rw [k0_off2_eq, k0_off11_eq]; revert c; decide) _ _ (fun _ => rfl) (fun _ => rfl) squeezes_S1x1024x1792_S1024x1792 squeezes_S1x1024x1792_S1024x1792 c fullShare (final m)
theorem landed0_2 (c : Dev nD) : (picture m).pay c (.inr (.inl (0, 2))) = (picture m).srcEnd c (0, 5) :=
  same_part (r := main_v1_0) (show k0_off2 (peer 2 c) = k0_off12 c by rw [k0_off2_eq, k0_off12_eq]; revert c; decide) _ _ (fun _ => rfl) (fun _ => rfl) squeezes_S1x1024x1792_S1024x1792 squeezes_S1x1024x1792_S1024x1792 c fullShare (final m)
theorem landed1_0 (c : Dev nD) : (picture m).pay c (.inr (.inl (1, 0))) = (picture m).srcEnd c (1, 3) :=
  same_part (r := main_v1_1) (show k0_off5 (peer 0 c) = k0_off13 c by rw [k0_off5_eq, k0_off13_eq]; revert c; decide) _ _ (fun _ => rfl) (fun _ => rfl) squeezes_S1x256x2048_S256x2048 squeezes_S1x256x2048_S256x2048 c fullShare (final m)
theorem landed1_1 (c : Dev nD) : (picture m).pay c (.inr (.inl (1, 1))) = (picture m).srcEnd c (1, 4) :=
  same_part (r := main_v1_1) (show k0_off5 (peer 1 c) = k0_off14 c by rw [k0_off5_eq, k0_off14_eq]; revert c; decide) _ _ (fun _ => rfl) (fun _ => rfl) squeezes_S1x256x2048_S256x2048 squeezes_S1x256x2048_S256x2048 c fullShare (final m)
theorem landed1_2 (c : Dev nD) : (picture m).pay c (.inr (.inl (1, 2))) = (picture m).srcEnd c (1, 5) :=
  same_part (r := main_v1_1) (show k0_off5 (peer 2 c) = k0_off15 c by rw [k0_off5_eq, k0_off15_eq]; revert c; decide) _ _ (fun _ => rfl) (fun _ => rfl) squeezes_S1x256x2048_S256x2048 squeezes_S1x256x2048_S256x2048 c fullShare (final m)
theorem landed2_0 (c : Dev nD) : (picture m).pay c (.inr (.inl (2, 0))) = (picture m).srcEnd c (2, 3) :=
  same_part (r := main_v1_2) (show k0_off8 (peer 0 c) = k0_off16 c by rw [k0_off8_eq, k0_off16_eq]; revert c; decide) _ _ (fun _ => rfl) (fun _ => rfl) squeezes_S1x1024x2048_S1024x2048 squeezes_S1x1024x2048_S1024x2048 c fullShare (final m)
theorem landed2_1 (c : Dev nD) : (picture m).pay c (.inr (.inl (2, 1))) = (picture m).srcEnd c (2, 4) :=
  same_part (r := main_v1_2) (show k0_off8 (peer 1 c) = k0_off17 c by rw [k0_off8_eq, k0_off17_eq]; revert c; decide) _ _ (fun _ => rfl) (fun _ => rfl) squeezes_S1x1024x2048_S1024x2048 squeezes_S1x1024x2048_S1024x2048 c fullShare (final m)
theorem landed2_2 (c : Dev nD) : (picture m).pay c (.inr (.inl (2, 2))) = (picture m).srcEnd c (2, 5) :=
  same_part (r := main_v1_2) (show k0_off8 (peer 2 c) = k0_off18 c by rw [k0_off8_eq, k0_off18_eq]; revert c; decide) _ _ (fun _ => rfl) (fun _ => rfl) squeezes_S1x1024x2048_S1024x2048 squeezes_S1x1024x2048_S1024x2048 c fullShare (final m)
theorem landed3_0 (c : Dev nD) : (picture m).pay c (.inr (.inl (3, 0))) = (picture m).srcEnd c (3, 3) :=
  same_part (r := main_v1_3) (show k0_off8 (peer 0 c) = k0_off16 c by rw [k0_off8_eq, k0_off16_eq]; revert c; decide) _ _ (fun _ => rfl) (fun _ => rfl) squeezes_S1x1024x2048_S1024x2048 squeezes_S1x1024x2048_S1024x2048 c fullShare (final m)
theorem landed3_1 (c : Dev nD) : (picture m).pay c (.inr (.inl (3, 1))) = (picture m).srcEnd c (3, 4) :=
  same_part (r := main_v1_3) (show k0_off8 (peer 1 c) = k0_off17 c by rw [k0_off8_eq, k0_off17_eq]; revert c; decide) _ _ (fun _ => rfl) (fun _ => rfl) squeezes_S1x1024x2048_S1024x2048 squeezes_S1x1024x2048_S1024x2048 c fullShare (final m)
theorem landed3_2 (c : Dev nD) : (picture m).pay c (.inr (.inl (3, 2))) = (picture m).srcEnd c (3, 5) :=
  same_part (r := main_v1_3) (show k0_off8 (peer 2 c) = k0_off18 c by rw [k0_off8_eq, k0_off18_eq]; revert c; decide) _ _ (fun _ => rfl) (fun _ => rfl) squeezes_S1x1024x2048_S1024x2048 squeezes_S1x1024x2048_S1024x2048 c fullShare (final m)

section Back

theorem six (Φ : Fin 6 → sProp (MT nD τ sig Unit (Elt F) ℕ (UX nD τ sig) ℕ)) :
    bigSep Finset.univ Φ = iprop(Φ 0 ∗ Φ 1 ∗ Φ 2 ∗ Φ 3 ∗ Φ 4 ∗ Φ 5) := by
  rw [show (Finset.univ : Finset (Fin 6)) = {0, 1, 2, 3, 4, 5} by decide,
    bigSep_insert (by decide), bigSep_insert (by decide), bigSep_insert (by decide), bigSep_insert (by decide), bigSep_insert (by decide), BI.bigSep_singleton]
  rfl

/-- What became of the copies that arrived: those from other chips were passed on, those from the sibling stay. -/
def became (t : Fin 4 × Fin 6) : Stage := if 3 ≤ t.2.val then .going else .over

theorem back_of (w : Fin 4) (c : Dev nD)
    (h0 : (picture m).pay c (.inr (.inl (w, 0))) = (picture m).srcEnd c (w, 3)) (h1 : (picture m).pay c (.inr (.inl (w, 1))) = (picture m).srcEnd c (w, 4))
    (h2 : (picture m).pay c (.inr (.inl (w, 2))) = (picture m).srcEnd c (w, 5)) :
    (iprop((bigSep Finset.univ fun a : Fin 6 => (picture m).pay c (.inl (w, a))) ∗ (bigSep Finset.univ fun a : Fin 6 => landed (picture m).pay became c (w, a)))
        : sProp (MT nD τ sig Unit (Elt F) ℕ (UX nD τ sig) ℕ))
      ⊢ bigSep Finset.univ fun a : Fin 6 => (picture m).dstEnd ((plan.dest (w, a)).symm c) c (w, a) := by
  rw [six, six, six]
  have e3 : landed (picture m).pay became c (w, 3) = (picture m).dstEnd ((plan.dest (w, 3)).symm c) c (w, 3) := rfl
  have e4 : landed (picture m).pay became c (w, 4) = (picture m).dstEnd ((plan.dest (w, 4)).symm c) c (w, 4) := rfl
  have e5 : landed (picture m).pay became c (w, 5) = (picture m).dstEnd ((plan.dest (w, 5)).symm c) c (w, 5) := rfl
  have e0 : (picture m).dstEnd ((plan.dest (w, 0)).symm c) c (w, 0) = (picture m).pay c (.inl (w, 3)) := h0
  have e1 : (picture m).dstEnd ((plan.dest (w, 1)).symm c) c (w, 1) = (picture m).pay c (.inl (w, 4)) := h1
  have e2 : (picture m).dstEnd ((plan.dest (w, 2)).symm c) c (w, 2) = (picture m).pay c (.inl (w, 5)) := h2
  rw [e0, e1, e2, e3, e4, e5]
  iintro ⟨⟨-, -, -, H3, H4, H5⟩, ⟨-, -, -, L3, L4, L5⟩⟩
  isplitl [H3]; · iexact H3
  isplitl [H4]; · iexact H4
  isplitl [H5]; · iexact H5
  isplitl [L3]; · iexact L3
  isplitl [L4]; · iexact L4
  iexact L5

theorem back (c : Dev nD) (w : Fin 4) :
    (iprop((bigSep Finset.univ fun a : Fin 6 => (picture m).pay c (.inl (w, a))) ∗ (bigSep Finset.univ fun a : Fin 6 => landed (picture m).pay became c (w, a)))
        : sProp (MT nD τ sig Unit (Elt F) ℕ (UX nD τ sig) ℕ))
      ⊢ bigSep Finset.univ fun a : Fin 6 => (picture m).dstEnd ((plan.dest (w, a)).symm c) c (w, a) :=
  match w with
  | 0 => back_of m 0 c (landed0_0 m c) (landed0_1 m c) (landed0_2 m c)
  | 1 => back_of m 1 c (landed1_0 m c) (landed1_1 m c) (landed1_2 m c)
  | 2 => back_of m 2 c (landed2_0 m c) (landed2_1 m c) (landed2_2 m c)
  | 3 => back_of m 3 c (landed3_0 m c) (landed3_1 m c) (landed3_2 m c)

end Back

section Body

/-- The body of the one kernel, on the buffers it is called with. -/
abbrev bodyProg : Prog (TpuEff nD τ sig (Elt F) Λ₀ .tc) PUnit :=
  cc0_gather_weights (Memref.whole main_arg0) (Memref.isWhole_whole _) (Memref.whole main_arg1) (Memref.isWhole_whole _)
    (Memref.whole main_arg2) (Memref.isWhole_whole _) (Memref.whole main_arg3) (Memref.isWhole_whole _)
    (Memref.whole main_v1_0) (Memref.isWhole_whole _) (Memref.whole main_v1_1) (Memref.isWhole_whole _)
    (Memref.whole main_v1_2) (Memref.isWhole_whole _) (Memref.whole main_v1_3) (Memref.isWhole_whole _) cc0_scratch0 cc0_scratch1 cc0_scratch2

variable {K : Dev nD × Cell (Fin 4 × Fin 6) (Fin 4 × Fin 1) → ℕ} {c : Dev nD}

theorem dest_x (c : Dev nD) (n : ℕ) (hn : n < nD) (h : n = (2 * ((c.val / 2) % 2) + (c.val % 2) + 4) - 4 * (c.val / 4)) (w : Fin 4) :
    (⟨n, hn⟩ : Dev nD) = plan.dest (w, 0) c := by
  subst h
  exact Fin.ext (by show _ = (peer 0 c).val; revert c; decide)
theorem dest_y (c : Dev nD) (n : ℕ) (hn : n < nD) (h : n = (4 * (c.val / 4) + (c.val % 2) + 2) - 2 * ((c.val / 2) % 2)) (w : Fin 4) :
    (⟨n, hn⟩ : Dev nD) = plan.dest (w, 1) c := by
  subst h
  exact Fin.ext (by show _ = (peer 1 c).val; revert c; decide)
theorem dest_xy (c : Dev nD) (n : ℕ) (hn : n < nD) (h : n = ((c.val % 2) + 6) - (4 * (c.val / 4) + 2 * ((c.val / 2) % 2))) (w : Fin 4) :
    (⟨n, hn⟩ : Dev nD) = plan.dest (w, 2) c := by
  subst h
  exact Fin.ext (by show _ = (peer 2 c).val; revert c; decide)

theorem dest_sibling (c : Dev nD) (n : ℕ) (hn : n < nD) (h : n = (4 * (c.val / 4) + 2 * ((c.val / 2) % 2) + 1) - (c.val % 2)) :
    (⟨n, hn⟩ : Dev nD) = sibling c := by
  subst h
  exact Fin.ext (by revert c; decide)

set_option maxRecDepth 20000 in
set_option maxHeartbeats 8000000 in
/-- The body at one core. -/
theorem body (𝒱₀ : Variants) :
    (picture m).holds K c fresh fresh fresh
      ⊢ wp frame (wpE (defs₀ (F := F)) 𝒱₀ (c : Thread nD τ) none) Set.univ (bodyProg (F := F))
          fun _ => (picture m).holds K c ended became ended := by
  simp only [bodyProg, cc0_gather_weights_eq_skeleton]
  unfold cc0_gather_weights_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [Prog.lift, Prog.bind_op, Prog.bind_ret, Prog.pure_eq_ret, wp_deviceId]
  refine (picture m).copy (0, 0) rfl rfl rfl ?_
  refine (picture m).send (0, 0) rfl rfl (dest_x c _ _ (k0_dev1_eq c) 0) rfl rfl rfl ?_
  refine (picture m).send (0, 1) rfl rfl (dest_y c _ _ (k0_dev2_eq c) 0) rfl rfl rfl ?_
  refine (picture m).send (0, 2) rfl rfl (dest_xy c _ _ (k0_dev3_eq c) 0) rfl rfl rfl ?_
  refine (picture m).copy (1, 0) rfl rfl rfl ?_
  refine (picture m).send (1, 0) rfl rfl (dest_x c _ _ (k0_dev4_eq c) 1) rfl rfl rfl ?_
  refine (picture m).send (1, 1) rfl rfl (dest_y c _ _ (k0_dev5_eq c) 1) rfl rfl rfl ?_
  refine (picture m).send (1, 2) rfl rfl (dest_xy c _ _ (k0_dev6_eq c) 1) rfl rfl rfl ?_
  refine (picture m).copy (2, 0) rfl rfl rfl ?_
  refine (picture m).send (2, 0) rfl rfl (dest_x c _ _ (k0_dev7_eq c) 2) rfl rfl rfl ?_
  refine (picture m).send (2, 1) rfl rfl (dest_y c _ _ (k0_dev8_eq c) 2) rfl rfl rfl ?_
  refine (picture m).send (2, 2) rfl rfl (dest_xy c _ _ (k0_dev9_eq c) 2) rfl rfl rfl ?_
  refine (picture m).copy (3, 0) rfl rfl rfl ?_
  refine (picture m).send (3, 0) rfl rfl (dest_x c _ _ (k0_dev10_eq c) 3) rfl rfl rfl ?_
  refine (picture m).send (3, 1) rfl rfl (dest_y c _ _ (k0_dev11_eq c) 3) rfl rfl rfl ?_
  refine (picture m).send (3, 2) rfl rfl (dest_xy c _ _ (k0_dev12_eq c) 3) rfl rfl rfl ?_
  refine (picture m).received (0, 0) rfl (by decide) rfl (wpE_waitDma2_eq 𝒱₀ (c : Thread nD τ) none Set.univ) rfl ?_
  refine (picture m).pass (0, 3) rfl rfl (0, 0) rfl (Entails.of_eq (landed0_0 m c)) (dest_sibling c _ _ (k0_dev13_eq c)) rfl rfl rfl ?_
  refine (picture m).received (0, 1) rfl (by decide) rfl (wpE_waitDma2_eq 𝒱₀ (c : Thread nD τ) none Set.univ) rfl ?_
  refine (picture m).pass (0, 4) rfl rfl (0, 1) rfl (Entails.of_eq (landed0_1 m c)) (dest_sibling c _ _ (k0_dev14_eq c)) rfl rfl rfl ?_
  refine (picture m).received (0, 2) rfl (by decide) rfl (wpE_waitDma2_eq 𝒱₀ (c : Thread nD τ) none Set.univ) rfl ?_
  refine (picture m).pass (0, 5) rfl rfl (0, 2) rfl (Entails.of_eq (landed0_2 m c)) (dest_sibling c _ _ (k0_dev15_eq c)) rfl rfl rfl ?_
  refine (picture m).received (1, 0) rfl (by decide) rfl (wpE_waitDma2_eq 𝒱₀ (c : Thread nD τ) none Set.univ) rfl ?_
  refine (picture m).pass (1, 3) rfl rfl (1, 0) rfl (Entails.of_eq (landed1_0 m c)) (dest_sibling c _ _ (k0_dev16_eq c)) rfl rfl rfl ?_
  refine (picture m).received (1, 1) rfl (by decide) rfl (wpE_waitDma2_eq 𝒱₀ (c : Thread nD τ) none Set.univ) rfl ?_
  refine (picture m).pass (1, 4) rfl rfl (1, 1) rfl (Entails.of_eq (landed1_1 m c)) (dest_sibling c _ _ (k0_dev17_eq c)) rfl rfl rfl ?_
  refine (picture m).received (1, 2) rfl (by decide) rfl (wpE_waitDma2_eq 𝒱₀ (c : Thread nD τ) none Set.univ) rfl ?_
  refine (picture m).pass (1, 5) rfl rfl (1, 2) rfl (Entails.of_eq (landed1_2 m c)) (dest_sibling c _ _ (k0_dev18_eq c)) rfl rfl rfl ?_
  refine (picture m).received (2, 0) rfl (by decide) rfl (wpE_waitDma2_eq 𝒱₀ (c : Thread nD τ) none Set.univ) rfl ?_
  refine (picture m).pass (2, 3) rfl rfl (2, 0) rfl (Entails.of_eq (landed2_0 m c)) (dest_sibling c _ _ (k0_dev19_eq c)) rfl rfl rfl ?_
  refine (picture m).received (2, 1) rfl (by decide) rfl (wpE_waitDma2_eq 𝒱₀ (c : Thread nD τ) none Set.univ) rfl ?_
  refine (picture m).pass (2, 4) rfl rfl (2, 1) rfl (Entails.of_eq (landed2_1 m c)) (dest_sibling c _ _ (k0_dev20_eq c)) rfl rfl rfl ?_
  refine (picture m).received (2, 2) rfl (by decide) rfl (wpE_waitDma2_eq 𝒱₀ (c : Thread nD τ) none Set.univ) rfl ?_
  refine (picture m).pass (2, 5) rfl rfl (2, 2) rfl (Entails.of_eq (landed2_2 m c)) (dest_sibling c _ _ (k0_dev21_eq c)) rfl rfl rfl ?_
  refine (picture m).received (3, 0) rfl (by decide) rfl (wpE_waitDma2_eq 𝒱₀ (c : Thread nD τ) none Set.univ) rfl ?_
  refine (picture m).pass (3, 3) rfl rfl (3, 0) rfl (Entails.of_eq (landed3_0 m c)) (dest_sibling c _ _ (k0_dev22_eq c)) rfl rfl rfl ?_
  refine (picture m).received (3, 1) rfl (by decide) rfl (wpE_waitDma2_eq 𝒱₀ (c : Thread nD τ) none Set.univ) rfl ?_
  refine (picture m).pass (3, 4) rfl rfl (3, 1) rfl (Entails.of_eq (landed3_1 m c)) (dest_sibling c _ _ (k0_dev23_eq c)) rfl rfl rfl ?_
  refine (picture m).received (3, 2) rfl (by decide) rfl (wpE_waitDma2_eq 𝒱₀ (c : Thread nD τ) none Set.univ) rfl ?_
  refine (picture m).pass (3, 5) rfl rfl (3, 2) rfl (Entails.of_eq (landed3_2 m c)) (dest_sibling c _ _ (k0_dev24_eq c)) rfl rfl rfl ?_
  refine (picture m).received (0, 3) rfl (by decide) rfl (wpE_waitDma2_eq 𝒱₀ (c : Thread nD τ) none Set.univ) rfl ?_
  refine (picture m).received (0, 4) rfl (by decide) rfl (wpE_waitDma2_eq 𝒱₀ (c : Thread nD τ) none Set.univ) rfl ?_
  refine (picture m).received (0, 5) rfl (by decide) rfl (wpE_waitDma2_eq 𝒱₀ (c : Thread nD τ) none Set.univ) rfl ?_
  refine (picture m).received (1, 3) rfl (by decide) rfl (wpE_waitDma2_eq 𝒱₀ (c : Thread nD τ) none Set.univ) rfl ?_
  refine (picture m).received (1, 4) rfl (by decide) rfl (wpE_waitDma2_eq 𝒱₀ (c : Thread nD τ) none Set.univ) rfl ?_
  refine (picture m).received (1, 5) rfl (by decide) rfl (wpE_waitDma2_eq 𝒱₀ (c : Thread nD τ) none Set.univ) rfl ?_
  refine (picture m).received (2, 3) rfl (by decide) rfl (wpE_waitDma2_eq 𝒱₀ (c : Thread nD τ) none Set.univ) rfl ?_
  refine (picture m).received (2, 4) rfl (by decide) rfl (wpE_waitDma2_eq 𝒱₀ (c : Thread nD τ) none Set.univ) rfl ?_
  refine (picture m).received (2, 5) rfl (by decide) rfl (wpE_waitDma2_eq 𝒱₀ (c : Thread nD τ) none Set.univ) rfl ?_
  refine (picture m).received (3, 3) rfl (by decide) rfl (wpE_waitDma2_eq 𝒱₀ (c : Thread nD τ) none Set.univ) rfl ?_
  refine (picture m).received (3, 4) rfl (by decide) rfl (wpE_waitDma2_eq 𝒱₀ (c : Thread nD τ) none Set.univ) rfl ?_
  refine (picture m).received (3, 5) rfl (by decide) rfl (wpE_waitDma2_eq 𝒱₀ (c : Thread nD τ) none Set.univ) rfl ?_
  refine (picture m).sent (0, 0) rfl rfl (wpE_waitDma2_eq 𝒱₀ (c : Thread nD τ) none Set.univ) rfl ?_
  refine (picture m).sent (0, 1) rfl rfl (wpE_waitDma2_eq 𝒱₀ (c : Thread nD τ) none Set.univ) rfl ?_
  refine (picture m).sent (0, 2) rfl rfl (wpE_waitDma2_eq 𝒱₀ (c : Thread nD τ) none Set.univ) rfl ?_
  refine (picture m).sent (1, 0) rfl rfl (wpE_waitDma2_eq 𝒱₀ (c : Thread nD τ) none Set.univ) rfl ?_
  refine (picture m).sent (1, 1) rfl rfl (wpE_waitDma2_eq 𝒱₀ (c : Thread nD τ) none Set.univ) rfl ?_
  refine (picture m).sent (1, 2) rfl rfl (wpE_waitDma2_eq 𝒱₀ (c : Thread nD τ) none Set.univ) rfl ?_
  refine (picture m).sent (2, 0) rfl rfl (wpE_waitDma2_eq 𝒱₀ (c : Thread nD τ) none Set.univ) rfl ?_
  refine (picture m).sent (2, 1) rfl rfl (wpE_waitDma2_eq 𝒱₀ (c : Thread nD τ) none Set.univ) rfl ?_
  refine (picture m).sent (2, 2) rfl rfl (wpE_waitDma2_eq 𝒱₀ (c : Thread nD τ) none Set.univ) rfl ?_
  refine (picture m).sent (3, 0) rfl rfl (wpE_waitDma2_eq 𝒱₀ (c : Thread nD τ) none Set.univ) rfl ?_
  refine (picture m).sent (3, 1) rfl rfl (wpE_waitDma2_eq 𝒱₀ (c : Thread nD τ) none Set.univ) rfl ?_
  refine (picture m).sent (3, 2) rfl rfl (wpE_waitDma2_eq 𝒱₀ (c : Thread nD τ) none Set.univ) rfl ?_
  refine (picture m).sent (0, 3) rfl rfl (wpE_waitDma2_eq 𝒱₀ (c : Thread nD τ) none Set.univ) rfl ?_
  refine (picture m).sent (0, 4) rfl rfl (wpE_waitDma2_eq 𝒱₀ (c : Thread nD τ) none Set.univ) rfl ?_
  refine (picture m).sent (0, 5) rfl rfl (wpE_waitDma2_eq 𝒱₀ (c : Thread nD τ) none Set.univ) rfl ?_
  refine (picture m).sent (1, 3) rfl rfl (wpE_waitDma2_eq 𝒱₀ (c : Thread nD τ) none Set.univ) rfl ?_
  refine (picture m).sent (1, 4) rfl rfl (wpE_waitDma2_eq 𝒱₀ (c : Thread nD τ) none Set.univ) rfl ?_
  refine (picture m).sent (1, 5) rfl rfl (wpE_waitDma2_eq 𝒱₀ (c : Thread nD τ) none Set.univ) rfl ?_
  refine (picture m).sent (2, 3) rfl rfl (wpE_waitDma2_eq 𝒱₀ (c : Thread nD τ) none Set.univ) rfl ?_
  refine (picture m).sent (2, 4) rfl rfl (wpE_waitDma2_eq 𝒱₀ (c : Thread nD τ) none Set.univ) rfl ?_
  refine (picture m).sent (2, 5) rfl rfl (wpE_waitDma2_eq 𝒱₀ (c : Thread nD τ) none Set.univ) rfl ?_
  refine (picture m).sent (3, 3) rfl rfl (wpE_waitDma2_eq 𝒱₀ (c : Thread nD τ) none Set.univ) rfl ?_
  refine (picture m).sent (3, 4) rfl rfl (wpE_waitDma2_eq 𝒱₀ (c : Thread nD τ) none Set.univ) rfl ?_
  refine (picture m).sent (3, 5) rfl rfl (wpE_waitDma2_eq 𝒱₀ (c : Thread nD τ) none Set.univ) rfl ?_
  refine (picture m).copied (0, 0) rfl rfl (wpE_waitDma2_eq 𝒱₀ (c : Thread nD τ) none Set.univ) rfl ?_
  refine (picture m).copied (1, 0) rfl rfl (wpE_waitDma2_eq 𝒱₀ (c : Thread nD τ) none Set.univ) rfl ?_
  refine (picture m).copied (2, 0) rfl rfl (wpE_waitDma2_eq 𝒱₀ (c : Thread nD τ) none Set.univ) rfl ?_
  refine (picture m).copied (3, 0) rfl rfl (wpE_waitDma2_eq 𝒱₀ (c : Thread nD τ) none Set.univ) rfl ?_
  exact (picture m).done _ (by decide) (by decide) _ (by decide)

end Body

set_option maxRecDepth 20000 in
theorem ownSemFacts : OwnSemFacts cfg0.spec plan.sem := ⟨by decide, plan.inj, by decide⟩

set_option maxRecDepth 20000 in
/-- The program terminates, every argument as it was, every result the four chips' shards, every semaphore at zero. -/
theorem run_main (g : Dev nD → PrngReg) :
    θ_run (defs (F := F)) (onTc (τ := τ) (main (F := F))) ⟨m, fun _ => 0, g⟩ (fun r => (∀ (c : Dev nD) w,
      r.2.mem ((c.tc : Thread nD τ).loc (args w)) = m ((c.tc : Thread nD τ).loc (args w))
      ∧ r.2.mem ((c.tc : Thread nD τ).loc (outs w)) = result m c w) ∧ r.2.sem = fun _ => 0) :=
  have hE (c : Dev nD) (w : Fin 4) : final m ((c.tc : Thread nD τ).loc (args w)) = m ((c.tc : Thread nD τ).loc (args w)) :=
    fill_other c (args w) (outs_ne_args · w)
  run_moves (placed m) (fun p => (cfgs p).toPCfg) (fun _ p => (cfgs p).toPCfg_adm) cellOf_inj (0 : Fin 1)
    winFacts0.to₀ ownSemFacts defs₀ Variants.none m g main (fun _ => rfl)
    became (by decide) (fun _ => N_0) (fun c K t => body m Variants.none) (tiles m) hE (by decide) (by decide)
    (fun c w => back m c w)
    (fun s h hs => ⟨fun c w => ⟨(h c w).1.trans (hE c w), (h c w).2.trans (fill_out outs_inj c w)⟩, sem_eq_zero_of_scoped (by decide) hs⟩)

end Cert.GatherRun
-- ==== Proof.GatherProof.lean ====
/-
# Gathering the weights of all chips: the claims

`value`: every core's results are the reference's arrays, for any floats. The frames are read off the same runs.
-/
module

public import proofs.«01_k».proof.Defs
public import proofs.«01_k».proof.Proof.GatherRun
public import Idealize.ShloMosaic.Lib.Pipeline.Value
public import proofs.«01_k».proof.Proof.Gen.Gather
public import proofs.«01_k».proof.Proof.Gen.GatherRef.Run
public import proofs.«01_k».proof.Proof.Gen.GatherRefIdeal.Run

@[expose] public section

noncomputable section

namespace Cert.GatherProof

open Cert.GatherIdeal Cert.GatherIdeal.Gen Cert.GatherRun Cert.Exchange

open Idealize.ShloMosaic Idealize.ShloMosaic.TcCoe Idealize.ShloMosaic.ValueIdx Idealize.SL.Sem

variable {F : FTy → Type} [FloatOps F]

/-- The core a part came from is of the part's chip. -/
theorem source_chip (c : Dev nD) (q : Fin 4) (b : Fin 2) : (source c q b).val / 2 = q.val := by
  revert c q b; decide

/-- Which block a core's chip holds. -/
theorem chip_block (d : Dev nD) : Layout.meshLin [2, 2, 2] d.val [0, 1] = d.val / 2 := by
  revert d; decide

/-- Where in a part an index of the stacked parts points. -/
def rowCol {a b e : ℕ} (i : (⟨3, ![a, b, e]⟩ : Shape).Idx) : (⟨2, ![b, e]⟩ : Shape).Idx := ix2 (i 1) (i 2)

/-- A core's result, an index at a time: if every core's shard is its chip's part of the reference's array `V`, so is the
    result. -/
theorem of_shards {α : Type} {h w : ℕ} (c : Dev nD) (V : (⟨3, ![4, 2 * h, w]⟩ : Shape).Idx → α)
    (B : Dev nD → (⟨2, ![2 * h, w]⟩ : Shape).Idx → α)
    (hB : ∀ (d : Dev nD) (i : (⟨3, ![4, 2 * h, w]⟩ : Shape).Idx) (hi : d.val / 2 = (i 0).val), B d (rowCol i) = V i) :
    gathered B c = V := by
  funext i
  exact hB _ i (source_chip c (i 0) (halfOf i))

/-- An array cut by columns, each chip's part at an index. -/
theorem cols_at {α : Type} {R w W : ℕ} (hW : W = 4 * w) (A : (⟨2, ![R, W]⟩ : Shape).Idx → α)
    (T : Layout.TilesN ⟨2, ![R, w]⟩ ⟨2, ![R, W]⟩ fun b => Layout.cutSize [2, 2, 2] ((![[], [0, 1]] : Fin 2 → List ℕ) b))
    (hc) (c1 : Shape.ShapeCasts ⟨2, ![R, W]⟩ ⟨3, ![R, 4, w]⟩)
    (tr : Shape.Transposes ⟨3, ![R, 4, w]⟩ [1, 0, 2] ⟨3, ![4, R, w]⟩)
    (d : Dev nD) (i : (⟨3, ![4, R, w]⟩ : Shape).Idx) (hi : d.val / 2 = (i 0).val) :
    Layout.blockN ⟨2, ![R, w]⟩ ⟨2, ![R, W]⟩ (Layout.meshBlock [2, 2, 2] ![[], [0, 1]] d hc) A T (rowCol i)
      = transpose ⟨3, ![4, R, w]⟩ [1, 0, 2] (shapeCast ⟨3, ![R, 4, w]⟩ A c1) tr i := by
  refine Eq.symm ((transpose_apply (s := ⟨3, ![R, 4, w]⟩) (t := ⟨3, ![4, R, w]⟩) _ _ tr i (ix3 (i 1) (i 0) (i 2))
    (fun b => match b with | 0 => rfl | 1 => rfl | 2 => rfl)).trans ?_)
  refine shapeCast_apply _ c1 _ _ ?_
  have e0 : (T.idx (Layout.meshBlock [2, 2, 2] ![[], [0, 1]] d hc) (rowCol i) 0).val = 0 * R + (i 1).val := rfl
  have e1 : (T.idx (Layout.meshBlock [2, 2, 2] ![[], [0, 1]] d hc) (rowCol i) 1).val = Layout.meshLin [2, 2, 2] d.val [0, 1] * w + (i 2).val := rfl
  rw [Shape.rowMajor_val_three, Shape.rowMajor_val_two]
  show (T.idx (Layout.meshBlock [2, 2, 2] ![[], [0, 1]] d hc) (rowCol i) 0).val * W
      + (T.idx (Layout.meshBlock [2, 2, 2] ![[], [0, 1]] d hc) (rowCol i) 1).val = ((i 1).val * 4 + (i 0).val) * w + (i 2).val
  rw [e0, e1, chip_block, hi, hW, Nat.zero_mul, Nat.zero_add, Nat.add_mul, Nat.mul_assoc, Nat.add_assoc]

/-- An array cut by rows, each chip's part at an index. -/
theorem rows_at {α : Type} {R w W : ℕ} (hW : W = 4 * R) (A : (⟨2, ![W, w]⟩ : Shape).Idx → α)
    (T : Layout.TilesN ⟨2, ![R, w]⟩ ⟨2, ![W, w]⟩ fun b => Layout.cutSize [2, 2, 2] ((![[0, 1], []] : Fin 2 → List ℕ) b))
    (hc) (c1 : Shape.ShapeCasts ⟨2, ![W, w]⟩ ⟨3, ![4, R, w]⟩)
    (d : Dev nD) (i : (⟨3, ![4, R, w]⟩ : Shape).Idx) (hi : d.val / 2 = (i 0).val) :
    Layout.blockN ⟨2, ![R, w]⟩ ⟨2, ![W, w]⟩ (Layout.meshBlock [2, 2, 2] ![[0, 1], []] d hc) A T (rowCol i)
      = shapeCast ⟨3, ![4, R, w]⟩ A c1 i := by
  refine Eq.symm (shapeCast_apply _ c1 _ _ ?_)
  have e0 : (T.idx (Layout.meshBlock [2, 2, 2] ![[0, 1], []] d hc) (rowCol i) 0).val = Layout.meshLin [2, 2, 2] d.val [0, 1] * R + (i 1).val := rfl
  have e1 : (T.idx (Layout.meshBlock [2, 2, 2] ![[0, 1], []] d hc) (rowCol i) 1).val = 0 * w + (i 2).val := rfl
  rw [Shape.rowMajor_val_three, Shape.rowMajor_val_two]
  show (T.idx (Layout.meshBlock [2, 2, 2] ![[0, 1], []] d hc) (rowCol i) 0).val * w
      + (T.idx (Layout.meshBlock [2, 2, 2] ![[0, 1], []] d hc) (rowCol i) 1).val = ((i 0).val * R + (i 1).val) * w + (i 2).val
  rw [e0, e1, chip_block, hi, Nat.zero_mul, Nat.zero_add]

theorem value (m : (ℓ : Loc nD τ sig) → Buf (Elt F) ℓ) (g : Dev nD → PrngReg)
    (m' : (ℓ : Loc Cert.GatherRefIdeal.nD Cert.GatherRefIdeal.τ Cert.GatherRefIdeal.sig) → Buf (Elt F) ℓ) (g' : Dev Cert.GatherRefIdeal.nD → PrngReg)
    (hm : ∀ c : Dev nD,
      m (c.tc.loc main_arg0) = Layout.blockN ⟨2, ![2048, 1792]⟩ ⟨2, ![2048, 7168]⟩ (Layout.meshBlock [2, 2, 2] ![[], [0, 1]] c) (m' (((0 : Dev Cert.GatherRefIdeal.nD).tc : Thread Cert.GatherRefIdeal.nD Cert.GatherRefIdeal.τ).loc Cert.GatherRefIdeal.main_arg0))
      ∧ m (c.tc.loc main_arg1) = Layout.blockN ⟨2, ![512, 2048]⟩ ⟨2, ![2048, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg1))
      ∧ m (c.tc.loc main_arg2) = Layout.blockN ⟨2, ![2048, 2048]⟩ ⟨2, ![2048, 8192]⟩ (Layout.meshBlock [2, 2, 2] ![[], [0, 1]] c) (m' (((0 : Dev Cert.GatherRefIdeal.nD).tc : Thread Cert.GatherRefIdeal.nD Cert.GatherRefIdeal.τ).loc Cert.GatherRefIdeal.main_arg2))
      ∧ m (c.tc.loc main_arg3) = Layout.blockN ⟨2, ![2048, 2048]⟩ ⟨2, ![8192, 2048]⟩ (Layout.meshBlock [2, 2, 2] ![[0, 1], []] c) (m' (((0 : Dev Cert.GatherRefIdeal.nD).tc : Thread Cert.GatherRefIdeal.nD Cert.GatherRefIdeal.τ).loc Cert.GatherRefIdeal.main_arg3))) :
    ∃ (v0 : Buf (Elt F) (((0 : Dev Cert.GatherRefIdeal.nD).tc : Thread Cert.GatherRefIdeal.nD Cert.GatherRefIdeal.τ).loc Cert.GatherRefIdeal.main_v1)) (v1 : Buf (Elt F) (((0 : Dev Cert.GatherRefIdeal.nD).tc : Thread Cert.GatherRefIdeal.nD Cert.GatherRefIdeal.τ).loc Cert.GatherRefIdeal.main_v2)) (v2 : Buf (Elt F) (((0 : Dev Cert.GatherRefIdeal.nD).tc : Thread Cert.GatherRefIdeal.nD Cert.GatherRefIdeal.τ).loc Cert.GatherRefIdeal.main_v4)) (v3 : Buf (Elt F) (((0 : Dev Cert.GatherRefIdeal.nD).tc : Thread Cert.GatherRefIdeal.nD Cert.GatherRefIdeal.τ).loc Cert.GatherRefIdeal.main_v5)),
      θ_run (defs (F := F)) (onTc (τ := τ) (main (F := F))) ⟨m, fun _ => 0, g⟩ (fun r => ∀ c : Dev nD,
          r.2.mem (c.tc.loc main_v1_0) = v0
          ∧ r.2.mem (c.tc.loc main_v1_1) = v1
          ∧ r.2.mem (c.tc.loc main_v1_2) = v2
          ∧ r.2.mem (c.tc.loc main_v1_3) = v3
          ∧ r.2.mem (c.tc.loc main_arg0) = m (c.tc.loc main_arg0)
          ∧ r.2.mem (c.tc.loc main_arg1) = m (c.tc.loc main_arg1)
          ∧ r.2.mem (c.tc.loc main_arg2) = m (c.tc.loc main_arg2)
          ∧ r.2.mem (c.tc.loc main_arg3) = m (c.tc.loc main_arg3))
      ∧ θ_run (Cert.GatherRefIdeal.defs (F := F)) (onTc (τ := Cert.GatherRefIdeal.τ) (Cert.GatherRefIdeal.main (F := F))) ⟨m', fun _ => 0, g'⟩ (fun r =>
          r.2.mem (((0 : Dev Cert.GatherRefIdeal.nD).tc : Thread Cert.GatherRefIdeal.nD Cert.GatherRefIdeal.τ).loc Cert.GatherRefIdeal.main_v1) = v0
          ∧ r.2.mem (((0 : Dev Cert.GatherRefIdeal.nD).tc : Thread Cert.GatherRefIdeal.nD Cert.GatherRefIdeal.τ).loc Cert.GatherRefIdeal.main_v2) = v1
          ∧ r.2.mem (((0 : Dev Cert.GatherRefIdeal.nD).tc : Thread Cert.GatherRefIdeal.nD Cert.GatherRefIdeal.τ).loc Cert.GatherRefIdeal.main_v4) = v2
          ∧ r.2.mem (((0 : Dev Cert.GatherRefIdeal.nD).tc : Thread Cert.GatherRefIdeal.nD Cert.GatherRefIdeal.τ).loc Cert.GatherRefIdeal.main_v5) = v3
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0)
          ∧ r.2.mem (((0 : Dev Cert.GatherRefIdeal.nD).tc : Thread Cert.GatherRefIdeal.nD Cert.GatherRefIdeal.τ).loc Cert.GatherRefIdeal.main_arg1) = m' (((0 : Dev Cert.GatherRefIdeal.nD).tc : Thread Cert.GatherRefIdeal.nD Cert.GatherRefIdeal.τ).loc Cert.GatherRefIdeal.main_arg1)
          ∧ r.2.mem (((0 : Dev Cert.GatherRefIdeal.nD).tc : Thread Cert.GatherRefIdeal.nD Cert.GatherRefIdeal.τ).loc Cert.GatherRefIdeal.main_arg2) = m' (((0 : Dev Cert.GatherRefIdeal.nD).tc : Thread Cert.GatherRefIdeal.nD Cert.GatherRefIdeal.τ).loc Cert.GatherRefIdeal.main_arg2)
          ∧ r.2.mem (((0 : Dev Cert.GatherRefIdeal.nD).tc : Thread Cert.GatherRefIdeal.nD Cert.GatherRefIdeal.τ).loc Cert.GatherRefIdeal.main_arg3) = m' (((0 : Dev Cert.GatherRefIdeal.nD).tc : Thread Cert.GatherRefIdeal.nD Cert.GatherRefIdeal.τ).loc Cert.GatherRefIdeal.main_arg3)) := by
  refine ⟨_, _, _, _, ?_, (θ_run _ _ _).mono (fun r h => h 0) (Cert.GatherRefIdeal.Value.run m' g')⟩
  refine (θ_run _ _ _).mono (fun r h c => ?_) (run_main m g)
  refine ⟨(h.1 c 0).2.trans ?_, (h.1 c 1).2.trans ?_, (h.1 c 2).2.trans ?_, (h.1 c 3).2.trans ?_, (h.1 c 0).1, (h.1 c 1).1, (h.1 c 2).1, (h.1 c 3).1⟩
  · show gathered (h := 1024) (w := 1792) (fun d => m (d.tc.loc main_arg0)) c = _
    refine of_shards (h := 1024) (w := 1792) c _ _ fun d i hi => ?_
    exact (congrFun (hm d).1 _).trans (cols_at (R := 2048) (w := 1792) (W := 7168) rfl _ _ _ _ _ d i hi)
  · show gathered (h := 256) (w := 2048) (fun d => m (d.tc.loc main_arg1)) c = _
    refine of_shards (h := 256) (w := 2048) c _ _ fun d i hi => ?_
    exact (congrFun (hm d).2.1 _).trans (rows_at (R := 512) (w := 2048) (W := 2048) rfl _ _ _ _ d i hi)
  · show gathered (h := 1024) (w := 2048) (fun d => m (d.tc.loc main_arg2)) c = _
    refine of_shards (h := 1024) (w := 2048) c _ _ fun d i hi => ?_
    exact (congrFun (hm d).2.2.1 _).trans (cols_at (R := 2048) (w := 2048) (W := 8192) rfl _ _ _ _ _ d i hi)
  · show gathered (h := 1024) (w := 2048) (fun d => m (d.tc.loc main_arg3)) c = _
    refine of_shards (h := 1024) (w := 2048) c _ _ fun d i hi => ?_
    exact (congrFun (hm d).2.2.2 _).trans (rows_at (R := 2048) (w := 2048) (W := 8192) rfl _ _ _ _ d i hi)

/-! ## The claims -/

theorem quiescent_kernel_ideal : Cert.quiescent_GatherIdeal := fun m g _ =>
  (θ_run _ _ _).mono (fun r h => ⟨fun c => ⟨(h.1 c 0).1, (h.1 c 1).1, (h.1 c 2).1, (h.1 c 3).1⟩, h.2⟩) (run_main m g)

theorem quiescent_kernel : Cert.quiescent_Gather := fun m g _ =>
  (θ_run (Cert.GatherIdeal.defs (F := Bits)) _ _).mono (fun r h => ⟨fun c => ⟨(h.1 c 0).1, (h.1 c 1).1, (h.1 c 2).1, (h.1 c 3).1⟩, h.2⟩) (run_main (F := Bits) m g)

theorem quiescent_ref_ideal : Cert.quiescent_GatherRefIdeal := fun m g _ =>
  (θ_run _ _ _).mono (fun r h => ⟨fun c => (h c).2.2.2.2, sem_eq_zero_of_no_sems (by decide) r.2⟩) (Cert.GatherRefIdeal.Value.run m g)

theorem quiescent_ref : Cert.quiescent_GatherRef := fun m g _ =>
  (θ_run _ _ _).mono (fun r h => ⟨fun c => (h c).2.2.2.2, sem_eq_zero_of_no_sems (by decide) r.2⟩) (Cert.GatherRef.Value.run m g)

theorem algebraic : Cert.algebraic_GatherIdeal_GatherRefIdeal := fun m g m' g' _ hm => value (F := Ideal) m g m' g' hm

theorem bitexact : Cert.bitexact_Gather_GatherRef := fun m g m' g' _ hm => value (F := Bits) m g m' g' hm

end Cert.GatherProof
-- ==== Proof.UpdateProof.lean ====
/- The update step: one AdamW call for each weight, at the weight's own shape. Each call's frames are the generated ones;
   `algebraic` says that the tiles together are the plain update of the whole arrays, over the extended reals. -/
module

public import proofs.«01_k».proof.Defs
public import Idealize.ShloMosaic.Lib.Quiescent
public import proofs.«01_k».proof.Proof.Gen.UpdateIn.Frame
public import proofs.«01_k».proof.Proof.Gen.UpdateInIdeal.Value
public import proofs.«01_k».proof.Proof.Gen.UpdateInRefIdeal.Run
public import proofs.«01_k».proof.Proof.Gen.UpdateOut.Frame
public import proofs.«01_k».proof.Proof.Gen.UpdateOutIdeal.Value
public import proofs.«01_k».proof.Proof.Gen.UpdateOutRefIdeal.Run
public import proofs.«01_k».proof.Proof.Gen.UpdateMlp.Frame
public import proofs.«01_k».proof.Proof.Gen.UpdateMlpIdeal.Value
public import proofs.«01_k».proof.Proof.Gen.UpdateMlpRefIdeal.Run
public import proofs.«01_k».proof.Proof.Gen.UpdateNorm.Frame
public import proofs.«01_k».proof.Proof.Gen.UpdateNormIdeal.Value
public import proofs.«01_k».proof.Proof.Gen.UpdateNormRefIdeal.Run
public import proofs.«01_k».proof.Proof.Gen.UpdateLb.Frame
public import proofs.«01_k».proof.Proof.Gen.UpdateLbIdeal.Value
public import proofs.«01_k».proof.Proof.Gen.UpdateLbRefIdeal.Run
public import proofs.«01_k».proof.Proof.Gen.UpdateHead.Frame
public import proofs.«01_k».proof.Proof.Gen.UpdateHeadIdeal.Value
public import proofs.«01_k».proof.Proof.Gen.UpdateHeadRefIdeal.Run

@[expose] public section

noncomputable section

open Idealize.ShloMosaic Idealize.ShloMosaic.TcCoe Idealize.SL.Sem

/-! ## The update of the input projection's weights -/

namespace Cert.UpdateInProof

theorem quiescent_kernel : Cert.quiescent_UpdateIn := fun m g _ => Cert.UpdateIn.Gen.frame m g

theorem quiescent_kernel_ideal : Cert.quiescent_UpdateInIdeal := fun m g _ => Cert.UpdateInIdeal.Gen.frame m g

theorem quiescent_ref_ideal : Cert.quiescent_UpdateInRefIdeal := fun m g _ =>
  (θ_run _ _ _).mono (fun r h => ⟨fun c => (h c).2.2.2, sem_eq_zero_of_no_sems (by decide) r.2⟩) (Cert.UpdateInRefIdeal.Value.run m g)

/-- The tiled call and the plain update end with the same three arrays. -/
theorem algebraic : Cert.algebraic_UpdateInIdeal_UpdateInRefIdeal := fun m g m' g' _ hm =>
  ⟨_, _, _, Cert.UpdateInIdeal.Value.run m g, (θ_run Cert.UpdateInRefIdeal.defs _ _).mono (fun r h c => by
    obtain ⟨h0, h1, h2, hk⟩ := h c
    obtain ⟨e0, e1, e2, e3⟩ := hm c
    refine ⟨h0.trans ?_, h1.trans ?_, h2.trans ?_, hk⟩
    · rw [e0, e1, e2, e3]; rfl
    · rw [e1, e2]; rfl
    · rw [e1, e3]; rfl) (Cert.UpdateInRefIdeal.Value.run m' g')⟩

end Cert.UpdateInProof

/-! ## The update of the output projection's weights -/

namespace Cert.UpdateOutProof

theorem quiescent_kernel : Cert.quiescent_UpdateOut := fun m g _ => Cert.UpdateOut.Gen.frame m g

theorem quiescent_kernel_ideal : Cert.quiescent_UpdateOutIdeal := fun m g _ => Cert.UpdateOutIdeal.Gen.frame m g

theorem quiescent_ref_ideal : Cert.quiescent_UpdateOutRefIdeal := fun m g _ =>
  (θ_run _ _ _).mono (fun r h => ⟨fun c => (h c).2.2.2, sem_eq_zero_of_no_sems (by decide) r.2⟩) (Cert.UpdateOutRefIdeal.Value.run m g)

/-- The tiled call and the plain update end with the same three arrays. -/
theorem algebraic : Cert.algebraic_UpdateOutIdeal_UpdateOutRefIdeal := fun m g m' g' _ hm =>
  ⟨_, _, _, Cert.UpdateOutIdeal.Value.run m g, (θ_run Cert.UpdateOutRefIdeal.defs _ _).mono (fun r h c => by
    obtain ⟨h0, h1, h2, hk⟩ := h c
    obtain ⟨e0, e1, e2, e3⟩ := hm c
    refine ⟨h0.trans ?_, h1.trans ?_, h2.trans ?_, hk⟩
    · rw [e0, e1, e2, e3]; rfl
    · rw [e1, e2]; rfl
    · rw [e1, e3]; rfl) (Cert.UpdateOutRefIdeal.Value.run m' g')⟩

end Cert.UpdateOutProof

/-! ## The update of the two weights of the channel mixer -/

namespace Cert.UpdateMlpProof

theorem quiescent_kernel : Cert.quiescent_UpdateMlp := fun m g _ => Cert.UpdateMlp.Gen.frame m g

theorem quiescent_kernel_ideal : Cert.quiescent_UpdateMlpIdeal := fun m g _ => Cert.UpdateMlpIdeal.Gen.frame m g

theorem quiescent_ref_ideal : Cert.quiescent_UpdateMlpRefIdeal := fun m g _ =>
  (θ_run _ _ _).mono (fun r h => ⟨fun c => (h c).2.2.2, sem_eq_zero_of_no_sems (by decide) r.2⟩) (Cert.UpdateMlpRefIdeal.Value.run m g)

/-- The tiled call and the plain update end with the same three arrays. -/
theorem algebraic : Cert.algebraic_UpdateMlpIdeal_UpdateMlpRefIdeal := fun m g m' g' _ hm =>
  ⟨_, _, _, Cert.UpdateMlpIdeal.Value.run m g, (θ_run Cert.UpdateMlpRefIdeal.defs _ _).mono (fun r h c => by
    obtain ⟨h0, h1, h2, hk⟩ := h c
    obtain ⟨e0, e1, e2, e3⟩ := hm c
    refine ⟨h0.trans ?_, h1.trans ?_, h2.trans ?_, hk⟩
    · rw [e0, e1, e2, e3]; rfl
    · rw [e1, e2]; rfl
    · rw [e1, e3]; rfl) (Cert.UpdateMlpRefIdeal.Value.run m' g')⟩

end Cert.UpdateMlpProof

/-! ## The update of the three norms' weights over the features -/

namespace Cert.UpdateNormProof

theorem quiescent_kernel : Cert.quiescent_UpdateNorm := fun m g _ => Cert.UpdateNorm.Gen.frame m g

theorem quiescent_kernel_ideal : Cert.quiescent_UpdateNormIdeal := fun m g _ => Cert.UpdateNormIdeal.Gen.frame m g

theorem quiescent_ref_ideal : Cert.quiescent_UpdateNormRefIdeal := fun m g _ =>
  (θ_run _ _ _).mono (fun r h => ⟨fun c => (h c).2.2.2, sem_eq_zero_of_no_sems (by decide) r.2⟩) (Cert.UpdateNormRefIdeal.Value.run m g)

/-- The tiled call and the plain update end with the same three arrays. -/
theorem algebraic : Cert.algebraic_UpdateNormIdeal_UpdateNormRefIdeal := fun m g m' g' _ hm =>
  ⟨_, _, _, Cert.UpdateNormIdeal.Value.run m g, (θ_run Cert.UpdateNormRefIdeal.defs _ _).mono (fun r h c => by
    obtain ⟨h0, h1, h2, hk⟩ := h c
    obtain ⟨e0, e1, e2, e3⟩ := hm c
    refine ⟨h0.trans ?_, h1.trans ?_, h2.trans ?_, hk⟩
    · rw [e0, e1, e2, e3]; rfl
    · rw [e1, e2]; rfl
    · rw [e1, e3]; rfl) (Cert.UpdateNormRefIdeal.Value.run m' g')⟩

end Cert.UpdateNormProof

/-! ## The update of the logits of the forget gates' lower bounds -/

namespace Cert.UpdateLbProof

theorem quiescent_kernel : Cert.quiescent_UpdateLb := fun m g _ => Cert.UpdateLb.Gen.frame m g

theorem quiescent_kernel_ideal : Cert.quiescent_UpdateLbIdeal := fun m g _ => Cert.UpdateLbIdeal.Gen.frame m g

theorem quiescent_ref_ideal : Cert.quiescent_UpdateLbRefIdeal := fun m g _ =>
  (θ_run _ _ _).mono (fun r h => ⟨fun c => (h c).2.2.2, sem_eq_zero_of_no_sems (by decide) r.2⟩) (Cert.UpdateLbRefIdeal.Value.run m g)

/-- The tiled call and the plain update end with the same three arrays. -/
theorem algebraic : Cert.algebraic_UpdateLbIdeal_UpdateLbRefIdeal := fun m g m' g' _ hm =>
  ⟨_, _, _, Cert.UpdateLbIdeal.Value.run m g, (θ_run Cert.UpdateLbRefIdeal.defs _ _).mono (fun r h c => by
    obtain ⟨h0, h1, h2, hk⟩ := h c
    obtain ⟨e0, e1, e2, e3⟩ := hm c
    refine ⟨h0.trans ?_, h1.trans ?_, h2.trans ?_, hk⟩
    · rw [e0, e1, e2, e3]; rfl
    · rw [e1, e2]; rfl
    · rw [e1, e3]; rfl) (Cert.UpdateLbRefIdeal.Value.run m' g')⟩

end Cert.UpdateLbProof

/-! ## The update of the two norms' weights over a head -/

namespace Cert.UpdateHeadProof

theorem quiescent_kernel : Cert.quiescent_UpdateHead := fun m g _ => Cert.UpdateHead.Gen.frame m g

theorem quiescent_kernel_ideal : Cert.quiescent_UpdateHeadIdeal := fun m g _ => Cert.UpdateHeadIdeal.Gen.frame m g

theorem quiescent_ref_ideal : Cert.quiescent_UpdateHeadRefIdeal := fun m g _ =>
  (θ_run _ _ _).mono (fun r h => ⟨fun c => (h c).2.2.2, sem_eq_zero_of_no_sems (by decide) r.2⟩) (Cert.UpdateHeadRefIdeal.Value.run m g)

/-- The tiled call and the plain update end with the same three arrays. -/
theorem algebraic : Cert.algebraic_UpdateHeadIdeal_UpdateHeadRefIdeal := fun m g m' g' _ hm =>
  ⟨_, _, _, Cert.UpdateHeadIdeal.Value.run m g, (θ_run Cert.UpdateHeadRefIdeal.defs _ _).mono (fun r h c => by
    obtain ⟨h0, h1, h2, hk⟩ := h c
    obtain ⟨e0, e1, e2, e3⟩ := hm c
    refine ⟨h0.trans ?_, h1.trans ?_, h2.trans ?_, hk⟩
    · rw [e0, e1, e2, e3]; rfl
    · rw [e1, e2]; rfl
    · rw [e1, e3]; rfl) (Cert.UpdateHeadRefIdeal.Value.run m' g')⟩

end Cert.UpdateHeadProof

end
-- ==== Proof.SumProof.lean ====
/- `_final_sum` at its three shapes (`w_in`; `w_out`; `w_up` and `w_down`): a half of a chip's summed gradient is the own part
   plus the three parts that have landed. Each point adds its rows; the rows cover the array. -/
module

public import proofs.«01_k».proof.Defs
public import Idealize.ShloMosaic.Lib.Quiescent
public import Idealize.ShloMosaic.Lib.Pointwise
public import proofs.«01_k».proof.Proof.Gen.SumIn.Frame
public import proofs.«01_k».proof.Proof.Gen.SumInIdeal.Value
public import proofs.«01_k».proof.Proof.Gen.SumInRefIdeal.Run
public import proofs.«01_k».proof.Proof.Gen.SumOut.Frame
public import proofs.«01_k».proof.Proof.Gen.SumOutIdeal.Value
public import proofs.«01_k».proof.Proof.Gen.SumOutRefIdeal.Run
public import proofs.«01_k».proof.Proof.Gen.SumMlp.Frame
public import proofs.«01_k».proof.Proof.Gen.SumMlpIdeal.Value
public import proofs.«01_k».proof.Proof.Gen.SumMlpRefIdeal.Run

@[expose] public section

noncomputable section

open Idealize.ShloMosaic Idealize.ShloMosaic.TcCoe Idealize.SL.Sem

namespace Cert

/-- The sum on whole arrays: the own part and the three landed ones. -/
abbrev ownPlus {h w : Nat} (own : FVec Ideal ⟨2, ![h, w]⟩ .f32) (landed : FVec Ideal ⟨3, ![3, h, w]⟩ .bf16) :
    FVec Ideal ⟨2, ![h, w]⟩ .f32 :=
  fun i => own i + landed (ix3 0 (i 0) (i 1)) + landed (ix3 1 (i 0) (i 1)) + landed (ix3 2 (i 0) (i 1))

end Cert

namespace Cert.SumInProof

open Cert.SumInIdeal Cert.SumInIdeal.Gen

/-- Point `t` has the rows from `256 t` on: of the own part, of each landed part and of the result. -/
theorem places : ∀ t : Fin cfg0.N, (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ)

theorem flushed (c : Dev nD) (t : Fin cfg0.N) :
    (dats m 0 c).flushed 2 t = ((cfg0.win 2).blk t).view.read (Elt Ideal)
      (ownPlus (m ((c : Thread nD τ).loc main_arg0)) (m ((c : Thread nD τ).loc main_arg1))) := by
  rw [Cert.SumInIdeal.Value.flushed2]
  obtain ⟨⟨a0, a1⟩, ⟨b0, b1, b2⟩, c0, c1⟩ := places t
  funext j
  show out0_2 (iblk m c 0 t) (iblk m c 1 t) j = ownPlus _ _ (((cfg0.win 2).blk t).view.emb j)
  unfold out0_2
  rw [View.canon_unit_zero (by decide)]
  pointwise [k0_pay1]
  have own : ∀ y : S256x1792.Idx, iblk m c 0 t y = m ((c : Thread nD τ).loc main_arg0) (((cfg0.win 2).blk t).view.emb y) :=
    fun y => Eq.trans (congrArg (V m c main_arg0) (Shape.idx_ext₂
      (by show win0_0.index t (0 : Fin 2) * 256 + 1 * (y 0).val = win0_2.index t (0 : Fin 2) * 256 + 1 * (y 0).val; omega)
      (by show win0_0.index t (1 : Fin 2) * 1792 + 1 * (y 1).val = win0_2.index t (1 : Fin 2) * 1792 + 1 * (y 1).val; omega)))
      (congrFun (V_main_arg0 m c) _)
  have landed : ∀ k : Fin 3, iblk m c 1 t (ix3 k (j 0) (j 1)) = m ((c : Thread nD τ).loc main_arg1)
      (ix3 k (((cfg0.win 2).blk t).view.emb j 0) (((cfg0.win 2).blk t).view.emb j 1)) :=
    fun k => Eq.trans (congrArg (V m c main_arg1) (funext fun a => Fin.ext (match a with
      | ⟨0, _⟩ => by show win0_1.index t (0 : Fin 3) * 3 + 1 * k.val = k.val; omega
      | ⟨1, _⟩ => by
        show win0_1.index t (1 : Fin 3) * 256 + 1 * (j 0).val = win0_2.index t (0 : Fin 2) * 256 + 1 * (j 0).val; omega
      | ⟨2, _⟩ => by
        show win0_1.index t (2 : Fin 3) * 1792 + 1 * (j 1).val = win0_2.index t (1 : Fin 2) * 1792 + 1 * (j 1).val; omega)))
      (congrFun (V_main_arg1 m c) _)
  rw [own, landed, landed, landed]

theorem covered (i : S1024x1792.Idx) :
    ∃ t : Fin cfg0.N, (cfg0.win 2).flush t = true ∧ i ∈ ((cfg0.win 2).blk t).view.set := by
  have h0 : (i 0).val < 1024 := (i 0).isLt
  have h1 : (i 1).val < 1792 := (i 1).isLt
  let t : Fin cfg0.N := ⟨(i 0).val / 256, by show _ < 1024 / 256; omega⟩
  have ht : t.val = (i 0).val / 256 := rfl
  obtain ⟨-, -, e0, e1⟩ := places t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1792 ≤ (i 1).val ∧ (i 1).val < win0_2.index t (1 : Fin 2) * 1792 + 1792; omega

theorem quiescent_kernel : Cert.quiescent_SumIn := fun m g _ => Cert.SumIn.Gen.frame m g
theorem quiescent_kernel_ideal : Cert.quiescent_SumInIdeal := fun m g _ => Cert.SumInIdeal.Gen.frame m g
theorem quiescent_ref_ideal : Cert.quiescent_SumInRefIdeal := fun m g _ =>
  (θ_run _ _ _).mono (fun r h => ⟨fun c => (h c).2, sem_eq_zero_of_no_sems (by decide) r.2⟩)
    (Cert.SumInRefIdeal.Value.run m g)

theorem algebraic : Cert.algebraic_SumInIdeal_SumInRefIdeal := fun m g m' g' _ hm =>
  ⟨_, Cert.SumInIdeal.Value.run_blocks m g, (θ_run Cert.SumInRefIdeal.defs _ _).mono (fun r h c => by
    obtain ⟨h0, hk⟩ := h c
    obtain ⟨e0, e1⟩ := hm c
    refine ⟨h0.trans ?_, hk⟩
    rw [e0, e1, (dats m 0 c).arrAt_eq_of_cover 2 _ (fun t _ => flushed m c t) covered]
    funext i
    pointwise
    rw [Fin.sum_univ_three, ← add_assoc, ← add_assoc]) (Cert.SumInRefIdeal.Value.run m' g')⟩

end Cert.SumInProof

namespace Cert.SumOutProof

open Cert.SumOutIdeal Cert.SumOutIdeal.Gen

/-- Point `t` has the rows from `256 t` on: of the own part, of each landed part and of the result. -/
theorem places : ∀ t : Fin cfg0.N, (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ)

theorem flushed (c : Dev nD) (t : Fin cfg0.N) :
    (dats m 0 c).flushed 2 t = ((cfg0.win 2).blk t).view.read (Elt Ideal)
      (ownPlus (m ((c : Thread nD τ).loc main_arg0)) (m ((c : Thread nD τ).loc main_arg1))) := by
  rw [Cert.SumOutIdeal.Value.flushed2]
  obtain ⟨⟨a0, a1⟩, ⟨b0, b1, b2⟩, c0, c1⟩ := places t
  funext j
  show out0_2 (iblk m c 0 t) (iblk m c 1 t) j = ownPlus _ _ (((cfg0.win 2).blk t).view.emb j)
  unfold out0_2
  rw [View.canon_unit_zero (by decide)]
  pointwise [k0_pay1]
  have own : ∀ y : S256x2048.Idx, iblk m c 0 t y = m ((c : Thread nD τ).loc main_arg0) (((cfg0.win 2).blk t).view.emb y) :=
    fun y => Eq.trans (congrArg (V m c main_arg0) (Shape.idx_ext₂
      (by show win0_0.index t (0 : Fin 2) * 256 + 1 * (y 0).val = win0_2.index t (0 : Fin 2) * 256 + 1 * (y 0).val; omega)
      (by show win0_0.index t (1 : Fin 2) * 2048 + 1 * (y 1).val = win0_2.index t (1 : Fin 2) * 2048 + 1 * (y 1).val; omega)))
      (congrFun (V_main_arg0 m c) _)
  have landed : ∀ k : Fin 3, iblk m c 1 t (ix3 k (j 0) (j 1)) = m ((c : Thread nD τ).loc main_arg1)
      (ix3 k (((cfg0.win 2).blk t).view.emb j 0) (((cfg0.win 2).blk t).view.emb j 1)) :=
    fun k => Eq.trans (congrArg (V m c main_arg1) (funext fun a => Fin.ext (match a with
      | ⟨0, _⟩ => by show win0_1.index t (0 : Fin 3) * 3 + 1 * k.val = k.val; omega
      | ⟨1, _⟩ => by
        show win0_1.index t (1 : Fin 3) * 256 + 1 * (j 0).val = win0_2.index t (0 : Fin 2) * 256 + 1 * (j 0).val; omega
      | ⟨2, _⟩ => by
        show win0_1.index t (2 : Fin 3) * 2048 + 1 * (j 1).val = win0_2.index t (1 : Fin 2) * 2048 + 1 * (j 1).val; omega)))
      (congrFun (V_main_arg1 m c) _)
  rw [own, landed, landed, landed]

theorem covered (i : S256x2048.Idx) :
    ∃ t : Fin cfg0.N, (cfg0.win 2).flush t = true ∧ i ∈ ((cfg0.win 2).blk t).view.set := by
  have h0 : (i 0).val < 256 := (i 0).isLt
  have h1 : (i 1).val < 2048 := (i 1).isLt
  let t : Fin cfg0.N := ⟨(i 0).val / 256, by show _ < 256 / 256; omega⟩
  have ht : t.val = (i 0).val / 256 := rfl
  obtain ⟨-, -, e0, e1⟩ := places t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

theorem quiescent_kernel : Cert.quiescent_SumOut := fun m g _ => Cert.SumOut.Gen.frame m g
theorem quiescent_kernel_ideal : Cert.quiescent_SumOutIdeal := fun m g _ => Cert.SumOutIdeal.Gen.frame m g
theorem quiescent_ref_ideal : Cert.quiescent_SumOutRefIdeal := fun m g _ =>
  (θ_run _ _ _).mono (fun r h => ⟨fun c => (h c).2, sem_eq_zero_of_no_sems (by decide) r.2⟩)
    (Cert.SumOutRefIdeal.Value.run m g)

theorem algebraic : Cert.algebraic_SumOutIdeal_SumOutRefIdeal := fun m g m' g' _ hm =>
  ⟨_, Cert.SumOutIdeal.Value.run_blocks m g, (θ_run Cert.SumOutRefIdeal.defs _ _).mono (fun r h c => by
    obtain ⟨h0, hk⟩ := h c
    obtain ⟨e0, e1⟩ := hm c
    refine ⟨h0.trans ?_, hk⟩
    rw [e0, e1, (dats m 0 c).arrAt_eq_of_cover 2 _ (fun t _ => flushed m c t) covered]
    funext i
    pointwise
    rw [Fin.sum_univ_three, ← add_assoc, ← add_assoc]) (Cert.SumOutRefIdeal.Value.run m' g')⟩

end Cert.SumOutProof

namespace Cert.SumMlpProof

open Cert.SumMlpIdeal Cert.SumMlpIdeal.Gen

/-- Point `t` has the rows from `256 t` on: of the own part, of each landed part and of the result. -/
theorem places : ∀ t : Fin cfg0.N, (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ)

theorem flushed (c : Dev nD) (t : Fin cfg0.N) :
    (dats m 0 c).flushed 2 t = ((cfg0.win 2).blk t).view.read (Elt Ideal)
      (ownPlus (m ((c : Thread nD τ).loc main_arg0)) (m ((c : Thread nD τ).loc main_arg1))) := by
  rw [Cert.SumMlpIdeal.Value.flushed2]
  obtain ⟨⟨a0, a1⟩, ⟨b0, b1, b2⟩, c0, c1⟩ := places t
  funext j
  show out0_2 (iblk m c 0 t) (iblk m c 1 t) j = ownPlus _ _ (((cfg0.win 2).blk t).view.emb j)
  unfold out0_2
  rw [View.canon_unit_zero (by decide)]
  pointwise [k0_pay1]
  have own : ∀ y : S256x2048.Idx, iblk m c 0 t y = m ((c : Thread nD τ).loc main_arg0) (((cfg0.win 2).blk t).view.emb y) :=
    fun y => Eq.trans (congrArg (V m c main_arg0) (Shape.idx_ext₂
      (by show win0_0.index t (0 : Fin 2) * 256 + 1 * (y 0).val = win0_2.index t (0 : Fin 2) * 256 + 1 * (y 0).val; omega)
      (by show win0_0.index t (1 : Fin 2) * 2048 + 1 * (y 1).val = win0_2.index t (1 : Fin 2) * 2048 + 1 * (y 1).val; omega)))
      (congrFun (V_main_arg0 m c) _)
  have landed : ∀ k : Fin 3, iblk m c 1 t (ix3 k (j 0) (j 1)) = m ((c : Thread nD τ).loc main_arg1)
      (ix3 k (((cfg0.win 2).blk t).view.emb j 0) (((cfg0.win 2).blk t).view.emb j 1)) :=
    fun k => Eq.trans (congrArg (V m c main_arg1) (funext fun a => Fin.ext (match a with
      | ⟨0, _⟩ => by show win0_1.index t (0 : Fin 3) * 3 + 1 * k.val = k.val; omega
      | ⟨1, _⟩ => by
        show win0_1.index t (1 : Fin 3) * 256 + 1 * (j 0).val = win0_2.index t (0 : Fin 2) * 256 + 1 * (j 0).val; omega
      | ⟨2, _⟩ => by
        show win0_1.index t (2 : Fin 3) * 2048 + 1 * (j 1).val = win0_2.index t (1 : Fin 2) * 2048 + 1 * (j 1).val; omega)))
      (congrFun (V_main_arg1 m c) _)
  rw [own, landed, landed, landed]

theorem covered (i : S1024x2048.Idx) :
    ∃ t : Fin cfg0.N, (cfg0.win 2).flush t = true ∧ i ∈ ((cfg0.win 2).blk t).view.set := by
  have h0 : (i 0).val < 1024 := (i 0).isLt
  have h1 : (i 1).val < 2048 := (i 1).isLt
  let t : Fin cfg0.N := ⟨(i 0).val / 256, by show _ < 1024 / 256; omega⟩
  have ht : t.val = (i 0).val / 256 := rfl
  obtain ⟨-, -, e0, e1⟩ := places t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

theorem quiescent_kernel : Cert.quiescent_SumMlp := fun m g _ => Cert.SumMlp.Gen.frame m g
theorem quiescent_kernel_ideal : Cert.quiescent_SumMlpIdeal := fun m g _ => Cert.SumMlpIdeal.Gen.frame m g
theorem quiescent_ref_ideal : Cert.quiescent_SumMlpRefIdeal := fun m g _ =>
  (θ_run _ _ _).mono (fun r h => ⟨fun c => (h c).2, sem_eq_zero_of_no_sems (by decide) r.2⟩)
    (Cert.SumMlpRefIdeal.Value.run m g)

theorem algebraic : Cert.algebraic_SumMlpIdeal_SumMlpRefIdeal := fun m g m' g' _ hm =>
  ⟨_, Cert.SumMlpIdeal.Value.run_blocks m g, (θ_run Cert.SumMlpRefIdeal.defs _ _).mono (fun r h c => by
    obtain ⟨h0, hk⟩ := h c
    obtain ⟨e0, e1⟩ := hm c
    refine ⟨h0.trans ?_, hk⟩
    rw [e0, e1, (dats m 0 c).arrAt_eq_of_cover 2 _ (fun t _ => flushed m c t) covered]
    funext i
    pointwise
    rw [Fin.sum_univ_three, ← add_assoc, ← add_assoc]) (Cert.SumMlpRefIdeal.Value.run m' g')⟩

end Cert.SumMlpProof

end
-- ==== Proof.NormProof.lean ====
/- `norm_in` and `norm_mlp` (one call at one shape): every row of the array is divided by its root mean square and multiplied
   by the weight, against the same formula on the whole array. -/
module

public import proofs.«01_k».proof.Defs
public import Idealize.ShloMosaic.Lib.Quiescent
public import Idealize.ShloMosaic.Lib.Pointwise
public import proofs.«01_k».proof.Proof.Gen.Norm.Frame
public import proofs.«01_k».proof.Proof.Gen.NormIdeal.Value
public import proofs.«01_k».proof.Proof.Gen.NormRefIdeal.Run

@[expose] public section

noncomputable section

namespace Cert.NormProof

open Idealize.ShloMosaic Idealize.ShloMosaic.TcCoe Idealize.SL.Sem
open Cert.NormIdeal Cert.NormIdeal.Gen

/-- Row `a` of block `t`, in the whole array. -/
abbrev row (t : Fin cfg0.N) (a : Fin 256) : Fin 8192 :=
  ⟨t.val * 256 + a.val, by have h : t.val < 32 := t.isLt; omega⟩

/-- Where the blocks of point `t` lie: the rows from `256 t` on, and the one row of the weight. -/
theorem places : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) :=
  (by decide +kernel : ∀ t : Fin grid0.N, _)

variable (m : (ℓ : Loc nD τ sig) → Buf (Elt Ideal) ℓ)

theorem in0 (c : Dev nD) (t : Fin cfg0.N) (j : S256x2048.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 256 + 1 * (j 0).val = t.val * 256 + (j 0).val; omega
  · show win0_0.index t (1 : Fin 2) * 2048 + 1 * (j 1).val = (j 1).val; omega

theorem in1 (c : Dev nD) (t : Fin cfg0.N) (j : S1x2048.Idx) :
    iblk m c 1 t j = m ((c : Thread nD τ).loc main_arg1) j := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 1 + 1 * (j 0).val = (j 0).val; omega
  · show win0_1.index t (1 : Fin 2) * 2048 + 1 * (j 1).val = (j 1).val; omega

/-- The formula on the whole array. -/
abbrev normed (x : FVec Ideal S8192x2048 .f32) (w : FVec Ideal S1x2048 .f32) : FVec Ideal S8192x2048 .bf16 := fun i =>
  x i * Ideal.rsqrt (Ideal.div (∑ k : Fin 2048, x (ix2 (i 0) k) * x (ix2 (i 0) k)) (Ideal.ofBits .f32 0x45000000#32)
    + Ideal.ofBits .f32 0x3727C5AC#32) * w (ix2 0 (i 1))

theorem hz : (![0, 0] : Fin 2 → Nat) = fun _ => 0 := by decide

/-- What point `t` writes back is its rows of the formula. -/
theorem flushed (c : Dev nD) (t : Fin cfg0.N) :
    (dats m 0 c).flushed 2 t = ((cfg0.win 2).blk t).view.read (Elt Ideal)
      (normed (m ((c : Thread nD τ).loc main_arg0)) (m ((c : Thread nD τ).loc main_arg1))) := by
  rw [Cert.NormIdeal.Value.flushed2]
  obtain ⟨-, -, e0, e1⟩ := places t
  funext j
  show out0_2 (iblk m c 0 t) (iblk m c 1 t) j = normed _ _ (((cfg0.win 2).blk t).view.emb j)
  have hj : ((cfg0.win 2).blk t).view.emb j = ix2 (row t (j 0)) (j 1) := Shape.idx_ext₂
    (by show win0_2.index t (0 : Fin 2) * 256 + 1 * (j 0).val = t.val * 256 + (j 0).val; omega)
    (by show win0_2.index t (1 : Fin 2) * 2048 + 1 * (j 1).val = (j 1).val; omega)
  rw [hj]
  unfold out0_2
  rw [View.canon_unit_zero hz]
  simp only [View.ld_unit_zero (S := S256x2048) hz, View.ld_unit_zero (S := S1x2048) hz]
  pointwise [k0_pay1]
  simp only [in0, in1]
  rfl

/-- Every row is some point's. -/
theorem covered (i : S8192x2048.Idx) :
    ∃ t : Fin cfg0.N, (cfg0.win 2).flush t = true ∧ i ∈ ((cfg0.win 2).blk t).view.set := by
  have h0 : (i 0).val < 8192 := (i 0).isLt
  have h1 : (i 1).val < 2048 := (i 1).isLt
  let t : Fin cfg0.N := ⟨(i 0).val / 256, by show _ < 32; omega⟩
  have ht : t.val = (i 0).val / 256 := rfl
  obtain ⟨-, -, e0, e1⟩ := places t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 2048 ≤ (i 1).val ∧ (i 1).val < win0_2.index t (1 : Fin 2) * 2048 + 2048; omega

theorem final (c : Dev nD) : (dats m 0 c).arrAt 2 cfg0.N
    = normed (m ((c : Thread nD τ).loc main_arg0)) (m ((c : Thread nD τ).loc main_arg1)) :=
  (dats m 0 c).arrAt_eq_of_cover 2 _ (fun t _ => flushed m c t) covered

theorem quiescent_kernel : Cert.quiescent_Norm := fun m g _ => Cert.Norm.Gen.frame m g
theorem quiescent_kernel_ideal : Cert.quiescent_NormIdeal := fun m g _ => Cert.NormIdeal.Gen.frame m g
theorem quiescent_ref_ideal : Cert.quiescent_NormRefIdeal := fun m g _ =>
  (θ_run _ _ _).mono (fun r h => ⟨fun c => (h c).2, sem_eq_zero_of_no_sems (by decide) r.2⟩)
    (Cert.NormRefIdeal.Value.run m g)

theorem algebraic : Cert.algebraic_NormIdeal_NormRefIdeal := fun m g m' g' _ hm =>
  ⟨_, Cert.NormIdeal.Value.run_blocks m g, (θ_run Cert.NormRefIdeal.defs _ _).mono (fun r h c => by
    obtain ⟨h0, hk⟩ := h c
    obtain ⟨e0, e1⟩ := hm c
    refine ⟨h0.trans ?_, hk⟩
    rw [e0, e1, final]
    funext i
    pointwise) (Cert.NormRefIdeal.Value.run m' g')⟩

end Cert.NormProof

end
-- ==== Proof.RowSum.lean ====
/- A sum over the 8192 rows, taken in 32 blocks of 256. -/
module

public import Idealize.ShloMosaic.Lib.Pointwise

@[expose] public section

noncomputable section

namespace Cert.RowSum

/-- The sum over the rows of block `n` (nothing beyond the last block). -/
def part (f : Fin 8192 → EReal) (n : Nat) : EReal :=
  if h : n < 32 then ∑ r : Fin 256, f ⟨n * 256 + r.val, by omega⟩ else 0

theorem part_of_lt (f : Fin 8192 → EReal) (n : Nat) (h : n < 32) :
    part f n = ∑ r : Fin 256, f ⟨n * 256 + r.val, by omega⟩ := dif_pos h

/-- The blocks' sums make the whole sum. -/
theorem parts (f : Fin 8192 → EReal) : ∑ n ∈ Finset.range 32, part f n = ∑ a : Fin 8192, f a := by
  rw [Finset.sum_range, Idealize.ShloMosaic.Fin.sum_univ_tiles 32 256 rfl f]
  exact Finset.sum_congr rfl fun n _ => part_of_lt f n.val n.isLt

end Cert.RowSum

end
-- ==== Proof.NormBackProof.lean ====
/- `norm_in_bwd`: the gradient of a normalized row plus the skip connection's, row by row, and the gradient of the weight,
   summed over all the rows, against the same two formulas on the whole arrays. -/
module

public import proofs.«01_k».proof.Defs
public import Idealize.ShloMosaic.Lib.Quiescent
public import Idealize.ShloMosaic.Lib.Pointwise
public import Idealize.ShloMosaic.Lib.Tactic
public import proofs.«01_k».proof.Proof.RowSum
public import proofs.«01_k».proof.Proof.Gen.NormBack.Frame
public import proofs.«01_k».proof.Proof.Gen.NormBackIdeal.Value
public import proofs.«01_k».proof.Proof.Gen.NormBackRefIdeal.Run

@[expose] public section

noncomputable section

namespace Cert.NormBackProof

open Idealize.ShloMosaic Idealize.ShloMosaic.TcCoe Idealize.SL.Sem
open Cert.NormBackIdeal Cert.NormBackIdeal.Gen

/-- Row `a` of block `t`, in the whole array. -/
abbrev row (t : Fin cfg0.N) (a : Fin 256) : Fin 8192 :=
  ⟨t.val * 256 + a.val, by have h : t.val < 32 := t.isLt; omega⟩

/-- Where the blocks of point `t` lie: the rows from `256 t` on, and the one row of the weight and of its gradient. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0) :=
  (by decide +kernel : ∀ t : Fin grid0.N, _)

theorem hz : (![0, 0] : Fin 2 → Nat) = fun _ => 0 := by decide

/-! ## The body's two cases -/

section Cases

variable (c : Dev nD) (i : grid0.Coords) (a1 : Memref sig .tc .vmem S256x2048 .f32) (h1 : a1.IsWhole) (a2 : Memref sig .tc .vmem S256x2048 .f32) (h2 : a2.IsWhole)
    (a3 : Memref sig .tc .vmem S256x2048 .f32) (h3 : a3.IsWhole) (a4 : Memref sig .tc .vmem S1x2048 .f32) (h4 : a4.IsWhole)
    (a5 : Memref sig .tc .vmem S256x2048 .f32) (h5 : a5.IsWhole) (a6 : Memref sig .tc .vmem S1x2048 .f32) (h6 : a6.IsWhole)
  (x0 x1 x2 : Vec Ideal S256x2048 .f32) (x3 : Vec Ideal S1x2048 .f32)

theorem rows_A (hc : cond0_0 i) : out0_A_4 c i a1 h1 a2 h2 a3 h3 a4 h4 a5 h5 a6 h6 hc x0 x1 x2 x3 = k0_pay3 x0 x1 x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz]
  simp only [View.readAt_eq_ld, h1.read_unread, h2.read_unread, h3.read_unread, h4.read_unread, h5.read_unread, h6.read_unread,
    View.ld_unit_zero (S := S256x2048) hz, View.ld_unit_zero (S := S1x2048) hz]

theorem rows_B (hc : ¬cond0_0 i) (xo : Vec Ideal S1x2048 .f32) : out0_B_4 c i a1 h1 a2 h2 a3 h3 a4 h4 a5 h5 a6 h6 hc x0 x1 x2 x3 xo = k0_pay3 x0 x1 x2 x3 := by
  unfold out0_B_4
  rw [View.read_writes_eq_canon _ _ _ (cover0_B_4 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S256x2048) hz, View.ld_unit_zero (S := S1x2048) hz]

theorem sum_A (hc : cond0_0 i) : out0_A_5 c i a1 h1 a2 h2 a3 h3 a4 h4 a5 h5 a6 h6 hc x0 x1 x2 x3 = k0_pay5 x0 x1 (k0_pay4 (F := Ideal)) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread,
    View.ld_unit_zero (S := S256x2048) hz, View.ld_unit_zero (S := S1x2048) hz]

theorem sum_B (hc : ¬cond0_0 i) (xo : Vec Ideal S1x2048 .f32) : out0_B_5 c i a1 h1 a2 h2 a3 h3 a4 h4 a5 h5 a6 h6 hc x0 x1 x2 x3 xo = k0_pay5 x0 x1 xo := by
  unfold out0_B_5
  rw [View.read_writes_eq_canon _ _ _ (cover0_B_5 c i a1 h1 a2 h2 a3 h3 a4 h4 a5 h5 a6 h6 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread,
    View.ld_unit_zero (S := S256x2048) hz, View.ld_unit_zero (S := S1x2048) hz]

end Cases

/-! ## The formulas -/

/-- One over the root mean square of row `a`. -/
abbrev scale (x : FVec Ideal S8192x2048 .f32) (a : Fin 8192) : EReal :=
  Ideal.rsqrt (Ideal.div (∑ k : Fin 2048, x (ix2 a k) * x (ix2 a k)) (Ideal.ofBits .f32 0x45000000#32) + Ideal.ofBits .f32 0x3727C5AC#32)

/-- The gradient of the normalized rows' input, plus the skip connection's. -/
abbrev back (x dy skip : FVec Ideal S8192x2048 .f32) (w : FVec Ideal S1x2048 .f32) : FVec Ideal S8192x2048 .f32 := fun i =>
  scale x (i 0) * (dy i * w (ix2 0 (i 1)) - x i * scale x (i 0) *
      Ideal.div (∑ k : Fin 2048, dy (ix2 (i 0) k) * w (ix2 0 k) * (x (ix2 (i 0) k) * scale x (i 0))) (Ideal.ofBits .f32 0x45000000#32))
    + skip i

/-- What row `a` adds to the gradient of the weight, in column `l`. -/
abbrev term (x dy : FVec Ideal S8192x2048 .f32) (l : Fin 2048) (a : Fin 8192) : EReal :=
  dy (ix2 a l) * (x (ix2 a l) * scale x a)

/-- The gradient of the weight: the sum over the rows. -/
abbrev weight (x dy : FVec Ideal S8192x2048 .f32) : FVec Ideal S1x2048 .f32 := fun i => ∑ a : Fin 8192, term x dy (i 1) a

/-! ## The blocks -/

variable (m : (ℓ : Loc nD τ sig) → Buf (Elt Ideal) ℓ)

theorem in0 (c : Dev nD) (t : Fin cfg0.N) (j : S256x2048.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 256 + 1 * (j 0).val = t.val * 256 + (j 0).val; omega
  · show win0_0.index t (1 : Fin 2) * 2048 + 1 * (j 1).val = (j 1).val; omega

theorem in1 (c : Dev nD) (t : Fin cfg0.N) (j : S256x2048.Idx) :
    iblk m c 1 t j = m ((c : Thread nD τ).loc main_arg1) (ix2 (row t (j 0)) (j 1)) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 256 + 1 * (j 0).val = t.val * 256 + (j 0).val; omega
  · show win0_1.index t (1 : Fin 2) * 2048 + 1 * (j 1).val = (j 1).val; omega

theorem in2 (c : Dev nD) (t : Fin cfg0.N) (j : S256x2048.Idx) :
    iblk m c 2 t j = m ((c : Thread nD τ).loc main_arg2) (ix2 (row t (j 0)) (j 1)) := by
  obtain ⟨-, -, ⟨e0, e1⟩, -⟩ := places t
  refine Eq.trans ?_ (congrFun (V_main_arg2 m c) _)
  refine congrArg (V m c main_arg2) (Shape.idx_ext₂ ?_ ?_)
  · show win0_2.index t (0 : Fin 2) * 256 + 1 * (j 0).val = t.val * 256 + (j 0).val; omega
  · show win0_2.index t (1 : Fin 2) * 2048 + 1 * (j 1).val = (j 1).val; omega

theorem in3 (c : Dev nD) (t : Fin cfg0.N) (j : S1x2048.Idx) :
    iblk m c 3 t j = m ((c : Thread nD τ).loc main_arg3) j := by
  obtain ⟨-, -, -, ⟨e0, e1⟩, -⟩ := places t
  refine Eq.trans ?_ (congrFun (V_main_arg3 m c) _)
  refine congrArg (V m c main_arg3) (Shape.idx_ext₂ ?_ ?_)
  · show win0_3.index t (0 : Fin 2) * 1 + 1 * (j 0).val = (j 0).val; omega
  · show win0_3.index t (1 : Fin 2) * 2048 + 1 * (j 1).val = (j 1).val; omega

/-! ## The rows -/

theorem left4 (c : Dev nD) (t : Fin cfg0.N) :
    (outsAt0 m c t.val t.isLt).1 = k0_pay3 (iblk m c 0 t) (iblk m c 1 t) (iblk m c 2 t) (iblk m c 3 t) := by
  by_cases h0 : t.val % 32 = 0
  · rw [outsAt0_A m c t h0]; dsimp only; rw [rows_A]
  · rw [outsAt0_B m c t h0]; dsimp only; rw [rows_B]

/-- What point `t` writes back is its rows of the formula. -/
theorem flushed4 (c : Dev nD) (t : Fin cfg0.N) :
    (dats m 0 c).flushed 4 t = ((cfg0.win 4).blk t).view.read (Elt Ideal)
      (back (m ((c : Thread nD τ).loc main_arg0)) (m ((c : Thread nD τ).loc main_arg1)) (m ((c : Thread nD τ).loc main_arg2))
        (m ((c : Thread nD τ).loc main_arg3))) := by
  rw [Cert.NormBackIdeal.Value.flushed4, left4]
  obtain ⟨-, -, -, -, ⟨e0, e1⟩, -⟩ := places t
  funext j
  show k0_pay3 (iblk m c 0 t) (iblk m c 1 t) (iblk m c 2 t) (iblk m c 3 t) j = back _ _ _ _ (((cfg0.win 4).blk t).view.emb j)
  have hj : ((cfg0.win 4).blk t).view.emb j = ix2 (row t (j 0)) (j 1) := Shape.idx_ext₂
    (by show win0_4.index t (0 : Fin 2) * 256 + 1 * (j 0).val = t.val * 256 + (j 0).val; omega)
    (by show win0_4.index t (1 : Fin 2) * 2048 + 1 * (j 1).val = (j 1).val; omega)
  rw [hj]
  pointwise [k0_pay3, k0_pay2, k0_pay1]
  simp only [in0, in1, in2, in3]
  rfl

/-- Every row is some point's. -/
theorem covered4 (i : S8192x2048.Idx) :
    ∃ t : Fin cfg0.N, (cfg0.win 4).flush t = true ∧ i ∈ ((cfg0.win 4).blk t).view.set := by
  have h0 : (i 0).val < 8192 := (i 0).isLt
  have h1 : (i 1).val < 2048 := (i 1).isLt
  let t : Fin cfg0.N := ⟨(i 0).val / 256, by show _ < 32; omega⟩
  have ht : t.val = (i 0).val / 256 := rfl
  obtain ⟨-, -, -, -, ⟨e0, e1⟩, -⟩ := places t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

theorem final4 (c : Dev nD) : (dats m 0 c).arrAt 4 cfg0.N
    = back (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4 m c t) covered4

/-! ## The sum over the rows -/

/-- What a point adds is its block's sum. -/
theorem add5 (c : Dev nD) (t : Fin cfg0.N) (x : Vec Ideal S1x2048 .f32) (j : S1x2048.Idx) :
    k0_pay5 (iblk m c 0 t) (iblk m c 1 t) x j
      = x j + RowSum.part (term (m ((c : Thread nD τ).loc main_arg0)) (m ((c : Thread nD τ).loc main_arg1)) (j 1)) t.val := by
  rw [RowSum.part_of_lt _ _ t.isLt]
  pointwise [k0_pay5, k0_pay2, k0_pay1]
  simp only [in0, in1]
  rfl

/-- After point `n` the sum holds the first `n + 1` blocks. -/
theorem left5 (c : Dev nD) (j : S1x2048.Idx) : ∀ (n : Nat) (h : n < cfg0.N), (outsAt0 m c n h).2 j
    = ∑ s ∈ Finset.range (n + 1), RowSum.part (term (m ((c : Thread nD τ).loc main_arg0)) (m ((c : Thread nD τ).loc main_arg1)) (j 1)) s
  | 0, h => by
    rw [Finset.sum_range_one, outsAt0_A m c ⟨0, h⟩ rfl]
    dsimp only
    rw [sum_A, add5, show k0_pay4 (F := Ideal) j = 0 by pointwise [k0_pay4], zero_add]
  | n + 1, h => by
    have hB : ¬(⟨n + 1, h⟩ : Fin cfg0.N).val % 32 = 0 := by have : n + 1 < 32 := h; dsimp only; omega
    rw [Finset.sum_range_succ, ← left5 c j n (Nat.lt_of_succ_lt h), outsAt0_B m c ⟨n + 1, h⟩ hB]
    dsimp only
    rw [sum_B, add5]
    rfl

/-- The last point writes back the whole sum. -/
theorem flushed5 (c : Dev nD) (t : Fin cfg0.N) (hf : (cfg0.win 5).flush t = true) :
    (dats m 0 c).flushed 5 t = ((cfg0.win 5).blk t).view.read (Elt Ideal)
      (weight (m ((c : Thread nD τ).loc main_arg0)) (m ((c : Thread nD τ).loc main_arg1))) := by
  have h31 : t.val = 31 := by have h := (flush0_5 t).mp hf; have : t.val < 32 := t.isLt; omega
  have hl : (outsAt0 m c t.val t.isLt).2 = weight (m ((c : Thread nD τ).loc main_arg0)) (m ((c : Thread nD τ).loc main_arg1)) := by
    funext j
    rw [left5 m c j, h31, RowSum.parts]
  rw [Cert.NormBackIdeal.Value.flushed5, hl]
  generalize weight (m ((c : Thread nD τ).loc main_arg0)) (m ((c : Thread nD τ).loc main_arg1)) = y
  obtain ⟨-, -, -, -, -, e0, e1⟩ := places t
  funext j
  show y j = y (((cfg0.win 5).blk t).view.emb j)
  have hj : ((cfg0.win 5).blk t).view.emb j = j := Shape.idx_ext₂
    (by show win0_5.index t (0 : Fin 2) * 1 + 1 * (j 0).val = (j 0).val; omega)
    (by show win0_5.index t (1 : Fin 2) * 2048 + 1 * (j 1).val = (j 1).val; omega)
  rw [hj]

theorem covered5 (i : S1x2048.Idx) :
    ∃ t : Fin cfg0.N, (cfg0.win 5).flush t = true ∧ i ∈ ((cfg0.win 5).blk t).view.set := by
  have h0 : (i 0).val < 1 := (i 0).isLt
  have h1 : (i 1).val < 2048 := (i 1).isLt
  let t : Fin cfg0.N := ⟨31, by show _ < 32; omega⟩
  obtain ⟨-, -, -, -, -, e0, e1⟩ := places t
  refine ⟨t, (flush0_5 t).mpr rfl, ?_⟩
  show i ∈ ((View.whole main_v0_1).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 2048 ≤ (i 1).val ∧ (i 1).val < win0_5.index t (1 : Fin 2) * 2048 + 2048; omega

theorem final5 (c : Dev nD) : (dats m 0 c).arrAt 5 cfg0.N
    = weight (m ((c : Thread nD τ).loc main_arg0)) (m ((c : Thread nD τ).loc main_arg1)) :=
  (dats m 0 c).arrAt_eq_of_cover 5 _ (flushed5 m c) covered5

/-! ## The claims -/

theorem quiescent_kernel : Cert.quiescent_NormBack := fun m g _ => Cert.NormBack.Gen.frame m g
theorem quiescent_kernel_ideal : Cert.quiescent_NormBackIdeal := fun m g _ => Cert.NormBackIdeal.Gen.frame m g
theorem quiescent_ref_ideal : Cert.quiescent_NormBackRefIdeal := fun m g _ =>
  (θ_run _ _ _).mono (fun r h => ⟨fun c => (h c).2.2, sem_eq_zero_of_no_sems (by decide) r.2⟩)
    (Cert.NormBackRefIdeal.Value.run m g)

theorem algebraic : Cert.algebraic_NormBackIdeal_NormBackRefIdeal := fun m g m' g' _ hm =>
  ⟨_, _, Cert.NormBackIdeal.Value.run_blocks m g, (θ_run Cert.NormBackRefIdeal.defs _ _).mono (fun r h c => by
    obtain ⟨h0, h1, hk⟩ := h c
    obtain ⟨e0, e1, e2, e3⟩ := hm c
    refine ⟨h0.trans ?_, h1.trans ?_, hk⟩
    · rw [e0, e1, e2, e3, final4]
      funext i
      pointwise
    · rw [e0, e1, final5]
      funext i
      pointwise) (Cert.NormBackRefIdeal.Value.run m' g')⟩

end Cert.NormBackProof

end
-- ==== Proof.LossHeadProof.lean ====
/- `loss_head`: the difference of the normalized rows from the target, the gradient it sends back (twice: in the arguments'
   format and rounded to the shorter one), the gradient of the weight and the sum of the squared differences, the last two
   summed over all the rows, against the same four formulas on the whole arrays. -/
module

public import proofs.«01_k».proof.Defs
public import Idealize.ShloMosaic.Lib.Quiescent
public import Idealize.ShloMosaic.Lib.Pointwise
public import Idealize.ShloMosaic.Lib.Tactic
public import proofs.«01_k».proof.Proof.RowSum
public import proofs.«01_k».proof.Proof.Gen.LossHead.Frame
public import proofs.«01_k».proof.Proof.Gen.LossHeadIdeal.Value
public import proofs.«01_k».proof.Proof.Gen.LossHeadRefIdeal.Run

@[expose] public section

noncomputable section

namespace Cert.LossHeadProof

open Idealize.ShloMosaic Idealize.ShloMosaic.TcCoe Idealize.SL.Sem
open Cert.LossHeadIdeal Cert.LossHeadIdeal.Gen

/-- Row `a` of block `t`, in the whole array. -/
abbrev row (t : Fin cfg0.N) (a : Fin 256) : Fin 8192 :=
  ⟨t.val * 256 + a.val, by have h : t.val < 32 := t.isLt; omega⟩

/-- Where the blocks of point `t` lie: the rows from `256 t` on, and the one row of the weight and of the two sums. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

theorem hz : (![0, 0] : Fin 2 → Nat) = fun _ => 0 := by decide

/-! ## The body's two cases -/

section Cases

variable (c : Dev nD) (i : grid0.Coords) (a1 : Memref sig .tc .vmem S256x2048 .f32) (h1 : a1.IsWhole) (a2 : Memref sig .tc .vmem S256x2048 .f32) (h2 : a2.IsWhole)
  (a3 : Memref sig .tc .vmem S1x2048 .f32) (h3 : a3.IsWhole) (a4 : Memref sig .tc .vmem S256x2048 .f32) (h4 : a4.IsWhole)
  (a5 : Memref sig .tc .vmem S256x2048 .bf16) (h5 : a5.IsWhole) (a6 : Memref sig .tc .vmem S1x2048 .f32) (h6 : a6.IsWhole)
  (a7 : Memref sig .tc .vmem S1x2048 .f32) (h7 : a7.IsWhole)
  (x0 x1 : Vec Ideal S256x2048 .f32) (x2 : Vec Ideal S1x2048 .f32)

theorem rows_A (hc : cond0_0 i) : out0_A_3 c i a1 h1 a2 h2 a3 h3 a4 h4 a5 h5 a6 h6 a7 h7 hc x0 x1 x2 = k0_pay10 x0 x1 x2 := by
  unfold out0_A_3
  rw [View.read_writes_eq_canon _ _ _ (cover0_A_3 c i a1 h1 a2 h2 a3 h3 a4 h4 a5 h5 a6 h6 a7 h7 hc x0 x1 x2)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x2048) hz, View.ld_unit_zero (S := S1x2048) hz]

theorem rows_B (hc : ¬cond0_0 i) (y5 y6 : Vec Ideal S1x2048 .f32) : out0_B_3 c i a1 h1 a2 h2 a3 h3 a4 h4 a5 h5 a6 h6 a7 h7 hc x0 x1 x2 y5 y6 = k0_pay10 x0 x1 x2 := by
  unfold out0_B_3
  rw [View.read_writes_eq_canon _ _ _ (cover0_B_3 c i a1 h1 a2 h2 a3 h3 a4 h4 a5 h5 a6 h6 a7 h7 hc x0 x1 x2 y5 y6)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x2048) hz, View.ld_unit_zero (S := S1x2048) hz]

theorem copy_A (hc : cond0_0 i) : out0_A_4 c i a1 h1 a2 h2 a3 h3 a4 h4 a5 h5 a6 h6 a7 h7 hc x0 x1 x2 = k0_pay1 (k0_pay10 x0 x1 x2) := by
  unfold out0_A_4
  rw [View.read_writes_eq_canon _ _ _ (cover0_A_4 c i a1 h1 a2 h2 a3 h3 a4 h4 a5 h5 a6 h6 a7 h7 hc x0 x1 x2)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x2048) hz, View.ld_unit_zero (S := S1x2048) hz]

theorem copy_B (hc : ¬cond0_0 i) (y5 y6 : Vec Ideal S1x2048 .f32) : out0_B_4 c i a1 h1 a2 h2 a3 h3 a4 h4 a5 h5 a6 h6 a7 h7 hc x0 x1 x2 y5 y6 = k0_pay1 (k0_pay10 x0 x1 x2) := by
  unfold out0_B_4
  rw [View.read_writes_eq_canon _ _ _ (cover0_B_4 c i a1 h1 a2 h2 a3 h3 a4 h4 a5 h5 a6 h6 a7 h7 hc x0 x1 x2 y5 y6)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x2048) hz, View.ld_unit_zero (S := S1x2048) hz]

theorem sum_A (hc : cond0_0 i) : out0_A_5 c i a1 h1 a2 h2 a3 h3 a4 h4 a5 h5 a6 h6 a7 h7 hc x0 x1 x2 = k0_pay4 (k0_pay11 x0 x1 x2) (k0_pay2 (F := Ideal)) := by
  unfold out0_A_5
  rw [View.read_writes_eq_canon _ _ _ (cover0_A_5 c i a1 h1 a2 h2 a3 h3 a4 h4 a5 h5 a6 h6 a7 h7 hc x0 x1 x2)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread,
    h7.read_unread, View.ld_unit_zero (S := S256x2048) hz, View.ld_unit_zero (S := S1x2048) hz]

theorem sum_B (hc : ¬cond0_0 i) (y5 y6 : Vec Ideal S1x2048 .f32) : out0_B_5 c i a1 h1 a2 h2 a3 h3 a4 h4 a5 h5 a6 h6 a7 h7 hc x0 x1 x2 y5 y6 = k0_pay4 (k0_pay11 x0 x1 x2) y5 := by
  unfold out0_B_5
  rw [View.read_writes_eq_canon _ _ _ (cover0_B_5 c i a1 h1 a2 h2 a3 h3 a4 h4 a5 h5 a6 h6 a7 h7 hc x0 x1 x2 y5 y6)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x2048) hz, View.ld_unit_zero (S := S1x2048) hz]

theorem loss_A (hc : cond0_0 i) : out0_A_6 c i a1 h1 a2 h2 a3 h3 a4 h4 a5 h5 a6 h6 a7 h7 hc x0 x1 x2 = k0_pay5 (k0_pay6 x0 x1 x2) (k0_pay3 (F := Ideal)) := by
  unfold out0_A_6
  rw [View.read_writes_eq_canon _ _ _ (cover0_A_6 c i a1 h1 a2 h2 a3 h3 a4 h4 a5 h5 a6 h6 a7 h7 hc x0 x1 x2)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread,
    h7.read_unread, View.ld_unit_zero (S := S256x2048) hz, View.ld_unit_zero (S := S1x2048) hz]

theorem loss_B (hc : ¬cond0_0 i) (y5 y6 : Vec Ideal S1x2048 .f32) : out0_B_6 c i a1 h1 a2 h2 a3 h3 a4 h4 a5 h5 a6 h6 a7 h7 hc x0 x1 x2 y5 y6 = k0_pay5 (k0_pay6 x0 x1 x2) y6 := by
  unfold out0_B_6
  rw [View.read_writes_eq_canon _ _ _ (cover0_B_6 c i a1 h1 a2 h2 a3 h3 a4 h4 a5 h5 a6 h6 a7 h7 hc x0 x1 x2 y5 y6)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x2048) hz, View.ld_unit_zero (S := S1x2048) hz]

end Cases

/-! ## The formulas -/

/-- One over the root mean square of row `a`. -/
abbrev scale (h : FVec Ideal S8192x2048 .f32) (a : Fin 8192) : EReal :=
  Ideal.rsqrt (Ideal.div (∑ k : Fin 2048, h (ix2 a k) * h (ix2 a k)) (Ideal.ofBits .f32 0x45000000#32) + Ideal.ofBits .f32 0x3727C5AC#32)

/-- The difference from the target. -/
abbrev err (h t : FVec Ideal S8192x2048 .f32) (w : FVec Ideal S1x2048 .f32) (i : S8192x2048.Idx) : EReal :=
  h i * scale h (i 0) * w (ix2 0 (i 1)) - t i

/-- The gradient of the rows. -/
abbrev back (h t : FVec Ideal S8192x2048 .f32) (w : FVec Ideal S1x2048 .f32) : FVec Ideal S8192x2048 .f32 := fun i =>
  scale h (i 0) * (err h t w i * Ideal.ofBits .f32 0x3A000000#32 * w (ix2 0 (i 1)) - h i * scale h (i 0) *
    Ideal.div (∑ k : Fin 2048, err h t w (ix2 (i 0) k) * Ideal.ofBits .f32 0x3A000000#32 * w (ix2 0 k)
      * (h (ix2 (i 0) k) * scale h (i 0))) (Ideal.ofBits .f32 0x45000000#32))

/-- The same, in the shorter format. -/
abbrev backCopy (h t : FVec Ideal S8192x2048 .f32) (w : FVec Ideal S1x2048 .f32) : FVec Ideal S8192x2048 .bf16 := fun i => back h t w i

/-- What row `a` adds to the gradient of the weight, in column `l`. -/
abbrev weightTerm (h t : FVec Ideal S8192x2048 .f32) (w : FVec Ideal S1x2048 .f32) (l : Fin 2048) (a : Fin 8192) : EReal :=
  err h t w (ix2 a l) * Ideal.ofBits .f32 0x3A000000#32 * (h (ix2 a l) * scale h a)

/-- The gradient of the weight: the sum over the rows. -/
abbrev weight (h t : FVec Ideal S8192x2048 .f32) (w : FVec Ideal S1x2048 .f32) : FVec Ideal S1x2048 .f32 := fun i =>
  ∑ a : Fin 8192, weightTerm h t w (i 1) a

/-- What row `a` adds to the squared differences, in column `l`. -/
abbrev squareTerm (h t : FVec Ideal S8192x2048 .f32) (w : FVec Ideal S1x2048 .f32) (l : Fin 2048) (a : Fin 8192) : EReal :=
  err h t w (ix2 a l) * err h t w (ix2 a l)

/-- The squared differences, summed over the rows. -/
abbrev squares (h t : FVec Ideal S8192x2048 .f32) (w : FVec Ideal S1x2048 .f32) : FVec Ideal S1x2048 .f32 := fun i =>
  ∑ a : Fin 8192, squareTerm h t w (i 1) a

/-! ## The blocks -/

variable (m : (ℓ : Loc nD τ sig) → Buf (Elt Ideal) ℓ)

theorem in0 (c : Dev nD) (t : Fin cfg0.N) (j : S256x2048.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 256 + 1 * (j 0).val = t.val * 256 + (j 0).val; omega
  · show win0_0.index t (1 : Fin 2) * 2048 + 1 * (j 1).val = (j 1).val; omega

theorem in1 (c : Dev nD) (t : Fin cfg0.N) (j : S256x2048.Idx) :
    iblk m c 1 t j = m ((c : Thread nD τ).loc main_arg1) (ix2 (row t (j 0)) (j 1)) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 256 + 1 * (j 0).val = t.val * 256 + (j 0).val; omega
  · show win0_1.index t (1 : Fin 2) * 2048 + 1 * (j 1).val = (j 1).val; omega

theorem in2 (c : Dev nD) (t : Fin cfg0.N) (j : S1x2048.Idx) :
    iblk m c 2 t j = m ((c : Thread nD τ).loc main_arg2) j := by
  obtain ⟨-, -, ⟨e0, e1⟩, -⟩ := places t
  refine Eq.trans ?_ (congrFun (V_main_arg2 m c) _)
  refine congrArg (V m c main_arg2) (Shape.idx_ext₂ ?_ ?_)
  · show win0_2.index t (0 : Fin 2) * 1 + 1 * (j 0).val = (j 0).val; omega
  · show win0_2.index t (1 : Fin 2) * 2048 + 1 * (j 1).val = (j 1).val; omega

/-! ## The rows -/

theorem left3 (c : Dev nD) (t : Fin cfg0.N) : (outsAt0 m c t.val t.isLt).1 = k0_pay10 (iblk m c 0 t) (iblk m c 1 t) (iblk m c 2 t) := by
  by_cases h0 : t.val % 32 = 0
  · rw [outsAt0_A m c t h0]; dsimp only; rw [rows_A]
  · rw [outsAt0_B m c t h0]; dsimp only; rw [rows_B]

/-- What point `t` writes back is its rows of the formula. -/
theorem flushed3 (c : Dev nD) (t : Fin cfg0.N) :
    (dats m 0 c).flushed 3 t = ((cfg0.win 3).blk t).view.read (Elt Ideal) (back (m ((c : Thread nD τ).loc main_arg0)) (m ((c : Thread nD τ).loc main_arg1))
      (m ((c : Thread nD τ).loc main_arg2))) := by
  rw [Cert.LossHeadIdeal.Value.flushed3, left3]
  obtain ⟨-, -, -, ⟨e0, e1⟩, -⟩ := places t
  funext j
  show k0_pay10 (iblk m c 0 t) (iblk m c 1 t) (iblk m c 2 t) j = back _ _ _ (((cfg0.win 3).blk t).view.emb j)
  have hj : ((cfg0.win 3).blk t).view.emb j = ix2 (row t (j 0)) (j 1) := Shape.idx_ext₂
    (by show win0_3.index t (0 : Fin 2) * 256 + 1 * (j 0).val = t.val * 256 + (j 0).val; omega)
    (by show win0_3.index t (1 : Fin 2) * 2048 + 1 * (j 1).val = (j 1).val; omega)
  rw [hj]
  pointwise [k0_pay10, k0_pay9, k0_pay8, k0_pay7, k0_pay6]
  simp only [in0, in1, in2]
  rfl

/-- Every row is some point's. -/
theorem covered3 (i : S8192x2048.Idx) :
    ∃ t : Fin cfg0.N, (cfg0.win 3).flush t = true ∧ i ∈ ((cfg0.win 3).blk t).view.set := by
  have h0 : (i 0).val < 8192 := (i 0).isLt
  have h1 : (i 1).val < 2048 := (i 1).isLt
  let t : Fin cfg0.N := ⟨(i 0).val / 256, by show _ < 32; omega⟩
  have ht : t.val = (i 0).val / 256 := rfl
  obtain ⟨-, -, -, ⟨e0, e1⟩, -⟩ := places t
  refine ⟨t, flush0_3 t, ?_⟩
  show i ∈ ((View.whole main_v0_0).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 2048 ≤ (i 1).val ∧ (i 1).val < win0_3.index t (1 : Fin 2) * 2048 + 2048; omega

theorem final3 (c : Dev nD) : (dats m 0 c).arrAt 3 cfg0.N = back (m ((c : Thread nD τ).loc main_arg0)) (m ((c : Thread nD τ).loc main_arg1))
      (m ((c : Thread nD τ).loc main_arg2)) :=
  (dats m 0 c).arrAt_eq_of_cover 3 _ (fun t _ => flushed3 m c t) covered3

theorem left4 (c : Dev nD) (t : Fin cfg0.N) : (outsAt0 m c t.val t.isLt).2.1 = k0_pay1 (k0_pay10 (iblk m c 0 t) (iblk m c 1 t) (iblk m c 2 t)) := by
  by_cases h0 : t.val % 32 = 0
  · rw [outsAt0_A m c t h0]; dsimp only; rw [copy_A]
  · rw [outsAt0_B m c t h0]; dsimp only; rw [copy_B]

/-- What point `t` writes back is its rows of the formula. -/
theorem flushed4 (c : Dev nD) (t : Fin cfg0.N) :
    (dats m 0 c).flushed 4 t = ((cfg0.win 4).blk t).view.read (Elt Ideal) (backCopy (m ((c : Thread nD τ).loc main_arg0)) (m ((c : Thread nD τ).loc main_arg1))
      (m ((c : Thread nD τ).loc main_arg2))) := by
  rw [Cert.LossHeadIdeal.Value.flushed4, left4]
  obtain ⟨-, -, -, -, ⟨e0, e1⟩, -⟩ := places t
  funext j
  show k0_pay1 (k0_pay10 (iblk m c 0 t) (iblk m c 1 t) (iblk m c 2 t)) j = backCopy _ _ _ (((cfg0.win 4).blk t).view.emb j)
  have hj : ((cfg0.win 4).blk t).view.emb j = ix2 (row t (j 0)) (j 1) := Shape.idx_ext₂
    (by show win0_4.index t (0 : Fin 2) * 256 + 1 * (j 0).val = t.val * 256 + (j 0).val; omega)
    (by show win0_4.index t (1 : Fin 2) * 2048 + 1 * (j 1).val = (j 1).val; omega)
  rw [hj]
  pointwise [k0_pay10, k0_pay9, k0_pay8, k0_pay7, k0_pay6, k0_pay1]
  simp only [in0, in1, in2]
  rfl

/-- Every row is some point's. -/
theorem covered4 (i : S8192x2048.Idx) :
    ∃ t : Fin cfg0.N, (cfg0.win 4).flush t = true ∧ i ∈ ((cfg0.win 4).blk t).view.set := by
  have h0 : (i 0).val < 8192 := (i 0).isLt
  have h1 : (i 1).val < 2048 := (i 1).isLt
  let t : Fin cfg0.N := ⟨(i 0).val / 256, by show _ < 32; omega⟩
  have ht : t.val = (i 0).val / 256 := rfl
  obtain ⟨-, -, -, -, ⟨e0, e1⟩, -⟩ := places t
  refine ⟨t, flush0_4 t, ?_⟩
  show i ∈ ((View.whole main_v0_1).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

theorem final4 (c : Dev nD) : (dats m 0 c).arrAt 4 cfg0.N = backCopy (m ((c : Thread nD τ).loc main_arg0)) (m ((c : Thread nD τ).loc main_arg1))
      (m ((c : Thread nD τ).loc main_arg2)) :=
  (dats m 0 c).arrAt_eq_of_cover 4 _ (fun t _ => flushed4 m c t) covered4

/-! ## The sums over the rows -/

/-- What a point adds is its block's sum. -/
theorem add5 (c : Dev nD) (t : Fin cfg0.N) (x : Vec Ideal S1x2048 .f32) (j : S1x2048.Idx) :
    k0_pay4 (k0_pay11 (iblk m c 0 t) (iblk m c 1 t) (iblk m c 2 t)) x j
      = x j + RowSum.part (weightTerm (m ((c : Thread nD τ).loc main_arg0)) (m ((c : Thread nD τ).loc main_arg1))
      (m ((c : Thread nD τ).loc main_arg2)) (j 1)) t.val := by
  rw [RowSum.part_of_lt _ _ t.isLt]
  pointwise [k0_pay4, k0_pay11, k0_pay9, k0_pay8, k0_pay7, k0_pay6]
  simp only [in0, in1, in2]
  rfl

/-- After point `n` the sum holds the first `n + 1` blocks. -/
theorem left5 (c : Dev nD) (j : S1x2048.Idx) : ∀ (n : Nat) (h : n < cfg0.N), (outsAt0 m c n h).2.2.1 j
    = ∑ s ∈ Finset.range (n + 1), RowSum.part (weightTerm (m ((c : Thread nD τ).loc main_arg0)) (m ((c : Thread nD τ).loc main_arg1))
      (m ((c : Thread nD τ).loc main_arg2)) (j 1)) s
  | 0, h => by
    rw [Finset.sum_range_one, outsAt0_A m c ⟨0, h⟩ rfl]
    dsimp only
    rw [sum_A, add5, show k0_pay2 (F := Ideal) j = 0 by pointwise [k0_pay2], zero_add]
  | n + 1, h => by
    have hB : ¬(⟨n + 1, h⟩ : Fin cfg0.N).val % 32 = 0 := by have : n + 1 < 32 := h; dsimp only; omega
    rw [Finset.sum_range_succ, ← left5 c j n (Nat.lt_of_succ_lt h), outsAt0_B m c ⟨n + 1, h⟩ hB]
    dsimp only
    rw [sum_B, add5]
    rfl

/-- The last point writes back the whole sum. -/
theorem flushed5 (c : Dev nD) (t : Fin cfg0.N) (hf : (cfg0.win 5).flush t = true) :
    (dats m 0 c).flushed 5 t = ((cfg0.win 5).blk t).view.read (Elt Ideal) (weight (m ((c : Thread nD τ).loc main_arg0)) (m ((c : Thread nD τ).loc main_arg1))
      (m ((c : Thread nD τ).loc main_arg2))) := by
  have h31 : t.val = 31 := by have h := (flush0_5 t).mp hf; have : t.val < 32 := t.isLt; omega
  have hl : (outsAt0 m c t.val t.isLt).2.2.1 = weight (m ((c : Thread nD τ).loc main_arg0)) (m ((c : Thread nD τ).loc main_arg1))
      (m ((c : Thread nD τ).loc main_arg2)) := by
    funext j
    rw [left5 m c j, h31, RowSum.parts]
  rw [Cert.LossHeadIdeal.Value.flushed5, hl]
  generalize weight (m ((c : Thread nD τ).loc main_arg0)) (m ((c : Thread nD τ).loc main_arg1))
      (m ((c : Thread nD τ).loc main_arg2)) = y
  obtain ⟨-, -, -, -, -, ⟨e0, e1⟩, -⟩ := places t
  funext j
  show y j = y (((cfg0.win 5).blk t).view.emb j)
  have hj : ((cfg0.win 5).blk t).view.emb j = j := Shape.idx_ext₂
    (by show win0_5.index t (0 : Fin 2) * 1 + 1 * (j 0).val = (j 0).val; omega)
    (by show win0_5.index t (1 : Fin 2) * 2048 + 1 * (j 1).val = (j 1).val; omega)
  rw [hj]

theorem covered5 (i : S1x2048.Idx) :
    ∃ t : Fin cfg0.N, (cfg0.win 5).flush t = true ∧ i ∈ ((cfg0.win 5).blk t).view.set := by
  have h0 : (i 0).val < 1 := (i 0).isLt
  have h1 : (i 1).val < 2048 := (i 1).isLt
  let t : Fin cfg0.N := ⟨31, by show _ < 32; omega⟩
  obtain ⟨-, -, -, -, -, ⟨e0, e1⟩, -⟩ := places t
  refine ⟨t, (flush0_5 t).mpr rfl, ?_⟩
  show i ∈ ((View.whole main_v0_2).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1; omega
  | ⟨1, _⟩ => show win0_5.index t (1 : Fin 2) * 2048 ≤ (i 1).val ∧ (i 1).val < win0_5.index t (1 : Fin 2) * 2048 + 2048; omega

theorem final5 (c : Dev nD) : (dats m 0 c).arrAt 5 cfg0.N = weight (m ((c : Thread nD τ).loc main_arg0)) (m ((c : Thread nD τ).loc main_arg1))
      (m ((c : Thread nD τ).loc main_arg2)) :=
  (dats m 0 c).arrAt_eq_of_cover 5 _ (flushed5 m c) covered5

/-- What a point adds is its block's sum. -/
theorem add6 (c : Dev nD) (t : Fin cfg0.N) (x : Vec Ideal S1x2048 .f32) (j : S1x2048.Idx) :
    k0_pay5 (k0_pay6 (iblk m c 0 t) (iblk m c 1 t) (iblk m c 2 t)) x j
      = x j + RowSum.part (squareTerm (m ((c : Thread nD τ).loc main_arg0)) (m ((c : Thread nD τ).loc main_arg1))
      (m ((c : Thread nD τ).loc main_arg2)) (j 1)) t.val := by
  rw [RowSum.part_of_lt _ _ t.isLt]
  pointwise [k0_pay5, k0_pay6]
  simp only [in0, in1, in2]
  rfl

/-- After point `n` the sum holds the first `n + 1` blocks. -/
theorem left6 (c : Dev nD) (j : S1x2048.Idx) : ∀ (n : Nat) (h : n < cfg0.N), (outsAt0 m c n h).2.2.2 j
    = ∑ s ∈ Finset.range (n + 1), RowSum.part (squareTerm (m ((c : Thread nD τ).loc main_arg0)) (m ((c : Thread nD τ).loc main_arg1))
      (m ((c : Thread nD τ).loc main_arg2)) (j 1)) s
  | 0, h => by
    rw [Finset.sum_range_one, outsAt0_A m c ⟨0, h⟩ rfl]
    dsimp only
    rw [loss_A, add6, show k0_pay3 (F := Ideal) j = 0 by pointwise [k0_pay3], zero_add]
  | n + 1, h => by
    have hB : ¬(⟨n + 1, h⟩ : Fin cfg0.N).val % 32 = 0 := by have : n + 1 < 32 := h; dsimp only; omega
    rw [Finset.sum_range_succ, ← left6 c j n (Nat.lt_of_succ_lt h), outsAt0_B m c ⟨n + 1, h⟩ hB]
    dsimp only
    rw [loss_B, add6]
    rfl

/-- The last point writes back the whole sum. -/
theorem flushed6 (c : Dev nD) (t : Fin cfg0.N) (hf : (cfg0.win 6).flush t = true) :
    (dats m 0 c).flushed 6 t = ((cfg0.win 6).blk t).view.read (Elt Ideal) (squares (m ((c : Thread nD τ).loc main_arg0)) (m ((c : Thread nD τ).loc main_arg1))
      (m ((c : Thread nD τ).loc main_arg2))) := by
  have h31 : t.val = 31 := by have h := (flush0_6 t).mp hf; have : t.val < 32 := t.isLt; omega
  have hl : (outsAt0 m c t.val t.isLt).2.2.2 = squares (m ((c : Thread nD τ).loc main_arg0)) (m ((c : Thread nD τ).loc main_arg1))
      (m ((c : Thread nD τ).loc main_arg2)) := by
    funext j
    rw [left6 m c j, h31, RowSum.parts]
  rw [Cert.LossHeadIdeal.Value.flushed6, hl]
  generalize squares (m ((c : Thread nD τ).loc main_arg0)) (m ((c : Thread nD τ).loc main_arg1))
      (m ((c : Thread nD τ).loc main_arg2)) = y
  obtain ⟨-, -, -, -, -, -, e0, e1⟩ := places t
  funext j
  show y j = y (((cfg0.win 6).blk t).view.emb j)
  have hj : ((cfg0.win 6).blk t).view.emb j = j := Shape.idx_ext₂
    (by show win0_6.index t (0 : Fin 2) * 1 + 1 * (j 0).val = (j 0).val; omega)
    (by show win0_6.index t (1 : Fin 2) * 2048 + 1 * (j 1).val = (j 1).val; omega)
  rw [hj]

theorem covered6 (i : S1x2048.Idx) :
    ∃ t : Fin cfg0.N, (cfg0.win 6).flush t = true ∧ i ∈ ((cfg0.win 6).blk t).view.set := by
  have h0 : (i 0).val < 1 := (i 0).isLt
  have h1 : (i 1).val < 2048 := (i 1).isLt
  let t : Fin cfg0.N := ⟨31, by show _ < 32; omega⟩
  obtain ⟨-, -, -, -, -, -, e0, e1⟩ := places t
  refine ⟨t, (flush0_6 t).mpr rfl, ?_⟩
  show i ∈ ((View.whole main_v0_3).slice (win0_6.rect t)).set
  rw [View.set_slice_whole, Rect.mem_set_unit]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 2048 ≤ (i 1).val ∧ (i 1).val < win0_6.index t (1 : Fin 2) * 2048 + 2048; omega

theorem final6 (c : Dev nD) : (dats m 0 c).arrAt 6 cfg0.N = squares (m ((c : Thread nD τ).loc main_arg0)) (m ((c : Thread nD τ).loc main_arg1))
      (m ((c : Thread nD τ).loc main_arg2)) :=
  (dats m 0 c).arrAt_eq_of_cover 6 _ (flushed6 m c) covered6

/-! ## The claims -/

theorem quiescent_kernel : Cert.quiescent_LossHead := fun m g _ => Cert.LossHead.Gen.frame m g
theorem quiescent_kernel_ideal : Cert.quiescent_LossHeadIdeal := fun m g _ => Cert.LossHeadIdeal.Gen.frame m g
theorem quiescent_ref_ideal : Cert.quiescent_LossHeadRefIdeal := fun m g _ =>
  (θ_run _ _ _).mono (fun r h => ⟨fun c => (h c).2.2.2.2, sem_eq_zero_of_no_sems (by decide) r.2⟩)
    (Cert.LossHeadRefIdeal.Value.run m g)

theorem algebraic : Cert.algebraic_LossHeadIdeal_LossHeadRefIdeal := fun m g m' g' _ hm =>
  ⟨_, _, _, _, Cert.LossHeadIdeal.Value.run_blocks m g, (θ_run Cert.LossHeadRefIdeal.defs _ _).mono (fun r h c => by
    obtain ⟨h0, h1, h2, h3, hk⟩ := h c
    obtain ⟨e0, e1, e2⟩ := hm c
    refine ⟨h0.trans ?_, h1.trans ?_, h2.trans ?_, h3.trans ?_, hk⟩
    · rw [e0, e1, e2, final3]
      funext i
      pointwise <;> rfl
    · rw [e0, e1, e2, final4]
      funext i
      pointwise <;> rfl
    · rw [e0, e1, e2, final5]
      funext i
      pointwise <;> rfl
    · rw [e0, e1, e2, final6]
      funext i
      pointwise <;> rfl) (Cert.LossHeadRefIdeal.Value.run m' g')⟩

end Cert.LossHeadProof

end
-- ==== Proof.TailProof.lean ====
/- `small_tail`: the gradient of the lower bound's logits, from the summed gradient of the lower bound, and the loss, from the
   summed squares of the columns. -/
module

public import proofs.«01_k».proof.Defs
public import Idealize.ShloMosaic.Lib.Quiescent
public import Idealize.ShloMosaic.Lib.Pointwise
public import proofs.«01_k».proof.Proof.Gen.Tail.Frame
public import proofs.«01_k».proof.Proof.Gen.TailIdeal.Value
public import proofs.«01_k».proof.Proof.Gen.TailRefIdeal.Run

@[expose] public section

noncomputable section

namespace Cert.TailProof

open Idealize.ShloMosaic Idealize.ShloMosaic.TcCoe Idealize.SL.Sem
open Cert.TailIdeal Cert.TailIdeal.Gen

theorem quiescent_kernel : Cert.quiescent_Tail := fun m g _ => Cert.Tail.Gen.frame m g
theorem quiescent_kernel_ideal : Cert.quiescent_TailIdeal := fun m g _ => Cert.TailIdeal.Gen.frame m g
theorem quiescent_ref_ideal : Cert.quiescent_TailRefIdeal := fun m g _ =>
  (θ_run _ _ _).mono (fun r h => ⟨fun c => (h c).2.2, sem_eq_zero_of_no_sems (by decide) r.2⟩)
    (Cert.TailRefIdeal.Value.run m g)

/-- The least value, as the constant the maximum starts from. -/
theorem least : Ideal.ofBits .f32 0xFF800000#32 = ⊥ := by
  with_unfolding_all decide

/-- The larger of the two logits of each column. -/
def larger (x : FVec Ideal S2x1024 .f32) : FVec Ideal TailRefIdeal.S1024 .f32 := fun j => max (x (ix2 0 (j 0))) (x (ix2 1 (j 0)))

/-- The reference's maximum over the two rows. -/
theorem reduce_eq (x : FVec Ideal S2x1024 .f32) :
    Host.reduce FloatOps.maximumf x (constant TailRefIdeal.S_ .f32 0xFF800000#32) TailRefIdeal.Gen.reducesTo_S2x1024_S1024_d0 TailRefIdeal.Gen.h_S_ = larger x := by
  funext j
  simp only [pointwise]
  rw [least, show (Finset.univ : Finset (Fin 2)) = {0, 1} from rfl, Finset.fold_insert (by decide), Finset.fold_singleton, max_bot_right]
  rfl

/-- The gradient of the first row's logit in column `j`. -/
def grad (x : FVec Ideal S2x1024 .f32) (b : FVec Ideal S1x1024 .f32) (j : Fin 1024) : EReal :=
  let p := Ideal.div (Ideal.exp (x (ix2 0 j) - max (x (ix2 0 j)) (x (ix2 1 j))))
    (Ideal.exp (x (ix2 0 j) - max (x (ix2 0 j)) (x (ix2 1 j))) + Ideal.exp (x (ix2 1 j) - max (x (ix2 0 j)) (x (ix2 1 j))))
  b (ix2 0 j) * p * (1 - p)

theorem pay (a : Vec Ideal S2x1024 .f32) (b : Vec Ideal S1x1024 .f32) (r : Fin 1) (j : Fin 1024) : k0_pay1 a b (ix2 r j) = grad a b j := by
  pointwise [k0_pay1]
  rw [Subsingleton.elim r 0]
  rfl

theorem neg (a : Vec Ideal S2x1024 .f32) (b : Vec Ideal S1x1024 .f32) (r : Fin 1) (j : Fin 1024) : k0_pay2 a b (ix2 r j) = - grad a b j := by
  rw [← pay a b r j]
  unfold k0_pay2
  pointwise
  rw [zero_sub]

/-- Both rows of the gradient. -/
def both (x : FVec Ideal S2x1024 .f32) (b : FVec Ideal S1x1024 .f32) : FVec Ideal S2x1024 .f32 :=
  fun i => if (i 0).val < 1 then grad x b (i 1) else - grad x b (i 1)

theorem final (a0 : Vec Ideal S2x1024 .f32) (a1 : Vec Ideal S1x1024 .f32) (a2 : Vec Ideal S1x2048 .f32) : Value.G3 a0 a1 a2 = both a0 a1 := by
  funext y
  refine View.canon_apply_of_pieces (Val := Elt Ideal) (e := .f32) (both a0 a1) _ ?_ y (cover0_3 _ _ y)
  intro p hp x
  simp only [List.mem_cons, List.not_mem_nil, or_false] at hp
  obtain rfl | rfl := hp
  · have hx : x = ix2 (x 0) (x 1) := Shape.idx_ext₂ rfl rfl
    have h1 : r0_3.emb x 1 = x 1 := Fin.ext (by show 0 + 1 * (x 1).val = (x 1).val; omega)
    have h0 : ¬ (r0_3.emb x 0).val < 1 := by show ¬ 1 + 1 * (x 0).val < 1; omega
    show k0_pay2 a0 a1 x = both a0 a1 (r0_3.emb x)
    unfold both
    rw [if_neg h0, h1, hx]
    exact neg a0 a1 (x 0) (x 1)
  · have hx : x = ix2 (x 0) (x 1) := Shape.idx_ext₂ rfl rfl
    have h1 : r0_2.emb x 1 = x 1 := Fin.ext (by show 0 + 1 * (x 1).val = (x 1).val; omega)
    have h0 : (r0_2.emb x 0).val < 1 := by have : (x 0).val < 1 := (x 0).isLt; show 0 + 1 * (x 0).val < 1; omega
    show k0_pay1 a0 a1 x = both a0 a1 (r0_2.emb x)
    unfold both
    rw [if_pos h0, h1, hx]
    exact pay a0 a1 (x 0) (x 1)

/-- The reference's entry, row by row. -/
theorem rows_eq (x : FVec Ideal S2x1024 .f32) (b : FVec Ideal S1x1024 .f32) (i : S2x1024.Idx) :
    (if h : (i 0).val < 1 then
      b (ix2 ⟨(i 0).val, h⟩ (i 1)) * Ideal.div (Ideal.exp (x i - max (x (ix2 0 (i 1))) (x (ix2 1 (i 1)))))
        (Ideal.exp (x (ix2 0 (i 1)) - max (x (ix2 0 (i 1))) (x (ix2 1 (i 1)))) + Ideal.exp (x (ix2 1 (i 1)) - max (x (ix2 0 (i 1))) (x (ix2 1 (i 1)))))
       * (1 - Ideal.div (Ideal.exp (x i - max (x (ix2 0 (i 1))) (x (ix2 1 (i 1)))))
        (Ideal.exp (x (ix2 0 (i 1)) - max (x (ix2 0 (i 1))) (x (ix2 1 (i 1)))) + Ideal.exp (x (ix2 1 (i 1)) - max (x (ix2 0 (i 1))) (x (ix2 1 (i 1))))))
    else - grad x b (i 1)) = both x b i := by
  unfold both
  by_cases h : (i 0).val < 1
  · rw [dif_pos h, if_pos h]
    have hi : i = ix2 (0 : Fin 2) (i 1) := Shape.idx_ext₂ (show (i 0).val = 0 by omega) rfl
    have h0 : (⟨(i 0).val, h⟩ : Fin 1) = 0 := Subsingleton.elim _ _
    rw [h0, show x i = x (ix2 0 (i 1)) from congrArg x hi]
    rfl
  · rw [dif_neg h, if_neg h]

theorem ref_loss (x : FVec Ideal S1x2048 .f32) (j : S1x128.Idx) (h1) (h2 : S1x2048.ReducesTo [0, 1] TailRefIdeal.S_) (h3) :
    k0_pay3 x j = (broadcastInDim TailRefIdeal.S1x128 ![] h1
            (mulf
              (mulf (constant TailRefIdeal.S_ FTy.f32 1056964608#32)
                (Host.reduceAdd x (constant TailRefIdeal.S_ FTy.f32 0#32)
                  h2 h3))
              (constant TailRefIdeal.S_ FTy.f32 973078528#32)) : FVec Ideal S1x128 .f32) j := by
  pointwise [k0_pay3]
  simp only [Fin.sum_univ_one]

theorem algebraic : Cert.algebraic_TailIdeal_TailRefIdeal := fun m g m' g' _ hm =>
  ⟨_, _, Cert.TailIdeal.Value.run m g, (θ_run Cert.TailRefIdeal.defs _ _).mono (fun r h c => by
    obtain ⟨h0, h1, hk⟩ := h c
    obtain ⟨e0, e1, e2⟩ := hm c
    refine ⟨h0.trans ?_, h1.trans ?_, hk⟩
    · unfold Cert.TailRefIdeal.Value.res_main_v20
      rw [e0, e1, reduce_eq, final]
      funext i
      pointwise [larger]
      simp only [least, max_bot_left, Fin.sum_univ_two]
      refine Eq.trans ?_ (rows_eq _ _ i)
      split
      · rfl
      · rename_i h
        have hk : (i 0).val - 1 = 0 := by have : (i 0).val < 2 := (i 0).isLt; omega
        simp only [hk]
        rfl
    · rw [e2]
      funext i
      exact (ref_loss _ i _ _ _).symm
    ) (Cert.TailRefIdeal.Value.run m' g')⟩

end Cert.TailProof

end
-- ==== Proof.Tiles.lean ====
/- Sums taken tile by tile: a sum over `J * T` positions is accumulated over `J` points of a grid, each adding its tile's sum, and
   the next `J` points start over. -/
module

public import Idealize.ShloMosaic.Lib.Pointwise

@[expose] public section

noncomputable section

namespace Cert.Tiles

theorem idx_ext₃ {n : Fin 3 → ℕ} {x y : (a : Fin 3) → Fin (n a)} (h0 : (x 0 : ℕ) = y 0) (h1 : (x 1 : ℕ) = y 1) (h2 : (x 2 : ℕ) = y 2) :
    x = y := by
  funext a
  match a with
  | ⟨0, _⟩ => exact Fin.ext h0
  | ⟨1, _⟩ => exact Fin.ext h1
  | ⟨2, _⟩ => exact Fin.ext h2

/-- The sum over tile `n` (nothing beyond the last position). -/
def part {M : ℕ} (T : ℕ) (f : Fin M → EReal) (n : ℕ) : EReal :=
  ∑ r : Fin T, if h : n * T + r.val < M then f ⟨n * T + r.val, h⟩ else 0

theorem part_eq {M T : ℕ} (f : Fin M → EReal) (n : ℕ) (h : ∀ r : Fin T, n * T + r.val < M) :
    part T f n = ∑ r : Fin T, f ⟨n * T + r.val, h r⟩ :=
  Finset.sum_congr rfl fun r _ => dif_pos (h r)

/-- The tiles' sums make the whole sum. -/
theorem parts {M : ℕ} (J T : ℕ) (hM : J * T = M) (f : Fin M → EReal) : ∑ n ∈ Finset.range J, part T f n = ∑ a : Fin M, f a := by
  rw [Finset.sum_range, Idealize.ShloMosaic.Fin.sum_univ_tiles J T hM f]
  refine Finset.sum_congr rfl fun n _ => part_eq f n.val fun r => ?_
  calc n.val * T + r.val < n.val * T + T := Nat.add_lt_add_left r.isLt _
    _ = (n.val + 1) * T := (Nat.succ_mul _ _).symm
    _ ≤ J * T := Nat.mul_le_mul_right _ n.isLt
    _ = M := hM

/-- What is held after each point: a point at a multiple of `J` starts with its first tile, every other adds its tile to what the
    point before left; the points of one run add tiles of one sum. -/
theorem fold {M N : ℕ} (J T : ℕ) (held : (n : ℕ) → n < N → EReal) (f : Fin N → Fin M → EReal)
    (start : ∀ t : Fin N, t.val % J = 0 → held t.val t.isLt = part T (f t) 0)
    (step : ∀ (n : ℕ) (h : n + 1 < N), (n + 1) % J ≠ 0 → held (n + 1) h = held n (Nat.lt_of_succ_lt h) + part T (f ⟨n + 1, h⟩) ((n + 1) % J))
    (same : ∀ (n : ℕ) (h : n + 1 < N), (n + 1) % J ≠ 0 → f ⟨n + 1, h⟩ = f ⟨n, Nat.lt_of_succ_lt h⟩) :
    ∀ (n : ℕ) (h : n < N), held n h = ∑ s ∈ Finset.range (n % J + 1), part T (f ⟨n, h⟩) s
  | 0, h => by rw [start ⟨0, h⟩ (Nat.zero_mod _), Nat.zero_mod, Finset.sum_range_one]
  | n + 1, h => by
    by_cases h0 : (n + 1) % J = 0
    · rw [start ⟨n + 1, h⟩ h0, h0, Finset.sum_range_one]
    · have hm : (n + 1) % J = n % J + 1 := by
        rcases Nat.eq_zero_or_pos J with rfl | hJ
        · simp only [Nat.mod_zero]
        · have hlt := Nat.mod_lt n hJ
          rcases Nat.lt_or_ge (n % J + 1) J with hl | hl
          · rw [Nat.add_mod, Nat.mod_eq_of_lt (a := n % J + 1 % J)] <;>
              rw [Nat.mod_eq_of_lt (show 1 < J by omega)]
            exact hl
          · exfalso
            apply h0
            have : n + 1 = J * (n / J) + J := by have := Nat.div_add_mod n J; omega
            rw [this, Nat.mul_add_mod, Nat.mod_self]
      rw [step n h h0, same n h h0, fold J T held f start step same n (Nat.lt_of_succ_lt h), hm, Finset.sum_range_succ _ (n % J + 1)]

end Cert.Tiles

end
-- ==== Proof.ProjInProof.lean ====
/- `proj_in`: the product of the normed rows with the projection's weight, which is given as the shards of the four chips side by
   side, against the product on the whole arrays. -/
module

public import proofs.«01_k».proof.Defs
public import Idealize.ShloMosaic.Lib.Quiescent
public import Idealize.ShloMosaic.Lib.Pointwise
public import proofs.«01_k».proof.Proof.Tiles
public import proofs.«01_k».proof.Proof.Gen.ProjIn.Frame
public import proofs.«01_k».proof.Proof.Gen.ProjInIdeal.Value
public import proofs.«01_k».proof.Proof.Gen.ProjInRefIdeal.Run

@[expose] public section

noncomputable section

namespace Cert.ProjInProof

open Idealize.ShloMosaic Idealize.ShloMosaic.TcCoe Idealize.SL.Sem
open Cert.ProjInIdeal Cert.ProjInIdeal.Gen

/-- Row `a` of point `t`'s block of rows, in the whole array, and column `b` of its block of columns. -/
abbrev row (t : Fin cfg0.N) (a : Fin 512) : Fin 8192 :=
  ⟨t.val / 4 * 512 + a.val, by have h : t.val < 64 := t.isLt; omega⟩
abbrev col (t : Fin cfg0.N) (b : Fin 1792) : Fin 7168 := ⟨t.val % 4 * 1792 + b.val, by omega⟩
/-- The chip whose shard holds point `t`'s columns. -/
abbrev chip (t : Fin cfg0.N) : Fin 4 := ⟨t.val % 4, by omega⟩

/-- Where the blocks of point `t` lie. -/
theorem places : ∀ t : Fin cfg0.N, (win0_0.index t (0 : Fin 2) = t.val / 4 ∧ win0_0.index t (1 : Fin 2) = 0)
    ∧ (win0_1.index t (0 : Fin 3) = t.val % 4 ∧ win0_1.index t (1 : Fin 3) = 0 ∧ win0_1.index t (2 : Fin 3) = 0)
    ∧ (win0_2.index t (0 : Fin 2) = t.val / 4 ∧ win0_2.index t (1 : Fin 2) = t.val % 4) :=
  (by decide +kernel : ∀ t : Fin grid0.N, _)

variable (m : (ℓ : Loc nD τ sig) → Buf (Elt Ideal) ℓ)

theorem in0 (c : Dev nD) (t : Fin cfg0.N) (j : S512x2048.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 512 + 1 * (j 0).val = t.val / 4 * 512 + (j 0).val; omega
  · show win0_0.index t (1 : Fin 2) * 2048 + 1 * (j 1).val = (j 1).val; omega

theorem in1 (c : Dev nD) (t : Fin cfg0.N) (j : S1x2048x1792.Idx) :
    iblk m c 1 t j = m ((c : Thread nD τ).loc main_arg1) (ix3 (chip t) (j 1) (j 2)) := by
  obtain ⟨-, ⟨e0, e1, e2⟩, -⟩ := places t
  have h0 : (j 0).val < 1 := (j 0).isLt
  refine Eq.trans ?_ (congrFun (V_main_arg1 m c) _)
  refine congrArg (V m c main_arg1) (Tiles.idx_ext₃ ?_ ?_ ?_)
  · show win0_1.index t (0 : Fin 3) * 1 + 1 * (j 0).val = t.val % 4; omega
  · show win0_1.index t (1 : Fin 3) * 2048 + 1 * (j 1).val = (j 1).val; omega
  · show win0_1.index t (2 : Fin 3) * 1792 + 1 * (j 2).val = (j 2).val; omega

/-- The product: column `1792 p + b` of the result is of column `b` of chip `p`'s shard. -/
abbrev prod (u : FVec Ideal S8192x2048 .bf16) (w : FVec Ideal S4x2048x1792 .bf16) : FVec Ideal S8192x7168 .f32 := fun i =>
  ∑ k : Fin 2048, u (ix2 (i 0) k) * w (ix3 ⟨(i 1).val / 1792, by have h : (i 1).val < 7168 := (i 1).isLt; omega⟩ k ⟨(i 1).val % 1792, by omega⟩)

theorem hz : (![0, 0] : Fin 2 → Nat) = fun _ => 0 := by decide
theorem hz3 : (![0, 0, 0] : Fin 3 → Nat) = fun _ => 0 := by decide

/-- What point `t` writes back is its block of the product. -/
theorem flushed (c : Dev nD) (t : Fin cfg0.N) :
    (dats m 0 c).flushed 2 t = ((cfg0.win 2).blk t).view.read (Elt Ideal)
      (prod (m ((c : Thread nD τ).loc main_arg0)) (m ((c : Thread nD τ).loc main_arg1))) := by
  rw [Cert.ProjInIdeal.Value.flushed2]
  obtain ⟨-, -, e0, e1⟩ := places t
  funext j
  show out0_2 (iblk m c 0 t) (iblk m c 1 t) j = prod _ _ (((cfg0.win 2).blk t).view.emb j)
  have hj : ((cfg0.win 2).blk t).view.emb j = ix2 (row t (j 0)) (col t (j 1)) := Shape.idx_ext₂
    (by show win0_2.index t (0 : Fin 2) * 512 + 1 * (j 0).val = t.val / 4 * 512 + (j 0).val; omega)
    (by show win0_2.index t (1 : Fin 2) * 1792 + 1 * (j 1).val = t.val % 4 * 1792 + (j 1).val; omega)
  rw [hj]
  unfold out0_2
  rw [View.canon_unit_zero hz]
  simp only [View.ld_unit_zero (S := S512x2048) hz, View.ld_unit_zero (S := S1x2048x1792) hz3]
  pointwise [k0_pay1]
  simp only [in0, in1]
  refine Finset.sum_congr rfl fun k _ => congrArg _ (congrArg _ (Tiles.idx_ext₃ ?_ rfl ?_))
  · show t.val % 4 = (t.val % 4 * 1792 + (j 1).val) / 1792; have h : (j 1).val < 1792 := (j 1).isLt; omega
  · show (j 1).val = (t.val % 4 * 1792 + (j 1).val) % 1792; have h : (j 1).val < 1792 := (j 1).isLt; omega

/-- Every element is some point's. -/
theorem covered (i : S8192x7168.Idx) :
    ∃ t : Fin cfg0.N, (cfg0.win 2).flush t = true ∧ i ∈ ((cfg0.win 2).blk t).view.set := by
  have h0 : (i 0).val < 8192 := (i 0).isLt
  have h1 : (i 1).val < 7168 := (i 1).isLt
  let t : Fin cfg0.N := ⟨(i 0).val / 512 * 4 + (i 1).val / 1792, by show _ < 64; omega⟩
  have ht : t.val = (i 0).val / 512 * 4 + (i 1).val / 1792 := rfl
  obtain ⟨-, -, e0, e1⟩ := places t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1792 ≤ (i 1).val ∧ (i 1).val < win0_2.index t (1 : Fin 2) * 1792 + 1792; omega

theorem final (c : Dev nD) : (dats m 0 c).arrAt 2 cfg0.N
    = prod (m ((c : Thread nD τ).loc main_arg0)) (m ((c : Thread nD τ).loc main_arg1)) :=
  (dats m 0 c).arrAt_eq_of_cover 2 _ (fun t _ => flushed m c t) covered

theorem quiescent_kernel : Cert.quiescent_ProjIn := fun m g _ => Cert.ProjIn.Gen.frame m g
theorem quiescent_kernel_ideal : Cert.quiescent_ProjInIdeal := fun m g _ => Cert.ProjInIdeal.Gen.frame m g
theorem quiescent_ref_ideal : Cert.quiescent_ProjInRefIdeal := fun m g _ =>
  (θ_run _ _ _).mono (fun r h => ⟨fun c => (h c).2, sem_eq_zero_of_no_sems (by decide) r.2⟩)
    (Cert.ProjInRefIdeal.Value.run m g)

theorem algebraic : Cert.algebraic_ProjInIdeal_ProjInRefIdeal := fun m g m' g' _ hm =>
  ⟨_, Cert.ProjInIdeal.Value.run_blocks m g, (θ_run Cert.ProjInRefIdeal.defs _ _).mono (fun r h c => by
    obtain ⟨h0, hk⟩ := h c
    obtain ⟨e0, e1⟩ := hm c
    refine ⟨h0.trans ?_, hk⟩
    rw [e0, e1, final]
    funext i
    pointwise) (Cert.ProjInRefIdeal.Value.run m' g')⟩

end Cert.ProjInProof

end
-- ==== Proof.ProjOutProof.lean ====
/- `proj_out`: the product with the out projection's weight, added to the rows, against the same on the whole arrays. -/
module

public import proofs.«01_k».proof.Defs
public import Idealize.ShloMosaic.Lib.Quiescent
public import Idealize.ShloMosaic.Lib.Pointwise
public import proofs.«01_k».proof.Proof.Tiles
public import proofs.«01_k».proof.Proof.Gen.ProjOut.Frame
public import proofs.«01_k».proof.Proof.Gen.ProjOutIdeal.Value
public import proofs.«01_k».proof.Proof.Gen.ProjOutRefIdeal.Run

@[expose] public section

set_option maxRecDepth 65536

noncomputable section

namespace Cert.ProjOutProof

open Idealize.ShloMosaic Idealize.ShloMosaic.TcCoe Idealize.SL.Sem
open Cert.ProjOutIdeal Cert.ProjOutIdeal.Gen

/-- Row `a` of point `t`'s block of rows and column `b` of its block of columns, in the whole arrays. -/
abbrev row (t : Fin cfg0.N) (a : Fin 1024) : Fin 8192 := ⟨t.val / 2 * 1024 + a.val, by have h : t.val < 16 := t.isLt; omega⟩
abbrev col (t : Fin cfg0.N) (b : Fin 1024) : Fin 2048 := ⟨t.val % 2 * 1024 + b.val, by omega⟩

/-- Where the blocks of point `t` lie. -/
theorem places : ∀ t : Fin cfg0.N, (win0_0.index t (0 : Fin 2) = t.val / 2 ∧ win0_0.index t (1 : Fin 2) = 0)
    ∧ (win0_1.index t (0 : Fin 3) = 0 ∧ win0_1.index t (1 : Fin 3) = 0 ∧ win0_1.index t (2 : Fin 3) = t.val % 2)
    ∧ (win0_2.index t (0 : Fin 2) = t.val / 2 ∧ win0_2.index t (1 : Fin 2) = t.val % 2)
    ∧ (win0_3.index t (0 : Fin 2) = t.val / 2 ∧ win0_3.index t (1 : Fin 2) = t.val % 2) :=
  (by decide +kernel : ∀ t : Fin grid0.N, _)

variable (m : (ℓ : Loc nD τ sig) → Buf (Elt Ideal) ℓ)

theorem in0 (c : Dev nD) (t : Fin cfg0.N) (j : S1024x2048.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val / 2 * 1024 + (j 0).val; omega
  · show win0_0.index t (1 : Fin 2) * 2048 + 1 * (j 1).val = (j 1).val; omega

theorem in1 (c : Dev nD) (t : Fin cfg0.N) (j : S1x2048x1024.Idx) :
    iblk m c 1 t j = m ((c : Thread nD τ).loc main_arg1) (ix3 0 (j 1) (col t (j 2))) := by
  obtain ⟨-, ⟨e0, e1, e2⟩, -⟩ := places t
  have b0 : (j 0).val < 1 := (j 0).isLt
  refine Eq.trans ?_ (congrFun (V_main_arg1 m c) _)
  refine congrArg (V m c main_arg1) (Tiles.idx_ext₃ ?_ ?_ ?_)
  · show win0_1.index t (0 : Fin 3) * 1 + 1 * (j 0).val = 0; omega
  · show win0_1.index t (1 : Fin 3) * 2048 + 1 * (j 1).val = (j 1).val; omega
  · show win0_1.index t (2 : Fin 3) * 1024 + 1 * (j 2).val = t.val % 2 * 1024 + (j 2).val; omega

theorem in2 (c : Dev nD) (t : Fin cfg0.N) (j : S1024x1024.Idx) :
    iblk m c 2 t j = m ((c : Thread nD τ).loc main_arg2) (ix2 (row t (j 0)) (col t (j 1))) := by
  obtain ⟨-, -, ⟨e0, e1⟩, -⟩ := places t
  refine Eq.trans ?_ (congrFun (V_main_arg2 m c) _)
  refine congrArg (V m c main_arg2) (Shape.idx_ext₂ ?_ ?_)
  · show win0_2.index t (0 : Fin 2) * 1024 + 1 * (j 0).val = t.val / 2 * 1024 + (j 0).val; omega
  · show win0_2.index t (1 : Fin 2) * 1024 + 1 * (j 1).val = t.val % 2 * 1024 + (j 1).val; omega

/-- The product at row `r` and column `l`. -/
abbrev prod (u : FVec Ideal S8192x2048 .bf16) (w : FVec Ideal S1x2048x2048 .bf16) (r : Fin 8192) (l : Fin 2048) : EReal :=
  ∑ k : Fin 2048, u (ix2 r k) * w (ix3 0 k l)

/-- The rows and the product. -/
abbrev sum (u : FVec Ideal S8192x2048 .bf16) (w : FVec Ideal S1x2048x2048 .bf16) (x : FVec Ideal S8192x2048 .f32) : FVec Ideal S8192x2048 .f32 := fun i =>
  x i + prod u w (i 0) (i 1)

theorem hz : (![0, 0] : Fin 2 → Nat) = fun _ => 0 := by decide
theorem hz3 : (![0, 0, 0] : Fin 3 → Nat) = fun _ => 0 := by decide

/-- What point `t` writes back is its block. -/
theorem flushed (c : Dev nD) (t : Fin cfg0.N) :
    (dats m 0 c).flushed 3 t = ((cfg0.win 3).blk t).view.read (Elt Ideal)
      (sum (m ((c : Thread nD τ).loc main_arg0)) (m ((c : Thread nD τ).loc main_arg1)) (m ((c : Thread nD τ).loc main_arg2))) := by
  rw [Cert.ProjOutIdeal.Value.flushed3]
  obtain ⟨-, -, -, e0, e1⟩ := places t
  funext j
  show out0_3 (iblk m c 0 t) (iblk m c 1 t) (iblk m c 2 t) j = sum _ _ _ (((cfg0.win 3).blk t).view.emb j)
  have hj : ((cfg0.win 3).blk t).view.emb j = (ix2 (row t (j 0)) (col t (j 1))) := Shape.idx_ext₂
    (by show win0_3.index t (0 : Fin 2) * 1024 + 1 * (j 0).val = t.val / 2 * 1024 + (j 0).val; omega)
    (by show win0_3.index t (1 : Fin 2) * 1024 + 1 * (j 1).val = t.val % 2 * 1024 + (j 1).val; omega)
  rw [hj]
  unfold out0_3
  rw [View.canon_unit_zero hz]
  simp only [View.ld_unit_zero (S := S1024x2048) hz, View.ld_unit_zero (S := S1x2048x1024) hz3, View.ld_unit_zero (S := S1024x1024) hz]
  pointwise [k0_pay1]
  simp only [in0, in1, in2]
  exact add_comm _ _

/-- Every element is some point's. -/
theorem covered (i : S8192x2048.Idx) :
    ∃ t : Fin cfg0.N, (cfg0.win 3).flush t = true ∧ i ∈ ((cfg0.win 3).blk t).view.set := by
  have h0 : (i 0).val < 8192 := (i 0).isLt
  have h1 : (i 1).val < 2048 := (i 1).isLt
  let t : Fin cfg0.N := ⟨(i 0).val / 1024 * 2 + (i 1).val / 1024, by show _ < 16; omega⟩
  have ht : t.val = (i 0).val / 1024 * 2 + (i 1).val / 1024 := rfl
  obtain ⟨-, -, -, e0, e1⟩ := places t
  refine ⟨t, flush0_3 t, ?_⟩
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

theorem final (c : Dev nD) : (dats m 0 c).arrAt 3 cfg0.N
    = sum (m ((c : Thread nD τ).loc main_arg0)) (m ((c : Thread nD τ).loc main_arg1)) (m ((c : Thread nD τ).loc main_arg2)) :=
  (dats m 0 c).arrAt_eq_of_cover 3 _ (fun t _ => flushed m c t) covered

/-- The reference's operations, read. -/
theorem value (u : FVec Ideal S8192x2048 .bf16) (w : FVec Ideal S1x2048x2048 .bf16) (x : FVec Ideal S8192x2048 .f32) :
    addf x (Host.dotGeneral Cert.ProjOutRefIdeal.dot_S8192x2048_S2048x2048_S8192x2048_1_0_0_1_n_n none u
      (shapeCast _ w Cert.ProjOutRefIdeal.Gen.shapeCasts_S1x2048x2048_S2048x2048))
      = sum u w x := by
  funext i
  show x i + _ = x i + _
  congr 1
  pointwise

theorem quiescent_kernel : Cert.quiescent_ProjOut := fun m g _ => Cert.ProjOut.Gen.frame m g
theorem quiescent_kernel_ideal : Cert.quiescent_ProjOutIdeal := fun m g _ => Cert.ProjOutIdeal.Gen.frame m g
theorem quiescent_ref_ideal : Cert.quiescent_ProjOutRefIdeal := fun m g _ =>
  (θ_run _ _ _).mono (fun r h => ⟨fun c => (h c).2, sem_eq_zero_of_no_sems (by decide) r.2⟩)
    (Cert.ProjOutRefIdeal.Value.run m g)

theorem algebraic : Cert.algebraic_ProjOutIdeal_ProjOutRefIdeal := fun m g m' g' _ hm =>
  ⟨_, Cert.ProjOutIdeal.Value.run_blocks m g, (θ_run Cert.ProjOutRefIdeal.defs _ _).mono (fun r h c => by
    obtain ⟨h0, hk⟩ := h c
    obtain ⟨e0, e1, e2⟩ := hm c
    refine ⟨h0.trans ?_, hk⟩
    rw [e0, e1, e2, final]
    exact value _ _ _) (Cert.ProjOutRefIdeal.Value.run m' g')⟩

end Cert.ProjOutProof

end
-- ==== Proof.MlpUpProof.lean ====
/- `mlp_up`: the product with the first weight of the MLP, which is given as the shards of the four chips side by side, and the square
   of its positive part, against the same on the whole arrays. -/
module

public import proofs.«01_k».proof.Defs
public import Idealize.ShloMosaic.Lib.Quiescent
public import Idealize.ShloMosaic.Lib.Pointwise
public import proofs.«01_k».proof.Proof.Tiles
public import proofs.«01_k».proof.Proof.Gen.MlpUp.Frame
public import proofs.«01_k».proof.Proof.Gen.MlpUpIdeal.Value
public import proofs.«01_k».proof.Proof.Gen.MlpUpRefIdeal.Run

@[expose] public section

set_option maxRecDepth 65536

noncomputable section

namespace Cert.MlpUpProof

open Idealize.ShloMosaic Idealize.ShloMosaic.TcCoe Idealize.SL.Sem
open Cert.MlpUpIdeal Cert.MlpUpIdeal.Gen

/-- Row `a` of point `t`'s block of rows and column `b` of its block of columns, in the whole arrays. -/
abbrev row (t : Fin cfg0.N) (a : Fin 1024) : Fin 8192 := ⟨t.val / 8 * 1024 + a.val, by have h : t.val < 64 := t.isLt; omega⟩
abbrev col (t : Fin cfg0.N) (b : Fin 1024) : Fin 8192 := ⟨t.val % 8 * 1024 + b.val, by omega⟩
/-- The chip whose shard holds point `t`'s columns, and where in the shard. -/
abbrev chip (t : Fin cfg0.N) : Fin 4 := ⟨t.val % 8 / 2, by omega⟩
abbrev within (t : Fin cfg0.N) (b : Fin 1024) : Fin 2048 := ⟨t.val % 2 * 1024 + b.val, by omega⟩

/-- Where the blocks of point `t` lie. -/
theorem places : ∀ t : Fin cfg0.N, (win0_0.index t (0 : Fin 2) = t.val / 8 ∧ win0_0.index t (1 : Fin 2) = 0)
    ∧ (win0_1.index t (0 : Fin 3) = t.val % 8 / 2 ∧ win0_1.index t (1 : Fin 3) = 0 ∧ win0_1.index t (2 : Fin 3) = t.val % 2)
    ∧ (win0_2.index t (0 : Fin 2) = t.val / 8 ∧ win0_2.index t (1 : Fin 2) = t.val % 8)
    ∧ (win0_3.index t (0 : Fin 2) = t.val / 8 ∧ win0_3.index t (1 : Fin 2) = t.val % 8) :=
  (by decide +kernel : ∀ t : Fin grid0.N, _)

variable (m : (ℓ : Loc nD τ sig) → Buf (Elt Ideal) ℓ)

theorem in0 (c : Dev nD) (t : Fin cfg0.N) (j : S1024x2048.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val / 8 * 1024 + (j 0).val; omega
  · show win0_0.index t (1 : Fin 2) * 2048 + 1 * (j 1).val = (j 1).val; omega

theorem in1 (c : Dev nD) (t : Fin cfg0.N) (j : S1x2048x1024.Idx) :
    iblk m c 1 t j = m ((c : Thread nD τ).loc main_arg1) (ix3 (chip t) (j 1) (within t (j 2))) := by
  obtain ⟨-, ⟨e0, e1, e2⟩, -⟩ := places t
  have b0 : (j 0).val < 1 := (j 0).isLt
  refine Eq.trans ?_ (congrFun (V_main_arg1 m c) _)
  refine congrArg (V m c main_arg1) (Tiles.idx_ext₃ ?_ ?_ ?_)
  · show win0_1.index t (0 : Fin 3) * 1 + 1 * (j 0).val = t.val % 8 / 2; omega
  · show win0_1.index t (1 : Fin 3) * 2048 + 1 * (j 1).val = (j 1).val; omega
  · show win0_1.index t (2 : Fin 3) * 1024 + 1 * (j 2).val = t.val % 2 * 1024 + (j 2).val; omega

/-- The product at row `r` and column `l`, which is column `l mod 2048` of the shard of chip `l / 2048`. -/
abbrev prod (u : FVec Ideal S8192x2048 .bf16) (w : FVec Ideal S4x2048x2048 .bf16) (r : Fin 8192) (l : Fin 8192) : EReal :=
  ∑ k : Fin 2048, u (ix2 r k) * w (ix3 ⟨l.val / 2048, by omega⟩ k ⟨l.val % 2048, by omega⟩)

/-- The product. -/
abbrev up (u : FVec Ideal S8192x2048 .bf16) (w : FVec Ideal S4x2048x2048 .bf16) : FVec Ideal S8192x8192 .bf16 := fun i =>
  prod u w (i 0) (i 1)

/-- The square of its positive part. -/
abbrev act (u : FVec Ideal S8192x2048 .bf16) (w : FVec Ideal S4x2048x2048 .bf16) : FVec Ideal S8192x8192 .bf16 := fun i =>
  max (prod u w (i 0) (i 1)) 0 * max (prod u w (i 0) (i 1)) 0

theorem hz : (![0, 0] : Fin 2 → Nat) = fun _ => 0 := by decide
theorem hz3 : (![0, 0, 0] : Fin 3 → Nat) = fun _ => 0 := by decide

/-- At point `t` the product is of columns of one shard. -/
theorem shard (t : Fin cfg0.N) (u : FVec Ideal S8192x2048 .bf16) (w : FVec Ideal S4x2048x2048 .bf16) (a b : Fin 1024) :
    ∑ k : Fin 2048, u (ix2 (row t a) k) * w (ix3 (chip t) k (within t b)) = prod u w (row t a) (col t b) :=
  Finset.sum_congr rfl fun k _ => congrArg _ (congrArg _ (Tiles.idx_ext₃
    (by show t.val % 8 / 2 = (t.val % 8 * 1024 + b.val) / 2048; omega) rfl
    (by show t.val % 2 * 1024 + b.val = (t.val % 8 * 1024 + b.val) % 2048; omega)))

/-- What point `t` writes back is its block. -/
theorem flushed2 (c : Dev nD) (t : Fin cfg0.N) :
    (dats m 0 c).flushed 2 t = ((cfg0.win 2).blk t).view.read (Elt Ideal)
      (up (m ((c : Thread nD τ).loc main_arg0)) (m ((c : Thread nD τ).loc main_arg1))) := by
  rw [Cert.MlpUpIdeal.Value.flushed2]
  obtain ⟨-, -, ⟨e0, e1⟩, -⟩ := places t
  funext j
  show out0_2 (iblk m c 0 t) (iblk m c 1 t) j = up _ _ (((cfg0.win 2).blk t).view.emb j)
  have hj : ((cfg0.win 2).blk t).view.emb j = (ix2 (row t (j 0)) (col t (j 1))) := Shape.idx_ext₂
    (by show win0_2.index t (0 : Fin 2) * 1024 + 1 * (j 0).val = t.val / 8 * 1024 + (j 0).val; omega)
    (by show win0_2.index t (1 : Fin 2) * 1024 + 1 * (j 1).val = t.val % 8 * 1024 + (j 1).val; omega)
  rw [hj]
  unfold out0_2
  rw [View.canon_unit_zero hz]
  simp only [View.ld_unit_zero (S := S1024x2048) hz, View.ld_unit_zero (S := S1x2048x1024) hz3]
  pointwise [k0_pay2, k0_pay1]
  simp only [in0, in1]
  exact shard t _ _ (j 0) (j 1)

/-- Every element is some point's. -/
theorem covered2 (i : S8192x8192.Idx) :
    ∃ t : Fin cfg0.N, (cfg0.win 2).flush t = true ∧ i ∈ ((cfg0.win 2).blk t).view.set := by
  have h0 : (i 0).val < 8192 := (i 0).isLt
  have h1 : (i 1).val < 8192 := (i 1).isLt
  let t : Fin cfg0.N := ⟨(i 0).val / 1024 * 8 + (i 1).val / 1024, by show _ < 64; omega⟩
  have ht : t.val = (i 0).val / 1024 * 8 + (i 1).val / 1024 := rfl
  obtain ⟨-, -, ⟨e0, e1⟩, -⟩ := places t
  refine ⟨t, flush0_2 t, ?_⟩
  show i ∈ ((View.whole main_v0_0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem final2 (c : Dev nD) : (dats m 0 c).arrAt 2 cfg0.N
    = up (m ((c : Thread nD τ).loc main_arg0)) (m ((c : Thread nD τ).loc main_arg1)) :=
  (dats m 0 c).arrAt_eq_of_cover 2 _ (fun t _ => flushed2 m c t) covered2

/-- What point `t` writes back is its block. -/
theorem flushed3 (c : Dev nD) (t : Fin cfg0.N) :
    (dats m 0 c).flushed 3 t = ((cfg0.win 3).blk t).view.read (Elt Ideal)
      (act (m ((c : Thread nD τ).loc main_arg0)) (m ((c : Thread nD τ).loc main_arg1))) := by
  rw [Cert.MlpUpIdeal.Value.flushed3]
  obtain ⟨-, -, -, e0, e1⟩ := places t
  funext j
  show out0_3 (iblk m c 0 t) (iblk m c 1 t) j = act _ _ (((cfg0.win 3).blk t).view.emb j)
  have hj : ((cfg0.win 3).blk t).view.emb j = (ix2 (row t (j 0)) (col t (j 1))) := Shape.idx_ext₂
    (by show win0_3.index t (0 : Fin 2) * 1024 + 1 * (j 0).val = t.val / 8 * 1024 + (j 0).val; omega)
    (by show win0_3.index t (1 : Fin 2) * 1024 + 1 * (j 1).val = t.val % 8 * 1024 + (j 1).val; omega)
  rw [hj]
  unfold out0_3
  rw [View.canon_unit_zero hz]
  simp only [View.ld_unit_zero (S := S1024x2048) hz, View.ld_unit_zero (S := S1x2048x1024) hz3]
  pointwise [k0_pay3, k0_pay1]
  simp only [in0, in1]
  exact congrArg (fun z : EReal => max z 0 * max z 0) (shard t _ _ (j 0) (j 1))

/-- Every element is some point's. -/
theorem covered3 (i : S8192x8192.Idx) :
    ∃ t : Fin cfg0.N, (cfg0.win 3).flush t = true ∧ i ∈ ((cfg0.win 3).blk t).view.set := by
  have h0 : (i 0).val < 8192 := (i 0).isLt
  have h1 : (i 1).val < 8192 := (i 1).isLt
  let t : Fin cfg0.N := ⟨(i 0).val / 1024 * 8 + (i 1).val / 1024, by show _ < 64; omega⟩
  have ht : t.val = (i 0).val / 1024 * 8 + (i 1).val / 1024 := rfl
  obtain ⟨-, -, -, e0, e1⟩ := places t
  refine ⟨t, flush0_3 t, ?_⟩
  show i ∈ ((View.whole main_v0_1).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

theorem final3 (c : Dev nD) : (dats m 0 c).arrAt 3 cfg0.N
    = act (m ((c : Thread nD τ).loc main_arg0)) (m ((c : Thread nD τ).loc main_arg1)) :=
  (dats m 0 c).arrAt_eq_of_cover 3 _ (fun t _ => flushed3 m c t) covered3

theorem quiescent_kernel : Cert.quiescent_MlpUp := fun m g _ => Cert.MlpUp.Gen.frame m g
theorem quiescent_kernel_ideal : Cert.quiescent_MlpUpIdeal := fun m g _ => Cert.MlpUpIdeal.Gen.frame m g
theorem quiescent_ref_ideal : Cert.quiescent_MlpUpRefIdeal := fun m g _ =>
  (θ_run _ _ _).mono (fun r h => ⟨fun c => (h c).2.2, sem_eq_zero_of_no_sems (by decide) r.2⟩)
    (Cert.MlpUpRefIdeal.Value.run m g)

theorem algebraic : Cert.algebraic_MlpUpIdeal_MlpUpRefIdeal := fun m g m' g' _ hm =>
  ⟨_, _, Cert.MlpUpIdeal.Value.run_blocks m g, (θ_run Cert.MlpUpRefIdeal.defs _ _).mono (fun r h c => by
    obtain ⟨h0, h1, hk⟩ := h c
    obtain ⟨e0, e1⟩ := hm c
    refine ⟨h0.trans ?_, h1.trans ?_, hk⟩
    · rw [e0, e1, final2]
      funext i
      pointwise
    · rw [e0, e1, final3]
      funext i
      pointwise) (Cert.MlpUpRefIdeal.Value.run m' g')⟩

end Cert.MlpUpProof

end
-- ==== Proof.MlpDownProof.lean ====
/- `mlp_down`: the product with the second weight of the MLP, added to the rows. Each block is accumulated over four blocks of the
   sum; against the product on the whole arrays. -/
module

public import proofs.«01_k».proof.Defs
public import Idealize.ShloMosaic.Lib.Quiescent
public import Idealize.ShloMosaic.Lib.Pointwise
public import Idealize.ShloMosaic.Lib.Tactic
public import proofs.«01_k».proof.Proof.Tiles
public import proofs.«01_k».proof.Proof.Gen.MlpDown.Frame
public import proofs.«01_k».proof.Proof.Gen.MlpDownIdeal.Value
public import proofs.«01_k».proof.Proof.Gen.MlpDownRefIdeal.Run

@[expose] public section

set_option maxRecDepth 65536

noncomputable section

namespace Cert.MlpDownProof

open Idealize.ShloMosaic Idealize.ShloMosaic.TcCoe Idealize.SL.Sem
open Cert.MlpDownIdeal Cert.MlpDownIdeal.Gen

/-- Row `a` of point `t`'s block of rows and column `b` of its block of columns, in the whole arrays, and position `a` of the block
    that it sums over. -/
abbrev row (t : Fin cfg0.N) (a : Fin 1024) : Fin 8192 := ⟨t.val / 8 * 1024 + a.val, by have h : t.val < 64 := t.isLt; omega⟩
abbrev col (t : Fin cfg0.N) (b : Fin 1024) : Fin 2048 := ⟨t.val / 4 % 2 * 1024 + b.val, by omega⟩
abbrev mid (t : Fin cfg0.N) (a : Fin 2048) : Fin 8192 := ⟨t.val % 4 * 2048 + a.val, by omega⟩

/-- Where the blocks of point `t` lie. -/
theorem places : ∀ t : Fin cfg0.N, (win0_0.index t (0 : Fin 2) = t.val / 8 ∧ win0_0.index t (1 : Fin 2) = t.val % 4)
    ∧ (win0_1.index t (0 : Fin 3) = 0 ∧ win0_1.index t (1 : Fin 3) = t.val % 4 ∧ win0_1.index t (2 : Fin 3) = t.val / 4 % 2)
    ∧ (win0_2.index t (0 : Fin 2) = t.val / 8 ∧ win0_2.index t (1 : Fin 2) = t.val / 4 % 2)
    ∧ (win0_3.index t (0 : Fin 2) = t.val / 8 ∧ win0_3.index t (1 : Fin 2) = t.val / 4 % 2) :=
  (by decide +kernel : ∀ t : Fin grid0.N, _)

theorem hz : (![0, 0] : Fin 2 → Nat) = fun _ => 0 := by decide
theorem hz3 : (![0, 0, 0] : Fin 3 → Nat) = fun _ => 0 := by decide

/-! ## The body's cases -/

section Cases

variable (c : Dev nD) (i : grid0.Coords) (a1 : Memref sig .tc .vmem S1024x2048 .bf16) (h1 : a1.IsWhole) (a2 : Memref sig .tc .vmem S1x2048x1024 .bf16) (h2 : a2.IsWhole) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole)
  (x0 : Vec Ideal S1024x2048 .bf16) (x1 : Vec Ideal S1x2048x1024 .bf16) (x2 : Vec Ideal S1024x1024 .f32)

theorem held_A (hc : cond0_0 i) (hd : ¬cond0_1 i) : sout0_A_0 c i a1 h1 a2 h2 a3 h3 a4 h4 a5 h5 hc hd x0 x1 x2 = k0_pay2 (k0_pay1 (F := Ideal)) x0 x1 := by
  unfold sout0_A_0
  rw [View.read_writes_eq_canon _ _ _ (scover0_A_0 c i a1 h1 a2 h2 a3 h3 a4 h4 a5 h5 hc hd x0 x1 x2)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread, h5.read_unread,
    View.ld_unit_zero (S := S1024x2048) hz, View.ld_unit_zero (S := S1x2048x1024) hz3, View.ld_unit_zero (S := S1024x1024) hz]

theorem held_B (hc : ¬cond0_0 i) (hd : ¬cond0_1 i) (xs : Vec Ideal S1024x1024 .f32) :
    sout0_B_0 c i a1 h1 a2 h2 a3 h3 a4 h4 a5 h5 hc hd x0 x1 x2 xs = k0_pay2 xs x0 x1 := by
  unfold sout0_B_0
  rw [View.read_writes_eq_canon _ _ _ (scover0_B_0 c i a1 h1 a2 h2 a3 h3 a4 h4 a5 h5 hc hd x0 x1 x2 xs)]
  unfold kernelRun0_B
  dsimp only
  sl_unfold_words
  rw [View.canon_unit_zero hz]
  simp only [View.readAt_eq_ld, h1.read_unread, h2.read_unread, h3.read_unread, h4.read_unread, h5.read_unread,
    View.ld_unit_zero (S := S1024x2048) hz, View.ld_unit_zero (S := S1x2048x1024) hz3, View.ld_unit_zero (S := S1024x1024) hz]

theorem held_C (hc : ¬cond0_0 i) (hd : cond0_1 i) (xs : Vec Ideal S1024x1024 .f32) :
    sout0_C_0 c i a1 h1 a2 h2 a3 h3 a4 h4 a5 h5 hc hd x0 x1 x2 xs = k0_pay2 xs x0 x1 := by
  unfold sout0_C_0
  rw [View.read_writes_eq_canon _ _ _ (scover0_C_0 c i a1 h1 a2 h2 a3 h3 a4 h4 a5 h5 hc hd x0 x1 x2 xs)]
  unfold kernelRun0_C
  dsimp only
  sl_unfold_words
  rw [View.canon_unit_zero hz]
  simp only [View.readAt_eq_ld, h1.read_unread, h2.read_unread, h3.read_unread, h4.read_unread, h5.read_unread,
    View.ld_unit_zero (S := S1024x2048) hz, View.ld_unit_zero (S := S1x2048x1024) hz3, View.ld_unit_zero (S := S1024x1024) hz]

theorem out_C (hc : ¬cond0_0 i) (hd : cond0_1 i) (xs : Vec Ideal S1024x1024 .f32) :
    out0_C_3 c i a1 h1 a2 h2 a3 h3 a4 h4 a5 h5 hc hd x0 x1 x2 xs = k0_pay3 (k0_pay2 xs x0 x1) x2 := by
  unfold out0_C_3
  rw [View.read_writes_eq_canon _ _ _ (cover0_C_3 c i a1 h1 a2 h2 a3 h3 a4 h4 a5 h5 hc hd x0 x1 x2 xs)]
  unfold kernelRun0_C
  dsimp only
  sl_unfold_words
  rw [View.canon_unit_zero hz, View.readCov_unit_zero (S := S1024x1024) _ hz]
  simp only [View.readAt_eq_ld, h1.read_unread, h2.read_unread, h3.read_unread, h4.read_unread, h5.read_unread,
    View.ld_unit_zero (S := S1024x2048) hz, View.ld_unit_zero (S := S1x2048x1024) hz3, View.ld_unit_zero (S := S1024x1024) hz]

end Cases

/-! ## The blocks -/

variable (m : (ℓ : Loc nD τ sig) → Buf (Elt Ideal) ℓ)

theorem in0 (c : Dev nD) (t : Fin cfg0.N) (j : S1024x2048.Idx) :
    iblk m c 0 t j = m ((c : Thread nD τ).loc main_arg0) (ix2 (row t (j 0)) (mid t (j 1))) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val / 8 * 1024 + (j 0).val; omega
  · show win0_0.index t (1 : Fin 2) * 2048 + 1 * (j 1).val = t.val % 4 * 2048 + (j 1).val; omega

theorem in1 (c : Dev nD) (t : Fin cfg0.N) (j : S1x2048x1024.Idx) :
    iblk m c 1 t j = m ((c : Thread nD τ).loc main_arg1) (ix3 0 (mid t (j 1)) (col t (j 2))) := by
  obtain ⟨-, ⟨e0, e1, e2⟩, -⟩ := places t
  have b0 : (j 0).val < 1 := (j 0).isLt
  refine Eq.trans ?_ (congrFun (V_main_arg1 m c) _)
  refine congrArg (V m c main_arg1) (Tiles.idx_ext₃ ?_ ?_ ?_)
  · show win0_1.index t (0 : Fin 3) * 1 + 1 * (j 0).val = 0; omega
  · show win0_1.index t (1 : Fin 3) * 2048 + 1 * (j 1).val = t.val % 4 * 2048 + (j 1).val; omega
  · show win0_1.index t (2 : Fin 3) * 1024 + 1 * (j 2).val = t.val / 4 % 2 * 1024 + (j 2).val; omega

theorem in2 (c : Dev nD) (t : Fin cfg0.N) (j : S1024x1024.Idx) :
    iblk m c 2 t j = m ((c : Thread nD τ).loc main_arg2) (ix2 (row t (j 0)) (col t (j 1))) := by
  obtain ⟨-, -, ⟨e0, e1⟩, -⟩ := places t
  refine Eq.trans ?_ (congrFun (V_main_arg2 m c) _)
  refine congrArg (V m c main_arg2) (Shape.idx_ext₂ ?_ ?_)
  · show win0_2.index t (0 : Fin 2) * 1024 + 1 * (j 0).val = t.val / 8 * 1024 + (j 0).val; omega
  · show win0_2.index t (1 : Fin 2) * 1024 + 1 * (j 1).val = t.val / 4 % 2 * 1024 + (j 1).val; omega

/-- What position `a` adds at row `r` and column `l`. -/
abbrev term (u : FVec Ideal S8192x8192 .bf16) (w : FVec Ideal S1x8192x2048 .bf16) (r : Fin 8192) (l : Fin 2048) (a : Fin 8192) : EReal :=
  u (ix2 r a) * w (ix3 0 a l)

/-- The rows and the product. -/
abbrev prod (u : FVec Ideal S8192x8192 .bf16) (w : FVec Ideal S1x8192x2048 .bf16) (x : FVec Ideal S8192x2048 .f32) : FVec Ideal S8192x2048 .f32 := fun i =>
  x i + ∑ a : Fin 8192, term u w (i 0) (i 1) a

/-! ## The accumulation -/

/-- What a point adds is its block's sum. -/
theorem add (c : Dev nD) (t : Fin cfg0.N) (x : Vec Ideal S1024x1024 .f32) (j : S1024x1024.Idx) :
    k0_pay2 x (iblk m c 0 t) (iblk m c 1 t) j = x j + Tiles.part 2048
      (term (m ((c : Thread nD τ).loc main_arg0)) (m ((c : Thread nD τ).loc main_arg1)) (row t (j 0)) (col t (j 1))) (t.val % 4) := by
  rw [Tiles.part_eq _ _ fun r => by omega]
  pointwise [k0_pay2]
  simp only [in0, in1]
  rfl

/-- After point `t` of a run the scratch holds the sum of the blocks so far. -/
theorem held (c : Dev nD) (j : S1024x1024.Idx) : ∀ (n : Nat) (h : n < cfg0.N), (outsAt0 m c n h).2 j
    = ∑ s ∈ Finset.range (n % 4 + 1), Tiles.part 2048 (term (m ((c : Thread nD τ).loc main_arg0)) (m ((c : Thread nD τ).loc main_arg1))
        (row ⟨n, h⟩ (j 0)) (col ⟨n, h⟩ (j 1))) s :=
  Tiles.fold 4 2048 (fun n h => (outsAt0 m c n h).2 j)
    (fun t => term (m ((c : Thread nD τ).loc main_arg0)) (m ((c : Thread nD τ).loc main_arg1)) (row t (j 0)) (col t (j 1)))
    (fun t h0 => by
      beta_reduce
      rw [outsAt0_A m c t h0 (by omega)]
      dsimp only
      rw [held_A, add, h0, show k0_pay1 (F := Ideal) j = 0 by pointwise [k0_pay1], zero_add])
    (fun n h h0 => by
      beta_reduce
      by_cases h7 : (n + 1) % 4 = 3
      · rw [outsAt0_C m c ⟨n + 1, h⟩ h0 h7]
        dsimp only
        rw [held_C, add]
        rfl
      · rw [outsAt0_B m c ⟨n + 1, h⟩ h0 h7]
        dsimp only
        rw [held_B, add]
        rfl)
    (fun n h h0 => by
      have e0 : row ⟨n + 1, h⟩ (j 0) = row ⟨n, Nat.lt_of_succ_lt h⟩ (j 0) :=
        Fin.ext (by show (n + 1) / 8 * 1024 + (j 0).val = n / 8 * 1024 + (j 0).val; omega)
      have e1 : col ⟨n + 1, h⟩ (j 1) = col ⟨n, Nat.lt_of_succ_lt h⟩ (j 1) :=
        Fin.ext (by show (n + 1) / 4 % 2 * 1024 + (j 1).val = n / 4 % 2 * 1024 + (j 1).val; omega)
      beta_reduce
      rw [e0, e1])

/-- What the last point of a run writes back is its block of the product. -/
theorem flushed (c : Dev nD) (t : Fin cfg0.N) (hf : (cfg0.win 3).flush t = true) :
    (dats m 0 c).flushed 3 t = ((cfg0.win 3).blk t).view.read (Elt Ideal)
      (prod (m ((c : Thread nD τ).loc main_arg0)) (m ((c : Thread nD τ).loc main_arg1)) (m ((c : Thread nD τ).loc main_arg2))) := by
  have h7 : t.val % 4 = 3 := (flush0_3 t).mp hf
  have hl : (outsAt0 m c t.val t.isLt).1 = k0_pay3 (outsAt0 m c t.val t.isLt).2 (iblk m c 2 t) := by
    rw [outsAt0_C m c t (by omega) h7]
    dsimp only
    rw [out_C, held_C]
  have hv : ∀ j : S1024x1024.Idx, k0_pay3 (outsAt0 m c t.val t.isLt).2 (iblk m c 2 t) j = prod (m ((c : Thread nD τ).loc main_arg0)) (m ((c : Thread nD τ).loc main_arg1)) (m ((c : Thread nD τ).loc main_arg2)) (ix2 (row t (j 0)) (col t (j 1))) := fun j => by
    have hs : ∀ (y x : Vec Ideal S1024x1024 .f32) (j : S1024x1024.Idx), k0_pay3 y x j = x j + y j := fun y x j => by
      pointwise [k0_pay3]
      exact add_comm _ _
    rw [hs, in2, held m c _ t.val t.isLt, h7, Tiles.parts 4 2048 rfl]
    rfl
  rw [Cert.MlpDownIdeal.Value.flushed3, hl]
  generalize k0_pay3 (outsAt0 m c t.val t.isLt).2 (iblk m c 2 t) = z at hv
  generalize prod (m ((c : Thread nD τ).loc main_arg0)) (m ((c : Thread nD τ).loc main_arg1)) (m ((c : Thread nD τ).loc main_arg2)) = y at hv
  obtain ⟨-, -, -, e0, e1⟩ := places t
  funext j
  show z j = y (((cfg0.win 3).blk t).view.emb j)
  have hj : ((cfg0.win 3).blk t).view.emb j = (ix2 (row t (j 0)) (col t (j 1))) := Shape.idx_ext₂
    (by show win0_3.index t (0 : Fin 2) * 1024 + 1 * (j 0).val = t.val / 8 * 1024 + (j 0).val; omega)
    (by show win0_3.index t (1 : Fin 2) * 1024 + 1 * (j 1).val = t.val / 4 % 2 * 1024 + (j 1).val; omega)
  rw [hj]
  exact hv j

/-- Every element is some run's. -/
theorem covered (i : S8192x2048.Idx) :
    ∃ t : Fin cfg0.N, (cfg0.win 3).flush t = true ∧ i ∈ ((cfg0.win 3).blk t).view.set := by
  have h0 : (i 0).val < 8192 := (i 0).isLt
  have h1 : (i 1).val < 2048 := (i 1).isLt
  let t : Fin cfg0.N := ⟨(i 0).val / 1024 * 8 + (i 1).val / 1024 * 4 + 3, by show _ < 64; omega⟩
  have ht : t.val = (i 0).val / 1024 * 8 + (i 1).val / 1024 * 4 + 3 := rfl
  obtain ⟨-, -, -, e0, e1⟩ := places t
  refine ⟨t, (flush0_3 t).mpr (by omega), ?_⟩
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

theorem final (c : Dev nD) : (dats m 0 c).arrAt 3 cfg0.N
    = prod (m ((c : Thread nD τ).loc main_arg0)) (m ((c : Thread nD τ).loc main_arg1)) (m ((c : Thread nD τ).loc main_arg2)) :=
  (dats m 0 c).arrAt_eq_of_cover 3 _ (flushed m c) covered

/-- The reference's operations, read. -/
theorem value (u : FVec Ideal S8192x8192 .bf16) (w : FVec Ideal S1x8192x2048 .bf16) (x : FVec Ideal S8192x2048 .f32) :
    addf x (Host.dotGeneral Cert.MlpDownRefIdeal.dot_S8192x8192_S8192x2048_S8192x2048_1_0_0_1_n_n none u
      (shapeCast _ w Cert.MlpDownRefIdeal.Gen.shapeCasts_S1x8192x2048_S8192x2048)) = prod u w x := by
  funext i
  show x i + _ = x i + _
  congr 1
  pointwise

theorem quiescent_kernel : Cert.quiescent_MlpDown := fun m g _ => Cert.MlpDown.Gen.frame m g
theorem quiescent_kernel_ideal : Cert.quiescent_MlpDownIdeal := fun m g _ => Cert.MlpDownIdeal.Gen.frame m g
theorem quiescent_ref_ideal : Cert.quiescent_MlpDownRefIdeal := fun m g _ =>
  (θ_run _ _ _).mono (fun r h => ⟨fun c => (h c).2, sem_eq_zero_of_no_sems (by decide) r.2⟩)
    (Cert.MlpDownRefIdeal.Value.run m g)

theorem algebraic : Cert.algebraic_MlpDownIdeal_MlpDownRefIdeal := fun m g m' g' _ hm =>
  ⟨_, Cert.MlpDownIdeal.Value.run_blocks m g, (θ_run Cert.MlpDownRefIdeal.defs _ _).mono (fun r h c => by
    obtain ⟨h0, hk⟩ := h c
    obtain ⟨e0, e1, e2⟩ := hm c
    refine ⟨h0.trans ?_, hk⟩
    rw [e0, e1, e2, final]
    exact value _ _ _) (Cert.MlpDownRefIdeal.Value.run m' g')⟩

end Cert.MlpDownProof

end
-- ==== Proof.MlpDownBackProof.lean ====
/- `mlp_down_dx`: the product of the rows' gradient with the transposed second weight of the MLP, times the derivative of the squared
   relu at the columns given, against the same on the whole arrays. -/
module

public import proofs.«01_k».proof.Defs
public import Idealize.ShloMosaic.Lib.Quiescent
public import Idealize.ShloMosaic.Lib.Pointwise
public import proofs.«01_k».proof.Proof.Tiles
public import proofs.«01_k».proof.Proof.Gen.MlpDownBack.Frame
public import proofs.«01_k».proof.Proof.Gen.MlpDownBackIdeal.Value
public import proofs.«01_k».proof.Proof.Gen.MlpDownBackRefIdeal.Run

@[expose] public section

set_option maxRecDepth 65536

noncomputable section

namespace Cert.MlpDownBackProof

open Idealize.ShloMosaic Idealize.ShloMosaic.TcCoe Idealize.SL.Sem
open Cert.MlpDownBackIdeal Cert.MlpDownBackIdeal.Gen

/-- Row `a` of point `t`'s block of rows and column `b` of its block of columns, in the whole arrays. -/
abbrev row (t : Fin cfg0.N) (a : Fin 1024) : Fin 8192 := ⟨t.val / 8 * 1024 + a.val, by have h : t.val < 64 := t.isLt; omega⟩
abbrev col (t : Fin cfg0.N) (b : Fin 1024) : Fin 8192 := ⟨t.val % 8 * 1024 + b.val, by omega⟩

/-- Where the blocks of point `t` lie. -/
theorem places : ∀ t : Fin cfg0.N, (win0_0.index t (0 : Fin 2) = t.val / 8 ∧ win0_0.index t (1 : Fin 2) = 0)
    ∧ (win0_1.index t (0 : Fin 3) = 0 ∧ win0_1.index t (1 : Fin 3) = t.val % 8 ∧ win0_1.index t (2 : Fin 3) = 0)
    ∧ (win0_2.index t (0 : Fin 2) = t.val / 8 ∧ win0_2.index t (1 : Fin 2) = t.val % 8)
    ∧ (win0_3.index t (0 : Fin 2) = t.val / 8 ∧ win0_3.index t (1 : Fin 2) = t.val % 8) :=
  (by decide +kernel : ∀ t : Fin grid0.N, _)

variable (m : (ℓ : Loc nD τ sig) → Buf (Elt Ideal) ℓ)

theorem in0 (c : Dev nD) (t : Fin cfg0.N) (j : S1024x2048.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val / 8 * 1024 + (j 0).val; omega
  · show win0_0.index t (1 : Fin 2) * 2048 + 1 * (j 1).val = (j 1).val; omega

theorem in1 (c : Dev nD) (t : Fin cfg0.N) (j : S1x1024x2048.Idx) :
    iblk m c 1 t j = m ((c : Thread nD τ).loc main_arg1) (ix3 0 (col t (j 1)) (j 2)) := by
  obtain ⟨-, ⟨e0, e1, e2⟩, -⟩ := places t
  have b0 : (j 0).val < 1 := (j 0).isLt
  refine Eq.trans ?_ (congrFun (V_main_arg1 m c) _)
  refine congrArg (V m c main_arg1) (Tiles.idx_ext₃ ?_ ?_ ?_)
  · show win0_1.index t (0 : Fin 3) * 1 + 1 * (j 0).val = 0; omega
  · show win0_1.index t (1 : Fin 3) * 1024 + 1 * (j 1).val = t.val % 8 * 1024 + (j 1).val; omega
  · show win0_1.index t (2 : Fin 3) * 2048 + 1 * (j 2).val = (j 2).val; omega

theorem in2 (c : Dev nD) (t : Fin cfg0.N) (j : S1024x1024.Idx) :
    iblk m c 2 t j = m ((c : Thread nD τ).loc main_arg2) (ix2 (row t (j 0)) (col t (j 1))) := by
  obtain ⟨-, -, ⟨e0, e1⟩, -⟩ := places t
  refine Eq.trans ?_ (congrFun (V_main_arg2 m c) _)
  refine congrArg (V m c main_arg2) (Shape.idx_ext₂ ?_ ?_)
  · show win0_2.index t (0 : Fin 2) * 1024 + 1 * (j 0).val = t.val / 8 * 1024 + (j 0).val; omega
  · show win0_2.index t (1 : Fin 2) * 1024 + 1 * (j 1).val = t.val % 8 * 1024 + (j 1).val; omega

/-- The product at row `r` and column `l`. -/
abbrev prod (dy : FVec Ideal S8192x2048 .bf16) (w : FVec Ideal S1x8192x2048 .bf16) (r : Fin 8192) (l : Fin 8192) : EReal :=
  ∑ k : Fin 2048, dy (ix2 r k) * w (ix3 0 l k)

/-- The product times `2 max(up, 0)`. -/
abbrev back (dy : FVec Ideal S8192x2048 .bf16) (w : FVec Ideal S1x8192x2048 .bf16) (up : FVec Ideal S8192x8192 .bf16) : FVec Ideal S8192x8192 .bf16 := fun i =>
  prod dy w (i 0) (i 1) * (Ideal.ofBits .f32 0x40000000#32 * max (up i) 0)

theorem hz : (![0, 0] : Fin 2 → Nat) = fun _ => 0 := by decide
theorem hz3 : (![0, 0, 0] : Fin 3 → Nat) = fun _ => 0 := by decide

/-- What point `t` writes back is its block. -/
theorem flushed (c : Dev nD) (t : Fin cfg0.N) :
    (dats m 0 c).flushed 3 t = ((cfg0.win 3).blk t).view.read (Elt Ideal)
      (back (m ((c : Thread nD τ).loc main_arg0)) (m ((c : Thread nD τ).loc main_arg1)) (m ((c : Thread nD τ).loc main_arg2))) := by
  rw [Cert.MlpDownBackIdeal.Value.flushed3]
  obtain ⟨-, -, -, e0, e1⟩ := places t
  funext j
  show out0_3 (iblk m c 0 t) (iblk m c 1 t) (iblk m c 2 t) j = back _ _ _ (((cfg0.win 3).blk t).view.emb j)
  have hj : ((cfg0.win 3).blk t).view.emb j = (ix2 (row t (j 0)) (col t (j 1))) := Shape.idx_ext₂
    (by show win0_3.index t (0 : Fin 2) * 1024 + 1 * (j 0).val = t.val / 8 * 1024 + (j 0).val; omega)
    (by show win0_3.index t (1 : Fin 2) * 1024 + 1 * (j 1).val = t.val % 8 * 1024 + (j 1).val; omega)
  rw [hj]
  unfold out0_3
  rw [View.canon_unit_zero hz]
  simp only [View.ld_unit_zero (S := S1024x2048) hz, View.ld_unit_zero (S := S1x1024x2048) hz3, View.ld_unit_zero (S := S1024x1024) hz]
  pointwise [k0_pay1]
  simp only [in0, in1, in2]
  rfl

/-- Every element is some point's. -/
theorem covered (i : S8192x8192.Idx) :
    ∃ t : Fin cfg0.N, (cfg0.win 3).flush t = true ∧ i ∈ ((cfg0.win 3).blk t).view.set := by
  have h0 : (i 0).val < 8192 := (i 0).isLt
  have h1 : (i 1).val < 8192 := (i 1).isLt
  let t : Fin cfg0.N := ⟨(i 0).val / 1024 * 8 + (i 1).val / 1024, by show _ < 64; omega⟩
  have ht : t.val = (i 0).val / 1024 * 8 + (i 1).val / 1024 := rfl
  obtain ⟨-, -, -, e0, e1⟩ := places t
  refine ⟨t, flush0_3 t, ?_⟩
  show i ∈ ((View.whole main_v0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

theorem final (c : Dev nD) : (dats m 0 c).arrAt 3 cfg0.N
    = back (m ((c : Thread nD τ).loc main_arg0)) (m ((c : Thread nD τ).loc main_arg1)) (m ((c : Thread nD τ).loc main_arg2)) :=
  (dats m 0 c).arrAt_eq_of_cover 3 _ (fun t _ => flushed m c t) covered

/-- The reference's operations, read. -/
theorem value (dy : FVec Ideal S8192x2048 .bf16) (w : FVec Ideal S1x8192x2048 .bf16) (up : FVec Ideal S8192x8192 .bf16) :
    truncf .bf16 (mulf (Host.dotGeneral Cert.MlpDownBackRefIdeal.dot_S8192x2048_S8192x2048_S8192x8192_1_1_0_0_n_n none dy
      (shapeCast _ w Cert.MlpDownBackRefIdeal.Gen.shapeCasts_S1x8192x2048_S8192x2048))
      (mulf (broadcastInDim Cert.MlpDownBackRefIdeal.S8192x8192 ![] Cert.MlpDownBackRefIdeal.Gen.bcast_S_S8192x8192 (constant Cert.MlpDownBackRefIdeal.S_ .f32 0x40000000#32))
        (maximumf (extf .f32 up Cert.MlpDownBackRefIdeal.Gen.bitsLt_bf16_f32)
          (broadcastInDim Cert.MlpDownBackRefIdeal.S8192x8192 ![] Cert.MlpDownBackRefIdeal.Gen.bcast_S_S8192x8192 (constant Cert.MlpDownBackRefIdeal.S_ .f32 0x00000000#32)))))
      Cert.MlpDownBackRefIdeal.Gen.bitsLt_bf16_f32
      = back dy w up := by
  funext i
  pointwise

theorem quiescent_kernel : Cert.quiescent_MlpDownBack := fun m g _ => Cert.MlpDownBack.Gen.frame m g
theorem quiescent_kernel_ideal : Cert.quiescent_MlpDownBackIdeal := fun m g _ => Cert.MlpDownBackIdeal.Gen.frame m g
theorem quiescent_ref_ideal : Cert.quiescent_MlpDownBackRefIdeal := fun m g _ =>
  (θ_run _ _ _).mono (fun r h => ⟨fun c => (h c).2, sem_eq_zero_of_no_sems (by decide) r.2⟩)
    (Cert.MlpDownBackRefIdeal.Value.run m g)

theorem algebraic : Cert.algebraic_MlpDownBackIdeal_MlpDownBackRefIdeal := fun m g m' g' _ hm =>
  ⟨_, Cert.MlpDownBackIdeal.Value.run_blocks m g, (θ_run Cert.MlpDownBackRefIdeal.defs _ _).mono (fun r h c => by
    obtain ⟨h0, hk⟩ := h c
    obtain ⟨e0, e1, e2⟩ := hm c
    refine ⟨h0.trans ?_, hk⟩
    rw [e0, e1, e2, final]
    exact value _ _ _) (Cert.MlpDownBackRefIdeal.Value.run m' g')⟩

end Cert.MlpDownBackProof

end
-- ==== Proof.MlpUpBackProof.lean ====
/- `mlp_up_dx`: the product of the columns' gradient with the transposed first weight of the MLP, which is given as the shards of the
   four chips side by side. Each block is accumulated over the four shards; against the product on the whole arrays. -/
module

public import proofs.«01_k».proof.Defs
public import Idealize.ShloMosaic.Lib.Quiescent
public import Idealize.ShloMosaic.Lib.Pointwise
public import Idealize.ShloMosaic.Lib.Tactic
public import proofs.«01_k».proof.Proof.Tiles
public import proofs.«01_k».proof.Proof.Gen.MlpUpBack.Frame
public import proofs.«01_k».proof.Proof.Gen.MlpUpBackIdeal.Value
public import proofs.«01_k».proof.Proof.Gen.MlpUpBackRefIdeal.Run

@[expose] public section

set_option maxRecDepth 65536

noncomputable section

namespace Cert.MlpUpBackProof

open Idealize.ShloMosaic Idealize.ShloMosaic.TcCoe Idealize.SL.Sem
open Cert.MlpUpBackIdeal Cert.MlpUpBackIdeal.Gen

/-- Row `a` of point `t`'s block of rows and column `b` of its block of columns, in the whole arrays, and position `a` of the block
    that it sums over. -/
abbrev row (t : Fin cfg0.N) (a : Fin 1024) : Fin 8192 := ⟨t.val / 8 * 1024 + a.val, by have h : t.val < 64 := t.isLt; omega⟩
abbrev col (t : Fin cfg0.N) (b : Fin 1024) : Fin 2048 := ⟨t.val / 4 % 2 * 1024 + b.val, by omega⟩
abbrev mid (t : Fin cfg0.N) (a : Fin 2048) : Fin 8192 := ⟨t.val % 4 * 2048 + a.val, by omega⟩
/-- The chip whose shard point `t` sums over. -/
abbrev chip (t : Fin cfg0.N) : Fin 4 := ⟨t.val % 4, by omega⟩

/-- Where the blocks of point `t` lie. -/
theorem places : ∀ t : Fin cfg0.N, (win0_0.index t (0 : Fin 2) = t.val / 8 ∧ win0_0.index t (1 : Fin 2) = t.val % 4)
    ∧ (win0_1.index t (0 : Fin 3) = t.val % 4 ∧ win0_1.index t (1 : Fin 3) = t.val / 4 % 2 ∧ win0_1.index t (2 : Fin 3) = 0)
    ∧ (win0_2.index t (0 : Fin 2) = t.val / 8 ∧ win0_2.index t (1 : Fin 2) = t.val / 4 % 2) :=
  (by decide +kernel : ∀ t : Fin grid0.N, _)

theorem hz : (![0, 0] : Fin 2 → Nat) = fun _ => 0 := by decide
theorem hz3 : (![0, 0, 0] : Fin 3 → Nat) = fun _ => 0 := by decide

/-! ## The body's cases -/

section Cases

variable (c : Dev nD) (i : grid0.Coords) (a1 : Memref sig .tc .vmem S1024x2048 .bf16) (h1 : a1.IsWhole) (a2 : Memref sig .tc .vmem S1x1024x2048 .bf16) (h2 : a2.IsWhole) (a3 : Memref sig .tc .vmem S1024x1024 .f32) (h3 : a3.IsWhole) (a4 : Memref sig .tc .vmem S1024x1024 .f32) (h4 : a4.IsWhole)
  (x0 : Vec Ideal S1024x2048 .bf16) (x1 : Vec Ideal S1x1024x2048 .bf16)

theorem held_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread,
    View.ld_unit_zero (S := S1024x2048) hz, View.ld_unit_zero (S := S1x1024x2048) hz3, View.ld_unit_zero (S := S1024x1024) hz]

theorem held_B (hc : ¬cond0_0 i) (hd : ¬cond0_1 i) (xs : Vec Ideal S1024x1024 .f32) :
    sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero hz]
  simp only [View.readAt_eq_ld, h1.read_unread, h2.read_unread, h3.read_unread, h4.read_unread,
    View.ld_unit_zero (S := S1024x2048) hz, View.ld_unit_zero (S := S1x1024x2048) hz3, View.ld_unit_zero (S := S1024x1024) hz]

theorem held_C (hc : ¬cond0_0 i) (hd : cond0_1 i) (xs : Vec Ideal S1024x1024 .f32) :
    sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero hz]
  simp only [View.readAt_eq_ld, h1.read_unread, h2.read_unread, h3.read_unread, h4.read_unread,
    View.ld_unit_zero (S := S1024x2048) hz, View.ld_unit_zero (S := S1x1024x2048) hz3, View.ld_unit_zero (S := S1024x1024) hz]

theorem out_C (hc : ¬cond0_0 i) (hd : cond0_1 i) (xs : Vec Ideal S1024x1024 .f32) :
    out0_C_2 c i a1 h1 a2 h2 a3 h3 a4 h4 hc hd x0 x1 xs = k0_pay2 xs x0 x1 := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero hz, View.readCov_unit_zero (S := S1024x1024) _ hz]
  simp only [View.readAt_eq_ld, h1.read_unread, h2.read_unread, h3.read_unread, h4.read_unread,
    View.ld_unit_zero (S := S1024x2048) hz, View.ld_unit_zero (S := S1x1024x2048) hz3, View.ld_unit_zero (S := S1024x1024) hz]

end Cases

/-! ## The blocks -/

variable (m : (ℓ : Loc nD τ sig) → Buf (Elt Ideal) ℓ)

theorem in0 (c : Dev nD) (t : Fin cfg0.N) (j : S1024x2048.Idx) :
    iblk m c 0 t j = m ((c : Thread nD τ).loc main_arg0) (ix2 (row t (j 0)) (mid t (j 1))) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val / 8 * 1024 + (j 0).val; omega
  · show win0_0.index t (1 : Fin 2) * 2048 + 1 * (j 1).val = t.val % 4 * 2048 + (j 1).val; omega

theorem in1 (c : Dev nD) (t : Fin cfg0.N) (j : S1x1024x2048.Idx) :
    iblk m c 1 t j = m ((c : Thread nD τ).loc main_arg1) (ix3 (chip t) (col t (j 1)) (j 2)) := by
  obtain ⟨-, ⟨e0, e1, e2⟩, -⟩ := places t
  have b0 : (j 0).val < 1 := (j 0).isLt
  refine Eq.trans ?_ (congrFun (V_main_arg1 m c) _)
  refine congrArg (V m c main_arg1) (Tiles.idx_ext₃ ?_ ?_ ?_)
  · show win0_1.index t (0 : Fin 3) * 1 + 1 * (j 0).val = t.val % 4; omega
  · show win0_1.index t (1 : Fin 3) * 1024 + 1 * (j 1).val = t.val / 4 % 2 * 1024 + (j 1).val; omega
  · show win0_1.index t (2 : Fin 3) * 2048 + 1 * (j 2).val = (j 2).val; omega

/-- What column `a` adds at row `r` and column `l`: its weight is at `a mod 2048` of the shard of chip `a / 2048`. -/
abbrev term (dy : FVec Ideal S8192x8192 .bf16) (w : FVec Ideal S4x2048x2048 .bf16) (r : Fin 8192) (l : Fin 2048) (a : Fin 8192) : EReal :=
  dy (ix2 r a) * w (ix3 ⟨a.val / 2048, by omega⟩ l ⟨a.val % 2048, by omega⟩)

/-- The product. -/
abbrev prod (dy : FVec Ideal S8192x8192 .bf16) (w : FVec Ideal S4x2048x2048 .bf16) : FVec Ideal S8192x2048 .f32 := fun i =>
  ∑ a : Fin 8192, term dy w (i 0) (i 1) a

/-! ## The accumulation -/

/-- What a point adds is its block's sum. -/
theorem add (c : Dev nD) (t : Fin cfg0.N) (x : Vec Ideal S1024x1024 .f32) (j : S1024x1024.Idx) :
    k0_pay2 x (iblk m c 0 t) (iblk m c 1 t) j = x j + Tiles.part 2048
      (term (m ((c : Thread nD τ).loc main_arg0)) (m ((c : Thread nD τ).loc main_arg1)) (row t (j 0)) (col t (j 1))) (t.val % 4) := by
  rw [Tiles.part_eq _ _ fun r => by omega]
  pointwise [k0_pay2]
  simp only [in0, in1]
  refine congrArg (x j + ·) (Finset.sum_congr rfl fun k _ => congrArg _ (congrArg _ (Tiles.idx_ext₃ ?_ rfl ?_)))
  · show t.val % 4 = (t.val % 4 * 2048 + k.val) / 2048; omega
  · show k.val = (t.val % 4 * 2048 + k.val) % 2048; omega

/-- After point `t` of a run the scratch holds the sum of the blocks so far. -/
theorem held (c : Dev nD) (j : S1024x1024.Idx) : ∀ (n : Nat) (h : n < cfg0.N), (outsAt0 m c n h).2 j
    = ∑ s ∈ Finset.range (n % 4 + 1), Tiles.part 2048 (term (m ((c : Thread nD τ).loc main_arg0)) (m ((c : Thread nD τ).loc main_arg1))
        (row ⟨n, h⟩ (j 0)) (col ⟨n, h⟩ (j 1))) s :=
  Tiles.fold 4 2048 (fun n h => (outsAt0 m c n h).2 j)
    (fun t => term (m ((c : Thread nD τ).loc main_arg0)) (m ((c : Thread nD τ).loc main_arg1)) (row t (j 0)) (col t (j 1)))
    (fun t h0 => by
      beta_reduce
      rw [outsAt0_A m c t h0 (by omega)]
      dsimp only
      rw [held_A, add, h0, show k0_pay1 (F := Ideal) j = 0 by pointwise [k0_pay1], zero_add])
    (fun n h h0 => by
      beta_reduce
      by_cases h7 : (n + 1) % 4 = 3
      · rw [outsAt0_C m c ⟨n + 1, h⟩ h0 h7]
        dsimp only
        rw [held_C, add]
        rfl
      · rw [outsAt0_B m c ⟨n + 1, h⟩ h0 h7]
        dsimp only
        rw [held_B, add]
        rfl)
    (fun n h h0 => by
      have e0 : row ⟨n + 1, h⟩ (j 0) = row ⟨n, Nat.lt_of_succ_lt h⟩ (j 0) :=
        Fin.ext (by show (n + 1) / 8 * 1024 + (j 0).val = n / 8 * 1024 + (j 0).val; omega)
      have e1 : col ⟨n + 1, h⟩ (j 1) = col ⟨n, Nat.lt_of_succ_lt h⟩ (j 1) :=
        Fin.ext (by show (n + 1) / 4 % 2 * 1024 + (j 1).val = n / 4 % 2 * 1024 + (j 1).val; omega)
      beta_reduce
      rw [e0, e1])

/-- What the last point of a run writes back is its block of the product. -/
theorem flushed (c : Dev nD) (t : Fin cfg0.N) (hf : (cfg0.win 2).flush t = true) :
    (dats m 0 c).flushed 2 t = ((cfg0.win 2).blk t).view.read (Elt Ideal)
      (prod (m ((c : Thread nD τ).loc main_arg0)) (m ((c : Thread nD τ).loc main_arg1))) := by
  have h7 : t.val % 4 = 3 := (flush0_2 t).mp hf
  have hl : (outsAt0 m c t.val t.isLt).1 = (outsAt0 m c t.val t.isLt).2 := by
    rw [outsAt0_C m c t (by omega) h7]
    dsimp only
    rw [out_C, held_C]
  have hv : ∀ j : S1024x1024.Idx, (outsAt0 m c t.val t.isLt).2 j = prod (m ((c : Thread nD τ).loc main_arg0)) (m ((c : Thread nD τ).loc main_arg1)) (ix2 (row t (j 0)) (col t (j 1))) := fun j => by
    rw [held m c _ t.val t.isLt, h7, Tiles.parts 4 2048 rfl]
    rfl
  rw [Cert.MlpUpBackIdeal.Value.flushed2, hl]
  generalize (outsAt0 m c t.val t.isLt).2 = z at hv
  generalize prod (m ((c : Thread nD τ).loc main_arg0)) (m ((c : Thread nD τ).loc main_arg1)) = y at hv
  obtain ⟨-, -, e0, e1⟩ := places t
  funext j
  show z j = y (((cfg0.win 2).blk t).view.emb j)
  have hj : ((cfg0.win 2).blk t).view.emb j = (ix2 (row t (j 0)) (col t (j 1))) := Shape.idx_ext₂
    (by show win0_2.index t (0 : Fin 2) * 1024 + 1 * (j 0).val = t.val / 8 * 1024 + (j 0).val; omega)
    (by show win0_2.index t (1 : Fin 2) * 1024 + 1 * (j 1).val = t.val / 4 % 2 * 1024 + (j 1).val; omega)
  rw [hj]
  exact hv j

/-- Every element is some run's. -/
theorem covered (i : S8192x2048.Idx) :
    ∃ t : Fin cfg0.N, (cfg0.win 2).flush t = true ∧ i ∈ ((cfg0.win 2).blk t).view.set := by
  have h0 : (i 0).val < 8192 := (i 0).isLt
  have h1 : (i 1).val < 2048 := (i 1).isLt
  let t : Fin cfg0.N := ⟨(i 0).val / 1024 * 8 + (i 1).val / 1024 * 4 + 3, by show _ < 64; omega⟩
  have ht : t.val = (i 0).val / 1024 * 8 + (i 1).val / 1024 * 4 + 3 := rfl
  obtain ⟨-, -, e0, e1⟩ := places t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem final (c : Dev nD) : (dats m 0 c).arrAt 2 cfg0.N
    = prod (m ((c : Thread nD τ).loc main_arg0)) (m ((c : Thread nD τ).loc main_arg1)) :=
  (dats m 0 c).arrAt_eq_of_cover 2 _ (flushed m c) covered

theorem quiescent_kernel : Cert.quiescent_MlpUpBack := fun m g _ => Cert.MlpUpBack.Gen.frame m g
theorem quiescent_kernel_ideal : Cert.quiescent_MlpUpBackIdeal := fun m g _ => Cert.MlpUpBackIdeal.Gen.frame m g
theorem quiescent_ref_ideal : Cert.quiescent_MlpUpBackRefIdeal := fun m g _ =>
  (θ_run _ _ _).mono (fun r h => ⟨fun c => (h c).2, sem_eq_zero_of_no_sems (by decide) r.2⟩)
    (Cert.MlpUpBackRefIdeal.Value.run m g)

theorem algebraic : Cert.algebraic_MlpUpBackIdeal_MlpUpBackRefIdeal := fun m g m' g' _ hm =>
  ⟨_, Cert.MlpUpBackIdeal.Value.run_blocks m g, (θ_run Cert.MlpUpBackRefIdeal.defs _ _).mono (fun r h c => by
    obtain ⟨h0, hk⟩ := h c
    obtain ⟨e0, e1⟩ := hm c
    refine ⟨h0.trans ?_, hk⟩
    rw [e0, e1, final]
    funext i
    pointwise
    show _ = ∑ a : Fin 8192, term _ _ (i 0) (i 1) a
    rw [Finset.sum_comm, Fin.sum_univ_tiles 4 2048 rfl]
    refine Finset.sum_congr rfl fun p _ => Finset.sum_congr rfl fun k _ => congrArg _ (congrArg _ (Tiles.idx_ext₃ ?_ rfl ?_))
    · show p.val = (p.val * 2048 + k.val) / 2048; omega
    · show k.val = (p.val * 2048 + k.val) % 2048; omega) (Cert.MlpUpBackRefIdeal.Value.run m' g')⟩

end Cert.MlpUpBackProof

end
-- ==== Proof.ProjInBackProof.lean ====
/- `proj_in_dx`: the product of the columns' gradient with the transposed weight of the projection, which is given as the shards of
   the four chips side by side. Each block is accumulated over the four shards; against the product on the whole arrays. -/
module

public import proofs.«01_k».proof.Defs
public import Idealize.ShloMosaic.Lib.Quiescent
public import Idealize.ShloMosaic.Lib.Pointwise
public import Idealize.ShloMosaic.Lib.Tactic
public import proofs.«01_k».proof.Proof.Tiles
public import proofs.«01_k».proof.Proof.Gen.ProjInBack.Frame
public import proofs.«01_k».proof.Proof.Gen.ProjInBackIdeal.Value
public import proofs.«01_k».proof.Proof.Gen.ProjInBackRefIdeal.Run

@[expose] public section

set_option maxRecDepth 65536

noncomputable section

namespace Cert.ProjInBackProof

open Idealize.ShloMosaic Idealize.ShloMosaic.TcCoe Idealize.SL.Sem
open Cert.ProjInBackIdeal Cert.ProjInBackIdeal.Gen

/-- Row `a` of point `t`'s block of rows and column `b` of its block of columns, in the whole arrays, and position `a` of the block
    that it sums over. -/
abbrev row (t : Fin cfg0.N) (a : Fin 1024) : Fin 8192 := ⟨t.val / 8 * 1024 + a.val, by have h : t.val < 64 := t.isLt; omega⟩
abbrev col (t : Fin cfg0.N) (b : Fin 1024) : Fin 2048 := ⟨t.val / 4 % 2 * 1024 + b.val, by omega⟩
abbrev mid (t : Fin cfg0.N) (a : Fin 1792) : Fin 7168 := ⟨t.val % 4 * 1792 + a.val, by omega⟩
/-- The chip whose shard point `t` sums over. -/
abbrev chip (t : Fin cfg0.N) : Fin 4 := ⟨t.val % 4, by omega⟩

/-- Where the blocks of point `t` lie. -/
theorem places : ∀ t : Fin cfg0.N, (win0_0.index t (0 : Fin 2) = t.val / 8 ∧ win0_0.index t (1 : Fin 2) = t.val % 4)
    ∧ (win0_1.index t (0 : Fin 3) = t.val % 4 ∧ win0_1.index t (1 : Fin 3) = t.val / 4 % 2 ∧ win0_1.index t (2 : Fin 3) = 0)
    ∧ (win0_2.index t (0 : Fin 2) = t.val / 8 ∧ win0_2.index t (1 : Fin 2) = t.val / 4 % 2) :=
  (by decide +kernel : ∀ t : Fin grid0.N, _)

theorem hz : (![0, 0] : Fin 2 → Nat) = fun _ => 0 := by decide
theorem hz3 : (![0, 0, 0] : Fin 3 → Nat) = fun _ => 0 := by decide

/-! ## The body's cases -/

section Cases

variable (c : Dev nD) (i : grid0.Coords) (a1 : Memref sig .tc .vmem S1024x1792 .bf16) (h1 : a1.IsWhole) (a2 : Memref sig .tc .vmem S1x1024x1792 .bf16) (h2 : a2.IsWhole) (a3 : Memref sig .tc .vmem S1024x1024 .f32) (h3 : a3.IsWhole) (a4 : Memref sig .tc .vmem S1024x1024 .f32) (h4 : a4.IsWhole)
  (x0 : Vec Ideal S1024x1792 .bf16) (x1 : Vec Ideal S1x1024x1792 .bf16)

theorem held_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread,
    View.ld_unit_zero (S := S1024x1792) hz, View.ld_unit_zero (S := S1x1024x1792) hz3, View.ld_unit_zero (S := S1024x1024) hz]

theorem held_B (hc : ¬cond0_0 i) (hd : ¬cond0_1 i) (xs : Vec Ideal S1024x1024 .f32) :
    sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero hz]
  simp only [View.readAt_eq_ld, h1.read_unread, h2.read_unread, h3.read_unread, h4.read_unread,
    View.ld_unit_zero (S := S1024x1792) hz, View.ld_unit_zero (S := S1x1024x1792) hz3, View.ld_unit_zero (S := S1024x1024) hz]

theorem held_C (hc : ¬cond0_0 i) (hd : cond0_1 i) (xs : Vec Ideal S1024x1024 .f32) :
    sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero hz]
  simp only [View.readAt_eq_ld, h1.read_unread, h2.read_unread, h3.read_unread, h4.read_unread,
    View.ld_unit_zero (S := S1024x1792) hz, View.ld_unit_zero (S := S1x1024x1792) hz3, View.ld_unit_zero (S := S1024x1024) hz]

theorem out_C (hc : ¬cond0_0 i) (hd : cond0_1 i) (xs : Vec Ideal S1024x1024 .f32) :
    out0_C_2 c i a1 h1 a2 h2 a3 h3 a4 h4 hc hd x0 x1 xs = k0_pay2 xs x0 x1 := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero hz, View.readCov_unit_zero (S := S1024x1024) _ hz]
  simp only [View.readAt_eq_ld, h1.read_unread, h2.read_unread, h3.read_unread, h4.read_unread,
    View.ld_unit_zero (S := S1024x1792) hz, View.ld_unit_zero (S := S1x1024x1792) hz3, View.ld_unit_zero (S := S1024x1024) hz]

end Cases

/-! ## The blocks -/

variable (m : (ℓ : Loc nD τ sig) → Buf (Elt Ideal) ℓ)

theorem in0 (c : Dev nD) (t : Fin cfg0.N) (j : S1024x1792.Idx) :
    iblk m c 0 t j = m ((c : Thread nD τ).loc main_arg0) (ix2 (row t (j 0)) (mid t (j 1))) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val / 8 * 1024 + (j 0).val; omega
  · show win0_0.index t (1 : Fin 2) * 1792 + 1 * (j 1).val = t.val % 4 * 1792 + (j 1).val; omega

theorem in1 (c : Dev nD) (t : Fin cfg0.N) (j : S1x1024x1792.Idx) :
    iblk m c 1 t j = m ((c : Thread nD τ).loc main_arg1) (ix3 (chip t) (col t (j 1)) (j 2)) := by
  obtain ⟨-, ⟨e0, e1, e2⟩, -⟩ := places t
  have b0 : (j 0).val < 1 := (j 0).isLt
  refine Eq.trans ?_ (congrFun (V_main_arg1 m c) _)
  refine congrArg (V m c main_arg1) (Tiles.idx_ext₃ ?_ ?_ ?_)
  · show win0_1.index t (0 : Fin 3) * 1 + 1 * (j 0).val = t.val % 4; omega
  · show win0_1.index t (1 : Fin 3) * 1024 + 1 * (j 1).val = t.val / 4 % 2 * 1024 + (j 1).val; omega
  · show win0_1.index t (2 : Fin 3) * 1792 + 1 * (j 2).val = (j 2).val; omega

/-- What column `a` adds at row `r` and column `l`: its weight is at `a mod 1792` of the shard of chip `a / 1792`. -/
abbrev term (dy : FVec Ideal S8192x7168 .bf16) (w : FVec Ideal S4x2048x1792 .bf16) (r : Fin 8192) (l : Fin 2048) (a : Fin 7168) : EReal :=
  dy (ix2 r a) * w (ix3 ⟨a.val / 1792, by omega⟩ l ⟨a.val % 1792, by omega⟩)

/-- The product. -/
abbrev prod (dy : FVec Ideal S8192x7168 .bf16) (w : FVec Ideal S4x2048x1792 .bf16) : FVec Ideal S8192x2048 .f32 := fun i =>
  ∑ a : Fin 7168, term dy w (i 0) (i 1) a

/-! ## The accumulation -/

/-- What a point adds is its block's sum. -/
theorem add (c : Dev nD) (t : Fin cfg0.N) (x : Vec Ideal S1024x1024 .f32) (j : S1024x1024.Idx) :
    k0_pay2 x (iblk m c 0 t) (iblk m c 1 t) j = x j + Tiles.part 1792
      (term (m ((c : Thread nD τ).loc main_arg0)) (m ((c : Thread nD τ).loc main_arg1)) (row t (j 0)) (col t (j 1))) (t.val % 4) := by
  rw [Tiles.part_eq _ _ fun r => by omega]
  pointwise [k0_pay2]
  simp only [in0, in1]
  refine congrArg (x j + ·) (Finset.sum_congr rfl fun k _ => congrArg _ (congrArg _ (Tiles.idx_ext₃ ?_ rfl ?_)))
  · show t.val % 4 = (t.val % 4 * 1792 + k.val) / 1792; omega
  · show k.val = (t.val % 4 * 1792 + k.val) % 1792; omega

/-- After point `t` of a run the scratch holds the sum of the blocks so far. -/
theorem held (c : Dev nD) (j : S1024x1024.Idx) : ∀ (n : Nat) (h : n < cfg0.N), (outsAt0 m c n h).2 j
    = ∑ s ∈ Finset.range (n % 4 + 1), Tiles.part 1792 (term (m ((c : Thread nD τ).loc main_arg0)) (m ((c : Thread nD τ).loc main_arg1))
        (row ⟨n, h⟩ (j 0)) (col ⟨n, h⟩ (j 1))) s :=
  Tiles.fold 4 1792 (fun n h => (outsAt0 m c n h).2 j)
    (fun t => term (m ((c : Thread nD τ).loc main_arg0)) (m ((c : Thread nD τ).loc main_arg1)) (row t (j 0)) (col t (j 1)))
    (fun t h0 => by
      beta_reduce
      rw [outsAt0_A m c t h0 (by omega)]
      dsimp only
      rw [held_A, add, h0, show k0_pay1 (F := Ideal) j = 0 by pointwise [k0_pay1], zero_add])
    (fun n h h0 => by
      beta_reduce
      by_cases h7 : (n + 1) % 4 = 3
      · rw [outsAt0_C m c ⟨n + 1, h⟩ h0 h7]
        dsimp only
        rw [held_C, add]
        rfl
      · rw [outsAt0_B m c ⟨n + 1, h⟩ h0 h7]
        dsimp only
        rw [held_B, add]
        rfl)
    (fun n h h0 => by
      have e0 : row ⟨n + 1, h⟩ (j 0) = row ⟨n, Nat.lt_of_succ_lt h⟩ (j 0) :=
        Fin.ext (by show (n + 1) / 8 * 1024 + (j 0).val = n / 8 * 1024 + (j 0).val; omega)
      have e1 : col ⟨n + 1, h⟩ (j 1) = col ⟨n, Nat.lt_of_succ_lt h⟩ (j 1) :=
        Fin.ext (by show (n + 1) / 4 % 2 * 1024 + (j 1).val = n / 4 % 2 * 1024 + (j 1).val; omega)
      beta_reduce
      rw [e0, e1])

/-- What the last point of a run writes back is its block of the product. -/
theorem flushed (c : Dev nD) (t : Fin cfg0.N) (hf : (cfg0.win 2).flush t = true) :
    (dats m 0 c).flushed 2 t = ((cfg0.win 2).blk t).view.read (Elt Ideal)
      (prod (m ((c : Thread nD τ).loc main_arg0)) (m ((c : Thread nD τ).loc main_arg1))) := by
  have h7 : t.val % 4 = 3 := (flush0_2 t).mp hf
  have hl : (outsAt0 m c t.val t.isLt).1 = (outsAt0 m c t.val t.isLt).2 := by
    rw [outsAt0_C m c t (by omega) h7]
    dsimp only
    rw [out_C, held_C]
  have hv : ∀ j : S1024x1024.Idx, (outsAt0 m c t.val t.isLt).2 j = prod (m ((c : Thread nD τ).loc main_arg0)) (m ((c : Thread nD τ).loc main_arg1)) (ix2 (row t (j 0)) (col t (j 1))) := fun j => by
    rw [held m c _ t.val t.isLt, h7, Tiles.parts 4 1792 rfl]
    rfl
  rw [Cert.ProjInBackIdeal.Value.flushed2, hl]
  generalize (outsAt0 m c t.val t.isLt).2 = z at hv
  generalize prod (m ((c : Thread nD τ).loc main_arg0)) (m ((c : Thread nD τ).loc main_arg1)) = y at hv
  obtain ⟨-, -, e0, e1⟩ := places t
  funext j
  show z j = y (((cfg0.win 2).blk t).view.emb j)
  have hj : ((cfg0.win 2).blk t).view.emb j = (ix2 (row t (j 0)) (col t (j 1))) := Shape.idx_ext₂
    (by show win0_2.index t (0 : Fin 2) * 1024 + 1 * (j 0).val = t.val / 8 * 1024 + (j 0).val; omega)
    (by show win0_2.index t (1 : Fin 2) * 1024 + 1 * (j 1).val = t.val / 4 % 2 * 1024 + (j 1).val; omega)
  rw [hj]
  exact hv j

/-- Every element is some run's. -/
theorem covered (i : S8192x2048.Idx) :
    ∃ t : Fin cfg0.N, (cfg0.win 2).flush t = true ∧ i ∈ ((cfg0.win 2).blk t).view.set := by
  have h0 : (i 0).val < 8192 := (i 0).isLt
  have h1 : (i 1).val < 2048 := (i 1).isLt
  let t : Fin cfg0.N := ⟨(i 0).val / 1024 * 8 + (i 1).val / 1024 * 4 + 3, by show _ < 64; omega⟩
  have ht : t.val = (i 0).val / 1024 * 8 + (i 1).val / 1024 * 4 + 3 := rfl
  obtain ⟨-, -, e0, e1⟩ := places t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem final (c : Dev nD) : (dats m 0 c).arrAt 2 cfg0.N
    = prod (m ((c : Thread nD τ).loc main_arg0)) (m ((c : Thread nD τ).loc main_arg1)) :=
  (dats m 0 c).arrAt_eq_of_cover 2 _ (flushed m c) covered

theorem quiescent_kernel : Cert.quiescent_ProjInBack := fun m g _ => Cert.ProjInBack.Gen.frame m g
theorem quiescent_kernel_ideal : Cert.quiescent_ProjInBackIdeal := fun m g _ => Cert.ProjInBackIdeal.Gen.frame m g
theorem quiescent_ref_ideal : Cert.quiescent_ProjInBackRefIdeal := fun m g _ =>
  (θ_run _ _ _).mono (fun r h => ⟨fun c => (h c).2, sem_eq_zero_of_no_sems (by decide) r.2⟩)
    (Cert.ProjInBackRefIdeal.Value.run m g)

theorem algebraic : Cert.algebraic_ProjInBackIdeal_ProjInBackRefIdeal := fun m g m' g' _ hm =>
  ⟨_, Cert.ProjInBackIdeal.Value.run_blocks m g, (θ_run Cert.ProjInBackRefIdeal.defs _ _).mono (fun r h c => by
    obtain ⟨h0, hk⟩ := h c
    obtain ⟨e0, e1⟩ := hm c
    refine ⟨h0.trans ?_, hk⟩
    rw [e0, e1, final]
    funext i
    pointwise
    show _ = ∑ a : Fin 7168, term _ _ (i 0) (i 1) a
    rw [Finset.sum_comm, Fin.sum_univ_tiles 4 1792 rfl]
    refine Finset.sum_congr rfl fun p _ => Finset.sum_congr rfl fun k _ => congrArg _ (congrArg _ (Tiles.idx_ext₃ ?_ rfl ?_))
    · show p.val = (p.val * 1792 + k.val) / 1792; omega
    · show k.val = (p.val * 1792 + k.val) % 1792; omega) (Cert.ProjInBackRefIdeal.Value.run m' g')⟩

end Cert.ProjInBackProof

end
-- ==== Proof.ProjOutBackProof.lean ====
/- `proj_out_dx`: the product of the rows' gradient with the transposed weight of the out projection, against the product on the
   whole arrays. -/
module

public import proofs.«01_k».proof.Defs
public import Idealize.ShloMosaic.Lib.Quiescent
public import Idealize.ShloMosaic.Lib.Pointwise
public import proofs.«01_k».proof.Proof.Tiles
public import proofs.«01_k».proof.Proof.Gen.ProjOutBack.Frame
public import proofs.«01_k».proof.Proof.Gen.ProjOutBackIdeal.Value
public import proofs.«01_k».proof.Proof.Gen.ProjOutBackRefIdeal.Run

@[expose] public section

set_option maxRecDepth 65536

noncomputable section

namespace Cert.ProjOutBackProof

open Idealize.ShloMosaic Idealize.ShloMosaic.TcCoe Idealize.SL.Sem
open Cert.ProjOutBackIdeal Cert.ProjOutBackIdeal.Gen

/-- Row `a` of point `t`'s block of rows and column `b` of its block of columns, in the whole arrays. -/
abbrev row (t : Fin cfg0.N) (a : Fin 1024) : Fin 8192 := ⟨t.val / 2 * 1024 + a.val, by have h : t.val < 16 := t.isLt; omega⟩
abbrev col (t : Fin cfg0.N) (b : Fin 1024) : Fin 2048 := ⟨t.val % 2 * 1024 + b.val, by omega⟩

/-- Where the blocks of point `t` lie. -/
theorem places : ∀ t : Fin cfg0.N, (win0_0.index t (0 : Fin 2) = t.val / 2 ∧ win0_0.index t (1 : Fin 2) = 0)
    ∧ (win0_1.index t (0 : Fin 3) = 0 ∧ win0_1.index t (1 : Fin 3) = t.val % 2 ∧ win0_1.index t (2 : Fin 3) = 0)
    ∧ (win0_2.index t (0 : Fin 2) = t.val / 2 ∧ win0_2.index t (1 : Fin 2) = t.val % 2) :=
  (by decide +kernel : ∀ t : Fin grid0.N, _)

variable (m : (ℓ : Loc nD τ sig) → Buf (Elt Ideal) ℓ)

theorem in0 (c : Dev nD) (t : Fin cfg0.N) (j : S1024x2048.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val / 2 * 1024 + (j 0).val; omega
  · show win0_0.index t (1 : Fin 2) * 2048 + 1 * (j 1).val = (j 1).val; omega

theorem in1 (c : Dev nD) (t : Fin cfg0.N) (j : S1x1024x2048.Idx) :
    iblk m c 1 t j = m ((c : Thread nD τ).loc main_arg1) (ix3 0 (col t (j 1)) (j 2)) := by
  obtain ⟨-, ⟨e0, e1, e2⟩, -⟩ := places t
  have b0 : (j 0).val < 1 := (j 0).isLt
  refine Eq.trans ?_ (congrFun (V_main_arg1 m c) _)
  refine congrArg (V m c main_arg1) (Tiles.idx_ext₃ ?_ ?_ ?_)
  · show win0_1.index t (0 : Fin 3) * 1 + 1 * (j 0).val = 0; omega
  · show win0_1.index t (1 : Fin 3) * 1024 + 1 * (j 1).val = t.val % 2 * 1024 + (j 1).val; omega
  · show win0_1.index t (2 : Fin 3) * 2048 + 1 * (j 2).val = (j 2).val; omega

/-- The product at row `r` and column `l`. -/
abbrev prod (dy : FVec Ideal S8192x2048 .bf16) (w : FVec Ideal S1x2048x2048 .bf16) (r : Fin 8192) (l : Fin 2048) : EReal :=
  ∑ k : Fin 2048, dy (ix2 r k) * w (ix3 0 l k)

/-- The product. -/
abbrev back (dy : FVec Ideal S8192x2048 .bf16) (w : FVec Ideal S1x2048x2048 .bf16) : FVec Ideal S8192x2048 .f32 := fun i =>
  prod dy w (i 0) (i 1)

theorem hz : (![0, 0] : Fin 2 → Nat) = fun _ => 0 := by decide
theorem hz3 : (![0, 0, 0] : Fin 3 → Nat) = fun _ => 0 := by decide

/-- What point `t` writes back is its block. -/
theorem flushed (c : Dev nD) (t : Fin cfg0.N) :
    (dats m 0 c).flushed 2 t = ((cfg0.win 2).blk t).view.read (Elt Ideal)
      (back (m ((c : Thread nD τ).loc main_arg0)) (m ((c : Thread nD τ).loc main_arg1))) := by
  rw [Cert.ProjOutBackIdeal.Value.flushed2]
  obtain ⟨-, -, e0, e1⟩ := places t
  funext j
  show out0_2 (iblk m c 0 t) (iblk m c 1 t) j = back _ _ (((cfg0.win 2).blk t).view.emb j)
  have hj : ((cfg0.win 2).blk t).view.emb j = (ix2 (row t (j 0)) (col t (j 1))) := Shape.idx_ext₂
    (by show win0_2.index t (0 : Fin 2) * 1024 + 1 * (j 0).val = t.val / 2 * 1024 + (j 0).val; omega)
    (by show win0_2.index t (1 : Fin 2) * 1024 + 1 * (j 1).val = t.val % 2 * 1024 + (j 1).val; omega)
  rw [hj]
  unfold out0_2
  rw [View.canon_unit_zero hz]
  simp only [View.ld_unit_zero (S := S1024x2048) hz, View.ld_unit_zero (S := S1x1024x2048) hz3]
  pointwise [k0_pay1]
  simp only [in0, in1]
  rfl

/-- Every element is some point's. -/
theorem covered (i : S8192x2048.Idx) :
    ∃ t : Fin cfg0.N, (cfg0.win 2).flush t = true ∧ i ∈ ((cfg0.win 2).blk t).view.set := by
  have h0 : (i 0).val < 8192 := (i 0).isLt
  have h1 : (i 1).val < 2048 := (i 1).isLt
  let t : Fin cfg0.N := ⟨(i 0).val / 1024 * 2 + (i 1).val / 1024, by show _ < 16; omega⟩
  have ht : t.val = (i 0).val / 1024 * 2 + (i 1).val / 1024 := rfl
  obtain ⟨-, -, e0, e1⟩ := places t
  refine ⟨t, flush0_2 t, ?_⟩
  show i ∈ ((View.whole main_v0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

theorem final (c : Dev nD) : (dats m 0 c).arrAt 2 cfg0.N
    = back (m ((c : Thread nD τ).loc main_arg0)) (m ((c : Thread nD τ).loc main_arg1)) :=
  (dats m 0 c).arrAt_eq_of_cover 2 _ (fun t _ => flushed m c t) covered

/-- The reference's operations, read. -/
theorem value (dy : FVec Ideal S8192x2048 .bf16) (w : FVec Ideal S1x2048x2048 .bf16) :
    Host.dotGeneral Cert.ProjOutBackRefIdeal.dot_S8192x2048_S2048x2048_S8192x2048_1_1_0_0_n_n none dy
      (shapeCast _ w Cert.ProjOutBackRefIdeal.Gen.shapeCasts_S1x2048x2048_S2048x2048)
      = back dy w := by
  funext i
  pointwise

theorem quiescent_kernel : Cert.quiescent_ProjOutBack := fun m g _ => Cert.ProjOutBack.Gen.frame m g
theorem quiescent_kernel_ideal : Cert.quiescent_ProjOutBackIdeal := fun m g _ => Cert.ProjOutBackIdeal.Gen.frame m g
theorem quiescent_ref_ideal : Cert.quiescent_ProjOutBackRefIdeal := fun m g _ =>
  (θ_run _ _ _).mono (fun r h => ⟨fun c => (h c).2, sem_eq_zero_of_no_sems (by decide) r.2⟩)
    (Cert.ProjOutBackRefIdeal.Value.run m g)

theorem algebraic : Cert.algebraic_ProjOutBackIdeal_ProjOutBackRefIdeal := fun m g m' g' _ hm =>
  ⟨_, Cert.ProjOutBackIdeal.Value.run_blocks m g, (θ_run Cert.ProjOutBackRefIdeal.defs _ _).mono (fun r h c => by
    obtain ⟨h0, hk⟩ := h c
    obtain ⟨e0, e1⟩ := hm c
    refine ⟨h0.trans ?_, hk⟩
    rw [e0, e1, final]
    exact value _ _) (Cert.ProjOutBackRefIdeal.Value.run m' g')⟩

end Cert.ProjOutBackProof

end
-- ==== Proof.GradInProof.lean ====
/- `proj_in_dw`: the gradient of the projection's weight, as four shards side by side. Each block of it is accumulated over eight
   blocks of rows; against the product on the whole arrays. -/
module

public import proofs.«01_k».proof.Defs
public import Idealize.ShloMosaic.Lib.Quiescent
public import Idealize.ShloMosaic.Lib.Pointwise
public import Idealize.ShloMosaic.Lib.Tactic
public import proofs.«01_k».proof.Proof.Tiles
public import proofs.«01_k».proof.Proof.Gen.GradIn.Frame
public import proofs.«01_k».proof.Proof.Gen.GradInIdeal.Value
public import proofs.«01_k».proof.Proof.Gen.GradInRefIdeal.Run

@[expose] public section

set_option maxRecDepth 8192

noncomputable section

namespace Cert.GradInProof

open Idealize.ShloMosaic Idealize.ShloMosaic.TcCoe Idealize.SL.Sem
open Cert.GradInIdeal Cert.GradInIdeal.Gen

/-- Row `a` of the block of rows that point `t` adds, and the row and the column of the gradient that `a` and `b` are in its block. -/
abbrev row (t : Fin cfg0.N) (a : Fin 1024) : Fin 8192 := ⟨t.val % 8 * 1024 + a.val, by omega⟩
abbrev top (t : Fin cfg0.N) (a : Fin 1024) : Fin 2048 := ⟨t.val / 32 * 1024 + a.val, by have h : t.val < 64 := t.isLt; omega⟩
abbrev chip (t : Fin cfg0.N) : Fin 4 := ⟨t.val / 8 % 4, by omega⟩
abbrev col (p : Fin 4) (b : Fin 1792) : Fin 7168 := ⟨p.val * 1792 + b.val, by omega⟩

/-- Where the blocks of point `t` lie. -/
theorem places : ∀ t : Fin cfg0.N, (win0_0.index t (0 : Fin 2) = t.val % 8 ∧ win0_0.index t (1 : Fin 2) = t.val / 32)
    ∧ (win0_1.index t (0 : Fin 2) = t.val % 8 ∧ win0_1.index t (1 : Fin 2) = t.val / 8 % 4)
    ∧ (win0_2.index t (0 : Fin 3) = t.val / 8 % 4 ∧ win0_2.index t (1 : Fin 3) = t.val / 32 ∧ win0_2.index t (2 : Fin 3) = 0) :=
  (by decide +kernel : ∀ t : Fin grid0.N, _)

theorem hz : (![0, 0] : Fin 2 → Nat) = fun _ => 0 := by decide
theorem hz3 : (![0, 0, 0] : Fin 3 → Nat) = fun _ => 0 := by decide

/-! ## The body's cases -/

section Cases

variable (c : Dev nD) (i : grid0.Coords) (a1 : Memref sig .tc .vmem S1024x1024 .bf16) (h1 : a1.IsWhole) (a2 : Memref sig .tc .vmem S1024x1792 .bf16) (h2 : a2.IsWhole)
    (a3 : Memref sig .tc .vmem S1x1024x1792 .f32) (h3 : a3.IsWhole) (a4 : Memref sig .tc .vmem S1024x1792 .f32) (h4 : a4.IsWhole)
  (x0 : Vec Ideal S1024x1024 .bf16) (x1 : Vec Ideal S1024x1792 .bf16)

theorem held_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1792) hz, View.readCov_unit_zero (S := S1024x1792) _ hz]
  simp only [View.readAt_eq_ld, h1.read_unread, h2.read_unread, h3.read_unread, h4.read_unread,
    View.ld_unit_zero (S := S1024x1024) hz, View.ld_unit_zero (S := S1024x1792) hz]

theorem held_B (hc : ¬cond0_0 i) (hd : ¬cond0_1 i) (xs : Vec Ideal S1024x1792 .f32) :
    sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero hz]
  simp only [View.readAt_eq_ld, h1.read_unread, h2.read_unread, h3.read_unread, h4.read_unread,
    View.ld_unit_zero (S := S1024x1024) hz, View.ld_unit_zero (S := S1024x1792) hz]

theorem held_C (hc : ¬cond0_0 i) (hd : cond0_1 i) (xs : Vec Ideal S1024x1792 .f32) :
    sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero hz]
  simp only [View.readAt_eq_ld, h1.read_unread, h2.read_unread, h3.read_unread, h4.read_unread,
    View.ld_unit_zero (S := S1024x1024) hz, View.ld_unit_zero (S := S1024x1792) hz]

theorem out_C (hc : ¬cond0_0 i) (hd : cond0_1 i) (xs : Vec Ideal S1024x1792 .f32) :
    out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero hz3, View.readCov_unit_zero (S := S1024x1792) _ hz]
  simp only [View.readAt_eq_ld, h1.read_unread, h2.read_unread, h3.read_unread, h4.read_unread,
    View.ld_unit_zero (S := S1024x1024) hz, View.ld_unit_zero (S := S1024x1792) hz]

end Cases

/-! ## The blocks -/

variable (m : (ℓ : Loc nD τ sig) → Buf (Elt Ideal) ℓ)

theorem in0 (c : Dev nD) (t : Fin cfg0.N) (j : S1024x1024.Idx) :
    iblk m c 0 t j = m ((c : Thread nD τ).loc main_arg0) (ix2 (row t (j 0)) (top t (j 1))) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val % 8 * 1024 + (j 0).val; omega
  · show win0_0.index t (1 : Fin 2) * 1024 + 1 * (j 1).val = t.val / 32 * 1024 + (j 1).val; omega

theorem in1 (c : Dev nD) (t : Fin cfg0.N) (j : S1024x1792.Idx) :
    iblk m c 1 t j = m ((c : Thread nD τ).loc main_arg1) (ix2 (row t (j 0)) (col (chip t) (j 1))) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 1024 + 1 * (j 0).val = t.val % 8 * 1024 + (j 0).val; omega
  · show win0_1.index t (1 : Fin 2) * 1792 + 1 * (j 1).val = t.val / 8 % 4 * 1792 + (j 1).val; omega

/-- What row `a` adds to the gradient at row `r` and column `l`. -/
abbrev term (u : FVec Ideal S8192x2048 .bf16) (dy : FVec Ideal S8192x7168 .bf16) (r : Fin 2048) (l : Fin 7168) (a : Fin 8192) : EReal :=
  u (ix2 a r) * dy (ix2 a l)

/-- The product: column `b` of shard `p` is of column `1792 p + b`. -/
abbrev prod (u : FVec Ideal S8192x2048 .bf16) (dy : FVec Ideal S8192x7168 .bf16) : FVec Ideal S4x2048x1792 .f32 := fun i =>
  ∑ a : Fin 8192, term u dy (i 1) (col (i 0) (i 2)) a

/-! ## The accumulation -/

/-- What a point adds is its block's sum. -/
theorem add (c : Dev nD) (t : Fin cfg0.N) (x : Vec Ideal S1024x1792 .f32) (j : S1024x1792.Idx) :
    k0_pay2 x (iblk m c 0 t) (iblk m c 1 t) j = x j + Tiles.part 1024
      (term (m ((c : Thread nD τ).loc main_arg0)) (m ((c : Thread nD τ).loc main_arg1)) (top t (j 0)) (col (chip t) (j 1))) (t.val % 8) := by
  rw [Tiles.part_eq _ _ fun r => by omega]
  pointwise [k0_pay2]
  simp only [in0, in1]
  rfl

/-- After point `t` of a run the scratch holds the sum of the blocks of rows so far. -/
theorem held (c : Dev nD) (j : S1024x1792.Idx) : ∀ (n : Nat) (h : n < cfg0.N), (outsAt0 m c n h).2 j
    = ∑ s ∈ Finset.range (n % 8 + 1), Tiles.part 1024 (term (m ((c : Thread nD τ).loc main_arg0)) (m ((c : Thread nD τ).loc main_arg1))
        (top ⟨n, h⟩ (j 0)) (col (chip ⟨n, h⟩) (j 1))) s :=
  Tiles.fold 8 1024 (fun n h => (outsAt0 m c n h).2 j)
    (fun t => term (m ((c : Thread nD τ).loc main_arg0)) (m ((c : Thread nD τ).loc main_arg1)) (top t (j 0)) (col (chip t) (j 1)))
    (fun t h0 => by
      beta_reduce
      rw [outsAt0_A m c t h0 (by omega)]
      dsimp only
      rw [held_A, add, h0, show k0_pay1 (F := Ideal) j = 0 by pointwise [k0_pay1], zero_add])
    (fun n h h0 => by
      beta_reduce
      by_cases h7 : (n + 1) % 8 = 7
      · rw [outsAt0_C m c ⟨n + 1, h⟩ h0 h7]
        dsimp only
        rw [held_C, add]
        rfl
      · rw [outsAt0_B m c ⟨n + 1, h⟩ h0 h7]
        dsimp only
        rw [held_B, add]
        rfl)
    (fun n h h0 => by
      have e0 : top ⟨n + 1, h⟩ (j 0) = top ⟨n, Nat.lt_of_succ_lt h⟩ (j 0) :=
        Fin.ext (by show (n + 1) / 32 * 1024 + (j 0).val = n / 32 * 1024 + (j 0).val; omega)
      have e1 : chip ⟨n + 1, h⟩ = chip ⟨n, Nat.lt_of_succ_lt h⟩ := Fin.ext (by show (n + 1) / 8 % 4 = n / 8 % 4; omega)
      beta_reduce
      rw [e0, e1])

/-- What the last point of a run writes back is its block of the product. -/
theorem flushed (c : Dev nD) (t : Fin cfg0.N) (hf : (cfg0.win 2).flush t = true) :
    (dats m 0 c).flushed 2 t = ((cfg0.win 2).blk t).view.read (Elt Ideal)
      (prod (m ((c : Thread nD τ).loc main_arg0)) (m ((c : Thread nD τ).loc main_arg1))) := by
  have h7 : t.val % 8 = 7 := (flush0_2 t).mp hf
  have hl : (outsAt0 m c t.val t.isLt).1 = k0_pay3 (outsAt0 m c t.val t.isLt).2 := by
    rw [outsAt0_C m c t (by omega) h7]
    dsimp only
    rw [out_C, held_C]
  have hv : ∀ j : S1x1024x1792.Idx, k0_pay3 (outsAt0 m c t.val t.isLt).2 j = prod (m ((c : Thread nD τ).loc main_arg0))
      (m ((c : Thread nD τ).loc main_arg1)) (ix3 (chip t) (top t (j 1)) (j 2)) := fun j => by
    have hs : k0_pay3 (outsAt0 m c t.val t.isLt).2 j = (outsAt0 m c t.val t.isLt).2 (ix2 (j 1) (j 2)) := by
      generalize (outsAt0 m c t.val t.isLt).2 = y
      pointwise [k0_pay3]
    rw [hs, held m c _ t.val t.isLt, h7, Tiles.parts 8 1024 rfl]
    rfl
  rw [Cert.GradInIdeal.Value.flushed2, hl]
  generalize k0_pay3 (outsAt0 m c t.val t.isLt).2 = z at hv
  generalize prod (m ((c : Thread nD τ).loc main_arg0)) (m ((c : Thread nD τ).loc main_arg1)) = y at hv
  obtain ⟨-, -, e0, e1, e2⟩ := places t
  funext j
  have b0 : (j 0).val < 1 := (j 0).isLt
  show z j = y (((cfg0.win 2).blk t).view.emb j)
  have hj : ((cfg0.win 2).blk t).view.emb j = ix3 (chip t) (top t (j 1)) (j 2) := Tiles.idx_ext₃
    (by show win0_2.index t (0 : Fin 3) * 1 + 1 * (j 0).val = t.val / 8 % 4; omega)
    (by show win0_2.index t (1 : Fin 3) * 1024 + 1 * (j 1).val = t.val / 32 * 1024 + (j 1).val; omega)
    (by show win0_2.index t (2 : Fin 3) * 1792 + 1 * (j 2).val = (j 2).val; omega)
  rw [hj]
  exact hv j

/-- Every element is some run's. -/
theorem covered (i : S4x2048x1792.Idx) :
    ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1792 := (i 2).isLt
  let t : Fin cfg0.N := ⟨(i 1).val / 1024 * 32 + (i 0).val * 8 + 7, by show _ < 64; omega⟩
  have ht : t.val = (i 1).val / 1024 * 32 + (i 0).val * 8 + 7 := rfl
  obtain ⟨-, -, e0, e1, e2⟩ := places t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1792 ≤ (i 2).val ∧ (i 2).val < win0_2.index t (2 : Fin 3) * 1792 + 1792; omega

theorem final (c : Dev nD) : (dats m 0 c).arrAt 2 cfg0.N
    = prod (m ((c : Thread nD τ).loc main_arg0)) (m ((c : Thread nD τ).loc main_arg1)) :=
  (dats m 0 c).arrAt_eq_of_cover 2 _ (flushed m c) covered

theorem quiescent_kernel : Cert.quiescent_GradIn := fun m g _ => Cert.GradIn.Gen.frame m g
theorem quiescent_kernel_ideal : Cert.quiescent_GradInIdeal := fun m g _ => Cert.GradInIdeal.Gen.frame m g
theorem quiescent_ref_ideal : Cert.quiescent_GradInRefIdeal := fun m g _ =>
  (θ_run _ _ _).mono (fun r h => ⟨fun c => (h c).2, sem_eq_zero_of_no_sems (by decide) r.2⟩)
    (Cert.GradInRefIdeal.Value.run m g)

theorem algebraic : Cert.algebraic_GradInIdeal_GradInRefIdeal := fun m g m' g' _ hm =>
  ⟨_, Cert.GradInIdeal.Value.run_blocks m g, (θ_run Cert.GradInRefIdeal.defs _ _).mono (fun r h c => by
    obtain ⟨h0, hk⟩ := h c
    obtain ⟨e0, e1⟩ := hm c
    refine ⟨h0.trans ?_, hk⟩
    rw [e0, e1, final]
    funext i
    pointwise
    exact Finset.sum_congr rfl fun _ _ => mul_comm _ _) (Cert.GradInRefIdeal.Value.run m' g')⟩

end Cert.GradInProof

end
-- ==== Proof.GradUpProof.lean ====
/- `mlp_up_dw`: the gradient of the first weight of the MLP, as four shards side by side. Each block of it is accumulated over eight
   blocks of rows; against the product on the whole arrays. -/
module

public import proofs.«01_k».proof.Defs
public import Idealize.ShloMosaic.Lib.Quiescent
public import Idealize.ShloMosaic.Lib.Pointwise
public import Idealize.ShloMosaic.Lib.Tactic
public import proofs.«01_k».proof.Proof.Tiles
public import proofs.«01_k».proof.Proof.Gen.GradUp.Frame
public import proofs.«01_k».proof.Proof.Gen.GradUpIdeal.Value
public import proofs.«01_k».proof.Proof.Gen.GradUpRefIdeal.Run

@[expose] public section

set_option maxRecDepth 65536

noncomputable section

namespace Cert.GradUpProof

open Idealize.ShloMosaic Idealize.ShloMosaic.TcCoe Idealize.SL.Sem
open Cert.GradUpIdeal Cert.GradUpIdeal.Gen

/-- Row `a` of the block of rows that point `t` adds, and the row and the column of the gradient that `a` and `b` are in its block. -/
abbrev row (t : Fin cfg0.N) (a : Fin 1024) : Fin 8192 := ⟨t.val % 8 * 1024 + a.val, by omega⟩
abbrev top (t : Fin cfg0.N) (a : Fin 1024) : Fin 2048 := ⟨t.val / 64 * 1024 + a.val, by have h : t.val < 128 := t.isLt; omega⟩
abbrev col (t : Fin cfg0.N) (b : Fin 1024) : Fin 8192 := ⟨t.val / 8 % 8 * 1024 + b.val, by omega⟩
/-- The shard that the column is in, and where in the shard. -/
abbrev chip (t : Fin cfg0.N) : Fin 4 := ⟨t.val / 8 % 8 / 2, by omega⟩
abbrev within (t : Fin cfg0.N) (b : Fin 1024) : Fin 2048 := ⟨t.val / 8 % 2 * 1024 + b.val, by omega⟩
abbrev side (p : Fin 4) (b : Fin 2048) : Fin 8192 := ⟨p.val * 2048 + b.val, by omega⟩

theorem side_within (t : Fin cfg0.N) (b : Fin 1024) : side (chip t) (within t b) = col t b :=
  Fin.ext (by show t.val / 8 % 8 / 2 * 2048 + (t.val / 8 % 2 * 1024 + b.val) = t.val / 8 % 8 * 1024 + b.val; omega)

/-- Where the blocks of point `t` lie. -/
theorem places : ∀ t : Fin cfg0.N, (win0_0.index t (0 : Fin 2) = t.val % 8 ∧ win0_0.index t (1 : Fin 2) = t.val / 64)
    ∧ (win0_1.index t (0 : Fin 2) = t.val % 8 ∧ win0_1.index t (1 : Fin 2) = t.val / 8 % 8)
    ∧ (win0_2.index t (0 : Fin 3) = t.val / 8 % 8 / 2 ∧ win0_2.index t (1 : Fin 3) = t.val / 64 ∧ win0_2.index t (2 : Fin 3) = t.val / 8 % 2) :=
  (by decide +kernel : ∀ t : Fin grid0.N, _)

theorem hz : (![0, 0] : Fin 2 → Nat) = fun _ => 0 := by decide
theorem hz3 : (![0, 0, 0] : Fin 3 → Nat) = fun _ => 0 := by decide

/-! ## The body's cases -/

section Cases

variable (c : Dev nD) (i : grid0.Coords) (a1 : Memref sig .tc .vmem S1024x1024 .bf16) (h1 : a1.IsWhole) (a2 : Memref sig .tc .vmem S1024x1024 .bf16) (h2 : a2.IsWhole) (a3 : Memref sig .tc .vmem S1x1024x1024 .f32) (h3 : a3.IsWhole) (a4 : Memref sig .tc .vmem S1024x1024 .f32) (h4 : a4.IsWhole)
  (x0 : Vec Ideal S1024x1024 .bf16) (x1 : Vec Ideal S1024x1024 .bf16)

theorem held_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread,
    View.ld_unit_zero (S := S1024x1024) hz]

theorem held_B (hc : ¬cond0_0 i) (hd : ¬cond0_1 i) (xs : Vec Ideal S1024x1024 .f32) :
    sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero hz]
  simp only [View.readAt_eq_ld, h1.read_unread, h2.read_unread, h3.read_unread, h4.read_unread,
    View.ld_unit_zero (S := S1024x1024) hz]

theorem held_C (hc : ¬cond0_0 i) (hd : cond0_1 i) (xs : Vec Ideal S1024x1024 .f32) :
    sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero hz]
  simp only [View.readAt_eq_ld, h1.read_unread, h2.read_unread, h3.read_unread, h4.read_unread,
    View.ld_unit_zero (S := S1024x1024) hz]

theorem out_C (hc : ¬cond0_0 i) (hd : cond0_1 i) (xs : Vec Ideal S1024x1024 .f32) :
    out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero hz3, View.readCov_unit_zero (S := S1024x1024) _ hz]
  simp only [View.readAt_eq_ld, h1.read_unread, h2.read_unread, h3.read_unread, h4.read_unread,
    View.ld_unit_zero (S := S1024x1024) hz]

end Cases

/-! ## The blocks -/

variable (m : (ℓ : Loc nD τ sig) → Buf (Elt Ideal) ℓ)

theorem in0 (c : Dev nD) (t : Fin cfg0.N) (j : S1024x1024.Idx) :
    iblk m c 0 t j = m ((c : Thread nD τ).loc main_arg0) (ix2 (row t (j 0)) (top t (j 1))) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val % 8 * 1024 + (j 0).val; omega
  · show win0_0.index t (1 : Fin 2) * 1024 + 1 * (j 1).val = t.val / 64 * 1024 + (j 1).val; omega

theorem in1 (c : Dev nD) (t : Fin cfg0.N) (j : S1024x1024.Idx) :
    iblk m c 1 t j = m ((c : Thread nD τ).loc main_arg1) (ix2 (row t (j 0)) (col t (j 1))) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 1024 + 1 * (j 0).val = t.val % 8 * 1024 + (j 0).val; omega
  · show win0_1.index t (1 : Fin 2) * 1024 + 1 * (j 1).val = t.val / 8 % 8 * 1024 + (j 1).val; omega

/-- What row `a` adds to the gradient at row `r` and column `l`. -/
abbrev term (u : FVec Ideal S8192x2048 .bf16) (dy : FVec Ideal S8192x8192 .bf16) (r : Fin 2048) (l : Fin 8192) (a : Fin 8192) : EReal :=
  u (ix2 a r) * dy (ix2 a l)

/-- The product: column `b` of shard `p` is of column `2048 p + b`. -/
abbrev prod (u : FVec Ideal S8192x2048 .bf16) (dy : FVec Ideal S8192x8192 .bf16) : FVec Ideal S4x2048x2048 .f32 := fun i =>
  ∑ a : Fin 8192, term u dy (i 1) (side (i 0) (i 2)) a

/-! ## The accumulation -/

/-- What a point adds is its block's sum. -/
theorem add (c : Dev nD) (t : Fin cfg0.N) (x : Vec Ideal S1024x1024 .f32) (j : S1024x1024.Idx) :
    k0_pay2 x (iblk m c 0 t) (iblk m c 1 t) j = x j + Tiles.part 1024
      (term (m ((c : Thread nD τ).loc main_arg0)) (m ((c : Thread nD τ).loc main_arg1)) (top t (j 0)) (col t (j 1))) (t.val % 8) := by
  rw [Tiles.part_eq _ _ fun r => by omega]
  pointwise [k0_pay2]
  simp only [in0, in1]
  rfl

/-- After point `t` of a run the scratch holds the sum of the blocks so far. -/
theorem held (c : Dev nD) (j : S1024x1024.Idx) : ∀ (n : Nat) (h : n < cfg0.N), (outsAt0 m c n h).2 j
    = ∑ s ∈ Finset.range (n % 8 + 1), Tiles.part 1024 (term (m ((c : Thread nD τ).loc main_arg0)) (m ((c : Thread nD τ).loc main_arg1))
        (top ⟨n, h⟩ (j 0)) (col ⟨n, h⟩ (j 1))) s :=
  Tiles.fold 8 1024 (fun n h => (outsAt0 m c n h).2 j)
    (fun t => term (m ((c : Thread nD τ).loc main_arg0)) (m ((c : Thread nD τ).loc main_arg1)) (top t (j 0)) (col t (j 1)))
    (fun t h0 => by
      beta_reduce
      rw [outsAt0_A m c t h0 (by omega)]
      dsimp only
      rw [held_A, add, h0, show k0_pay1 (F := Ideal) j = 0 by pointwise [k0_pay1], zero_add])
    (fun n h h0 => by
      beta_reduce
      by_cases h7 : (n + 1) % 8 = 7
      · rw [outsAt0_C m c ⟨n + 1, h⟩ h0 h7]
        dsimp only
        rw [held_C, add]
        rfl
      · rw [outsAt0_B m c ⟨n + 1, h⟩ h0 h7]
        dsimp only
        rw [held_B, add]
        rfl)
    (fun n h h0 => by
      have e0 : top ⟨n + 1, h⟩ (j 0) = top ⟨n, Nat.lt_of_succ_lt h⟩ (j 0) :=
        Fin.ext (by show (n + 1) / 64 * 1024 + (j 0).val = n / 64 * 1024 + (j 0).val; omega)
      have e1 : col ⟨n + 1, h⟩ (j 1) = col ⟨n, Nat.lt_of_succ_lt h⟩ (j 1) :=
        Fin.ext (by show (n + 1) / 8 % 8 * 1024 + (j 1).val = n / 8 % 8 * 1024 + (j 1).val; omega)
      beta_reduce
      rw [e0, e1])

/-- What the last point of a run writes back is its block of the product. -/
theorem flushed (c : Dev nD) (t : Fin cfg0.N) (hf : (cfg0.win 2).flush t = true) :
    (dats m 0 c).flushed 2 t = ((cfg0.win 2).blk t).view.read (Elt Ideal)
      (prod (m ((c : Thread nD τ).loc main_arg0)) (m ((c : Thread nD τ).loc main_arg1))) := by
  have h7 : t.val % 8 = 7 := (flush0_2 t).mp hf
  have hl : (outsAt0 m c t.val t.isLt).1 = k0_pay3 (outsAt0 m c t.val t.isLt).2 := by
    rw [outsAt0_C m c t (by omega) h7]
    dsimp only
    rw [out_C, held_C]
  have hv : ∀ j : S1x1024x1024.Idx, k0_pay3 (outsAt0 m c t.val t.isLt).2 j = prod (m ((c : Thread nD τ).loc main_arg0)) (m ((c : Thread nD τ).loc main_arg1)) (ix3 (chip t) (top t (j 1)) (within t (j 2))) := fun j => by
    have hs : k0_pay3 (outsAt0 m c t.val t.isLt).2 j = (outsAt0 m c t.val t.isLt).2 (ix2 (j 1) (j 2)) := by
      generalize (outsAt0 m c t.val t.isLt).2 = y
      pointwise [k0_pay3]
    rw [hs, held m c _ t.val t.isLt, h7, Tiles.parts 8 1024 rfl]
    exact Finset.sum_congr rfl fun a _ => congrArg (fun l => term _ _ (top t (j 1)) l a) (side_within t (j 2)).symm
  rw [Cert.GradUpIdeal.Value.flushed2, hl]
  generalize k0_pay3 (outsAt0 m c t.val t.isLt).2 = z at hv
  generalize prod (m ((c : Thread nD τ).loc main_arg0)) (m ((c : Thread nD τ).loc main_arg1)) = y at hv
  obtain ⟨-, -, e0, e1, e2⟩ := places t
  funext j
  have b0 : (j 0).val < 1 := (j 0).isLt
  show z j = y (((cfg0.win 2).blk t).view.emb j)
  have hj : ((cfg0.win 2).blk t).view.emb j = (ix3 (chip t) (top t (j 1)) (within t (j 2))) := Tiles.idx_ext₃
    (by show win0_2.index t (0 : Fin 3) * 1 + 1 * (j 0).val = t.val / 8 % 8 / 2; omega)
    (by show win0_2.index t (1 : Fin 3) * 1024 + 1 * (j 1).val = t.val / 64 * 1024 + (j 1).val; omega)
    (by show win0_2.index t (2 : Fin 3) * 1024 + 1 * (j 2).val = t.val / 8 % 2 * 1024 + (j 2).val; omega)
  rw [hj]
  exact hv j

/-- Every element is some run's. -/
theorem covered (i : S4x2048x2048.Idx) :
    ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 2048 := (i 2).isLt
  let t : Fin cfg0.N := ⟨(i 1).val / 1024 * 64 + ((i 0).val * 2 + (i 2).val / 1024) * 8 + 7, by show _ < 128; omega⟩
  have ht : t.val = (i 1).val / 1024 * 64 + ((i 0).val * 2 + (i 2).val / 1024) * 8 + 7 := rfl
  obtain ⟨-, -, e0, e1, e2⟩ := places t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

theorem final (c : Dev nD) : (dats m 0 c).arrAt 2 cfg0.N
    = prod (m ((c : Thread nD τ).loc main_arg0)) (m ((c : Thread nD τ).loc main_arg1)) :=
  (dats m 0 c).arrAt_eq_of_cover 2 _ (flushed m c) covered

theorem quiescent_kernel : Cert.quiescent_GradUp := fun m g _ => Cert.GradUp.Gen.frame m g
theorem quiescent_kernel_ideal : Cert.quiescent_GradUpIdeal := fun m g _ => Cert.GradUpIdeal.Gen.frame m g
theorem quiescent_ref_ideal : Cert.quiescent_GradUpRefIdeal := fun m g _ =>
  (θ_run _ _ _).mono (fun r h => ⟨fun c => (h c).2, sem_eq_zero_of_no_sems (by decide) r.2⟩)
    (Cert.GradUpRefIdeal.Value.run m g)

theorem algebraic : Cert.algebraic_GradUpIdeal_GradUpRefIdeal := fun m g m' g' _ hm =>
  ⟨_, Cert.GradUpIdeal.Value.run_blocks m g, (θ_run Cert.GradUpRefIdeal.defs _ _).mono (fun r h c => by
    obtain ⟨h0, hk⟩ := h c
    obtain ⟨e0, e1⟩ := hm c
    refine ⟨h0.trans ?_, hk⟩
    rw [e0, e1, final]
    funext i
    pointwise
    exact Finset.sum_congr rfl fun _ _ => mul_comm _ _) (Cert.GradUpRefIdeal.Value.run m' g')⟩

end Cert.GradUpProof

end
-- ==== Proof.GradOutProof.lean ====
/- `proj_out_dw`: the gradient of the out projection's weight. Each block of it is accumulated over eight blocks of rows; against the
   product on the whole arrays. -/
module

public import proofs.«01_k».proof.Defs
public import Idealize.ShloMosaic.Lib.Quiescent
public import Idealize.ShloMosaic.Lib.Pointwise
public import Idealize.ShloMosaic.Lib.Tactic
public import proofs.«01_k».proof.Proof.Tiles
public import proofs.«01_k».proof.Proof.Gen.GradOut.Frame
public import proofs.«01_k».proof.Proof.Gen.GradOutIdeal.Value
public import proofs.«01_k».proof.Proof.Gen.GradOutRefIdeal.Run

@[expose] public section

set_option maxRecDepth 8192

noncomputable section

namespace Cert.GradOutProof

open Idealize.ShloMosaic Idealize.ShloMosaic.TcCoe Idealize.SL.Sem
open Cert.GradOutIdeal Cert.GradOutIdeal.Gen

/-- Row `a` of the block of rows that point `t` adds, and the row and the column of the gradient that `a` and `b` are in its block. -/
abbrev row (t : Fin cfg0.N) (a : Fin 1024) : Fin 8192 := ⟨t.val % 8 * 1024 + a.val, by omega⟩
abbrev top (t : Fin cfg0.N) (a : Fin 1024) : Fin 2048 := ⟨t.val / 16 * 1024 + a.val, by have h : t.val < 32 := t.isLt; omega⟩
abbrev col (t : Fin cfg0.N) (b : Fin 1024) : Fin 2048 := ⟨t.val / 8 % 2 * 1024 + b.val, by omega⟩

/-- Where the blocks of point `t` lie. -/
theorem places : ∀ t : Fin cfg0.N, (win0_0.index t (0 : Fin 2) = t.val % 8 ∧ win0_0.index t (1 : Fin 2) = t.val / 16)
    ∧ (win0_1.index t (0 : Fin 2) = t.val % 8 ∧ win0_1.index t (1 : Fin 2) = t.val / 8 % 2)
    ∧ (win0_2.index t (0 : Fin 3) = 0 ∧ win0_2.index t (1 : Fin 3) = t.val / 16 ∧ win0_2.index t (2 : Fin 3) = t.val / 8 % 2) :=
  (by decide +kernel : ∀ t : Fin grid0.N, _)

theorem hz : (![0, 0] : Fin 2 → Nat) = fun _ => 0 := by decide
theorem hz3 : (![0, 0, 0] : Fin 3 → Nat) = fun _ => 0 := by decide

/-! ## The body's cases -/

section Cases

variable (c : Dev nD) (i : grid0.Coords) (a1 : Memref sig .tc .vmem S1024x1024 .bf16) (h1 : a1.IsWhole) (a2 : Memref sig .tc .vmem S1024x1024 .bf16) (h2 : a2.IsWhole) (a3 : Memref sig .tc .vmem S1x1024x1024 .f32) (h3 : a3.IsWhole) (a4 : Memref sig .tc .vmem S1024x1024 .f32) (h4 : a4.IsWhole)
  (x0 : Vec Ideal S1024x1024 .bf16) (x1 : Vec Ideal S1024x1024 .bf16)

theorem held_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread,
    View.ld_unit_zero (S := S1024x1024) hz]

theorem held_B (hc : ¬cond0_0 i) (hd : ¬cond0_1 i) (xs : Vec Ideal S1024x1024 .f32) :
    sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero hz]
  simp only [View.readAt_eq_ld, h1.read_unread, h2.read_unread, h3.read_unread, h4.read_unread,
    View.ld_unit_zero (S := S1024x1024) hz]

theorem held_C (hc : ¬cond0_0 i) (hd : cond0_1 i) (xs : Vec Ideal S1024x1024 .f32) :
    sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero hz]
  simp only [View.readAt_eq_ld, h1.read_unread, h2.read_unread, h3.read_unread, h4.read_unread,
    View.ld_unit_zero (S := S1024x1024) hz]

theorem out_C (hc : ¬cond0_0 i) (hd : cond0_1 i) (xs : Vec Ideal S1024x1024 .f32) :
    out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero hz3, View.readCov_unit_zero (S := S1024x1024) _ hz]
  simp only [View.readAt_eq_ld, h1.read_unread, h2.read_unread, h3.read_unread, h4.read_unread,
    View.ld_unit_zero (S := S1024x1024) hz]

end Cases

/-! ## The blocks -/

variable (m : (ℓ : Loc nD τ sig) → Buf (Elt Ideal) ℓ)

theorem in0 (c : Dev nD) (t : Fin cfg0.N) (j : S1024x1024.Idx) :
    iblk m c 0 t j = m ((c : Thread nD τ).loc main_arg0) (ix2 (row t (j 0)) (top t (j 1))) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val % 8 * 1024 + (j 0).val; omega
  · show win0_0.index t (1 : Fin 2) * 1024 + 1 * (j 1).val = t.val / 16 * 1024 + (j 1).val; omega

theorem in1 (c : Dev nD) (t : Fin cfg0.N) (j : S1024x1024.Idx) :
    iblk m c 1 t j = m ((c : Thread nD τ).loc main_arg1) (ix2 (row t (j 0)) (col t (j 1))) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 1024 + 1 * (j 0).val = t.val % 8 * 1024 + (j 0).val; omega
  · show win0_1.index t (1 : Fin 2) * 1024 + 1 * (j 1).val = t.val / 8 % 2 * 1024 + (j 1).val; omega

/-- What row `a` adds to the gradient at row `r` and column `l`. -/
abbrev term (u : FVec Ideal S8192x2048 .bf16) (dy : FVec Ideal S8192x2048 .bf16) (r : Fin 2048) (l : Fin 2048) (a : Fin 8192) : EReal :=
  u (ix2 a r) * dy (ix2 a l)

/-- The product. -/
abbrev prod (u : FVec Ideal S8192x2048 .bf16) (dy : FVec Ideal S8192x2048 .bf16) : FVec Ideal S1x2048x2048 .f32 := fun i =>
  ∑ a : Fin 8192, term u dy (i 1) (i 2) a

/-! ## The accumulation -/

/-- What a point adds is its block's sum. -/
theorem add (c : Dev nD) (t : Fin cfg0.N) (x : Vec Ideal S1024x1024 .f32) (j : S1024x1024.Idx) :
    k0_pay2 x (iblk m c 0 t) (iblk m c 1 t) j = x j + Tiles.part 1024
      (term (m ((c : Thread nD τ).loc main_arg0)) (m ((c : Thread nD τ).loc main_arg1)) (top t (j 0)) (col t (j 1))) (t.val % 8) := by
  rw [Tiles.part_eq _ _ fun r => by omega]
  pointwise [k0_pay2]
  simp only [in0, in1]
  rfl

/-- After point `t` of a run the scratch holds the sum of the blocks so far. -/
theorem held (c : Dev nD) (j : S1024x1024.Idx) : ∀ (n : Nat) (h : n < cfg0.N), (outsAt0 m c n h).2 j
    = ∑ s ∈ Finset.range (n % 8 + 1), Tiles.part 1024 (term (m ((c : Thread nD τ).loc main_arg0)) (m ((c : Thread nD τ).loc main_arg1))
        (top ⟨n, h⟩ (j 0)) (col ⟨n, h⟩ (j 1))) s :=
  Tiles.fold 8 1024 (fun n h => (outsAt0 m c n h).2 j)
    (fun t => term (m ((c : Thread nD τ).loc main_arg0)) (m ((c : Thread nD τ).loc main_arg1)) (top t (j 0)) (col t (j 1)))
    (fun t h0 => by
      beta_reduce
      rw [outsAt0_A m c t h0 (by omega)]
      dsimp only
      rw [held_A, add, h0, show k0_pay1 (F := Ideal) j = 0 by pointwise [k0_pay1], zero_add])
    (fun n h h0 => by
      beta_reduce
      by_cases h7 : (n + 1) % 8 = 7
      · rw [outsAt0_C m c ⟨n + 1, h⟩ h0 h7]
        dsimp only
        rw [held_C, add]
        rfl
      · rw [outsAt0_B m c ⟨n + 1, h⟩ h0 h7]
        dsimp only
        rw [held_B, add]
        rfl)
    (fun n h h0 => by
      have e0 : top ⟨n + 1, h⟩ (j 0) = top ⟨n, Nat.lt_of_succ_lt h⟩ (j 0) :=
        Fin.ext (by show (n + 1) / 16 * 1024 + (j 0).val = n / 16 * 1024 + (j 0).val; omega)
      have e1 : col ⟨n + 1, h⟩ (j 1) = col ⟨n, Nat.lt_of_succ_lt h⟩ (j 1) :=
        Fin.ext (by show (n + 1) / 8 % 2 * 1024 + (j 1).val = n / 8 % 2 * 1024 + (j 1).val; omega)
      beta_reduce
      rw [e0, e1])

/-- What the last point of a run writes back is its block of the product. -/
theorem flushed (c : Dev nD) (t : Fin cfg0.N) (hf : (cfg0.win 2).flush t = true) :
    (dats m 0 c).flushed 2 t = ((cfg0.win 2).blk t).view.read (Elt Ideal)
      (prod (m ((c : Thread nD τ).loc main_arg0)) (m ((c : Thread nD τ).loc main_arg1))) := by
  have h7 : t.val % 8 = 7 := (flush0_2 t).mp hf
  have hl : (outsAt0 m c t.val t.isLt).1 = k0_pay3 (outsAt0 m c t.val t.isLt).2 := by
    rw [outsAt0_C m c t (by omega) h7]
    dsimp only
    rw [out_C, held_C]
  have hv : ∀ j : S1x1024x1024.Idx, k0_pay3 (outsAt0 m c t.val t.isLt).2 j = prod (m ((c : Thread nD τ).loc main_arg0)) (m ((c : Thread nD τ).loc main_arg1)) (ix3 0 (top t (j 1)) (col t (j 2))) := fun j => by
    have hs : k0_pay3 (outsAt0 m c t.val t.isLt).2 j = (outsAt0 m c t.val t.isLt).2 (ix2 (j 1) (j 2)) := by
      generalize (outsAt0 m c t.val t.isLt).2 = y
      pointwise [k0_pay3]
    rw [hs, held m c _ t.val t.isLt, h7, Tiles.parts 8 1024 rfl]
    rfl
  rw [Cert.GradOutIdeal.Value.flushed2, hl]
  generalize k0_pay3 (outsAt0 m c t.val t.isLt).2 = z at hv
  generalize prod (m ((c : Thread nD τ).loc main_arg0)) (m ((c : Thread nD τ).loc main_arg1)) = y at hv
  obtain ⟨-, -, e0, e1, e2⟩ := places t
  funext j
  have b0 : (j 0).val < 1 := (j 0).isLt
  show z j = y (((cfg0.win 2).blk t).view.emb j)
  have hj : ((cfg0.win 2).blk t).view.emb j = (ix3 0 (top t (j 1)) (col t (j 2))) := Tiles.idx_ext₃
    (by show win0_2.index t (0 : Fin 3) * 1 + 1 * (j 0).val = 0; omega)
    (by show win0_2.index t (1 : Fin 3) * 1024 + 1 * (j 1).val = t.val / 16 * 1024 + (j 1).val; omega)
    (by show win0_2.index t (2 : Fin 3) * 1024 + 1 * (j 2).val = t.val / 8 % 2 * 1024 + (j 2).val; omega)
  rw [hj]
  exact hv j

/-- Every element is some run's. -/
theorem covered (i : S1x2048x2048.Idx) :
    ∃ t : Fin cfg0.N, (cfg0.win 2).flush t = true ∧ i ∈ ((cfg0.win 2).blk t).view.set := by
  have h0 : (i 0).val < 1 := (i 0).isLt
  have h1 : (i 1).val < 2048 := (i 1).isLt
  have h2 : (i 2).val < 2048 := (i 2).isLt
  let t : Fin cfg0.N := ⟨(i 1).val / 1024 * 16 + (i 2).val / 1024 * 8 + 7, by show _ < 32; omega⟩
  have ht : t.val = (i 1).val / 1024 * 16 + (i 2).val / 1024 * 8 + 7 := rfl
  obtain ⟨-, -, e0, e1, e2⟩ := places t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

theorem final (c : Dev nD) : (dats m 0 c).arrAt 2 cfg0.N
    = prod (m ((c : Thread nD τ).loc main_arg0)) (m ((c : Thread nD τ).loc main_arg1)) :=
  (dats m 0 c).arrAt_eq_of_cover 2 _ (flushed m c) covered

theorem quiescent_kernel : Cert.quiescent_GradOut := fun m g _ => Cert.GradOut.Gen.frame m g
theorem quiescent_kernel_ideal : Cert.quiescent_GradOutIdeal := fun m g _ => Cert.GradOutIdeal.Gen.frame m g
theorem quiescent_ref_ideal : Cert.quiescent_GradOutRefIdeal := fun m g _ =>
  (θ_run _ _ _).mono (fun r h => ⟨fun c => (h c).2, sem_eq_zero_of_no_sems (by decide) r.2⟩)
    (Cert.GradOutRefIdeal.Value.run m g)

theorem algebraic : Cert.algebraic_GradOutIdeal_GradOutRefIdeal := fun m g m' g' _ hm =>
  ⟨_, Cert.GradOutIdeal.Value.run_blocks m g, (θ_run Cert.GradOutRefIdeal.defs _ _).mono (fun r h c => by
    obtain ⟨h0, hk⟩ := h c
    obtain ⟨e0, e1⟩ := hm c
    refine ⟨h0.trans ?_, hk⟩
    rw [e0, e1, final]
    funext i
    pointwise) (Cert.GradOutRefIdeal.Value.run m' g')⟩

end Cert.GradOutProof

end
-- ==== Proof.GradDownProof.lean ====
/- `mlp_down_dw`: the gradient of the second weight of the MLP. Each block of it is accumulated over eight blocks of rows; against the
   product on the whole arrays. -/
module

public import proofs.«01_k».proof.Defs
public import Idealize.ShloMosaic.Lib.Quiescent
public import Idealize.ShloMosaic.Lib.Pointwise
public import Idealize.ShloMosaic.Lib.Tactic
public import proofs.«01_k».proof.Proof.Tiles
public import proofs.«01_k».proof.Proof.Gen.GradDown.Frame
public import proofs.«01_k».proof.Proof.Gen.GradDownIdeal.Value
public import proofs.«01_k».proof.Proof.Gen.GradDownRefIdeal.Run

@[expose] public section

set_option maxRecDepth 8192

noncomputable section

namespace Cert.GradDownProof

open Idealize.ShloMosaic Idealize.ShloMosaic.TcCoe Idealize.SL.Sem
open Cert.GradDownIdeal Cert.GradDownIdeal.Gen

/-- Row `a` of the block of rows that point `t` adds, and the row and the column of the gradient that `a` and `b` are in its block. -/
abbrev row (t : Fin cfg0.N) (a : Fin 1024) : Fin 8192 := ⟨t.val % 8 * 1024 + a.val, by omega⟩
abbrev top (t : Fin cfg0.N) (a : Fin 1024) : Fin 8192 := ⟨t.val / 16 * 1024 + a.val, by have h : t.val < 128 := t.isLt; omega⟩
abbrev col (t : Fin cfg0.N) (b : Fin 1024) : Fin 2048 := ⟨t.val / 8 % 2 * 1024 + b.val, by omega⟩

/-- Where the blocks of point `t` lie. -/
theorem places : ∀ t : Fin cfg0.N, (win0_0.index t (0 : Fin 2) = t.val % 8 ∧ win0_0.index t (1 : Fin 2) = t.val / 16)
    ∧ (win0_1.index t (0 : Fin 2) = t.val % 8 ∧ win0_1.index t (1 : Fin 2) = t.val / 8 % 2)
    ∧ (win0_2.index t (0 : Fin 3) = 0 ∧ win0_2.index t (1 : Fin 3) = t.val / 16 ∧ win0_2.index t (2 : Fin 3) = t.val / 8 % 2) :=
  (by decide +kernel : ∀ t : Fin grid0.N, _)

theorem hz : (![0, 0] : Fin 2 → Nat) = fun _ => 0 := by decide
theorem hz3 : (![0, 0, 0] : Fin 3 → Nat) = fun _ => 0 := by decide

/-! ## The body's cases -/

section Cases

variable (c : Dev nD) (i : grid0.Coords) (a1 : Memref sig .tc .vmem S1024x1024 .bf16) (h1 : a1.IsWhole) (a2 : Memref sig .tc .vmem S1024x1024 .bf16) (h2 : a2.IsWhole) (a3 : Memref sig .tc .vmem S1x1024x1024 .f32) (h3 : a3.IsWhole) (a4 : Memref sig .tc .vmem S1024x1024 .f32) (h4 : a4.IsWhole)
  (x0 : Vec Ideal S1024x1024 .bf16) (x1 : Vec Ideal S1024x1024 .bf16)

theorem held_A (hc : cond0_0 i) (hd : ¬cond0_1 i) : sout0_A_0 c i a1 h1 a2 h2 a3 h3 a4 h4 hc hd x0 x1 = k0_pay2 (k0_pay1 (F := Ideal)) x0 x1 := by
  unfold sout0_A_0
  rw [View.read_writes_eq_canon _ _ _ (scover0_A_0 c i a1 h1 a2 h2 a3 h3 a4 h4 hc hd x0 x1)]
  unfold kernelRun0_A
  dsimp only
  sl_unfold_words
  rw [View.canon_cons_unit_zero (S := S1024x1024) hz, View.readCov_unit_zero (S := S1024x1024) _ hz]
  simp only [View.readAt_eq_ld, h1.read_unread, h2.read_unread, h3.read_unread, h4.read_unread,
    View.ld_unit_zero (S := S1024x1024) hz]

theorem held_B (hc : ¬cond0_0 i) (hd : ¬cond0_1 i) (xs : Vec Ideal S1024x1024 .f32) :
    sout0_B_0 c i a1 h1 a2 h2 a3 h3 a4 h4 hc hd x0 x1 xs = k0_pay2 xs x0 x1 := by
  unfold sout0_B_0
  rw [View.read_writes_eq_canon _ _ _ (scover0_B_0 c i a1 h1 a2 h2 a3 h3 a4 h4 hc hd x0 x1 xs)]
  unfold kernelRun0_B
  dsimp only
  sl_unfold_words
  rw [View.canon_unit_zero hz]
  simp only [View.readAt_eq_ld, h1.read_unread, h2.read_unread, h3.read_unread, h4.read_unread,
    View.ld_unit_zero (S := S1024x1024) hz]

theorem held_C (hc : ¬cond0_0 i) (hd : cond0_1 i) (xs : Vec Ideal S1024x1024 .f32) :
    sout0_C_0 c i a1 h1 a2 h2 a3 h3 a4 h4 hc hd x0 x1 xs = k0_pay2 xs x0 x1 := by
  unfold sout0_C_0
  rw [View.read_writes_eq_canon _ _ _ (scover0_C_0 c i a1 h1 a2 h2 a3 h3 a4 h4 hc hd x0 x1 xs)]
  unfold kernelRun0_C
  dsimp only
  sl_unfold_words
  rw [View.canon_unit_zero hz]
  simp only [View.readAt_eq_ld, h1.read_unread, h2.read_unread, h3.read_unread, h4.read_unread,
    View.ld_unit_zero (S := S1024x1024) hz]

theorem out_C (hc : ¬cond0_0 i) (hd : cond0_1 i) (xs : Vec Ideal S1024x1024 .f32) :
    out0_C_2 c i a1 h1 a2 h2 a3 h3 a4 h4 hc hd x0 x1 xs = k0_pay3 (k0_pay2 xs x0 x1) := by
  unfold out0_C_2
  rw [View.read_writes_eq_canon _ _ _ (cover0_C_2 c i a1 h1 a2 h2 a3 h3 a4 h4 hc hd x0 x1 xs)]
  unfold kernelRun0_C
  dsimp only
  sl_unfold_words
  rw [View.canon_unit_zero hz3, View.readCov_unit_zero (S := S1024x1024) _ hz]
  simp only [View.readAt_eq_ld, h1.read_unread, h2.read_unread, h3.read_unread, h4.read_unread,
    View.ld_unit_zero (S := S1024x1024) hz]

end Cases

/-! ## The blocks -/

variable (m : (ℓ : Loc nD τ sig) → Buf (Elt Ideal) ℓ)

theorem in0 (c : Dev nD) (t : Fin cfg0.N) (j : S1024x1024.Idx) :
    iblk m c 0 t j = m ((c : Thread nD τ).loc main_arg0) (ix2 (row t (j 0)) (top t (j 1))) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 1024 + 1 * (j 0).val = t.val % 8 * 1024 + (j 0).val; omega
  · show win0_0.index t (1 : Fin 2) * 1024 + 1 * (j 1).val = t.val / 16 * 1024 + (j 1).val; omega

theorem in1 (c : Dev nD) (t : Fin cfg0.N) (j : S1024x1024.Idx) :
    iblk m c 1 t j = m ((c : Thread nD τ).loc main_arg1) (ix2 (row t (j 0)) (col t (j 1))) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 1024 + 1 * (j 0).val = t.val % 8 * 1024 + (j 0).val; omega
  · show win0_1.index t (1 : Fin 2) * 1024 + 1 * (j 1).val = t.val / 8 % 2 * 1024 + (j 1).val; omega

/-- What row `a` adds to the gradient at row `r` and column `l`. -/
abbrev term (u : FVec Ideal S8192x8192 .bf16) (dy : FVec Ideal S8192x2048 .bf16) (r : Fin 8192) (l : Fin 2048) (a : Fin 8192) : EReal :=
  u (ix2 a r) * dy (ix2 a l)

/-- The product. -/
abbrev prod (u : FVec Ideal S8192x8192 .bf16) (dy : FVec Ideal S8192x2048 .bf16) : FVec Ideal S1x8192x2048 .f32 := fun i =>
  ∑ a : Fin 8192, term u dy (i 1) (i 2) a

/-! ## The accumulation -/

/-- What a point adds is its block's sum. -/
theorem add (c : Dev nD) (t : Fin cfg0.N) (x : Vec Ideal S1024x1024 .f32) (j : S1024x1024.Idx) :
    k0_pay2 x (iblk m c 0 t) (iblk m c 1 t) j = x j + Tiles.part 1024
      (term (m ((c : Thread nD τ).loc main_arg0)) (m ((c : Thread nD τ).loc main_arg1)) (top t (j 0)) (col t (j 1))) (t.val % 8) := by
  rw [Tiles.part_eq _ _ fun r => by omega]
  pointwise [k0_pay2]
  simp only [in0, in1]
  rfl

/-- After point `t` of a run the scratch holds the sum of the blocks so far. -/
theorem held (c : Dev nD) (j : S1024x1024.Idx) : ∀ (n : Nat) (h : n < cfg0.N), (outsAt0 m c n h).2 j
    = ∑ s ∈ Finset.range (n % 8 + 1), Tiles.part 1024 (term (m ((c : Thread nD τ).loc main_arg0)) (m ((c : Thread nD τ).loc main_arg1))
        (top ⟨n, h⟩ (j 0)) (col ⟨n, h⟩ (j 1))) s :=
  Tiles.fold 8 1024 (fun n h => (outsAt0 m c n h).2 j)
    (fun t => term (m ((c : Thread nD τ).loc main_arg0)) (m ((c : Thread nD τ).loc main_arg1)) (top t (j 0)) (col t (j 1)))
    (fun t h0 => by
      beta_reduce
      rw [outsAt0_A m c t h0 (by omega)]
      dsimp only
      rw [held_A, add, h0, show k0_pay1 (F := Ideal) j = 0 by pointwise [k0_pay1], zero_add])
    (fun n h h0 => by
      beta_reduce
      by_cases h7 : (n + 1) % 8 = 7
      · rw [outsAt0_C m c ⟨n + 1, h⟩ h0 h7]
        dsimp only
        rw [held_C, add]
        rfl
      · rw [outsAt0_B m c ⟨n + 1, h⟩ h0 h7]
        dsimp only
        rw [held_B, add]
        rfl)
    (fun n h h0 => by
      have e0 : top ⟨n + 1, h⟩ (j 0) = top ⟨n, Nat.lt_of_succ_lt h⟩ (j 0) :=
        Fin.ext (by show (n + 1) / 16 * 1024 + (j 0).val = n / 16 * 1024 + (j 0).val; omega)
      have e1 : col ⟨n + 1, h⟩ (j 1) = col ⟨n, Nat.lt_of_succ_lt h⟩ (j 1) :=
        Fin.ext (by show (n + 1) / 8 % 2 * 1024 + (j 1).val = n / 8 % 2 * 1024 + (j 1).val; omega)
      beta_reduce
      rw [e0, e1])

/-- What the last point of a run writes back is its block of the product. -/
theorem flushed (c : Dev nD) (t : Fin cfg0.N) (hf : (cfg0.win 2).flush t = true) :
    (dats m 0 c).flushed 2 t = ((cfg0.win 2).blk t).view.read (Elt Ideal)
      (prod (m ((c : Thread nD τ).loc main_arg0)) (m ((c : Thread nD τ).loc main_arg1))) := by
  have h7 : t.val % 8 = 7 := (flush0_2 t).mp hf
  have hl : (outsAt0 m c t.val t.isLt).1 = k0_pay3 (outsAt0 m c t.val t.isLt).2 := by
    rw [outsAt0_C m c t (by omega) h7]
    dsimp only
    rw [out_C, held_C]
  have hv : ∀ j : S1x1024x1024.Idx, k0_pay3 (outsAt0 m c t.val t.isLt).2 j = prod (m ((c : Thread nD τ).loc main_arg0)) (m ((c : Thread nD τ).loc main_arg1)) (ix3 0 (top t (j 1)) (col t (j 2))) := fun j => by
    have hs : k0_pay3 (outsAt0 m c t.val t.isLt).2 j = (outsAt0 m c t.val t.isLt).2 (ix2 (j 1) (j 2)) := by
      generalize (outsAt0 m c t.val t.isLt).2 = y
      pointwise [k0_pay3]
    rw [hs, held m c _ t.val t.isLt, h7, Tiles.parts 8 1024 rfl]
    rfl
  rw [Cert.GradDownIdeal.Value.flushed2, hl]
  generalize k0_pay3 (outsAt0 m c t.val t.isLt).2 = z at hv
  generalize prod (m ((c : Thread nD τ).loc main_arg0)) (m ((c : Thread nD τ).loc main_arg1)) = y at hv
  obtain ⟨-, -, e0, e1, e2⟩ := places t
  funext j
  have b0 : (j 0).val < 1 := (j 0).isLt
  show z j = y (((cfg0.win 2).blk t).view.emb j)
  have hj : ((cfg0.win 2).blk t).view.emb j = (ix3 0 (top t (j 1)) (col t (j 2))) := Tiles.idx_ext₃
    (by show win0_2.index t (0 : Fin 3) * 1 + 1 * (j 0).val = 0; omega)
    (by show win0_2.index t (1 : Fin 3) * 1024 + 1 * (j 1).val = t.val / 16 * 1024 + (j 1).val; omega)
    (by show win0_2.index t (2 : Fin 3) * 1024 + 1 * (j 2).val = t.val / 8 % 2 * 1024 + (j 2).val; omega)
  rw [hj]
  exact hv j

/-- Every element is some run's. -/
theorem covered (i : S1x8192x2048.Idx) :
    ∃ t : Fin cfg0.N, (cfg0.win 2).flush t = true ∧ i ∈ ((cfg0.win 2).blk t).view.set := by
  have h0 : (i 0).val < 1 := (i 0).isLt
  have h1 : (i 1).val < 8192 := (i 1).isLt
  have h2 : (i 2).val < 2048 := (i 2).isLt
  let t : Fin cfg0.N := ⟨(i 1).val / 1024 * 16 + (i 2).val / 1024 * 8 + 7, by show _ < 128; omega⟩
  have ht : t.val = (i 1).val / 1024 * 16 + (i 2).val / 1024 * 8 + 7 := rfl
  obtain ⟨-, -, e0, e1, e2⟩ := places t
  refine ⟨t, (flush0_2 t).mpr (by omega), ?_⟩
  show i ∈ ((View.whole main_v0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

theorem final (c : Dev nD) : (dats m 0 c).arrAt 2 cfg0.N
    = prod (m ((c : Thread nD τ).loc main_arg0)) (m ((c : Thread nD τ).loc main_arg1)) :=
  (dats m 0 c).arrAt_eq_of_cover 2 _ (flushed m c) covered

theorem quiescent_kernel : Cert.quiescent_GradDown := fun m g _ => Cert.GradDown.Gen.frame m g
theorem quiescent_kernel_ideal : Cert.quiescent_GradDownIdeal := fun m g _ => Cert.GradDownIdeal.Gen.frame m g
theorem quiescent_ref_ideal : Cert.quiescent_GradDownRefIdeal := fun m g _ =>
  (θ_run _ _ _).mono (fun r h => ⟨fun c => (h c).2, sem_eq_zero_of_no_sems (by decide) r.2⟩)
    (Cert.GradDownRefIdeal.Value.run m g)

theorem algebraic : Cert.algebraic_GradDownIdeal_GradDownRefIdeal := fun m g m' g' _ hm =>
  ⟨_, Cert.GradDownIdeal.Value.run_blocks m g, (θ_run Cert.GradDownRefIdeal.defs _ _).mono (fun r h c => by
    obtain ⟨h0, hk⟩ := h c
    obtain ⟨e0, e1⟩ := hm c
    refine ⟨h0.trans ?_, hk⟩
    rw [e0, e1, final]
    funext i
    pointwise) (Cert.GradDownRefIdeal.Value.run m' g')⟩

end Cert.GradDownProof

end
-- ==== Proof.MlpNormBackProof.lean ====
/- `norm_mlp_bwd`: the gradient of a normalized row plus the skip connection's, row by row, in both float types, and the gradient of
   the weight, summed over all the rows, against the same formulas on the whole arrays. -/
module

public import proofs.«01_k».proof.Defs
public import Idealize.ShloMosaic.Lib.Quiescent
public import Idealize.ShloMosaic.Lib.Pointwise
public import Idealize.ShloMosaic.Lib.Tactic
public import proofs.«01_k».proof.Proof.RowSum
public import proofs.«01_k».proof.Proof.Gen.MlpNormBack.Frame
public import proofs.«01_k».proof.Proof.Gen.MlpNormBackIdeal.Value
public import proofs.«01_k».proof.Proof.Gen.MlpNormBackRefIdeal.Run

@[expose] public section

noncomputable section

namespace Cert.MlpNormBackProof

open Idealize.ShloMosaic Idealize.ShloMosaic.TcCoe Idealize.SL.Sem
open Cert.MlpNormBackIdeal Cert.MlpNormBackIdeal.Gen

/-- Row `a` of block `t`, in the whole array. -/
abbrev row (t : Fin cfg0.N) (a : Fin 256) : Fin 8192 :=
  ⟨t.val * 256 + a.val, by have h : t.val < 32 := t.isLt; omega⟩

/-- Where the blocks of point `t` lie: the rows from `256 t` on, and the one row of the weight and of its gradient. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

theorem hz : (![0, 0] : Fin 2 → Nat) = fun _ => 0 := by decide

/-! ## The body's two cases -/

section Cases

variable (c : Dev nD) (i : grid0.Coords) (a1 : Memref sig .tc .vmem S256x2048 .f32) (h1 : a1.IsWhole) (a2 : Memref sig .tc .vmem S256x2048 .f32) (h2 : a2.IsWhole)
    (a3 : Memref sig .tc .vmem S256x2048 .f32) (h3 : a3.IsWhole) (a4 : Memref sig .tc .vmem S1x2048 .f32) (h4 : a4.IsWhole)
    (a5 : Memref sig .tc .vmem S256x2048 .f32) (h5 : a5.IsWhole) (a6 : Memref sig .tc .vmem S256x2048 .bf16) (h6 : a6.IsWhole)
    (a7 : Memref sig .tc .vmem S1x2048 .f32) (h7 : a7.IsWhole)
  (x0 x1 x2 : Vec Ideal S256x2048 .f32) (x3 : Vec Ideal S1x2048 .f32)

theorem rows_A (hc : cond0_0 i) : out0_A_4 c i a1 h1 a2 h2 a3 h3 a4 h4 a5 h5 a6 h6 a7 h7 hc x0 x1 x2 x3 = k0_pay4 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem rows_B (hc : ¬cond0_0 i) (xo : Vec Ideal S1x2048 .f32) : out0_B_4 c i a1 h1 a2 h2 a3 h3 a4 h4 a5 h5 a6 h6 a7 h7 hc x0 x1 x2 x3 xo = k0_pay4 x0 x1 x2 x3 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem cast_A (hc : cond0_0 i) : out0_A_5 c i a1 h1 a2 h2 a3 h3 a4 h4 a5 h5 a6 h6 a7 h7 hc x0 x1 x2 x3 = k0_pay6 x0 x1 x2 x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem cast_B (hc : ¬cond0_0 i) (xo : Vec Ideal S1x2048 .f32) : out0_B_5 c i a1 h1 a2 h2 a3 h3 a4 h4 a5 h5 a6 h6 a7 h7 hc x0 x1 x2 x3 xo = k0_pay6 x0 x1 x2 x3 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem sum_A (hc : cond0_0 i) : out0_A_6 c i a1 h1 a2 h2 a3 h3 a4 h4 a5 h5 a6 h6 a7 h7 hc x0 x1 x2 x3 = k0_pay1 (k0_pay5 x0 x1) (k0_pay7 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, h6.read_unread, h7.read_unread,
    View.ld_unit_zero (S := S256x2048) hz, View.ld_unit_zero (S := S1x2048) hz]

theorem sum_B (hc : ¬cond0_0 i) (xo : Vec Ideal S1x2048 .f32) : out0_B_6 c i a1 h1 a2 h2 a3 h3 a4 h4 a5 h5 a6 h6 a7 h7 hc x0 x1 x2 x3 xo = k0_pay1 (k0_pay5 x0 x1) xo := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S256x2048) hz, View.ld_unit_zero (S := S1x2048) hz]

end Cases

/-! ## The formulas -/

/-- One over the root mean square of row `a`. -/
abbrev scale (x : FVec Ideal S8192x2048 .f32) (a : Fin 8192) : EReal :=
  Ideal.rsqrt (Ideal.div (∑ k : Fin 2048, x (ix2 a k) * x (ix2 a k)) (Ideal.ofBits .f32 0x45000000#32) + Ideal.ofBits .f32 0x3727C5AC#32)

/-- The gradient of the normalized rows' input, plus the skip connection's. -/
abbrev back (x dy skip : FVec Ideal S8192x2048 .f32) (w : FVec Ideal S1x2048 .f32) : FVec Ideal S8192x2048 .f32 := fun i =>
  scale x (i 0) * (dy i * w (ix2 0 (i 1)) - x i * scale x (i 0) *
      Ideal.div (∑ k : Fin 2048, dy (ix2 (i 0) k) * w (ix2 0 k) * (x (ix2 (i 0) k) * scale x (i 0))) (Ideal.ofBits .f32 0x45000000#32))
    + skip i

/-- The same in the short float type. -/
abbrev cast (x dy skip : FVec Ideal S8192x2048 .f32) (w : FVec Ideal S1x2048 .f32) : FVec Ideal S8192x2048 .bf16 := back x dy skip w

/-- What row `a` adds to the gradient of the weight, in column `l`. -/
abbrev term (x dy : FVec Ideal S8192x2048 .f32) (l : Fin 2048) (a : Fin 8192) : EReal :=
  dy (ix2 a l) * (x (ix2 a l) * scale x a)

/-- The gradient of the weight: the sum over the rows. -/
abbrev weight (x dy : FVec Ideal S8192x2048 .f32) : FVec Ideal S1x2048 .f32 := fun i => ∑ a : Fin 8192, term x dy (i 1) a

/-! ## The blocks -/

variable (m : (ℓ : Loc nD τ sig) → Buf (Elt Ideal) ℓ)

theorem in0 (c : Dev nD) (t : Fin cfg0.N) (j : S256x2048.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 256 + 1 * (j 0).val = t.val * 256 + (j 0).val; omega
  · show win0_0.index t (1 : Fin 2) * 2048 + 1 * (j 1).val = (j 1).val; omega

theorem in1 (c : Dev nD) (t : Fin cfg0.N) (j : S256x2048.Idx) :
    iblk m c 1 t j = m ((c : Thread nD τ).loc main_arg1) (ix2 (row t (j 0)) (j 1)) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 256 + 1 * (j 0).val = t.val * 256 + (j 0).val; omega
  · show win0_1.index t (1 : Fin 2) * 2048 + 1 * (j 1).val = (j 1).val; omega

theorem in2 (c : Dev nD) (t : Fin cfg0.N) (j : S256x2048.Idx) :
    iblk m c 2 t j = m ((c : Thread nD τ).loc main_arg2) (ix2 (row t (j 0)) (j 1)) := by
  obtain ⟨-, -, ⟨e0, e1⟩, -⟩ := places t
  refine Eq.trans ?_ (congrFun (V_main_arg2 m c) _)
  refine congrArg (V m c main_arg2) (Shape.idx_ext₂ ?_ ?_)
  · show win0_2.index t (0 : Fin 2) * 256 + 1 * (j 0).val = t.val * 256 + (j 0).val; omega
  · show win0_2.index t (1 : Fin 2) * 2048 + 1 * (j 1).val = (j 1).val; omega

theorem in3 (c : Dev nD) (t : Fin cfg0.N) (j : S1x2048.Idx) :
    iblk m c 3 t j = m ((c : Thread nD τ).loc main_arg3) j := by
  obtain ⟨-, -, -, ⟨e0, e1⟩, -⟩ := places t
  refine Eq.trans ?_ (congrFun (V_main_arg3 m c) _)
  refine congrArg (V m c main_arg3) (Shape.idx_ext₂ ?_ ?_)
  · show win0_3.index t (0 : Fin 2) * 1 + 1 * (j 0).val = (j 0).val; omega
  · show win0_3.index t (1 : Fin 2) * 2048 + 1 * (j 1).val = (j 1).val; omega

/-! ## The rows -/

theorem left4 (c : Dev nD) (t : Fin cfg0.N) :
    (outsAt0 m c t.val t.isLt).1 = k0_pay4 (iblk m c 0 t) (iblk m c 1 t) (iblk m c 2 t) (iblk m c 3 t) := by
  by_cases h0 : t.val % 32 = 0
  · rw [outsAt0_A m c t h0]; dsimp only; rw [rows_A]
  · rw [outsAt0_B m c t h0]; dsimp only; rw [rows_B]

/-- What point `t` writes back is its rows of the formula. -/
theorem flushed4 (c : Dev nD) (t : Fin cfg0.N) :
    (dats m 0 c).flushed 4 t = ((cfg0.win 4).blk t).view.read (Elt Ideal)
      (back (m ((c : Thread nD τ).loc main_arg0)) (m ((c : Thread nD τ).loc main_arg1)) (m ((c : Thread nD τ).loc main_arg2))
        (m ((c : Thread nD τ).loc main_arg3))) := by
  rw [Cert.MlpNormBackIdeal.Value.flushed4, left4]
  obtain ⟨-, -, -, -, ⟨e0, e1⟩, -⟩ := places t
  funext j
  show k0_pay4 (iblk m c 0 t) (iblk m c 1 t) (iblk m c 2 t) (iblk m c 3 t) j = back _ _ _ _ (((cfg0.win 4).blk t).view.emb j)
  have hj : ((cfg0.win 4).blk t).view.emb j = ix2 (row t (j 0)) (j 1) := Shape.idx_ext₂
    (by show win0_4.index t (0 : Fin 2) * 256 + 1 * (j 0).val = t.val * 256 + (j 0).val; omega)
    (by show win0_4.index t (1 : Fin 2) * 2048 + 1 * (j 1).val = (j 1).val; omega)
  rw [hj]
  pointwise [k0_pay4, k0_pay3, k0_pay2]
  simp only [in0, in1, in2, in3]
  rfl

/-- Every row is some point's. -/
theorem covered4 (i : S8192x2048.Idx) :
    ∃ t : Fin cfg0.N, (cfg0.win 4).flush t = true ∧ i ∈ ((cfg0.win 4).blk t).view.set := by
  have h0 : (i 0).val < 8192 := (i 0).isLt
  have h1 : (i 1).val < 2048 := (i 1).isLt
  let t : Fin cfg0.N := ⟨(i 0).val / 256, by show _ < 32; omega⟩
  have ht : t.val = (i 0).val / 256 := rfl
  obtain ⟨-, -, -, -, ⟨e0, e1⟩, -⟩ := places t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 2048 ≤ (i 1).val ∧ (i 1).val < win0_4.index t (1 : Fin 2) * 2048 + 2048; omega

theorem final4 (c : Dev nD) : (dats m 0 c).arrAt 4 cfg0.N
    = back (m ((c : Thread nD τ).loc main_arg0)) (m ((c : Thread nD τ).loc main_arg1)) (m ((c : Thread nD τ).loc main_arg2))
        (m ((c : Thread nD τ).loc main_arg3)) :=
  (dats m 0 c).arrAt_eq_of_cover 4 _ (fun t _ => flushed4 m c t) covered4

theorem left5 (c : Dev nD) (t : Fin cfg0.N) :
    (outsAt0 m c t.val t.isLt).2.1 = k0_pay6 (iblk m c 0 t) (iblk m c 1 t) (iblk m c 2 t) (iblk m c 3 t) := by
  by_cases h0 : t.val % 32 = 0
  · rw [outsAt0_A m c t h0]; dsimp only; rw [cast_A]
  · rw [outsAt0_B m c t h0]; dsimp only; rw [cast_B]

/-- What point `t` writes back is its rows of the formula. -/
theorem flushed5 (c : Dev nD) (t : Fin cfg0.N) :
    (dats m 0 c).flushed 5 t = ((cfg0.win 5).blk t).view.read (Elt Ideal)
      (cast (m ((c : Thread nD τ).loc main_arg0)) (m ((c : Thread nD τ).loc main_arg1)) (m ((c : Thread nD τ).loc main_arg2))
        (m ((c : Thread nD τ).loc main_arg3))) := by
  rw [Cert.MlpNormBackIdeal.Value.flushed5, left5]
  obtain ⟨-, -, -, -, -, ⟨e0, e1⟩, -⟩ := places t
  funext j
  show k0_pay6 (iblk m c 0 t) (iblk m c 1 t) (iblk m c 2 t) (iblk m c 3 t) j = cast _ _ _ _ (((cfg0.win 5).blk t).view.emb j)
  have hj : ((cfg0.win 5).blk t).view.emb j = ix2 (row t (j 0)) (j 1) := Shape.idx_ext₂
    (by show win0_5.index t (0 : Fin 2) * 256 + 1 * (j 0).val = t.val * 256 + (j 0).val; omega)
    (by show win0_5.index t (1 : Fin 2) * 2048 + 1 * (j 1).val = (j 1).val; omega)
  rw [hj]
  pointwise [k0_pay6, k0_pay4, k0_pay3, k0_pay2]
  simp only [in0, in1, in2, in3]
  rfl

/-- Every row is some point's. -/
theorem covered5 (i : S8192x2048.Idx) :
    ∃ t : Fin cfg0.N, (cfg0.win 5).flush t = true ∧ i ∈ ((cfg0.win 5).blk t).view.set := by
  have h0 : (i 0).val < 8192 := (i 0).isLt
  have h1 : (i 1).val < 2048 := (i 1).isLt
  let t : Fin cfg0.N := ⟨(i 0).val / 256, by show _ < 32; omega⟩
  have ht : t.val = (i 0).val / 256 := rfl
  obtain ⟨-, -, -, -, -, ⟨e0, e1⟩, -⟩ := places t
  refine ⟨t, flush0_5 t, ?_⟩
  show i ∈ ((View.whole main_v0_1).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 2048 ≤ (i 1).val ∧ (i 1).val < win0_5.index t (1 : Fin 2) * 2048 + 2048; omega

theorem final5 (c : Dev nD) : (dats m 0 c).arrAt 5 cfg0.N
    = cast (m ((c : Thread nD τ).loc main_arg0)) (m ((c : Thread nD τ).loc main_arg1)) (m ((c : Thread nD τ).loc main_arg2))
        (m ((c : Thread nD τ).loc main_arg3)) :=
  (dats m 0 c).arrAt_eq_of_cover 5 _ (fun t _ => flushed5 m c t) covered5

/-! ## The sum over the rows -/

/-- What a point adds is its block's sum. -/
theorem add6 (c : Dev nD) (t : Fin cfg0.N) (x : Vec Ideal S1x2048 .f32) (j : S1x2048.Idx) :
    k0_pay1 (k0_pay5 (iblk m c 0 t) (iblk m c 1 t)) x j
      = x j + RowSum.part (term (m ((c : Thread nD τ).loc main_arg0)) (m ((c : Thread nD τ).loc main_arg1)) (j 1)) t.val := by
  rw [RowSum.part_of_lt _ _ t.isLt]
  pointwise [k0_pay1, k0_pay5, k0_pay3, k0_pay2]
  simp only [in0, in1]
  rfl

/-- After point `n` the sum holds the first `n + 1` blocks. -/
theorem left6 (c : Dev nD) (j : S1x2048.Idx) : ∀ (n : Nat) (h : n < cfg0.N), (outsAt0 m c n h).2.2 j
    = ∑ s ∈ Finset.range (n + 1), RowSum.part (term (m ((c : Thread nD τ).loc main_arg0)) (m ((c : Thread nD τ).loc main_arg1)) (j 1)) s
  | 0, h => by
    rw [Finset.sum_range_one, outsAt0_A m c ⟨0, h⟩ rfl]
    dsimp only
    rw [sum_A, add6, show k0_pay7 (F := Ideal) j = 0 by pointwise [k0_pay7], zero_add]
  | n + 1, h => by
    have hB : ¬(⟨n + 1, h⟩ : Fin cfg0.N).val % 32 = 0 := by have : n + 1 < 32 := h; dsimp only; omega
    rw [Finset.sum_range_succ, ← left6 c j n (Nat.lt_of_succ_lt h), outsAt0_B m c ⟨n + 1, h⟩ hB]
    dsimp only
    rw [sum_B, add6]
    rfl

/-- The last point writes back the whole sum. -/
theorem flushed6 (c : Dev nD) (t : Fin cfg0.N) (hf : (cfg0.win 6).flush t = true) :
    (dats m 0 c).flushed 6 t = ((cfg0.win 6).blk t).view.read (Elt Ideal)
      (weight (m ((c : Thread nD τ).loc main_arg0)) (m ((c : Thread nD τ).loc main_arg1))) := by
  have h31 : t.val = 31 := by have h := (flush0_6 t).mp hf; have : t.val < 32 := t.isLt; omega
  have hl : (outsAt0 m c t.val t.isLt).2.2 = weight (m ((c : Thread nD τ).loc main_arg0)) (m ((c : Thread nD τ).loc main_arg1)) := by
    funext j
    rw [left6 m c j, h31, RowSum.parts]
  rw [Cert.MlpNormBackIdeal.Value.flushed6, hl]
  generalize weight (m ((c : Thread nD τ).loc main_arg0)) (m ((c : Thread nD τ).loc main_arg1)) = y
  obtain ⟨-, -, -, -, -, -, e0, e1⟩ := places t
  funext j
  show y j = y (((cfg0.win 6).blk t).view.emb j)
  have hj : ((cfg0.win 6).blk t).view.emb j = j := Shape.idx_ext₂
    (by show win0_6.index t (0 : Fin 2) * 1 + 1 * (j 0).val = (j 0).val; omega)
    (by show win0_6.index t (1 : Fin 2) * 2048 + 1 * (j 1).val = (j 1).val; omega)
  rw [hj]

theorem covered6 (i : S1x2048.Idx) :
    ∃ t : Fin cfg0.N, (cfg0.win 6).flush t = true ∧ i ∈ ((cfg0.win 6).blk t).view.set := by
  have h0 : (i 0).val < 1 := (i 0).isLt
  have h1 : (i 1).val < 2048 := (i 1).isLt
  let t : Fin cfg0.N := ⟨31, by show _ < 32; omega⟩
  obtain ⟨-, -, -, -, -, -, e0, e1⟩ := places t
  refine ⟨t, (flush0_6 t).mpr rfl, ?_⟩
  show i ∈ ((View.whole main_v0_2).slice (win0_6.rect t)).set
  rw [View.set_slice_whole, Rect.mem_set_unit]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 2048 ≤ (i 1).val ∧ (i 1).val < win0_6.index t (1 : Fin 2) * 2048 + 2048; omega

theorem final6 (c : Dev nD) : (dats m 0 c).arrAt 6 cfg0.N
    = weight (m ((c : Thread nD τ).loc main_arg0)) (m ((c : Thread nD τ).loc main_arg1)) :=
  (dats m 0 c).arrAt_eq_of_cover 6 _ (flushed6 m c) covered6

/-! ## The claims -/

theorem quiescent_kernel : Cert.quiescent_MlpNormBack := fun m g _ => Cert.MlpNormBack.Gen.frame m g
theorem quiescent_kernel_ideal : Cert.quiescent_MlpNormBackIdeal := fun m g _ => Cert.MlpNormBackIdeal.Gen.frame m g
theorem quiescent_ref_ideal : Cert.quiescent_MlpNormBackRefIdeal := fun m g _ =>
  (θ_run _ _ _).mono (fun r h => ⟨fun c => (h c).2.2.2, sem_eq_zero_of_no_sems (by decide) r.2⟩)
    (Cert.MlpNormBackRefIdeal.Value.run m g)

theorem algebraic : Cert.algebraic_MlpNormBackIdeal_MlpNormBackRefIdeal := fun m g m' g' _ hm =>
  ⟨_, _, _, Cert.MlpNormBackIdeal.Value.run_blocks m g, (θ_run Cert.MlpNormBackRefIdeal.defs _ _).mono (fun r h c => by
    obtain ⟨h0, h1, h2, hk⟩ := h c
    obtain ⟨e0, e1, e2, e3⟩ := hm c
    refine ⟨h0.trans ?_, h1.trans ?_, h2.trans ?_, hk⟩
    · rw [e0, e1, e2, e3, final4]
      funext i
      pointwise
    · rw [e0, e1, e2, e3, final5]
      funext i
      pointwise
    · rw [e0, e1, final6]
      funext i
      pointwise) (Cert.MlpNormBackRefIdeal.Value.run m' g')⟩

end Cert.MlpNormBackProof

end
-- ==== Proof.CastProof.lean ====
/- The casts of the weights' shards, at the three shapes (`cast_w0` to `cast_w3`; the last two have one shape): each point casts its
   rows; the rows cover the array. -/
module

public import proofs.«01_k».proof.Defs
public import Idealize.ShloMosaic.Lib.Quiescent
public import proofs.«01_k».proof.Proof.Gen.CastIn.Frame
public import proofs.«01_k».proof.Proof.Gen.CastInIdeal.Value
public import proofs.«01_k».proof.Proof.Gen.CastInRefIdeal.Run
public import proofs.«01_k».proof.Proof.Gen.CastOut.Frame
public import proofs.«01_k».proof.Proof.Gen.CastOutIdeal.Value
public import proofs.«01_k».proof.Proof.Gen.CastOutRefIdeal.Run
public import proofs.«01_k».proof.Proof.Gen.CastMlp.Frame
public import proofs.«01_k».proof.Proof.Gen.CastMlpIdeal.Value
public import proofs.«01_k».proof.Proof.Gen.CastMlpRefIdeal.Run

@[expose] public section

noncomputable section

open Idealize.ShloMosaic Idealize.ShloMosaic.TcCoe Idealize.SL.Sem

namespace Cert.CastInProof

theorem quiescent_kernel : Cert.quiescent_CastIn := fun m g _ => Cert.CastIn.Gen.frame m g
theorem quiescent_kernel_ideal : Cert.quiescent_CastInIdeal := fun m g _ => Cert.CastInIdeal.Gen.frame m g
theorem quiescent_ref_ideal : Cert.quiescent_CastInRefIdeal := fun m g _ =>
  (θ_run _ _ _).mono (fun r h => ⟨fun c => (h c).2, sem_eq_zero_of_no_sems (by decide) r.2⟩) (Cert.CastInRefIdeal.Value.run m g)

theorem algebraic : Cert.algebraic_CastInIdeal_CastInRefIdeal := fun m g m' g' _ hm =>
  ⟨_, Cert.CastInIdeal.Value.run m g, (θ_run Cert.CastInRefIdeal.defs _ _).mono (fun r h c => by
    obtain ⟨h0, hk⟩ := h c
    have e0 := hm c
    refine ⟨h0.trans ?_, hk⟩
    rw [e0]
    rfl) (Cert.CastInRefIdeal.Value.run m' g')⟩

end Cert.CastInProof

namespace Cert.CastOutProof

theorem quiescent_kernel : Cert.quiescent_CastOut := fun m g _ => Cert.CastOut.Gen.frame m g
theorem quiescent_kernel_ideal : Cert.quiescent_CastOutIdeal := fun m g _ => Cert.CastOutIdeal.Gen.frame m g
theorem quiescent_ref_ideal : Cert.quiescent_CastOutRefIdeal := fun m g _ =>
  (θ_run _ _ _).mono (fun r h => ⟨fun c => (h c).2, sem_eq_zero_of_no_sems (by decide) r.2⟩) (Cert.CastOutRefIdeal.Value.run m g)

theorem algebraic : Cert.algebraic_CastOutIdeal_CastOutRefIdeal := fun m g m' g' _ hm =>
  ⟨_, Cert.CastOutIdeal.Value.run m g, (θ_run Cert.CastOutRefIdeal.defs _ _).mono (fun r h c => by
    obtain ⟨h0, hk⟩ := h c
    have e0 := hm c
    refine ⟨h0.trans ?_, hk⟩
    rw [e0]
    rfl) (Cert.CastOutRefIdeal.Value.run m' g')⟩

end Cert.CastOutProof

namespace Cert.CastMlpProof

theorem quiescent_kernel : Cert.quiescent_CastMlp := fun m g _ => Cert.CastMlp.Gen.frame m g
theorem quiescent_kernel_ideal : Cert.quiescent_CastMlpIdeal := fun m g _ => Cert.CastMlpIdeal.Gen.frame m g
theorem quiescent_ref_ideal : Cert.quiescent_CastMlpRefIdeal := fun m g _ =>
  (θ_run _ _ _).mono (fun r h => ⟨fun c => (h c).2, sem_eq_zero_of_no_sems (by decide) r.2⟩) (Cert.CastMlpRefIdeal.Value.run m g)

theorem algebraic : Cert.algebraic_CastMlpIdeal_CastMlpRefIdeal := fun m g m' g' _ hm =>
  ⟨_, Cert.CastMlpIdeal.Value.run m g, (θ_run Cert.CastMlpRefIdeal.defs _ _).mono (fun r h c => by
    obtain ⟨h0, hk⟩ := h c
    have e0 := hm c
    refine ⟨h0.trans ?_, hk⟩
    rw [e0]
    rfl) (Cert.CastMlpRefIdeal.Value.run m' g')⟩

end Cert.CastMlpProof

end
-- ==== Proof.HeadNormBackProof.lean ====
/- `sb_norm_bwd`: the gradient of a row normalized head by head, and the gradient of the weight that all the heads share, summed over
   the rows and the heads, against the same formulas on the whole arrays. -/
module

public import proofs.«01_k».proof.Defs
public import Idealize.ShloMosaic.Lib.Quiescent
public import Idealize.ShloMosaic.Lib.Pointwise
public import Idealize.ShloMosaic.Lib.Tactic
public import proofs.«01_k».proof.Proof.RowSum
public import proofs.«01_k».proof.Proof.Gen.HeadNormBack.Frame
public import proofs.«01_k».proof.Proof.Gen.HeadNormBackIdeal.Value
public import proofs.«01_k».proof.Proof.Gen.HeadNormBackRefIdeal.Run

@[expose] public section

set_option maxRecDepth 65536

noncomputable section

namespace Cert.HeadNormBackProof

open Idealize.ShloMosaic Idealize.ShloMosaic.TcCoe Idealize.SL.Sem
open Cert.HeadNormBackIdeal Cert.HeadNormBackIdeal.Gen

/-! ## The formulas of one row -/

/-- Column `l` of head `n`. -/
abbrev col (n : Fin 8) (l : Fin 128) : Fin 1024 := ⟨n.val * 128 + l.val, by omega⟩

/-- The head of a column, and its column there. -/
abbrev head (b : Fin 1024) : Fin 8 := ⟨b.val / 128, by omega⟩
abbrev lane (b : Fin 1024) : Fin 128 := ⟨b.val % 128, by omega⟩

/-- A row. -/
abbrev line {n k : Nat} (x : (⟨2, ![n, k]⟩ : Shape).Idx → EReal) (a : Fin n) (b : Fin k) : EReal := x (ix2 a b)

/-- One over the root mean square of head `n`. -/
abbrev scale (x : Fin 1024 → EReal) (n : Fin 8) : EReal :=
  Ideal.rsqrt (Ideal.div (∑ k : Fin 128, x (col n k) * x (col n k)) (Ideal.ofBits .f32 0x43000000#32) + Ideal.ofBits .f32 0x3727C5AC#32)

/-- The gradient of the normalized head's input. -/
abbrev back (x dy : Fin 1024 → EReal) (w : Fin 128 → EReal) (n : Fin 8) (l : Fin 128) : EReal :=
  scale x n * (dy (col n l) * w l - x (col n l) * scale x n *
      Ideal.div (∑ k : Fin 128, dy (col n k) * w k * (x (col n k) * scale x n)) (Ideal.ofBits .f32 0x43000000#32))

/-- What head `n` adds to the gradient of the weight. -/
abbrev term (x dy : Fin 1024 → EReal) (n : Fin 8) (l : Fin 128) : EReal :=
  dy (col n l) * (x (col n l) * scale x n)

/-- Equal rows have equal formulas. -/
theorem same {α : Type} (f : (Fin 1024 → EReal) → (Fin 1024 → EReal) → (Fin 1024 → EReal) → (Fin 128 → EReal) → α)
    {x x' g g' d d' : Fin 1024 → EReal} {w w' : Fin 128 → EReal} (hx : x = x') (hg : g = g') (hd : d = d') (hw : w = w') :
    f x g d w = f x' g' d' w' := by rw [hx, hg, hd, hw]

/-- The columns of the first head. -/
theorem col_zero (l : Fin 128) : col 0 l = ⟨l.val, by omega⟩ := Fin.ext (by show 0 * 128 + l.val = l.val; omega)

theorem col_split (b : Fin 1024) : col (head b) (lane b) = b := Fin.ext (by show b.val / 128 * 128 + b.val % 128 = b.val; omega)

/-! ## What the body computes -/

section Heads

variable (x0 x1 : Vec Ideal S256x1024 .f32) (x2 : Vec Ideal S1x128 .f32)

/-- The gradient of each head's input. -/
abbrev rows : Fin 8 → FVec Ideal S256x128 .f32
  | 0 => k0_pay7 x0 x1 x2
  | 1 => k0_pay15 (k0_pay11 x0) (k0_pay12 x0) (k0_pay13 x1 x2) (k0_pay14 x0 x1 x2)
  | 2 => k0_pay21 x0 x1 x2
  | 3 => k0_pay29 (k0_pay25 x0) (k0_pay26 x0) (k0_pay27 x1 x2) (k0_pay28 x0 x1 x2)
  | 4 => k0_pay35 x0 x1 x2
  | 5 => k0_pay43 (k0_pay39 x0) (k0_pay40 x0) (k0_pay41 x1 x2) (k0_pay42 x0 x1 x2)
  | 6 => k0_pay49 x0 x1 x2
  | 7 => k0_pay15 (k0_pay53 x0) (k0_pay54 x0) (k0_pay55 x1 x2) (k0_pay56 x0 x1 x2)

/-- What each head adds to the gradient of the weight. -/
abbrev terms : Fin 8 → FVec Ideal S256x128 .f32
  | 0 => k0_pay8 x0 x1
  | 1 => k0_pay16 (k0_pay10 x1) (k0_pay12 x0)
  | 2 => k0_pay22 x0 x1
  | 3 => k0_pay30 (k0_pay24 x1) (k0_pay26 x0)
  | 4 => k0_pay36 x0 x1
  | 5 => k0_pay44 (k0_pay38 x1) (k0_pay40 x0)
  | 6 => k0_pay50 x0 x1
  | 7 => k0_pay16 (k0_pay52 x1) (k0_pay54 x0)

/-- The formulas at an index of a head. -/
abbrev backAt (n : Fin 8) (j : S256x128.Idx) : EReal := back (line x0 (j 0)) (line x1 (j 0)) (line x2 0) n (j 1)

abbrev termAt (n : Fin 8) (j : S256x128.Idx) : EReal := term (line x0 (j 0)) (line x1 (j 0)) n (j 1)

theorem rows_0 (j : S256x128.Idx) : rows x0 x1 x2 0 j = backAt x0 x1 x2 0 j := by
  pointwise [k0_pay3, k0_pay4, k0_pay5, k0_pay6, k0_pay7, k0_pay8]
  simp only [line, back, term, backAt, termAt, scale, col_zero, show col 0 (j 1) = ⟨(j 1).val, _⟩ from col_zero (j 1)]

theorem terms_0 (j : S256x128.Idx) : terms x0 x1 0 j = termAt x0 x1 0 j := by
  pointwise [k0_pay3, k0_pay4, k0_pay5, k0_pay6, k0_pay7, k0_pay8]
  simp only [line, back, term, backAt, termAt, scale, col_zero, show col 0 (j 1) = ⟨(j 1).val, _⟩ from col_zero (j 1)]

theorem rows_1 (j : S256x128.Idx) : rows x0 x1 x2 1 j = backAt x0 x1 x2 1 j := by
  pointwise [k0_pay10, k0_pay11, k0_pay12, k0_pay13, k0_pay14, k0_pay15, k0_pay9]
  rfl

theorem terms_1 (j : S256x128.Idx) : terms x0 x1 1 j = termAt x0 x1 1 j := by
  pointwise [k0_pay10, k0_pay11, k0_pay12, k0_pay13, k0_pay14, k0_pay16, k0_pay9]
  rfl

theorem rows_2 (j : S256x128.Idx) : rows x0 x1 x2 2 j = backAt x0 x1 x2 2 j := by
  pointwise [k0_pay17, k0_pay18, k0_pay19, k0_pay20, k0_pay21, k0_pay22]
  rfl

theorem terms_2 (j : S256x128.Idx) : terms x0 x1 2 j = termAt x0 x1 2 j := by
  pointwise [k0_pay17, k0_pay18, k0_pay19, k0_pay20, k0_pay21, k0_pay22]
  rfl

theorem rows_3 (j : S256x128.Idx) : rows x0 x1 x2 3 j = backAt x0 x1 x2 3 j := by
  pointwise [k0_pay23, k0_pay24, k0_pay25, k0_pay26, k0_pay27, k0_pay28, k0_pay29]
  rfl

theorem terms_3 (j : S256x128.Idx) : terms x0 x1 3 j = termAt x0 x1 3 j := by
  pointwise [k0_pay23, k0_pay24, k0_pay25, k0_pay26, k0_pay27, k0_pay28, k0_pay30]
  rfl

theorem rows_4 (j : S256x128.Idx) : rows x0 x1 x2 4 j = backAt x0 x1 x2 4 j := by
  pointwise [k0_pay31, k0_pay32, k0_pay33, k0_pay34, k0_pay35, k0_pay36]
  rfl

theorem terms_4 (j : S256x128.Idx) : terms x0 x1 4 j = termAt x0 x1 4 j := by
  pointwise [k0_pay31, k0_pay32, k0_pay33, k0_pay34, k0_pay35, k0_pay36]
  rfl

theorem rows_5 (j : S256x128.Idx) : rows x0 x1 x2 5 j = backAt x0 x1 x2 5 j := by
  pointwise [k0_pay37, k0_pay38, k0_pay39, k0_pay40, k0_pay41, k0_pay42, k0_pay43]
  rfl

theorem terms_5 (j : S256x128.Idx) : terms x0 x1 5 j = termAt x0 x1 5 j := by
  pointwise [k0_pay37, k0_pay38, k0_pay39, k0_pay40, k0_pay41, k0_pay42, k0_pay44]
  rfl

theorem rows_6 (j : S256x128.Idx) : rows x0 x1 x2 6 j = backAt x0 x1 x2 6 j := by
  pointwise [k0_pay45, k0_pay46, k0_pay47, k0_pay48, k0_pay49, k0_pay50, k0_pay51]
  rfl

theorem terms_6 (j : S256x128.Idx) : terms x0 x1 6 j = termAt x0 x1 6 j := by
  pointwise [k0_pay45, k0_pay46, k0_pay47, k0_pay48, k0_pay49, k0_pay50, k0_pay51]
  rfl

theorem rows_7 (j : S256x128.Idx) : rows x0 x1 x2 7 j = backAt x0 x1 x2 7 j := by
  pointwise [k0_pay15, k0_pay51, k0_pay52, k0_pay53, k0_pay54, k0_pay55, k0_pay56]
  rfl

theorem terms_7 (j : S256x128.Idx) : terms x0 x1 7 j = termAt x0 x1 7 j := by
  pointwise [k0_pay16, k0_pay51, k0_pay52, k0_pay53, k0_pay54, k0_pay55, k0_pay56]
  rfl

/-- The heads' rows of the body, summed over the rows and the heads. -/
def sums (v : FVec Ideal S256x1024 .f32) : FVec Ideal S1x128 .f32 :=
  addf (addf (addf (addf (addf (addf (addf (addf (broadcast S1x128 (Scalar.ofBits .f32 0x00000000#32 : Ideal .f32))
    (shapeCast S1x128 (multiReduction .add [0] S128 (extractStridedSlice S256x128 ![0, 0] v slices_S256x1024_o0_0_S256x128) 0x00000000#32 reduces_S256x128_S128 (.inl rfl) rfl) shapeCasts_S128_S1x128))
    (shapeCast S1x128 (multiReduction .add [0] S128 (extractStridedSlice S256x128 ![0, 128] v slices_S256x1024_o0_128_S256x128) 0x00000000#32 reduces_S256x128_S128 (.inl rfl) rfl) shapeCasts_S128_S1x128))
    (shapeCast S1x128 (multiReduction .add [0] S128 (extractStridedSlice S256x128 ![0, 256] v slices_S256x1024_o0_256_S256x128) 0x00000000#32 reduces_S256x128_S128 (.inl rfl) rfl) shapeCasts_S128_S1x128))
    (shapeCast S1x128 (multiReduction .add [0] S128 (extractStridedSlice S256x128 ![0, 384] v slices_S256x1024_o0_384_S256x128) 0x00000000#32 reduces_S256x128_S128 (.inl rfl) rfl) shapeCasts_S128_S1x128))
    (shapeCast S1x128 (multiReduction .add [0] S128 (extractStridedSlice S256x128 ![0, 512] v slices_S256x1024_o0_512_S256x128) 0x00000000#32 reduces_S256x128_S128 (.inl rfl) rfl) shapeCasts_S128_S1x128))
    (shapeCast S1x128 (multiReduction .add [0] S128 (extractStridedSlice S256x128 ![0, 640] v slices_S256x1024_o0_640_S256x128) 0x00000000#32 reduces_S256x128_S128 (.inl rfl) rfl) shapeCasts_S128_S1x128))
    (shapeCast S1x128 (multiReduction .add [0] S128 (extractStridedSlice S256x128 ![0, 768] v slices_S256x1024_o0_768_S256x128) 0x00000000#32 reduces_S256x128_S128 (.inl rfl) rfl) shapeCasts_S128_S1x128))
    (shapeCast S1x128 (multiReduction .add [0] S128 (extractStridedSlice S256x128 ![0, 896] v slices_S256x1024_o0_896_S256x128) 0x00000000#32 reduces_S256x128_S128 (.inl rfl) rfl) shapeCasts_S128_S1x128)

theorem sums_apply (v : FVec Ideal S256x1024 .f32) (j : S1x128.Idx) :
    sums v j = ∑ n : Fin 8, ∑ a : Fin 256, v (ix2 a (col n (j 1))) := by
  rw [Fin.sum_univ_eight]
  pointwise [sums]
  rw [show col 0 (j 1) = ⟨(j 1).val, _⟩ from col_zero (j 1)]
  rfl

/-- Eight heads side by side. -/
abbrev beside (f : Fin 8 → FVec Ideal S256x128 .f32) : FVec Ideal S256x1024 .f32 :=
  concatenate S256x1024 1 (List.ofFn fun n : Fin 8 => (⟨S256x128, f n⟩ : (s : Shape) × (s.Idx → Ideal .f32))) concatenates_S256x128_S256x128_S256x128_S256x128_S256x128_S256x128_S256x128_S256x128_S256x1024_d1

theorem beside_apply (f : Fin 8 → FVec Ideal S256x128 .f32) (j : S256x1024.Idx) (n : Fin 8) (l : Fin 128)
    (hn : (j 1).val / 128 = n.val) (hl : l.val = (j 1).val % 128) : beside f j = f n (ix2 (j 0) l) :=
  concatenate_ofFn_apply (1 : Fin S256x1024.rank) f concatenates_S256x128_S256x128_S256x128_S256x128_S256x128_S256x128_S256x128_S256x128_S256x1024_d1 rfl 128 rfl j n hn (ix2 (j 0) l) hl
    (fun b hb => match b with
      | ⟨0, _⟩ => rfl
      | ⟨1, _⟩ => absurd rfl hb)

theorem sums_beside (f : Fin 8 → FVec Ideal S256x128 .f32) (j : S1x128.Idx) :
    sums (beside f) j = ∑ n : Fin 8, ∑ a : Fin 256, f n (ix2 a (j 1)) := by
  have hl : (j 1).val < 128 := (j 1).isLt
  exact (sums_apply _ j).trans (Finset.sum_congr rfl fun n _ => Finset.sum_congr rfl fun a _ =>
    beside_apply f (ix2 a (col n (j 1))) n (j 1) (by show (n.val * 128 + (j 1).val) / 128 = n.val; omega)
      (by show (j 1).val = (n.val * 128 + (j 1).val) % 128; omega))

theorem rows_apply (n : Fin 8) (j : S256x128.Idx) : rows x0 x1 x2 n j = backAt x0 x1 x2 n j :=
  match n with
  | 0 => rows_0 _ _ _ j
  | 1 => rows_1 _ _ _ j
  | 2 => rows_2 _ _ _ j
  | 3 => rows_3 _ _ _ j
  | 4 => rows_4 _ _ _ j
  | 5 => rows_5 _ _ _ j
  | 6 => rows_6 _ _ _ j
  | 7 => rows_7 _ _ _ j

theorem terms_apply (n : Fin 8) (j : S256x128.Idx) : terms x0 x1 n j = termAt x0 x1 n j :=
  match n with
  | 0 => terms_0 _ _ j
  | 1 => terms_1 _ _ j
  | 2 => terms_2 _ _ j
  | 3 => terms_3 _ _ j
  | 4 => terms_4 _ _ j
  | 5 => terms_5 _ _ j
  | 6 => terms_6 _ _ j
  | 7 => terms_7 _ _ j

/-- The rows a point stores: the heads side by side. -/
abbrev rowsOf : FVec Ideal S256x1024 .f32 :=
  k0_pay57 (k0_pay7 x0 x1 x2) (k0_pay15 (k0_pay11 x0) (k0_pay12 x0) (k0_pay13 x1 x2) (k0_pay14 x0 x1 x2)) (k0_pay21 x0 x1 x2) (k0_pay29 (k0_pay25 x0) (k0_pay26 x0) (k0_pay27 x1 x2) (k0_pay28 x0 x1 x2)) (k0_pay35 x0 x1 x2) (k0_pay43 (k0_pay39 x0) (k0_pay40 x0) (k0_pay41 x1 x2) (k0_pay42 x0 x1 x2)) (k0_pay49 x0 x1 x2) (k0_pay53 x0) (k0_pay54 x0) (k0_pay55 x1 x2) (k0_pay56 x0 x1 x2)

/-- What a point adds to the gradient of the weight. -/
abbrev sumOf : FVec Ideal S1x128 .f32 :=
  k0_pay58 (k0_pay8 x0 x1) (k0_pay16 (k0_pay10 x1) (k0_pay12 x0)) (k0_pay22 x0 x1) (k0_pay30 (k0_pay24 x1) (k0_pay26 x0)) (k0_pay36 x0 x1) (k0_pay44 (k0_pay38 x1) (k0_pay40 x0)) (k0_pay50 x0 x1) (k0_pay52 x1) (k0_pay54 x0)

theorem rowsOf_apply (j : S256x1024.Idx) : rowsOf x0 x1 x2 j
    = back (line x0 (j 0)) (line x1 (j 0)) (line x2 0) (head (j 1)) (lane (j 1)) := by
  exact (beside_apply (rows x0 x1 x2) j (head (j 1)) (lane (j 1)) rfl rfl).trans (rows_apply x0 x1 x2 (head (j 1)) (ix2 (j 0) (lane (j 1))))

theorem sumOf_apply (j : S1x128.Idx) : sumOf x0 x1 j
    = ∑ n : Fin 8, ∑ a : Fin 256, term (line x0 a) (line x1 a) n (j 1) := by
  exact (sums_beside (terms x0 x1) j).trans
    (Finset.sum_congr rfl fun n _ => Finset.sum_congr rfl fun a _ => terms_apply x0 x1 n (ix2 a (j 1)))

end Heads

/-! ## The body's two cases -/

section Cases

variable (c : Dev nD) (i : grid0.Coords) (a1 : Memref sig .tc .vmem S256x1024 .f32) (h1 : a1.IsWhole) (a2 : Memref sig .tc .vmem S256x1024 .f32) (h2 : a2.IsWhole)
    (a3 : Memref sig .tc .vmem S1x128 .f32) (h3 : a3.IsWhole) (a4 : Memref sig .tc .vmem S256x1024 .f32) (h4 : a4.IsWhole)
    (a5 : Memref sig .tc .vmem S1x128 .f32) (h5 : a5.IsWhole)
  (x0 x1 : Vec Ideal S256x1024 .f32) (x2 : Vec Ideal S1x128 .f32)

theorem hz : (![0, 0] : Fin 2 → Nat) = fun _ => 0 := by decide

theorem rows_A (hc : cond0_0 i) :
    out0_A_3 c i a1 h1 a2 h2 a3 h3 a4 h4 a5 h5 hc x0 x1 x2 = rowsOf x0 x1 x2 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, h4.read_unread, h5.read_unread,
    View.ld_unit_zero (S := S256x1024) hz, View.ld_unit_zero (S := S1x128) hz]

theorem rows_B (hc : ¬cond0_0 i) (xo : Vec Ideal S1x128 .f32) :
    out0_B_3 c i a1 h1 a2 h2 a3 h3 a4 h4 a5 h5 hc x0 x1 x2 xo = rowsOf x0 x1 x2 := by
  unfold out0_B_3
  rw [View.read_writes_eq_canon _ _ _ (cover0_B_3 c i a1 h1 a2 h2 a3 h3 a4 h4 a5 h5 hc x0 x1 x2 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S256x1024) hz, View.ld_unit_zero (S := S1x128) hz]

theorem sum_A (hc : cond0_0 i) :
    out0_A_4 c i a1 h1 a2 h2 a3 h3 a4 h4 a5 h5 hc x0 x1 x2 = k0_pay2 (sumOf x0 x1) (k0_pay1 (F := Ideal)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S256x1024) hz, View.ld_unit_zero (S := S1x128) hz]

theorem sum_B (hc : ¬cond0_0 i) (xo : Vec Ideal S1x128 .f32) :
    out0_B_4 c i a1 h1 a2 h2 a3 h3 a4 h4 a5 h5 hc x0 x1 x2 xo = k0_pay2 (sumOf x0 x1) xo := by
  unfold out0_B_4
  rw [View.read_writes_eq_canon _ _ _ (cover0_B_4 c i a1 h1 a2 h2 a3 h3 a4 h4 a5 h5 hc x0 x1 x2 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S256x1024) hz, View.ld_unit_zero (S := S1x128) hz]

end Cases

/-! ## The formulas on the whole arrays -/

/-- Row `a` of block `t`, in the whole array. -/
abbrev row (t : Fin cfg0.N) (a : Fin 256) : Fin 8192 :=
  ⟨t.val * 256 + a.val, by have h : t.val < 32 := t.isLt; omega⟩

/-- A column of the first half, in the whole row. -/
abbrev left (b : Fin 1024) : Fin 2048 := ⟨b.val, by omega⟩

/-- The gradient of every row's input. -/
abbrev backs (x : FVec Ideal S8192x1024 .f32) (dy : FVec Ideal S8192x2048 .f32) (w : FVec Ideal S1x128 .f32) : FVec Ideal S8192x1024 .f32 := fun i =>
  back (fun b => x (ix2 (i 0) b)) (fun b => dy (ix2 (i 0) (left b))) (fun l => w (ix2 0 l)) (head (i 1)) (lane (i 1))

/-- What row `a` adds to the gradient of the weight, in column `l`: the sum over the heads. -/
abbrev rowTerm (x : FVec Ideal S8192x1024 .f32) (dy : FVec Ideal S8192x2048 .f32) (l : Fin 128) (a : Fin 8192) : EReal :=
  ∑ n : Fin 8, term (fun b => x (ix2 a b)) (fun b => dy (ix2 a (left b))) n l

/-- The gradient of the weight: the sum over the rows and the heads. -/
abbrev weight (x : FVec Ideal S8192x1024 .f32) (dy : FVec Ideal S8192x2048 .f32) : FVec Ideal S1x128 .f32 := fun i =>
  ∑ a : Fin 8192, rowTerm x dy (i 1) a

/-! ## The blocks -/

/-- Where the blocks of point `t` lie: the rows from `256 t` on, and the one row of the weight and of its gradient. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0) :=
  (by decide +kernel : ∀ t : Fin grid0.N, _)

variable (m : (ℓ : Loc nD τ sig) → Buf (Elt Ideal) ℓ)

/-- The arguments. -/
abbrev A0 (c : Dev nD) : FVec Ideal S8192x1024 .f32 := m ((c : Thread nD τ).loc main_arg0)
abbrev A1 (c : Dev nD) : FVec Ideal S8192x2048 .f32 := m ((c : Thread nD τ).loc main_arg1)
abbrev A2 (c : Dev nD) : FVec Ideal S1x128 .f32 := m ((c : Thread nD τ).loc main_arg2)

theorem in0 (c : Dev nD) (t : Fin cfg0.N) (j : S256x1024.Idx) :
    iblk m c 0 t j = A0 m c (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 256 + 1 * (j 0).val = t.val * 256 + (j 0).val; omega
  · show win0_0.index t (1 : Fin 2) * 1024 + 1 * (j 1).val = (j 1).val; omega

theorem in1 (c : Dev nD) (t : Fin cfg0.N) (j : S256x1024.Idx) :
    iblk m c 1 t j = A1 m c (ix2 (row t (j 0)) (left (j 1))) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 256 + 1 * (j 0).val = t.val * 256 + (j 0).val; omega
  · show win0_1.index t (1 : Fin 2) * 1024 + 1 * (j 1).val = (j 1).val; omega

theorem in2 (c : Dev nD) (t : Fin cfg0.N) (j : S1x128.Idx) :
    iblk m c 2 t j = m ((c : Thread nD τ).loc main_arg2) j := by
  obtain ⟨-, -, ⟨e0, e1⟩, -⟩ := places t
  refine Eq.trans ?_ (congrFun (V_main_arg2 m c) _)
  refine congrArg (V m c main_arg2) (Shape.idx_ext₂ ?_ ?_)
  · show win0_2.index t (0 : Fin 2) * 1 + 1 * (j 0).val = (j 0).val; omega
  · show win0_2.index t (1 : Fin 2) * 128 + 1 * (j 1).val = (j 1).val; omega

/-! ## The rows -/

theorem left3 (c : Dev nD) (t : Fin cfg0.N) :
    (outsAt0 m c t.val t.isLt).1 = rowsOf (iblk m c 0 t) (iblk m c 1 t) (iblk m c 2 t) := by
  by_cases h0 : t.val % 32 = 0
  · rw [outsAt0_A m c t h0]; dsimp only; rw [rows_A]
  · rw [outsAt0_B m c t h0]; dsimp only; rw [rows_B]

/-- What point `t` writes back is its rows of the formula. -/
theorem flushed3 (c : Dev nD) (t : Fin cfg0.N) :
    (dats m 0 c).flushed 3 t = ((cfg0.win 3).blk t).view.read (Elt Ideal)
      (backs (A0 m c) (A1 m c) (A2 m c)) := by
  rw [Cert.HeadNormBackIdeal.Value.flushed3, left3]
  obtain ⟨-, -, -, ⟨e0, e1⟩, -⟩ := places t
  funext j
  show rowsOf (iblk m c 0 t) (iblk m c 1 t) (iblk m c 2 t) j = backs _ _ _ (((cfg0.win 3).blk t).view.emb j)
  have hj : ((cfg0.win 3).blk t).view.emb j = ix2 (row t (j 0)) (j 1) := Shape.idx_ext₂
    (by show win0_3.index t (0 : Fin 2) * 256 + 1 * (j 0).val = t.val * 256 + (j 0).val; omega)
    (by show win0_3.index t (1 : Fin 2) * 1024 + 1 * (j 1).val = (j 1).val; omega)
  rw [hj, rowsOf_apply]
  exact same (fun x g _ w => back x g w (head (j 1)) (lane (j 1))) (funext fun b => in0 m c t (ix2 (j 0) b))
    (funext fun b => in1 m c t (ix2 (j 0) b)) (rfl : line (A0 m c) 0 = _) (funext fun b => in2 m c t (ix2 0 b))

/-- Every row is some point's. -/
theorem covered3 (i : S8192x1024.Idx) :
    ∃ t : Fin cfg0.N, (cfg0.win 3).flush t = true ∧ i ∈ ((cfg0.win 3).blk t).view.set := by
  have h0 : (i 0).val < 8192 := (i 0).isLt
  have h1 : (i 1).val < 1024 := (i 1).isLt
  let t : Fin cfg0.N := ⟨(i 0).val / 256, by show _ < 32; omega⟩
  have ht : t.val = (i 0).val / 256 := rfl
  obtain ⟨-, -, -, ⟨e0, e1⟩, -⟩ := places t
  refine ⟨t, flush0_3 t, ?_⟩
  show i ∈ ((View.whole main_v0_0).slice (win0_3.rect t)).set
  rw [View.set_slice_whole, Rect.mem_set_unit]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1024 ≤ (i 1).val ∧ (i 1).val < win0_3.index t (1 : Fin 2) * 1024 + 1024; omega

theorem final3 (c : Dev nD) : (dats m 0 c).arrAt 3 cfg0.N
    = backs (A0 m c) (A1 m c) (A2 m c) :=
  (dats m 0 c).arrAt_eq_of_cover 3 _ (fun t _ => flushed3 m c t) covered3

/-! ## The sum over the rows -/

/-- What a point adds is its block's sum. -/
theorem add4 (c : Dev nD) (t : Fin cfg0.N) (x : Vec Ideal S1x128 .f32) (j : S1x128.Idx) :
    k0_pay2 (sumOf (iblk m c 0 t) (iblk m c 1 t)) x j
      = x j + RowSum.part (rowTerm (A0 m c) (A1 m c) (j 1)) t.val := by
  rw [RowSum.part_of_lt _ _ t.isLt]
  have h : k0_pay2 (sumOf (iblk m c 0 t) (iblk m c 1 t)) x j = x j + sumOf (iblk m c 0 t) (iblk m c 1 t) j := by
    generalize sumOf (iblk m c 0 t) (iblk m c 1 t) = s
    pointwise [k0_pay2]
  rw [h, sumOf_apply, Finset.sum_comm]
  refine congrArg (x j + ·) (Finset.sum_congr rfl fun a _ => Finset.sum_congr rfl fun n _ => ?_)
  exact same (fun x g _ _ => term x g n (j 1)) (funext fun b => in0 m c t (ix2 a b)) (funext fun b => in1 m c t (ix2 a b))
    (rfl : line (A0 m c) 0 = _) (rfl : line (A2 m c) 0 = _)

/-- After point `n` the sum holds the first `n + 1` blocks. -/
theorem left4 (c : Dev nD) (j : S1x128.Idx) : ∀ (n : Nat) (h : n < cfg0.N), (outsAt0 m c n h).2 j
    = ∑ s ∈ Finset.range (n + 1), RowSum.part (rowTerm (A0 m c) (A1 m c) (j 1)) s
  | 0, h => by
    rw [Finset.sum_range_one, outsAt0_A m c ⟨0, h⟩ rfl]
    dsimp only
    rw [sum_A, add4, show k0_pay1 (F := Ideal) j = 0 by pointwise [k0_pay1], zero_add]
  | n + 1, h => by
    have hB : ¬(⟨n + 1, h⟩ : Fin cfg0.N).val % 32 = 0 := by have : n + 1 < 32 := h; dsimp only; omega
    rw [Finset.sum_range_succ, ← left4 c j n (Nat.lt_of_succ_lt h), outsAt0_B m c ⟨n + 1, h⟩ hB]
    dsimp only
    rw [sum_B, add4]
    rfl

/-- The last point writes back the whole sum. -/
theorem flushed4 (c : Dev nD) (t : Fin cfg0.N) (hf : (cfg0.win 4).flush t = true) :
    (dats m 0 c).flushed 4 t = ((cfg0.win 4).blk t).view.read (Elt Ideal)
      (weight (A0 m c) (A1 m c)) := by
  have h31 : t.val = 31 := by have h := (flush0_4 t).mp hf; have : t.val < 32 := t.isLt; omega
  have hl : (outsAt0 m c t.val t.isLt).2 = weight (A0 m c) (A1 m c) := by
    funext j
    rw [left4 m c j, h31, RowSum.parts]
  rw [Cert.HeadNormBackIdeal.Value.flushed4, hl]
  generalize weight (A0 m c) (A1 m c) = y
  obtain ⟨-, -, -, -, e0, e1⟩ := places t
  funext j
  show y j = y (((cfg0.win 4).blk t).view.emb j)
  have hj : ((cfg0.win 4).blk t).view.emb j = j := Shape.idx_ext₂
    (by show win0_4.index t (0 : Fin 2) * 1 + 1 * (j 0).val = (j 0).val; omega)
    (by show win0_4.index t (1 : Fin 2) * 128 + 1 * (j 1).val = (j 1).val; omega)
  rw [hj]

theorem covered4 (i : S1x128.Idx) :
    ∃ t : Fin cfg0.N, (cfg0.win 4).flush t = true ∧ i ∈ ((cfg0.win 4).blk t).view.set := by
  have h0 : (i 0).val < 1 := (i 0).isLt
  have h1 : (i 1).val < 128 := (i 1).isLt
  let t : Fin cfg0.N := ⟨31, by show _ < 32; omega⟩
  obtain ⟨-, -, -, -, e0, e1⟩ := places t
  refine ⟨t, (flush0_4 t).mpr rfl, ?_⟩
  show i ∈ ((View.whole main_v0_1).slice (win0_4.rect t)).set
  rw [View.set_slice_whole, Rect.mem_set_unit]
  intro a
  match a with
  | ⟨0, _⟩ => show win0_4.index t (0 : Fin 2) * 1 ≤ (i 0).val ∧ (i 0).val < win0_4.index t (0 : Fin 2) * 1 + 1; omega
  | ⟨1, _⟩ => show win0_4.index t (1 : Fin 2) * 128 ≤ (i 1).val ∧ (i 1).val < win0_4.index t (1 : Fin 2) * 128 + 128; omega

theorem final4 (c : Dev nD) : (dats m 0 c).arrAt 4 cfg0.N
    = weight (A0 m c) (A1 m c) :=
  (dats m 0 c).arrAt_eq_of_cover 4 _ (flushed4 m c) covered4

/-! ## The claims -/

theorem quiescent_kernel : Cert.quiescent_HeadNormBack := fun m g _ => Cert.HeadNormBack.Gen.frame m g
theorem quiescent_kernel_ideal : Cert.quiescent_HeadNormBackIdeal := fun m g _ => Cert.HeadNormBackIdeal.Gen.frame m g
theorem quiescent_ref_ideal : Cert.quiescent_HeadNormBackRefIdeal := fun m g _ =>
  (θ_run _ _ _).mono (fun r h => ⟨fun c => (h c).2.2, sem_eq_zero_of_no_sems (by decide) r.2⟩)
    (Cert.HeadNormBackRefIdeal.Value.run m g)

theorem algebraic : Cert.algebraic_HeadNormBackIdeal_HeadNormBackRefIdeal := fun m g m' g' _ hm =>
  ⟨_, _, Cert.HeadNormBackIdeal.Value.run_blocks m g, (θ_run Cert.HeadNormBackRefIdeal.defs _ _).mono (fun r h c => by
    obtain ⟨h0, h1, hk⟩ := h c
    obtain ⟨e0, e1, e2⟩ := hm c
    refine ⟨h0.trans ?_, h1.trans ?_, hk⟩
    · rw [e0, e1, e2, final3]
      funext i
      obtain ⟨a, b, rfl⟩ : ∃ (a : Fin 8192) (b : Fin 1024), i = ix2 a b := ⟨i 0, i 1, Shape.idx_ext₂ rfl rfl⟩
      pointwise
      show _ = back (fun k => A0 m c (ix2 a k)) (fun k => A1 m c (ix2 a (left k)))
        (fun l => m ((c : Thread nD τ).loc main_arg2) (ix2 0 l)) (head b) (lane b)
      simp only [back, scale, col_split]
    · rw [e0, e1, final4]
      funext i
      pointwise) (Cert.HeadNormBackRefIdeal.Value.run m' g')⟩

end Cert.HeadNormBackProof

end
-- ==== Proof.GateNormBackProof.lean ====
/- `hg_out_bwd`: the gradients of a row normalized head by head and of the gate that multiplies it, and the gradient of the weight that
   all the heads share, summed over the rows and the heads, against the same formulas on the whole arrays. -/
module

public import proofs.«01_k».proof.Defs
public import Idealize.ShloMosaic.Lib.Quiescent
public import Idealize.ShloMosaic.Lib.Pointwise
public import Idealize.ShloMosaic.Lib.Tactic
public import proofs.«01_k».proof.Proof.HeadNormBackProof
public import proofs.«01_k».proof.Proof.Gen.GateNormBack.Frame
public import proofs.«01_k».proof.Proof.Gen.GateNormBackIdeal.Value
public import proofs.«01_k».proof.Proof.Gen.GateNormBackRefIdeal.Run

@[expose] public section

set_option maxRecDepth 65536

noncomputable section

namespace Cert.GateNormBackProof

open Idealize.ShloMosaic Idealize.ShloMosaic.TcCoe Idealize.SL.Sem
open Cert.HeadNormBackProof (beside_apply sums_beside line same col head lane scale back term col_zero col_split left hz)
open Cert.GateNormBackIdeal Cert.GateNormBackIdeal.Gen

/-! ## The formulas of one row -/

/-- One over one plus the exponential of the negative. -/
abbrev sig (g : EReal) : EReal := Ideal.div 1 (1 + Ideal.exp (0 - g))

/-- The gradient of the normalized row, out of the gradient of its product with the gate. -/
abbrev dsilu (g dy : Fin 1024 → EReal) (b : Fin 1024) : EReal := dy b * (g b * sig (g b))

/-- The gradient of the gate. -/
abbrev gateBack (x g dy : Fin 1024 → EReal) (w : Fin 128 → EReal) (n : Fin 8) (l : Fin 128) : EReal :=
  dy (col n l) * (x (col n l) * scale x n * w l) *
    (sig (g (col n l)) * (1 + g (col n l) * (1 - sig (g (col n l)))))

/-! ## What the body computes -/

section Heads

variable (x0 x1 x2 : Vec Ideal S256x1024 .f32) (x3 : Vec Ideal S1x128 .f32)

/-- The gradient of each head's input. -/
abbrev rows : Fin 8 → FVec Ideal S256x128 .f32
  | 0 => k0_pay13 (k0_pay9 x0) (k0_pay10 x0) (k0_pay11 x1 x2 x3) (k0_pay12 x0 x1 x2 x3)
  | 1 => k0_pay26 x3 (k0_pay16 x0) (k0_pay21 x1 x2) (k0_pay22 x0) (k0_pay23 (F := Ideal))
  | 2 => k0_pay38 x3 (k0_pay29 x0) (k0_pay34 x1 x2) (k0_pay35 x0)
  | 3 => k0_pay51 x3 (k0_pay41 x0) (k0_pay43 x2) (k0_pay45 x1)
  | 4 => k0_pay63 x3 (k0_pay54 x0) (k0_pay56 x2) (k0_pay58 x1)
  | 5 => k0_pay74 x3 (k0_pay66 x0) (k0_pay67 x1) (k0_pay68 x2) (k0_pay69 x1)
  | 6 => k0_pay86 x0 x1 x2 x3
  | 7 => mulf (broadcastTo S256x128 (k0_pay96 x0) broadcasts_S256x1_S256x128)
      (subf (k0_pay98 x1 x2 x3) (mulf (k0_pay97 x0) (broadcastTo S256x128 (divf (k0_pay99 x0 x1 x2 x3) (k0_pay100 (F := Ideal))) broadcasts_S256x1_S256x128)))

/-- The gradient of each head's gate. -/
abbrev gates : Fin 8 → FVec Ideal S256x128 .f32
  | 0 => k0_pay15 (k0_pay4 x1) (k0_pay5 x2) (k0_pay6 x1) (k0_pay7 x0 x3)
  | 1 => k0_pay28 (k0_pay17 x1) (k0_pay18 x2) (k0_pay19 x1) (k0_pay20 x0 x3)
  | 2 => k0_pay40 (k0_pay30 x1) (k0_pay31 x2) (k0_pay32 x1) (k0_pay33 x0 x3)
  | 3 => k0_pay53 x3 (k0_pay41 x0) (k0_pay42 x1) (k0_pay43 x2) (k0_pay44 x1) (k0_pay46 x0) (k0_pay47 (F := Ideal))
  | 4 => k0_pay65 x3 (k0_pay54 x0) (k0_pay55 x1) (k0_pay56 x2) (k0_pay57 x1) (k0_pay59 x0)
  | 5 => k0_pay78 (k0_pay76 x3 (k0_pay66 x0) (k0_pay68 x2)) (k0_pay77 (k0_pay67 x1) (k0_pay69 x1))
  | 6 => k0_pay89 (k0_pay80 x1) (k0_pay82 x1) (k0_pay88 x0 x2 x3)
  | 7 => k0_pay15 (k0_pay91 x1) (k0_pay92 x2) (k0_pay93 x1) (k0_pay94 x0 x3)

/-- What each head adds to the gradient of the weight. -/
abbrev terms : Fin 8 → FVec Ideal S256x128 .f32
  | 0 => k0_pay14 (k0_pay8 x1 x2) (k0_pay10 x0)
  | 1 => k0_pay27 (k0_pay16 x0) (k0_pay21 x1 x2) (k0_pay22 x0) (k0_pay23 (F := Ideal))
  | 2 => k0_pay39 (k0_pay29 x0) (k0_pay34 x1 x2) (k0_pay35 x0)
  | 3 => k0_pay52 (k0_pay41 x0) (k0_pay43 x2) (k0_pay45 x1)
  | 4 => k0_pay64 (k0_pay54 x0) (k0_pay56 x2) (k0_pay58 x1)
  | 5 => k0_pay75 (k0_pay66 x0) (k0_pay67 x1) (k0_pay68 x2) (k0_pay69 x1)
  | 6 => k0_pay87 x0 x1 x2
  | 7 => k0_pay14 (k0_pay95 x1 x2) (k0_pay97 x0)

/-- The formulas at an index of a head. -/
abbrev backAt (n : Fin 8) (j : S256x128.Idx) : EReal := back (line x0 (j 0)) (dsilu (line x1 (j 0)) (line x2 (j 0))) (line x3 0) n (j 1)

abbrev gateAt (n : Fin 8) (j : S256x128.Idx) : EReal := gateBack (line x0 (j 0)) (line x1 (j 0)) (line x2 (j 0)) (line x3 0) n (j 1)

abbrev termAt (n : Fin 8) (j : S256x128.Idx) : EReal := term (line x0 (j 0)) (dsilu (line x1 (j 0)) (line x2 (j 0))) n (j 1)

theorem rows_0 (j : S256x128.Idx) : rows x0 x1 x2 x3 0 j = backAt x0 x1 x2 x3 0 j := by
  pointwise [k0_pay3, k0_pay4, k0_pay5, k0_pay6, k0_pay8, k0_pay9, k0_pay10, k0_pay11, k0_pay12, k0_pay13]
  simp only [back, gateBack, backAt, gateAt, termAt, dsilu, term, scale, col_zero, show col 0 (j 1) = ⟨(j 1).val, _⟩ from col_zero (j 1)]

theorem rows_1 (j : S256x128.Idx) : rows x0 x1 x2 x3 1 j = backAt x0 x1 x2 x3 1 j := by
  pointwise [k0_pay16, k0_pay17, k0_pay18, k0_pay19, k0_pay21, k0_pay22, k0_pay23, k0_pay24, k0_pay25, k0_pay26]
  rfl

theorem rows_2 (j : S256x128.Idx) : rows x0 x1 x2 x3 2 j = backAt x0 x1 x2 x3 2 j := by
  pointwise [k0_pay29, k0_pay30, k0_pay31, k0_pay32, k0_pay34, k0_pay35, k0_pay36, k0_pay37, k0_pay38]
  rfl

theorem rows_3 (j : S256x128.Idx) : rows x0 x1 x2 x3 3 j = backAt x0 x1 x2 x3 3 j := by
  pointwise [k0_pay41, k0_pay42, k0_pay43, k0_pay44, k0_pay45, k0_pay48, k0_pay49, k0_pay50, k0_pay51]
  rfl

theorem rows_4 (j : S256x128.Idx) : rows x0 x1 x2 x3 4 j = backAt x0 x1 x2 x3 4 j := by
  pointwise [k0_pay54, k0_pay55, k0_pay56, k0_pay57, k0_pay58, k0_pay60, k0_pay61, k0_pay62, k0_pay63]
  rfl

theorem rows_5 (j : S256x128.Idx) : rows x0 x1 x2 x3 5 j = backAt x0 x1 x2 x3 5 j := by
  pointwise [k0_pay66, k0_pay67, k0_pay68, k0_pay69, k0_pay70, k0_pay71, k0_pay72, k0_pay73, k0_pay74]
  rfl

theorem rows_6 (j : S256x128.Idx) : rows x0 x1 x2 x3 6 j = backAt x0 x1 x2 x3 6 j := by
  pointwise [k0_pay79, k0_pay80, k0_pay81, k0_pay82, k0_pay83, k0_pay84, k0_pay85, k0_pay86]
  rfl

theorem rows_7 (j : S256x128.Idx) : rows x0 x1 x2 x3 7 j = backAt x0 x1 x2 x3 7 j := by
  pointwise [k0_pay90, k0_pay91, k0_pay92, k0_pay93, k0_pay95, k0_pay96, k0_pay97, k0_pay98, k0_pay99, k0_pay100]
  rfl

theorem gates_0 (j : S256x128.Idx) : gates x0 x1 x2 x3 0 j = gateAt x0 x1 x2 x3 0 j := by
  pointwise [k0_pay3, k0_pay4, k0_pay5, k0_pay6, k0_pay7, k0_pay15]
  simp only [back, gateBack, backAt, gateAt, termAt, dsilu, term, scale, col_zero, show col 0 (j 1) = ⟨(j 1).val, _⟩ from col_zero (j 1)]

theorem gates_1 (j : S256x128.Idx) : gates x0 x1 x2 x3 1 j = gateAt x0 x1 x2 x3 1 j := by
  pointwise [k0_pay16, k0_pay17, k0_pay18, k0_pay19, k0_pay20, k0_pay28]
  rfl

theorem gates_2 (j : S256x128.Idx) : gates x0 x1 x2 x3 2 j = gateAt x0 x1 x2 x3 2 j := by
  pointwise [k0_pay29, k0_pay30, k0_pay31, k0_pay32, k0_pay33, k0_pay40]
  rfl

theorem gates_3 (j : S256x128.Idx) : gates x0 x1 x2 x3 3 j = gateAt x0 x1 x2 x3 3 j := by
  pointwise [k0_pay41, k0_pay42, k0_pay43, k0_pay44, k0_pay46, k0_pay47, k0_pay53]
  rfl

theorem gates_4 (j : S256x128.Idx) : gates x0 x1 x2 x3 4 j = gateAt x0 x1 x2 x3 4 j := by
  pointwise [k0_pay54, k0_pay55, k0_pay56, k0_pay57, k0_pay59, k0_pay65]
  rfl

theorem gates_5 (j : S256x128.Idx) : gates x0 x1 x2 x3 5 j = gateAt x0 x1 x2 x3 5 j := by
  pointwise [k0_pay66, k0_pay67, k0_pay68, k0_pay69, k0_pay70, k0_pay76, k0_pay77, k0_pay78]
  rfl

theorem gates_6 (j : S256x128.Idx) : gates x0 x1 x2 x3 6 j = gateAt x0 x1 x2 x3 6 j := by
  pointwise [k0_pay79, k0_pay80, k0_pay81, k0_pay82, k0_pay88, k0_pay89]
  rfl

theorem gates_7 (j : S256x128.Idx) : gates x0 x1 x2 x3 7 j = gateAt x0 x1 x2 x3 7 j := by
  pointwise [k0_pay15, k0_pay90, k0_pay91, k0_pay92, k0_pay93, k0_pay94]
  rfl

theorem terms_0 (j : S256x128.Idx) : terms x0 x1 x2 0 j = termAt x0 x1 x2 0 j := by
  pointwise [k0_pay3, k0_pay4, k0_pay5, k0_pay6, k0_pay8, k0_pay9, k0_pay10, k0_pay14]
  simp only [back, gateBack, backAt, gateAt, termAt, dsilu, term, scale, col_zero, show col 0 (j 1) = ⟨(j 1).val, _⟩ from col_zero (j 1)]

theorem terms_1 (j : S256x128.Idx) : terms x0 x1 x2 1 j = termAt x0 x1 x2 1 j := by
  pointwise [k0_pay16, k0_pay17, k0_pay18, k0_pay19, k0_pay21, k0_pay22, k0_pay23, k0_pay24, k0_pay25, k0_pay27]
  rfl

theorem terms_2 (j : S256x128.Idx) : terms x0 x1 x2 2 j = termAt x0 x1 x2 2 j := by
  pointwise [k0_pay29, k0_pay30, k0_pay31, k0_pay32, k0_pay34, k0_pay35, k0_pay36, k0_pay37, k0_pay39]
  rfl

theorem terms_3 (j : S256x128.Idx) : terms x0 x1 x2 3 j = termAt x0 x1 x2 3 j := by
  pointwise [k0_pay41, k0_pay42, k0_pay43, k0_pay44, k0_pay45, k0_pay48, k0_pay49, k0_pay50, k0_pay52]
  rfl

theorem terms_4 (j : S256x128.Idx) : terms x0 x1 x2 4 j = termAt x0 x1 x2 4 j := by
  pointwise [k0_pay54, k0_pay55, k0_pay56, k0_pay57, k0_pay58, k0_pay60, k0_pay61, k0_pay62, k0_pay64]
  rfl

theorem terms_5 (j : S256x128.Idx) : terms x0 x1 x2 5 j = termAt x0 x1 x2 5 j := by
  pointwise [k0_pay66, k0_pay67, k0_pay68, k0_pay69, k0_pay70, k0_pay71, k0_pay72, k0_pay73, k0_pay75]
  rfl

theorem terms_6 (j : S256x128.Idx) : terms x0 x1 x2 6 j = termAt x0 x1 x2 6 j := by
  pointwise [k0_pay79, k0_pay80, k0_pay81, k0_pay82, k0_pay83, k0_pay84, k0_pay85, k0_pay87]
  rfl

theorem terms_7 (j : S256x128.Idx) : terms x0 x1 x2 7 j = termAt x0 x1 x2 7 j := by
  pointwise [k0_pay14, k0_pay90, k0_pay91, k0_pay92, k0_pay93, k0_pay95, k0_pay96, k0_pay97]
  rfl

theorem rows_apply (n : Fin 8) (j : S256x128.Idx) : rows x0 x1 x2 x3 n j = backAt x0 x1 x2 x3 n j :=
  match n with
  | 0 => rows_0 _ _ _ _ j
  | 1 => rows_1 _ _ _ _ j
  | 2 => rows_2 _ _ _ _ j
  | 3 => rows_3 _ _ _ _ j
  | 4 => rows_4 _ _ _ _ j
  | 5 => rows_5 _ _ _ _ j
  | 6 => rows_6 _ _ _ _ j
  | 7 => rows_7 _ _ _ _ j

theorem gates_apply (n : Fin 8) (j : S256x128.Idx) : gates x0 x1 x2 x3 n j = gateAt x0 x1 x2 x3 n j :=
  match n with
  | 0 => gates_0 _ _ _ _ j
  | 1 => gates_1 _ _ _ _ j
  | 2 => gates_2 _ _ _ _ j
  | 3 => gates_3 _ _ _ _ j
  | 4 => gates_4 _ _ _ _ j
  | 5 => gates_5 _ _ _ _ j
  | 6 => gates_6 _ _ _ _ j
  | 7 => gates_7 _ _ _ _ j

theorem terms_apply (n : Fin 8) (j : S256x128.Idx) : terms x0 x1 x2 n j = termAt x0 x1 x2 n j :=
  match n with
  | 0 => terms_0 _ _ _ j
  | 1 => terms_1 _ _ _ j
  | 2 => terms_2 _ _ _ j
  | 3 => terms_3 _ _ _ j
  | 4 => terms_4 _ _ _ j
  | 5 => terms_5 _ _ _ j
  | 6 => terms_6 _ _ _ j
  | 7 => terms_7 _ _ _ j

/-- The rows of the input's gradient that a point stores: the heads side by side. -/
abbrev rowsOf : FVec Ideal S256x1024 .f32 :=
  k0_pay101 (k0_pay13 (k0_pay9 x0) (k0_pay10 x0) (k0_pay11 x1 x2 x3) (k0_pay12 x0 x1 x2 x3)) (k0_pay26 x3 (k0_pay16 x0) (k0_pay21 x1 x2) (k0_pay22 x0) (k0_pay23 (F := Ideal))) (k0_pay38 x3 (k0_pay29 x0) (k0_pay34 x1 x2) (k0_pay35 x0)) (k0_pay51 x3 (k0_pay41 x0) (k0_pay43 x2) (k0_pay45 x1)) (k0_pay63 x3 (k0_pay54 x0) (k0_pay56 x2) (k0_pay58 x1)) (k0_pay74 x3 (k0_pay66 x0) (k0_pay67 x1) (k0_pay68 x2) (k0_pay69 x1)) (k0_pay86 x0 x1 x2 x3) (k0_pay96 x0) (k0_pay97 x0) (k0_pay98 x1 x2 x3) (k0_pay99 x0 x1 x2 x3) (k0_pay100 (F := Ideal))

/-- The rows of the gate's gradient that a point stores. -/
abbrev gatesOf : FVec Ideal S256x1024 .f32 :=
  k0_pay102 (k0_pay15 (k0_pay4 x1) (k0_pay5 x2) (k0_pay6 x1) (k0_pay7 x0 x3)) (k0_pay28 (k0_pay17 x1) (k0_pay18 x2) (k0_pay19 x1) (k0_pay20 x0 x3)) (k0_pay40 (k0_pay30 x1) (k0_pay31 x2) (k0_pay32 x1) (k0_pay33 x0 x3)) (k0_pay53 x3 (k0_pay41 x0) (k0_pay42 x1) (k0_pay43 x2) (k0_pay44 x1) (k0_pay46 x0) (k0_pay47 (F := Ideal))) (k0_pay65 x3 (k0_pay54 x0) (k0_pay55 x1) (k0_pay56 x2) (k0_pay57 x1) (k0_pay59 x0)) (k0_pay78 (k0_pay76 x3 (k0_pay66 x0) (k0_pay68 x2)) (k0_pay77 (k0_pay67 x1) (k0_pay69 x1))) (k0_pay89 (k0_pay80 x1) (k0_pay82 x1) (k0_pay88 x0 x2 x3)) (k0_pay91 x1) (k0_pay92 x2) (k0_pay93 x1) (k0_pay94 x0 x3)

/-- What a point makes of its sum. -/
abbrev sumOf (x : FVec Ideal S1x128 .f32) : FVec Ideal S1x128 .f32 :=
  k0_pay2 (k0_pay104 (k0_pay14 (k0_pay8 x1 x2) (k0_pay10 x0)) (k0_pay27 (k0_pay16 x0) (k0_pay21 x1 x2) (k0_pay22 x0) (k0_pay23 (F := Ideal))) (k0_pay39 (k0_pay29 x0) (k0_pay34 x1 x2) (k0_pay35 x0)) (k0_pay52 (k0_pay41 x0) (k0_pay43 x2) (k0_pay45 x1)) (k0_pay64 (k0_pay54 x0) (k0_pay56 x2) (k0_pay58 x1)) (k0_pay75 (k0_pay66 x0) (k0_pay67 x1) (k0_pay68 x2) (k0_pay69 x1)) (k0_pay87 x0 x1 x2) (k0_pay95 x1 x2) (k0_pay97 x0)) (k0_pay105 (k0_pay14 (k0_pay8 x1 x2) (k0_pay10 x0)) (k0_pay27 (k0_pay16 x0) (k0_pay21 x1 x2) (k0_pay22 x0) (k0_pay23 (F := Ideal))) (k0_pay39 (k0_pay29 x0) (k0_pay34 x1 x2) (k0_pay35 x0)) (k0_pay52 (k0_pay41 x0) (k0_pay43 x2) (k0_pay45 x1)) (k0_pay64 (k0_pay54 x0) (k0_pay56 x2) (k0_pay58 x1)) (k0_pay75 (k0_pay66 x0) (k0_pay67 x1) (k0_pay68 x2) (k0_pay69 x1)) (k0_pay87 x0 x1 x2) (k0_pay95 x1 x2) (k0_pay97 x0)) x

theorem rowsOf_apply (j : S256x1024.Idx) : rowsOf x0 x1 x2 x3 j = back (line x0 (j 0)) (dsilu (line x1 (j 0)) (line x2 (j 0))) (line x3 0) (head (j 1)) (lane (j 1)) := by
  exact (beside_apply (rows x0 x1 x2 x3) j (head (j 1)) (lane (j 1)) rfl rfl).trans
    (rows_apply x0 x1 x2 x3 (head (j 1)) (ix2 (j 0) (lane (j 1))))

theorem gatesOf_apply (j : S256x1024.Idx) : gatesOf x0 x1 x2 x3 j = gateBack (line x0 (j 0)) (line x1 (j 0)) (line x2 (j 0)) (line x3 0) (head (j 1)) (lane (j 1)) := by
  exact (beside_apply (gates x0 x1 x2 x3) j (head (j 1)) (lane (j 1)) rfl rfl).trans
    (gates_apply x0 x1 x2 x3 (head (j 1)) (ix2 (j 0) (lane (j 1))))

theorem step_apply (s : FVec Ideal S1x128 .f32) (r : FVec Ideal S128 .f32) (x : FVec Ideal S1x128 .f32) (j : S1x128.Idx) :
    k0_pay2 s r x j = x j + (addf s (shapeCast S1x128 r shapeCasts_S128_S1x128) : FVec Ideal S1x128 .f32) j := by
  pointwise [k0_pay2]

theorem sumOf_apply (x : FVec Ideal S1x128 .f32) (j : S1x128.Idx) : sumOf x0 x1 x2 x j
    = x j + ∑ n : Fin 8, ∑ a : Fin 256, term (line x0 a) (dsilu (line x1 a) (line x2 a)) n (j 1) := by
  refine (step_apply _ _ x j).trans ?_
  exact congrArg (x j + ·) ((sums_beside (terms x0 x1 x2) j).trans
    (Finset.sum_congr rfl fun n _ => Finset.sum_congr rfl fun a _ => terms_apply x0 x1 x2 n (ix2 a (j 1))))

end Heads

/-! ## The body's two cases -/

section Cases

variable (c : Dev nD) (i : grid0.Coords)
  (a1 : Memref Cert.GateNormBackIdeal.sig .tc .vmem S256x1024 .f32) (h1 : a1.IsWhole)
  (a2 : Memref Cert.GateNormBackIdeal.sig .tc .vmem S256x1024 .f32) (h2 : a2.IsWhole)
  (a3 : Memref Cert.GateNormBackIdeal.sig .tc .vmem S256x1024 .f32) (h3 : a3.IsWhole)
  (a4 : Memref Cert.GateNormBackIdeal.sig .tc .vmem S1x128 .f32) (h4 : a4.IsWhole)
  (a5 : Memref Cert.GateNormBackIdeal.sig .tc .vmem S256x1024 .f32) (h5 : a5.IsWhole)
  (a6 : Memref Cert.GateNormBackIdeal.sig .tc .vmem S256x1024 .f32) (h6 : a6.IsWhole)
  (a7 : Memref Cert.GateNormBackIdeal.sig .tc .vmem S1x128 .f32) (h7 : a7.IsWhole)
  (x0 x1 x2 : Vec Ideal S256x1024 .f32) (x3 : Vec Ideal S1x128 .f32)

theorem rows_A (hc : cond0_0 i) : out0_A_4 c i a1 h1 a2 h2 a3 h3 a4 h4 a5 h5 a6 h6 a7 h7 hc x0 x1 x2 x3 = rowsOf x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x1024) hz, View.ld_unit_zero (S := S1x128) hz]

theorem rows_B (hc : ¬cond0_0 i) (xo : Vec Ideal S1x128 .f32) : out0_B_4 c i a1 h1 a2 h2 a3 h3 a4 h4 a5 h5 a6 h6 a7 h7 hc x0 x1 x2 x3 xo = rowsOf x0 x1 x2 x3 := by
  unfold out0_B_4
  rw [View.read_writes_eq_canon _ _ _ (cover0_B_4 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x1024) hz, View.ld_unit_zero (S := S1x128) hz]

theorem gates_A (hc : cond0_0 i) : out0_A_5 c i a1 h1 a2 h2 a3 h3 a4 h4 a5 h5 a6 h6 a7 h7 hc x0 x1 x2 x3 = gatesOf x0 x1 x2 x3 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x1024) hz, View.ld_unit_zero (S := S1x128) hz]

theorem gates_B (hc : ¬cond0_0 i) (xo : Vec Ideal S1x128 .f32) : out0_B_5 c i a1 h1 a2 h2 a3 h3 a4 h4 a5 h5 a6 h6 a7 h7 hc x0 x1 x2 x3 xo = gatesOf x0 x1 x2 x3 := by
  unfold out0_B_5
  rw [View.read_writes_eq_canon _ _ _ (cover0_B_5 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x1024) hz, View.ld_unit_zero (S := S1x128) hz]

theorem sum_A (hc : cond0_0 i) : out0_A_6 c i a1 h1 a2 h2 a3 h3 a4 h4 a5 h5 a6 h6 a7 h7 hc x0 x1 x2 x3 = sumOf x0 x1 x2 (k0_pay1 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    h7.read_unread, View.ld_unit_zero (S := S256x1024) hz, View.ld_unit_zero (S := S1x128) hz]

theorem sum_B (hc : ¬cond0_0 i) (xo : Vec Ideal S1x128 .f32) : out0_B_6 c i a1 h1 a2 h2 a3 h3 a4 h4 a5 h5 a6 h6 a7 h7 hc x0 x1 x2 x3 xo = sumOf x0 x1 x2 xo := by
  unfold out0_B_6
  rw [View.read_writes_eq_canon _ _ _ (cover0_B_6 c i a1 h1 a2 h2 a3 h3 a4 h4 a5 h5 a6 h6 a7 h7 hc x0 x1 x2 x3 xo)]
  unfold kernelRun0_B
  dsimp only
  sl_unfold_words
  rw [View.canon_unit_zero hz]
  simp only [View.readAt_eq_ld, h1.read_unread, h2.read_unread, h3.read_unread, h4.read_unread, h5.read_unread, h6.read_unread,
    h7.read_unread, View.ld_unit_zero (S := S256x1024) hz, View.ld_unit_zero (S := S1x128) hz]

end Cases

/-! ## The formulas on the whole arrays -/

/-- Row `a` of block `t`, in the whole array. -/
abbrev row (t : Fin cfg0.N) (a : Fin 256) : Fin 8192 :=
  ⟨t.val * 256 + a.val, by have h : t.val < 32 := t.isLt; omega⟩

/-- A row of the gate: the last 1024 columns. -/
abbrev gateLine (g : FVec Ideal S8192x7168 .f32) (a : Fin 8192) (b : Fin 1024) : EReal := g (ix2 a ⟨6144 + b.val, by omega⟩)

/-- A row of the result's gradient: the second half. -/
abbrev dyLine (dy : FVec Ideal S8192x2048 .f32) (a : Fin 8192) (b : Fin 1024) : EReal := dy (ix2 a ⟨1024 + b.val, by omega⟩)

/-- The gradient of every row's input. -/
abbrev backs (x : FVec Ideal S8192x1024 .f32) (g : FVec Ideal S8192x7168 .f32) (dy : FVec Ideal S8192x2048 .f32) (w : FVec Ideal S1x128 .f32) : FVec Ideal S8192x1024 .f32 := fun i =>
  back (line x (i 0)) (dsilu (gateLine g (i 0)) (dyLine dy (i 0))) (line w 0) (head (i 1)) (lane (i 1))

/-- The gradient of every row's gate. -/
abbrev gateBacks (x : FVec Ideal S8192x1024 .f32) (g : FVec Ideal S8192x7168 .f32) (dy : FVec Ideal S8192x2048 .f32) (w : FVec Ideal S1x128 .f32) : FVec Ideal S8192x1024 .f32 := fun i =>
  gateBack (line x (i 0)) (gateLine g (i 0)) (dyLine dy (i 0)) (line w 0) (head (i 1)) (lane (i 1))

/-- What row `a` adds to the gradient of the weight, in column `l`: the sum over the heads. -/
abbrev rowTerm (x : FVec Ideal S8192x1024 .f32) (g : FVec Ideal S8192x7168 .f32) (dy : FVec Ideal S8192x2048 .f32) (l : Fin 128) (a : Fin 8192) : EReal :=
  ∑ n : Fin 8, term (line x a) (dsilu (gateLine g a) (dyLine dy a)) n l

/-- The gradient of the weight: the sum over the rows and the heads. -/
abbrev weight (x : FVec Ideal S8192x1024 .f32) (g : FVec Ideal S8192x7168 .f32) (dy : FVec Ideal S8192x2048 .f32) : FVec Ideal S1x128 .f32 := fun i =>
  ∑ a : Fin 8192, rowTerm x g dy (i 1) a

/-! ## The blocks -/

/-- Where the blocks of point `t` lie: the rows from `256 t` on, and the one row of the weight and of its gradient. -/
theorem places : ∀ t : Fin cfg0.N, (win0_0.index t (0 : Fin 2) = t.val ∧ win0_0.index t (1 : Fin 2) = 0)
    ∧ (win0_1.index t (0 : Fin 2) = t.val ∧ win0_1.index t (1 : Fin 2) = 6)
    ∧ (win0_2.index t (0 : Fin 2) = t.val ∧ win0_2.index t (1 : Fin 2) = 1)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

variable (m : (ℓ : Loc nD τ Cert.GateNormBackIdeal.sig) → Buf (Elt Ideal) ℓ)

/-- The arguments. -/
abbrev A0 (c : Dev nD) : FVec Ideal S8192x1024 .f32 := m ((c : Thread nD τ).loc main_arg0)
abbrev A1 (c : Dev nD) : FVec Ideal S8192x7168 .f32 := m ((c : Thread nD τ).loc main_arg1)
abbrev A2 (c : Dev nD) : FVec Ideal S8192x2048 .f32 := m ((c : Thread nD τ).loc main_arg2)
abbrev A3 (c : Dev nD) : FVec Ideal S1x128 .f32 := m ((c : Thread nD τ).loc main_arg3)

theorem in0 (c : Dev nD) (t : Fin cfg0.N) (j : S256x1024.Idx) : iblk m c 0 t j = line (A0 m c) (row t (j 0)) (j 1) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 256 + 1 * (j 0).val = t.val * 256 + (j 0).val; omega
  · show win0_0.index t (1 : Fin 2) * 1024 + 1 * (j 1).val = (j 1).val; omega

theorem in1 (c : Dev nD) (t : Fin cfg0.N) (j : S256x1024.Idx) : iblk m c 1 t j = gateLine (A1 m c) (row t (j 0)) (j 1) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 256 + 1 * (j 0).val = t.val * 256 + (j 0).val; omega
  · show win0_1.index t (1 : Fin 2) * 1024 + 1 * (j 1).val = 6144 + (j 1).val; omega

theorem in2 (c : Dev nD) (t : Fin cfg0.N) (j : S256x1024.Idx) : iblk m c 2 t j = dyLine (A2 m c) (row t (j 0)) (j 1) := by
  obtain ⟨-, -, ⟨e0, e1⟩, -⟩ := places t
  refine Eq.trans ?_ (congrFun (V_main_arg2 m c) _)
  refine congrArg (V m c main_arg2) (Shape.idx_ext₂ ?_ ?_)
  · show win0_2.index t (0 : Fin 2) * 256 + 1 * (j 0).val = t.val * 256 + (j 0).val; omega
  · show win0_2.index t (1 : Fin 2) * 1024 + 1 * (j 1).val = 1024 + (j 1).val; omega

theorem in3 (c : Dev nD) (t : Fin cfg0.N) (j : S1x128.Idx) : iblk m c 3 t j = m ((c : Thread nD τ).loc main_arg3) j := by
  obtain ⟨-, -, -, ⟨e0, e1⟩, -⟩ := places t
  refine Eq.trans ?_ (congrFun (V_main_arg3 m c) _)
  refine congrArg (V m c main_arg3) (Shape.idx_ext₂ ?_ ?_)
  · show win0_3.index t (0 : Fin 2) * 1 + 1 * (j 0).val = (j 0).val; omega
  · show win0_3.index t (1 : Fin 2) * 128 + 1 * (j 1).val = (j 1).val; omega

/-! ## The rows -/

theorem left4 (c : Dev nD) (t : Fin cfg0.N) : (outsAt0 m c t.val t.isLt).1 = rowsOf (iblk m c 0 t) (iblk m c 1 t) (iblk m c 2 t) (iblk m c 3 t) := by
  by_cases h0 : t.val % 32 = 0
  · rw [outsAt0_A m c t h0]; dsimp only; rw [rows_A]
  · rw [outsAt0_B m c t h0]; dsimp only; rw [rows_B]

/-- What point `t` writes back is its rows of the formula. -/
theorem flushed4 (c : Dev nD) (t : Fin cfg0.N) : (dats m 0 c).flushed 4 t = ((cfg0.win 4).blk t).view.read (Elt Ideal)
    (backs (A0 m c) (A1 m c) (A2 m c) (A3 m c)) := by
  rw [Cert.GateNormBackIdeal.Value.flushed4, left4]
  obtain ⟨-, -, -, -, ⟨e0, e1⟩, -⟩ := places t
  funext j
  show rowsOf (iblk m c 0 t) (iblk m c 1 t) (iblk m c 2 t) (iblk m c 3 t) j = backs _ _ _ _ (((cfg0.win 4).blk t).view.emb j)
  have hj : ((cfg0.win 4).blk t).view.emb j = ix2 (row t (j 0)) (j 1) := Shape.idx_ext₂
    (by show win0_4.index t (0 : Fin 2) * 256 + 1 * (j 0).val = t.val * 256 + (j 0).val; omega)
    (by show win0_4.index t (1 : Fin 2) * 1024 + 1 * (j 1).val = (j 1).val; omega)
  rw [hj, rowsOf_apply]
  exact same (fun x g d w => back x (dsilu g d) w (head (j 1)) (lane (j 1))) (funext fun b => in0 m c t (ix2 (j 0) b)) (funext fun b => in1 m c t (ix2 (j 0) b))
    (funext fun b => in2 m c t (ix2 (j 0) b)) (funext fun b => in3 m c t (ix2 0 b))

/-- Every row is some point's. -/
theorem covered4 (i : S8192x1024.Idx) :
    ∃ t : Fin cfg0.N, (cfg0.win 4).flush t = true ∧ i ∈ ((cfg0.win 4).blk t).view.set := by
  have h0 : (i 0).val < 8192 := (i 0).isLt
  have h1 : (i 1).val < 1024 := (i 1).isLt
  let t : Fin cfg0.N := ⟨(i 0).val / 256, by show _ < 32; omega⟩
  have ht : t.val = (i 0).val / 256 := rfl
  obtain ⟨-, -, -, -, ⟨e0, e1⟩, -⟩ := places t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 1024 ≤ (i 1).val ∧ (i 1).val < win0_4.index t (1 : Fin 2) * 1024 + 1024; omega

theorem final4 (c : Dev nD) : (dats m 0 c).arrAt 4 cfg0.N = backs (A0 m c) (A1 m c) (A2 m c) (A3 m c) :=
  (dats m 0 c).arrAt_eq_of_cover 4 _ (fun t _ => flushed4 m c t) covered4

theorem left5 (c : Dev nD) (t : Fin cfg0.N) : (outsAt0 m c t.val t.isLt).2.1 = gatesOf (iblk m c 0 t) (iblk m c 1 t) (iblk m c 2 t) (iblk m c 3 t) := by
  by_cases h0 : t.val % 32 = 0
  · rw [outsAt0_A m c t h0]; dsimp only; rw [gates_A]
  · rw [outsAt0_B m c t h0]; dsimp only; rw [gates_B]

/-- What point `t` writes back is its rows of the formula. -/
theorem flushed5 (c : Dev nD) (t : Fin cfg0.N) : (dats m 0 c).flushed 5 t = ((cfg0.win 5).blk t).view.read (Elt Ideal)
    (gateBacks (A0 m c) (A1 m c) (A2 m c) (A3 m c)) := by
  rw [Cert.GateNormBackIdeal.Value.flushed5, left5]
  obtain ⟨-, -, -, -, -, ⟨e0, e1⟩, -⟩ := places t
  funext j
  show gatesOf (iblk m c 0 t) (iblk m c 1 t) (iblk m c 2 t) (iblk m c 3 t) j = gateBacks _ _ _ _ (((cfg0.win 5).blk t).view.emb j)
  have hj : ((cfg0.win 5).blk t).view.emb j = ix2 (row t (j 0)) (j 1) := Shape.idx_ext₂
    (by show win0_5.index t (0 : Fin 2) * 256 + 1 * (j 0).val = t.val * 256 + (j 0).val; omega)
    (by show win0_5.index t (1 : Fin 2) * 1024 + 1 * (j 1).val = (j 1).val; omega)
  rw [hj, gatesOf_apply]
  exact same (fun x g d w => gateBack x g d w (head (j 1)) (lane (j 1))) (funext fun b => in0 m c t (ix2 (j 0) b)) (funext fun b => in1 m c t (ix2 (j 0) b))
    (funext fun b => in2 m c t (ix2 (j 0) b)) (funext fun b => in3 m c t (ix2 0 b))

/-- Every row is some point's. -/
theorem covered5 (i : S8192x1024.Idx) :
    ∃ t : Fin cfg0.N, (cfg0.win 5).flush t = true ∧ i ∈ ((cfg0.win 5).blk t).view.set := by
  have h0 : (i 0).val < 8192 := (i 0).isLt
  have h1 : (i 1).val < 1024 := (i 1).isLt
  let t : Fin cfg0.N := ⟨(i 0).val / 256, by show _ < 32; omega⟩
  have ht : t.val = (i 0).val / 256 := rfl
  obtain ⟨-, -, -, -, -, ⟨e0, e1⟩, -⟩ := places t
  refine ⟨t, flush0_5 t, ?_⟩
  show i ∈ ((View.whole main_v0_1).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

theorem final5 (c : Dev nD) : (dats m 0 c).arrAt 5 cfg0.N = gateBacks (A0 m c) (A1 m c) (A2 m c) (A3 m c) :=
  (dats m 0 c).arrAt_eq_of_cover 5 _ (fun t _ => flushed5 m c t) covered5

/-! ## The sum over the rows -/

/-- What a point adds is its block's sum. -/
theorem add6 (c : Dev nD) (t : Fin cfg0.N) (x : Vec Ideal S1x128 .f32) (j : S1x128.Idx) :
    sumOf (iblk m c 0 t) (iblk m c 1 t) (iblk m c 2 t) x j = x j + RowSum.part (rowTerm (A0 m c) (A1 m c) (A2 m c) (j 1)) t.val := by
  rw [RowSum.part_of_lt _ _ t.isLt, sumOf_apply, Finset.sum_comm]
  refine congrArg (x j + ·) (Finset.sum_congr rfl fun a _ => Finset.sum_congr rfl fun n _ => ?_)
  exact same (fun x g d _ => term x (dsilu g d) n (j 1)) (funext fun b => in0 m c t (ix2 a b)) (funext fun b => in1 m c t (ix2 a b))
    (funext fun b => in2 m c t (ix2 a b)) (rfl : line (A3 m c) 0 = _)

/-- After point `n` the sum holds the first `n + 1` blocks. -/
theorem left6 (c : Dev nD) (j : S1x128.Idx) : ∀ (n : Nat) (h : n < cfg0.N), (outsAt0 m c n h).2.2 j
    = ∑ s ∈ Finset.range (n + 1), RowSum.part (rowTerm (A0 m c) (A1 m c) (A2 m c) (j 1)) s
  | 0, h => by
    rw [Finset.sum_range_one, outsAt0_A m c ⟨0, h⟩ rfl]
    dsimp only
    rw [sum_A, add6, show k0_pay1 (F := Ideal) j = 0 by pointwise [k0_pay1], zero_add]
  | n + 1, h => by
    have hB : ¬(⟨n + 1, h⟩ : Fin cfg0.N).val % 32 = 0 := by have : n + 1 < 32 := h; dsimp only; omega
    rw [Finset.sum_range_succ, ← left6 c j n (Nat.lt_of_succ_lt h), outsAt0_B m c ⟨n + 1, h⟩ hB]
    dsimp only
    rw [sum_B, add6]
    rfl

/-- The last point writes back the whole sum. -/
theorem flushed6 (c : Dev nD) (t : Fin cfg0.N) (hf : (cfg0.win 6).flush t = true) :
    (dats m 0 c).flushed 6 t = ((cfg0.win 6).blk t).view.read (Elt Ideal) (weight (A0 m c) (A1 m c) (A2 m c)) := by
  have h31 : t.val = 31 := by have h := (flush0_6 t).mp hf; have : t.val < 32 := t.isLt; omega
  have hl : (outsAt0 m c t.val t.isLt).2.2 = weight (A0 m c) (A1 m c) (A2 m c) := by
    funext j
    rw [left6 m c j, h31, RowSum.parts]
  rw [Cert.GateNormBackIdeal.Value.flushed6, hl]
  generalize weight (A0 m c) (A1 m c) (A2 m c) = y
  obtain ⟨-, -, -, -, -, -, e0, e1⟩ := places t
  funext j
  show y j = y (((cfg0.win 6).blk t).view.emb j)
  have hj : ((cfg0.win 6).blk t).view.emb j = j := Shape.idx_ext₂
    (by show win0_6.index t (0 : Fin 2) * 1 + 1 * (j 0).val = (j 0).val; omega)
    (by show win0_6.index t (1 : Fin 2) * 128 + 1 * (j 1).val = (j 1).val; omega)
  rw [hj]

theorem covered6 (i : S1x128.Idx) :
    ∃ t : Fin cfg0.N, (cfg0.win 6).flush t = true ∧ i ∈ ((cfg0.win 6).blk t).view.set := by
  have h0 : (i 0).val < 1 := (i 0).isLt
  have h1 : (i 1).val < 128 := (i 1).isLt
  let t : Fin cfg0.N := ⟨31, by show _ < 32; omega⟩
  obtain ⟨-, -, -, -, -, -, e0, e1⟩ := places t
  refine ⟨t, (flush0_6 t).mpr rfl, ?_⟩
  show i ∈ ((View.whole main_v0_2).slice (win0_6.rect t)).set
  rw [View.set_slice_whole, Rect.mem_set_unit]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 128 ≤ (i 1).val ∧ (i 1).val < win0_6.index t (1 : Fin 2) * 128 + 128; omega

theorem final6 (c : Dev nD) : (dats m 0 c).arrAt 6 cfg0.N = weight (A0 m c) (A1 m c) (A2 m c) :=
  (dats m 0 c).arrAt_eq_of_cover 6 _ (flushed6 m c) covered6

/-! ## The claims -/

theorem quiescent_kernel : Cert.quiescent_GateNormBack := fun m g _ => Cert.GateNormBack.Gen.frame m g
theorem quiescent_kernel_ideal : Cert.quiescent_GateNormBackIdeal := fun m g _ => Cert.GateNormBackIdeal.Gen.frame m g
theorem quiescent_ref_ideal : Cert.quiescent_GateNormBackRefIdeal := fun m g _ =>
  (θ_run _ _ _).mono (fun r h => ⟨fun c => (h c).2.2.2, sem_eq_zero_of_no_sems (by decide) r.2⟩)
    (Cert.GateNormBackRefIdeal.Value.run m g)

theorem algebraic : Cert.algebraic_GateNormBackIdeal_GateNormBackRefIdeal := fun m g m' g' _ hm =>
  ⟨_, _, _, Cert.GateNormBackIdeal.Value.run_blocks m g, (θ_run Cert.GateNormBackRefIdeal.defs _ _).mono (fun r h c => by
    obtain ⟨h0, h1, h2, hk⟩ := h c
    obtain ⟨e0, e1, e2, e3⟩ := hm c
    refine ⟨h0.trans ?_, h1.trans ?_, h2.trans ?_, hk⟩
    · unfold Cert.GateNormBackRefIdeal.Value.res_main_v51
      rw [e0, e1, e2, e3, final4]
      funext i
      obtain ⟨a, b, rfl⟩ : ∃ (a : Fin 8192) (b : Fin 1024), i = ix2 a b := ⟨i 0, i 1, Shape.idx_ext₂ rfl rfl⟩
      pointwise
      show _ = back (line (A0 m c) a) (dsilu (gateLine (A1 m c) a) (dyLine (A2 m c) a)) (line (A3 m c) 0) (head b) (lane b)
      simp only [back, scale, dsilu, line, col_split, sig, zero_sub]
    · rw [e0, e1, e2, e3, final5]
      funext i
      obtain ⟨a, b, rfl⟩ : ∃ (a : Fin 8192) (b : Fin 1024), i = ix2 a b := ⟨i 0, i 1, Shape.idx_ext₂ rfl rfl⟩
      pointwise
      show _ = gateBack (line (A0 m c) a) (gateLine (A1 m c) a) (dyLine (A2 m c) a) (line (A3 m c) 0) (head b) (lane b)
      simp only [gateBack, scale, line, col_split, sig, zero_sub]
    · rw [e0, e1, e2, final6]
      funext i
      pointwise
      simp only [weight, rowTerm, term, scale, dsilu, line, sig, zero_sub]) (Cert.GateNormBackRefIdeal.Value.run m' g')⟩

end Cert.GateNormBackProof

end
-- ==== Proof.PackProof.lean ====
/- `pack_dproj`: seven arrays cast to the short float type and laid side by side. -/
module

public import proofs.«01_k».proof.Defs
public import Idealize.ShloMosaic.Lib.Quiescent
public import Idealize.ShloMosaic.Lib.Pointwise
public import Idealize.ShloMosaic.Lib.Tactic
public import proofs.«01_k».proof.Proof.Gen.Pack.Frame
public import proofs.«01_k».proof.Proof.Gen.PackIdeal.Value
public import proofs.«01_k».proof.Proof.Gen.PackRefIdeal.Run

@[expose] public section

set_option maxRecDepth 65536

noncomputable section

namespace Cert.PackProof

open Idealize.ShloMosaic Idealize.ShloMosaic.TcCoe Idealize.SL.Sem
open Cert.PackIdeal Cert.PackIdeal.Gen

/-- Row `a` of block `t`, in the whole array. -/
abbrev row (t : Fin cfg0.N) (a : Fin 256) : Fin 8192 :=
  ⟨t.val * 256 + a.val, by have h : t.val < 32 := t.isLt; omega⟩

/-- The blocks of point `t` are the rows from `256 t` on. -/
theorem places : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem hz : (![0, 0] : Fin 2 → Nat) = fun _ => 0 := by decide

/-- Which of the seven arrays column `b` comes from. -/
abbrev piece (b : Fin 7168) : Fin 7 := ⟨b.val / 1024, by omega⟩

/-- Its column there. -/
abbrev column (b : Fin 7168) : Fin 1024 := ⟨b.val % 1024, by omega⟩

/-- The arrays side by side, in the short float type. -/
abbrev packed (f : Fin 7 → FVec Ideal S8192x1024 .f32) : FVec Ideal S8192x7168 .bf16 := fun i =>
  f (piece (i 1)) (ix2 (i 0) (column (i 1)))

/-- What a point stores, at an index: the piece's element. -/
theorem stored (f : Fin 7 → FVec Ideal S256x1024 .f32) (j : S256x7168.Idx) :
    (k0_pay1 (f 0) (f 1) (f 2) (f 3) (f 4) (f 5) (f 6) : FVec Ideal S256x7168 .bf16) j
      = (truncf .bf16 (f (piece (j 1))) bitsLt_bf16_f32 : FVec Ideal S256x1024 .bf16) (ix2 (j 0) (column (j 1))) :=
  concatenate_ofFn_apply (1 : Fin S256x7168.rank) (fun n => (truncf .bf16 (f n) bitsLt_bf16_f32 : FVec Ideal S256x1024 .bf16))
    concatenates_S256x1024_S256x1024_S256x1024_S256x1024_S256x1024_S256x1024_S256x1024_S256x7168_d1 rfl 1024 rfl
    j (piece (j 1)) rfl (ix2 (j 0) (column (j 1))) rfl
    (fun b hb => match b with
      | ⟨0, _⟩ => rfl
      | ⟨1, _⟩ => absurd rfl hb)

/-! ## The blocks -/

variable (m : (ℓ : Loc nD τ sig) → Buf (Elt Ideal) ℓ)

theorem in0 (c : Dev nD) (t : Fin cfg0.N) (j : S256x1024.Idx) :
    iblk m c 0 t j = m ((c : Thread nD τ).loc main_arg0) (ix2 (row t (j 0)) (j 1)) := by
  obtain ⟨⟨e0, e1⟩, -⟩ := places t
  refine Eq.trans ?_ (congrFun (V_main_arg0 m c) _)
  refine congrArg (V m c main_arg0) (Shape.idx_ext₂ ?_ ?_)
  · show win0_0.index t (0 : Fin 2) * 256 + 1 * (j 0).val = t.val * 256 + (j 0).val; omega
  · show win0_0.index t (1 : Fin 2) * 1024 + 1 * (j 1).val = (j 1).val; omega

theorem in1 (c : Dev nD) (t : Fin cfg0.N) (j : S256x1024.Idx) :
    iblk m c 1 t j = m ((c : Thread nD τ).loc main_arg1) (ix2 (row t (j 0)) (j 1)) := by
  obtain ⟨-, ⟨e0, e1⟩, -⟩ := places t
  refine Eq.trans ?_ (congrFun (V_main_arg1 m c) _)
  refine congrArg (V m c main_arg1) (Shape.idx_ext₂ ?_ ?_)
  · show win0_1.index t (0 : Fin 2) * 256 + 1 * (j 0).val = t.val * 256 + (j 0).val; omega
  · show win0_1.index t (1 : Fin 2) * 1024 + 1 * (j 1).val = (j 1).val; omega

theorem in2 (c : Dev nD) (t : Fin cfg0.N) (j : S256x1024.Idx) :
    iblk m c 2 t j = m ((c : Thread nD τ).loc main_arg2) (ix2 (row t (j 0)) (j 1)) := by
  obtain ⟨-, -, ⟨e0, e1⟩, -⟩ := places t
  refine Eq.trans ?_ (congrFun (V_main_arg2 m c) _)
  refine congrArg (V m c main_arg2) (Shape.idx_ext₂ ?_ ?_)
  · show win0_2.index t (0 : Fin 2) * 256 + 1 * (j 0).val = t.val * 256 + (j 0).val; omega
  · show win0_2.index t (1 : Fin 2) * 1024 + 1 * (j 1).val = (j 1).val; omega

theorem in3 (c : Dev nD) (t : Fin cfg0.N) (j : S256x1024.Idx) :
    iblk m c 3 t j = m ((c : Thread nD τ).loc main_arg3) (ix2 (row t (j 0)) (j 1)) := by
  obtain ⟨-, -, -, ⟨e0, e1⟩, -⟩ := places t
  refine Eq.trans ?_ (congrFun (V_main_arg3 m c) _)
  refine congrArg (V m c main_arg3) (Shape.idx_ext₂ ?_ ?_)
  · show win0_3.index t (0 : Fin 2) * 256 + 1 * (j 0).val = t.val * 256 + (j 0).val; omega
  · show win0_3.index t (1 : Fin 2) * 1024 + 1 * (j 1).val = (j 1).val; omega

theorem in4 (c : Dev nD) (t : Fin cfg0.N) (j : S256x1024.Idx) :
    iblk m c 4 t j = m ((c : Thread nD τ).loc main_arg4) (ix2 (row t (j 0)) (j 1)) := by
  obtain ⟨-, -, -, -, ⟨e0, e1⟩, -⟩ := places t
  refine Eq.trans ?_ (congrFun (V_main_arg4 m c) _)
  refine congrArg (V m c main_arg4) (Shape.idx_ext₂ ?_ ?_)
  · show win0_4.index t (0 : Fin 2) * 256 + 1 * (j 0).val = t.val * 256 + (j 0).val; omega
  · show win0_4.index t (1 : Fin 2) * 1024 + 1 * (j 1).val = (j 1).val; omega

theorem in5 (c : Dev nD) (t : Fin cfg0.N) (j : S256x1024.Idx) :
    iblk m c 5 t j = m ((c : Thread nD τ).loc main_arg5) (ix2 (row t (j 0)) (j 1)) := by
  obtain ⟨-, -, -, -, -, ⟨e0, e1⟩, -⟩ := places t
  refine Eq.trans ?_ (congrFun (V_main_arg5 m c) _)
  refine congrArg (V m c main_arg5) (Shape.idx_ext₂ ?_ ?_)
  · show win0_5.index t (0 : Fin 2) * 256 + 1 * (j 0).val = t.val * 256 + (j 0).val; omega
  · show win0_5.index t (1 : Fin 2) * 1024 + 1 * (j 1).val = (j 1).val; omega

theorem in6 (c : Dev nD) (t : Fin cfg0.N) (j : S256x1024.Idx) :
    iblk m c 6 t j = m ((c : Thread nD τ).loc main_arg6) (ix2 (row t (j 0)) (j 1)) := by
  obtain ⟨-, -, -, -, -, -, ⟨e0, e1⟩, -⟩ := places t
  refine Eq.trans ?_ (congrFun (V_main_arg6 m c) _)
  refine congrArg (V m c main_arg6) (Shape.idx_ext₂ ?_ ?_)
  · show win0_6.index t (0 : Fin 2) * 256 + 1 * (j 0).val = t.val * 256 + (j 0).val; omega
  · show win0_6.index t (1 : Fin 2) * 1024 + 1 * (j 1).val = (j 1).val; omega

/-- The seven blocks of point `t`. -/
abbrev blocks (c : Dev nD) (t : Fin cfg0.N) : Fin 7 → FVec Ideal S256x1024 .f32
  | 0 => iblk m c 0 t
  | 1 => iblk m c 1 t
  | 2 => iblk m c 2 t
  | 3 => iblk m c 3 t
  | 4 => iblk m c 4 t
  | 5 => iblk m c 5 t
  | 6 => iblk m c 6 t

/-- The seven arrays. -/
abbrev arrays (c : Dev nD) : Fin 7 → FVec Ideal S8192x1024 .f32
  | 0 => m ((c : Thread nD τ).loc main_arg0)
  | 1 => m ((c : Thread nD τ).loc main_arg1)
  | 2 => m ((c : Thread nD τ).loc main_arg2)
  | 3 => m ((c : Thread nD τ).loc main_arg3)
  | 4 => m ((c : Thread nD τ).loc main_arg4)
  | 5 => m ((c : Thread nD τ).loc main_arg5)
  | 6 => m ((c : Thread nD τ).loc main_arg6)

theorem blocks_eq (c : Dev nD) (t : Fin cfg0.N) (n : Fin 7) (j : S256x1024.Idx) :
    blocks m c t n j = arrays m c n (ix2 (row t (j 0)) (j 1)) :=
  match n with
  | 0 => in0 m c t j
  | 1 => in1 m c t j
  | 2 => in2 m c t j
  | 3 => in3 m c t j
  | 4 => in4 m c t j
  | 5 => in5 m c t j
  | 6 => in6 m c t j

/-- What point `t` writes back is its rows of the arrays side by side. -/
theorem flushed7 (c : Dev nD) (t : Fin cfg0.N) :
    (dats m 0 c).flushed 7 t = ((cfg0.win 7).blk t).view.read (Elt Ideal) (packed (arrays m c)) := by
  rw [Cert.PackIdeal.Value.flushed7]
  obtain ⟨-, -, -, -, -, -, -, e0, e1⟩ := places t
  have h : out0_7 (iblk m c 0 t) (iblk m c 1 t) (iblk m c 2 t) (iblk m c 3 t) (iblk m c 4 t) (iblk m c 5 t) (iblk m c 6 t)
      = k0_pay1 (iblk m c 0 t) (iblk m c 1 t) (iblk m c 2 t) (iblk m c 3 t) (iblk m c 4 t) (iblk m c 5 t) (iblk m c 6 t) := by
    unfold out0_7
    rw [View.canon_unit_zero hz]
    simp only [View.ld_unit_zero (S := S256x1024) hz]
  rw [h]
  funext j
  show k0_pay1 (blocks m c t 0) (blocks m c t 1) (blocks m c t 2) (blocks m c t 3) (blocks m c t 4) (blocks m c t 5) (blocks m c t 6) j
    = packed (arrays m c) (((cfg0.win 7).blk t).view.emb j)
  have hj : ((cfg0.win 7).blk t).view.emb j = ix2 (row t (j 0)) (j 1) := Shape.idx_ext₂
    (by show win0_7.index t (0 : Fin 2) * 256 + 1 * (j 0).val = t.val * 256 + (j 0).val; omega)
    (by show win0_7.index t (1 : Fin 2) * 7168 + 1 * (j 1).val = (j 1).val; omega)
  rw [hj]
  exact (stored (blocks m c t) j).trans (blocks_eq m c t _ _)

/-- Every row is some point's. -/
theorem covered7 (i : S8192x7168.Idx) :
    ∃ t : Fin cfg0.N, (cfg0.win 7).flush t = true ∧ i ∈ ((cfg0.win 7).blk t).view.set := by
  have h0 : (i 0).val < 8192 := (i 0).isLt
  have h1 : (i 1).val < 7168 := (i 1).isLt
  let t : Fin cfg0.N := ⟨(i 0).val / 256, by show _ < 32; omega⟩
  have ht : t.val = (i 0).val / 256 := rfl
  obtain ⟨-, -, -, -, -, -, -, e0, e1⟩ := places t
  refine ⟨t, flush0_7 t, ?_⟩
  show i ∈ ((View.whole main_v0).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 7168 ≤ (i 1).val ∧ (i 1).val < win0_7.index t (1 : Fin 2) * 7168 + 7168; omega

theorem final7 (c : Dev nD) : (dats m 0 c).arrAt 7 cfg0.N = packed (arrays m c) :=
  (dats m 0 c).arrAt_eq_of_cover 7 _ (fun t _ => flushed7 m c t) covered7

/-- The reference's operations, at an index. -/
theorem value (f : Fin 7 → FVec Ideal S8192x1024 .f32)
    (h : Shape.Concatenates [S8192x1024, S8192x1024, S8192x1024, S8192x1024, S8192x1024, S8192x1024, S8192x1024] S8192x7168 1) :
    (truncf .bf16 (concatenate S8192x7168 1 [⟨S8192x1024, f 0⟩, ⟨S8192x1024, f 1⟩, ⟨S8192x1024, f 2⟩, ⟨S8192x1024, f 3⟩,
      ⟨S8192x1024, f 4⟩, ⟨S8192x1024, f 5⟩, ⟨S8192x1024, f 6⟩] h : FVec Ideal S8192x7168 .f32) bitsLt_bf16_f32 : FVec Ideal S8192x7168 .bf16)
      = packed f := by
  funext i
  exact concatenate_ofFn_apply (1 : Fin S8192x7168.rank) f h rfl 1024 rfl
    i (piece (i 1)) rfl (ix2 (i 0) (column (i 1))) rfl
    (fun b hb => match b with
      | ⟨0, _⟩ => rfl
      | ⟨1, _⟩ => absurd rfl hb)

/-! ## The claims -/

theorem quiescent_kernel : Cert.quiescent_Pack := fun m g _ => Cert.Pack.Gen.frame m g
theorem quiescent_kernel_ideal : Cert.quiescent_PackIdeal := fun m g _ => Cert.PackIdeal.Gen.frame m g
theorem quiescent_ref_ideal : Cert.quiescent_PackRefIdeal := fun m g _ =>
  (θ_run _ _ _).mono (fun r h => ⟨fun c => (h c).2, sem_eq_zero_of_no_sems (by decide) r.2⟩)
    (Cert.PackRefIdeal.Value.run m g)

theorem algebraic : Cert.algebraic_PackIdeal_PackRefIdeal := fun m g m' g' _ hm =>
  ⟨_, Cert.PackIdeal.Value.run_blocks m g, (θ_run Cert.PackRefIdeal.defs _ _).mono (fun r h c => by
    obtain ⟨h0, hk⟩ := h c
    obtain ⟨e0, e1, e2, e3, e4, e5, e6⟩ := hm c
    refine ⟨h0.trans ?_, hk⟩
    rw [e0, e1, e2, e3, e4, e5, e6, final7]
    exact value (arrays m c) _) (Cert.PackRefIdeal.Value.run m' g')⟩

end Cert.PackProof

end
-- ==== Proof.lean ====
module

public import proofs.«01_k».proof.Defs
public import proofs.«01_k».proof.Proof.SwapProof
public import proofs.«01_k».proof.Proof.ScatterProof
public import proofs.«01_k».proof.Proof.JoinProof
public import proofs.«01_k».proof.Proof.GatherProof
public import proofs.«01_k».proof.Proof.UpdateProof
public import proofs.«01_k».proof.Proof.SumProof
public import proofs.«01_k».proof.Proof.NormProof
public import proofs.«01_k».proof.Proof.NormBackProof
public import proofs.«01_k».proof.Proof.LossHeadProof
public import proofs.«01_k».proof.Proof.TailProof
public import proofs.«01_k».proof.Proof.ProjInProof
public import proofs.«01_k».proof.Proof.ProjOutProof
public import proofs.«01_k».proof.Proof.MlpUpProof
public import proofs.«01_k».proof.Proof.MlpDownProof
public import proofs.«01_k».proof.Proof.MlpDownBackProof
public import proofs.«01_k».proof.Proof.MlpUpBackProof
public import proofs.«01_k».proof.Proof.ProjInBackProof
public import proofs.«01_k».proof.Proof.ProjOutBackProof
public import proofs.«01_k».proof.Proof.GradInProof
public import proofs.«01_k».proof.Proof.GradUpProof
public import proofs.«01_k».proof.Proof.GradOutProof
public import proofs.«01_k».proof.Proof.GradDownProof
public import proofs.«01_k».proof.Proof.MlpNormBackProof
public import proofs.«01_k».proof.Proof.CastProof
public import proofs.«01_k».proof.Proof.HeadNormBackProof
public import proofs.«01_k».proof.Proof.GateNormBackProof
public import proofs.«01_k».proof.Proof.PackProof
public import proofs.«01_k».proof.Proof.Gen.Swap
public import proofs.«01_k».proof.Proof.Gen.SwapIdeal
public import proofs.«01_k».proof.Proof.Gen.SwapRefIdeal
public import proofs.«01_k».proof.Proof.Gen.SwapRef
public import proofs.«01_k».proof.Proof.Gen.Scatter
public import proofs.«01_k».proof.Proof.Gen.ScatterIdeal
public import proofs.«01_k».proof.Proof.Gen.ScatterRefIdeal
public import proofs.«01_k».proof.Proof.Gen.ScatterRef
public import proofs.«01_k».proof.Proof.Gen.Join
public import proofs.«01_k».proof.Proof.Gen.JoinIdeal
public import proofs.«01_k».proof.Proof.Gen.JoinRefIdeal
public import proofs.«01_k».proof.Proof.Gen.JoinRef
public import proofs.«01_k».proof.Proof.Gen.Gather
public import proofs.«01_k».proof.Proof.Gen.GatherIdeal
public import proofs.«01_k».proof.Proof.Gen.GatherRefIdeal
public import proofs.«01_k».proof.Proof.Gen.GatherRef
public import proofs.«01_k».proof.Proof.Gen.UpdateIn
public import proofs.«01_k».proof.Proof.Gen.UpdateInIdeal
public import proofs.«01_k».proof.Proof.Gen.UpdateInRefIdeal
public import proofs.«01_k».proof.Proof.Gen.UpdateOut
public import proofs.«01_k».proof.Proof.Gen.UpdateOutIdeal
public import proofs.«01_k».proof.Proof.Gen.UpdateOutRefIdeal
public import proofs.«01_k».proof.Proof.Gen.UpdateMlp
public import proofs.«01_k».proof.Proof.Gen.UpdateMlpIdeal
public import proofs.«01_k».proof.Proof.Gen.UpdateMlpRefIdeal
public import proofs.«01_k».proof.Proof.Gen.UpdateNorm
public import proofs.«01_k».proof.Proof.Gen.UpdateNormIdeal
public import proofs.«01_k».proof.Proof.Gen.UpdateNormRefIdeal
public import proofs.«01_k».proof.Proof.Gen.UpdateLb
public import proofs.«01_k».proof.Proof.Gen.UpdateLbIdeal
public import proofs.«01_k».proof.Proof.Gen.UpdateLbRefIdeal
public import proofs.«01_k».proof.Proof.Gen.UpdateHead
public import proofs.«01_k».proof.Proof.Gen.UpdateHeadIdeal
public import proofs.«01_k».proof.Proof.Gen.UpdateHeadRefIdeal
public import proofs.«01_k».proof.Proof.Gen.SumIn
public import proofs.«01_k».proof.Proof.Gen.SumInIdeal
public import proofs.«01_k».proof.Proof.Gen.SumInRefIdeal
public import proofs.«01_k».proof.Proof.Gen.SumOut
public import proofs.«01_k».proof.Proof.Gen.SumOutIdeal
public import proofs.«01_k».proof.Proof.Gen.SumOutRefIdeal
public import proofs.«01_k».proof.Proof.Gen.SumMlp
public import proofs.«01_k».proof.Proof.Gen.SumMlpIdeal
public import proofs.«01_k».proof.Proof.Gen.SumMlpRefIdeal
public import proofs.«01_k».proof.Proof.Gen.Norm
public import proofs.«01_k».proof.Proof.Gen.NormIdeal
public import proofs.«01_k».proof.Proof.Gen.NormRefIdeal
public import proofs.«01_k».proof.Proof.Gen.NormBack
public import proofs.«01_k».proof.Proof.Gen.NormBackIdeal
public import proofs.«01_k».proof.Proof.Gen.NormBackRefIdeal
public import proofs.«01_k».proof.Proof.Gen.LossHead
public import proofs.«01_k».proof.Proof.Gen.LossHeadIdeal
public import proofs.«01_k».proof.Proof.Gen.LossHeadRefIdeal
public import proofs.«01_k».proof.Proof.Gen.Tail
public import proofs.«01_k».proof.Proof.Gen.TailIdeal
public import proofs.«01_k».proof.Proof.Gen.TailRefIdeal
public import proofs.«01_k».proof.Proof.Gen.ProjIn
public import proofs.«01_k».proof.Proof.Gen.ProjInIdeal
public import proofs.«01_k».proof.Proof.Gen.ProjInRefIdeal
public import proofs.«01_k».proof.Proof.Gen.ProjOut
public import proofs.«01_k».proof.Proof.Gen.ProjOutIdeal
public import proofs.«01_k».proof.Proof.Gen.ProjOutRefIdeal
public import proofs.«01_k».proof.Proof.Gen.MlpUp
public import proofs.«01_k».proof.Proof.Gen.MlpUpIdeal
public import proofs.«01_k».proof.Proof.Gen.MlpUpRefIdeal
public import proofs.«01_k».proof.Proof.Gen.MlpDown
public import proofs.«01_k».proof.Proof.Gen.MlpDownIdeal
public import proofs.«01_k».proof.Proof.Gen.MlpDownRefIdeal
public import proofs.«01_k».proof.Proof.Gen.MlpDownBack
public import proofs.«01_k».proof.Proof.Gen.MlpDownBackIdeal
public import proofs.«01_k».proof.Proof.Gen.MlpDownBackRefIdeal
public import proofs.«01_k».proof.Proof.Gen.MlpUpBack
public import proofs.«01_k».proof.Proof.Gen.MlpUpBackIdeal
public import proofs.«01_k».proof.Proof.Gen.MlpUpBackRefIdeal
public import proofs.«01_k».proof.Proof.Gen.ProjInBack
public import proofs.«01_k».proof.Proof.Gen.ProjInBackIdeal
public import proofs.«01_k».proof.Proof.Gen.ProjInBackRefIdeal
public import proofs.«01_k».proof.Proof.Gen.ProjOutBack
public import proofs.«01_k».proof.Proof.Gen.ProjOutBackIdeal
public import proofs.«01_k».proof.Proof.Gen.ProjOutBackRefIdeal
public import proofs.«01_k».proof.Proof.Gen.GradIn
public import proofs.«01_k».proof.Proof.Gen.GradInIdeal
public import proofs.«01_k».proof.Proof.Gen.GradInRefIdeal
public import proofs.«01_k».proof.Proof.Gen.GradUp
public import proofs.«01_k».proof.Proof.Gen.GradUpIdeal
public import proofs.«01_k».proof.Proof.Gen.GradUpRefIdeal
public import proofs.«01_k».proof.Proof.Gen.GradOut
public import proofs.«01_k».proof.Proof.Gen.GradOutIdeal
public import proofs.«01_k».proof.Proof.Gen.GradOutRefIdeal
public import proofs.«01_k».proof.Proof.Gen.GradDown
public import proofs.«01_k».proof.Proof.Gen.GradDownIdeal
public import proofs.«01_k».proof.Proof.Gen.GradDownRefIdeal
public import proofs.«01_k».proof.Proof.Gen.MlpNormBack
public import proofs.«01_k».proof.Proof.Gen.MlpNormBackIdeal
public import proofs.«01_k».proof.Proof.Gen.MlpNormBackRefIdeal
public import proofs.«01_k».proof.Proof.Gen.CastIn
public import proofs.«01_k».proof.Proof.Gen.CastInIdeal
public import proofs.«01_k».proof.Proof.Gen.CastInRefIdeal
public import proofs.«01_k».proof.Proof.Gen.CastOut
public import proofs.«01_k».proof.Proof.Gen.CastOutIdeal
public import proofs.«01_k».proof.Proof.Gen.CastOutRefIdeal
public import proofs.«01_k».proof.Proof.Gen.CastMlp
public import proofs.«01_k».proof.Proof.Gen.CastMlpIdeal
public import proofs.«01_k».proof.Proof.Gen.CastMlpRefIdeal
public import proofs.«01_k».proof.Proof.Gen.HeadNormBack
public import proofs.«01_k».proof.Proof.Gen.HeadNormBackIdeal
public import proofs.«01_k».proof.Proof.Gen.HeadNormBackRefIdeal
public import proofs.«01_k».proof.Proof.Gen.GateNormBack
public import proofs.«01_k».proof.Proof.Gen.GateNormBackIdeal
public import proofs.«01_k».proof.Proof.Gen.GateNormBackRefIdeal
public import proofs.«01_k».proof.Proof.Gen.Pack
public import proofs.«01_k».proof.Proof.Gen.PackIdeal
public import proofs.«01_k».proof.Proof.Gen.PackRefIdeal

@[expose] public section

noncomputable section

namespace Cert.Proof

theorem claim : Cert.Claim := ⟨
  Cert.Swap.Gen.facts, Cert.SwapIdeal.Gen.facts, Cert.SwapRefIdeal.Gen.facts, Cert.SwapRef.Gen.facts,
  Cert.Scatter.Gen.facts, Cert.ScatterIdeal.Gen.facts, Cert.ScatterRefIdeal.Gen.facts, Cert.ScatterRef.Gen.facts,
  Cert.Join.Gen.facts, Cert.JoinIdeal.Gen.facts, Cert.JoinRefIdeal.Gen.facts, Cert.JoinRef.Gen.facts,
  Cert.Gather.Gen.facts, Cert.GatherIdeal.Gen.facts, Cert.GatherRefIdeal.Gen.facts, Cert.GatherRef.Gen.facts,
  Cert.UpdateIn.Gen.facts, Cert.UpdateInIdeal.Gen.facts, Cert.UpdateInRefIdeal.Gen.facts, Cert.UpdateOut.Gen.facts,
  Cert.UpdateOutIdeal.Gen.facts, Cert.UpdateOutRefIdeal.Gen.facts, Cert.UpdateMlp.Gen.facts,
  Cert.UpdateMlpIdeal.Gen.facts, Cert.UpdateMlpRefIdeal.Gen.facts, Cert.UpdateNorm.Gen.facts,
  Cert.UpdateNormIdeal.Gen.facts, Cert.UpdateNormRefIdeal.Gen.facts, Cert.UpdateLb.Gen.facts,
  Cert.UpdateLbIdeal.Gen.facts, Cert.UpdateLbRefIdeal.Gen.facts, Cert.UpdateHead.Gen.facts,
  Cert.UpdateHeadIdeal.Gen.facts, Cert.UpdateHeadRefIdeal.Gen.facts, Cert.SumIn.Gen.facts, Cert.SumInIdeal.Gen.facts,
  Cert.SumInRefIdeal.Gen.facts, Cert.SumOut.Gen.facts, Cert.SumOutIdeal.Gen.facts, Cert.SumOutRefIdeal.Gen.facts,
  Cert.SumMlp.Gen.facts, Cert.SumMlpIdeal.Gen.facts, Cert.SumMlpRefIdeal.Gen.facts, Cert.Norm.Gen.facts,
  Cert.NormIdeal.Gen.facts, Cert.NormRefIdeal.Gen.facts, Cert.NormBack.Gen.facts, Cert.NormBackIdeal.Gen.facts,
  Cert.NormBackRefIdeal.Gen.facts, Cert.LossHead.Gen.facts, Cert.LossHeadIdeal.Gen.facts,
  Cert.LossHeadRefIdeal.Gen.facts, Cert.Tail.Gen.facts, Cert.TailIdeal.Gen.facts, Cert.TailRefIdeal.Gen.facts,
  Cert.ProjIn.Gen.facts, Cert.ProjInIdeal.Gen.facts, Cert.ProjInRefIdeal.Gen.facts, Cert.ProjOut.Gen.facts,
  Cert.ProjOutIdeal.Gen.facts, Cert.ProjOutRefIdeal.Gen.facts, Cert.MlpUp.Gen.facts, Cert.MlpUpIdeal.Gen.facts,
  Cert.MlpUpRefIdeal.Gen.facts, Cert.MlpDown.Gen.facts, Cert.MlpDownIdeal.Gen.facts, Cert.MlpDownRefIdeal.Gen.facts,
  Cert.MlpDownBack.Gen.facts, Cert.MlpDownBackIdeal.Gen.facts, Cert.MlpDownBackRefIdeal.Gen.facts,
  Cert.MlpUpBack.Gen.facts, Cert.MlpUpBackIdeal.Gen.facts, Cert.MlpUpBackRefIdeal.Gen.facts,
  Cert.ProjInBack.Gen.facts, Cert.ProjInBackIdeal.Gen.facts, Cert.ProjInBackRefIdeal.Gen.facts,
  Cert.ProjOutBack.Gen.facts, Cert.ProjOutBackIdeal.Gen.facts, Cert.ProjOutBackRefIdeal.Gen.facts,
  Cert.GradIn.Gen.facts, Cert.GradInIdeal.Gen.facts, Cert.GradInRefIdeal.Gen.facts, Cert.GradUp.Gen.facts,
  Cert.GradUpIdeal.Gen.facts, Cert.GradUpRefIdeal.Gen.facts, Cert.GradOut.Gen.facts, Cert.GradOutIdeal.Gen.facts,
  Cert.GradOutRefIdeal.Gen.facts, Cert.GradDown.Gen.facts, Cert.GradDownIdeal.Gen.facts,
  Cert.GradDownRefIdeal.Gen.facts, Cert.MlpNormBack.Gen.facts, Cert.MlpNormBackIdeal.Gen.facts,
  Cert.MlpNormBackRefIdeal.Gen.facts, Cert.CastIn.Gen.facts, Cert.CastInIdeal.Gen.facts,
  Cert.CastInRefIdeal.Gen.facts, Cert.CastOut.Gen.facts, Cert.CastOutIdeal.Gen.facts, Cert.CastOutRefIdeal.Gen.facts,
  Cert.CastMlp.Gen.facts, Cert.CastMlpIdeal.Gen.facts, Cert.CastMlpRefIdeal.Gen.facts, Cert.HeadNormBack.Gen.facts,
  Cert.HeadNormBackIdeal.Gen.facts, Cert.HeadNormBackRefIdeal.Gen.facts, Cert.GateNormBack.Gen.facts,
  Cert.GateNormBackIdeal.Gen.facts, Cert.GateNormBackRefIdeal.Gen.facts, Cert.Pack.Gen.facts,
  Cert.PackIdeal.Gen.facts, Cert.PackRefIdeal.Gen.facts, Cert.SwapProof.quiescent_kernel,
  Cert.SwapProof.quiescent_kernel_ideal, Cert.SwapProof.quiescent_ref_ideal, Cert.SwapProof.quiescent_ref,
  Cert.ScatterProof.quiescent_kernel, Cert.ScatterProof.quiescent_kernel_ideal,
  Cert.ScatterProof.quiescent_ref_ideal, Cert.ScatterProof.quiescent_ref, Cert.JoinProof.quiescent_kernel,
  Cert.JoinProof.quiescent_kernel_ideal, Cert.JoinProof.quiescent_ref_ideal, Cert.JoinProof.quiescent_ref,
  Cert.GatherProof.quiescent_kernel, Cert.GatherProof.quiescent_kernel_ideal, Cert.GatherProof.quiescent_ref_ideal,
  Cert.GatherProof.quiescent_ref, Cert.UpdateInProof.quiescent_kernel, Cert.UpdateInProof.quiescent_kernel_ideal,
  Cert.UpdateInProof.quiescent_ref_ideal, Cert.UpdateOutProof.quiescent_kernel,
  Cert.UpdateOutProof.quiescent_kernel_ideal, Cert.UpdateOutProof.quiescent_ref_ideal,
  Cert.UpdateMlpProof.quiescent_kernel, Cert.UpdateMlpProof.quiescent_kernel_ideal,
  Cert.UpdateMlpProof.quiescent_ref_ideal, Cert.UpdateNormProof.quiescent_kernel,
  Cert.UpdateNormProof.quiescent_kernel_ideal, Cert.UpdateNormProof.quiescent_ref_ideal,
  Cert.UpdateLbProof.quiescent_kernel, Cert.UpdateLbProof.quiescent_kernel_ideal,
  Cert.UpdateLbProof.quiescent_ref_ideal, Cert.UpdateHeadProof.quiescent_kernel,
  Cert.UpdateHeadProof.quiescent_kernel_ideal, Cert.UpdateHeadProof.quiescent_ref_ideal,
  Cert.SumInProof.quiescent_kernel, Cert.SumInProof.quiescent_kernel_ideal, Cert.SumInProof.quiescent_ref_ideal,
  Cert.SumOutProof.quiescent_kernel, Cert.SumOutProof.quiescent_kernel_ideal, Cert.SumOutProof.quiescent_ref_ideal,
  Cert.SumMlpProof.quiescent_kernel, Cert.SumMlpProof.quiescent_kernel_ideal, Cert.SumMlpProof.quiescent_ref_ideal,
  Cert.NormProof.quiescent_kernel, Cert.NormProof.quiescent_kernel_ideal, Cert.NormProof.quiescent_ref_ideal,
  Cert.NormBackProof.quiescent_kernel, Cert.NormBackProof.quiescent_kernel_ideal,
  Cert.NormBackProof.quiescent_ref_ideal, Cert.LossHeadProof.quiescent_kernel,
  Cert.LossHeadProof.quiescent_kernel_ideal, Cert.LossHeadProof.quiescent_ref_ideal, Cert.TailProof.quiescent_kernel,
  Cert.TailProof.quiescent_kernel_ideal, Cert.TailProof.quiescent_ref_ideal, Cert.ProjInProof.quiescent_kernel,
  Cert.ProjInProof.quiescent_kernel_ideal, Cert.ProjInProof.quiescent_ref_ideal, Cert.ProjOutProof.quiescent_kernel,
  Cert.ProjOutProof.quiescent_kernel_ideal, Cert.ProjOutProof.quiescent_ref_ideal, Cert.MlpUpProof.quiescent_kernel,
  Cert.MlpUpProof.quiescent_kernel_ideal, Cert.MlpUpProof.quiescent_ref_ideal, Cert.MlpDownProof.quiescent_kernel,
  Cert.MlpDownProof.quiescent_kernel_ideal, Cert.MlpDownProof.quiescent_ref_ideal,
  Cert.MlpDownBackProof.quiescent_kernel, Cert.MlpDownBackProof.quiescent_kernel_ideal,
  Cert.MlpDownBackProof.quiescent_ref_ideal, Cert.MlpUpBackProof.quiescent_kernel,
  Cert.MlpUpBackProof.quiescent_kernel_ideal, Cert.MlpUpBackProof.quiescent_ref_ideal,
  Cert.ProjInBackProof.quiescent_kernel, Cert.ProjInBackProof.quiescent_kernel_ideal,
  Cert.ProjInBackProof.quiescent_ref_ideal, Cert.ProjOutBackProof.quiescent_kernel,
  Cert.ProjOutBackProof.quiescent_kernel_ideal, Cert.ProjOutBackProof.quiescent_ref_ideal,
  Cert.GradInProof.quiescent_kernel, Cert.GradInProof.quiescent_kernel_ideal, Cert.GradInProof.quiescent_ref_ideal,
  Cert.GradUpProof.quiescent_kernel, Cert.GradUpProof.quiescent_kernel_ideal, Cert.GradUpProof.quiescent_ref_ideal,
  Cert.GradOutProof.quiescent_kernel, Cert.GradOutProof.quiescent_kernel_ideal,
  Cert.GradOutProof.quiescent_ref_ideal, Cert.GradDownProof.quiescent_kernel,
  Cert.GradDownProof.quiescent_kernel_ideal, Cert.GradDownProof.quiescent_ref_ideal,
  Cert.MlpNormBackProof.quiescent_kernel, Cert.MlpNormBackProof.quiescent_kernel_ideal,
  Cert.MlpNormBackProof.quiescent_ref_ideal, Cert.CastInProof.quiescent_kernel,
  Cert.CastInProof.quiescent_kernel_ideal, Cert.CastInProof.quiescent_ref_ideal, Cert.CastOutProof.quiescent_kernel,
  Cert.CastOutProof.quiescent_kernel_ideal, Cert.CastOutProof.quiescent_ref_ideal,
  Cert.CastMlpProof.quiescent_kernel, Cert.CastMlpProof.quiescent_kernel_ideal,
  Cert.CastMlpProof.quiescent_ref_ideal, Cert.HeadNormBackProof.quiescent_kernel,
  Cert.HeadNormBackProof.quiescent_kernel_ideal, Cert.HeadNormBackProof.quiescent_ref_ideal,
  Cert.GateNormBackProof.quiescent_kernel, Cert.GateNormBackProof.quiescent_kernel_ideal,
  Cert.GateNormBackProof.quiescent_ref_ideal, Cert.PackProof.quiescent_kernel, Cert.PackProof.quiescent_kernel_ideal,
  Cert.PackProof.quiescent_ref_ideal, trivial, Cert.SwapProof.algebraic, Cert.SwapProof.bitexact, trivial,
  Cert.ScatterProof.algebraic, Cert.ScatterProof.bitexact, trivial, Cert.JoinProof.algebraic,
  Cert.JoinProof.bitexact, trivial, Cert.GatherProof.algebraic, Cert.GatherProof.bitexact, trivial,
  Cert.UpdateInProof.algebraic, trivial, Cert.UpdateOutProof.algebraic, trivial, Cert.UpdateMlpProof.algebraic,
  trivial, Cert.UpdateNormProof.algebraic, trivial, Cert.UpdateLbProof.algebraic, trivial,
  Cert.UpdateHeadProof.algebraic, trivial, Cert.SumInProof.algebraic, trivial, Cert.SumOutProof.algebraic, trivial,
  Cert.SumMlpProof.algebraic, trivial, Cert.NormProof.algebraic, trivial, Cert.NormBackProof.algebraic, trivial,
  Cert.LossHeadProof.algebraic, trivial, Cert.TailProof.algebraic, trivial, Cert.ProjInProof.algebraic, trivial,
  Cert.ProjOutProof.algebraic, trivial, Cert.MlpUpProof.algebraic, trivial, Cert.MlpDownProof.algebraic, trivial,
  Cert.MlpDownBackProof.algebraic, trivial, Cert.MlpUpBackProof.algebraic, trivial, Cert.ProjInBackProof.algebraic,
  trivial, Cert.ProjOutBackProof.algebraic, trivial, Cert.GradInProof.algebraic, trivial, Cert.GradUpProof.algebraic,
  trivial, Cert.GradOutProof.algebraic, trivial, Cert.GradDownProof.algebraic, trivial,
  Cert.MlpNormBackProof.algebraic, trivial, Cert.CastInProof.algebraic, trivial, Cert.CastOutProof.algebraic,
  trivial, Cert.CastMlpProof.algebraic, trivial, Cert.HeadNormBackProof.algebraic, trivial,
  Cert.GateNormBackProof.algebraic, trivial, Cert.PackProof.algebraic⟩

end Cert.Proof

end
